-- ==== Defs.lean ====
def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Time (m : (ℓ : Loc Cert.Time.nD Cert.Time.τ Cert.Time.sig) → Buf (Elt Bits) ℓ) : Prop :=
  True

def Pre_TimeIdeal (m : (ℓ : Loc Cert.TimeIdeal.nD Cert.TimeIdeal.τ Cert.TimeIdeal.sig) → Buf (Elt Ideal) ℓ) : Prop :=
  True

def Pre_TimeRefIdeal (m : (ℓ : Loc Cert.TimeRefIdeal.nD Cert.TimeRefIdeal.τ Cert.TimeRefIdeal.sig) → Buf (Elt Ideal) ℓ) : Prop :=
  True

def Pre_Close (m : (ℓ : Loc Cert.Close.nD Cert.Close.τ Cert.Close.sig) → Buf (Elt Bits) ℓ) : Prop :=
  True

def Pre_CloseIdeal (m : (ℓ : Loc Cert.CloseIdeal.nD Cert.CloseIdeal.τ Cert.CloseIdeal.sig) → Buf (Elt Ideal) ℓ) : Prop :=
  True

def Pre_CloseRefIdeal (m : (ℓ : Loc Cert.CloseRefIdeal.nD Cert.CloseRefIdeal.τ Cert.CloseRefIdeal.sig) → Buf (Elt Ideal) ℓ) : Prop :=
  True

def Pre_Open (m : (ℓ : Loc Cert.Open.nD Cert.Open.τ Cert.Open.sig) → Buf (Elt Bits) ℓ) : Prop :=
  True

def Pre_OpenIdeal (m : (ℓ : Loc Cert.OpenIdeal.nD Cert.OpenIdeal.τ Cert.OpenIdeal.sig) → Buf (Elt Ideal) ℓ) : Prop :=
  True

def Pre_OpenRefIdeal (m : (ℓ : Loc Cert.OpenRefIdeal.nD Cert.OpenRefIdeal.τ Cert.OpenRefIdeal.sig) → Buf (Elt Ideal) ℓ) : Prop :=
  True

def Pre_Enter (m : (ℓ : Loc Cert.Enter.nD Cert.Enter.τ Cert.Enter.sig) → Buf (Elt Bits) ℓ) : Prop :=
  True

def Pre_EnterIdeal (m : (ℓ : Loc Cert.EnterIdeal.nD Cert.EnterIdeal.τ Cert.EnterIdeal.sig) → Buf (Elt Ideal) ℓ) : Prop :=
  True

def Pre_EnterRefIdeal (m : (ℓ : Loc Cert.EnterRefIdeal.nD Cert.EnterRefIdeal.τ Cert.EnterRefIdeal.sig) → Buf (Elt Ideal) ℓ) : Prop :=
  True

def Pre_Context (m : (ℓ : Loc Cert.Context.nD Cert.Context.τ Cert.Context.sig) → Buf (Elt Bits) ℓ) : Prop :=
  True

def Pre_ContextIdeal (m : (ℓ : Loc Cert.ContextIdeal.nD Cert.ContextIdeal.τ Cert.ContextIdeal.sig) → Buf (Elt Ideal) ℓ) : Prop :=
  True

def Pre_ContextRefIdeal (m : (ℓ : Loc Cert.ContextRefIdeal.nD Cert.ContextRefIdeal.τ Cert.ContextRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_FourierOut (m : (ℓ : Loc Cert.FourierOut.nD Cert.FourierOut.τ Cert.FourierOut.sig) → Buf (Elt Bits) ℓ) : Prop :=
  True

def Pre_FourierOutIdeal (m : (ℓ : Loc Cert.FourierOutIdeal.nD Cert.FourierOutIdeal.τ Cert.FourierOutIdeal.sig) → Buf (Elt Ideal) ℓ) : Prop :=
  True

def Pre_FourierOutRefIdeal (m : (ℓ : Loc Cert.FourierOutRefIdeal.nD Cert.FourierOutRefIdeal.τ Cert.FourierOutRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Channels (m : (ℓ : Loc Cert.Channels.nD Cert.Channels.τ Cert.Channels.sig) → Buf (Elt Bits) ℓ) : Prop :=
  True

def Pre_ChannelsIdeal (m : (ℓ : Loc Cert.ChannelsIdeal.nD Cert.ChannelsIdeal.τ Cert.ChannelsIdeal.sig) → Buf (Elt Ideal) ℓ) : Prop :=
  True

def Pre_ChannelsRefIdeal (m : (ℓ : Loc Cert.ChannelsRefIdeal.nD Cert.ChannelsRefIdeal.τ Cert.ChannelsRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def quiescent_Time [hTime : Cert.Time.Facts] : Prop :=
  ∀ (m : (ℓ : Loc Cert.Time.nD Cert.Time.τ Cert.Time.sig) → Buf (Elt Bits) ℓ) (g : Dev Cert.Time.nD → PrngReg), Pre_Time m →
    θ_run (Cert.Time.defs (F := Bits)) (onTc (τ := Cert.Time.τ) (Cert.Time.main (F := Bits))) ⟨m, fun _ => 0, g⟩ (fun r => (∀ c : Dev Cert.Time.nD,
      r.2.mem ((c.tc : Thread Cert.Time.nD Cert.Time.τ).loc Cert.Time.main_arg0) = m ((c.tc : Thread Cert.Time.nD Cert.Time.τ).loc Cert.Time.main_arg0)
      ∧ r.2.mem ((c.tc : Thread Cert.Time.nD Cert.Time.τ).loc Cert.Time.main_arg1) = m ((c.tc : Thread Cert.Time.nD Cert.Time.τ).loc Cert.Time.main_arg1)
      ∧ r.2.mem ((c.tc : Thread Cert.Time.nD Cert.Time.τ).loc Cert.Time.main_arg2) = m ((c.tc : Thread Cert.Time.nD Cert.Time.τ).loc Cert.Time.main_arg2))
      ∧ r.2.sem = fun _ => 0)

def quiescent_TimeIdeal [hTimeIdeal : Cert.TimeIdeal.Facts] : Prop :=
  ∀ (m : (ℓ : Loc Cert.TimeIdeal.nD Cert.TimeIdeal.τ Cert.TimeIdeal.sig) → Buf (Elt Ideal) ℓ) (g : Dev Cert.TimeIdeal.nD → PrngReg), Pre_TimeIdeal m →
    θ_run (Cert.TimeIdeal.defs (F := Ideal)) (onTc (τ := Cert.TimeIdeal.τ) (Cert.TimeIdeal.main (F := Ideal))) ⟨m, fun _ => 0, g⟩ (fun r => (∀ c : Dev Cert.TimeIdeal.nD,
      r.2.mem ((c.tc : Thread Cert.TimeIdeal.nD Cert.TimeIdeal.τ).loc Cert.TimeIdeal.main_arg0) = m ((c.tc : Thread Cert.TimeIdeal.nD Cert.TimeIdeal.τ).loc Cert.TimeIdeal.main_arg0)
      ∧ r.2.mem ((c.tc : Thread Cert.TimeIdeal.nD Cert.TimeIdeal.τ).loc Cert.TimeIdeal.main_arg1) = m ((c.tc : Thread Cert.TimeIdeal.nD Cert.TimeIdeal.τ).loc Cert.TimeIdeal.main_arg1)
      ∧ r.2.mem ((c.tc : Thread Cert.TimeIdeal.nD Cert.TimeIdeal.τ).loc Cert.TimeIdeal.main_arg2) = m ((c.tc : Thread Cert.TimeIdeal.nD Cert.TimeIdeal.τ).loc Cert.TimeIdeal.main_arg2))
      ∧ r.2.sem = fun _ => 0)

def quiescent_TimeRefIdeal [hTimeRefIdeal : Cert.TimeRefIdeal.Facts] : Prop :=
  ∀ (m : (ℓ : Loc Cert.TimeRefIdeal.nD Cert.TimeRefIdeal.τ Cert.TimeRefIdeal.sig) → Buf (Elt Ideal) ℓ) (g : Dev Cert.TimeRefIdeal.nD → PrngReg), Pre_TimeRefIdeal m →
    θ_run (Cert.TimeRefIdeal.defs (F := Ideal)) (onTc (τ := Cert.TimeRefIdeal.τ) (Cert.TimeRefIdeal.main (F := Ideal))) ⟨m, fun _ => 0, g⟩ (fun r => (∀ c : Dev Cert.TimeRefIdeal.nD,
      r.2.mem ((c.tc : Thread Cert.TimeRefIdeal.nD Cert.TimeRefIdeal.τ).loc Cert.TimeRefIdeal.main_arg0) = m ((c.tc : Thread Cert.TimeRefIdeal.nD Cert.TimeRefIdeal.τ).loc Cert.TimeRefIdeal.main_arg0)
      ∧ r.2.mem ((c.tc : Thread Cert.TimeRefIdeal.nD Cert.TimeRefIdeal.τ).loc Cert.TimeRefIdeal.main_arg1) = m ((c.tc : Thread Cert.TimeRefIdeal.nD Cert.TimeRefIdeal.τ).loc Cert.TimeRefIdeal.main_arg1)
      ∧ r.2.mem ((c.tc : Thread Cert.TimeRefIdeal.nD Cert.TimeRefIdeal.τ).loc Cert.TimeRefIdeal.main_arg2) = m ((c.tc : Thread Cert.TimeRefIdeal.nD Cert.TimeRefIdeal.τ).loc Cert.TimeRefIdeal.main_arg2))
      ∧ r.2.sem = fun _ => 0)

def quiescent_Close [hClose : Cert.Close.Facts] : Prop :=
  ∀ (m : (ℓ : Loc Cert.Close.nD Cert.Close.τ Cert.Close.sig) → Buf (Elt Bits) ℓ) (g : Dev Cert.Close.nD → PrngReg), Pre_Close m →
    θ_run (Cert.Close.defs (F := Bits)) (onTc (τ := Cert.Close.τ) (Cert.Close.main (F := Bits))) ⟨m, fun _ => 0, g⟩ (fun r => (∀ c : Dev Cert.Close.nD,
      r.2.mem ((c.tc : Thread Cert.Close.nD Cert.Close.τ).loc Cert.Close.main_arg0) = m ((c.tc : Thread Cert.Close.nD Cert.Close.τ).loc Cert.Close.main_arg0)
      ∧ r.2.mem ((c.tc : Thread Cert.Close.nD Cert.Close.τ).loc Cert.Close.main_arg1) = m ((c.tc : Thread Cert.Close.nD Cert.Close.τ).loc Cert.Close.main_arg1)
      ∧ r.2.mem ((c.tc : Thread Cert.Close.nD Cert.Close.τ).loc Cert.Close.main_arg2) = m ((c.tc : Thread Cert.Close.nD Cert.Close.τ).loc Cert.Close.main_arg2)
      ∧ r.2.mem ((c.tc : Thread Cert.Close.nD Cert.Close.τ).loc Cert.Close.main_arg3) = m ((c.tc : Thread Cert.Close.nD Cert.Close.τ).loc Cert.Close.main_arg3)
      ∧ r.2.mem ((c.tc : Thread Cert.Close.nD Cert.Close.τ).loc Cert.Close.main_arg4) = m ((c.tc : Thread Cert.Close.nD Cert.Close.τ).loc Cert.Close.main_arg4)
      ∧ r.2.mem ((c.tc : Thread Cert.Close.nD Cert.Close.τ).loc Cert.Close.main_arg5) = m ((c.tc : Thread Cert.Close.nD Cert.Close.τ).loc Cert.Close.main_arg5)
      ∧ r.2.mem ((c.tc : Thread Cert.Close.nD Cert.Close.τ).loc Cert.Close.main_arg6) = m ((c.tc : Thread Cert.Close.nD Cert.Close.τ).loc Cert.Close.main_arg6))
      ∧ r.2.sem = fun _ => 0)

def quiescent_CloseIdeal [hCloseIdeal : Cert.CloseIdeal.Facts] : Prop :=
  ∀ (m : (ℓ : Loc Cert.CloseIdeal.nD Cert.CloseIdeal.τ Cert.CloseIdeal.sig) → Buf (Elt Ideal) ℓ) (g : Dev Cert.CloseIdeal.nD → PrngReg), Pre_CloseIdeal m →
    θ_run (Cert.CloseIdeal.defs (F := Ideal)) (onTc (τ := Cert.CloseIdeal.τ) (Cert.CloseIdeal.main (F := Ideal))) ⟨m, fun _ => 0, g⟩ (fun r => (∀ c : Dev Cert.CloseIdeal.nD,
      r.2.mem ((c.tc : Thread Cert.CloseIdeal.nD Cert.CloseIdeal.τ).loc Cert.CloseIdeal.main_arg0) = m ((c.tc : Thread Cert.CloseIdeal.nD Cert.CloseIdeal.τ).loc Cert.CloseIdeal.main_arg0)
      ∧ r.2.mem ((c.tc : Thread Cert.CloseIdeal.nD Cert.CloseIdeal.τ).loc Cert.CloseIdeal.main_arg1) = m ((c.tc : Thread Cert.CloseIdeal.nD Cert.CloseIdeal.τ).loc Cert.CloseIdeal.main_arg1)
      ∧ r.2.mem ((c.tc : Thread Cert.CloseIdeal.nD Cert.CloseIdeal.τ).loc Cert.CloseIdeal.main_arg2) = m ((c.tc : Thread Cert.CloseIdeal.nD Cert.CloseIdeal.τ).loc Cert.CloseIdeal.main_arg2)
      ∧ r.2.mem ((c.tc : Thread Cert.CloseIdeal.nD Cert.CloseIdeal.τ).loc Cert.CloseIdeal.main_arg3) = m ((c.tc : Thread Cert.CloseIdeal.nD Cert.CloseIdeal.τ).loc Cert.CloseIdeal.main_arg3)
      ∧ r.2.mem ((c.tc : Thread Cert.CloseIdeal.nD Cert.CloseIdeal.τ).loc Cert.CloseIdeal.main_arg4) = m ((c.tc : Thread Cert.CloseIdeal.nD Cert.CloseIdeal.τ).loc Cert.CloseIdeal.main_arg4)
      ∧ r.2.mem ((c.tc : Thread Cert.CloseIdeal.nD Cert.CloseIdeal.τ).loc Cert.CloseIdeal.main_arg5) = m ((c.tc : Thread Cert.CloseIdeal.nD Cert.CloseIdeal.τ).loc Cert.CloseIdeal.main_arg5)
      ∧ r.2.mem ((c.tc : Thread Cert.CloseIdeal.nD Cert.CloseIdeal.τ).loc Cert.CloseIdeal.main_arg6) = m ((c.tc : Thread Cert.CloseIdeal.nD Cert.CloseIdeal.τ).loc Cert.CloseIdeal.main_arg6))
      ∧ r.2.sem = fun _ => 0)

def quiescent_CloseRefIdeal [hCloseRefIdeal : Cert.CloseRefIdeal.Facts] : Prop :=
  ∀ (m : (ℓ : Loc Cert.CloseRefIdeal.nD Cert.CloseRefIdeal.τ Cert.CloseRefIdeal.sig) → Buf (Elt Ideal) ℓ) (g : Dev Cert.CloseRefIdeal.nD → PrngReg), Pre_CloseRefIdeal m →
    θ_run (Cert.CloseRefIdeal.defs (F := Ideal)) (onTc (τ := Cert.CloseRefIdeal.τ) (Cert.CloseRefIdeal.main (F := Ideal))) ⟨m, fun _ => 0, g⟩ (fun r => (∀ c : Dev Cert.CloseRefIdeal.nD,
      r.2.mem ((c.tc : Thread Cert.CloseRefIdeal.nD Cert.CloseRefIdeal.τ).loc Cert.CloseRefIdeal.main_arg0) = m ((c.tc : Thread Cert.CloseRefIdeal.nD Cert.CloseRefIdeal.τ).loc Cert.CloseRefIdeal.main_arg0)
      ∧ r.2.mem ((c.tc : Thread Cert.CloseRefIdeal.nD Cert.CloseRefIdeal.τ).loc Cert.CloseRefIdeal.main_arg1) = m ((c.tc : Thread Cert.CloseRefIdeal.nD Cert.CloseRefIdeal.τ).loc Cert.CloseRefIdeal.main_arg1)
      ∧ r.2.mem ((c.tc : Thread Cert.CloseRefIdeal.nD Cert.CloseRefIdeal.τ).loc Cert.CloseRefIdeal.main_arg2) = m ((c.tc : Thread Cert.CloseRefIdeal.nD Cert.CloseRefIdeal.τ).loc Cert.CloseRefIdeal.main_arg2)
      ∧ r.2.mem ((c.tc : Thread Cert.CloseRefIdeal.nD Cert.CloseRefIdeal.τ).loc Cert.CloseRefIdeal.main_arg3) = m ((c.tc : Thread Cert.CloseRefIdeal.nD Cert.CloseRefIdeal.τ).loc Cert.CloseRefIdeal.main_arg3)
      ∧ r.2.mem ((c.tc : Thread Cert.CloseRefIdeal.nD Cert.CloseRefIdeal.τ).loc Cert.CloseRefIdeal.main_arg4) = m ((c.tc : Thread Cert.CloseRefIdeal.nD Cert.CloseRefIdeal.τ).loc Cert.CloseRefIdeal.main_arg4)
      ∧ r.2.mem ((c.tc : Thread Cert.CloseRefIdeal.nD Cert.CloseRefIdeal.τ).loc Cert.CloseRefIdeal.main_arg5) = m ((c.tc : Thread Cert.CloseRefIdeal.nD Cert.CloseRefIdeal.τ).loc Cert.CloseRefIdeal.main_arg5)
      ∧ r.2.mem ((c.tc : Thread Cert.CloseRefIdeal.nD Cert.CloseRefIdeal.τ).loc Cert.CloseRefIdeal.main_arg6) = m ((c.tc : Thread Cert.CloseRefIdeal.nD Cert.CloseRefIdeal.τ).loc Cert.CloseRefIdeal.main_arg6))
      ∧ r.2.sem = fun _ => 0)

def quiescent_Open [hOpen : Cert.Open.Facts] : Prop :=
  ∀ (m : (ℓ : Loc Cert.Open.nD Cert.Open.τ Cert.Open.sig) → Buf (Elt Bits) ℓ) (g : Dev Cert.Open.nD → PrngReg), Pre_Open m →
    θ_run (Cert.Open.defs (F := Bits)) (onTc (τ := Cert.Open.τ) (Cert.Open.main (F := Bits))) ⟨m, fun _ => 0, g⟩ (fun r => (∀ c : Dev Cert.Open.nD,
      r.2.mem ((c.tc : Thread Cert.Open.nD Cert.Open.τ).loc Cert.Open.main_arg0) = m ((c.tc : Thread Cert.Open.nD Cert.Open.τ).loc Cert.Open.main_arg0)
      ∧ r.2.mem ((c.tc : Thread Cert.Open.nD Cert.Open.τ).loc Cert.Open.main_arg1) = m ((c.tc : Thread Cert.Open.nD Cert.Open.τ).loc Cert.Open.main_arg1)
      ∧ r.2.mem ((c.tc : Thread Cert.Open.nD Cert.Open.τ).loc Cert.Open.main_arg2) = m ((c.tc : Thread Cert.Open.nD Cert.Open.τ).loc Cert.Open.main_arg2)
      ∧ r.2.mem ((c.tc : Thread Cert.Open.nD Cert.Open.τ).loc Cert.Open.main_arg3) = m ((c.tc : Thread Cert.Open.nD Cert.Open.τ).loc Cert.Open.main_arg3)
      ∧ r.2.mem ((c.tc : Thread Cert.Open.nD Cert.Open.τ).loc Cert.Open.main_arg4) = m ((c.tc : Thread Cert.Open.nD Cert.Open.τ).loc Cert.Open.main_arg4)
      ∧ r.2.mem ((c.tc : Thread Cert.Open.nD Cert.Open.τ).loc Cert.Open.main_arg5) = m ((c.tc : Thread Cert.Open.nD Cert.Open.τ).loc Cert.Open.main_arg5)
      ∧ r.2.mem ((c.tc : Thread Cert.Open.nD Cert.Open.τ).loc Cert.Open.main_arg6) = m ((c.tc : Thread Cert.Open.nD Cert.Open.τ).loc Cert.Open.main_arg6))
      ∧ r.2.sem = fun _ => 0)

def quiescent_OpenIdeal [hOpenIdeal : Cert.OpenIdeal.Facts] : Prop :=
  ∀ (m : (ℓ : Loc Cert.OpenIdeal.nD Cert.OpenIdeal.τ Cert.OpenIdeal.sig) → Buf (Elt Ideal) ℓ) (g : Dev Cert.OpenIdeal.nD → PrngReg), Pre_OpenIdeal m →
    θ_run (Cert.OpenIdeal.defs (F := Ideal)) (onTc (τ := Cert.OpenIdeal.τ) (Cert.OpenIdeal.main (F := Ideal))) ⟨m, fun _ => 0, g⟩ (fun r => (∀ c : Dev Cert.OpenIdeal.nD,
      r.2.mem ((c.tc : Thread Cert.OpenIdeal.nD Cert.OpenIdeal.τ).loc Cert.OpenIdeal.main_arg0) = m ((c.tc : Thread Cert.OpenIdeal.nD Cert.OpenIdeal.τ).loc Cert.OpenIdeal.main_arg0)
      ∧ r.2.mem ((c.tc : Thread Cert.OpenIdeal.nD Cert.OpenIdeal.τ).loc Cert.OpenIdeal.main_arg1) = m ((c.tc : Thread Cert.OpenIdeal.nD Cert.OpenIdeal.τ).loc Cert.OpenIdeal.main_arg1)
      ∧ r.2.mem ((c.tc : Thread Cert.OpenIdeal.nD Cert.OpenIdeal.τ).loc Cert.OpenIdeal.main_arg2) = m ((c.tc : Thread Cert.OpenIdeal.nD Cert.OpenIdeal.τ).loc Cert.OpenIdeal.main_arg2)
      ∧ r.2.mem ((c.tc : Thread Cert.OpenIdeal.nD Cert.OpenIdeal.τ).loc Cert.OpenIdeal.main_arg3) = m ((c.tc : Thread Cert.OpenIdeal.nD Cert.OpenIdeal.τ).loc Cert.OpenIdeal.main_arg3)
      ∧ r.2.mem ((c.tc : Thread Cert.OpenIdeal.nD Cert.OpenIdeal.τ).loc Cert.OpenIdeal.main_arg4) = m ((c.tc : Thread Cert.OpenIdeal.nD Cert.OpenIdeal.τ).loc Cert.OpenIdeal.main_arg4)
      ∧ r.2.mem ((c.tc : Thread Cert.OpenIdeal.nD Cert.OpenIdeal.τ).loc Cert.OpenIdeal.main_arg5) = m ((c.tc : Thread Cert.OpenIdeal.nD Cert.OpenIdeal.τ).loc Cert.OpenIdeal.main_arg5)
      ∧ r.2.mem ((c.tc : Thread Cert.OpenIdeal.nD Cert.OpenIdeal.τ).loc Cert.OpenIdeal.main_arg6) = m ((c.tc : Thread Cert.OpenIdeal.nD Cert.OpenIdeal.τ).loc Cert.OpenIdeal.main_arg6))
      ∧ r.2.sem = fun _ => 0)

def quiescent_OpenRefIdeal [hOpenRefIdeal : Cert.OpenRefIdeal.Facts] : Prop :=
  ∀ (m : (ℓ : Loc Cert.OpenRefIdeal.nD Cert.OpenRefIdeal.τ Cert.OpenRefIdeal.sig) → Buf (Elt Ideal) ℓ) (g : Dev Cert.OpenRefIdeal.nD → PrngReg), Pre_OpenRefIdeal m →
    θ_run (Cert.OpenRefIdeal.defs (F := Ideal)) (onTc (τ := Cert.OpenRefIdeal.τ) (Cert.OpenRefIdeal.main (F := Ideal))) ⟨m, fun _ => 0, g⟩ (fun r => (∀ c : Dev Cert.OpenRefIdeal.nD,
      r.2.mem ((c.tc : Thread Cert.OpenRefIdeal.nD Cert.OpenRefIdeal.τ).loc Cert.OpenRefIdeal.main_arg0) = m ((c.tc : Thread Cert.OpenRefIdeal.nD Cert.OpenRefIdeal.τ).loc Cert.OpenRefIdeal.main_arg0)
      ∧ r.2.mem ((c.tc : Thread Cert.OpenRefIdeal.nD Cert.OpenRefIdeal.τ).loc Cert.OpenRefIdeal.main_arg1) = m ((c.tc : Thread Cert.OpenRefIdeal.nD Cert.OpenRefIdeal.τ).loc Cert.OpenRefIdeal.main_arg1)
      ∧ r.2.mem ((c.tc : Thread Cert.OpenRefIdeal.nD Cert.OpenRefIdeal.τ).loc Cert.OpenRefIdeal.main_arg2) = m ((c.tc : Thread Cert.OpenRefIdeal.nD Cert.OpenRefIdeal.τ).loc Cert.OpenRefIdeal.main_arg2)
      ∧ r.2.mem ((c.tc : Thread Cert.OpenRefIdeal.nD Cert.OpenRefIdeal.τ).loc Cert.OpenRefIdeal.main_arg3) = m ((c.tc : Thread Cert.OpenRefIdeal.nD Cert.OpenRefIdeal.τ).loc Cert.OpenRefIdeal.main_arg3)
      ∧ r.2.mem ((c.tc : Thread Cert.OpenRefIdeal.nD Cert.OpenRefIdeal.τ).loc Cert.OpenRefIdeal.main_arg4) = m ((c.tc : Thread Cert.OpenRefIdeal.nD Cert.OpenRefIdeal.τ).loc Cert.OpenRefIdeal.main_arg4)
      ∧ r.2.mem ((c.tc : Thread Cert.OpenRefIdeal.nD Cert.OpenRefIdeal.τ).loc Cert.OpenRefIdeal.main_arg5) = m ((c.tc : Thread Cert.OpenRefIdeal.nD Cert.OpenRefIdeal.τ).loc Cert.OpenRefIdeal.main_arg5)
      ∧ r.2.mem ((c.tc : Thread Cert.OpenRefIdeal.nD Cert.OpenRefIdeal.τ).loc Cert.OpenRefIdeal.main_arg6) = m ((c.tc : Thread Cert.OpenRefIdeal.nD Cert.OpenRefIdeal.τ).loc Cert.OpenRefIdeal.main_arg6))
      ∧ r.2.sem = fun _ => 0)

def quiescent_Enter [hEnter : Cert.Enter.Facts] : Prop :=
  ∀ (m : (ℓ : Loc Cert.Enter.nD Cert.Enter.τ Cert.Enter.sig) → Buf (Elt Bits) ℓ) (g : Dev Cert.Enter.nD → PrngReg), Pre_Enter m →
    θ_run (Cert.Enter.defs (F := Bits)) (onTc (τ := Cert.Enter.τ) (Cert.Enter.main (F := Bits))) ⟨m, fun _ => 0, g⟩ (fun r => (∀ c : Dev Cert.Enter.nD,
      r.2.mem ((c.tc : Thread Cert.Enter.nD Cert.Enter.τ).loc Cert.Enter.main_arg0) = m ((c.tc : Thread Cert.Enter.nD Cert.Enter.τ).loc Cert.Enter.main_arg0)
      ∧ r.2.mem ((c.tc : Thread Cert.Enter.nD Cert.Enter.τ).loc Cert.Enter.main_arg1) = m ((c.tc : Thread Cert.Enter.nD Cert.Enter.τ).loc Cert.Enter.main_arg1)
      ∧ r.2.mem ((c.tc : Thread Cert.Enter.nD Cert.Enter.τ).loc Cert.Enter.main_arg2) = m ((c.tc : Thread Cert.Enter.nD Cert.Enter.τ).loc Cert.Enter.main_arg2)
      ∧ r.2.mem ((c.tc : Thread Cert.Enter.nD Cert.Enter.τ).loc Cert.Enter.main_arg3) = m ((c.tc : Thread Cert.Enter.nD Cert.Enter.τ).loc Cert.Enter.main_arg3)
      ∧ r.2.mem ((c.tc : Thread Cert.Enter.nD Cert.Enter.τ).loc Cert.Enter.main_arg4) = m ((c.tc : Thread Cert.Enter.nD Cert.Enter.τ).loc Cert.Enter.main_arg4)
      ∧ r.2.mem ((c.tc : Thread Cert.Enter.nD Cert.Enter.τ).loc Cert.Enter.main_arg5) = m ((c.tc : Thread Cert.Enter.nD Cert.Enter.τ).loc Cert.Enter.main_arg5)
      ∧ r.2.mem ((c.tc : Thread Cert.Enter.nD Cert.Enter.τ).loc Cert.Enter.main_arg6) = m ((c.tc : Thread Cert.Enter.nD Cert.Enter.τ).loc Cert.Enter.main_arg6)
      ∧ r.2.mem ((c.tc : Thread Cert.Enter.nD Cert.Enter.τ).loc Cert.Enter.main_arg7) = m ((c.tc : Thread Cert.Enter.nD Cert.Enter.τ).loc Cert.Enter.main_arg7)
      ∧ r.2.mem ((c.tc : Thread Cert.Enter.nD Cert.Enter.τ).loc Cert.Enter.main_arg8) = m ((c.tc : Thread Cert.Enter.nD Cert.Enter.τ).loc Cert.Enter.main_arg8)
      ∧ r.2.mem ((c.tc : Thread Cert.Enter.nD Cert.Enter.τ).loc Cert.Enter.main_arg9) = m ((c.tc : Thread Cert.Enter.nD Cert.Enter.τ).loc Cert.Enter.main_arg9))
      ∧ r.2.sem = fun _ => 0)

def quiescent_EnterIdeal [hEnterIdeal : Cert.EnterIdeal.Facts] : Prop :=
  ∀ (m : (ℓ : Loc Cert.EnterIdeal.nD Cert.EnterIdeal.τ Cert.EnterIdeal.sig) → Buf (Elt Ideal) ℓ) (g : Dev Cert.EnterIdeal.nD → PrngReg), Pre_EnterIdeal m →
    θ_run (Cert.EnterIdeal.defs (F := Ideal)) (onTc (τ := Cert.EnterIdeal.τ) (Cert.EnterIdeal.main (F := Ideal))) ⟨m, fun _ => 0, g⟩ (fun r => (∀ c : Dev Cert.EnterIdeal.nD,
      r.2.mem ((c.tc : Thread Cert.EnterIdeal.nD Cert.EnterIdeal.τ).loc Cert.EnterIdeal.main_arg0) = m ((c.tc : Thread Cert.EnterIdeal.nD Cert.EnterIdeal.τ).loc Cert.EnterIdeal.main_arg0)
      ∧ r.2.mem ((c.tc : Thread Cert.EnterIdeal.nD Cert.EnterIdeal.τ).loc Cert.EnterIdeal.main_arg1) = m ((c.tc : Thread Cert.EnterIdeal.nD Cert.EnterIdeal.τ).loc Cert.EnterIdeal.main_arg1)
      ∧ r.2.mem ((c.tc : Thread Cert.EnterIdeal.nD Cert.EnterIdeal.τ).loc Cert.EnterIdeal.main_arg2) = m ((c.tc : Thread Cert.EnterIdeal.nD Cert.EnterIdeal.τ).loc Cert.EnterIdeal.main_arg2)
      ∧ r.2.mem ((c.tc : Thread Cert.EnterIdeal.nD Cert.EnterIdeal.τ).loc Cert.EnterIdeal.main_arg3) = m ((c.tc : Thread Cert.EnterIdeal.nD Cert.EnterIdeal.τ).loc Cert.EnterIdeal.main_arg3)
      ∧ r.2.mem ((c.tc : Thread Cert.EnterIdeal.nD Cert.EnterIdeal.τ).loc Cert.EnterIdeal.main_arg4) = m ((c.tc : Thread Cert.EnterIdeal.nD Cert.EnterIdeal.τ).loc Cert.EnterIdeal.main_arg4)
      ∧ r.2.mem ((c.tc : Thread Cert.EnterIdeal.nD Cert.EnterIdeal.τ).loc Cert.EnterIdeal.main_arg5) = m ((c.tc : Thread Cert.EnterIdeal.nD Cert.EnterIdeal.τ).loc Cert.EnterIdeal.main_arg5)
      ∧ r.2.mem ((c.tc : Thread Cert.EnterIdeal.nD Cert.EnterIdeal.τ).loc Cert.EnterIdeal.main_arg6) = m ((c.tc : Thread Cert.EnterIdeal.nD Cert.EnterIdeal.τ).loc Cert.EnterIdeal.main_arg6)
      ∧ r.2.mem ((c.tc : Thread Cert.EnterIdeal.nD Cert.EnterIdeal.τ).loc Cert.EnterIdeal.main_arg7) = m ((c.tc : Thread Cert.EnterIdeal.nD Cert.EnterIdeal.τ).loc Cert.EnterIdeal.main_arg7)
      ∧ r.2.mem ((c.tc : Thread Cert.EnterIdeal.nD Cert.EnterIdeal.τ).loc Cert.EnterIdeal.main_arg8) = m ((c.tc : Thread Cert.EnterIdeal.nD Cert.EnterIdeal.τ).loc Cert.EnterIdeal.main_arg8)
      ∧ r.2.mem ((c.tc : Thread Cert.EnterIdeal.nD Cert.EnterIdeal.τ).loc Cert.EnterIdeal.main_arg9) = m ((c.tc : Thread Cert.EnterIdeal.nD Cert.EnterIdeal.τ).loc Cert.EnterIdeal.main_arg9))
      ∧ r.2.sem = fun _ => 0)

def quiescent_EnterRefIdeal [hEnterRefIdeal : Cert.EnterRefIdeal.Facts] : Prop :=
  ∀ (m : (ℓ : Loc Cert.EnterRefIdeal.nD Cert.EnterRefIdeal.τ Cert.EnterRefIdeal.sig) → Buf (Elt Ideal) ℓ) (g : Dev Cert.EnterRefIdeal.nD → PrngReg), Pre_EnterRefIdeal m →
    θ_run (Cert.EnterRefIdeal.defs (F := Ideal)) (onTc (τ := Cert.EnterRefIdeal.τ) (Cert.EnterRefIdeal.main (F := Ideal))) ⟨m, fun _ => 0, g⟩ (fun r => (∀ c : Dev Cert.EnterRefIdeal.nD,
      r.2.mem ((c.tc : Thread Cert.EnterRefIdeal.nD Cert.EnterRefIdeal.τ).loc Cert.EnterRefIdeal.main_arg0) = m ((c.tc : Thread Cert.EnterRefIdeal.nD Cert.EnterRefIdeal.τ).loc Cert.EnterRefIdeal.main_arg0)
      ∧ r.2.mem ((c.tc : Thread Cert.EnterRefIdeal.nD Cert.EnterRefIdeal.τ).loc Cert.EnterRefIdeal.main_arg1) = m ((c.tc : Thread Cert.EnterRefIdeal.nD Cert.EnterRefIdeal.τ).loc Cert.EnterRefIdeal.main_arg1)
      ∧ r.2.mem ((c.tc : Thread Cert.EnterRefIdeal.nD Cert.EnterRefIdeal.τ).loc Cert.EnterRefIdeal.main_arg2) = m ((c.tc : Thread Cert.EnterRefIdeal.nD Cert.EnterRefIdeal.τ).loc Cert.EnterRefIdeal.main_arg2)
      ∧ r.2.mem ((c.tc : Thread Cert.EnterRefIdeal.nD Cert.EnterRefIdeal.τ).loc Cert.EnterRefIdeal.main_arg3) = m ((c.tc : Thread Cert.EnterRefIdeal.nD Cert.EnterRefIdeal.τ).loc Cert.EnterRefIdeal.main_arg3)
      ∧ r.2.mem ((c.tc : Thread Cert.EnterRefIdeal.nD Cert.EnterRefIdeal.τ).loc Cert.EnterRefIdeal.main_arg4) = m ((c.tc : Thread Cert.EnterRefIdeal.nD Cert.EnterRefIdeal.τ).loc Cert.EnterRefIdeal.main_arg4)
      ∧ r.2.mem ((c.tc : Thread Cert.EnterRefIdeal.nD Cert.EnterRefIdeal.τ).loc Cert.EnterRefIdeal.main_arg5) = m ((c.tc : Thread Cert.EnterRefIdeal.nD Cert.EnterRefIdeal.τ).loc Cert.EnterRefIdeal.main_arg5)
      ∧ r.2.mem ((c.tc : Thread Cert.EnterRefIdeal.nD Cert.EnterRefIdeal.τ).loc Cert.EnterRefIdeal.main_arg6) = m ((c.tc : Thread Cert.EnterRefIdeal.nD Cert.EnterRefIdeal.τ).loc Cert.EnterRefIdeal.main_arg6)
      ∧ r.2.mem ((c.tc : Thread Cert.EnterRefIdeal.nD Cert.EnterRefIdeal.τ).loc Cert.EnterRefIdeal.main_arg7) = m ((c.tc : Thread Cert.EnterRefIdeal.nD Cert.EnterRefIdeal.τ).loc Cert.EnterRefIdeal.main_arg7)
      ∧ r.2.mem ((c.tc : Thread Cert.EnterRefIdeal.nD Cert.EnterRefIdeal.τ).loc Cert.EnterRefIdeal.main_arg8) = m ((c.tc : Thread Cert.EnterRefIdeal.nD Cert.EnterRefIdeal.τ).loc Cert.EnterRefIdeal.main_arg8)
      ∧ r.2.mem ((c.tc : Thread Cert.EnterRefIdeal.nD Cert.EnterRefIdeal.τ).loc Cert.EnterRefIdeal.main_arg9) = m ((c.tc : Thread Cert.EnterRefIdeal.nD Cert.EnterRefIdeal.τ).loc Cert.EnterRefIdeal.main_arg9))
      ∧ r.2.sem = fun _ => 0)

def quiescent_Context [hContext : Cert.Context.Facts] : Prop :=
  ∀ (m : (ℓ : Loc Cert.Context.nD Cert.Context.τ Cert.Context.sig) → Buf (Elt Bits) ℓ) (g : Dev Cert.Context.nD → PrngReg), Pre_Context m →
    θ_run (Cert.Context.defs (F := Bits)) (onTc (τ := Cert.Context.τ) (Cert.Context.main (F := Bits))) ⟨m, fun _ => 0, g⟩ (fun r => (∀ c : Dev Cert.Context.nD,
      r.2.mem ((c.tc : Thread Cert.Context.nD Cert.Context.τ).loc Cert.Context.main_arg0) = m ((c.tc : Thread Cert.Context.nD Cert.Context.τ).loc Cert.Context.main_arg0)
      ∧ r.2.mem ((c.tc : Thread Cert.Context.nD Cert.Context.τ).loc Cert.Context.main_arg1) = m ((c.tc : Thread Cert.Context.nD Cert.Context.τ).loc Cert.Context.main_arg1)
      ∧ r.2.mem ((c.tc : Thread Cert.Context.nD Cert.Context.τ).loc Cert.Context.main_arg2) = m ((c.tc : Thread Cert.Context.nD Cert.Context.τ).loc Cert.Context.main_arg2)
      ∧ r.2.mem ((c.tc : Thread Cert.Context.nD Cert.Context.τ).loc Cert.Context.main_arg3) = m ((c.tc : Thread Cert.Context.nD Cert.Context.τ).loc Cert.Context.main_arg3)
      ∧ r.2.mem ((c.tc : Thread Cert.Context.nD Cert.Context.τ).loc Cert.Context.main_arg4) = m ((c.tc : Thread Cert.Context.nD Cert.Context.τ).loc Cert.Context.main_arg4))
      ∧ r.2.sem = fun _ => 0)

def quiescent_ContextIdeal [hContextIdeal : Cert.ContextIdeal.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
      ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4))
      ∧ r.2.sem = fun _ => 0)

def quiescent_ContextRefIdeal [hContextRefIdeal : Cert.ContextRefIdeal.Facts] : Prop :=
  ∀ (m : (ℓ : Loc Cert.ContextRefIdeal.nD Cert.ContextRefIdeal.τ Cert.ContextRefIdeal.sig) → Buf (Elt Ideal) ℓ) (g : Dev Cert.ContextRefIdeal.nD → PrngReg), Pre_ContextRefIdeal m →
    θ_run (Cert.ContextRefIdeal.defs (F := Ideal)) (onTc (τ := Cert.ContextRefIdeal.τ) (Cert.ContextRefIdeal.main (F := Ideal))) ⟨m, fun _ => 0, g⟩ (fun r => (∀ c : Dev Cert.ContextRefIdeal.nD,
      r.2.mem ((c.tc : Thread Cert.ContextRefIdeal.nD Cert.ContextRefIdeal.τ).loc Cert.ContextRefIdeal.main_arg0) = m ((c.tc : Thread Cert.ContextRefIdeal.nD Cert.ContextRefIdeal.τ).loc Cert.ContextRefIdeal.main_arg0)
      ∧ r.2.mem ((c.tc : Thread Cert.ContextRefIdeal.nD Cert.ContextRefIdeal.τ).loc Cert.ContextRefIdeal.main_arg1) = m ((c.tc : Thread Cert.ContextRefIdeal.nD Cert.ContextRefIdeal.τ).loc Cert.ContextRefIdeal.main_arg1)
      ∧ r.2.mem ((c.tc : Thread Cert.ContextRefIdeal.nD Cert.ContextRefIdeal.τ).loc Cert.ContextRefIdeal.main_arg2) = m ((c.tc : Thread Cert.ContextRefIdeal.nD Cert.ContextRefIdeal.τ).loc Cert.ContextRefIdeal.main_arg2)
      ∧ r.2.mem ((c.tc : Thread Cert.ContextRefIdeal.nD Cert.ContextRefIdeal.τ).loc Cert.ContextRefIdeal.main_arg3) = m ((c.tc : Thread Cert.ContextRefIdeal.nD Cert.ContextRefIdeal.τ).loc Cert.ContextRefIdeal.main_arg3)
      ∧ r.2.mem ((c.tc : Thread Cert.ContextRefIdeal.nD Cert.ContextRefIdeal.τ).loc Cert.ContextRefIdeal.main_arg4) = m ((c.tc : Thread Cert.ContextRefIdeal.nD Cert.ContextRefIdeal.τ).loc Cert.ContextRefIdeal.main_arg4))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1))
      ∧ r.2.sem = fun _ => 0)

def quiescent_FourierOut [hFourierOut : Cert.FourierOut.Facts] : Prop :=
  ∀ (m : (ℓ : Loc Cert.FourierOut.nD Cert.FourierOut.τ Cert.FourierOut.sig) → Buf (Elt Bits) ℓ) (g : Dev Cert.FourierOut.nD → PrngReg), Pre_FourierOut m →
    θ_run (Cert.FourierOut.defs (F := Bits)) (onTc (τ := Cert.FourierOut.τ) (Cert.FourierOut.main (F := Bits))) ⟨m, fun _ => 0, g⟩ (fun r => (∀ c : Dev Cert.FourierOut.nD,
      r.2.mem ((c.tc : Thread Cert.FourierOut.nD Cert.FourierOut.τ).loc Cert.FourierOut.main_arg0) = m ((c.tc : Thread Cert.FourierOut.nD Cert.FourierOut.τ).loc Cert.FourierOut.main_arg0)
      ∧ r.2.mem ((c.tc : Thread Cert.FourierOut.nD Cert.FourierOut.τ).loc Cert.FourierOut.main_arg1) = m ((c.tc : Thread Cert.FourierOut.nD Cert.FourierOut.τ).loc Cert.FourierOut.main_arg1)
      ∧ r.2.mem ((c.tc : Thread Cert.FourierOut.nD Cert.FourierOut.τ).loc Cert.FourierOut.main_arg2) = m ((c.tc : Thread Cert.FourierOut.nD Cert.FourierOut.τ).loc Cert.FourierOut.main_arg2)
      ∧ r.2.mem ((c.tc : Thread Cert.FourierOut.nD Cert.FourierOut.τ).loc Cert.FourierOut.main_arg3) = m ((c.tc : Thread Cert.FourierOut.nD Cert.FourierOut.τ).loc Cert.FourierOut.main_arg3))
      ∧ r.2.sem = fun _ => 0)

def quiescent_FourierOutIdeal [hFourierOutIdeal : Cert.FourierOutIdeal.Facts] : Prop :=
  ∀ (m : (ℓ : Loc Cert.FourierOutIdeal.nD Cert.FourierOutIdeal.τ Cert.FourierOutIdeal.sig) → Buf (Elt Ideal) ℓ) (g : Dev Cert.FourierOutIdeal.nD → PrngReg), Pre_FourierOutIdeal m →
    θ_run (Cert.FourierOutIdeal.defs (F := Ideal)) (onTc (τ := Cert.FourierOutIdeal.τ) (Cert.FourierOutIdeal.main (F := Ideal))) ⟨m, fun _ => 0, g⟩ (fun r => (∀ c : Dev Cert.FourierOutIdeal.nD,
      r.2.mem ((c.tc : Thread Cert.FourierOutIdeal.nD Cert.FourierOutIdeal.τ).loc Cert.FourierOutIdeal.main_arg0) = m ((c.tc : Thread Cert.FourierOutIdeal.nD Cert.FourierOutIdeal.τ).loc Cert.FourierOutIdeal.main_arg0)
      ∧ r.2.mem ((c.tc : Thread Cert.FourierOutIdeal.nD Cert.FourierOutIdeal.τ).loc Cert.FourierOutIdeal.main_arg1) = m ((c.tc : Thread Cert.FourierOutIdeal.nD Cert.FourierOutIdeal.τ).loc Cert.FourierOutIdeal.main_arg1)
      ∧ r.2.mem ((c.tc : Thread Cert.FourierOutIdeal.nD Cert.FourierOutIdeal.τ).loc Cert.FourierOutIdeal.main_arg2) = m ((c.tc : Thread Cert.FourierOutIdeal.nD Cert.FourierOutIdeal.τ).loc Cert.FourierOutIdeal.main_arg2)
      ∧ r.2.mem ((c.tc : Thread Cert.FourierOutIdeal.nD Cert.FourierOutIdeal.τ).loc Cert.FourierOutIdeal.main_arg3) = m ((c.tc : Thread Cert.FourierOutIdeal.nD Cert.FourierOutIdeal.τ).loc Cert.FourierOutIdeal.main_arg3))
      ∧ r.2.sem = fun _ => 0)

def quiescent_FourierOutRefIdeal [hFourierOutRefIdeal : Cert.FourierOutRefIdeal.Facts] : Prop :=
  ∀ (m : (ℓ : Loc Cert.FourierOutRefIdeal.nD Cert.FourierOutRefIdeal.τ Cert.FourierOutRefIdeal.sig) → Buf (Elt Ideal) ℓ) (g : Dev Cert.FourierOutRefIdeal.nD → PrngReg), Pre_FourierOutRefIdeal m →
    θ_run (Cert.FourierOutRefIdeal.defs (F := Ideal)) (onTc (τ := Cert.FourierOutRefIdeal.τ) (Cert.FourierOutRefIdeal.main (F := Ideal))) ⟨m, fun _ => 0, g⟩ (fun r => (∀ c : Dev Cert.FourierOutRefIdeal.nD,
      r.2.mem ((c.tc : Thread Cert.FourierOutRefIdeal.nD Cert.FourierOutRefIdeal.τ).loc Cert.FourierOutRefIdeal.main_arg0) = m ((c.tc : Thread Cert.FourierOutRefIdeal.nD Cert.FourierOutRefIdeal.τ).loc Cert.FourierOutRefIdeal.main_arg0)
      ∧ r.2.mem ((c.tc : Thread Cert.FourierOutRefIdeal.nD Cert.FourierOutRefIdeal.τ).loc Cert.FourierOutRefIdeal.main_arg1) = m ((c.tc : Thread Cert.FourierOutRefIdeal.nD Cert.FourierOutRefIdeal.τ).loc Cert.FourierOutRefIdeal.main_arg1)
      ∧ r.2.mem ((c.tc : Thread Cert.FourierOutRefIdeal.nD Cert.FourierOutRefIdeal.τ).loc Cert.FourierOutRefIdeal.main_arg2) = m ((c.tc : Thread Cert.FourierOutRefIdeal.nD Cert.FourierOutRefIdeal.τ).loc Cert.FourierOutRefIdeal.main_arg2)
      ∧ r.2.mem ((c.tc : Thread Cert.FourierOutRefIdeal.nD Cert.FourierOutRefIdeal.τ).loc Cert.FourierOutRefIdeal.main_arg3) = m ((c.tc : Thread Cert.FourierOutRefIdeal.nD Cert.FourierOutRefIdeal.τ).loc Cert.FourierOutRefIdeal.main_arg3))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7))
      ∧ r.2.sem = fun _ => 0)

def quiescent_Channels [hChannels : Cert.Channels.Facts] : Prop :=
  ∀ (m : (ℓ : Loc Cert.Channels.nD Cert.Channels.τ Cert.Channels.sig) → Buf (Elt Bits) ℓ) (g : Dev Cert.Channels.nD → PrngReg), Pre_Channels m →
    θ_run (Cert.Channels.defs (F := Bits)) (onTc (τ := Cert.Channels.τ) (Cert.Channels.main (F := Bits))) ⟨m, fun _ => 0, g⟩ (fun r => (∀ c : Dev Cert.Channels.nD,
      r.2.mem ((c.tc : Thread Cert.Channels.nD Cert.Channels.τ).loc Cert.Channels.main_arg0) = m ((c.tc : Thread Cert.Channels.nD Cert.Channels.τ).loc Cert.Channels.main_arg0)
      ∧ r.2.mem ((c.tc : Thread Cert.Channels.nD Cert.Channels.τ).loc Cert.Channels.main_arg1) = m ((c.tc : Thread Cert.Channels.nD Cert.Channels.τ).loc Cert.Channels.main_arg1)
      ∧ r.2.mem ((c.tc : Thread Cert.Channels.nD Cert.Channels.τ).loc Cert.Channels.main_arg2) = m ((c.tc : Thread Cert.Channels.nD Cert.Channels.τ).loc Cert.Channels.main_arg2)
      ∧ r.2.mem ((c.tc : Thread Cert.Channels.nD Cert.Channels.τ).loc Cert.Channels.main_arg3) = m ((c.tc : Thread Cert.Channels.nD Cert.Channels.τ).loc Cert.Channels.main_arg3))
      ∧ r.2.sem = fun _ => 0)

def quiescent_ChannelsIdeal [hChannelsIdeal : Cert.ChannelsIdeal.Facts] : Prop :=
  ∀ (m : (ℓ : Loc Cert.ChannelsIdeal.nD Cert.ChannelsIdeal.τ Cert.ChannelsIdeal.sig) → Buf (Elt Ideal) ℓ) (g : Dev Cert.ChannelsIdeal.nD → PrngReg), Pre_ChannelsIdeal m →
    θ_run (Cert.ChannelsIdeal.defs (F := Ideal)) (onTc (τ := Cert.ChannelsIdeal.τ) (Cert.ChannelsIdeal.main (F := Ideal))) ⟨m, fun _ => 0, g⟩ (fun r => (∀ c : Dev Cert.ChannelsIdeal.nD,
      r.2.mem ((c.tc : Thread Cert.ChannelsIdeal.nD Cert.ChannelsIdeal.τ).loc Cert.ChannelsIdeal.main_arg0) = m ((c.tc : Thread Cert.ChannelsIdeal.nD Cert.ChannelsIdeal.τ).loc Cert.ChannelsIdeal.main_arg0)
      ∧ r.2.mem ((c.tc : Thread Cert.ChannelsIdeal.nD Cert.ChannelsIdeal.τ).loc Cert.ChannelsIdeal.main_arg1) = m ((c.tc : Thread Cert.ChannelsIdeal.nD Cert.ChannelsIdeal.τ).loc Cert.ChannelsIdeal.main_arg1)
      ∧ r.2.mem ((c.tc : Thread Cert.ChannelsIdeal.nD Cert.ChannelsIdeal.τ).loc Cert.ChannelsIdeal.main_arg2) = m ((c.tc : Thread Cert.ChannelsIdeal.nD Cert.ChannelsIdeal.τ).loc Cert.ChannelsIdeal.main_arg2)
      ∧ r.2.mem ((c.tc : Thread Cert.ChannelsIdeal.nD Cert.ChannelsIdeal.τ).loc Cert.ChannelsIdeal.main_arg3) = m ((c.tc : Thread Cert.ChannelsIdeal.nD Cert.ChannelsIdeal.τ).loc Cert.ChannelsIdeal.main_arg3))
      ∧ r.2.sem = fun _ => 0)

def quiescent_ChannelsRefIdeal [hChannelsRefIdeal : Cert.ChannelsRefIdeal.Facts] : Prop :=
  ∀ (m : (ℓ : Loc Cert.ChannelsRefIdeal.nD Cert.ChannelsRefIdeal.τ Cert.ChannelsRefIdeal.sig) → Buf (Elt Ideal) ℓ) (g : Dev Cert.ChannelsRefIdeal.nD → PrngReg), Pre_ChannelsRefIdeal m →
    θ_run (Cert.ChannelsRefIdeal.defs (F := Ideal)) (onTc (τ := Cert.ChannelsRefIdeal.τ) (Cert.ChannelsRefIdeal.main (F := Ideal))) ⟨m, fun _ => 0, g⟩ (fun r => (∀ c : Dev Cert.ChannelsRefIdeal.nD,
      r.2.mem ((c.tc : Thread Cert.ChannelsRefIdeal.nD Cert.ChannelsRefIdeal.τ).loc Cert.ChannelsRefIdeal.main_arg0) = m ((c.tc : Thread Cert.ChannelsRefIdeal.nD Cert.ChannelsRefIdeal.τ).loc Cert.ChannelsRefIdeal.main_arg0)
      ∧ r.2.mem ((c.tc : Thread Cert.ChannelsRefIdeal.nD Cert.ChannelsRefIdeal.τ).loc Cert.ChannelsRefIdeal.main_arg1) = m ((c.tc : Thread Cert.ChannelsRefIdeal.nD Cert.ChannelsRefIdeal.τ).loc Cert.ChannelsRefIdeal.main_arg1)
      ∧ r.2.mem ((c.tc : Thread Cert.ChannelsRefIdeal.nD Cert.ChannelsRefIdeal.τ).loc Cert.ChannelsRefIdeal.main_arg2) = m ((c.tc : Thread Cert.ChannelsRefIdeal.nD Cert.ChannelsRefIdeal.τ).loc Cert.ChannelsRefIdeal.main_arg2)
      ∧ r.2.mem ((c.tc : Thread Cert.ChannelsRefIdeal.nD Cert.ChannelsRefIdeal.τ).loc Cert.ChannelsRefIdeal.main_arg3) = m ((c.tc : Thread Cert.ChannelsRefIdeal.nD Cert.ChannelsRefIdeal.τ).loc Cert.ChannelsRefIdeal.main_arg3))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2)
      ∧ r.2.mem ((c.tc : Thread Cert.Prenorm.nD Cert.Prenorm.τ).loc Cert.Prenorm.main_arg3) = m ((c.tc : Thread Cert.Prenorm.nD Cert.Prenorm.τ).loc Cert.Prenorm.main_arg3))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
      ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1)
      ∧ r.2.mem ((c.tc : Thread Cert.PrenormRefIdeal.nD Cert.PrenormRefIdeal.τ).loc Cert.PrenormRefIdeal.main_arg2) = m ((c.tc : Thread Cert.PrenormRefIdeal.nD Cert.PrenormRefIdeal.τ).loc Cert.PrenormRefIdeal.main_arg2)
      ∧ r.2.mem ((c.tc : Thread Cert.PrenormRefIdeal.nD Cert.PrenormRefIdeal.τ).loc Cert.PrenormRefIdeal.main_arg3) = m ((c.tc : Thread Cert.PrenormRefIdeal.nD Cert.PrenormRefIdeal.τ).loc Cert.PrenormRefIdeal.main_arg3))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3)
      ∧ r.2.mem ((c.tc : Thread Cert.Rope.nD Cert.Rope.τ).loc Cert.Rope.main_arg4) = m ((c.tc : Thread Cert.Rope.nD Cert.Rope.τ).loc Cert.Rope.main_arg4)
      ∧ r.2.mem ((c.tc : Thread Cert.Rope.nD Cert.Rope.τ).loc Cert.Rope.main_arg5) = m ((c.tc : Thread Cert.Rope.nD Cert.Rope.τ).loc Cert.Rope.main_arg5)
      ∧ r.2.mem ((c.tc : Thread Cert.Rope.nD Cert.Rope.τ).loc Cert.Rope.main_arg6) = m ((c.tc : Thread Cert.Rope.nD Cert.Rope.τ).loc Cert.Rope.main_arg6))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
      ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4)
      ∧ r.2.mem ((c.tc : Thread Cert.RopeIdeal.nD Cert.RopeIdeal.τ).loc Cert.RopeIdeal.main_arg5) = m ((c.tc : Thread Cert.RopeIdeal.nD Cert.RopeIdeal.τ).loc Cert.RopeIdeal.main_arg5)
      ∧ r.2.mem ((c.tc : Thread Cert.RopeIdeal.nD Cert.RopeIdeal.τ).loc Cert.RopeIdeal.main_arg6) = m ((c.tc : Thread Cert.RopeIdeal.nD Cert.RopeIdeal.τ).loc Cert.RopeIdeal.main_arg6))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2)
      ∧ r.2.mem ((c.tc : Thread Cert.RopeRefIdeal.nD Cert.RopeRefIdeal.τ).loc Cert.RopeRefIdeal.main_arg3) = m ((c.tc : Thread Cert.RopeRefIdeal.nD Cert.RopeRefIdeal.τ).loc Cert.RopeRefIdeal.main_arg3)
      ∧ r.2.mem ((c.tc : Thread Cert.RopeRefIdeal.nD Cert.RopeRefIdeal.τ).loc Cert.RopeRefIdeal.main_arg4) = m ((c.tc : Thread Cert.RopeRefIdeal.nD Cert.RopeRefIdeal.τ).loc Cert.RopeRefIdeal.main_arg4)
      ∧ r.2.mem ((c.tc : Thread Cert.RopeRefIdeal.nD Cert.RopeRefIdeal.τ).loc Cert.RopeRefIdeal.main_arg5) = m ((c.tc : Thread Cert.RopeRefIdeal.nD Cert.RopeRefIdeal.τ).loc Cert.RopeRefIdeal.main_arg5)
      ∧ r.2.mem ((c.tc : Thread Cert.RopeRefIdeal.nD Cert.RopeRefIdeal.τ).loc Cert.RopeRefIdeal.main_arg6) = m ((c.tc : Thread Cert.RopeRefIdeal.nD Cert.RopeRefIdeal.τ).loc Cert.RopeRefIdeal.main_arg6))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v2)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v2) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v60) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5))

def preserves_Time_TimeIdeal : Prop :=
  True

def algebraic_TimeIdeal_TimeRefIdeal [hTimeIdeal : Cert.TimeIdeal.Facts] [hTimeRefIdeal : Cert.TimeRefIdeal.Facts] : Prop :=
  ∀ (m : (ℓ : Loc Cert.TimeIdeal.nD Cert.TimeIdeal.τ Cert.TimeIdeal.sig) → Buf (Elt Ideal) ℓ) (g : Dev Cert.TimeIdeal.nD → PrngReg)
    (m' : (ℓ : Loc Cert.TimeRefIdeal.nD Cert.TimeRefIdeal.τ Cert.TimeRefIdeal.sig) → Buf (Elt Ideal) ℓ) (g' : Dev Cert.TimeRefIdeal.nD → PrngReg), Pre_TimeIdeal m →
    (∀ c : Dev Cert.TimeIdeal.nD,
      m' ((c.tc : Thread Cert.TimeRefIdeal.nD Cert.TimeRefIdeal.τ).loc Cert.TimeRefIdeal.main_arg0) = m ((c.tc : Thread Cert.TimeIdeal.nD Cert.TimeIdeal.τ).loc Cert.TimeIdeal.main_arg0)
      ∧ m' ((c.tc : Thread Cert.TimeRefIdeal.nD Cert.TimeRefIdeal.τ).loc Cert.TimeRefIdeal.main_arg1) = m ((c.tc : Thread Cert.TimeIdeal.nD Cert.TimeIdeal.τ).loc Cert.TimeIdeal.main_arg1)
      ∧ m' ((c.tc : Thread Cert.TimeRefIdeal.nD Cert.TimeRefIdeal.τ).loc Cert.TimeRefIdeal.main_arg2) = m ((c.tc : Thread Cert.TimeIdeal.nD Cert.TimeIdeal.τ).loc Cert.TimeIdeal.main_arg2)) →
    ∃ (v0 : (c : Dev Cert.TimeIdeal.nD) → Buf (Elt Ideal) ((c.tc : Thread Cert.TimeIdeal.nD Cert.TimeIdeal.τ).loc Cert.TimeIdeal.main_v0)),
      θ_run (Cert.TimeIdeal.defs (F := Ideal)) (onTc (τ := Cert.TimeIdeal.τ) (Cert.TimeIdeal.main (F := Ideal))) ⟨m, fun _ => 0, g⟩ (fun r => ∀ c : Dev Cert.TimeIdeal.nD,
          r.2.mem ((c.tc : Thread Cert.TimeIdeal.nD Cert.TimeIdeal.τ).loc Cert.TimeIdeal.main_v0) = v0 c
          ∧ r.2.mem ((c.tc : Thread Cert.TimeIdeal.nD Cert.TimeIdeal.τ).loc Cert.TimeIdeal.main_arg0) = m ((c.tc : Thread Cert.TimeIdeal.nD Cert.TimeIdeal.τ).loc Cert.TimeIdeal.main_arg0)
          ∧ r.2.mem ((c.tc : Thread Cert.TimeIdeal.nD Cert.TimeIdeal.τ).loc Cert.TimeIdeal.main_arg1) = m ((c.tc : Thread Cert.TimeIdeal.nD Cert.TimeIdeal.τ).loc Cert.TimeIdeal.main_arg1)
          ∧ r.2.mem ((c.tc : Thread Cert.TimeIdeal.nD Cert.TimeIdeal.τ).loc Cert.TimeIdeal.main_arg2) = m ((c.tc : Thread Cert.TimeIdeal.nD Cert.TimeIdeal.τ).loc Cert.TimeIdeal.main_arg2))
      ∧ θ_run (Cert.TimeRefIdeal.defs (F := Ideal)) (onTc (τ := Cert.TimeRefIdeal.τ) (Cert.TimeRefIdeal.main (F := Ideal))) ⟨m', fun _ => 0, g'⟩ (fun r => ∀ c : Dev Cert.TimeRefIdeal.nD,
          r.2.mem ((c.tc : Thread Cert.TimeRefIdeal.nD Cert.TimeRefIdeal.τ).loc Cert.TimeRefIdeal.main_v10) = v0 c
          ∧ r.2.mem ((c.tc : Thread Cert.TimeRefIdeal.nD Cert.TimeRefIdeal.τ).loc Cert.TimeRefIdeal.main_arg0) = m' ((c.tc : Thread Cert.TimeRefIdeal.nD Cert.TimeRefIdeal.τ).loc Cert.TimeRefIdeal.main_arg0)
          ∧ r.2.mem ((c.tc : Thread Cert.TimeRefIdeal.nD Cert.TimeRefIdeal.τ).loc Cert.TimeRefIdeal.main_arg1) = m' ((c.tc : Thread Cert.TimeRefIdeal.nD Cert.TimeRefIdeal.τ).loc Cert.TimeRefIdeal.main_arg1)
          ∧ r.2.mem ((c.tc : Thread Cert.TimeRefIdeal.nD Cert.TimeRefIdeal.τ).loc Cert.TimeRefIdeal.main_arg2) = m' ((c.tc : Thread Cert.TimeRefIdeal.nD Cert.TimeRefIdeal.τ).loc Cert.TimeRefIdeal.main_arg2))

def preserves_Close_CloseIdeal : Prop :=
  True

def algebraic_CloseIdeal_CloseRefIdeal [hCloseIdeal : Cert.CloseIdeal.Facts] [hCloseRefIdeal : Cert.CloseRefIdeal.Facts] : Prop :=
  ∀ (m : (ℓ : Loc Cert.CloseIdeal.nD Cert.CloseIdeal.τ Cert.CloseIdeal.sig) → Buf (Elt Ideal) ℓ) (g : Dev Cert.CloseIdeal.nD → PrngReg)
    (m' : (ℓ : Loc Cert.CloseRefIdeal.nD Cert.CloseRefIdeal.τ Cert.CloseRefIdeal.sig) → Buf (Elt Ideal) ℓ) (g' : Dev Cert.CloseRefIdeal.nD → PrngReg), Pre_CloseIdeal m →
    (∀ c : Dev Cert.CloseIdeal.nD,
      m' ((c.tc : Thread Cert.CloseRefIdeal.nD Cert.CloseRefIdeal.τ).loc Cert.CloseRefIdeal.main_arg0) = m ((c.tc : Thread Cert.CloseIdeal.nD Cert.CloseIdeal.τ).loc Cert.CloseIdeal.main_arg0)
      ∧ m' ((c.tc : Thread Cert.CloseRefIdeal.nD Cert.CloseRefIdeal.τ).loc Cert.CloseRefIdeal.main_arg1) = m ((c.tc : Thread Cert.CloseIdeal.nD Cert.CloseIdeal.τ).loc Cert.CloseIdeal.main_arg1)
      ∧ m' ((c.tc : Thread Cert.CloseRefIdeal.nD Cert.CloseRefIdeal.τ).loc Cert.CloseRefIdeal.main_arg2) = m ((c.tc : Thread Cert.CloseIdeal.nD Cert.CloseIdeal.τ).loc Cert.CloseIdeal.main_arg2)
      ∧ m' ((c.tc : Thread Cert.CloseRefIdeal.nD Cert.CloseRefIdeal.τ).loc Cert.CloseRefIdeal.main_arg3) = m ((c.tc : Thread Cert.CloseIdeal.nD Cert.CloseIdeal.τ).loc Cert.CloseIdeal.main_arg3)
      ∧ m' ((c.tc : Thread Cert.CloseRefIdeal.nD Cert.CloseRefIdeal.τ).loc Cert.CloseRefIdeal.main_arg4) = m ((c.tc : Thread Cert.CloseIdeal.nD Cert.CloseIdeal.τ).loc Cert.CloseIdeal.main_arg4)
      ∧ m' ((c.tc : Thread Cert.CloseRefIdeal.nD Cert.CloseRefIdeal.τ).loc Cert.CloseRefIdeal.main_arg5) = m ((c.tc : Thread Cert.CloseIdeal.nD Cert.CloseIdeal.τ).loc Cert.CloseIdeal.main_arg5)
      ∧ m' ((c.tc : Thread Cert.CloseRefIdeal.nD Cert.CloseRefIdeal.τ).loc Cert.CloseRefIdeal.main_arg6) = m ((c.tc : Thread Cert.CloseIdeal.nD Cert.CloseIdeal.τ).loc Cert.CloseIdeal.main_arg6)) →
    ∃ (v0 : (c : Dev Cert.CloseIdeal.nD) → Buf (Elt Ideal) ((c.tc : Thread Cert.CloseIdeal.nD Cert.CloseIdeal.τ).loc Cert.CloseIdeal.main_v1_0)) (v1 : (c : Dev Cert.CloseIdeal.nD) → Buf (Elt Ideal) ((c.tc : Thread Cert.CloseIdeal.nD Cert.CloseIdeal.τ).loc Cert.CloseIdeal.main_v1_1)) (v2 : (c : Dev Cert.CloseIdeal.nD) → Buf (Elt Ideal) ((c.tc : Thread Cert.CloseIdeal.nD Cert.CloseIdeal.τ).loc Cert.CloseIdeal.main_v1_2)),
      θ_run (Cert.CloseIdeal.defs (F := Ideal)) (onTc (τ := Cert.CloseIdeal.τ) (Cert.CloseIdeal.main (F := Ideal))) ⟨m, fun _ => 0, g⟩ (fun r => ∀ c : Dev Cert.CloseIdeal.nD,
          r.2.mem ((c.tc : Thread Cert.CloseIdeal.nD Cert.CloseIdeal.τ).loc Cert.CloseIdeal.main_v1_0) = v0 c
          ∧ r.2.mem ((c.tc : Thread Cert.CloseIdeal.nD Cert.CloseIdeal.τ).loc Cert.CloseIdeal.main_v1_1) = v1 c
          ∧ r.2.mem ((c.tc : Thread Cert.CloseIdeal.nD Cert.CloseIdeal.τ).loc Cert.CloseIdeal.main_v1_2) = v2 c
          ∧ r.2.mem ((c.tc : Thread Cert.CloseIdeal.nD Cert.CloseIdeal.τ).loc Cert.CloseIdeal.main_arg0) = m ((c.tc : Thread Cert.CloseIdeal.nD Cert.CloseIdeal.τ).loc Cert.CloseIdeal.main_arg0)
          ∧ r.2.mem ((c.tc : Thread Cert.CloseIdeal.nD Cert.CloseIdeal.τ).loc Cert.CloseIdeal.main_arg1) = m ((c.tc : Thread Cert.CloseIdeal.nD Cert.CloseIdeal.τ).loc Cert.CloseIdeal.main_arg1)
          ∧ r.2.mem ((c.tc : Thread Cert.CloseIdeal.nD Cert.CloseIdeal.τ).loc Cert.CloseIdeal.main_arg2) = m ((c.tc : Thread Cert.CloseIdeal.nD Cert.CloseIdeal.τ).loc Cert.CloseIdeal.main_arg2)
          ∧ r.2.mem ((c.tc : Thread Cert.CloseIdeal.nD Cert.CloseIdeal.τ).loc Cert.CloseIdeal.main_arg3) = m ((c.tc : Thread Cert.CloseIdeal.nD Cert.CloseIdeal.τ).loc Cert.CloseIdeal.main_arg3)
          ∧ r.2.mem ((c.tc : Thread Cert.CloseIdeal.nD Cert.CloseIdeal.τ).loc Cert.CloseIdeal.main_arg4) = m ((c.tc : Thread Cert.CloseIdeal.nD Cert.CloseIdeal.τ).loc Cert.CloseIdeal.main_arg4)
          ∧ r.2.mem ((c.tc : Thread Cert.CloseIdeal.nD Cert.CloseIdeal.τ).loc Cert.CloseIdeal.main_arg5) = m ((c.tc : Thread Cert.CloseIdeal.nD Cert.CloseIdeal.τ).loc Cert.CloseIdeal.main_arg5)
          ∧ r.2.mem ((c.tc : Thread Cert.CloseIdeal.nD Cert.CloseIdeal.τ).loc Cert.CloseIdeal.main_arg6) = m ((c.tc : Thread Cert.CloseIdeal.nD Cert.CloseIdeal.τ).loc Cert.CloseIdeal.main_arg6))
      ∧ θ_run (Cert.CloseRefIdeal.defs (F := Ideal)) (onTc (τ := Cert.CloseRefIdeal.τ) (Cert.CloseRefIdeal.main (F := Ideal))) ⟨m', fun _ => 0, g'⟩ (fun r => ∀ c : Dev Cert.CloseRefIdeal.nD,
          r.2.mem ((c.tc : Thread Cert.CloseRefIdeal.nD Cert.CloseRefIdeal.τ).loc Cert.CloseRefIdeal.main_v47) = v0 c
          ∧ r.2.mem ((c.tc : Thread Cert.CloseRefIdeal.nD Cert.CloseRefIdeal.τ).loc Cert.CloseRefIdeal.main_v50) = v1 c
          ∧ r.2.mem ((c.tc : Thread Cert.CloseRefIdeal.nD Cert.CloseRefIdeal.τ).loc Cert.CloseRefIdeal.main_v53) = v2 c
          ∧ r.2.mem ((c.tc : Thread Cert.CloseRefIdeal.nD Cert.CloseRefIdeal.τ).loc Cert.CloseRefIdeal.main_arg0) = m' ((c.tc : Thread Cert.CloseRefIdeal.nD Cert.CloseRefIdeal.τ).loc Cert.CloseRefIdeal.main_arg0)
          ∧ r.2.mem ((c.tc : Thread Cert.CloseRefIdeal.nD Cert.CloseRefIdeal.τ).loc Cert.CloseRefIdeal.main_arg1) = m' ((c.tc : Thread Cert.CloseRefIdeal.nD Cert.CloseRefIdeal.τ).loc Cert.CloseRefIdeal.main_arg1)
          ∧ r.2.mem ((c.tc : Thread Cert.CloseRefIdeal.nD Cert.CloseRefIdeal.τ).loc Cert.CloseRefIdeal.main_arg2) = m' ((c.tc : Thread Cert.CloseRefIdeal.nD Cert.CloseRefIdeal.τ).loc Cert.CloseRefIdeal.main_arg2)
          ∧ r.2.mem ((c.tc : Thread Cert.CloseRefIdeal.nD Cert.CloseRefIdeal.τ).loc Cert.CloseRefIdeal.main_arg3) = m' ((c.tc : Thread Cert.CloseRefIdeal.nD Cert.CloseRefIdeal.τ).loc Cert.CloseRefIdeal.main_arg3)
          ∧ r.2.mem ((c.tc : Thread Cert.CloseRefIdeal.nD Cert.CloseRefIdeal.τ).loc Cert.CloseRefIdeal.main_arg4) = m' ((c.tc : Thread Cert.CloseRefIdeal.nD Cert.CloseRefIdeal.τ).loc Cert.CloseRefIdeal.main_arg4)
          ∧ r.2.mem ((c.tc : Thread Cert.CloseRefIdeal.nD Cert.CloseRefIdeal.τ).loc Cert.CloseRefIdeal.main_arg5) = m' ((c.tc : Thread Cert.CloseRefIdeal.nD Cert.CloseRefIdeal.τ).loc Cert.CloseRefIdeal.main_arg5)
          ∧ r.2.mem ((c.tc : Thread Cert.CloseRefIdeal.nD Cert.CloseRefIdeal.τ).loc Cert.CloseRefIdeal.main_arg6) = m' ((c.tc : Thread Cert.CloseRefIdeal.nD Cert.CloseRefIdeal.τ).loc Cert.CloseRefIdeal.main_arg6))

def preserves_Open_OpenIdeal : Prop :=
  True

def algebraic_OpenIdeal_OpenRefIdeal [hOpenIdeal : Cert.OpenIdeal.Facts] [hOpenRefIdeal : Cert.OpenRefIdeal.Facts] : Prop :=
  ∀ (m : (ℓ : Loc Cert.OpenIdeal.nD Cert.OpenIdeal.τ Cert.OpenIdeal.sig) → Buf (Elt Ideal) ℓ) (g : Dev Cert.OpenIdeal.nD → PrngReg)
    (m' : (ℓ : Loc Cert.OpenRefIdeal.nD Cert.OpenRefIdeal.τ Cert.OpenRefIdeal.sig) → Buf (Elt Ideal) ℓ) (g' : Dev Cert.OpenRefIdeal.nD → PrngReg), Pre_OpenIdeal m →
    (∀ c : Dev Cert.OpenIdeal.nD,
      m' ((c.tc : Thread Cert.OpenRefIdeal.nD Cert.OpenRefIdeal.τ).loc Cert.OpenRefIdeal.main_arg0) = m ((c.tc : Thread Cert.OpenIdeal.nD Cert.OpenIdeal.τ).loc Cert.OpenIdeal.main_arg0)
      ∧ m' ((c.tc : Thread Cert.OpenRefIdeal.nD Cert.OpenRefIdeal.τ).loc Cert.OpenRefIdeal.main_arg1) = m ((c.tc : Thread Cert.OpenIdeal.nD Cert.OpenIdeal.τ).loc Cert.OpenIdeal.main_arg1)
      ∧ m' ((c.tc : Thread Cert.OpenRefIdeal.nD Cert.OpenRefIdeal.τ).loc Cert.OpenRefIdeal.main_arg2) = m ((c.tc : Thread Cert.OpenIdeal.nD Cert.OpenIdeal.τ).loc Cert.OpenIdeal.main_arg2)
      ∧ m' ((c.tc : Thread Cert.OpenRefIdeal.nD Cert.OpenRefIdeal.τ).loc Cert.OpenRefIdeal.main_arg3) = m ((c.tc : Thread Cert.OpenIdeal.nD Cert.OpenIdeal.τ).loc Cert.OpenIdeal.main_arg3)
      ∧ m' ((c.tc : Thread Cert.OpenRefIdeal.nD Cert.OpenRefIdeal.τ).loc Cert.OpenRefIdeal.main_arg4) = m ((c.tc : Thread Cert.OpenIdeal.nD Cert.OpenIdeal.τ).loc Cert.OpenIdeal.main_arg4)
      ∧ m' ((c.tc : Thread Cert.OpenRefIdeal.nD Cert.OpenRefIdeal.τ).loc Cert.OpenRefIdeal.main_arg5) = m ((c.tc : Thread Cert.OpenIdeal.nD Cert.OpenIdeal.τ).loc Cert.OpenIdeal.main_arg5)
      ∧ m' ((c.tc : Thread Cert.OpenRefIdeal.nD Cert.OpenRefIdeal.τ).loc Cert.OpenRefIdeal.main_arg6) = m ((c.tc : Thread Cert.OpenIdeal.nD Cert.OpenIdeal.τ).loc Cert.OpenIdeal.main_arg6)) →
    ∃ (v0 : (c : Dev Cert.OpenIdeal.nD) → Buf (Elt Ideal) ((c.tc : Thread Cert.OpenIdeal.nD Cert.OpenIdeal.τ).loc Cert.OpenIdeal.main_v1_0)) (v1 : (c : Dev Cert.OpenIdeal.nD) → Buf (Elt Ideal) ((c.tc : Thread Cert.OpenIdeal.nD Cert.OpenIdeal.τ).loc Cert.OpenIdeal.main_v1_1)) (v2 : (c : Dev Cert.OpenIdeal.nD) → Buf (Elt Ideal) ((c.tc : Thread Cert.OpenIdeal.nD Cert.OpenIdeal.τ).loc Cert.OpenIdeal.main_v1_2)),
      θ_run (Cert.OpenIdeal.defs (F := Ideal)) (onTc (τ := Cert.OpenIdeal.τ) (Cert.OpenIdeal.main (F := Ideal))) ⟨m, fun _ => 0, g⟩ (fun r => ∀ c : Dev Cert.OpenIdeal.nD,
          r.2.mem ((c.tc : Thread Cert.OpenIdeal.nD Cert.OpenIdeal.τ).loc Cert.OpenIdeal.main_v1_0) = v0 c
          ∧ r.2.mem ((c.tc : Thread Cert.OpenIdeal.nD Cert.OpenIdeal.τ).loc Cert.OpenIdeal.main_v1_1) = v1 c
          ∧ r.2.mem ((c.tc : Thread Cert.OpenIdeal.nD Cert.OpenIdeal.τ).loc Cert.OpenIdeal.main_v1_2) = v2 c
          ∧ r.2.mem ((c.tc : Thread Cert.OpenIdeal.nD Cert.OpenIdeal.τ).loc Cert.OpenIdeal.main_arg0) = m ((c.tc : Thread Cert.OpenIdeal.nD Cert.OpenIdeal.τ).loc Cert.OpenIdeal.main_arg0)
          ∧ r.2.mem ((c.tc : Thread Cert.OpenIdeal.nD Cert.OpenIdeal.τ).loc Cert.OpenIdeal.main_arg1) = m ((c.tc : Thread Cert.OpenIdeal.nD Cert.OpenIdeal.τ).loc Cert.OpenIdeal.main_arg1)
          ∧ r.2.mem ((c.tc : Thread Cert.OpenIdeal.nD Cert.OpenIdeal.τ).loc Cert.OpenIdeal.main_arg2) = m ((c.tc : Thread Cert.OpenIdeal.nD Cert.OpenIdeal.τ).loc Cert.OpenIdeal.main_arg2)
          ∧ r.2.mem ((c.tc : Thread Cert.OpenIdeal.nD Cert.OpenIdeal.τ).loc Cert.OpenIdeal.main_arg3) = m ((c.tc : Thread Cert.OpenIdeal.nD Cert.OpenIdeal.τ).loc Cert.OpenIdeal.main_arg3)
          ∧ r.2.mem ((c.tc : Thread Cert.OpenIdeal.nD Cert.OpenIdeal.τ).loc Cert.OpenIdeal.main_arg4) = m ((c.tc : Thread Cert.OpenIdeal.nD Cert.OpenIdeal.τ).loc Cert.OpenIdeal.main_arg4)
          ∧ r.2.mem ((c.tc : Thread Cert.OpenIdeal.nD Cert.OpenIdeal.τ).loc Cert.OpenIdeal.main_arg5) = m ((c.tc : Thread Cert.OpenIdeal.nD Cert.OpenIdeal.τ).loc Cert.OpenIdeal.main_arg5)
          ∧ r.2.mem ((c.tc : Thread Cert.OpenIdeal.nD Cert.OpenIdeal.τ).loc Cert.OpenIdeal.main_arg6) = m ((c.tc : Thread Cert.OpenIdeal.nD Cert.OpenIdeal.τ).loc Cert.OpenIdeal.main_arg6))
      ∧ θ_run (Cert.OpenRefIdeal.defs (F := Ideal)) (onTc (τ := Cert.OpenRefIdeal.τ) (Cert.OpenRefIdeal.main (F := Ideal))) ⟨m', fun _ => 0, g'⟩ (fun r => ∀ c : Dev Cert.OpenRefIdeal.nD,
          r.2.mem ((c.tc : Thread Cert.OpenRefIdeal.nD Cert.OpenRefIdeal.τ).loc Cert.OpenRefIdeal.main_v47) = v0 c
          ∧ r.2.mem ((c.tc : Thread Cert.OpenRefIdeal.nD Cert.OpenRefIdeal.τ).loc Cert.OpenRefIdeal.main_v50) = v1 c
          ∧ r.2.mem ((c.tc : Thread Cert.OpenRefIdeal.nD Cert.OpenRefIdeal.τ).loc Cert.OpenRefIdeal.main_v53) = v2 c
          ∧ r.2.mem ((c.tc : Thread Cert.OpenRefIdeal.nD Cert.OpenRefIdeal.τ).loc Cert.OpenRefIdeal.main_arg0) = m' ((c.tc : Thread Cert.OpenRefIdeal.nD Cert.OpenRefIdeal.τ).loc Cert.OpenRefIdeal.main_arg0)
          ∧ r.2.mem ((c.tc : Thread Cert.OpenRefIdeal.nD Cert.OpenRefIdeal.τ).loc Cert.OpenRefIdeal.main_arg1) = m' ((c.tc : Thread Cert.OpenRefIdeal.nD Cert.OpenRefIdeal.τ).loc Cert.OpenRefIdeal.main_arg1)
          ∧ r.2.mem ((c.tc : Thread Cert.OpenRefIdeal.nD Cert.OpenRefIdeal.τ).loc Cert.OpenRefIdeal.main_arg2) = m' ((c.tc : Thread Cert.OpenRefIdeal.nD Cert.OpenRefIdeal.τ).loc Cert.OpenRefIdeal.main_arg2)
          ∧ r.2.mem ((c.tc : Thread Cert.OpenRefIdeal.nD Cert.OpenRefIdeal.τ).loc Cert.OpenRefIdeal.main_arg3) = m' ((c.tc : Thread Cert.OpenRefIdeal.nD Cert.OpenRefIdeal.τ).loc Cert.OpenRefIdeal.main_arg3)
          ∧ r.2.mem ((c.tc : Thread Cert.OpenRefIdeal.nD Cert.OpenRefIdeal.τ).loc Cert.OpenRefIdeal.main_arg4) = m' ((c.tc : Thread Cert.OpenRefIdeal.nD Cert.OpenRefIdeal.τ).loc Cert.OpenRefIdeal.main_arg4)
          ∧ r.2.mem ((c.tc : Thread Cert.OpenRefIdeal.nD Cert.OpenRefIdeal.τ).loc Cert.OpenRefIdeal.main_arg5) = m' ((c.tc : Thread Cert.OpenRefIdeal.nD Cert.OpenRefIdeal.τ).loc Cert.OpenRefIdeal.main_arg5)
          ∧ r.2.mem ((c.tc : Thread Cert.OpenRefIdeal.nD Cert.OpenRefIdeal.τ).loc Cert.OpenRefIdeal.main_arg6) = m' ((c.tc : Thread Cert.OpenRefIdeal.nD Cert.OpenRefIdeal.τ).loc Cert.OpenRefIdeal.main_arg6))

def preserves_Enter_EnterIdeal : Prop :=
  True

def algebraic_EnterIdeal_EnterRefIdeal [hEnterIdeal : Cert.EnterIdeal.Facts] [hEnterRefIdeal : Cert.EnterRefIdeal.Facts] : Prop :=
  ∀ (m : (ℓ : Loc Cert.EnterIdeal.nD Cert.EnterIdeal.τ Cert.EnterIdeal.sig) → Buf (Elt Ideal) ℓ) (g : Dev Cert.EnterIdeal.nD → PrngReg)
    (m' : (ℓ : Loc Cert.EnterRefIdeal.nD Cert.EnterRefIdeal.τ Cert.EnterRefIdeal.sig) → Buf (Elt Ideal) ℓ) (g' : Dev Cert.EnterRefIdeal.nD → PrngReg), Pre_EnterIdeal m →
    (∀ c : Dev Cert.EnterIdeal.nD,
      m' ((c.tc : Thread Cert.EnterRefIdeal.nD Cert.EnterRefIdeal.τ).loc Cert.EnterRefIdeal.main_arg0) = m ((c.tc : Thread Cert.EnterIdeal.nD Cert.EnterIdeal.τ).loc Cert.EnterIdeal.main_arg0)
      ∧ m' ((c.tc : Thread Cert.EnterRefIdeal.nD Cert.EnterRefIdeal.τ).loc Cert.EnterRefIdeal.main_arg1) = m ((c.tc : Thread Cert.EnterIdeal.nD Cert.EnterIdeal.τ).loc Cert.EnterIdeal.main_arg1)
      ∧ m' ((c.tc : Thread Cert.EnterRefIdeal.nD Cert.EnterRefIdeal.τ).loc Cert.EnterRefIdeal.main_arg2) = m ((c.tc : Thread Cert.EnterIdeal.nD Cert.EnterIdeal.τ).loc Cert.EnterIdeal.main_arg2)
      ∧ m' ((c.tc : Thread Cert.EnterRefIdeal.nD Cert.EnterRefIdeal.τ).loc Cert.EnterRefIdeal.main_arg3) = m ((c.tc : Thread Cert.EnterIdeal.nD Cert.EnterIdeal.τ).loc Cert.EnterIdeal.main_arg3)
      ∧ m' ((c.tc : Thread Cert.EnterRefIdeal.nD Cert.EnterRefIdeal.τ).loc Cert.EnterRefIdeal.main_arg4) = m ((c.tc : Thread Cert.EnterIdeal.nD Cert.EnterIdeal.τ).loc Cert.EnterIdeal.main_arg4)
      ∧ m' ((c.tc : Thread Cert.EnterRefIdeal.nD Cert.EnterRefIdeal.τ).loc Cert.EnterRefIdeal.main_arg5) = m ((c.tc : Thread Cert.EnterIdeal.nD Cert.EnterIdeal.τ).loc Cert.EnterIdeal.main_arg5)
      ∧ m' ((c.tc : Thread Cert.EnterRefIdeal.nD Cert.EnterRefIdeal.τ).loc Cert.EnterRefIdeal.main_arg6) = m ((c.tc : Thread Cert.EnterIdeal.nD Cert.EnterIdeal.τ).loc Cert.EnterIdeal.main_arg6)
      ∧ m' ((c.tc : Thread Cert.EnterRefIdeal.nD Cert.EnterRefIdeal.τ).loc Cert.EnterRefIdeal.main_arg7) = m ((c.tc : Thread Cert.EnterIdeal.nD Cert.EnterIdeal.τ).loc Cert.EnterIdeal.main_arg7)
      ∧ m' ((c.tc : Thread Cert.EnterRefIdeal.nD Cert.EnterRefIdeal.τ).loc Cert.EnterRefIdeal.main_arg8) = m ((c.tc : Thread Cert.EnterIdeal.nD Cert.EnterIdeal.τ).loc Cert.EnterIdeal.main_arg8)
      ∧ m' ((c.tc : Thread Cert.EnterRefIdeal.nD Cert.EnterRefIdeal.τ).loc Cert.EnterRefIdeal.main_arg9) = m ((c.tc : Thread Cert.EnterIdeal.nD Cert.EnterIdeal.τ).loc Cert.EnterIdeal.main_arg9)) →
    ∃ (v0 : (c : Dev Cert.EnterIdeal.nD) → Buf (Elt Ideal) ((c.tc : Thread Cert.EnterIdeal.nD Cert.EnterIdeal.τ).loc Cert.EnterIdeal.main_v1_0)) (v1 : (c : Dev Cert.EnterIdeal.nD) → Buf (Elt Ideal) ((c.tc : Thread Cert.EnterIdeal.nD Cert.EnterIdeal.τ).loc Cert.EnterIdeal.main_v1_1)) (v2 : (c : Dev Cert.EnterIdeal.nD) → Buf (Elt Ideal) ((c.tc : Thread Cert.EnterIdeal.nD Cert.EnterIdeal.τ).loc Cert.EnterIdeal.main_v1_2)) (v3 : (c : Dev Cert.EnterIdeal.nD) → Buf (Elt Ideal) ((c.tc : Thread Cert.EnterIdeal.nD Cert.EnterIdeal.τ).loc Cert.EnterIdeal.main_v1_3)),
      θ_run (Cert.EnterIdeal.defs (F := Ideal)) (onTc (τ := Cert.EnterIdeal.τ) (Cert.EnterIdeal.main (F := Ideal))) ⟨m, fun _ => 0, g⟩ (fun r => ∀ c : Dev Cert.EnterIdeal.nD,
          r.2.mem ((c.tc : Thread Cert.EnterIdeal.nD Cert.EnterIdeal.τ).loc Cert.EnterIdeal.main_v1_0) = v0 c
          ∧ r.2.mem ((c.tc : Thread Cert.EnterIdeal.nD Cert.EnterIdeal.τ).loc Cert.EnterIdeal.main_v1_1) = v1 c
          ∧ r.2.mem ((c.tc : Thread Cert.EnterIdeal.nD Cert.EnterIdeal.τ).loc Cert.EnterIdeal.main_v1_2) = v2 c
          ∧ r.2.mem ((c.tc : Thread Cert.EnterIdeal.nD Cert.EnterIdeal.τ).loc Cert.EnterIdeal.main_v1_3) = v3 c
          ∧ r.2.mem ((c.tc : Thread Cert.EnterIdeal.nD Cert.EnterIdeal.τ).loc Cert.EnterIdeal.main_arg0) = m ((c.tc : Thread Cert.EnterIdeal.nD Cert.EnterIdeal.τ).loc Cert.EnterIdeal.main_arg0)
          ∧ r.2.mem ((c.tc : Thread Cert.EnterIdeal.nD Cert.EnterIdeal.τ).loc Cert.EnterIdeal.main_arg1) = m ((c.tc : Thread Cert.EnterIdeal.nD Cert.EnterIdeal.τ).loc Cert.EnterIdeal.main_arg1)
          ∧ r.2.mem ((c.tc : Thread Cert.EnterIdeal.nD Cert.EnterIdeal.τ).loc Cert.EnterIdeal.main_arg2) = m ((c.tc : Thread Cert.EnterIdeal.nD Cert.EnterIdeal.τ).loc Cert.EnterIdeal.main_arg2)
          ∧ r.2.mem ((c.tc : Thread Cert.EnterIdeal.nD Cert.EnterIdeal.τ).loc Cert.EnterIdeal.main_arg3) = m ((c.tc : Thread Cert.EnterIdeal.nD Cert.EnterIdeal.τ).loc Cert.EnterIdeal.main_arg3)
          ∧ r.2.mem ((c.tc : Thread Cert.EnterIdeal.nD Cert.EnterIdeal.τ).loc Cert.EnterIdeal.main_arg4) = m ((c.tc : Thread Cert.EnterIdeal.nD Cert.EnterIdeal.τ).loc Cert.EnterIdeal.main_arg4)
          ∧ r.2.mem ((c.tc : Thread Cert.EnterIdeal.nD Cert.EnterIdeal.τ).loc Cert.EnterIdeal.main_arg5) = m ((c.tc : Thread Cert.EnterIdeal.nD Cert.EnterIdeal.τ).loc Cert.EnterIdeal.main_arg5)
          ∧ r.2.mem ((c.tc : Thread Cert.EnterIdeal.nD Cert.EnterIdeal.τ).loc Cert.EnterIdeal.main_arg6) = m ((c.tc : Thread Cert.EnterIdeal.nD Cert.EnterIdeal.τ).loc Cert.EnterIdeal.main_arg6)
          ∧ r.2.mem ((c.tc : Thread Cert.EnterIdeal.nD Cert.EnterIdeal.τ).loc Cert.EnterIdeal.main_arg7) = m ((c.tc : Thread Cert.EnterIdeal.nD Cert.EnterIdeal.τ).loc Cert.EnterIdeal.main_arg7)
          ∧ r.2.mem ((c.tc : Thread Cert.EnterIdeal.nD Cert.EnterIdeal.τ).loc Cert.EnterIdeal.main_arg8) = m ((c.tc : Thread Cert.EnterIdeal.nD Cert.EnterIdeal.τ).loc Cert.EnterIdeal.main_arg8)
          ∧ r.2.mem ((c.tc : Thread Cert.EnterIdeal.nD Cert.EnterIdeal.τ).loc Cert.EnterIdeal.main_arg9) = m ((c.tc : Thread Cert.EnterIdeal.nD Cert.EnterIdeal.τ).loc Cert.EnterIdeal.main_arg9))
      ∧ θ_run (Cert.EnterRefIdeal.defs (F := Ideal)) (onTc (τ := Cert.EnterRefIdeal.τ) (Cert.EnterRefIdeal.main (F := Ideal))) ⟨m', fun _ => 0, g'⟩ (fun r => ∀ c : Dev Cert.EnterRefIdeal.nD,
          r.2.mem ((c.tc : Thread Cert.EnterRefIdeal.nD Cert.EnterRefIdeal.τ).loc Cert.EnterRefIdeal.main_v47) = v0 c
          ∧ r.2.mem ((c.tc : Thread Cert.EnterRefIdeal.nD Cert.EnterRefIdeal.τ).loc Cert.EnterRefIdeal.main_v64) = v1 c
          ∧ r.2.mem ((c.tc : Thread Cert.EnterRefIdeal.nD Cert.EnterRefIdeal.τ).loc Cert.EnterRefIdeal.main_v67) = v2 c
          ∧ r.2.mem ((c.tc : Thread Cert.EnterRefIdeal.nD Cert.EnterRefIdeal.τ).loc Cert.EnterRefIdeal.main_v69) = v3 c
          ∧ r.2.mem ((c.tc : Thread Cert.EnterRefIdeal.nD Cert.EnterRefIdeal.τ).loc Cert.EnterRefIdeal.main_arg0) = m' ((c.tc : Thread Cert.EnterRefIdeal.nD Cert.EnterRefIdeal.τ).loc Cert.EnterRefIdeal.main_arg0)
          ∧ r.2.mem ((c.tc : Thread Cert.EnterRefIdeal.nD Cert.EnterRefIdeal.τ).loc Cert.EnterRefIdeal.main_arg1) = m' ((c.tc : Thread Cert.EnterRefIdeal.nD Cert.EnterRefIdeal.τ).loc Cert.EnterRefIdeal.main_arg1)
          ∧ r.2.mem ((c.tc : Thread Cert.EnterRefIdeal.nD Cert.EnterRefIdeal.τ).loc Cert.EnterRefIdeal.main_arg2) = m' ((c.tc : Thread Cert.EnterRefIdeal.nD Cert.EnterRefIdeal.τ).loc Cert.EnterRefIdeal.main_arg2)
          ∧ r.2.mem ((c.tc : Thread Cert.EnterRefIdeal.nD Cert.EnterRefIdeal.τ).loc Cert.EnterRefIdeal.main_arg3) = m' ((c.tc : Thread Cert.EnterRefIdeal.nD Cert.EnterRefIdeal.τ).loc Cert.EnterRefIdeal.main_arg3)
          ∧ r.2.mem ((c.tc : Thread Cert.EnterRefIdeal.nD Cert.EnterRefIdeal.τ).loc Cert.EnterRefIdeal.main_arg4) = m' ((c.tc : Thread Cert.EnterRefIdeal.nD Cert.EnterRefIdeal.τ).loc Cert.EnterRefIdeal.main_arg4)
          ∧ r.2.mem ((c.tc : Thread Cert.EnterRefIdeal.nD Cert.EnterRefIdeal.τ).loc Cert.EnterRefIdeal.main_arg5) = m' ((c.tc : Thread Cert.EnterRefIdeal.nD Cert.EnterRefIdeal.τ).loc Cert.EnterRefIdeal.main_arg5)
          ∧ r.2.mem ((c.tc : Thread Cert.EnterRefIdeal.nD Cert.EnterRefIdeal.τ).loc Cert.EnterRefIdeal.main_arg6) = m' ((c.tc : Thread Cert.EnterRefIdeal.nD Cert.EnterRefIdeal.τ).loc Cert.EnterRefIdeal.main_arg6)
          ∧ r.2.mem ((c.tc : Thread Cert.EnterRefIdeal.nD Cert.EnterRefIdeal.τ).loc Cert.EnterRefIdeal.main_arg7) = m' ((c.tc : Thread Cert.EnterRefIdeal.nD Cert.EnterRefIdeal.τ).loc Cert.EnterRefIdeal.main_arg7)
          ∧ r.2.mem ((c.tc : Thread Cert.EnterRefIdeal.nD Cert.EnterRefIdeal.τ).loc Cert.EnterRefIdeal.main_arg8) = m' ((c.tc : Thread Cert.EnterRefIdeal.nD Cert.EnterRefIdeal.τ).loc Cert.EnterRefIdeal.main_arg8)
          ∧ r.2.mem ((c.tc : Thread Cert.EnterRefIdeal.nD Cert.EnterRefIdeal.τ).loc Cert.EnterRefIdeal.main_arg9) = m' ((c.tc : Thread Cert.EnterRefIdeal.nD Cert.EnterRefIdeal.τ).loc Cert.EnterRefIdeal.main_arg9))

def preserves_Context_ContextIdeal : Prop :=
  True

def algebraic_ContextIdeal_ContextRefIdeal [hContextIdeal : Cert.ContextIdeal.Facts] [hContextRefIdeal : Cert.ContextRefIdeal.Facts] : Prop :=
  ∀ (m : (ℓ : Loc Cert.ContextIdeal.nD Cert.ContextIdeal.τ Cert.ContextIdeal.sig) → Buf (Elt Ideal) ℓ) (g : Dev Cert.ContextIdeal.nD → PrngReg)
    (m' : (ℓ : Loc Cert.ContextRefIdeal.nD Cert.ContextRefIdeal.τ Cert.ContextRefIdeal.sig) → Buf (Elt Ideal) ℓ) (g' : Dev Cert.ContextRefIdeal.nD → PrngReg), Pre_ContextIdeal m →
    (∀ c : Dev Cert.ContextIdeal.nD,
      m' ((c.tc : Thread Cert.ContextRefIdeal.nD Cert.ContextRefIdeal.τ).loc Cert.ContextRefIdeal.main_arg0) = m ((c.tc : Thread Cert.ContextIdeal.nD Cert.ContextIdeal.τ).loc Cert.ContextIdeal.main_arg0)
      ∧ m' ((c.tc : Thread Cert.ContextRefIdeal.nD Cert.ContextRefIdeal.τ).loc Cert.ContextRefIdeal.main_arg1) = m ((c.tc : Thread Cert.ContextIdeal.nD Cert.ContextIdeal.τ).loc Cert.ContextIdeal.main_arg1)
      ∧ m' ((c.tc : Thread Cert.ContextRefIdeal.nD Cert.ContextRefIdeal.τ).loc Cert.ContextRefIdeal.main_arg2) = m ((c.tc : Thread Cert.ContextIdeal.nD Cert.ContextIdeal.τ).loc Cert.ContextIdeal.main_arg2)
      ∧ m' ((c.tc : Thread Cert.ContextRefIdeal.nD Cert.ContextRefIdeal.τ).loc Cert.ContextRefIdeal.main_arg3) = m ((c.tc : Thread Cert.ContextIdeal.nD Cert.ContextIdeal.τ).loc Cert.ContextIdeal.main_arg3)
      ∧ m' ((c.tc : Thread Cert.ContextRefIdeal.nD Cert.ContextRefIdeal.τ).loc Cert.ContextRefIdeal.main_arg4) = m ((c.tc : Thread Cert.ContextIdeal.nD Cert.ContextIdeal.τ).loc Cert.ContextIdeal.main_arg4)) →
    ∃ (v0 : (c : Dev Cert.ContextIdeal.nD) → Buf (Elt Ideal) ((c.tc : Thread Cert.ContextIdeal.nD Cert.ContextIdeal.τ).loc Cert.ContextIdeal.main_v1)),
      θ_run (Cert.ContextIdeal.defs (F := Ideal)) (onTc (τ := Cert.ContextIdeal.τ) (Cert.ContextIdeal.main (F := Ideal))) ⟨m, fun _ => 0, g⟩ (fun r => ∀ c : Dev Cert.ContextIdeal.nD,
          r.2.mem ((c.tc : Thread Cert.ContextIdeal.nD Cert.ContextIdeal.τ).loc Cert.ContextIdeal.main_v1) = v0 c
          ∧ r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
          ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
          ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
          ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
          ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4))
      ∧ θ_run (Cert.ContextRefIdeal.defs (F := Ideal)) (onTc (τ := Cert.ContextRefIdeal.τ) (Cert.ContextRefIdeal.main (F := Ideal))) ⟨m', fun _ => 0, g'⟩ (fun r => ∀ c : Dev Cert.ContextRefIdeal.nD,
          r.2.mem ((c.tc : Thread Cert.ContextRefIdeal.nD Cert.ContextRefIdeal.τ).loc Cert.ContextRefIdeal.main_v47) = v0 c
          ∧ r.2.mem ((c.tc : Thread Cert.ContextRefIdeal.nD Cert.ContextRefIdeal.τ).loc Cert.ContextRefIdeal.main_arg0) = m' ((c.tc : Thread Cert.ContextRefIdeal.nD Cert.ContextRefIdeal.τ).loc Cert.ContextRefIdeal.main_arg0)
          ∧ r.2.mem ((c.tc : Thread Cert.ContextRefIdeal.nD Cert.ContextRefIdeal.τ).loc Cert.ContextRefIdeal.main_arg1) = m' ((c.tc : Thread Cert.ContextRefIdeal.nD Cert.ContextRefIdeal.τ).loc Cert.ContextRefIdeal.main_arg1)
          ∧ r.2.mem ((c.tc : Thread Cert.ContextRefIdeal.nD Cert.ContextRefIdeal.τ).loc Cert.ContextRefIdeal.main_arg2) = m' ((c.tc : Thread Cert.ContextRefIdeal.nD Cert.ContextRefIdeal.τ).loc Cert.ContextRefIdeal.main_arg2)
          ∧ r.2.mem ((c.tc : Thread Cert.ContextRefIdeal.nD Cert.ContextRefIdeal.τ).loc Cert.ContextRefIdeal.main_arg3) = m' ((c.tc : Thread Cert.ContextRefIdeal.nD Cert.ContextRefIdeal.τ).loc Cert.ContextRefIdeal.main_arg3)
          ∧ r.2.mem ((c.tc : Thread Cert.ContextRefIdeal.nD Cert.ContextRefIdeal.τ).loc Cert.ContextRefIdeal.main_arg4) = m' ((c.tc : Thread Cert.ContextRefIdeal.nD Cert.ContextRefIdeal.τ).loc Cert.ContextRefIdeal.main_arg4))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)) →
    ∃ (v0 : (c : Dev Cert.InAIdeal.nD) → Buf (Elt Ideal) ((c.tc : Thread Cert.InAIdeal.nD Cert.InAIdeal.τ).loc Cert.InAIdeal.main_v3)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v3) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v4) = v0 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)) →
    ∃ (v0 : (c : Dev Cert.InBIdeal.nD) → Buf (Elt Ideal) ((c.tc : Thread Cert.InBIdeal.nD Cert.InBIdeal.τ).loc Cert.InBIdeal.main_v7_0)) (v1 : (c : Dev Cert.InBIdeal.nD) → Buf (Elt Ideal) ((c.tc : Thread Cert.InBIdeal.nD Cert.InBIdeal.τ).loc Cert.InBIdeal.main_v7_1)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v7_0) = v0 c
          ∧ r.2.mem ((c.tc : Thread Cert.InBIdeal.nD Cert.InBIdeal.τ).loc Cert.InBIdeal.main_v7_1) = v1 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v6) = v0 c
          ∧ r.2.mem ((c.tc : Thread Cert.InBRefIdeal.nD Cert.InBRefIdeal.τ).loc Cert.InBRefIdeal.main_v4) = v1 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1))

def preserves_FourierOut_FourierOutIdeal : Prop :=
  True

def algebraic_FourierOutIdeal_FourierOutRefIdeal [hFourierOutIdeal : Cert.FourierOutIdeal.Facts] [hFourierOutRefIdeal : Cert.FourierOutRefIdeal.Facts] : Prop :=
  ∀ (m : (ℓ : Loc Cert.FourierOutIdeal.nD Cert.FourierOutIdeal.τ Cert.FourierOutIdeal.sig) → Buf (Elt Ideal) ℓ) (g : Dev Cert.FourierOutIdeal.nD → PrngReg)
    (m' : (ℓ : Loc Cert.FourierOutRefIdeal.nD Cert.FourierOutRefIdeal.τ Cert.FourierOutRefIdeal.sig) → Buf (Elt Ideal) ℓ) (g' : Dev Cert.FourierOutRefIdeal.nD → PrngReg), Pre_FourierOutIdeal m →
    (∀ c : Dev Cert.FourierOutIdeal.nD,
      m' ((c.tc : Thread Cert.FourierOutRefIdeal.nD Cert.FourierOutRefIdeal.τ).loc Cert.FourierOutRefIdeal.main_arg0) = m ((c.tc : Thread Cert.FourierOutIdeal.nD Cert.FourierOutIdeal.τ).loc Cert.FourierOutIdeal.main_arg0)
      ∧ m' ((c.tc : Thread Cert.FourierOutRefIdeal.nD Cert.FourierOutRefIdeal.τ).loc Cert.FourierOutRefIdeal.main_arg1) = m ((c.tc : Thread Cert.FourierOutIdeal.nD Cert.FourierOutIdeal.τ).loc Cert.FourierOutIdeal.main_arg1)
      ∧ m' ((c.tc : Thread Cert.FourierOutRefIdeal.nD Cert.FourierOutRefIdeal.τ).loc Cert.FourierOutRefIdeal.main_arg2) = m ((c.tc : Thread Cert.FourierOutIdeal.nD Cert.FourierOutIdeal.τ).loc Cert.FourierOutIdeal.main_arg2)
      ∧ m' ((c.tc : Thread Cert.FourierOutRefIdeal.nD Cert.FourierOutRefIdeal.τ).loc Cert.FourierOutRefIdeal.main_arg3) = m ((c.tc : Thread Cert.FourierOutIdeal.nD Cert.FourierOutIdeal.τ).loc Cert.FourierOutIdeal.main_arg3)) →
    ∃ (v0 : (c : Dev Cert.FourierOutIdeal.nD) → Buf (Elt Ideal) ((c.tc : Thread Cert.FourierOutIdeal.nD Cert.FourierOutIdeal.τ).loc Cert.FourierOutIdeal.main_v1)),
      θ_run (Cert.FourierOutIdeal.defs (F := Ideal)) (onTc (τ := Cert.FourierOutIdeal.τ) (Cert.FourierOutIdeal.main (F := Ideal))) ⟨m, fun _ => 0, g⟩ (fun r => ∀ c : Dev Cert.FourierOutIdeal.nD,
          r.2.mem ((c.tc : Thread Cert.FourierOutIdeal.nD Cert.FourierOutIdeal.τ).loc Cert.FourierOutIdeal.main_v1) = v0 c
          ∧ r.2.mem ((c.tc : Thread Cert.FourierOutIdeal.nD Cert.FourierOutIdeal.τ).loc Cert.FourierOutIdeal.main_arg0) = m ((c.tc : Thread Cert.FourierOutIdeal.nD Cert.FourierOutIdeal.τ).loc Cert.FourierOutIdeal.main_arg0)
          ∧ r.2.mem ((c.tc : Thread Cert.FourierOutIdeal.nD Cert.FourierOutIdeal.τ).loc Cert.FourierOutIdeal.main_arg1) = m ((c.tc : Thread Cert.FourierOutIdeal.nD Cert.FourierOutIdeal.τ).loc Cert.FourierOutIdeal.main_arg1)
          ∧ r.2.mem ((c.tc : Thread Cert.FourierOutIdeal.nD Cert.FourierOutIdeal.τ).loc Cert.FourierOutIdeal.main_arg2) = m ((c.tc : Thread Cert.FourierOutIdeal.nD Cert.FourierOutIdeal.τ).loc Cert.FourierOutIdeal.main_arg2)
          ∧ r.2.mem ((c.tc : Thread Cert.FourierOutIdeal.nD Cert.FourierOutIdeal.τ).loc Cert.FourierOutIdeal.main_arg3) = m ((c.tc : Thread Cert.FourierOutIdeal.nD Cert.FourierOutIdeal.τ).loc Cert.FourierOutIdeal.main_arg3))
      ∧ θ_run (Cert.FourierOutRefIdeal.defs (F := Ideal)) (onTc (τ := Cert.FourierOutRefIdeal.τ) (Cert.FourierOutRefIdeal.main (F := Ideal))) ⟨m', fun _ => 0, g'⟩ (fun r => ∀ c : Dev Cert.FourierOutRefIdeal.nD,
          r.2.mem ((c.tc : Thread Cert.FourierOutRefIdeal.nD Cert.FourierOutRefIdeal.τ).loc Cert.FourierOutRefIdeal.main_v7) = v0 c
          ∧ r.2.mem ((c.tc : Thread Cert.FourierOutRefIdeal.nD Cert.FourierOutRefIdeal.τ).loc Cert.FourierOutRefIdeal.main_arg0) = m' ((c.tc : Thread Cert.FourierOutRefIdeal.nD Cert.FourierOutRefIdeal.τ).loc Cert.FourierOutRefIdeal.main_arg0)
          ∧ r.2.mem ((c.tc : Thread Cert.FourierOutRefIdeal.nD Cert.FourierOutRefIdeal.τ).loc Cert.FourierOutRefIdeal.main_arg1) = m' ((c.tc : Thread Cert.FourierOutRefIdeal.nD Cert.FourierOutRefIdeal.τ).loc Cert.FourierOutRefIdeal.main_arg1)
          ∧ r.2.mem ((c.tc : Thread Cert.FourierOutRefIdeal.nD Cert.FourierOutRefIdeal.τ).loc Cert.FourierOutRefIdeal.main_arg2) = m' ((c.tc : Thread Cert.FourierOutRefIdeal.nD Cert.FourierOutRefIdeal.τ).loc Cert.FourierOutRefIdeal.main_arg2)
          ∧ r.2.mem ((c.tc : Thread Cert.FourierOutRefIdeal.nD Cert.FourierOutRefIdeal.τ).loc Cert.FourierOutRefIdeal.main_arg3) = m' ((c.tc : Thread Cert.FourierOutRefIdeal.nD Cert.FourierOutRefIdeal.τ).loc Cert.FourierOutRefIdeal.main_arg3))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v0)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v0) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v15) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)) →
    ∃ (v0 : (c : Dev Cert.MixOutIdeal.nD) → Buf (Elt Ideal) ((c.tc : Thread Cert.MixOutIdeal.nD Cert.MixOutIdeal.τ).loc Cert.MixOutIdeal.main_v2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v36) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7))

def preserves_Channels_ChannelsIdeal : Prop :=
  True

def algebraic_ChannelsIdeal_ChannelsRefIdeal [hChannelsIdeal : Cert.ChannelsIdeal.Facts] [hChannelsRefIdeal : Cert.ChannelsRefIdeal.Facts] : Prop :=
  ∀ (m : (ℓ : Loc Cert.ChannelsIdeal.nD Cert.ChannelsIdeal.τ Cert.ChannelsIdeal.sig) → Buf (Elt Ideal) ℓ) (g : Dev Cert.ChannelsIdeal.nD → PrngReg)
    (m' : (ℓ : Loc Cert.ChannelsRefIdeal.nD Cert.ChannelsRefIdeal.τ Cert.ChannelsRefIdeal.sig) → Buf (Elt Ideal) ℓ) (g' : Dev Cert.ChannelsRefIdeal.nD → PrngReg), Pre_ChannelsIdeal m →
    (∀ c : Dev Cert.ChannelsIdeal.nD,
      m' ((c.tc : Thread Cert.ChannelsRefIdeal.nD Cert.ChannelsRefIdeal.τ).loc Cert.ChannelsRefIdeal.main_arg0) = m ((c.tc : Thread Cert.ChannelsIdeal.nD Cert.ChannelsIdeal.τ).loc Cert.ChannelsIdeal.main_arg0)
      ∧ m' ((c.tc : Thread Cert.ChannelsRefIdeal.nD Cert.ChannelsRefIdeal.τ).loc Cert.ChannelsRefIdeal.main_arg1) = m ((c.tc : Thread Cert.ChannelsIdeal.nD Cert.ChannelsIdeal.τ).loc Cert.ChannelsIdeal.main_arg1)
      ∧ m' ((c.tc : Thread Cert.ChannelsRefIdeal.nD Cert.ChannelsRefIdeal.τ).loc Cert.ChannelsRefIdeal.main_arg2) = m ((c.tc : Thread Cert.ChannelsIdeal.nD Cert.ChannelsIdeal.τ).loc Cert.ChannelsIdeal.main_arg2)
      ∧ m' ((c.tc : Thread Cert.ChannelsRefIdeal.nD Cert.ChannelsRefIdeal.τ).loc Cert.ChannelsRefIdeal.main_arg3) = m ((c.tc : Thread Cert.ChannelsIdeal.nD Cert.ChannelsIdeal.τ).loc Cert.ChannelsIdeal.main_arg3)) →
    ∃ (v0 : (c : Dev Cert.ChannelsIdeal.nD) → Buf (Elt Ideal) ((c.tc : Thread Cert.ChannelsIdeal.nD Cert.ChannelsIdeal.τ).loc Cert.ChannelsIdeal.main_v1_0)) (v1 : (c : Dev Cert.ChannelsIdeal.nD) → Buf (Elt Ideal) ((c.tc : Thread Cert.ChannelsIdeal.nD Cert.ChannelsIdeal.τ).loc Cert.ChannelsIdeal.main_v1_1)),
      θ_run (Cert.ChannelsIdeal.defs (F := Ideal)) (onTc (τ := Cert.ChannelsIdeal.τ) (Cert.ChannelsIdeal.main (F := Ideal))) ⟨m, fun _ => 0, g⟩ (fun r => ∀ c : Dev Cert.ChannelsIdeal.nD,
          r.2.mem ((c.tc : Thread Cert.ChannelsIdeal.nD Cert.ChannelsIdeal.τ).loc Cert.ChannelsIdeal.main_v1_0) = v0 c
          ∧ r.2.mem ((c.tc : Thread Cert.ChannelsIdeal.nD Cert.ChannelsIdeal.τ).loc Cert.ChannelsIdeal.main_v1_1) = v1 c
          ∧ r.2.mem ((c.tc : Thread Cert.ChannelsIdeal.nD Cert.ChannelsIdeal.τ).loc Cert.ChannelsIdeal.main_arg0) = m ((c.tc : Thread Cert.ChannelsIdeal.nD Cert.ChannelsIdeal.τ).loc Cert.ChannelsIdeal.main_arg0)
          ∧ r.2.mem ((c.tc : Thread Cert.ChannelsIdeal.nD Cert.ChannelsIdeal.τ).loc Cert.ChannelsIdeal.main_arg1) = m ((c.tc : Thread Cert.ChannelsIdeal.nD Cert.ChannelsIdeal.τ).loc Cert.ChannelsIdeal.main_arg1)
          ∧ r.2.mem ((c.tc : Thread Cert.ChannelsIdeal.nD Cert.ChannelsIdeal.τ).loc Cert.ChannelsIdeal.main_arg2) = m ((c.tc : Thread Cert.ChannelsIdeal.nD Cert.ChannelsIdeal.τ).loc Cert.ChannelsIdeal.main_arg2)
          ∧ r.2.mem ((c.tc : Thread Cert.ChannelsIdeal.nD Cert.ChannelsIdeal.τ).loc Cert.ChannelsIdeal.main_arg3) = m ((c.tc : Thread Cert.ChannelsIdeal.nD Cert.ChannelsIdeal.τ).loc Cert.ChannelsIdeal.main_arg3))
      ∧ θ_run (Cert.ChannelsRefIdeal.defs (F := Ideal)) (onTc (τ := Cert.ChannelsRefIdeal.τ) (Cert.ChannelsRefIdeal.main (F := Ideal))) ⟨m', fun _ => 0, g'⟩ (fun r => ∀ c : Dev Cert.ChannelsRefIdeal.nD,
          r.2.mem ((c.tc : Thread Cert.ChannelsRefIdeal.nD Cert.ChannelsRefIdeal.τ).loc Cert.ChannelsRefIdeal.main_v33) = v0 c
          ∧ r.2.mem ((c.tc : Thread Cert.ChannelsRefIdeal.nD Cert.ChannelsRefIdeal.τ).loc Cert.ChannelsRefIdeal.main_v34) = v1 c
          ∧ r.2.mem ((c.tc : Thread Cert.ChannelsRefIdeal.nD Cert.ChannelsRefIdeal.τ).loc Cert.ChannelsRefIdeal.main_arg0) = m' ((c.tc : Thread Cert.ChannelsRefIdeal.nD Cert.ChannelsRefIdeal.τ).loc Cert.ChannelsRefIdeal.main_arg0)
          ∧ r.2.mem ((c.tc : Thread Cert.ChannelsRefIdeal.nD Cert.ChannelsRefIdeal.τ).loc Cert.ChannelsRefIdeal.main_arg1) = m' ((c.tc : Thread Cert.ChannelsRefIdeal.nD Cert.ChannelsRefIdeal.τ).loc Cert.ChannelsRefIdeal.main_arg1)
          ∧ r.2.mem ((c.tc : Thread Cert.ChannelsRefIdeal.nD Cert.ChannelsRefIdeal.τ).loc Cert.ChannelsRefIdeal.main_arg2) = m' ((c.tc : Thread Cert.ChannelsRefIdeal.nD Cert.ChannelsRefIdeal.τ).loc Cert.ChannelsRefIdeal.main_arg2)
          ∧ r.2.mem ((c.tc : Thread Cert.ChannelsRefIdeal.nD Cert.ChannelsRefIdeal.τ).loc Cert.ChannelsRefIdeal.main_arg3) = m' ((c.tc : Thread Cert.ChannelsRefIdeal.nD Cert.ChannelsRefIdeal.τ).loc Cert.ChannelsRefIdeal.main_arg3))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)
      ∧ m' ((c.tc : Thread Cert.PrenormRefIdeal.nD Cert.PrenormRefIdeal.τ).loc Cert.PrenormRefIdeal.main_arg2) = m ((c.tc : Thread Cert.PrenormIdeal.nD Cert.PrenormIdeal.τ).loc Cert.PrenormIdeal.main_arg2)
      ∧ m' ((c.tc : Thread Cert.PrenormRefIdeal.nD Cert.PrenormRefIdeal.τ).loc Cert.PrenormRefIdeal.main_arg3) = m ((c.tc : Thread Cert.PrenormIdeal.nD Cert.PrenormIdeal.τ).loc Cert.PrenormIdeal.main_arg3)) →
    ∃ (v0 : (c : Dev Cert.PrenormIdeal.nD) → Buf (Elt Ideal) ((c.tc : Thread Cert.PrenormIdeal.nD Cert.PrenormIdeal.τ).loc Cert.PrenormIdeal.main_v1)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v1) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
          ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v51) = v0 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1)
          ∧ r.2.mem ((c.tc : Thread Cert.PrenormRefIdeal.nD Cert.PrenormRefIdeal.τ).loc Cert.PrenormRefIdeal.main_arg2) = m' ((c.tc : Thread Cert.PrenormRefIdeal.nD Cert.PrenormRefIdeal.τ).loc Cert.PrenormRefIdeal.main_arg2)
          ∧ r.2.mem ((c.tc : Thread Cert.PrenormRefIdeal.nD Cert.PrenormRefIdeal.τ).loc Cert.PrenormRefIdeal.main_arg3) = m' ((c.tc : Thread Cert.PrenormRefIdeal.nD Cert.PrenormRefIdeal.τ).loc Cert.PrenormRefIdeal.main_arg3))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)
      ∧ m' ((c.tc : Thread Cert.RopeRefIdeal.nD Cert.RopeRefIdeal.τ).loc Cert.RopeRefIdeal.main_arg3) = m ((c.tc : Thread Cert.RopeIdeal.nD Cert.RopeIdeal.τ).loc Cert.RopeIdeal.main_arg3)
      ∧ m' ((c.tc : Thread Cert.RopeRefIdeal.nD Cert.RopeRefIdeal.τ).loc Cert.RopeRefIdeal.main_arg4) = m ((c.tc : Thread Cert.RopeIdeal.nD Cert.RopeIdeal.τ).loc Cert.RopeIdeal.main_arg4)
      ∧ m' ((c.tc : Thread Cert.RopeRefIdeal.nD Cert.RopeRefIdeal.τ).loc Cert.RopeRefIdeal.main_arg5) = m ((c.tc : Thread Cert.RopeIdeal.nD Cert.RopeIdeal.τ).loc Cert.RopeIdeal.main_arg5)
      ∧ m' ((c.tc : Thread Cert.RopeRefIdeal.nD Cert.RopeRefIdeal.τ).loc Cert.RopeRefIdeal.main_arg6) = m ((c.tc : Thread Cert.RopeIdeal.nD Cert.RopeIdeal.τ).loc Cert.RopeIdeal.main_arg6)) →
    ∃ (v0 : (c : Dev Cert.RopeIdeal.nD) → Buf (Elt Ideal) ((c.tc : Thread Cert.RopeIdeal.nD Cert.RopeIdeal.τ).loc Cert.RopeIdeal.main_v14)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v14) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
          ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4)
          ∧ r.2.mem ((c.tc : Thread Cert.RopeIdeal.nD Cert.RopeIdeal.τ).loc Cert.RopeIdeal.main_arg5) = m ((c.tc : Thread Cert.RopeIdeal.nD Cert.RopeIdeal.τ).loc Cert.RopeIdeal.main_arg5)
          ∧ r.2.mem ((c.tc : Thread Cert.RopeIdeal.nD Cert.RopeIdeal.τ).loc Cert.RopeIdeal.main_arg6) = m ((c.tc : Thread Cert.RopeIdeal.nD Cert.RopeIdeal.τ).loc Cert.RopeIdeal.main_arg6))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v79) = v0 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2)
          ∧ r.2.mem ((c.tc : Thread Cert.RopeRefIdeal.nD Cert.RopeRefIdeal.τ).loc Cert.RopeRefIdeal.main_arg3) = m' ((c.tc : Thread Cert.RopeRefIdeal.nD Cert.RopeRefIdeal.τ).loc Cert.RopeRefIdeal.main_arg3)
          ∧ r.2.mem ((c.tc : Thread Cert.RopeRefIdeal.nD Cert.RopeRefIdeal.τ).loc Cert.RopeRefIdeal.main_arg4) = m' ((c.tc : Thread Cert.RopeRefIdeal.nD Cert.RopeRefIdeal.τ).loc Cert.RopeRefIdeal.main_arg4)
          ∧ r.2.mem ((c.tc : Thread Cert.RopeRefIdeal.nD Cert.RopeRefIdeal.τ).loc Cert.RopeRefIdeal.main_arg5) = m' ((c.tc : Thread Cert.RopeRefIdeal.nD Cert.RopeRefIdeal.τ).loc Cert.RopeRefIdeal.main_arg5)
          ∧ r.2.mem ((c.tc : Thread Cert.RopeRefIdeal.nD Cert.RopeRefIdeal.τ).loc Cert.RopeRefIdeal.main_arg6) = m' ((c.tc : Thread Cert.RopeRefIdeal.nD Cert.RopeRefIdeal.τ).loc Cert.RopeRefIdeal.main_arg6))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v104) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def Claim : Prop :=
  ∃ (hLast : Cert.Last.Facts) (hLastIdeal : Cert.LastIdeal.Facts) (hLastRefIdeal : Cert.LastRefIdeal.Facts) (hTime : Cert.Time.Facts) (hTimeIdeal : Cert.TimeIdeal.Facts) (hTimeRefIdeal : Cert.TimeRefIdeal.Facts) (hClose : Cert.Close.Facts) (hCloseIdeal : Cert.CloseIdeal.Facts) (hCloseRefIdeal : Cert.CloseRefIdeal.Facts) (hOpen : Cert.Open.Facts) (hOpenIdeal : Cert.OpenIdeal.Facts) (hOpenRefIdeal : Cert.OpenRefIdeal.Facts) (hEnter : Cert.Enter.Facts) (hEnterIdeal : Cert.EnterIdeal.Facts) (hEnterRefIdeal : Cert.EnterRefIdeal.Facts) (hContext : Cert.Context.Facts) (hContextIdeal : Cert.ContextIdeal.Facts) (hContextRefIdeal : Cert.ContextRefIdeal.Facts) (hInA : Cert.InA.Facts) (hInAIdeal : Cert.InAIdeal.Facts) (hInARefIdeal : Cert.InARefIdeal.Facts) (hInB : Cert.InB.Facts) (hInBIdeal : Cert.InBIdeal.Facts) (hInBRefIdeal : Cert.InBRefIdeal.Facts) (hFourierOut : Cert.FourierOut.Facts) (hFourierOutIdeal : Cert.FourierOutIdeal.Facts) (hFourierOutRefIdeal : Cert.FourierOutRefIdeal.Facts) (hModulation : Cert.Modulation.Facts) (hModulationIdeal : Cert.ModulationIdeal.Facts) (hModulationRefIdeal : Cert.ModulationRefIdeal.Facts) (hMixOut : Cert.MixOut.Facts) (hMixOutIdeal : Cert.MixOutIdeal.Facts) (hMixOutRefIdeal : Cert.MixOutRefIdeal.Facts) (hChannels : Cert.Channels.Facts) (hChannelsIdeal : Cert.ChannelsIdeal.Facts) (hChannelsRefIdeal : Cert.ChannelsRefIdeal.Facts) (hPrenorm : Cert.Prenorm.Facts) (hPrenormIdeal : Cert.PrenormIdeal.Facts) (hPrenormRefIdeal : Cert.PrenormRefIdeal.Facts) (hRope : Cert.Rope.Facts) (hRopeIdeal : Cert.RopeIdeal.Facts) (hRopeRefIdeal : Cert.RopeRefIdeal.Facts) (hConv : Cert.Conv.Facts) (hConvIdeal : Cert.ConvIdeal.Facts) (hConvRefIdeal : Cert.ConvRefIdeal.Facts),
    quiescent_Last (hLast := hLast)
    ∧ quiescent_LastIdeal (hLastIdeal := hLastIdeal)
    ∧ quiescent_LastRefIdeal (hLastRefIdeal := hLastRefIdeal)
    ∧ quiescent_Time (hTime := hTime)
    ∧ quiescent_TimeIdeal (hTimeIdeal := hTimeIdeal)
    ∧ quiescent_TimeRefIdeal (hTimeRefIdeal := hTimeRefIdeal)
    ∧ quiescent_Close (hClose := hClose)
    ∧ quiescent_CloseIdeal (hCloseIdeal := hCloseIdeal)
    ∧ quiescent_CloseRefIdeal (hCloseRefIdeal := hCloseRefIdeal)
    ∧ quiescent_Open (hOpen := hOpen)
    ∧ quiescent_OpenIdeal (hOpenIdeal := hOpenIdeal)
    ∧ quiescent_OpenRefIdeal (hOpenRefIdeal := hOpenRefIdeal)
    ∧ quiescent_Enter (hEnter := hEnter)
    ∧ quiescent_EnterIdeal (hEnterIdeal := hEnterIdeal)
    ∧ quiescent_EnterRefIdeal (hEnterRefIdeal := hEnterRefIdeal)
    ∧ quiescent_Context (hContext := hContext)
    ∧ quiescent_ContextIdeal (hContextIdeal := hContextIdeal)
    ∧ quiescent_ContextRefIdeal (hContextRefIdeal := hContextRefIdeal)
    ∧ quiescent_InA (hInA := hInA)
    ∧ quiescent_InAIdeal (hInAIdeal := hInAIdeal)
    ∧ quiescent_InARefIdeal (hInARefIdeal := hInARefIdeal)
    ∧ quiescent_InB (hInB := hInB)
    ∧ quiescent_InBIdeal (hInBIdeal := hInBIdeal)
    ∧ quiescent_InBRefIdeal (hInBRefIdeal := hInBRefIdeal)
    ∧ quiescent_FourierOut (hFourierOut := hFourierOut)
    ∧ quiescent_FourierOutIdeal (hFourierOutIdeal := hFourierOutIdeal)
    ∧ quiescent_FourierOutRefIdeal (hFourierOutRefIdeal := hFourierOutRefIdeal)
    ∧ quiescent_Modulation (hModulation := hModulation)
    ∧ quiescent_ModulationIdeal (hModulationIdeal := hModulationIdeal)
    ∧ quiescent_ModulationRefIdeal (hModulationRefIdeal := hModulationRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Channels (hChannels := hChannels)
    ∧ quiescent_ChannelsIdeal (hChannelsIdeal := hChannelsIdeal)
    ∧ quiescent_ChannelsRefIdeal (hChannelsRefIdeal := hChannelsRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_Rope (hRope := hRope)
    ∧ quiescent_RopeIdeal (hRopeIdeal := hRopeIdeal)
    ∧ quiescent_RopeRefIdeal (hRopeRefIdeal := hRopeRefIdeal)
    ∧ quiescent_Conv (hConv := hConv)
    ∧ quiescent_ConvIdeal (hConvIdeal := hConvIdeal)
    ∧ quiescent_ConvRefIdeal (hConvRefIdeal := hConvRefIdeal)
    ∧ preserves_Last_LastIdeal
    ∧ algebraic_LastIdeal_LastRefIdeal (hLastIdeal := hLastIdeal) (hLastRefIdeal := hLastRefIdeal)
    ∧ preserves_Time_TimeIdeal
    ∧ algebraic_TimeIdeal_TimeRefIdeal (hTimeIdeal := hTimeIdeal) (hTimeRefIdeal := hTimeRefIdeal)
    ∧ preserves_Close_CloseIdeal
    ∧ algebraic_CloseIdeal_CloseRefIdeal (hCloseIdeal := hCloseIdeal) (hCloseRefIdeal := hCloseRefIdeal)
    ∧ preserves_Open_OpenIdeal
    ∧ algebraic_OpenIdeal_OpenRefIdeal (hOpenIdeal := hOpenIdeal) (hOpenRefIdeal := hOpenRefIdeal)
    ∧ preserves_Enter_EnterIdeal
    ∧ algebraic_EnterIdeal_EnterRefIdeal (hEnterIdeal := hEnterIdeal) (hEnterRefIdeal := hEnterRefIdeal)
    ∧ preserves_Context_ContextIdeal
    ∧ algebraic_ContextIdeal_ContextRefIdeal (hContextIdeal := hContextIdeal) (hContextRefIdeal := hContextRefIdeal)
    ∧ preserves_InA_InAIdeal
    ∧ algebraic_InAIdeal_InARefIdeal (hInAIdeal := hInAIdeal) (hInARefIdeal := hInARefIdeal)
    ∧ preserves_InB_InBIdeal
    ∧ algebraic_InBIdeal_InBRefIdeal (hInBIdeal := hInBIdeal) (hInBRefIdeal := hInBRefIdeal)
    ∧ preserves_FourierOut_FourierOutIdeal
    ∧ algebraic_FourierOutIdeal_FourierOutRefIdeal (hFourierOutIdeal := hFourierOutIdeal) (hFourierOutRefIdeal := hFourierOutRefIdeal)
    ∧ preserves_Modulation_ModulationIdeal
    ∧ algebraic_ModulationIdeal_ModulationRefIdeal (hModulationIdeal := hModulationIdeal) (hModulationRefIdeal := hModulationRefIdeal)
    ∧ preserves_MixOut_MixOutIdeal
    ∧ algebraic_MixOutIdeal_MixOutRefIdeal (hMixOutIdeal := hMixOutIdeal) (hMixOutRefIdeal := hMixOutRefIdeal)
    ∧ preserves_Channels_ChannelsIdeal
    ∧ algebraic_ChannelsIdeal_ChannelsRefIdeal (hChannelsIdeal := hChannelsIdeal) (hChannelsRefIdeal := hChannelsRefIdeal)
    ∧ preserves_Prenorm_PrenormIdeal
    ∧ algebraic_PrenormIdeal_PrenormRefIdeal (hPrenormIdeal := hPrenormIdeal) (hPrenormRefIdeal := hPrenormRefIdeal)
    ∧ preserves_Rope_RopeIdeal
    ∧ algebraic_RopeIdeal_RopeRefIdeal (hRopeIdeal := hRopeIdeal) (hRopeRefIdeal := hRopeRefIdeal)
    ∧ preserves_Conv_ConvIdeal
    ∧ algebraic_ConvIdeal_ConvRefIdeal (hConvIdeal := hConvIdeal) (hConvRefIdeal := hConvRefIdeal)
-- ==== Last.lean ====
abbrev S4x2048x2048 : Shape := ⟨3, ![4, 2048, 2048]⟩
abbrev S9x8x2048 : Shape := ⟨3, ![9, 8, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S1x1024x2048 : Shape := ⟨3, ![1, 1024, 2048]⟩
abbrev S1x8x2048 : Shape := ⟨3, ![1, 8, 2048]⟩
abbrev S2048x256 : Shape := ⟨2, ![2048, 256]⟩
abbrev S256x2048 : Shape := ⟨2, ![256, 2048]⟩
abbrev S1024x2048 : Shape := ⟨2, ![1024, 2048]⟩
abbrev S1x1x2048 : Shape := ⟨3, ![1, 1, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 9
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S9x8x2048, .f32⟩
  | .hbm, ⟨2, _⟩ => ⟨S2048, .f32⟩
  | .hbm, ⟨3, _⟩ => ⟨S2048x11264, .bf16⟩
  | .hbm, ⟨4, _⟩ => ⟨S5632x2048, .bf16⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S4x2048x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x8x2048, .f32⟩
  | .local _ .vmem, ⟨5, _⟩ => ⟨S1x2048, .f32⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x1024x2048, .f32⟩
  | .local _ .vmem, ⟨14, _⟩ => ⟨S1x1024x2048, .f32⟩
  | .local _ .vmem, ⟨15, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![4, 2, 22], ![false, false, false]⟩

def k0_cond1 (i : grid0.Coords) : BitVec 1 :=
  let arg2 : BitVec 32 := BitVec.ofNat 32 (i 2).val
  let c0_i32_0 : BitVec 32 := 0#32
  let v1 : BitVec 1 := Scalar.cmpi .eq arg2 c0_i32_0
  let v2 : BitVec 32 := Scalar.extui v1
  let c0_i32_1 : BitVec 32 := 0#32
  let v3 : BitVec 1 := Scalar.cmpi .ne v2 c0_i32_1
  v3

def k0_off1 (i : grid0.Coords) : Fin 3 → Nat :=
  let c0_23 : Index := 0#32
  let arg0 : BitVec 32 := BitVec.ofNat 32 (i 0).val
  let c0_i32 : BitVec 32 := 0#32
  let v0 : BitVec 32 := Scalar.addi arg0 c0_i32
  let v28 : Index := Scalar.indexCast v0
  let c0_24 : Index := 0#32
  ![0, v28.toNat, 0]
def k0_cond2 (i : grid0.Coords) : BitVec 1 :=
  let arg2 : BitVec 32 := BitVec.ofNat 32 (i 2).val
  let c21_i32 : BitVec 32 := 21#32
  let v21 : BitVec 1 := Scalar.cmpi .eq arg2 c21_i32
  let v22 : BitVec 32 := Scalar.extui v21
  let c0_i32_17 : BitVec 32 := 0#32
  let v23 : BitVec 1 := Scalar.cmpi .ne v22 c0_i32_17
  v23

def k0_off2 (i : grid0.Coords) : Fin 3 → Nat :=
  let c0_21 : Index := 0#32
  let arg0 : BitVec 32 := BitVec.ofNat 32 (i 0).val
  let c0_i32 : BitVec 32 := 0#32
  let v0 : BitVec 32 := Scalar.addi arg0 c0_i32
  let v26 : Index := Scalar.indexCast v0
  let c0_22 : Index := 0#32
  ![0, v26.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi arg2 c22_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== LastRefIdeal.lean ====
abbrev S4x2048x2048 : Shape := ⟨3, ![4, 2048, 2048]⟩
abbrev S9x8x2048 : Shape := ⟨3, ![9, 8, 2048]⟩
abbrev S2048 : Shape := ⟨1, ![2048]⟩
abbrev S2048x11264 : Shape := ⟨2, ![2048, 11264]⟩
abbrev S5632x2048 : Shape := ⟨2, ![5632, 2048]⟩
abbrev S9x4x2048 : Shape := ⟨3, ![9, 4, 2048]⟩
abbrev S1x4x2048 : Shape := ⟨3, ![1, 4, 2048]⟩
abbrev S4x2048 : Shape := ⟨2, ![4, 2048]⟩
abbrev S4x1x2048 : Shape := ⟨3, ![4, 1, 2048]⟩
abbrev S_ : Shape := ⟨0, ![]⟩
abbrev S4x2048x1 : Shape := ⟨3, ![4, 2048, 1]⟩
abbrev S1x1x2048 : Shape := ⟨3, ![1, 1, 2048]⟩
abbrev S4x2048x11264 : Shape := ⟨3, ![4, 2048, 11264]⟩
abbrev S4x2048x5632 : Shape := ⟨3, ![4, 2048, 5632]⟩

abbrev nBuf : Space → Nat
  | .hbm => 77
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S9x8x2048, .f32⟩
  | .hbm, ⟨2, _⟩ => ⟨S2048, .f32⟩
  | .hbm, ⟨3, _⟩ => ⟨S2048x11264, .bf16⟩
  | .hbm, ⟨4, _⟩ => ⟨S5632x2048, .bf16⟩
  | .hbm, ⟨5, _⟩ => ⟨S2048, .f32⟩
  | .hbm, ⟨6, _⟩ => ⟨S9x4x2048, .f32⟩
  | .hbm, ⟨7, _⟩ => ⟨S2048x11264, .f32⟩
  | .hbm, ⟨8, _⟩ => ⟨S5632x2048, .f32⟩
  | .hbm, ⟨9, _⟩ => ⟨S1x4x2048, .f32⟩
  | .hbm, ⟨10, _⟩ => ⟨S4x2048, .f32⟩
  | .hbm, ⟨11, _⟩ => ⟨S4x1x2048, .f32⟩
  | .hbm, ⟨12, _⟩ => ⟨S1x4x2048, .f32⟩
  | .hbm, ⟨13, _⟩ => ⟨S4x2048, .f32⟩
  | .hbm, ⟨14, _⟩ => ⟨S4x1x2048, .f32⟩
  | .hbm, ⟨15, _⟩ => ⟨S4x2048x2048, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S1x1x2048, .f32⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S4x1x2048, .f32⟩
  | .hbm, ⟨33, _⟩ => ⟨S4x1x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S1x4x2048, .f32⟩
  | .hbm, ⟨39, _⟩ => ⟨S4x2048, .f32⟩
  | .hbm, ⟨40, _⟩ => ⟨S4x1x2048, .f32⟩
  | .hbm, ⟨41, _⟩ => ⟨S_, .f32⟩
  | .hbm, ⟨42, _⟩ => ⟨S4x1x2048, .f32⟩
  | .hbm, ⟨43, _⟩ => ⟨S4x1x2048, .f32⟩
  | .hbm, ⟨44, _⟩ => ⟨S4x2048x11264, .f32⟩
  | .hbm, ⟨45, _⟩ => ⟨S4x2048x5632, .f32⟩
  | .hbm, ⟨46, _⟩ => ⟨S4x2048x5632, .f32⟩
  | .hbm, ⟨47, _⟩ => ⟨S4x2048x5632, .f32⟩
  | .hbm, ⟨48, _⟩ => ⟨S4x2048x5632, .f32⟩
  | .hbm, ⟨49, _⟩ => ⟨S_, .f32⟩
  | .hbm, ⟨50, _⟩ => ⟨S4x2048x5632, .f32⟩
  | .hbm, ⟨51, _⟩ => ⟨S4x2048x5632, .f32⟩
  | .hbm, ⟨52, _⟩ => ⟨S_, .f32⟩
  | .hbm, ⟨53, _⟩ => ⟨S4x2048x5632, .f32⟩
  | .hbm, ⟨54, _⟩ => ⟨S4x2048x5632, .f32⟩
  | .hbm, ⟨55, _⟩ => ⟨S4x2048x5632, .f32⟩
  | .hbm, ⟨56, _⟩ => ⟨S4x2048x5632, .f32⟩
  | .hbm, ⟨57, _⟩ => ⟨S4x2048x2048, .f32⟩
  | .hbm, ⟨58, _⟩ => ⟨S4x2048x2048, .f32⟩
  | .hbm, ⟨59, _⟩ => ⟨S4x2048x2048, .f32⟩
  | .hbm, ⟨60, _⟩ => ⟨S4x2048x2048, .f32⟩
  | .hbm, ⟨61, _⟩ => ⟨S4x2048x2048, .f32⟩
  | .hbm, ⟨62, _⟩ => ⟨S_, .f32⟩
  | .hbm, ⟨63, _⟩ => ⟨S4x2048, .f32⟩
  | .hbm, ⟨64, _⟩ => ⟨S4x2048x1, .f32⟩
  | .hbm, ⟨65, _⟩ => ⟨S_, .f32⟩
  | .hbm, ⟨66, _⟩ => ⟨S4x2048x1, .f32⟩
  | .hbm, ⟨67, _⟩ => ⟨S4x2048x1, .f32⟩
  | .hbm, ⟨68, _⟩ => ⟨S_, .f32⟩
  | .hbm, ⟨69, _⟩ => ⟨S4x2048x1, .f32⟩
  | .hbm, ⟨70, _⟩ => ⟨S4x2048x1, .f32⟩
  | .hbm, ⟨71, _⟩ => ⟨S4x2048x1, .f32⟩
  | .hbm, ⟨72, _⟩ => ⟨S4x2048x2048, .f32⟩
  | .hbm, ⟨73, _⟩ => ⟨S4x2048x2048, .f32⟩
  | .hbm, ⟨74, _⟩ => ⟨S1x1x2048, .f32⟩
  | .hbm, ⟨75, _⟩ => ⟨S4x2048x2048, .f32⟩
  | .hbm, ⟨76, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Time.lean ====
abbrev S2048x4096 : Shape := ⟨2, ![2048, 4096]⟩
abbrev S4x2048x2048 : Shape := ⟨3, ![4, 2048, 2048]⟩
abbrev S1024x4096 : Shape := ⟨2, ![1024, 4096]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x4096, .bf16⟩
  | .hbm, ⟨1, _⟩ => ⟨S4x2048x2048, .bf16⟩
  | .hbm, ⟨2, _⟩ => ⟨S4x2048x2048, .bf16⟩
  | .hbm, ⟨3, _⟩ => ⟨S4x2048x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x1024, .bf16⟩
  | .local _ .vmem, ⟨7, _⟩ => ⟨S1x1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== TimeRefIdeal.lean ====
abbrev S2048x4096 : Shape := ⟨2, ![2048, 4096]⟩
abbrev S4x2048x2048 : Shape := ⟨3, ![4, 2048, 2048]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4x2048x2048, .bf16⟩
  | .hbm, ⟨2, _⟩ => ⟨S4x2048x2048, .bf16⟩
  | .hbm, ⟨3, _⟩ => ⟨S2048x4096, .f32⟩
  | .hbm, ⟨4, _⟩ => ⟨S4x2048x2048, .f32⟩
  | .hbm, ⟨5, _⟩ => ⟨S4x2048x2048, .f32⟩
  | .hbm, ⟨6, _⟩ => ⟨S2048x2048, .f32⟩
  | .hbm, ⟨7, _⟩ => ⟨S4x2048x2048, .f32⟩
  | .hbm, ⟨8, _⟩ => ⟨S4x2048x2048, .f32⟩
  | .hbm, ⟨9, _⟩ => ⟨S2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S4x2048x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Close.lean ====
abbrev S4x2048x2048 : Shape := ⟨3, ![4, 2048, 2048]⟩
abbrev S9x8x2048 : Shape := ⟨3, ![9, 8, 2048]⟩
abbrev S2048 : Shape := ⟨1, ![2048]⟩
abbrev S2048x11264 : Shape := ⟨2, ![2048, 11264]⟩
abbrev S5632x2048 : Shape := ⟨2, ![5632, 2048]⟩
abbrev S2x2x2048x11264 : Shape := ⟨4, ![2, 2, 2048, 11264]⟩
abbrev S2x2x5632x2048 : Shape := ⟨4, ![2, 2, 5632, 2048]⟩
abbrev S1x2048 : Shape := ⟨2, ![1, 2048]⟩
abbrev S1x1024x2048 : Shape := ⟨3, ![1, 1024, 2048]⟩
abbrev S1x8x2048 : Shape := ⟨3, ![1, 8, 2048]⟩
abbrev S2048x256 : Shape := ⟨2, ![2048, 256]⟩
abbrev S256x2048 : Shape := ⟨2, ![256, 2048]⟩
abbrev S1x1x256x512 : Shape := ⟨4, ![1, 1, 256, 512]⟩
abbrev S1x1x32x2048 : Shape := ⟨4, ![1, 1, 32, 2048]⟩
abbrev S256x512 : Shape := ⟨2, ![256, 512]⟩
abbrev S32x2048 : Shape := ⟨2, ![32, 2048]⟩
abbrev S1024x2048 : Shape := ⟨2, ![1024, 2048]⟩
abbrev S1x1x2048 : Shape := ⟨3, ![1, 1, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 11
  | .vmem => 23
  | .smem => 0
  | _ => 0

abbrev bufTy : (tb : Table) → Fin (tcTables nBuf tb) → BufTy
  | .hbm, ⟨0, _⟩ => ⟨S4x2048x2048, .f32⟩
  | .hbm, ⟨1, _⟩ => ⟨S9x8x2048, .f32⟩
  | .hbm, ⟨2, _⟩ => ⟨S2048, .f32⟩
  | .hbm, ⟨3, _⟩ => ⟨S2048x11264, .bf16⟩
  | .hbm, ⟨4, _⟩ => ⟨S5632x2048, .bf16⟩
  | .hbm, ⟨5, _⟩ => ⟨S2x2x2048x11264, .f32⟩
  | .hbm, ⟨6, _⟩ => ⟨S2x2x5632x2048, .f32⟩
  | .hbm, ⟨7, _⟩ => ⟨S1x2048, .f32⟩
  | .hbm, ⟨8, _⟩ => ⟨S4x2048x2048, .f32⟩
  | .hbm, ⟨9, _⟩ => ⟨S2048x11264, .bf16⟩
  | .hbm, ⟨10, _⟩ => ⟨S5632x2048, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x8x2048, .f32⟩
  | .local _ .vmem, ⟨5, _⟩ => ⟨S1x2048, .f32⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x2048, .bf16⟩
  | .local _ .vmem, ⟨11, _⟩ => ⟨S256x2048, .bf16⟩
  | .local _ .vmem, ⟨12, _⟩ => ⟨S1x1x256x512, .f32⟩
  | .local _ .vmem, ⟨13, _⟩ => ⟨S1x1x256x512, .f32⟩
  | .local _ .vmem, ⟨14, _⟩ => ⟨S1x1x32x2048, .f32⟩
  | .local _ .vmem, ⟨15, _⟩ => ⟨S1x1x32x2048, .f32⟩
  | .local _ .vmem, ⟨16, _⟩ => ⟨S1x1024x2048, .f32⟩
  | .local _ .vmem, ⟨17, _⟩ => ⟨S1x1024x2048, .f32⟩
  | .local _ .vmem, ⟨18, _⟩ => ⟨S256x512, .bf16⟩
  | .local _ .vmem, ⟨19, _⟩ => ⟨S256x512, .bf16⟩
  | .local _ .vmem, ⟨20, _⟩ => ⟨S32x2048, .bf16⟩
  | .local _ .vmem, ⟨21, _⟩ => ⟨S32x2048, .bf16⟩
  | .local _ .vmem, ⟨22, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨3, ![4, 2, 22], ![false, false, false]⟩

def k0_cond1 (i : grid0.Coords) : BitVec 1 :=
  let arg2 : BitVec 32 := BitVec.ofNat 32 (i 2).val
  let c0_i32_0 : BitVec 32 := 0#32
  let v1 : BitVec 1 := Scalar.cmpi .eq arg2 c0_i32_0
  let v2 : BitVec 32 := Scalar.extui v1
  let c0_i32_1 : BitVec 32 := 0#32
  let v3 : BitVec 1 := Scalar.cmpi .ne v2 c0_i32_1
  v3

def k0_off1 (i : grid0.Coords) : Fin 3 → Nat :=
  let c0_35 : Index := 0#32
  let arg0 : BitVec 32 := BitVec.ofNat 32 (i 0).val
  let c0_i32 : BitVec 32 := 0#32
  let v0 : BitVec 32 := Scalar.addi arg0 c0_i32
  let v36 : Index := Scalar.indexCast v0
  let c0_36 : Index := 0#32
  ![0, v36.toNat, 0]
def k0_cond2 (i : grid0.Coords) : BitVec 1 :=
  let arg2 : BitVec 32 := BitVec.ofNat 32 (i 2).val
  let c21_i32 : BitVec 32 := 21#32
  let v29 : BitVec 1 := Scalar.cmpi .eq arg2 c21_i32
  let v30 : BitVec 32 := Scalar.extui v29
  let c0_i32_29 : BitVec 32 := 0#32
  let v31 : BitVec 1 := Scalar.cmpi .ne v30 c0_i32_29
  v31

def k0_off2 (i : grid0.Coords) : Fin 3 → Nat :=
  let c0_33 : Index := 0#32
  let arg0 : BitVec 32 := BitVec.ofNat 32 (i 0).val
  let c0_i32 : BitVec 32 := 0#32
  let v0 : BitVec 32 := Scalar.addi arg0 c0_i32
  let v34 : Index := Scalar.indexCast v0
  let c0_34 : Index := 0#32
  ![0, v34.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi arg2 c22_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  ![c1_i32.toNat, c0_i32.toNat, v1.toNat, arg2.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c22_i32 : BitVec 32 := 22#32
  let v2 : BitVec 32 := Scalar.muli v1 c22_i32
  let v3 : BitVec 32 := Scalar.addi v2 arg2
  let c1_i32 : BitVec 32 := 1#32
  let c0_i32 : BitVec 32 := 0#32
  let c0_i32_0 : BitVec 32 := 0#32
  let c0_i32_1 : BitVec 32 := 0#32
  ![c1_i32.toNat, c0_i32.toNat, v3.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c22_i32 : BitVec 32 := 22#32
  let v2 : BitVec 32 := Scalar.muli v1 c22_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1024x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S32x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== CloseRefIdeal.lean ====
abbrev S4x2048x2048 : Shape := ⟨3, ![4, 2048, 2048]⟩
abbrev S9x8x2048 : Shape := ⟨3, ![9, 8, 2048]⟩
abbrev S2048 : Shape := ⟨1, ![2048]⟩
abbrev S2048x11264 : Shape := ⟨2, ![2048, 11264]⟩
abbrev S5632x2048 : Shape := ⟨2, ![5632, 2048]⟩
abbrev S2x2x2048x11264 : Shape := ⟨4, ![2, 2, 2048, 11264]⟩
abbrev S2x2x5632x2048 : Shape := ⟨4, ![2, 2, 5632, 2048]⟩
abbrev S9x4x2048 : Shape := ⟨3, ![9, 4, 2048]⟩
abbrev S1x4x2048 : Shape := ⟨3, ![1, 4, 2048]⟩
abbrev S4x2048 : Shape := ⟨2, ![4, 2048]⟩
abbrev S4x1x2048 : Shape := ⟨3, ![4, 1, 2048]⟩
abbrev S_ : Shape := ⟨0, ![]⟩
abbrev S4x2048x1 : Shape := ⟨3, ![4, 2048, 1]⟩
abbrev S1x1x2048 : Shape := ⟨3, ![1, 1, 2048]⟩
abbrev S4x2048x11264 : Shape := ⟨3, ![4, 2048, 11264]⟩
abbrev S4x2048x5632 : Shape := ⟨3, ![4, 2048, 5632]⟩
abbrev S1x1x2048x11264 : Shape := ⟨4, ![1, 1, 2048, 11264]⟩
abbrev S1x1x5632x2048 : Shape := ⟨4, ![1, 1, 5632, 2048]⟩

abbrev nBuf : Space → Nat
  | .hbm => 68
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S9x8x2048, .f32⟩
  | .hbm, ⟨2, _⟩ => ⟨S2048, .f32⟩
  | .hbm, ⟨3, _⟩ => ⟨S2048x11264, .bf16⟩
  | .hbm, ⟨4, _⟩ => ⟨S5632x2048, .bf16⟩
  | .hbm, ⟨5, _⟩ => ⟨S2x2x2048x11264, .f32⟩
  | .hbm, ⟨6, _⟩ => ⟨S2x2x5632x2048, .f32⟩
  | .hbm, ⟨7, _⟩ => ⟨S9x4x2048, .f32⟩
  | .hbm, ⟨8, _⟩ => ⟨S2048x11264, .f32⟩
  | .hbm, ⟨9, _⟩ => ⟨S5632x2048, .f32⟩
  | .hbm, ⟨10, _⟩ => ⟨S1x4x2048, .f32⟩
  | .hbm, ⟨11, _⟩ => ⟨S4x2048, .f32⟩
  | .hbm, ⟨12, _⟩ => ⟨S4x1x2048, .f32⟩
  | .hbm, ⟨13, _⟩ => ⟨S1x4x2048, .f32⟩
  | .hbm, ⟨14, _⟩ => ⟨S4x2048, .f32⟩
  | .hbm, ⟨15, _⟩ => ⟨S4x1x2048, .f32⟩
  | .hbm, ⟨16, _⟩ => ⟨S4x2048x2048, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S4x2048x2048, .f32⟩
  | .hbm, ⟨28, _⟩ => ⟨S4x2048x2048, .f32⟩
  | .hbm, ⟨29, _⟩ => ⟨S1x1x2048, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x1x2048, .f32⟩
  | .hbm, ⟨34, _⟩ => ⟨S4x1x2048, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S1x4x2048, .f32⟩
  | .hbm, ⟨40, _⟩ => ⟨S4x2048, .f32⟩
  | .hbm, ⟨41, _⟩ => ⟨S4x1x2048, .f32⟩
  | .hbm, ⟨42, _⟩ => ⟨S_, .f32⟩
  | .hbm, ⟨43, _⟩ => ⟨S4x1x2048, .f32⟩
  | .hbm, ⟨44, _⟩ => ⟨S4x1x2048, .f32⟩
  | .hbm, ⟨45, _⟩ => ⟨S4x2048x11264, .f32⟩
  | .hbm, ⟨46, _⟩ => ⟨S4x2048x5632, .f32⟩
  | .hbm, ⟨47, _⟩ => ⟨S4x2048x5632, .f32⟩
  | .hbm, ⟨48, _⟩ => ⟨S4x2048x5632, .f32⟩
  | .hbm, ⟨49, _⟩ => ⟨S4x2048x5632, .f32⟩
  | .hbm, ⟨50, _⟩ => ⟨S_, .f32⟩
  | .hbm, ⟨51, _⟩ => ⟨S4x2048x5632, .f32⟩
  | .hbm, ⟨52, _⟩ => ⟨S4x2048x5632, .f32⟩
  | .hbm, ⟨53, _⟩ => ⟨S_, .f32⟩
  | .hbm, ⟨54, _⟩ => ⟨S4x2048x5632, .f32⟩
  | .hbm, ⟨55, _⟩ => ⟨S4x2048x5632, .f32⟩
  | .hbm, ⟨56, _⟩ => ⟨S4x2048x5632, .f32⟩
  | .hbm, ⟨57, _⟩ => ⟨S4x2048x5632, .f32⟩
  | .hbm, ⟨58, _⟩ => ⟨S4x2048x2048, .f32⟩
  | .hbm, ⟨59, _⟩ => ⟨S4x2048x2048, .f32⟩
  | .hbm, ⟨60, _⟩ => ⟨S4x2048x2048, .f32⟩
  | .hbm, ⟨61, _⟩ => ⟨S4x2048x2048, .f32⟩
  | .hbm, ⟨62, _⟩ => ⟨S1x1x2048x11264, .f32⟩
  | .hbm, ⟨63, _⟩ => ⟨S2048x11264, .f32⟩
  | .hbm, ⟨64, _⟩ => ⟨S2048x11264, .bf16⟩
  | .hbm, ⟨65, _⟩ => ⟨S1x1x5632x2048, .f32⟩
  | .hbm, ⟨66, _⟩ => ⟨S5632x2048, .f32⟩
  | .hbm, ⟨67, _⟩ => ⟨S5632x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Open.lean ====
abbrev S4x2048x2048 : Shape := ⟨3, ![4, 2048, 2048]⟩
abbrev S9x8x2048 : Shape := ⟨3, ![9, 8, 2048]⟩
abbrev S2048 : Shape := ⟨1, ![2048]⟩
abbrev S2048x11264 : Shape := ⟨2, ![2048, 11264]⟩
abbrev S5632x2048 : Shape := ⟨2, ![5632, 2048]⟩
abbrev S2x2x2048x11264 : Shape := ⟨4, ![2, 2, 2048, 11264]⟩
abbrev S2x2x5632x2048 : Shape := ⟨4, ![2, 2, 5632, 2048]⟩
abbrev S1x2048 : Shape := ⟨2, ![1, 2048]⟩
abbrev S1x1024x2048 : Shape := ⟨3, ![1, 1024, 2048]⟩
abbrev S1x8x2048 : Shape := ⟨3, ![1, 8, 2048]⟩
abbrev S2048x256 : Shape := ⟨2, ![2048, 256]⟩
abbrev S256x2048 : Shape := ⟨2, ![256, 2048]⟩
abbrev S1x1x256x512 : Shape := ⟨4, ![1, 1, 256, 512]⟩
abbrev S1x1x32x2048 : Shape := ⟨4, ![1, 1, 32, 2048]⟩
abbrev S256x512 : Shape := ⟨2, ![256, 512]⟩
abbrev S32x2048 : Shape := ⟨2, ![32, 2048]⟩
abbrev S1024x2048 : Shape := ⟨2, ![1024, 2048]⟩
abbrev S1x1x2048 : Shape := ⟨3, ![1, 1, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 11
  | .vmem => 23
  | .smem => 0
  | _ => 0

abbrev bufTy : (tb : Table) → Fin (tcTables nBuf tb) → BufTy
  | .hbm, ⟨0, _⟩ => ⟨S4x2048x2048, .f32⟩
  | .hbm, ⟨1, _⟩ => ⟨S9x8x2048, .f32⟩
  | .hbm, ⟨2, _⟩ => ⟨S2048, .f32⟩
  | .hbm, ⟨3, _⟩ => ⟨S2048x11264, .bf16⟩
  | .hbm, ⟨4, _⟩ => ⟨S5632x2048, .bf16⟩
  | .hbm, ⟨5, _⟩ => ⟨S2x2x2048x11264, .f32⟩
  | .hbm, ⟨6, _⟩ => ⟨S2x2x5632x2048, .f32⟩
  | .hbm, ⟨7, _⟩ => ⟨S1x2048, .f32⟩
  | .hbm, ⟨8, _⟩ => ⟨S4x2048x2048, .f32⟩
  | .hbm, ⟨9, _⟩ => ⟨S2048x11264, .bf16⟩
  | .hbm, ⟨10, _⟩ => ⟨S5632x2048, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x8x2048, .f32⟩
  | .local _ .vmem, ⟨5, _⟩ => ⟨S1x2048, .f32⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x2048, .bf16⟩
  | .local _ .vmem, ⟨11, _⟩ => ⟨S256x2048, .bf16⟩
  | .local _ .vmem, ⟨12, _⟩ => ⟨S1x1x256x512, .f32⟩
  | .local _ .vmem, ⟨13, _⟩ => ⟨S1x1x256x512, .f32⟩
  | .local _ .vmem, ⟨14, _⟩ => ⟨S1x1x32x2048, .f32⟩
  | .local _ .vmem, ⟨15, _⟩ => ⟨S1x1x32x2048, .f32⟩
  | .local _ .vmem, ⟨16, _⟩ => ⟨S1x1024x2048, .f32⟩
  | .local _ .vmem, ⟨17, _⟩ => ⟨S1x1024x2048, .f32⟩
  | .local _ .vmem, ⟨18, _⟩ => ⟨S256x512, .bf16⟩
  | .local _ .vmem, ⟨19, _⟩ => ⟨S256x512, .bf16⟩
  | .local _ .vmem, ⟨20, _⟩ => ⟨S32x2048, .bf16⟩
  | .local _ .vmem, ⟨21, _⟩ => ⟨S32x2048, .bf16⟩
  | .local _ .vmem, ⟨22, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨3, ![4, 2, 22], ![false, false, false]⟩

def k0_cond1 (i : grid0.Coords) : BitVec 1 :=
  let arg2 : BitVec 32 := BitVec.ofNat 32 (i 2).val
  let c0_i32_0 : BitVec 32 := 0#32
  let v1 : BitVec 1 := Scalar.cmpi .eq arg2 c0_i32_0
  let v2 : BitVec 32 := Scalar.extui v1
  let c0_i32_1 : BitVec 32 := 0#32
  let v3 : BitVec 1 := Scalar.cmpi .ne v2 c0_i32_1
  v3

def k0_off1 (i : grid0.Coords) : Fin 3 → Nat :=
  let c0_35 : Index := 0#32
  let arg0 : BitVec 32 := BitVec.ofNat 32 (i 0).val
  let c0_i32 : BitVec 32 := 0#32
  let v0 : BitVec 32 := Scalar.addi arg0 c0_i32
  let v36 : Index := Scalar.indexCast v0
  let c0_36 : Index := 0#32
  ![0, v36.toNat, 0]
def k0_cond2 (i : grid0.Coords) : BitVec 1 :=
  let arg2 : BitVec 32 := BitVec.ofNat 32 (i 2).val
  let c21_i32 : BitVec 32 := 21#32
  let v29 : BitVec 1 := Scalar.cmpi .eq arg2 c21_i32
  let v30 : BitVec 32 := Scalar.extui v29
  let c0_i32_29 : BitVec 32 := 0#32
  let v31 : BitVec 1 := Scalar.cmpi .ne v30 c0_i32_29
  v31

def k0_off2 (i : grid0.Coords) : Fin 3 → Nat :=
  let c0_33 : Index := 0#32
  let arg0 : BitVec 32 := BitVec.ofNat 32 (i 0).val
  let c0_i32 : BitVec 32 := 0#32
  let v0 : BitVec 32 := Scalar.addi arg0 c0_i32
  let v34 : Index := Scalar.indexCast v0
  let c0_34 : Index := 0#32
  ![0, v34.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi arg2 c22_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c1_i32 : BitVec 32 := 1#32
  let c1_i32_0 : BitVec 32 := 1#32
  let c0_i32 : BitVec 32 := 0#32
  ![c1_i32.toNat, c1_i32_0.toNat, v1.toNat, arg2.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c22_i32 : BitVec 32 := 22#32
  let v2 : BitVec 32 := Scalar.muli v1 c22_i32
  let v3 : BitVec 32 := Scalar.addi v2 arg2
  let c1_i32 : BitVec 32 := 1#32
  let c1_i32_0 : BitVec 32 := 1#32
  let c0_i32 : BitVec 32 := 0#32
  let c0_i32_1 : BitVec 32 := 0#32
  ![c1_i32.toNat, c1_i32_0.toNat, v3.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c22_i32 : BitVec 32 := 22#32
  let v2 : BitVec 32 := Scalar.muli v1 c22_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1024x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S32x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== OpenRefIdeal.lean ====
abbrev S4x2048x2048 : Shape := ⟨3, ![4, 2048, 2048]⟩
abbrev S9x8x2048 : Shape := ⟨3, ![9, 8, 2048]⟩
abbrev S2048 : Shape := ⟨1, ![2048]⟩
abbrev S2048x11264 : Shape := ⟨2, ![2048, 11264]⟩
abbrev S5632x2048 : Shape := ⟨2, ![5632, 2048]⟩
abbrev S2x2x2048x11264 : Shape := ⟨4, ![2, 2, 2048, 11264]⟩
abbrev S2x2x5632x2048 : Shape := ⟨4, ![2, 2, 5632, 2048]⟩
abbrev S9x4x2048 : Shape := ⟨3, ![9, 4, 2048]⟩
abbrev S1x4x2048 : Shape := ⟨3, ![1, 4, 2048]⟩
abbrev S4x2048 : Shape := ⟨2, ![4, 2048]⟩
abbrev S4x1x2048 : Shape := ⟨3, ![4, 1, 2048]⟩
abbrev S_ : Shape := ⟨0, ![]⟩
abbrev S4x2048x1 : Shape := ⟨3, ![4, 2048, 1]⟩
abbrev S1x1x2048 : Shape := ⟨3, ![1, 1, 2048]⟩
abbrev S4x2048x11264 : Shape := ⟨3, ![4, 2048, 11264]⟩
abbrev S4x2048x5632 : Shape := ⟨3, ![4, 2048, 5632]⟩
abbrev S1x1x2048x11264 : Shape := ⟨4, ![1, 1, 2048, 11264]⟩
abbrev S1x1x5632x2048 : Shape := ⟨4, ![1, 1, 5632, 2048]⟩

abbrev nBuf : Space → Nat
  | .hbm => 68
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S9x8x2048, .f32⟩
  | .hbm, ⟨2, _⟩ => ⟨S2048, .f32⟩
  | .hbm, ⟨3, _⟩ => ⟨S2048x11264, .bf16⟩
  | .hbm, ⟨4, _⟩ => ⟨S5632x2048, .bf16⟩
  | .hbm, ⟨5, _⟩ => ⟨S2x2x2048x11264, .f32⟩
  | .hbm, ⟨6, _⟩ => ⟨S2x2x5632x2048, .f32⟩
  | .hbm, ⟨7, _⟩ => ⟨S9x4x2048, .f32⟩
  | .hbm, ⟨8, _⟩ => ⟨S2048x11264, .f32⟩
  | .hbm, ⟨9, _⟩ => ⟨S5632x2048, .f32⟩
  | .hbm, ⟨10, _⟩ => ⟨S1x4x2048, .f32⟩
  | .hbm, ⟨11, _⟩ => ⟨S4x2048, .f32⟩
  | .hbm, ⟨12, _⟩ => ⟨S4x1x2048, .f32⟩
  | .hbm, ⟨13, _⟩ => ⟨S1x4x2048, .f32⟩
  | .hbm, ⟨14, _⟩ => ⟨S4x2048, .f32⟩
  | .hbm, ⟨15, _⟩ => ⟨S4x1x2048, .f32⟩
  | .hbm, ⟨16, _⟩ => ⟨S4x2048x2048, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S4x2048x2048, .f32⟩
  | .hbm, ⟨28, _⟩ => ⟨S4x2048x2048, .f32⟩
  | .hbm, ⟨29, _⟩ => ⟨S1x1x2048, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x1x2048, .f32⟩
  | .hbm, ⟨34, _⟩ => ⟨S4x1x2048, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S1x4x2048, .f32⟩
  | .hbm, ⟨40, _⟩ => ⟨S4x2048, .f32⟩
  | .hbm, ⟨41, _⟩ => ⟨S4x1x2048, .f32⟩
  | .hbm, ⟨42, _⟩ => ⟨S_, .f32⟩
  | .hbm, ⟨43, _⟩ => ⟨S4x1x2048, .f32⟩
  | .hbm, ⟨44, _⟩ => ⟨S4x1x2048, .f32⟩
  | .hbm, ⟨45, _⟩ => ⟨S4x2048x11264, .f32⟩
  | .hbm, ⟨46, _⟩ => ⟨S4x2048x5632, .f32⟩
  | .hbm, ⟨47, _⟩ => ⟨S4x2048x5632, .f32⟩
  | .hbm, ⟨48, _⟩ => ⟨S4x2048x5632, .f32⟩
  | .hbm, ⟨49, _⟩ => ⟨S4x2048x5632, .f32⟩
  | .hbm, ⟨50, _⟩ => ⟨S_, .f32⟩
  | .hbm, ⟨51, _⟩ => ⟨S4x2048x5632, .f32⟩
  | .hbm, ⟨52, _⟩ => ⟨S4x2048x5632, .f32⟩
  | .hbm, ⟨53, _⟩ => ⟨S_, .f32⟩
  | .hbm, ⟨54, _⟩ => ⟨S4x2048x5632, .f32⟩
  | .hbm, ⟨55, _⟩ => ⟨S4x2048x5632, .f32⟩
  | .hbm, ⟨56, _⟩ => ⟨S4x2048x5632, .f32⟩
  | .hbm, ⟨57, _⟩ => ⟨S4x2048x5632, .f32⟩
  | .hbm, ⟨58, _⟩ => ⟨S4x2048x2048, .f32⟩
  | .hbm, ⟨59, _⟩ => ⟨S4x2048x2048, .f32⟩
  | .hbm, ⟨60, _⟩ => ⟨S4x2048x2048, .f32⟩
  | .hbm, ⟨61, _⟩ => ⟨S4x2048x2048, .f32⟩
  | .hbm, ⟨62, _⟩ => ⟨S1x1x2048x11264, .f32⟩
  | .hbm, ⟨63, _⟩ => ⟨S2048x11264, .f32⟩
  | .hbm, ⟨64, _⟩ => ⟨S2048x11264, .bf16⟩
  | .hbm, ⟨65, _⟩ => ⟨S1x1x5632x2048, .f32⟩
  | .hbm, ⟨66, _⟩ => ⟨S5632x2048, .f32⟩
  | .hbm, ⟨67, _⟩ => ⟨S5632x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Enter.lean ====
abbrev S4x2048x2048 : Shape := ⟨3, ![4, 2048, 2048]⟩
abbrev S9x8x2048 : Shape := ⟨3, ![9, 8, 2048]⟩
abbrev S2048 : Shape := ⟨1, ![2048]⟩
abbrev S2048x11264 : Shape := ⟨2, ![2048, 11264]⟩
abbrev S5632x2048 : Shape := ⟨2, ![5632, 2048]⟩
abbrev S2x2x2048x11264 : Shape := ⟨4, ![2, 2, 2048, 11264]⟩
abbrev S2x2x5632x2048 : Shape := ⟨4, ![2, 2, 5632, 2048]⟩
abbrev S8x2048 : Shape := ⟨2, ![8, 2048]⟩
abbrev S2x2048x18432 : Shape := ⟨3, ![2, 2048, 18432]⟩
abbrev S2x1x18432 : Shape := ⟨3, ![2, 1, 18432]⟩
abbrev S1x2048 : Shape := ⟨2, ![1, 2048]⟩
abbrev S1x1024x2048 : Shape := ⟨3, ![1, 1024, 2048]⟩
abbrev S1x8x2048 : Shape := ⟨3, ![1, 8, 2048]⟩
abbrev S2048x256 : Shape := ⟨2, ![2048, 256]⟩
abbrev S256x2048 : Shape := ⟨2, ![256, 2048]⟩
abbrev S1x1x256x512 : Shape := ⟨4, ![1, 1, 256, 512]⟩
abbrev S1x1x32x2048 : Shape := ⟨4, ![1, 1, 32, 2048]⟩
abbrev S1x2048x128 : Shape := ⟨3, ![1, 2048, 128]⟩
abbrev S1x1x128 : Shape := ⟨3, ![1, 1, 128]⟩
abbrev S256x512 : Shape := ⟨2, ![256, 512]⟩
abbrev S32x2048 : Shape := ⟨2, ![32, 2048]⟩
abbrev S1x8x128 : Shape := ⟨3, ![1, 8, 128]⟩
abbrev S1024x2048 : Shape := ⟨2, ![1024, 2048]⟩
abbrev S1x1x2048 : Shape := ⟨3, ![1, 1, 2048]⟩
abbrev S1024 : Shape := ⟨1, ![1024]⟩
abbrev S1024x1 : Shape := ⟨2, ![1024, 1]⟩
abbrev S1024x256 : Shape := ⟨2, ![1024, 256]⟩
abbrev S2048x128 : Shape := ⟨2, ![2048, 128]⟩
abbrev S8x128 : Shape := ⟨2, ![8, 128]⟩
abbrev S1x128 : Shape := ⟨2, ![1, 128]⟩

abbrev nBuf : Space → Nat
  | .hbm => 15
  | .vmem => 30
  | .smem => 0
  | _ => 0

abbrev bufTy : (tb : Table) → Fin (tcTables nBuf tb) → BufTy
  | .hbm, ⟨0, _⟩ => ⟨S4x2048x2048, .f32⟩
  | .hbm, ⟨1, _⟩ => ⟨S9x8x2048, .f32⟩
  | .hbm, ⟨2, _⟩ => ⟨S2048, .f32⟩
  | .hbm, ⟨3, _⟩ => ⟨S2048x11264, .bf16⟩
  | .hbm, ⟨4, _⟩ => ⟨S5632x2048, .bf16⟩
  | .hbm, ⟨5, _⟩ => ⟨S2x2x2048x11264, .f32⟩
  | .hbm, ⟨6, _⟩ => ⟨S2x2x5632x2048, .f32⟩
  | .hbm, ⟨7, _⟩ => ⟨S8x2048, .f32⟩
  | .hbm, ⟨8, _⟩ => ⟨S2x2048x18432, .f32⟩
  | .hbm, ⟨9, _⟩ => ⟨S2x1x18432, .f32⟩
  | .hbm, ⟨10, _⟩ => ⟨S1x2048, .f32⟩
  | .hbm, ⟨11, _⟩ => ⟨S4x2048x2048, .f32⟩
  | .hbm, ⟨12, _⟩ => ⟨S2048x11264, .bf16⟩
  | .hbm, ⟨13, _⟩ => ⟨S5632x2048, .bf16⟩
  | .hbm, ⟨14, _⟩ => ⟨S9x8x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x8x2048, .f32⟩
  | .local _ .vmem, ⟨5, _⟩ => ⟨S1x2048, .f32⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x2048, .bf16⟩
  | .local _ .vmem, ⟨11, _⟩ => ⟨S256x2048, .bf16⟩
  | .local _ .vmem, ⟨12, _⟩ => ⟨S1x1x256x512, .f32⟩
  | .local _ .vmem, ⟨13, _⟩ => ⟨S1x1x256x512, .f32⟩
  | .local _ .vmem, ⟨14, _⟩ => ⟨S1x1x32x2048, .f32⟩
  | .local _ .vmem, ⟨15, _⟩ => ⟨S1x1x32x2048, .f32⟩
  | .local _ .vmem, ⟨16, _⟩ => ⟨S8x2048, .f32⟩
  | .local _ .vmem, ⟨17, _⟩ => ⟨S1x2048x128, .f32⟩
  | .local _ .vmem, ⟨18, _⟩ => ⟨S1x2048x128, .f32⟩
  | .local _ .vmem, ⟨19, _⟩ => ⟨S1x1x128, .f32⟩
  | .local _ .vmem, ⟨20, _⟩ => ⟨S1x1x128, .f32⟩
  | .local _ .vmem, ⟨21, _⟩ => ⟨S1x1024x2048, .f32⟩
  | .local _ .vmem, ⟨22, _⟩ => ⟨S1x1024x2048, .f32⟩
  | .local _ .vmem, ⟨23, _⟩ => ⟨S256x512, .bf16⟩
  | .local _ .vmem, ⟨24, _⟩ => ⟨S256x512, .bf16⟩
  | .local _ .vmem, ⟨25, _⟩ => ⟨S32x2048, .bf16⟩
  | .local _ .vmem, ⟨26, _⟩ => ⟨S32x2048, .bf16⟩
  | .local _ .vmem, ⟨27, _⟩ => ⟨S1x8x128, .f32⟩
  | .local _ .vmem, ⟨28, _⟩ => ⟨S1x8x128, .f32⟩
  | .local _ .vmem, ⟨29, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨3, ![4, 2, 22], ![false, false, false]⟩

def k0_cond1 (i : grid0.Coords) : BitVec 1 :=
  let arg2 : BitVec 32 := BitVec.ofNat 32 (i 2).val
  let c0_i32_0 : BitVec 32 := 0#32
  let v1 : BitVec 1 := Scalar.cmpi .eq arg2 c0_i32_0
  let v2 : BitVec 32 := Scalar.extui v1
  let c0_i32_1 : BitVec 32 := 0#32
  let v3 : BitVec 1 := Scalar.cmpi .ne v2 c0_i32_1
  v3

def k0_off1 (i : grid0.Coords) : Fin 3 → Nat :=
  let c0_47 : Index := 0#32
  let arg0 : BitVec 32 := BitVec.ofNat 32 (i 0).val
  let c0_i32 : BitVec 32 := 0#32
  let v0 : BitVec 32 := Scalar.addi arg0 c0_i32
  let v51 : Index := Scalar.indexCast v0
  let c0_48 : Index := 0#32
  ![0, v51.toNat, 0]
def k0_cond2 (i : grid0.Coords) : BitVec 1 :=
  let arg2 : BitVec 32 := BitVec.ofNat 32 (i 2).val
  let c21_i32 : BitVec 32 := 21#32
  let v44 : BitVec 1 := Scalar.cmpi .eq arg2 c21_i32
  let v45 : BitVec 32 := Scalar.extui v44
  let c0_i32_41 : BitVec 32 := 0#32
  let v46 : BitVec 1 := Scalar.cmpi .ne v45 c0_i32_41
  v46

def k0_off2 (i : grid0.Coords) : Fin 3 → Nat :=
  let c0_45 : Index := 0#32
  let arg0 : BitVec 32 := BitVec.ofNat 32 (i 0).val
  let c0_i32 : BitVec 32 := 0#32
  let v0 : BitVec 32 := Scalar.addi arg0 c0_i32
  let v49 : Index := Scalar.indexCast v0
  let c0_46 : Index := 0#32
  ![0, v49.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi arg2 c22_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c1_i32 : BitVec 32 := 1#32
  let c0_i32_0 : BitVec 32 := 0#32
  ![c0_i32.toNat, c1_i32.toNat, v1.toNat, arg2.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c22_i32 : BitVec 32 := 22#32
  let v2 : BitVec 32 := Scalar.muli v1 c22_i32
  let v3 : BitVec 32 := Scalar.addi v2 arg2
  let c0_i32 : BitVec 32 := 0#32
  let c1_i32 : BitVec 32 := 1#32
  let c0_i32_0 : BitVec 32 := 0#32
  let c0_i32_1 : BitVec 32 := 0#32
  ![c0_i32.toNat, c1_i32.toNat, v3.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c22_i32 : BitVec 32 := 22#32
  let v2 : BitVec 32 := Scalar.muli v1 c22_i32
  let v3 : BitVec 32 := Scalar.addi v2 arg2
  let c143_i32 : BitVec 32 := 143#32
  let v4 : BitVec 32 := Scalar.minsi v3 c143_i32
  let c1_i32 : BitVec 32 := 1#32
  let c0_i32 : BitVec 32 := 0#32
  let c0_i32_0 : BitVec 32 := 0#32
  ![c1_i32.toNat, c0_i32.toNat, v4.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c22_i32 : BitVec 32 := 22#32
  let v2 : BitVec 32 := Scalar.muli v1 c22_i32
  let v3 : BitVec 32 := Scalar.addi v2 arg2
  let c143_i32 : BitVec 32 := 143#32
  let v4 : BitVec 32 := Scalar.minsi v3 c143_i32
  let c1_i32 : BitVec 32 := 1#32
  let c0_i32 : BitVec 32 := 0#32
  let c0_i32_0 : BitVec 32 := 0#32
  ![c1_i32.toNat, c0_i32.toNat, v4.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c22_i32 : BitVec 32 := 22#32
  let v2 : BitVec 32 := Scalar.muli v1 c22_i32
  let v3 : BitVec 32 := Scalar.addi v2 arg2
  let c0_i32 : BitVec 32 := 0#32
  let c0_i32_0 : BitVec 32 := 0#32
  ![v3.toNat, c0_i32.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c22_i32 : BitVec 32 := 22#32
  let v2 : BitVec 32 := Scalar.muli v1 c22_i32
  let v3 : BitVec 32 := Scalar.addi v2 arg2
  let c143_i32 : BitVec 32 := 143#32
  let v4 : BitVec 32 := Scalar.minsi v3 c143_i32
  let c16_i32 : BitVec 32 := 16#32
  let v5 : BitVec 32 := Scalar.divsi v4 c16_i32
  let c0_i32 : BitVec 32 := 0#32
  let v6 : BitVec 1 := Scalar.cmpi .sgt v4 c0_i32
  let v7 : BitVec 32 := Scalar.extui v6
  let c0_i32_0 : BitVec 32 := 0#32
  let v8 : BitVec 1 := Scalar.cmpi .slt v4 c0_i32_0
  let v9 : BitVec 32 := Scalar.extui v8
  let v10 : BitVec 32 := Scalar.subi v7 v9
  let c0_i32_1 : BitVec 32 := 0#32
  let v11 : BitVec 1 := Scalar.cmpi .sgt c16_i32 c0_i32_1
  let v12 : BitVec 32 := Scalar.extui v11
  let c0_i32_2 : BitVec 32 := 0#32
  let v13 : BitVec 1 := Scalar.cmpi .slt c16_i32 c0_i32_2
  let v14 : BitVec 32 := Scalar.extui v13
  let v15 : BitVec 32 := Scalar.subi v12 v14
  let v16 : BitVec 1 := Scalar.cmpi .ne v10 v15
  let v17 : BitVec 32 := Scalar.remsi v4 c16_i32
  let c0_i32_3 : BitVec 32 := 0#32
  let v18 : BitVec 1 := Scalar.cmpi .ne v17 c0_i32_3
  let v19 : BitVec 1 := Scalar.andi v16 v18
  let c1_i32 : BitVec 32 := 1#32
  let v20 : BitVec 32 := Scalar.subi v5 c1_i32
  let v21 : BitVec 32 := Scalar.select v19 v20 v5
  let c2_i32_4 : BitVec 32 := 2#32
  let v22 : BitVec 32 := Scalar.muli arg0 c2_i32_4
  let v23 : BitVec 32 := Scalar.addi v22 arg1
  let c22_i32_5 : BitVec 32 := 22#32
  let v24 : BitVec 32 := Scalar.muli v23 c22_i32_5
  let v25 : BitVec 32 := Scalar.addi v24 arg2
  let c143_i32_6 : BitVec 32 := 143#32
  let v26 : BitVec 32 := Scalar.minsi v25 c143_i32_6
  let c16_i32_7 : BitVec 32 := 16#32
  let c0_i32_8 : BitVec 32 := 0#32
  let v27 : BitVec 1 := Scalar.cmpi .eq c16_i32_7 c0_i32_8
  let c1_i32_9 : BitVec 32 := 1#32
  let v28 : BitVec 32 := Scalar.select v27 c1_i32_9 c16_i32_7
  let v29 : BitVec 32 := Scalar.remsi v26 v28
  let c0_i32_10 : BitVec 32 := 0#32
  let v30 : BitVec 1 := Scalar.cmpi .ne v29 c0_i32_10
  let c0_i32_11 : BitVec 32 := 0#32
  let v31 : BitVec 1 := Scalar.cmpi .slt v29 c0_i32_11
  let c0_i32_12 : BitVec 32 := 0#32
  let v32 : BitVec 1 := Scalar.cmpi .slt v28 c0_i32_12
  let v33 : BitVec 1 := Scalar.xori v31 v32
  let v34 : BitVec 1 := Scalar.andi v33 v30
  let v35 : BitVec 32 := Scalar.addi v29 v28
  let v36 : BitVec 32 := Scalar.select v34 v35 v29
  let c0_i32_13 : BitVec 32 := 0#32
  let c0_i32_14 : BitVec 32 := 0#32
  ![v21.toNat, c0_i32_13.toNat, v36.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1024x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S32x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]
-- ==== EnterRefIdeal.lean ====
abbrev S4x2048x2048 : Shape := ⟨3, ![4, 2048, 2048]⟩
abbrev S9x8x2048 : Shape := ⟨3, ![9, 8, 2048]⟩
abbrev S2048 : Shape := ⟨1, ![2048]⟩
abbrev S2048x11264 : Shape := ⟨2, ![2048, 11264]⟩
abbrev S5632x2048 : Shape := ⟨2, ![5632, 2048]⟩
abbrev S2x2x2048x11264 : Shape := ⟨4, ![2, 2, 2048, 11264]⟩
abbrev S2x2x5632x2048 : Shape := ⟨4, ![2, 2, 5632, 2048]⟩
abbrev S8x2048 : Shape := ⟨2, ![8, 2048]⟩
abbrev S2x2048x18432 : Shape := ⟨3, ![2, 2048, 18432]⟩
abbrev S2x1x18432 : Shape := ⟨3, ![2, 1, 18432]⟩
abbrev S9x4x2048 : Shape := ⟨3, ![9, 4, 2048]⟩
abbrev S1x4x2048 : Shape := ⟨3, ![1, 4, 2048]⟩
abbrev S4x2048 : Shape := ⟨2, ![4, 2048]⟩
abbrev S4x1x2048 : Shape := ⟨3, ![4, 1, 2048]⟩
abbrev S_ : Shape := ⟨0, ![]⟩
abbrev S4x2048x1 : Shape := ⟨3, ![4, 2048, 1]⟩
abbrev S1x1x2048 : Shape := ⟨3, ![1, 1, 2048]⟩
abbrev S4x2048x11264 : Shape := ⟨3, ![4, 2048, 11264]⟩
abbrev S4x2048x5632 : Shape := ⟨3, ![4, 2048, 5632]⟩
abbrev S1x2048x18432 : Shape := ⟨3, ![1, 2048, 18432]⟩
abbrev S2048x18432 : Shape := ⟨2, ![2048, 18432]⟩
abbrev S8x18432 : Shape := ⟨2, ![8, 18432]⟩
abbrev S1x1x18432 : Shape := ⟨3, ![1, 1, 18432]⟩
abbrev S1x18432 : Shape := ⟨2, ![1, 18432]⟩
abbrev S1x1x2048x11264 : Shape := ⟨4, ![1, 1, 2048, 11264]⟩
abbrev S1x1x5632x2048 : Shape := ⟨4, ![1, 1, 5632, 2048]⟩
abbrev S8x9x2048 : Shape := ⟨3, ![8, 9, 2048]⟩

abbrev nBuf : Space → Nat
  | .hbm => 89
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S9x8x2048, .f32⟩
  | .hbm, ⟨2, _⟩ => ⟨S2048, .f32⟩
  | .hbm, ⟨3, _⟩ => ⟨S2048x11264, .bf16⟩
  | .hbm, ⟨4, _⟩ => ⟨S5632x2048, .bf16⟩
  | .hbm, ⟨5, _⟩ => ⟨S2x2x2048x11264, .f32⟩
  | .hbm, ⟨6, _⟩ => ⟨S2x2x5632x2048, .f32⟩
  | .hbm, ⟨7, _⟩ => ⟨S8x2048, .f32⟩
  | .hbm, ⟨8, _⟩ => ⟨S2x2048x18432, .f32⟩
  | .hbm, ⟨9, _⟩ => ⟨S2x1x18432, .f32⟩
  | .hbm, ⟨10, _⟩ => ⟨S9x4x2048, .f32⟩
  | .hbm, ⟨11, _⟩ => ⟨S2048x11264, .f32⟩
  | .hbm, ⟨12, _⟩ => ⟨S5632x2048, .f32⟩
  | .hbm, ⟨13, _⟩ => ⟨S1x4x2048, .f32⟩
  | .hbm, ⟨14, _⟩ => ⟨S4x2048, .f32⟩
  | .hbm, ⟨15, _⟩ => ⟨S4x1x2048, .f32⟩
  | .hbm, ⟨16, _⟩ => ⟨S1x4x2048, .f32⟩
  | .hbm, ⟨17, _⟩ => ⟨S4x2048, .f32⟩
  | .hbm, ⟨18, _⟩ => ⟨S4x1x2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S1x1x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x1x2048, .f32⟩
  | .hbm, ⟨37, _⟩ => ⟨S4x1x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S1x4x2048, .f32⟩
  | .hbm, ⟨43, _⟩ => ⟨S4x2048, .f32⟩
  | .hbm, ⟨44, _⟩ => ⟨S4x1x2048, .f32⟩
  | .hbm, ⟨45, _⟩ => ⟨S_, .f32⟩
  | .hbm, ⟨46, _⟩ => ⟨S4x1x2048, .f32⟩
  | .hbm, ⟨47, _⟩ => ⟨S4x1x2048, .f32⟩
  | .hbm, ⟨48, _⟩ => ⟨S4x2048x11264, .f32⟩
  | .hbm, ⟨49, _⟩ => ⟨S4x2048x5632, .f32⟩
  | .hbm, ⟨50, _⟩ => ⟨S4x2048x5632, .f32⟩
  | .hbm, ⟨51, _⟩ => ⟨S4x2048x5632, .f32⟩
  | .hbm, ⟨52, _⟩ => ⟨S4x2048x5632, .f32⟩
  | .hbm, ⟨53, _⟩ => ⟨S_, .f32⟩
  | .hbm, ⟨54, _⟩ => ⟨S4x2048x5632, .f32⟩
  | .hbm, ⟨55, _⟩ => ⟨S4x2048x5632, .f32⟩
  | .hbm, ⟨56, _⟩ => ⟨S_, .f32⟩
  | .hbm, ⟨57, _⟩ => ⟨S4x2048x5632, .f32⟩
  | .hbm, ⟨58, _⟩ => ⟨S4x2048x5632, .f32⟩
  | .hbm, ⟨59, _⟩ => ⟨S4x2048x5632, .f32⟩
  | .hbm, ⟨60, _⟩ => ⟨S4x2048x5632, .f32⟩
  | .hbm, ⟨61, _⟩ => ⟨S4x2048x2048, .f32⟩
  | .hbm, ⟨62, _⟩ => ⟨S4x2048x2048, .f32⟩
  | .hbm, ⟨63, _⟩ => ⟨S4x2048x2048, .f32⟩
  | .hbm, ⟨64, _⟩ => ⟨S4x2048x2048, .f32⟩
  | .hbm, ⟨65, _⟩ => ⟨S8x2048, .f32⟩
  | .hbm, ⟨66, _⟩ => ⟨S8x2048, .f32⟩
  | .hbm, ⟨67, _⟩ => ⟨S_, .f32⟩
  | .hbm, ⟨68, _⟩ => ⟨S8x2048, .f32⟩
  | .hbm, ⟨69, _⟩ => ⟨S8x2048, .f32⟩
  | .hbm, ⟨70, _⟩ => ⟨S_, .f32⟩
  | .hbm, ⟨71, _⟩ => ⟨S8x2048, .f32⟩
  | .hbm, ⟨72, _⟩ => ⟨S8x2048, .f32⟩
  | .hbm, ⟨73, _⟩ => ⟨S8x2048, .f32⟩
  | .hbm, ⟨74, _⟩ => ⟨S1x2048x18432, .f32⟩
  | .hbm, ⟨75, _⟩ => ⟨S2048x18432, .f32⟩
  | .hbm, ⟨76, _⟩ => ⟨S8x18432, .f32⟩
  | .hbm, ⟨77, _⟩ => ⟨S1x1x18432, .f32⟩
  | .hbm, ⟨78, _⟩ => ⟨S1x18432, .f32⟩
  | .hbm, ⟨79, _⟩ => ⟨S8x18432, .f32⟩
  | .hbm, ⟨80, _⟩ => ⟨S8x18432, .f32⟩
  | .hbm, ⟨81, _⟩ => ⟨S1x1x2048x11264, .f32⟩
  | .hbm, ⟨82, _⟩ => ⟨S2048x11264, .f32⟩
  | .hbm, ⟨83, _⟩ => ⟨S2048x11264, .bf16⟩
  | .hbm, ⟨84, _⟩ => ⟨S1x1x5632x2048, .f32⟩
  | .hbm, ⟨85, _⟩ => ⟨S5632x2048, .f32⟩
  | .hbm, ⟨86, _⟩ => ⟨S5632x2048, .bf16⟩
  | .hbm, ⟨87, _⟩ => ⟨S8x9x2048, .f32⟩
  | .hbm, ⟨88, _⟩ => ⟨S9x8x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Context.lean ====
abbrev S1x1024x2048 : Shape := ⟨3, ![1, 1024, 2048]⟩
abbrev S9x8x2048 : Shape := ⟨3, ![9, 8, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S1x8x2048 : Shape := ⟨3, ![1, 8, 2048]⟩
abbrev S2048x256 : Shape := ⟨2, ![2048, 256]⟩
abbrev S256x2048 : Shape := ⟨2, ![256, 2048]⟩
abbrev S1024x2048 : Shape := ⟨2, ![1024, 2048]⟩
abbrev S1x1x2048 : Shape := ⟨3, ![1, 1, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 7
  | .vmem => 13
  | .smem => 0
  | _ => 0

abbrev bufTy : (tb : Table) → Fin (tcTables nBuf tb) → BufTy
  | .hbm, ⟨0, _⟩ => ⟨S1x1024x2048, .f32⟩
  | .hbm, ⟨1, _⟩ => ⟨S9x8x2048, .f32⟩
  | .hbm, ⟨2, _⟩ => ⟨S2048, .f32⟩
  | .hbm, ⟨3, _⟩ => ⟨S2048x11264, .bf16⟩
  | .hbm, ⟨4, _⟩ => ⟨S5632x2048, .bf16⟩
  | .hbm, ⟨5, _⟩ => ⟨S1x2048, .f32⟩
  | .hbm, ⟨6, _⟩ => ⟨S1x1024x2048, .f32⟩
  | .local _ .vmem, ⟨0, _⟩ => ⟨S1x1024x2048, .f32⟩
  | .local _ .vmem, ⟨1, _⟩ => ⟨S1x8x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x2048, .f32⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S256x2048, .bf16⟩
  | .local _ .vmem, ⟨10, _⟩ => ⟨S256x2048, .bf16⟩
  | .local _ .vmem, ⟨11, _⟩ => ⟨S1x1024x2048, .f32⟩
  | .local _ .vmem, ⟨12, _⟩ => ⟨S1024x2048, .bf16⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11

abbrev nD : Nat := 1
abbrev τ : Topo := Topo.v7x

variable {F : FTy → Type} [FloatOps F]

abbrev grid0 : Pipeline.Grid := ⟨3, ![1, 1, 22], ![false, false, false]⟩

def k0_cond1 (i : grid0.Coords) : BitVec 1 :=
  let arg2 : BitVec 32 := BitVec.ofNat 32 (i 2).val
  let c0_i32 : BitVec 32 := 0#32
  let v1 : BitVec 1 := Scalar.cmpi .eq arg2 c0_i32
  let v2 : BitVec 32 := Scalar.extui v1
  let c0_i32_0 : BitVec 32 := 0#32
  let v3 : BitVec 1 := Scalar.cmpi .ne v2 c0_i32_0
  v3

def k0_off1 (i : grid0.Coords) : Fin 3 → Nat :=
  let c0_22 : Index := 0#32
  let arg0 : BitVec 32 := BitVec.ofNat 32 (i 0).val
  let c4_i32 : BitVec 32 := 4#32
  let v0 : BitVec 32 := Scalar.addi arg0 c4_i32
  let v28 : Index := Scalar.indexCast v0
  let c0_23 : Index := 0#32
  ![0, v28.toNat, 0]
def k0_cond2 (i : grid0.Coords) : BitVec 1 :=
  let arg2 : BitVec 32 := BitVec.ofNat 32 (i 2).val
  let c21_i32 : BitVec 32 := 21#32
  let v21 : BitVec 1 := Scalar.cmpi .eq arg2 c21_i32
  let v22 : BitVec 32 := Scalar.extui v21
  let c0_i32_16 : BitVec 32 := 0#32
  let v23 : BitVec 1 := Scalar.cmpi .ne v22 c0_i32_16
  v23

def k0_off2 (i : grid0.Coords) : Fin 3 → Nat :=
  let c0_20 : Index := 0#32
  let arg0 : BitVec 32 := BitVec.ofNat 32 (i 0).val
  let c4_i32 : BitVec 32 := 4#32
  let v0 : BitVec 32 := Scalar.addi arg0 c4_i32
  let v26 : Index := Scalar.indexCast v0
  let c0_21 : Index := 0#32
  ![0, v26.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi arg2 c22_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S1x1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 1 → Memref sig .tc .vmem S1x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S1x1024x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true, false]
-- ==== ContextRefIdeal.lean ====
abbrev S1x1024x2048 : Shape := ⟨3, ![1, 1024, 2048]⟩
abbrev S9x8x2048 : Shape := ⟨3, ![9, 8, 2048]⟩
abbrev S2048 : Shape := ⟨1, ![2048]⟩
abbrev S2048x11264 : Shape := ⟨2, ![2048, 11264]⟩
abbrev S5632x2048 : Shape := ⟨2, ![5632, 2048]⟩
abbrev S9x1x2048 : Shape := ⟨3, ![9, 1, 2048]⟩
abbrev S1x1x2048 : Shape := ⟨3, ![1, 1, 2048]⟩
abbrev S1x2048 : Shape := ⟨2, ![1, 2048]⟩
abbrev S_ : Shape := ⟨0, ![]⟩
abbrev S1x1024 : Shape := ⟨2, ![1, 1024]⟩
abbrev S1x1024x1 : Shape := ⟨3, ![1, 1024, 1]⟩
abbrev S1x1024x11264 : Shape := ⟨3, ![1, 1024, 11264]⟩
abbrev S1x1024x5632 : Shape := ⟨3, ![1, 1024, 5632]⟩

abbrev nBuf : Space → Nat
  | .hbm => 60
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S9x8x2048, .f32⟩
  | .hbm, ⟨2, _⟩ => ⟨S2048, .f32⟩
  | .hbm, ⟨3, _⟩ => ⟨S2048x11264, .bf16⟩
  | .hbm, ⟨4, _⟩ => ⟨S5632x2048, .bf16⟩
  | .hbm, ⟨5, _⟩ => ⟨S9x1x2048, .f32⟩
  | .hbm, ⟨6, _⟩ => ⟨S2048x11264, .f32⟩
  | .hbm, ⟨7, _⟩ => ⟨S5632x2048, .f32⟩
  | .hbm, ⟨8, _⟩ => ⟨S1x1x2048, .f32⟩
  | .hbm, ⟨9, _⟩ => ⟨S1x2048, .f32⟩
  | .hbm, ⟨10, _⟩ => ⟨S1x1x2048, .f32⟩
  | .hbm, ⟨11, _⟩ => ⟨S1x1x2048, .f32⟩
  | .hbm, ⟨12, _⟩ => ⟨S1x2048, .f32⟩
  | .hbm, ⟨13, _⟩ => ⟨S1x1x2048, .f32⟩
  | .hbm, ⟨14, _⟩ => ⟨S1x1024x2048, .f32⟩
  | .hbm, ⟨15, _⟩ => ⟨S_, .f32⟩
  | .hbm, ⟨16, _⟩ => ⟨S1x1024, .f32⟩
  | .hbm, ⟨17, _⟩ => ⟨S1x1024x1, .f32⟩
  | .hbm, ⟨18, _⟩ => ⟨S_, .f32⟩
  | .hbm, ⟨19, _⟩ => ⟨S1x1024x1, .f32⟩
  | .hbm, ⟨20, _⟩ => ⟨S1x1024x1, .f32⟩
  | .hbm, ⟨21, _⟩ => ⟨S_, .f32⟩
  | .hbm, ⟨22, _⟩ => ⟨S1x1024x1, .f32⟩
  | .hbm, ⟨23, _⟩ => ⟨S1x1024x1, .f32⟩
  | .hbm, ⟨24, _⟩ => ⟨S1x1024x1, .f32⟩
  | .hbm, ⟨25, _⟩ => ⟨S1x1024x2048, .f32⟩
  | .hbm, ⟨26, _⟩ => ⟨S1x1024x2048, .f32⟩
  | .hbm, ⟨27, _⟩ => ⟨S1x1x2048, .f32⟩
  | .hbm, ⟨28, _⟩ => ⟨S1x1024x2048, .f32⟩
  | .hbm, ⟨29, _⟩ => ⟨S1x1024x2048, .f32⟩
  | .hbm, ⟨30, _⟩ => ⟨S_, .f32⟩
  | .hbm, ⟨31, _⟩ => ⟨S1x1x2048, .f32⟩
  | .hbm, ⟨32, _⟩ => ⟨S1x1x2048, .f32⟩
  | .hbm, ⟨33, _⟩ => ⟨S1x1024x2048, .f32⟩
  | .hbm, ⟨34, _⟩ => ⟨S1x1024x2048, .f32⟩
  | .hbm, ⟨35, _⟩ => ⟨S1x1024x2048, .f32⟩
  | .hbm, ⟨36, _⟩ => ⟨S1x1024x2048, .f32⟩
  | .hbm, ⟨37, _⟩ => ⟨S1x1x2048, .f32⟩
  | .hbm, ⟨38, _⟩ => ⟨S1x2048, .f32⟩
  | .hbm, ⟨39, _⟩ => ⟨S1x1x2048, .f32⟩
  | .hbm, ⟨40, _⟩ => ⟨S_, .f32⟩
  | .hbm, ⟨41, _⟩ => ⟨S1x1x2048, .f32⟩
  | .hbm, ⟨42, _⟩ => ⟨S1x1x2048, .f32⟩
  | .hbm, ⟨43, _⟩ => ⟨S1x1024x11264, .f32⟩
  | .hbm, ⟨44, _⟩ => ⟨S1x1024x5632, .f32⟩
  | .hbm, ⟨45, _⟩ => ⟨S1x1024x5632, .f32⟩
  | .hbm, ⟨46, _⟩ => ⟨S1x1024x5632, .f32⟩
  | .hbm, ⟨47, _⟩ => ⟨S1x1024x5632, .f32⟩
  | .hbm, ⟨48, _⟩ => ⟨S_, .f32⟩
  | .hbm, ⟨49, _⟩ => ⟨S1x1024x5632, .f32⟩
  | .hbm, ⟨50, _⟩ => ⟨S1x1024x5632, .f32⟩
  | .hbm, ⟨51, _⟩ => ⟨S_, .f32⟩
  | .hbm, ⟨52, _⟩ => ⟨S1x1024x5632, .f32⟩
  | .hbm, ⟨53, _⟩ => ⟨S1x1024x5632, .f32⟩
  | .hbm, ⟨54, _⟩ => ⟨S1x1024x5632, .f32⟩
  | .hbm, ⟨55, _⟩ => ⟨S1x1024x5632, .f32⟩
  | .hbm, ⟨56, _⟩ => ⟨S1x1024x2048, .f32⟩
  | .hbm, ⟨57, _⟩ => ⟨S1x1024x2048, .f32⟩
  | .hbm, ⟨58, _⟩ => ⟨S1x1024x2048, .f32⟩
  | .hbm, ⟨59, _⟩ => ⟨S1x1024x2048, .f32⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== InA.lean ====
abbrev S4x2304x2048 : Shape := ⟨3, ![4, 2304, 2048]⟩
abbrev S2048x5664 : Shape := ⟨2, ![2048, 5664]⟩
abbrev S9216x2048 : Shape := ⟨2, ![9216, 2048]⟩
abbrev S2048x4096 : Shape := ⟨2, ![2048, 4096]⟩
abbrev S9216x4096 : Shape := ⟨2, ![9216, 4096]⟩
abbrev S1024x2048 : Shape := ⟨2, ![1024, 2048]⟩
abbrev S2048x2048 : Shape := ⟨2, ![2048, 2048]⟩

abbrev nBuf : Space → Nat
  | .hbm => 6
  | .vmem => 6
  | .smem => 0
  | _ => 0

abbrev bufTy : (tb : Table) → Fin (tcTables nBuf tb) → BufTy
  | .hbm, ⟨0, _⟩ => ⟨S4x2304x2048, .bf16⟩
  | .hbm, ⟨1, _⟩ => ⟨S2048x5664, .f32⟩
  | .hbm, ⟨2, _⟩ => ⟨S9216x2048, .bf16⟩
  | .hbm, ⟨3, _⟩ => ⟨S2048x4096, .f32⟩
  | .hbm, ⟨4, _⟩ => ⟨S2048x4096, .bf16⟩
  | .hbm, ⟨5, _⟩ => ⟨S9216x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | _, _ => ⟨S4x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InARefIdeal.lean ====
abbrev S4x2304x2048 : Shape := ⟨3, ![4, 2304, 2048]⟩
abbrev S2048x5664 : Shape := ⟨2, ![2048, 5664]⟩
abbrev S9216x2048 : Shape := ⟨2, ![9216, 2048]⟩
abbrev S9216x5664 : Shape := ⟨2, ![9216, 5664]⟩
abbrev S9216x4096 : Shape := ⟨2, ![9216, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4x2304x2048, .bf16⟩
  | .hbm, ⟨1, _⟩ => ⟨S2048x5664, .f32⟩
  | .hbm, ⟨2, _⟩ => ⟨S9216x2048, .bf16⟩
  | .hbm, ⟨3, _⟩ => ⟨S9216x2048, .f32⟩
  | .hbm, ⟨4, _⟩ => ⟨S9216x5664, .f32⟩
  | .hbm, ⟨5, _⟩ => ⟨S9216x4096, .f32⟩
  | .hbm, ⟨6, _⟩ => ⟨S9216x4096, .bf16⟩
  | _, _ => ⟨S4x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InB.lean ====
abbrev S4x2304x2048 : Shape := ⟨3, ![4, 2304, 2048]⟩
abbrev S2048x5664 : Shape := ⟨2, ![2048, 5664]⟩
abbrev S2048x1536 : Shape := ⟨2, ![2048, 1536]⟩
abbrev S2048x32 : Shape := ⟨2, ![2048, 32]⟩
abbrev S_ : Shape := ⟨0, ![]⟩
abbrev S2048x96 : Shape := ⟨2, ![2048, 96]⟩
abbrev S2048x1664 : Shape := ⟨2, ![2048, 1664]⟩
abbrev S9216x2048 : Shape := ⟨2, ![9216, 2048]⟩
abbrev S9216x1536 : Shape := ⟨2, ![9216, 1536]⟩
abbrev S9216x128 : Shape := ⟨2, ![9216, 128]⟩
abbrev S1024x2048 : Shape := ⟨2, ![1024, 2048]⟩
abbrev S1024x1536 : Shape := ⟨2, ![1024, 1536]⟩
abbrev S1024x128 : Shape := ⟨2, ![1024, 128]⟩
abbrev S1024x1664 : Shape := ⟨2, ![1024, 1664]⟩

abbrev nBuf : Space → Nat
  | .hbm => 12
  | .vmem => 7
  | .smem => 0
  | _ => 0

abbrev bufTy : (tb : Table) → Fin (tcTables nBuf tb) → BufTy
  | .hbm, ⟨0, _⟩ => ⟨S4x2304x2048, .bf16⟩
  | .hbm, ⟨1, _⟩ => ⟨S2048x5664, .f32⟩
  | .hbm, ⟨2, _⟩ => ⟨S2048x1536, .f32⟩
  | .hbm, ⟨3, _⟩ => ⟨S2048x1536, .bf16⟩
  | .hbm, ⟨4, _⟩ => ⟨S2048x32, .f32⟩
  | .hbm, ⟨5, _⟩ => ⟨S2048x32, .bf16⟩
  | .hbm, ⟨6, _⟩ => ⟨S_, .bf16⟩
  | .hbm, ⟨7, _⟩ => ⟨S2048x96, .bf16⟩
  | .hbm, ⟨8, _⟩ => ⟨S2048x1664, .bf16⟩
  | .hbm, ⟨9, _⟩ => ⟨S9216x2048, .bf16⟩
  | .hbm, ⟨10, _⟩ => ⟨S9216x1536, .bf16⟩
  | .hbm, ⟨11, _⟩ => ⟨S9216x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x1664, .bf16⟩
  | .local _ .vmem, ⟨3, _⟩ => ⟨S1024x1536, .bf16⟩
  | .local _ .vmem, ⟨4, _⟩ => ⟨S1024x1536, .bf16⟩
  | .local _ .vmem, ⟨5, _⟩ => ⟨S1024x128, .f32⟩
  | .local _ .vmem, ⟨6, _⟩ => ⟨S1024x128, .f32⟩
  | _, _ => ⟨S4x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InBRefIdeal.lean ====
abbrev S4x2304x2048 : Shape := ⟨3, ![4, 2304, 2048]⟩
abbrev S2048x5664 : Shape := ⟨2, ![2048, 5664]⟩
abbrev S9216x2048 : Shape := ⟨2, ![9216, 2048]⟩
abbrev S9216x5664 : Shape := ⟨2, ![9216, 5664]⟩
abbrev S9216x32 : Shape := ⟨2, ![9216, 32]⟩
abbrev S_ : Shape := ⟨0, ![]⟩
abbrev S9216x128 : Shape := ⟨2, ![9216, 128]⟩
abbrev S9216x1536 : Shape := ⟨2, ![9216, 1536]⟩

abbrev nBuf : Space → Nat
  | .hbm => 11
  | .vmem => 0
  | .smem => 0
  | _ => 0

abbrev bufTy : (tb : Table) → Fin (tcTables nBuf tb) → BufTy
  | .hbm, ⟨0, _⟩ => ⟨S4x2304x2048, .bf16⟩
  | .hbm, ⟨1, _⟩ => ⟨S2048x5664, .f32⟩
  | .hbm, ⟨2, _⟩ => ⟨S9216x2048, .bf16⟩
  | .hbm, ⟨3, _⟩ => ⟨S9216x2048, .f32⟩
  | .hbm, ⟨4, _⟩ => ⟨S9216x5664, .f32⟩
  | .hbm, ⟨5, _⟩ => ⟨S9216x32, .f32⟩
  | .hbm, ⟨6, _⟩ => ⟨S_, .i32⟩
  | .hbm, ⟨7, _⟩ => ⟨S_, .f32⟩
  | .hbm, ⟨8, _⟩ => ⟨S9216x128, .f32⟩
  | .hbm, ⟨9, _⟩ => ⟨S9216x1536, .f32⟩
  | .hbm, ⟨10, _⟩ => ⟨S9216x1536, .bf16⟩
  | _, _ => ⟨S4x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FourierOut.lean ====
abbrev S4x2048x2048 : Shape := ⟨3, ![4, 2048, 2048]⟩
abbrev S2048x2048 : Shape := ⟨2, ![2048, 2048]⟩
abbrev S9x8x2048 : Shape := ⟨3, ![9, 8, 2048]⟩
abbrev S1x512x2048 : Shape := ⟨3, ![1, 512, 2048]⟩
abbrev S1x8x2048 : Shape := ⟨3, ![1, 8, 2048]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 6
  | .vmem => 8
  | .smem => 0
  | _ => 0

abbrev bufTy : (tb : Table) → Fin (tcTables nBuf tb) → BufTy
  | .hbm, ⟨0, _⟩ => ⟨S4x2048x2048, .bf16⟩
  | .hbm, ⟨1, _⟩ => ⟨S2048x2048, .f32⟩
  | .hbm, ⟨2, _⟩ => ⟨S4x2048x2048, .f32⟩
  | .hbm, ⟨3, _⟩ => ⟨S9x8x2048, .f32⟩
  | .hbm, ⟨4, _⟩ => ⟨S2048x2048, .bf16⟩
  | .hbm, ⟨5, _⟩ => ⟨S4x2048x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x8x2048, .f32⟩
  | .local _ .vmem, ⟨6, _⟩ => ⟨S1x512x2048, .f32⟩
  | .local _ .vmem, ⟨7, _⟩ => ⟨S1x512x2048, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let c0_2 : Index := 0#32
  let arg0 : BitVec 32 := BitVec.ofNat 32 (i 0).val
  let v2 : Index := Scalar.indexCast arg0
  let c0_3 : Index := 0#32
  ![0, v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FourierOutRefIdeal.lean ====
abbrev S4x2048x2048 : Shape := ⟨3, ![4, 2048, 2048]⟩
abbrev S2048x2048 : Shape := ⟨2, ![2048, 2048]⟩
abbrev S9x8x2048 : Shape := ⟨3, ![9, 8, 2048]⟩
abbrev S1x4x2048 : Shape := ⟨3, ![1, 4, 2048]⟩
abbrev S4x2048 : Shape := ⟨2, ![4, 2048]⟩
abbrev S4x1x2048 : Shape := ⟨3, ![4, 1, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2048x2048, .f32⟩
  | .hbm, ⟨2, _⟩ => ⟨S4x2048x2048, .f32⟩
  | .hbm, ⟨3, _⟩ => ⟨S9x8x2048, .f32⟩
  | .hbm, ⟨4, _⟩ => ⟨S1x4x2048, .f32⟩
  | .hbm, ⟨5, _⟩ => ⟨S4x2048, .f32⟩
  | .hbm, ⟨6, _⟩ => ⟨S4x1x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Modulation.lean ====
abbrev S8x2048 : Shape := ⟨2, ![8, 2048]⟩
abbrev S2x2048x18432 : Shape := ⟨3, ![2, 2048, 18432]⟩
abbrev S2x1x18432 : Shape := ⟨3, ![2, 1, 18432]⟩
abbrev S9x8x2048 : Shape := ⟨3, ![9, 8, 2048]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x18432, .f32⟩
  | .hbm, ⟨2, _⟩ => ⟨S2x1x18432, .f32⟩
  | .hbm, ⟨3, _⟩ => ⟨S9x8x2048, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationRefIdeal.lean ====
abbrev S8x2048 : Shape := ⟨2, ![8, 2048]⟩
abbrev S2x2048x18432 : Shape := ⟨3, ![2, 2048, 18432]⟩
abbrev S2x1x18432 : Shape := ⟨3, ![2, 1, 18432]⟩
abbrev S_ : Shape := ⟨0, ![]⟩
abbrev S1x2048x18432 : Shape := ⟨3, ![1, 2048, 18432]⟩
abbrev S2048x18432 : Shape := ⟨2, ![2048, 18432]⟩
abbrev S8x18432 : Shape := ⟨2, ![8, 18432]⟩
abbrev S1x1x18432 : Shape := ⟨3, ![1, 1, 18432]⟩
abbrev S1x18432 : Shape := ⟨2, ![1, 18432]⟩
abbrev S8x9x2048 : Shape := ⟨3, ![8, 9, 2048]⟩
abbrev S9x8x2048 : Shape := ⟨3, ![9, 8, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x18432, .f32⟩
  | .hbm, ⟨2, _⟩ => ⟨S2x1x18432, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x18432, .f32⟩
  | .hbm, ⟨13, _⟩ => ⟨S2048x18432, .f32⟩
  | .hbm, ⟨14, _⟩ => ⟨S8x18432, .f32⟩
  | .hbm, ⟨15, _⟩ => ⟨S1x1x18432, .f32⟩
  | .hbm, ⟨16, _⟩ => ⟨S1x18432, .f32⟩
  | .hbm, ⟨17, _⟩ => ⟨S8x18432, .f32⟩
  | .hbm, ⟨18, _⟩ => ⟨S8x18432, .f32⟩
  | .hbm, ⟨19, _⟩ => ⟨S8x9x2048, .f32⟩
  | .hbm, ⟨20, _⟩ => ⟨S9x8x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== MixOut.lean ====
abbrev S4x2304x1024 : Shape := ⟨3, ![4, 2304, 1024]⟩
abbrev S4x2304x4096 : Shape := ⟨3, ![4, 2304, 4096]⟩
abbrev S4x2048x1024 : Shape := ⟨3, ![4, 2048, 1024]⟩
abbrev S4x2048x2048 : Shape := ⟨3, ![4, 2048, 2048]⟩
abbrev S9x8x2048 : Shape := ⟨3, ![9, 8, 2048]⟩
abbrev S128 : Shape := ⟨1, ![128]⟩
abbrev S2048x2048 : Shape := ⟨2, ![2048, 2048]⟩
abbrev S1x128 : Shape := ⟨2, ![1, 128]⟩
abbrev S1x256x1024 : Shape := ⟨3, ![1, 256, 1024]⟩
abbrev S1x256x2048 : Shape := ⟨3, ![1, 256, 2048]⟩
abbrev S1x8x2048 : Shape := ⟨3, ![1, 8, 2048]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩
abbrev S1024x2048 : Shape := ⟨2, ![1024, 2048]⟩
abbrev S256x2048 : Shape := ⟨2, ![256, 2048]⟩
abbrev S1x1x2048 : Shape := ⟨3, ![1, 1, 2048]⟩
abbrev S1x2048 : Shape := ⟨2, ![1, 2048]⟩

abbrev nBuf : Space → Nat
  | .hbm => 11
  | .vmem => 15
  | .smem => 0
  | _ => 0

abbrev bufTy : (tb : Table) → Fin (tcTables nBuf tb) → BufTy
  | .hbm, ⟨0, _⟩ => ⟨S4x2304x1024, .f32⟩
  | .hbm, ⟨1, _⟩ => ⟨S4x2304x1024, .f32⟩
  | .hbm, ⟨2, _⟩ => ⟨S4x2304x4096, .bf16⟩
  | .hbm, ⟨3, _⟩ => ⟨S4x2048x1024, .bf16⟩
  | .hbm, ⟨4, _⟩ => ⟨S4x2048x2048, .f32⟩
  | .hbm, ⟨5, _⟩ => ⟨S9x8x2048, .f32⟩
  | .hbm, ⟨6, _⟩ => ⟨S128, .f32⟩
  | .hbm, ⟨7, _⟩ => ⟨S2048x2048, .f32⟩
  | .hbm, ⟨8, _⟩ => ⟨S2048x2048, .bf16⟩
  | .hbm, ⟨9, _⟩ => ⟨S1x128, .f32⟩
  | .hbm, ⟨10, _⟩ => ⟨S4x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x2048, .f32⟩
  | .local _ .vmem, ⟨9, _⟩ => ⟨S1x256x2048, .f32⟩
  | .local _ .vmem, ⟨10, _⟩ => ⟨S1x8x2048, .f32⟩
  | .local _ .vmem, ⟨11, _⟩ => ⟨S1x128, .f32⟩
  | .local _ .vmem, ⟨12, _⟩ => ⟨S2048x2048, .bf16⟩
  | .local _ .vmem, ⟨13, _⟩ => ⟨S1x256x2048, .f32⟩
  | .local _ .vmem, ⟨14, _⟩ => ⟨S1x256x2048, .f32⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 8], ![false, false]⟩

def k0_off1 (i : grid0.Coords) : Fin 3 → Nat :=
  let c0_114 : Index := 0#32
  let arg0 : BitVec 32 := BitVec.ofNat 32 (i 0).val
  let v220 : Index := Scalar.indexCast arg0
  let c0_115 : Index := 0#32
  ![0, v220.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MixOutRefIdeal.lean ====
abbrev S4x2304x1024 : Shape := ⟨3, ![4, 2304, 1024]⟩
abbrev S4x2304x4096 : Shape := ⟨3, ![4, 2304, 4096]⟩
abbrev S4x2048x1024 : Shape := ⟨3, ![4, 2048, 1024]⟩
abbrev S4x2048x2048 : Shape := ⟨3, ![4, 2048, 2048]⟩
abbrev S9x8x2048 : Shape := ⟨3, ![9, 8, 2048]⟩
abbrev S128 : Shape := ⟨1, ![128]⟩
abbrev S2048x2048 : Shape := ⟨2, ![2048, 2048]⟩
abbrev S4x2048x8x128 : Shape := ⟨4, ![4, 2048, 8, 128]⟩
abbrev S_ : Shape := ⟨0, ![]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S1x4x2048 : Shape := ⟨3, ![1, 4, 2048]⟩
abbrev S4x2048 : Shape := ⟨2, ![4, 2048]⟩
abbrev S4x1x2048 : Shape := ⟨3, ![4, 1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4x2304x1024, .f32⟩
  | .hbm, ⟨1, _⟩ => ⟨S4x2304x1024, .f32⟩
  | .hbm, ⟨2, _⟩ => ⟨S4x2304x4096, .bf16⟩
  | .hbm, ⟨3, _⟩ => ⟨S4x2048x1024, .bf16⟩
  | .hbm, ⟨4, _⟩ => ⟨S4x2048x2048, .f32⟩
  | .hbm, ⟨5, _⟩ => ⟨S9x8x2048, .f32⟩
  | .hbm, ⟨6, _⟩ => ⟨S128, .f32⟩
  | .hbm, ⟨7, _⟩ => ⟨S2048x2048, .f32⟩
  | .hbm, ⟨8, _⟩ => ⟨S4x2304x1024, .f32⟩
  | .hbm, ⟨9, _⟩ => ⟨S4x2048x1024, .f32⟩
  | .hbm, ⟨10, _⟩ => ⟨S4x2048x8x128, .f32⟩
  | .hbm, ⟨11, _⟩ => ⟨S4x2048x1024, .bf16⟩
  | .hbm, ⟨12, _⟩ => ⟨S4x2048x1024, .f32⟩
  | .hbm, ⟨13, _⟩ => ⟨S4x2048x8x128, .f32⟩
  | .hbm, ⟨14, _⟩ => ⟨S4x2048x8x128, .f32⟩
  | .hbm, ⟨15, _⟩ => ⟨S_, .f32⟩
  | .hbm, ⟨16, _⟩ => ⟨S4x2048x8, .f32⟩
  | .hbm, ⟨17, _⟩ => ⟨S4x2048x8x1, .f32⟩
  | .hbm, ⟨18, _⟩ => ⟨S_, .f32⟩
  | .hbm, ⟨19, _⟩ => ⟨S4x2048x8x1, .f32⟩
  | .hbm, ⟨20, _⟩ => ⟨S4x2048x8x1, .f32⟩
  | .hbm, ⟨21, _⟩ => ⟨S_, .f32⟩
  | .hbm, ⟨22, _⟩ => ⟨S4x2048x8x1, .f32⟩
  | .hbm, ⟨23, _⟩ => ⟨S4x2048x8x1, .f32⟩
  | .hbm, ⟨24, _⟩ => ⟨S4x2048x8x1, .f32⟩
  | .hbm, ⟨25, _⟩ => ⟨S4x2048x8x128, .f32⟩
  | .hbm, ⟨26, _⟩ => ⟨S4x2048x8x128, .f32⟩
  | .hbm, ⟨27, _⟩ => ⟨S1x1x1x128, .f32⟩
  | .hbm, ⟨28, _⟩ => ⟨S4x2048x8x128, .f32⟩
  | .hbm, ⟨29, _⟩ => ⟨S4x2048x8x128, .f32⟩
  | .hbm, ⟨30, _⟩ => ⟨S4x2048x8x128, .f32⟩
  | .hbm, ⟨31, _⟩ => ⟨S4x2048x8x128, .f32⟩
  | .hbm, ⟨32, _⟩ => ⟨S_, .f32⟩
  | .hbm, ⟨33, _⟩ => ⟨S4x2048x8x128, .f32⟩
  | .hbm, ⟨34, _⟩ => ⟨S4x2048x8x128, .f32⟩
  | .hbm, ⟨35, _⟩ => ⟨S_, .f32⟩
  | .hbm, ⟨36, _⟩ => ⟨S4x2048x8x128, .f32⟩
  | .hbm, ⟨37, _⟩ => ⟨S4x2048x8x128, .f32⟩
  | .hbm, ⟨38, _⟩ => ⟨S4x2048x8x128, .f32⟩
  | .hbm, ⟨39, _⟩ => ⟨S4x2048x8x128, .f32⟩
  | .hbm, ⟨40, _⟩ => ⟨S4x2048x1024, .f32⟩
  | .hbm, ⟨41, _⟩ => ⟨S4x2048x1024, .f32⟩
  | .hbm, ⟨42, _⟩ => ⟨S4x2048x2048, .f32⟩
  | .hbm, ⟨43, _⟩ => ⟨S4x2048x2048, .f32⟩
  | .hbm, ⟨44, _⟩ => ⟨S1x4x2048, .f32⟩
  | .hbm, ⟨45, _⟩ => ⟨S4x2048, .f32⟩
  | .hbm, ⟨46, _⟩ => ⟨S4x1x2048, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Channels.lean ====
abbrev S4x2048x2048 : Shape := ⟨3, ![4, 2048, 2048]⟩
abbrev S9x8x2048 : Shape := ⟨3, ![9, 8, 2048]⟩
abbrev S2048 : Shape := ⟨1, ![2048]⟩
abbrev S512x1024 : Shape := ⟨2, ![512, 1024]⟩
abbrev S1x2048 : Shape := ⟨2, ![1, 2048]⟩
abbrev S1x512x2048 : Shape := ⟨3, ![1, 512, 2048]⟩
abbrev S1x8x2048 : Shape := ⟨3, ![1, 8, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩

abbrev nBuf : Space → Nat
  | .hbm => 7
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S9x8x2048, .f32⟩
  | .hbm, ⟨2, _⟩ => ⟨S2048, .f32⟩
  | .hbm, ⟨3, _⟩ => ⟨S512x1024, .bf16⟩
  | .hbm, ⟨4, _⟩ => ⟨S1x2048, .f32⟩
  | .hbm, ⟨5, _⟩ => ⟨S4x2048x2048, .bf16⟩
  | .hbm, ⟨6, _⟩ => ⟨S4x2048x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x2048, .f32⟩
  | .local _ .vmem, ⟨5, _⟩ => ⟨S512x1024, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let c0_4 : Index := 0#32
  let arg0 : BitVec 32 := BitVec.ofNat 32 (i 0).val
  let v4 : Index := Scalar.indexCast arg0
  let c0_5 : Index := 0#32
  ![0, v4.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ChannelsRefIdeal.lean ====
abbrev S4x2048x2048 : Shape := ⟨3, ![4, 2048, 2048]⟩
abbrev S9x8x2048 : Shape := ⟨3, ![9, 8, 2048]⟩
abbrev S2048 : Shape := ⟨1, ![2048]⟩
abbrev S512x1024 : Shape := ⟨2, ![512, 1024]⟩
abbrev S1x4x2048 : Shape := ⟨3, ![1, 4, 2048]⟩
abbrev S4x2048 : Shape := ⟨2, ![4, 2048]⟩
abbrev S4x1x2048 : Shape := ⟨3, ![4, 1, 2048]⟩
abbrev S_ : Shape := ⟨0, ![]⟩
abbrev S4x2048x1 : Shape := ⟨3, ![4, 2048, 1]⟩
abbrev S1x1x2048 : Shape := ⟨3, ![1, 1, 2048]⟩
abbrev S4x2048x4x512 : Shape := ⟨4, ![4, 2048, 4, 512]⟩
abbrev S512x512 : Shape := ⟨2, ![512, 512]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S9x8x2048, .f32⟩
  | .hbm, ⟨2, _⟩ => ⟨S2048, .f32⟩
  | .hbm, ⟨3, _⟩ => ⟨S512x1024, .bf16⟩
  | .hbm, ⟨4, _⟩ => ⟨S1x4x2048, .f32⟩
  | .hbm, ⟨5, _⟩ => ⟨S4x2048, .f32⟩
  | .hbm, ⟨6, _⟩ => ⟨S4x1x2048, .f32⟩
  | .hbm, ⟨7, _⟩ => ⟨S1x4x2048, .f32⟩
  | .hbm, ⟨8, _⟩ => ⟨S4x2048, .f32⟩
  | .hbm, ⟨9, _⟩ => ⟨S4x1x2048, .f32⟩
  | .hbm, ⟨10, _⟩ => ⟨S4x2048x2048, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x2048, .f32⟩
  | .hbm, ⟨22, _⟩ => ⟨S4x2048x2048, .f32⟩
  | .hbm, ⟨23, _⟩ => ⟨S1x1x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x1x2048, .f32⟩
  | .hbm, ⟨28, _⟩ => ⟨S4x1x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S4x2048x4x512, .f32⟩
  | .hbm, ⟨34, _⟩ => ⟨S512x1024, .f32⟩
  | .hbm, ⟨35, _⟩ => ⟨S512x512, .f32⟩
  | .hbm, ⟨36, _⟩ => ⟨S4x2048x4x512, .f32⟩
  | .hbm, ⟨37, _⟩ => ⟨S4x2048x2048, .f32⟩
  | .hbm, ⟨38, _⟩ => ⟨S512x512, .f32⟩
  | .hbm, ⟨39, _⟩ => ⟨S4x2048x4x512, .f32⟩
  | .hbm, ⟨40, _⟩ => ⟨S4x2048x2048, .f32⟩
  | .hbm, ⟨41, _⟩ => ⟨S4x2048x2048, .bf16⟩
  | .hbm, ⟨42, _⟩ => ⟨S4x2048x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Prenorm.lean ====
abbrev S4x2048x2048 : Shape := ⟨3, ![4, 2048, 2048]⟩
abbrev S4x256x2048 : Shape := ⟨3, ![4, 256, 2048]⟩
abbrev S9x8x2048 : Shape := ⟨3, ![9, 8, 2048]⟩
abbrev S2048 : Shape := ⟨1, ![2048]⟩
abbrev S1x2048 : Shape := ⟨2, ![1, 2048]⟩
abbrev S4x2304x2048 : Shape := ⟨3, ![4, 2304, 2048]⟩
abbrev S1x256x2048 : Shape := ⟨3, ![1, 256, 2048]⟩
abbrev S1x8x2048 : Shape := ⟨3, ![1, 8, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S4x256x2048, .f32⟩
  | .hbm, ⟨2, _⟩ => ⟨S9x8x2048, .f32⟩
  | .hbm, ⟨3, _⟩ => ⟨S2048, .f32⟩
  | .hbm, ⟨4, _⟩ => ⟨S1x2048, .f32⟩
  | .hbm, ⟨5, _⟩ => ⟨S4x2304x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x8x2048, .f32⟩
  | .local _ .vmem, ⟨5, _⟩ => ⟨S1x8x2048, .f32⟩
  | .local _ .vmem, ⟨6, _⟩ => ⟨S1x2048, .f32⟩
  | .local _ .vmem, ⟨7, _⟩ => ⟨S1x256x2048, .bf16⟩
  | .local _ .vmem, ⟨8, _⟩ => ⟨S1x256x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 9], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_off1 (i : grid0.Coords) : Fin 3 → Nat :=
  let c0_6 : Index := 0#32
  let arg0 : BitVec 32 := BitVec.ofNat 32 (i 0).val
  let v10 : Index := Scalar.indexCast arg0
  let c0_7 : Index := 0#32
  ![0, v10.toNat, 0]
def k0_cond2 (i : grid0.Coords) : BitVec 1 :=
  let arg1 : BitVec 32 := BitVec.ofNat 32 (i 1).val
  let c8_i32_0 : BitVec 32 := 8#32
  let v3 : BitVec 1 := Scalar.cmpi .sge arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PrenormRefIdeal.lean ====
abbrev S4x2048x2048 : Shape := ⟨3, ![4, 2048, 2048]⟩
abbrev S4x256x2048 : Shape := ⟨3, ![4, 256, 2048]⟩
abbrev S9x8x2048 : Shape := ⟨3, ![9, 8, 2048]⟩
abbrev S2048 : Shape := ⟨1, ![2048]⟩
abbrev S1x4x2048 : Shape := ⟨3, ![1, 4, 2048]⟩
abbrev S4x2048 : Shape := ⟨2, ![4, 2048]⟩
abbrev S4x1x2048 : Shape := ⟨3, ![4, 1, 2048]⟩
abbrev S_ : Shape := ⟨0, ![]⟩
abbrev S4x2048x1 : Shape := ⟨3, ![4, 2048, 1]⟩
abbrev S1x1x2048 : Shape := ⟨3, ![1, 1, 2048]⟩
abbrev S1x2048 : Shape := ⟨2, ![1, 2048]⟩
abbrev S4x256 : Shape := ⟨2, ![4, 256]⟩
abbrev S4x256x1 : Shape := ⟨3, ![4, 256, 1]⟩
abbrev S4x2304x2048 : Shape := ⟨3, ![4, 2304, 2048]⟩

abbrev nBuf : Space → Nat
  | .hbm => 64
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x256x2048, .f32⟩
  | .hbm, ⟨2, _⟩ => ⟨S9x8x2048, .f32⟩
  | .hbm, ⟨3, _⟩ => ⟨S2048, .f32⟩
  | .hbm, ⟨4, _⟩ => ⟨S1x4x2048, .f32⟩
  | .hbm, ⟨5, _⟩ => ⟨S4x2048, .f32⟩
  | .hbm, ⟨6, _⟩ => ⟨S4x1x2048, .f32⟩
  | .hbm, ⟨7, _⟩ => ⟨S1x4x2048, .f32⟩
  | .hbm, ⟨8, _⟩ => ⟨S4x2048, .f32⟩
  | .hbm, ⟨9, _⟩ => ⟨S4x1x2048, .f32⟩
  | .hbm, ⟨10, _⟩ => ⟨S4x2048x2048, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x2048, .f32⟩
  | .hbm, ⟨22, _⟩ => ⟨S4x2048x2048, .f32⟩
  | .hbm, ⟨23, _⟩ => ⟨S1x1x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x1x2048, .f32⟩
  | .hbm, ⟨28, _⟩ => ⟨S4x1x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S1x1x2048, .f32⟩
  | .hbm, ⟨34, _⟩ => ⟨S1x2048, .f32⟩
  | .hbm, ⟨35, _⟩ => ⟨S1x1x2048, .f32⟩
  | .hbm, ⟨36, _⟩ => ⟨S1x1x2048, .f32⟩
  | .hbm, ⟨37, _⟩ => ⟨S1x2048, .f32⟩
  | .hbm, ⟨38, _⟩ => ⟨S1x1x2048, .f32⟩
  | .hbm, ⟨39, _⟩ => ⟨S4x256x2048, .f32⟩
  | .hbm, ⟨40, _⟩ => ⟨S_, .f32⟩
  | .hbm, ⟨41, _⟩ => ⟨S4x256, .f32⟩
  | .hbm, ⟨42, _⟩ => ⟨S4x256x1, .f32⟩
  | .hbm, ⟨43, _⟩ => ⟨S_, .f32⟩
  | .hbm, ⟨44, _⟩ => ⟨S4x256x1, .f32⟩
  | .hbm, ⟨45, _⟩ => ⟨S4x256x1, .f32⟩
  | .hbm, ⟨46, _⟩ => ⟨S_, .f32⟩
  | .hbm, ⟨47, _⟩ => ⟨S4x256x1, .f32⟩
  | .hbm, ⟨48, _⟩ => ⟨S4x256x1, .f32⟩
  | .hbm, ⟨49, _⟩ => ⟨S4x256x1, .f32⟩
  | .hbm, ⟨50, _⟩ => ⟨S4x256x2048, .f32⟩
  | .hbm, ⟨51, _⟩ => ⟨S4x256x2048, .f32⟩
  | .hbm, ⟨52, _⟩ => ⟨S1x1x2048, .f32⟩
  | .hbm, ⟨53, _⟩ => ⟨S4x256x2048, .f32⟩
  | .hbm, ⟨54, _⟩ => ⟨S4x256x2048, .f32⟩
  | .hbm, ⟨55, _⟩ => ⟨S_, .f32⟩
  | .hbm, ⟨56, _⟩ => ⟨S1x1x2048, .f32⟩
  | .hbm, ⟨57, _⟩ => ⟨S1x1x2048, .f32⟩
  | .hbm, ⟨58, _⟩ => ⟨S4x256x2048, .f32⟩
  | .hbm, ⟨59, _⟩ => ⟨S4x256x2048, .f32⟩
  | .hbm, ⟨60, _⟩ => ⟨S4x256x2048, .f32⟩
  | .hbm, ⟨61, _⟩ => ⟨S4x256x2048, .f32⟩
  | .hbm, ⟨62, _⟩ => ⟨S4x2304x2048, .f32⟩
  | .hbm, ⟨63, _⟩ => ⟨S4x2304x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩

abbrev nD : Nat := 1
abbrev τ : Topo := Topo.v7x

variable {F : FTy → Type} [FloatOps F]
-- ==== Rope.lean ====
abbrev S4x2304x1536 : Shape := ⟨3, ![4, 2304, 1536]⟩
abbrev S128 : Shape := ⟨1, ![128]⟩
abbrev S2048x32 : Shape := ⟨2, ![2048, 32]⟩
abbrev S_ : Shape := ⟨0, ![]⟩
abbrev S8x128 : Shape := ⟨2, ![8, 128]⟩
abbrev S2x128 : Shape := ⟨2, ![2, 128]⟩
abbrev S10x128 : Shape := ⟨2, ![10, 128]⟩
abbrev S10x1x128 : Shape := ⟨3, ![10, 1, 128]⟩
abbrev S2048x128 : Shape := ⟨2, ![2048, 128]⟩
abbrev S256x128 : Shape := ⟨2, ![256, 128]⟩
abbrev S2304x128 : Shape := ⟨2, ![2304, 128]⟩
abbrev S4x2304x1280 : Shape := ⟨3, ![4, 2304, 1280]⟩
abbrev S1x2304x1280 : Shape := ⟨3, ![1, 2304, 1280]⟩
abbrev S1x2304x128 : Shape := ⟨3, ![1, 2304, 128]⟩
abbrev S2304 : Shape := ⟨1, ![2304]⟩
abbrev S2304x1 : Shape := ⟨2, ![2304, 1]⟩
abbrev S1x1x128 : Shape := ⟨3, ![1, 1, 128]⟩
abbrev S1x128 : Shape := ⟨2, ![1, 128]⟩

abbrev nBuf : Space → Nat
  | .hbm => 25
  | .vmem => 7
  | .smem => 0
  | _ => 0

abbrev bufTy : (tb : Table) → Fin (tcTables nBuf tb) → BufTy
  | .hbm, ⟨0, _⟩ => ⟨S4x2304x1536, .bf16⟩
  | .hbm, ⟨1, _⟩ => ⟨S128, .f32⟩
  | .hbm, ⟨2, _⟩ => ⟨S128, .f32⟩
  | .hbm, ⟨3, _⟩ => ⟨S2048x32, .f32⟩
  | .hbm, ⟨4, _⟩ => ⟨S2048x32, .f32⟩
  | .hbm, ⟨5, _⟩ => ⟨S2048x32, .f32⟩
  | .hbm, ⟨6, _⟩ => ⟨S2048x32, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S8x128, .f32⟩
  | .hbm, ⟨11, _⟩ => ⟨S2x128, .f32⟩
  | .hbm, ⟨12, _⟩ => ⟨S10x128, .f32⟩
  | .hbm, ⟨13, _⟩ => ⟨S10x1x128, .f32⟩
  | .hbm, ⟨14, _⟩ => ⟨S2048x128, .f32⟩
  | .hbm, ⟨15, _⟩ => ⟨S2048x32, .f32⟩
  | .hbm, ⟨16, _⟩ => ⟨S2048x32, .f32⟩
  | .hbm, ⟨17, _⟩ => ⟨S2048x128, .f32⟩
  | .hbm, ⟨18, _⟩ => ⟨S_, .f32⟩
  | .hbm, ⟨19, _⟩ => ⟨S256x128, .f32⟩
  | .hbm, ⟨20, _⟩ => ⟨S2304x128, .f32⟩
  | .hbm, ⟨21, _⟩ => ⟨S_, .f32⟩
  | .hbm, ⟨22, _⟩ => ⟨S256x128, .f32⟩
  | .hbm, ⟨23, _⟩ => ⟨S2304x128, .f32⟩
  | .hbm, ⟨24, _⟩ => ⟨S4x2304x1280, .bf16⟩
  | .local _ .vmem, ⟨0, _⟩ => ⟨S1x2304x1280, .bf16⟩
  | .local _ .vmem, ⟨1, _⟩ => ⟨S1x2304x1280, .bf16⟩
  | .local _ .vmem, ⟨2, _⟩ => ⟨S10x1x128, .f32⟩
  | .local _ .vmem, ⟨3, _⟩ => ⟨S2304x128, .f32⟩
  | .local _ .vmem, ⟨4, _⟩ => ⟨S2304x128, .f32⟩
  | .local _ .vmem, ⟨5, _⟩ => ⟨S1x2304x1280, .bf16⟩
  | .local _ .vmem, ⟨6, _⟩ => ⟨S1x2304x1280, .bf16⟩
  | _, _ => ⟨S4x2304x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2304x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2304x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2304x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeRefIdeal.lean ====
abbrev S4x2304x1536 : Shape := ⟨3, ![4, 2304, 1536]⟩
abbrev S128 : Shape := ⟨1, ![128]⟩
abbrev S2048x32 : Shape := ⟨2, ![2048, 32]⟩
abbrev S4x2304x1024 : Shape := ⟨3, ![4, 2304, 1024]⟩
abbrev S4x2304x8x128 : Shape := ⟨4, ![4, 2304, 8, 128]⟩
abbrev S_ : Shape := ⟨0, ![]⟩
abbrev S4x2304x8 : Shape := ⟨3, ![4, 2304, 8]⟩
abbrev S4x2304x8x1 : Shape := ⟨4, ![4, 2304, 8, 1]⟩
abbrev S1x1x1x128 : Shape := ⟨4, ![1, 1, 1, 128]⟩
abbrev S4x2304x256 : Shape := ⟨3, ![4, 2304, 256]⟩
abbrev S4x2304x2x128 : Shape := ⟨4, ![4, 2304, 2, 128]⟩
abbrev S4x2304x2 : Shape := ⟨3, ![4, 2304, 2]⟩
abbrev S4x2304x2x1 : Shape := ⟨4, ![4, 2304, 2, 1]⟩
abbrev S4x2304x10x128 : Shape := ⟨4, ![4, 2304, 10, 128]⟩
abbrev S4x2048x10x64 : Shape := ⟨4, ![4, 2048, 10, 64]⟩
abbrev S2048x1x32 : Shape := ⟨3, ![2048, 1, 32]⟩
abbrev S4x2048x10x32 : Shape := ⟨4, ![4, 2048, 10, 32]⟩
abbrev S1x2048x1x32 : Shape := ⟨4, ![1, 2048, 1, 32]⟩
abbrev S4x2048x10x128 : Shape := ⟨4, ![4, 2048, 10, 128]⟩
abbrev S4x256x10x128 : Shape := ⟨4, ![4, 256, 10, 128]⟩
abbrev S4x2304x1280 : Shape := ⟨3, ![4, 2304, 1280]⟩

abbrev nBuf : Space → Nat
  | .hbm => 94
  | .vmem => 0
  | .smem => 0
  | _ => 0

abbrev bufTy : (tb : Table) → Fin (tcTables nBuf tb) → BufTy
  | .hbm, ⟨0, _⟩ => ⟨S4x2304x1536, .bf16⟩
  | .hbm, ⟨1, _⟩ => ⟨S128, .f32⟩
  | .hbm, ⟨2, _⟩ => ⟨S128, .f32⟩
  | .hbm, ⟨3, _⟩ => ⟨S2048x32, .f32⟩
  | .hbm, ⟨4, _⟩ => ⟨S2048x32, .f32⟩
  | .hbm, ⟨5, _⟩ => ⟨S2048x32, .f32⟩
  | .hbm, ⟨6, _⟩ => ⟨S2048x32, .f32⟩
  | .hbm, ⟨7, _⟩ => ⟨S4x2304x1024, .bf16⟩
  | .hbm, ⟨8, _⟩ => ⟨S4x2304x1024, .f32⟩
  | .hbm, ⟨9, _⟩ => ⟨S4x2304x8x128, .f32⟩
  | .hbm, ⟨10, _⟩ => ⟨S4x2304x8x128, .f32⟩
  | .hbm, ⟨11, _⟩ => ⟨S_, .f32⟩
  | .hbm, ⟨12, _⟩ => ⟨S4x2304x8, .f32⟩
  | .hbm, ⟨13, _⟩ => ⟨S4x2304x8x1, .f32⟩
  | .hbm, ⟨14, _⟩ => ⟨S_, .f32⟩
  | .hbm, ⟨15, _⟩ => ⟨S4x2304x8x1, .f32⟩
  | .hbm, ⟨16, _⟩ => ⟨S4x2304x8x1, .f32⟩
  | .hbm, ⟨17, _⟩ => ⟨S_, .f32⟩
  | .hbm, ⟨18, _⟩ => ⟨S4x2304x8x1, .f32⟩
  | .hbm, ⟨19, _⟩ => ⟨S4x2304x8x1, .f32⟩
  | .hbm, ⟨20, _⟩ => ⟨S4x2304x8x1, .f32⟩
  | .hbm, ⟨21, _⟩ => ⟨S4x2304x8x128, .f32⟩
  | .hbm, ⟨22, _⟩ => ⟨S4x2304x8x128, .f32⟩
  | .hbm, ⟨23, _⟩ => ⟨S1x1x1x128, .f32⟩
  | .hbm, ⟨24, _⟩ => ⟨S4x2304x8x128, .f32⟩
  | .hbm, ⟨25, _⟩ => ⟨S4x2304x8x128, .f32⟩
  | .hbm, ⟨26, _⟩ => ⟨S_, .f32⟩
  | .hbm, ⟨27, _⟩ => ⟨S4x2304x8x128, .f32⟩
  | .hbm, ⟨28, _⟩ => ⟨S4x2304x8x128, .f32⟩
  | .hbm, ⟨29, _⟩ => ⟨S4x2304x256, .bf16⟩
  | .hbm, ⟨30, _⟩ => ⟨S4x2304x256, .f32⟩
  | .hbm, ⟨31, _⟩ => ⟨S4x2304x2x128, .f32⟩
  | .hbm, ⟨32, _⟩ => ⟨S4x2304x2x128, .f32⟩
  | .hbm, ⟨33, _⟩ => ⟨S_, .f32⟩
  | .hbm, ⟨34, _⟩ => ⟨S4x2304x2, .f32⟩
  | .hbm, ⟨35, _⟩ => ⟨S4x2304x2x1, .f32⟩
  | .hbm, ⟨36, _⟩ => ⟨S_, .f32⟩
  | .hbm, ⟨37, _⟩ => ⟨S4x2304x2x1, .f32⟩
  | .hbm, ⟨38, _⟩ => ⟨S4x2304x2x1, .f32⟩
  | .hbm, ⟨39, _⟩ => ⟨S_, .f32⟩
  | .hbm, ⟨40, _⟩ => ⟨S4x2304x2x1, .f32⟩
  | .hbm, ⟨41, _⟩ => ⟨S4x2304x2x1, .f32⟩
  | .hbm, ⟨42, _⟩ => ⟨S4x2304x2x1, .f32⟩
  | .hbm, ⟨43, _⟩ => ⟨S4x2304x2x128, .f32⟩
  | .hbm, ⟨44, _⟩ => ⟨S4x2304x2x128, .f32⟩
  | .hbm, ⟨45, _⟩ => ⟨S1x1x1x128, .f32⟩
  | .hbm, ⟨46, _⟩ => ⟨S4x2304x2x128, .f32⟩
  | .hbm, ⟨47, _⟩ => ⟨S4x2304x2x128, .f32⟩
  | .hbm, ⟨48, _⟩ => ⟨S4x2304x10x128, .f32⟩
  | .hbm, ⟨49, _⟩ => ⟨S4x2048x10x64, .f32⟩
  | .hbm, ⟨50, _⟩ => ⟨S2048x1x32, .f32⟩
  | .hbm, ⟨51, _⟩ => ⟨S2048x1x32, .f32⟩
  | .hbm, ⟨52, _⟩ => ⟨S4x2048x10x32, .f32⟩
  | .hbm, ⟨53, _⟩ => ⟨S4x2048x10x32, .f32⟩
  | .hbm, ⟨54, _⟩ => ⟨S1x2048x1x32, .f32⟩
  | .hbm, ⟨55, _⟩ => ⟨S4x2048x10x32, .f32⟩
  | .hbm, ⟨56, _⟩ => ⟨S4x2048x10x32, .f32⟩
  | .hbm, ⟨57, _⟩ => ⟨S1x2048x1x32, .f32⟩
  | .hbm, ⟨58, _⟩ => ⟨S4x2048x10x32, .f32⟩
  | .hbm, ⟨59, _⟩ => ⟨S4x2048x10x32, .f32⟩
  | .hbm, ⟨60, _⟩ => ⟨S4x2048x10x32, .f32⟩
  | .hbm, ⟨61, _⟩ => ⟨S1x2048x1x32, .f32⟩
  | .hbm, ⟨62, _⟩ => ⟨S4x2048x10x32, .f32⟩
  | .hbm, ⟨63, _⟩ => ⟨S4x2048x10x32, .f32⟩
  | .hbm, ⟨64, _⟩ => ⟨S1x2048x1x32, .f32⟩
  | .hbm, ⟨65, _⟩ => ⟨S4x2048x10x32, .f32⟩
  | .hbm, ⟨66, _⟩ => ⟨S4x2048x10x32, .f32⟩
  | .hbm, ⟨67, _⟩ => ⟨S4x2048x10x32, .f32⟩
  | .hbm, ⟨68, _⟩ => ⟨S4x2048x10x64, .f32⟩
  | .hbm, ⟨69, _⟩ => ⟨S4x2048x10x64, .f32⟩
  | .hbm, ⟨70, _⟩ => ⟨S2048x1x32, .f32⟩
  | .hbm, ⟨71, _⟩ => ⟨S2048x1x32, .f32⟩
  | .hbm, ⟨72, _⟩ => ⟨S4x2048x10x32, .f32⟩
  | .hbm, ⟨73, _⟩ => ⟨S4x2048x10x32, .f32⟩
  | .hbm, ⟨74, _⟩ => ⟨S1x2048x1x32, .f32⟩
  | .hbm, ⟨75, _⟩ => ⟨S4x2048x10x32, .f32⟩
  | .hbm, ⟨76, _⟩ => ⟨S4x2048x10x32, .f32⟩
  | .hbm, ⟨77, _⟩ => ⟨S1x2048x1x32, .f32⟩
  | .hbm, ⟨78, _⟩ => ⟨S4x2048x10x32, .f32⟩
  | .hbm, ⟨79, _⟩ => ⟨S4x2048x10x32, .f32⟩
  | .hbm, ⟨80, _⟩ => ⟨S4x2048x10x32, .f32⟩
  | .hbm, ⟨81, _⟩ => ⟨S1x2048x1x32, .f32⟩
  | .hbm, ⟨82, _⟩ => ⟨S4x2048x10x32, .f32⟩
  | .hbm, ⟨83, _⟩ => ⟨S4x2048x10x32, .f32⟩
  | .hbm, ⟨84, _⟩ => ⟨S1x2048x1x32, .f32⟩
  | .hbm, ⟨85, _⟩ => ⟨S4x2048x10x32, .f32⟩
  | .hbm, ⟨86, _⟩ => ⟨S4x2048x10x32, .f32⟩
  | .hbm, ⟨87, _⟩ => ⟨S4x2048x10x32, .f32⟩
  | .hbm, ⟨88, _⟩ => ⟨S4x2048x10x64, .f32⟩
  | .hbm, ⟨89, _⟩ => ⟨S4x2048x10x128, .f32⟩
  | .hbm, ⟨90, _⟩ => ⟨S4x256x10x128, .f32⟩
  | .hbm, ⟨91, _⟩ => ⟨S4x2304x10x128, .f32⟩
  | .hbm, ⟨92, _⟩ => ⟨S4x2304x1280, .f32⟩
  | .hbm, ⟨93, _⟩ => ⟨S4x2304x1280, .bf16⟩
  | _, _ => ⟨S4x2304x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩

abbrev nD : Nat := 1
abbrev τ : Topo := Topo.v7x

variable {F : FTy → Type} [FloatOps F]
-- ==== Conv.lean ====
abbrev S4x2304x4096 : Shape := ⟨3, ![4, 2304, 4096]⟩
abbrev S5x3072 : Shape := ⟨2, ![5, 3072]⟩
abbrev S4x2304x3072 : Shape := ⟨3, ![4, 2304, 3072]⟩
abbrev S1x2304x384 : Shape := ⟨3, ![1, 2304, 384]⟩
abbrev S5x384 : Shape := ⟨2, ![5, 384]⟩
abbrev S2064x128 : Shape := ⟨2, ![2064, 128]⟩
abbrev S8x128 : Shape := ⟨2, ![8, 128]⟩
abbrev S1x2048x128 : Shape := ⟨3, ![1, 2048, 128]⟩
abbrev S2048x128 : Shape := ⟨2, ![2048, 128]⟩
abbrev S1x128 : Shape := ⟨2, ![1, 128]⟩
abbrev S2048 : Shape := ⟨1, ![2048]⟩
abbrev S2048x1 : Shape := ⟨2, ![2048, 1]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 3
  | .vmem => 7
  | .smem => 0
  | _ => 0

abbrev bufTy : (tb : Table) → Fin (tcTables nBuf tb) → BufTy
  | .hbm, ⟨0, _⟩ => ⟨S4x2304x4096, .bf16⟩
  | .hbm, ⟨1, _⟩ => ⟨S5x3072, .f32⟩
  | .hbm, ⟨2, _⟩ => ⟨S4x2304x3072, .bf16⟩
  | .local _ .vmem, ⟨0, _⟩ => ⟨S1x2304x384, .bf16⟩
  | .local _ .vmem, ⟨1, _⟩ => ⟨S1x2304x384, .bf16⟩
  | .local _ .vmem, ⟨2, _⟩ => ⟨S5x384, .f32⟩
  | .local _ .vmem, ⟨3, _⟩ => ⟨S5x384, .f32⟩
  | .local _ .vmem, ⟨4, _⟩ => ⟨S1x2304x384, .bf16⟩
  | .local _ .vmem, ⟨5, _⟩ => ⟨S1x2304x384, .bf16⟩
  | .local _ .vmem, ⟨6, _⟩ => ⟨S2064x128, .f32⟩
  | _, _ => ⟨S4x2304x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2304x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvRefIdeal.lean ====
abbrev S4x2304x4096 : Shape := ⟨3, ![4, 2304, 4096]⟩
abbrev S5x3072 : Shape := ⟨2, ![5, 3072]⟩
abbrev S4x2304x3072 : Shape := ⟨3, ![4, 2304, 3072]⟩
abbrev S4x2048x3072 : Shape := ⟨3, ![4, 2048, 3072]⟩
abbrev S_ : Shape := ⟨0, ![]⟩
abbrev S4x2x3072 : Shape := ⟨3, ![4, 2, 3072]⟩
abbrev S4x2052x3072 : Shape := ⟨3, ![4, 2052, 3072]⟩
abbrev S1x3072 : Shape := ⟨2, ![1, 3072]⟩
abbrev S3072 : Shape := ⟨1, ![3072]⟩
abbrev S1x1x3072 : Shape := ⟨3, ![1, 1, 3072]⟩
abbrev S4x256x3072 : Shape := ⟨3, ![4, 256, 3072]⟩
abbrev S4x260x3072 : Shape := ⟨3, ![4, 260, 3072]⟩
abbrev S4x2304x24x128 : Shape := ⟨4, ![4, 2304, 24, 128]⟩
abbrev S4x2304x16x128 : Shape := ⟨4, ![4, 2304, 16, 128]⟩
abbrev S4x2304x16 : Shape := ⟨3, ![4, 2304, 16]⟩
abbrev S4x2304x16x1 : Shape := ⟨4, ![4, 2304, 16, 1]⟩
abbrev S4x2304x8x128 : Shape := ⟨4, ![4, 2304, 8, 128]⟩

abbrev nBuf : Space → Nat
  | .hbm => 115
  | .vmem => 0
  | .smem => 0
  | _ => 0

abbrev bufTy : (tb : Table) → Fin (tcTables nBuf tb) → BufTy
  | .hbm, ⟨0, _⟩ => ⟨S4x2304x4096, .bf16⟩
  | .hbm, ⟨1, _⟩ => ⟨S5x3072, .f32⟩
  | .hbm, ⟨2, _⟩ => ⟨S4x2304x3072, .bf16⟩
  | .hbm, ⟨3, _⟩ => ⟨S4x2304x3072, .f32⟩
  | .hbm, ⟨4, _⟩ => ⟨S4x2048x3072, .f32⟩
  | .hbm, ⟨5, _⟩ => ⟨S_, .f32⟩
  | .hbm, ⟨6, _⟩ => ⟨S4x2x3072, .f32⟩
  | .hbm, ⟨7, _⟩ => ⟨S4x2052x3072, .f32⟩
  | .hbm, ⟨8, _⟩ => ⟨S1x3072, .f32⟩
  | .hbm, ⟨9, _⟩ => ⟨S3072, .f32⟩
  | .hbm, ⟨10, _⟩ => ⟨S4x2048x3072, .f32⟩
  | .hbm, ⟨11, _⟩ => ⟨S1x1x3072, .f32⟩
  | .hbm, ⟨12, _⟩ => ⟨S4x2048x3072, .f32⟩
  | .hbm, ⟨13, _⟩ => ⟨S4x2048x3072, .f32⟩
  | .hbm, ⟨14, _⟩ => ⟨S1x3072, .f32⟩
  | .hbm, ⟨15, _⟩ => ⟨S3072, .f32⟩
  | .hbm, ⟨16, _⟩ => ⟨S4x2048x3072, .f32⟩
  | .hbm, ⟨17, _⟩ => ⟨S1x1x3072, .f32⟩
  | .hbm, ⟨18, _⟩ => ⟨S4x2048x3072, .f32⟩
  | .hbm, ⟨19, _⟩ => ⟨S4x2048x3072, .f32⟩
  | .hbm, ⟨20, _⟩ => ⟨S4x2048x3072, .f32⟩
  | .hbm, ⟨21, _⟩ => ⟨S1x3072, .f32⟩
  | .hbm, ⟨22, _⟩ => ⟨S3072, .f32⟩
  | .hbm, ⟨23, _⟩ => ⟨S4x2048x3072, .f32⟩
  | .hbm, ⟨24, _⟩ => ⟨S1x1x3072, .f32⟩
  | .hbm, ⟨25, _⟩ => ⟨S4x2048x3072, .f32⟩
  | .hbm, ⟨26, _⟩ => ⟨S4x2048x3072, .f32⟩
  | .hbm, ⟨27, _⟩ => ⟨S4x2048x3072, .f32⟩
  | .hbm, ⟨28, _⟩ => ⟨S1x3072, .f32⟩
  | .hbm, ⟨29, _⟩ => ⟨S3072, .f32⟩
  | .hbm, ⟨30, _⟩ => ⟨S4x2048x3072, .f32⟩
  | .hbm, ⟨31, _⟩ => ⟨S1x1x3072, .f32⟩
  | .hbm, ⟨32, _⟩ => ⟨S4x2048x3072, .f32⟩
  | .hbm, ⟨33, _⟩ => ⟨S4x2048x3072, .f32⟩
  | .hbm, ⟨34, _⟩ => ⟨S4x2048x3072, .f32⟩
  | .hbm, ⟨35, _⟩ => ⟨S1x3072, .f32⟩
  | .hbm, ⟨36, _⟩ => ⟨S3072, .f32⟩
  | .hbm, ⟨37, _⟩ => ⟨S4x2048x3072, .f32⟩
  | .hbm, ⟨38, _⟩ => ⟨S1x1x3072, .f32⟩
  | .hbm, ⟨39, _⟩ => ⟨S4x2048x3072, .f32⟩
  | .hbm, ⟨40, _⟩ => ⟨S4x2048x3072, .f32⟩
  | .hbm, ⟨41, _⟩ => ⟨S4x2048x3072, .f32⟩
  | .hbm, ⟨42, _⟩ => ⟨S4x2048x3072, .f32⟩
  | .hbm, ⟨43, _⟩ => ⟨S4x2048x3072, .f32⟩
  | .hbm, ⟨44, _⟩ => ⟨S_, .f32⟩
  | .hbm, ⟨45, _⟩ => ⟨S4x2048x3072, .f32⟩
  | .hbm, ⟨46, _⟩ => ⟨S4x2048x3072, .f32⟩
  | .hbm, ⟨47, _⟩ => ⟨S_, .f32⟩
  | .hbm, ⟨48, _⟩ => ⟨S4x2048x3072, .f32⟩
  | .hbm, ⟨49, _⟩ => ⟨S4x2048x3072, .f32⟩
  | .hbm, ⟨50, _⟩ => ⟨S4x2048x3072, .f32⟩
  | .hbm, ⟨51, _⟩ => ⟨S4x256x3072, .f32⟩
  | .hbm, ⟨52, _⟩ => ⟨S_, .f32⟩
  | .hbm, ⟨53, _⟩ => ⟨S4x2x3072, .f32⟩
  | .hbm, ⟨54, _⟩ => ⟨S4x260x3072, .f32⟩
  | .hbm, ⟨55, _⟩ => ⟨S1x3072, .f32⟩
  | .hbm, ⟨56, _⟩ => ⟨S3072, .f32⟩
  | .hbm, ⟨57, _⟩ => ⟨S4x256x3072, .f32⟩
  | .hbm, ⟨58, _⟩ => ⟨S1x1x3072, .f32⟩
  | .hbm, ⟨59, _⟩ => ⟨S4x256x3072, .f32⟩
  | .hbm, ⟨60, _⟩ => ⟨S4x256x3072, .f32⟩
  | .hbm, ⟨61, _⟩ => ⟨S1x3072, .f32⟩
  | .hbm, ⟨62, _⟩ => ⟨S3072, .f32⟩
  | .hbm, ⟨63, _⟩ => ⟨S4x256x3072, .f32⟩
  | .hbm, ⟨64, _⟩ => ⟨S1x1x3072, .f32⟩
  | .hbm, ⟨65, _⟩ => ⟨S4x256x3072, .f32⟩
  | .hbm, ⟨66, _⟩ => ⟨S4x256x3072, .f32⟩
  | .hbm, ⟨67, _⟩ => ⟨S4x256x3072, .f32⟩
  | .hbm, ⟨68, _⟩ => ⟨S1x3072, .f32⟩
  | .hbm, ⟨69, _⟩ => ⟨S3072, .f32⟩
  | .hbm, ⟨70, _⟩ => ⟨S4x256x3072, .f32⟩
  | .hbm, ⟨71, _⟩ => ⟨S1x1x3072, .f32⟩
  | .hbm, ⟨72, _⟩ => ⟨S4x256x3072, .f32⟩
  | .hbm, ⟨73, _⟩ => ⟨S4x256x3072, .f32⟩
  | .hbm, ⟨74, _⟩ => ⟨S4x256x3072, .f32⟩
  | .hbm, ⟨75, _⟩ => ⟨S1x3072, .f32⟩
  | .hbm, ⟨76, _⟩ => ⟨S3072, .f32⟩
  | .hbm, ⟨77, _⟩ => ⟨S4x256x3072, .f32⟩
  | .hbm, ⟨78, _⟩ => ⟨S1x1x3072, .f32⟩
  | .hbm, ⟨79, _⟩ => ⟨S4x256x3072, .f32⟩
  | .hbm, ⟨80, _⟩ => ⟨S4x256x3072, .f32⟩
  | .hbm, ⟨81, _⟩ => ⟨S4x256x3072, .f32⟩
  | .hbm, ⟨82, _⟩ => ⟨S1x3072, .f32⟩
  | .hbm, ⟨83, _⟩ => ⟨S3072, .f32⟩
  | .hbm, ⟨84, _⟩ => ⟨S4x256x3072, .f32⟩
  | .hbm, ⟨85, _⟩ => ⟨S1x1x3072, .f32⟩
  | .hbm, ⟨86, _⟩ => ⟨S4x256x3072, .f32⟩
  | .hbm, ⟨87, _⟩ => ⟨S4x256x3072, .f32⟩
  | .hbm, ⟨88, _⟩ => ⟨S4x256x3072, .f32⟩
  | .hbm, ⟨89, _⟩ => ⟨S4x256x3072, .f32⟩
  | .hbm, ⟨90, _⟩ => ⟨S4x256x3072, .f32⟩
  | .hbm, ⟨91, _⟩ => ⟨S_, .f32⟩
  | .hbm, ⟨92, _⟩ => ⟨S4x256x3072, .f32⟩
  | .hbm, ⟨93, _⟩ => ⟨S4x256x3072, .f32⟩
  | .hbm, ⟨94, _⟩ => ⟨S_, .f32⟩
  | .hbm, ⟨95, _⟩ => ⟨S4x256x3072, .f32⟩
  | .hbm, ⟨96, _⟩ => ⟨S4x256x3072, .f32⟩
  | .hbm, ⟨97, _⟩ => ⟨S4x256x3072, .f32⟩
  | .hbm, ⟨98, _⟩ => ⟨S4x2304x3072, .f32⟩
  | .hbm, ⟨99, _⟩ => ⟨S4x2304x24x128, .f32⟩
  | .hbm, ⟨100, _⟩ => ⟨S4x2304x16x128, .f32⟩
  | .hbm, ⟨101, _⟩ => ⟨S4x2304x16x128, .f32⟩
  | .hbm, ⟨102, _⟩ => ⟨S_, .f32⟩
  | .hbm, ⟨103, _⟩ => ⟨S4x2304x16, .f32⟩
  | .hbm, ⟨104, _⟩ => ⟨S4x2304x16x1, .f32⟩
  | .hbm, ⟨105, _⟩ => ⟨S_, .f32⟩
  | .hbm, ⟨106, _⟩ => ⟨S4x2304x16x1, .f32⟩
  | .hbm, ⟨107, _⟩ => ⟨S4x2304x16x1, .f32⟩
  | .hbm, ⟨108, _⟩ => ⟨S4x2304x16x1, .f32⟩
  | .hbm, ⟨109, _⟩ => ⟨S4x2304x16x128, .f32⟩
  | .hbm, ⟨110, _⟩ => ⟨S4x2304x16x128, .f32⟩
  | .hbm, ⟨111, _⟩ => ⟨S4x2304x8x128, .f32⟩
  | .hbm, ⟨112, _⟩ => ⟨S4x2304x24x128, .f32⟩
  | .hbm, ⟨113, _⟩ => ⟨S4x2304x3072, .f32⟩
  | .hbm, ⟨114, _⟩ => ⟨S4x2304x3072, .bf16⟩
  | _, _ => ⟨S4x2304x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_cst_0 : Ref sig .tc := ⟨.hbm, 44, rfl⟩
abbrev main_v41 : Ref sig .tc := ⟨.hbm, 45, rfl⟩
abbrev main_v42 : Ref sig .tc := ⟨.hbm, 46, rfl⟩
abbrev main_cst_1 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_cst_2 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_cst_3 : Ref sig .tc := ⟨.hbm, 91, rfl⟩
abbrev main_v85 : Ref sig .tc := ⟨.hbm, 92, rfl⟩
abbrev main_v86 : Ref sig .tc := ⟨.hbm, 93, rfl⟩
abbrev main_cst_4 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_cst_5 : Ref sig .tc := ⟨.hbm, 102, rfl⟩
abbrev main_v94 : Ref sig .tc := ⟨.hbm, 103, rfl⟩
abbrev main_v95 : Ref sig .tc := ⟨.hbm, 104, rfl⟩
abbrev main_cst_6 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩

abbrev nD : Nat := 1
abbrev τ : Topo := Topo.v7x

variable {F : FTy → Type} [FloatOps F]
-- ==== Proof.TimeValue.lean ====
/-
  The Fourier mixing over positions: what the kernel `TimeIdeal` leaves in its result array, as one function of
  its argument arrays — entry (b, s, d) is the sum over positions k of table[s, k] · a[b, k, d] plus the sum over k of
  table[s, 2048 + k] · b[b, k, d] —, and the reference `TimeRefIdeal` computing the same sums.
-/
module

public import proofs.«01_k».proof.Defs
public import proofs.«01_k».proof.Proof.Gen.TimeIdeal.Value
public import proofs.«01_k».proof.Proof.Gen.TimeRefIdeal.Read
public import Idealize.ShloMosaic.Lib.Pipeline.Value
public import Idealize.ShloMosaic.Lib.MatmulPlain
public import Idealize.ShloMosaic.Lib.ValueIdx

@[expose] public section

set_option maxRecDepth 16384

noncomputable section

open Idealize.ShloMosaic Idealize.ShloMosaic.TcCoe Idealize.SL.Sem Idealize.ShloMosaic.ValueIdx
open Idealize.ShloMosaic.Pipeline (Dat)

namespace Cert.TimeIdeal.Mix

open Cert.TimeIdeal Cert.TimeIdeal.Gen

/-- The mixing over positions: entry (b, s, d) of the result. -/
def mix (tab : S2048x4096.Idx → EReal) (x y : S4x2048x2048.Idx → EReal) : S4x2048x2048.Idx → EReal := fun i =>
  (∑ k : Fin 2048, tab (ix2 (i 1) ⟨k.val, by omega⟩) * x (ix3 (i 0) k (i 2)))
    + ∑ k : Fin 2048, tab (ix2 (i 1) ⟨2048 + k.val, by omega⟩) * y (ix3 (i 0) k (i 2))

/-- The stored payload at (0, p, q): the two products' sums. -/
theorem pay_apply (v0 v4 : FVec Ideal S1024x2048 .bf16) (v1 v5 : FVec Ideal S1x2048x1024 .bf16) (j : S1x1024x1024.Idx) :
    k0_pay1 (F := Ideal) v0 v1 v4 v5 j
      = (∑ k : Fin 2048, v0 (ix2 (j 1) k) * v1 (ix3 0 k (j 2))) + ∑ k : Fin 2048, v4 (ix2 (j 1) k) * v5 (ix3 0 k (j 2)) := by
  have hc : ∀ v : FVec Ideal S1x2048x1024 .bf16, ∀ (a : Fin 2048) (b : Fin 1024),
      shapeCast S2048x1024 v shapeCasts_S1x2048x1024_S2048x1024 (ix2 a b) = v (ix3 0 a b) := fun v a b =>
    (shapeCast_dropUnit_apply ![2048, 1024] v shapeCasts_S1x2048x1024_S2048x1024 (ix2 a b)).trans
      (congrArg v (funext fun d => by match d with | ⟨0, _⟩ => rfl | ⟨1, _⟩ => rfl | ⟨2, _⟩ => rfl))
  have hm : ∀ (l : FVec Ideal S1024x2048 .bf16) (v : FVec Ideal S1x2048x1024 .bf16) (p q : Fin 1024),
      matmul dot_S1024x2048_S2048x1024_S1024x1024_1_0_0_1_n_n none l
        (shapeCast S2048x1024 v shapeCasts_S1x2048x1024_S2048x1024) (constant S1024x1024 .f32 0x00000000#32) (ix2 p q)
      = ∑ k : Fin 2048, l (ix2 p k) * v (ix3 0 k q) := fun l v p q => by
    refine (Ideal.matmul_plain_apply none l (shapeCast S2048x1024 v shapeCasts_S1x2048x1024_S2048x1024)
      (constant S1024x1024 .f32 0x00000000#32) p q).trans ?_
    rw [constant_apply, Ideal.ofBits_zero_f32, zero_add]
    exact Finset.sum_congr rfl fun k _ => by rw [hc]
  unfold k0_pay1
  refine (shapeCast_addUnit_apply ![1024, 1024] _ _ j).trans ?_
  rw [show (fun a : Fin 2 => j a.succ) = ix2 (n0 := 1024) (n1 := 1024) (j 1) (j 2) from
    funext fun d => by match d with | ⟨0, _⟩ => rfl | ⟨1, _⟩ => rfl]
  exact congrArg₂ (· + ·) (hm v0 v1 (j 1) (j 2)) (hm v4 v5 (j 1) (j 2))

variable (m : (ℓ : Loc nD τ sig) → Buf (Elt Ideal) ℓ) (ρ : Dev nD → PrngReg)

/-- The mixing of device `c`'s argument arrays: what the result array is shown to hold. -/
abbrev G (c : Dev nD) : Buf (Elt Ideal) ((c : Thread nD τ).loc main_v0) :=
  mix (m ((c : Thread nD τ).loc main_arg0)) (m ((c : Thread nD τ).loc main_arg1)) (m ((c : Thread nD τ).loc main_arg2))

/-- The index maps at a point: the row half is the point mod 2, the column half the point halved mod 2, the member the
    point over 4. -/
theorem idx_facts : ∀ t : Fin cfg0.N,
    win0_0.index t 0 = t.val % 2 ∧ win0_0.index t 1 = 0
    ∧ win0_1.index t 0 = t.val / 4 ∧ win0_1.index t 1 = 0 ∧ win0_1.index t 2 = t.val / 2 % 2
    ∧ win0_2.index t 0 = t.val / 4 ∧ win0_2.index t 1 = 0 ∧ win0_2.index t 2 = t.val / 2 % 2
    ∧ win0_3.index t 0 = t.val / 4 ∧ win0_3.index t 1 = t.val % 2 ∧ win0_3.index t 2 = t.val / 2 % 2 :=
  (by decide +kernel : ∀ t : Fin grid0.N,
    win0_0.index t 0 = t.val % 2 ∧ win0_0.index t 1 = 0
    ∧ win0_1.index t 0 = t.val / 4 ∧ win0_1.index t 1 = 0 ∧ win0_1.index t 2 = t.val / 2 % 2
    ∧ win0_2.index t 0 = t.val / 4 ∧ win0_2.index t 1 = 0 ∧ win0_2.index t 2 = t.val / 2 % 2
    ∧ win0_3.index t 0 = t.val / 4 ∧ win0_3.index t 1 = t.val % 2 ∧ win0_3.index t 2 = t.val / 2 % 2)

/-- What point `t` writes back is block `t` of the mixing. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero (by funext a; fin_cases a <;> rfl)]
  funext j
  obtain ⟨e00, e01, e10, e11, e12, e20, e21, e22, e30, e31, e32⟩ := idx_facts t
  have ht : t.val < 16 := lt_of_lt_of_eq t.isLt N_0
  have h0 : (j 0).val < 1 := (j 0).isLt
  have h1 : (j 1).val < 1024 := (j 1).isLt
  have h2 : (j 2).val < 1024 := (j 2).isLt
  refine (pay_apply _ _ _ _ j).trans ?_
  rw [View.read_apply]
  unfold G mix
  refine congrArg₂ (· + ·) (Finset.sum_congr rfl fun k _ => congrArg₂ (· * ·) ?_ ?_)
    (Finset.sum_congr rfl fun k _ => congrArg₂ (· * ·) ?_ ?_)
  all_goals
    show m _ _ = m _ _
    congr 1
    funext a
    apply Fin.ext
  · match a with
    | ⟨0, _⟩ => show win0_0.index t 0 * 1024 + 1 * (0 + 1 * (j 1).val) = win0_3.index t 1 * 1024 + 1 * (j 1).val; rw [e00, e31]; omega
    | ⟨1, _⟩ => show win0_0.index t 1 * 4096 + 1 * (0 + 1 * k.val) = k.val; rw [e01]; omega
  · match a with
    | ⟨0, _⟩ => show win0_1.index t 0 * 1 + 1 * (0 + 1 * 0) = win0_3.index t 0 * 1 + 1 * (j 0).val; rw [e10, e30]; omega
    | ⟨1, _⟩ => show win0_1.index t 1 * 2048 + 1 * (0 + 1 * k.val) = k.val; rw [e11]; omega
    | ⟨2, _⟩ => show win0_1.index t 2 * 1024 + 1 * (0 + 1 * (j 2).val) = win0_3.index t 2 * 1024 + 1 * (j 2).val; rw [e12, e32]; omega
  · match a with
    | ⟨0, _⟩ => show win0_0.index t 0 * 1024 + 1 * (0 + 1 * (j 1).val) = win0_3.index t 1 * 1024 + 1 * (j 1).val; rw [e00, e31]; omega
    | ⟨1, _⟩ => show win0_0.index t 1 * 4096 + 1 * (2048 + 1 * k.val) = 2048 + k.val; rw [e01]; omega
  · match a with
    | ⟨0, _⟩ => show win0_2.index t 0 * 1 + 1 * (0 + 1 * 0) = win0_3.index t 0 * 1 + 1 * (j 0).val; rw [e20, e30]; omega
    | ⟨1, _⟩ => show win0_2.index t 1 * 2048 + 1 * (0 + 1 * k.val) = k.val; rw [e21]; omega
    | ⟨2, _⟩ => show win0_2.index t 2 * 1024 + 1 * (0 + 1 * (j 2).val) = win0_3.index t 2 * 1024 + 1 * (j 2).val; rw [e22, e32]; omega

/-- Every index of the result is in the block of the point its coordinates name. -/
theorem cover (i : S4x2048x2048.Idx) :
    ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 2048 := (i 2).isLt
  have hN : cfg0.N = 16 := N_0
  let t : Fin cfg0.N := ⟨(i 0).val * 4 + (i 2).val / 1024 * 2 + (i 1).val / 1024, by omega⟩
  have tv : t.val = (i 0).val * 4 + (i 2).val / 1024 * 2 + (i 1).val / 1024 := rfl
  obtain ⟨-, -, -, -, -, -, -, -, e30, e31, e32⟩ := idx_facts t
  refine ⟨t, flush0_3 t, ?_⟩
  show i ∈ ((View.whole main_v0).slice (win0_3.rect t)).set
  rw [View.set_slice_whole, Rect.mem_set_unit]
  intro a
  match a with
  | ⟨0, _⟩ => show win0_3.index t 0 * 1 ≤ (i 0).val ∧ (i 0).val < win0_3.index t 0 * 1 + 1; rw [e30]; omega
  | ⟨1, _⟩ => show win0_3.index t 1 * 1024 ≤ (i 1).val ∧ (i 1).val < win0_3.index t 1 * 1024 + 1024; rw [e31]; omega
  | ⟨2, _⟩ => show win0_3.index t 2 * 1024 ≤ (i 2).val ∧ (i 2).val < win0_3.index t 2 * 1024 + 1024; rw [e32]; omega

/-- So the result array ends holding the mixing, -/
theorem final (c : Dev nD) : (dats m 0 c).arrAt 3 cfg0.N = G m c :=
  (dats m 0 c).arrAt_eq_of_cover 3 (G m c) (fun t _ => flushed_eq m c t) cover

/-- and the run, read: the result at the mixing. -/
theorem run : θ_run defs (onTc (τ := τ) (main (F := Ideal))) ⟨m, fun _ => 0, ρ⟩ fun r => ∀ c : Dev nD,
      r.2.mem ((c : Thread nD τ).loc main_v0) = G m c :=
  (θ_run defs _ _).mono (fun _ h c => ((h c).1).trans (final m c)) (Value.run_blocks m ρ)

/-- The reference's value is the mixing of its arguments. -/
theorem ref_eq (tab : S2048x4096.Idx → EReal) (x y : S4x2048x2048.Idx → EReal) :
    Cert.TimeRefIdeal.Read.val_main_v10 (F := Ideal) tab x y = mix tab x y := by
  open Cert.TimeRefIdeal.Read in
  funext i
  rw [val_main_v10_apply]
  show val_main_v5 (F := Ideal) tab x i + val_main_v8 (F := Ideal) tab y i = _
  rw [val_main_v5_apply, val_main_v8_apply, val_main_v4_apply, val_main_v7_apply]
  unfold mix
  refine congrArg₂ (· + ·) (Finset.sum_congr rfl fun k _ => ?_) (Finset.sum_congr rfl fun k _ => ?_)
  · rw [val_main_v3_apply, mul_comm]
    refine congrArg₂ (· * ·) (congrArg tab ?_) (congrArg x ?_)
    · funext a; match a with | ⟨0, _⟩ => rfl | ⟨1, _⟩ => rfl
    · funext a; match a with | ⟨0, _⟩ => rfl | ⟨1, _⟩ => rfl | ⟨2, _⟩ => rfl
  · rw [val_main_v6_apply, mul_comm]
    refine congrArg₂ (· * ·) (congrArg tab ?_) (congrArg y ?_)
    · funext a; match a with | ⟨0, _⟩ => rfl | ⟨1, _⟩ => rfl
    · funext a; match a with | ⟨0, _⟩ => rfl | ⟨1, _⟩ => rfl | ⟨2, _⟩ => rfl

end Cert.TimeIdeal.Mix
-- ==== Proof.FfnMath.lean ====
/-
  The SwiGLU sublayer on one row of 2048 activations, as functions on extended reals, and the kernel's stored payloads
  read at an index as these functions: `rms` the reciprocal root mean square, `modrow` the modulated norm, `act` one
  hidden unit's activation, `term` its contribution to one output, `ffn` the down projection's sum over the 5632 hidden
  units, `res` the gated residual, `normed` the closing norm.
-/
module

public import proofs.«01_k».proof.Defs
public import proofs.«01_k».proof.Proof.Gen.LastIdeal.Skeleton
public import Idealize.ShloMosaic.Lib.Pipeline.Value
public import Idealize.ShloMosaic.Lib.MatmulPlain
public import Idealize.ShloMosaic.Lib.ValueIdx
public import Idealize.ShloMosaic.Lib.IdealHost

@[expose] public section

set_option maxRecDepth 16384

noncomputable section

open Idealize.ShloMosaic Idealize.ShloMosaic.TcCoe Idealize.SL.Sem Idealize.ShloMosaic.ValueIdx

namespace Cert.Ffn

open Cert.LastIdeal Cert.LastIdeal.Gen

/-- A function of a rank-3 index at coordinates of the same numbers. -/
theorem at3 {n0 n1 n2 : ℕ} {α : Type} (f : (⟨3, ![n0, n1, n2]⟩ : Shape).Idx → α) (i : (⟨3, ![n0, n1, n2]⟩ : Shape).Idx)
    (a : Fin n0) (b : Fin n1) (c : Fin n2) (h0 : (i 0).val = a.val) (h1 : (i 1).val = b.val) (h2 : (i 2).val = c.val) :
    f i = f (ix3 a b c) :=
  congrArg f (funext fun k => Fin.ext (by match k with | ⟨0, _⟩ => exact h0 | ⟨1, _⟩ => exact h1 | ⟨2, _⟩ => exact h2))

theorem at2 {n0 n1 : ℕ} {α : Type} (f : (⟨2, ![n0, n1]⟩ : Shape).Idx → α) (i : (⟨2, ![n0, n1]⟩ : Shape).Idx)
    (a : Fin n0) (b : Fin n1) (h0 : (i 0).val = a.val) (h1 : (i 1).val = b.val) : f i = f (ix2 a b) :=
  congrArg f (funext fun k => Fin.ext (by match k with | ⟨0, _⟩ => exact h0 | ⟨1, _⟩ => exact h1))

theorem at1 {n0 : ℕ} {α : Type} (f : (⟨1, ![n0]⟩ : Shape).Idx → α) (i : (⟨1, ![n0]⟩ : Shape).Idx)
    (a : Fin n0) (h0 : (i 0).val = a.val) : f i = f (ix1 a) :=
  congrArg f (funext fun k => Fin.ext (by match k with | ⟨0, _⟩ => exact h0))

theorem at4 {n0 n1 n2 n3 : ℕ} {α : Type} (f : (⟨4, ![n0, n1, n2, n3]⟩ : Shape).Idx → α) (i : (⟨4, ![n0, n1, n2, n3]⟩ : Shape).Idx)
    (a : Fin n0) (b : Fin n1) (c : Fin n2) (d : Fin n3) (h0 : (i 0).val = a.val) (h1 : (i 1).val = b.val) (h2 : (i 2).val = c.val)
    (h3 : (i 3).val = d.val) : f i = f (ix4 a b c d) :=
  congrArg f (funext fun k => Fin.ext (by
    match k with | ⟨0, _⟩ => exact h0 | ⟨1, _⟩ => exact h1 | ⟨2, _⟩ => exact h2 | ⟨3, _⟩ => exact h3))

/-- A row of activations. -/
abbrev Row : Type := Fin 2048 → EReal

/-- The reciprocal root mean square of a row. -/
def rms (x : Row) : EReal :=
  Ideal.rsqrt (Ideal.div (∑ d : Fin 2048, x d * x d) (Ideal.ofBits .f32 0x45000000#32) + Ideal.ofBits .f32 0x358637BD#32)

/-- The modulated norm of a row. -/
def modrow (x gain shift scale : Row) : Row := fun d =>
  x d * rms x * (gain d * (1 + scale d)) + shift d

/-- One hidden unit: the gate times its sigmoid, times the up projection. -/
def act (u wg wu : Row) : EReal :=
  (∑ k : Fin 2048, u k * wg k) * Ideal.logistic (∑ k : Fin 2048, u k * wg k) * ∑ k : Fin 2048, u k * wu k

/-- Hidden unit `n`'s contribution to output `q` (nothing past the last unit). -/
def term (u : Row) (wgu : S2048x11264.Idx → EReal) (wdn : S5632x2048.Idx → EReal) (q : Fin 2048) (n : ℕ) : EReal :=
  if h : n < 5632 then
    act u (fun k => wgu (ix2 k ⟨n, by omega⟩)) (fun k => wgu (ix2 k ⟨5632 + n, by omega⟩)) * wdn (ix2 ⟨n, h⟩ q)
  else 0

/-- The two projections of a row. -/
def ffn (u : Row) (wgu : S2048x11264.Idx → EReal) (wdn : S5632x2048.Idx → EReal) : Row := fun q =>
  ∑ n ∈ Finset.range 5632, term u wgu wdn q n

/-- The gated residual. -/
def res (x gate y : Row) : Row := fun d => x d + Ideal.ofBits .f32 0x3F000000#32 * gate d * y d

/-- The closing norm. -/
def normed (y gain : Row) : Row := fun d => y d * rms y * gain d

/-- The sublayer on a row. -/
def sub (x gain shift scale gate : Row) (wgu : S2048x11264.Idx → EReal) (wdn : S5632x2048.Idx → EReal) : Row :=
  res x gate (ffn (modrow x gain shift scale) wgu wdn)

theorem modrow_congr {x x' gain gain' shift shift' scale scale' : Row} (hx : ∀ d, x d = x' d) (hg : ∀ d, gain d = gain' d)
    (hs : ∀ d, shift d = shift' d) (hc : ∀ d, scale d = scale' d) (q : Fin 2048) :
    modrow x gain shift scale q = modrow x' gain' shift' scale' q := by
  obtain rfl := funext hx; obtain rfl := funext hg; obtain rfl := funext hs; obtain rfl := funext hc; rfl

theorem res_congr {x x' gate gate' y y' : Row} (hx : ∀ d, x d = x' d) (hg : ∀ d, gate d = gate' d) (hy : ∀ d, y d = y' d) :
    res x gate y = res x' gate' y' := by
  obtain rfl := funext hx; obtain rfl := funext hg; obtain rfl := funext hy; rfl

theorem normed_congr {y y' gain gain' : Row} (hy : y = y') (hg : ∀ d, gain d = gain' d) (q : Fin 2048) :
    normed y gain q = normed y' gain' q := by
  obtain rfl := hy; obtain rfl := funext hg; rfl

/-! ## The stored payloads at an index -/

theorem sq_sum (v : FVec Ideal S1024x2048 .f32) (p : Fin 1024) :
    multiReduction (φ := .f32) .add [1] S1024 v 0x00000000#32 reduces_S1024x2048_S1024 (.inl rfl) rfl (ix1 p)
      = ∑ d : Fin 2048, v (ix2 p d) := by
  refine (Ideal.multiReduction_add_single (φ := .f32) v _ reduces_S1024x2048_S1024 (.inl rfl) rfl (ix1 p)).trans ?_
  exact Finset.sum_congr rfl fun k _ => congrArg v (funext fun a => Fin.ext (by match a with | ⟨0, _⟩ => rfl | ⟨1, _⟩ => rfl))

theorem col_cast (v : FVec Ideal S1024 .f32) (p : Fin 1024) :
    shapeCast S1024x1 v shapeCasts_S1024_S1024x1 (ix2 p 0) = v (ix1 p) :=
  shapeCast_apply v shapeCasts_S1024_S1024x1 (ix2 p 0) (ix1 p) (by
    rw [Shape.rowMajor_val_one, Shape.rowMajor_val_two]
    show p.val = p.val * 1 + 0
    omega)

theorem col_bcast (v : FVec Ideal S1024x1 .f32) (p : Fin 1024) (q : Fin 2048) :
    broadcastTo S1024x2048 v broadcasts_S1024x1_S1024x2048 (ix2 p q) = v (ix2 p 0) :=
  broadcastTo_apply v broadcasts_S1024x1_S1024x2048 (ix2 p q) (ix2 p 0) (fun a => by
    match a with | ⟨0, _⟩ => rfl | ⟨1, _⟩ => rfl)

theorem row_bcast (v : FVec Ideal S1x2048 .f32) (p : Fin 1024) (q : Fin 2048) :
    broadcastTo S1024x2048 v broadcasts_S1x2048_S1024x2048 (ix2 p q) = v (ix2 0 q) :=
  broadcastTo_apply v broadcasts_S1x2048_S1024x2048 (ix2 p q) (ix2 0 q) (fun a => by
    match a with | ⟨0, _⟩ => rfl | ⟨1, _⟩ => rfl)

theorem tile_cast (v : FVec Ideal S1x1024x2048 .f32) (p : Fin 1024) (q : Fin 2048) :
    shapeCast S1024x2048 v shapeCasts_S1x1024x2048_S1024x2048 (ix2 p q) = v (ix3 0 p q) :=
  (shapeCast_dropUnit_apply ![1024, 2048] v shapeCasts_S1x1024x2048_S1024x2048 (ix2 p q)).trans
    (congrArg v (funext fun d => by match d with | ⟨0, _⟩ => rfl | ⟨1, _⟩ => rfl | ⟨2, _⟩ => rfl))

theorem tile_uncast (v : FVec Ideal S1024x2048 .f32) (p : Fin 1024) (q : Fin 2048) :
    shapeCast S1x1024x2048 v shapeCasts_S1024x2048_S1x1024x2048 (ix3 0 p q) = v (ix2 p q) :=
  (shapeCast_addUnit_apply ![1024, 2048] v shapeCasts_S1024x2048_S1x1024x2048 (ix3 0 p q)).trans
    (congrArg v (funext fun d => by match d with | ⟨0, _⟩ => rfl | ⟨1, _⟩ => rfl))

theorem row_cast (v : FVec Ideal S1x1x2048 .f32) (q : Fin 2048) :
    shapeCast S1x2048 v shapeCasts_S1x1x2048_S1x2048 (ix2 0 q) = v (ix3 0 0 q) :=
  (shapeCast_dropUnit_apply ![1, 2048] v shapeCasts_S1x1x2048_S1x2048 (ix2 0 q)).trans
    (congrArg v (funext fun d => by match d with | ⟨0, _⟩ => rfl | ⟨1, _⟩ => rfl | ⟨2, _⟩ => rfl))

/-- The reciprocal root mean square column of a tile, spread over it. -/
abbrev rmsTile (v : FVec Ideal S1024x2048 .f32) : FVec Ideal S1024x2048 .f32 :=
  broadcastTo S1024x2048 (rsqrt (addf (divf (shapeCast S1024x1
      (multiReduction (φ := .f32) .add [1] S1024 (mulf v v) 0x00000000#32 reduces_S1024x2048_S1024 (.inl rfl) rfl) shapeCasts_S1024_S1024x1)
      (broadcast S1024x1 (Scalar.ofBits .f32 0x45000000#32))) (broadcast S1024x1 (Scalar.ofBits .f32 0x358637BD#32))))
    broadcasts_S1024x1_S1024x2048

theorem rms_apply (v : FVec Ideal S1024x2048 .f32) (p : Fin 1024) (q : Fin 2048) :
    rmsTile v (ix2 p q) = rms fun d => v (ix2 p d) := by
  refine (col_bcast _ p q).trans ?_
  have e := (col_cast _ p).trans (sq_sum (mulf v v) p)
  exact congrArg (fun s => Ideal.rsqrt (Ideal.div s (Ideal.ofBits .f32 0x45000000#32) + Ideal.ofBits .f32 0x358637BD#32)) e

/-- The tile of modulated norms. -/
theorem pay1_apply (x : FVec Ideal S1x1024x2048 .f32) (gain : FVec Ideal S1x2048 .f32) (shift scale : FVec Ideal S1x1x2048 .f32)
    (p : Fin 1024) (q : Fin 2048) :
    k0_pay1 (F := Ideal) x gain shift scale (ix2 p q)
      = modrow (fun d => x (ix3 0 p d)) (fun d => gain (ix2 0 d)) (fun d => shift (ix3 0 0 d)) (fun d => scale (ix3 0 0 d)) q := by
  unfold k0_pay1
  dsimp only
  rw [shapeCast_self, shapeCast_self]
  have hr : rms (fun d => shapeCast S1024x2048 x shapeCasts_S1x1024x2048_S1024x2048 (ix2 p d)) = rms fun d => x (ix3 0 p d) :=
    congrArg rms (funext fun d => tile_cast x p d)
  have ho : (FloatOps.ofBits (F := Ideal) .f32 0x3F800000#32 : EReal) = 1 := Ideal.ofBits_one_f32
  refine congrArg₂ (· + ·) (congrArg₂ (· * ·) (congrArg₂ (· * ·) (tile_cast x p q) ((rms_apply _ p q).trans hr)) ?_)
    ((row_bcast _ p q).trans (row_cast shift q))
  refine (row_bcast _ p q).trans (congrArg₂ (· * ·) rfl (congrArg₂ (· + ·) ho (row_cast scale q)))

theorem pay2_apply (p : Fin 1024) (q : Fin 2048) : k0_pay2 (F := Ideal) (ix3 0 p q) = 0 := by
  unfold k0_pay2
  exact (tile_uncast _ p q).trans Ideal.ofBits_zero_f32

/-- One step of the accumulation: 256 hidden units more. -/
theorem pay3_apply (u : FVec Ideal S1024x2048 .bf16) (wg wu : FVec Ideal S2048x256 .bf16) (acc : FVec Ideal S1x1024x2048 .f32)
    (wd : FVec Ideal S256x2048 .bf16) (p : Fin 1024) (q : Fin 2048) :
    k0_pay3 (F := Ideal) u wg wu acc wd (ix3 0 p q) = acc (ix3 0 p q)
      + ∑ f : Fin 256, act (fun k => u (ix2 p k)) (fun k => wg (ix2 k f)) (fun k => wu (ix2 k f)) * wd (ix2 f q) := by
  have hm : ∀ (w : FVec Ideal S2048x256 .bf16) (f : Fin 256),
      matmul dot_S1024x2048_S2048x256_S1024x256_1_0_0_1_n_n none u w (constant S1024x256 .f32 0x00000000#32) (ix2 p f)
        = ∑ k : Fin 2048, u (ix2 p k) * w (ix2 k f) := fun w f => by
    refine (Ideal.matmul_plain_apply none u w (constant S1024x256 .f32 0x00000000#32) p f).trans ?_
    rw [constant_apply, Ideal.ofBits_zero_f32, zero_add]
  have hd : ∀ (a : FVec Ideal S1024x256 .bf16),
      matmul dot_S1024x256_S256x2048_S1024x2048_1_0_0_1_n_n none a wd (constant S1024x2048 .f32 0x00000000#32) (ix2 p q)
        = ∑ f : Fin 256, a (ix2 p f) * wd (ix2 f q) := fun a => by
    refine (Ideal.matmul_plain_apply none a wd (constant S1024x2048 .f32 0x00000000#32) p q).trans ?_
    rw [constant_apply, Ideal.ofBits_zero_f32, zero_add]
  unfold k0_pay3
  refine (tile_uncast _ p q).trans (congrArg₂ (· + ·) (tile_cast acc p q) ((hd _).trans ?_))
  refine Finset.sum_congr rfl fun f _ => congrArg₂ (· * ·) ?_ rfl
  exact congrArg₂ (fun g w => g * Ideal.logistic g * w) (hm wg f) (hm wu f)

/-- The residual and the closing norm. -/
theorem pay4_apply (x : FVec Ideal S1x1024x2048 .f32) (gate : FVec Ideal S1x1x2048 .f32) (acc : FVec Ideal S1x1024x2048 .f32)
    (gain : FVec Ideal S1x2048 .f32) (p : Fin 1024) (q : Fin 2048) :
    k0_pay4 (F := Ideal) x gate acc gain (ix3 0 p q)
      = normed (res (fun d => x (ix3 0 p d)) (fun d => gate (ix3 0 0 d)) (fun d => acc (ix3 0 p d))) (fun d => gain (ix2 0 d)) q := by
  unfold k0_pay4
  dsimp only
  refine (tile_uncast _ p q).trans ?_
  rw [shapeCast_self]
  have hy : ∀ d : Fin 2048, addf (shapeCast S1024x2048 x shapeCasts_S1x1024x2048_S1024x2048)
      (mulf (broadcastTo S1024x2048 (mulf (broadcast S1x2048 (Scalar.ofBits .f32 0x3F000000#32)) (shapeCast S1x2048 gate shapeCasts_S1x1x2048_S1x2048))
        broadcasts_S1x2048_S1024x2048) (shapeCast S1024x2048 acc shapeCasts_S1x1024x2048_S1024x2048)) (ix2 p d)
      = res (fun d => x (ix3 0 p d)) (fun d => gate (ix3 0 0 d)) (fun d => acc (ix3 0 p d)) d := fun d =>
    congrArg₂ (· + ·) (tile_cast x p d) (congrArg₂ (· * ·)
      ((row_bcast _ p d).trans (congrArg₂ (· * ·) rfl (row_cast gate d))) (tile_cast acc p d))
  exact congrArg₂ (· * ·) (congrArg₂ (· * ·) (hy q) ((rms_apply _ p q).trans (congrArg rms (funext hy)))) (row_bcast gain p q)

/-! ## The accumulation over the blocks of hidden units -/

/-- Block `j` of 256 hidden units adds its part of the sum, the weight blocks being read at that block. -/
theorem acc_step (U : Row) (wgu : S2048x11264.Idx → EReal) (wdn : S5632x2048.Idx → EReal) (j : ℕ) (hj : j < 22)
    (u : FVec Ideal S1024x2048 .bf16) (wg wu : FVec Ideal S2048x256 .bf16) (acc : FVec Ideal S1x1024x2048 .f32)
    (wd : FVec Ideal S256x2048 .bf16) (p : Fin 1024) (q : Fin 2048)
    (hu : ∀ k, u (ix2 p k) = U k)
    (hg : ∀ (k : Fin 2048) (f : Fin 256), wg (ix2 k f) = wgu (ix2 k ⟨256 * j + f.val, by omega⟩))
    (hw : ∀ (k : Fin 2048) (f : Fin 256), wu (ix2 k f) = wgu (ix2 k ⟨5632 + (256 * j + f.val), by omega⟩))
    (hd : ∀ (f : Fin 256), wd (ix2 f q) = wdn (ix2 ⟨256 * j + f.val, by omega⟩ q))
    (ha : acc (ix3 0 p q) = ∑ n ∈ Finset.range (256 * j), term U wgu wdn q n) :
    k0_pay3 (F := Ideal) u wg wu acc wd (ix3 0 p q) = ∑ n ∈ Finset.range (256 * (j + 1)), term U wgu wdn q n := by
  rw [pay3_apply, ha, show 256 * (j + 1) = 256 * j + 256 from by ring, Finset.sum_range_add, Finset.sum_range (n := 256)]
  refine congrArg (_ + ·) (Finset.sum_congr rfl fun f _ => ?_)
  rw [term, dif_pos (show 256 * j + f.val < 5632 by omega)]
  simp only [hu, hg, hw, hd]

/-- The sum over all hidden units, indexed by the units. -/
theorem ffn_eq (u : Row) (wgu : S2048x11264.Idx → EReal) (wdn : S5632x2048.Idx → EReal) (q : Fin 2048) :
    ffn u wgu wdn q = ∑ f : Fin 5632, act u (fun k => wgu (ix2 k ⟨f.val, by omega⟩)) (fun k => wgu (ix2 k ⟨5632 + f.val, by omega⟩))
      * wdn (ix2 f q) := by
  unfold ffn
  rw [Finset.sum_range]
  exact Finset.sum_congr rfl fun f _ => dif_pos f.isLt

end Cert.Ffn
-- ==== Proof.LastStep.lean ====
/-
  The last SwiGLU sublayer: what each of the kernel's three cases leaves in its output block and in its scratch, as the
  payloads over the input blocks — the first block of hidden units stores the modulated norm and starts the sum, a middle
  one adds to it, the last one adds and then forms the residual and the closing norm.
-/
module

public import proofs.«01_k».proof.Proof.FfnMath
public import proofs.«01_k».proof.Proof.Gen.LastIdeal.Value

@[expose] public section

set_option maxRecDepth 16384

noncomputable section

open Idealize.ShloMosaic Idealize.ShloMosaic.TcCoe Idealize.SL.Sem Idealize.ShloMosaic.ValueIdx
open Idealize.ShloMosaic.Pipeline (Dat)

namespace Cert.LastIdeal.Sweep

open Cert.LastIdeal Cert.LastIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

section Cases

variable {F : FTy → Type} [FloatOps F]
variable (c : Dev nD) (i : grid0.Coords) (a3 : Memref sig .tc .vmem S1x1024x2048 .f32) (h3 : a3.IsWhole)
  (a4 : Memref sig .tc .vmem S1x8x2048 .f32) (h4 : a4.IsWhole) (a5 : Memref sig .tc .vmem S1x8x2048 .f32) (h5 : a5.IsWhole)
  (a6 : Memref sig .tc .vmem S1x8x2048 .f32) (h6 : a6.IsWhole) (a7 : Memref sig .tc .vmem S1x2048 .f32) (h7 : a7.IsWhole)
  (a8 : Memref sig .tc .vmem S2048x256 .bf16) (h8 : a8.IsWhole) (a9 : Memref sig .tc .vmem S2048x256 .bf16) (h9 : a9.IsWhole)
  (a10 : Memref sig .tc .vmem S256x2048 .bf16) (h10 : a10.IsWhole) (a11 : Memref sig .tc .vmem S1x2048 .f32) (h11 : a11.IsWhole)
  (a12 : Memref sig .tc .vmem S1x1024x2048 .f32) (h12 : a12.IsWhole) (a13 : Memref sig .tc .vmem S1024x2048 .bf16) (h13 : a13.IsWhole)
  (x0 : Vec F S1x1024x2048 .f32) (x1 x2 x3 : Vec F S1x8x2048 .f32) (x4 : Vec F S1x2048 .f32) (x5 x6 : Vec F S2048x256 .bf16)
  (x7 : Vec F S256x2048 .bf16) (x8 : Vec F S1x2048 .f32) (xo : Vec F S1x1024x2048 .f32) (xs : Vec F S1024x2048 .bf16)

/-- The modulated norm the first block stores. -/
abbrev unorm (hc : cond0_0 i) : Vec F S1024x2048 .bf16 :=
  k0_pay1 x0 x4 (View.ld x1 (Rect.unit (k0_off1 i) S1x1x2048.size (k0_off1_inb i hc)))
    (View.ld x2 (Rect.unit (k0_off1 i) S1x1x2048.size (k0_off1_inb i hc)))

theorem scratch_A (hc0 : cond0_0 i) (hc1 : ¬cond0_1 i) :
    sout0_A_0 c i a3 h3 a4 h4 a5 h5 a6 h6 a7 h7 a8 h8 a9 h9 a10 h10 a11 h11 a12 h12 a13 h13 hc0 hc1 x0 x1 x2 x3 x4 x5 x6 x7 x8
      = unorm i x0 x1 x2 x4 hc0 := by
  unfold sout0_A_0
  rw [View.read_writes_eq_canon _ _ _ (scover0_A_0 c i a3 h3 a4 h4 a5 h5 a6 h6 a7 h7 a8 h8 a9 h9 a10 h10 a11 h11 a12 h12 a13 h13 hc0 hc1 x0 x1 x2 x3 x4 x5 x6 x7 x8)]
  unfold kernelRun0_A
  dsimp only
  sl_unfold_words
  rw [View.canon_unit_zero hz2]
  simp only [View.readAt_eq_ld, h3.read_unread, h4.read_unread, h5.read_unread, h7.read_unread,
    View.ld_unit_zero (S := S1x1024x2048) hz3, View.ld_unit_zero (S := S1x2048) hz2]
  rfl

theorem out_A (hc0 : cond0_0 i) (hc1 : ¬cond0_1 i) :
    out0_A_9 c i a3 h3 a4 h4 a5 h5 a6 h6 a7 h7 a8 h8 a9 h9 a10 h10 a11 h11 a12 h12 a13 h13 hc0 hc1 x0 x1 x2 x3 x4 x5 x6 x7 x8
      = k0_pay3 (unorm i x0 x1 x2 x4 hc0) x5 x6 k0_pay2 x7 := by
  unfold out0_A_9
  rw [View.read_writes_eq_canon _ _ _ (cover0_A_9 c i a3 h3 a4 h4 a5 h5 a6 h6 a7 h7 a8 h8 a9 h9 a10 h10 a11 h11 a12 h12 a13 h13 hc0 hc1 x0 x1 x2 x3 x4 x5 x6 x7 x8)]
  unfold kernelRun0_A
  dsimp only
  sl_unfold_words
  rw [View.canon_cons_unit_zero hz3, View.readCov_unit_zero (S := S1x1024x2048) _ hz3, View.readCov_unit_zero (S := S1024x2048) _ hz2]
  simp only [View.readAt_eq_ld, h3.read_unread, h4.read_unread, h5.read_unread, h7.read_unread, h8.read_unread, h9.read_unread,
    h10.read_unread, View.ld_unit_zero (S := S1x1024x2048) hz3, View.ld_unit_zero (S := S1x2048) hz2,
    View.ld_unit_zero (S := S2048x256) hz2, View.ld_unit_zero (S := S256x2048) hz2]
  rfl

theorem out_B (hc0 : ¬cond0_0 i) (hc1 : ¬cond0_1 i) :
    out0_B_9 c i a3 h3 a4 h4 a5 h5 a6 h6 a7 h7 a8 h8 a9 h9 a10 h10 a11 h11 a12 h12 a13 h13 hc0 hc1 x0 x1 x2 x3 x4 x5 x6 x7 x8 xo xs
      = k0_pay3 xs x5 x6 xo x7 := by
  unfold out0_B_9
  rw [View.read_writes_eq_canon _ _ _ (cover0_B_9 c i a3 h3 a4 h4 a5 h5 a6 h6 a7 h7 a8 h8 a9 h9 a10 h10 a11 h11 a12 h12 a13 h13 hc0 hc1 x0 x1 x2 x3 x4 x5 x6 x7 x8 xo xs)]
  unfold kernelRun0_B
  dsimp only
  sl_unfold_words
  rw [View.canon_unit_zero hz3]
  simp only [View.readAt_eq_ld, h8.read_unread, h9.read_unread, h10.read_unread, h12.read_unread, h13.read_unread,
    View.ld_unit_zero (S := S1x1024x2048) hz3, View.ld_unit_zero (S := S1024x2048) hz2,
    View.ld_unit_zero (S := S2048x256) hz2, View.ld_unit_zero (S := S256x2048) hz2]

theorem out_C (hc0 : ¬cond0_0 i) (hc1 : cond0_1 i) :
    out0_C_9 c i a3 h3 a4 h4 a5 h5 a6 h6 a7 h7 a8 h8 a9 h9 a10 h10 a11 h11 a12 h12 a13 h13 hc0 hc1 x0 x1 x2 x3 x4 x5 x6 x7 x8 xo xs
      = k0_pay4 x0 (View.ld x3 (Rect.unit (k0_off2 i) S1x1x2048.size (k0_off2_inb i hc1))) (k0_pay3 xs x5 x6 xo x7) x8 := by
  unfold out0_C_9
  rw [View.read_writes_eq_canon _ _ _ (cover0_C_9 c i a3 h3 a4 h4 a5 h5 a6 h6 a7 h7 a8 h8 a9 h9 a10 h10 a11 h11 a12 h12 a13 h13 hc0 hc1 x0 x1 x2 x3 x4 x5 x6 x7 x8 xo xs)]
  unfold kernelRun0_C
  dsimp only
  sl_unfold_words
  rw [View.canon_cons_unit_zero hz3, View.readCov_unit_zero (S := S1x1024x2048) _ hz3]
  simp only [View.readAt_eq_ld, h3.read_unread, h6.read_unread, h8.read_unread, h9.read_unread, h10.read_unread, h11.read_unread,
    h12.read_unread, h13.read_unread,
    View.ld_unit_zero (S := S1x1024x2048) hz3, View.ld_unit_zero (S := S1024x2048) hz2, View.ld_unit_zero (S := S1x2048) hz2,
    View.ld_unit_zero (S := S2048x256) hz2, View.ld_unit_zero (S := S256x2048) hz2]

end Cases

end Cert.LastIdeal.Sweep
-- ==== Proof.LastValue.lean ====
/-
  The last SwiGLU sublayer and the closing norm: what the kernel `LastIdeal` leaves in its result array, as one function
  of its argument arrays, and the reference `LastRefIdeal` computing the same function.
-/
module

public import proofs.«01_k».proof.Proof.LastStep
public import proofs.«01_k».proof.Proof.Gen.LastRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.LastIdeal.Sweep

open Cert.LastIdeal Cert.LastIdeal.Gen Cert.Ffn

/-- The last sublayer and the closing norm, from the arrays: activations, modulation, norm gain, the two weights, final gain. -/
def last (x : S4x2048x2048.Idx → EReal) (md : S9x8x2048.Idx → EReal) (gain : S2048.Idx → EReal)
    (wgu : S2048x11264.Idx → EReal) (wdn : S5632x2048.Idx → EReal) (fin : S2048.Idx → EReal) : S4x2048x2048.Idx → EReal := fun i =>
  normed (sub (fun d => x (ix3 (i 0) (i 1) d)) (fun d => gain (ix1 d)) (fun d => md (ix3 6 ((i 0).castLE (by decide)) d))
    (fun d => md (ix3 7 ((i 0).castLE (by decide)) d)) (fun d => md (ix3 8 ((i 0).castLE (by decide)) d)) wgu wdn)
    (fun d => fin (ix1 d)) (i 2)

variable (m : (ℓ : Loc nD τ sig) → Buf (Elt Ideal) ℓ) (ρ : Dev nD → PrngReg) (c : Dev nD)

/-- That function of device `c`'s argument arrays: what the result array is shown to hold. -/
abbrev G : Buf (Elt Ideal) ((c : Thread nD τ).loc main_v2) :=
  last (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## The blocks the points read -/

/-- Member and position of row `p` of the tile that sweep `n` works on. -/
abbrev bi (n : ℕ) : Fin 4 := ⟨n / 2 % 4, by omega⟩
abbrev si (n : ℕ) (p : Fin 1024) : Fin 2048 := ⟨1024 * (n % 2) + p.val, by omega⟩

theorem idx_facts : ∀ t : Fin cfg0.N,
    win0_0.index t 0 = t.val / 22 / 2 % 4 ∧ win0_0.index t 1 = t.val / 22 % 2 ∧ win0_0.index t 2 = 0
    ∧ win0_1.index t 0 = 6 ∧ win0_1.index t 1 = 0 ∧ win0_1.index t 2 = 0
    ∧ win0_2.index t 0 = 7 ∧ win0_2.index t 1 = 0 ∧ win0_2.index t 2 = 0
    ∧ win0_3.index t 0 = 8 ∧ win0_3.index t 1 = 0 ∧ win0_3.index t 2 = 0 :=
  (by decide +kernel : ∀ t : Fin grid0.N,
    win0_0.index t 0 = t.val / 22 / 2 % 4 ∧ win0_0.index t 1 = t.val / 22 % 2 ∧ win0_0.index t 2 = 0
    ∧ win0_1.index t 0 = 6 ∧ win0_1.index t 1 = 0 ∧ win0_1.index t 2 = 0
    ∧ win0_2.index t 0 = 7 ∧ win0_2.index t 1 = 0 ∧ win0_2.index t 2 = 0
    ∧ win0_3.index t 0 = 8 ∧ win0_3.index t 1 = 0 ∧ win0_3.index t 2 = 0)

theorem idx_facts' : ∀ t : Fin cfg0.N, (grid0.coords t 0).val = t.val / 22 / 2 % 4
    ∧ win0_4.index t 0 = 0 ∧ win0_4.index t 1 = 0
    ∧ win0_5.index t 0 = 0 ∧ win0_5.index t 1 = t.val % 22
    ∧ win0_6.index t 0 = 0 ∧ win0_6.index t 1 = t.val % 22 + 22
    ∧ win0_7.index t 0 = t.val % 22 ∧ win0_7.index t 1 = 0
    ∧ win0_8.index t 0 = 0 ∧ win0_8.index t 1 = 0
    ∧ win0_9.index t 0 = t.val / 22 / 2 % 4 ∧ win0_9.index t 1 = t.val / 22 % 2 ∧ win0_9.index t 2 = 0 :=
  (by decide +kernel : ∀ t : Fin grid0.N, (grid0.coords t 0).val = t.val / 22 / 2 % 4
    ∧ win0_4.index t 0 = 0 ∧ win0_4.index t 1 = 0
    ∧ win0_5.index t 0 = 0 ∧ win0_5.index t 1 = t.val % 22
    ∧ win0_6.index t 0 = 0 ∧ win0_6.index t 1 = t.val % 22 + 22
    ∧ win0_7.index t 0 = t.val % 22 ∧ win0_7.index t 1 = 0
    ∧ win0_8.index t 0 = 0 ∧ win0_8.index t 1 = 0
    ∧ win0_9.index t 0 = t.val / 22 / 2 % 4 ∧ win0_9.index t 1 = t.val / 22 % 2 ∧ win0_9.index t 2 = 0)

variable (t : Fin cfg0.N)

theorem tile_read (p : Fin 1024) (d : Fin 2048) :
    (iblk m c 0 t : FVec Ideal S1x1024x2048 .f32) (ix3 0 p d) = m ((c : Thread nD τ).loc main_arg0) (ix3 (bi (t.val / 22)) (si (t.val / 22) p) d) := by
  obtain ⟨e0, e1, e2, -⟩ := idx_facts t
  unfold iblk
  rw [View.read_apply]
  show V m c main_arg0 _ = _
  rw [V_main_arg0]
  congr 1; funext a; apply Fin.ext
  match a with
  | ⟨0, _⟩ => show win0_0.index t 0 * 1 + 1 * 0 = t.val / 22 / 2 % 4; rw [e0]; omega
  | ⟨1, _⟩ => show win0_0.index t 1 * 1024 + 1 * p.val = 1024 * (t.val / 22 % 2) + p.val; rw [e1]; omega
  | ⟨2, _⟩ => show win0_0.index t 2 * 2048 + 1 * d.val = d.val; rw [e2]; omega

theorem off1_val (i : grid0.Coords) : k0_off1 i 1 = (i 0).val := by rw [k0_off1_eq]; rfl
theorem off2_val (i : grid0.Coords) : k0_off2 i 1 = (i 0).val := by rw [k0_off2_eq]; rfl

theorem shift_read (inb) (d : Fin 2048) :
    View.ld (iblk m c 1 t : FVec Ideal S1x8x2048 .f32) (Rect.unit (k0_off1 (grid0.coords t)) S1x1x2048.size inb) (ix3 0 0 d)
      = m ((c : Thread nD τ).loc main_arg1) (ix3 6 ((bi (t.val / 22)).castLE (by decide)) d) := by
  obtain ⟨-, -, -, e0, e1, e2, -⟩ := idx_facts t
  have eg := (idx_facts' t).1
  show (iblk m c 1 t : FVec Ideal S1x8x2048 .f32) _ = _
  unfold iblk
  rw [View.read_apply]
  show V m c main_arg1 _ = _
  rw [V_main_arg1]
  congr 1; funext a; apply Fin.ext
  match a with
  | ⟨0, _⟩ => show win0_1.index t 0 * 1 + 1 * (0 + 1 * 0) = 6; rw [e0]
  | ⟨1, _⟩ => show win0_1.index t 1 * 8 + 1 * (k0_off1 (grid0.coords t) 1 + 1 * 0) = t.val / 22 / 2 % 4; rw [e1, off1_val, eg]; omega
  | ⟨2, _⟩ => show win0_1.index t 2 * 2048 + 1 * (0 + 1 * d.val) = d.val; rw [e2]; omega

theorem scale_read (inb) (d : Fin 2048) :
    View.ld (iblk m c 2 t : FVec Ideal S1x8x2048 .f32) (Rect.unit (k0_off1 (grid0.coords t)) S1x1x2048.size inb) (ix3 0 0 d)
      = m ((c : Thread nD τ).loc main_arg1) (ix3 7 ((bi (t.val / 22)).castLE (by decide)) d) := by
  obtain ⟨-, -, -, -, -, -, e0, e1, e2, -⟩ := idx_facts t
  have eg := (idx_facts' t).1
  show (iblk m c 2 t : FVec Ideal S1x8x2048 .f32) _ = _
  unfold iblk
  rw [View.read_apply]
  show V m c main_arg1 _ = _
  rw [V_main_arg1]
  congr 1; funext a; apply Fin.ext
  match a with
  | ⟨0, _⟩ => show win0_2.index t 0 * 1 + 1 * (0 + 1 * 0) = 7; rw [e0]
  | ⟨1, _⟩ => show win0_2.index t 1 * 8 + 1 * (k0_off1 (grid0.coords t) 1 + 1 * 0) = t.val / 22 / 2 % 4; rw [e1, off1_val, eg]; omega
  | ⟨2, _⟩ => show win0_2.index t 2 * 2048 + 1 * (0 + 1 * d.val) = d.val; rw [e2]; omega

theorem gate_read (inb) (d : Fin 2048) :
    View.ld (iblk m c 3 t : FVec Ideal S1x8x2048 .f32) (Rect.unit (k0_off2 (grid0.coords t)) S1x1x2048.size inb) (ix3 0 0 d)
      = m ((c : Thread nD τ).loc main_arg1) (ix3 8 ((bi (t.val / 22)).castLE (by decide)) d) := by
  obtain ⟨-, -, -, -, -, -, -, -, -, e0, e1, e2⟩ := idx_facts t
  have eg := (idx_facts' t).1
  show (iblk m c 3 t : FVec Ideal S1x8x2048 .f32) _ = _
  unfold iblk
  rw [View.read_apply]
  show V m c main_arg1 _ = _
  rw [V_main_arg1]
  congr 1; funext a; apply Fin.ext
  match a with
  | ⟨0, _⟩ => show win0_3.index t 0 * 1 + 1 * (0 + 1 * 0) = 8; rw [e0]
  | ⟨1, _⟩ => show win0_3.index t 1 * 8 + 1 * (k0_off2 (grid0.coords t) 1 + 1 * 0) = t.val / 22 / 2 % 4; rw [e1, off2_val, eg]; omega
  | ⟨2, _⟩ => show win0_3.index t 2 * 2048 + 1 * (0 + 1 * d.val) = d.val; rw [e2]; omega

/-- The norm gain reaches the region as a row. -/
theorem V_gain : V m c main_v0 = shapeCast S1x2048 (m ((c : Thread nD τ).loc main_arg2)) shapeCasts_S2048_S1x2048 := by
  simp only [V, StableHlo.after_cons, StableHlo.after_nil]
  rw [StableHlo.reshape_result_ne _ _ _ _ _ _ _ (by decide), StableHlo.reshape_result]
  rfl

/-- So does the final gain. -/
theorem V_fin : V m c main_v1 = shapeCast S1x2048 (m ((c : Thread nD τ).loc main_arg5)) shapeCasts_S2048_S1x2048 := by
  simp only [V, StableHlo.after_cons, StableHlo.after_nil]
  rw [StableHlo.reshape_result, StableHlo.reshape_result_ne _ _ _ _ _ _ _ (by decide)]
  rfl

theorem vec_read (v : S2048.Idx → EReal) (d : Fin 2048) :
    shapeCast S1x2048 v shapeCasts_S2048_S1x2048 (ix2 0 d) = v (ix1 d) :=
  (shapeCast_addUnit_apply ![2048] v shapeCasts_S2048_S1x2048 (ix2 0 d)).trans
    (congrArg v (funext fun a => by match a with | ⟨0, _⟩ => rfl))

theorem gain_read (d : Fin 2048) :
    (iblk m c 4 t : FVec Ideal S1x2048 .f32) (ix2 0 d) = m ((c : Thread nD τ).loc main_arg2) (ix1 d) := by
  obtain ⟨-, e0, e1, -⟩ := idx_facts' t
  refine Eq.trans ?_ (vec_read (m ((c : Thread nD τ).loc main_arg2)) d)
  unfold iblk
  rw [View.read_apply]
  show V m c main_v0 _ = _
  rw [V_gain]
  congr 1; funext a; apply Fin.ext
  match a with
  | ⟨0, _⟩ => show win0_4.index t 0 * 1 + 1 * 0 = 0; rw [e0]
  | ⟨1, _⟩ => show win0_4.index t 1 * 2048 + 1 * d.val = d.val; rw [e1]; omega

theorem fin_read (d : Fin 2048) :
    (iblk m c 8 t : FVec Ideal S1x2048 .f32) (ix2 0 d) = m ((c : Thread nD τ).loc main_arg5) (ix1 d) := by
  obtain ⟨-, -, -, -, -, -, -, -, -, e0, e1, -⟩ := idx_facts' t
  refine Eq.trans ?_ (vec_read (m ((c : Thread nD τ).loc main_arg5)) d)
  unfold iblk
  rw [View.read_apply]
  show V m c main_v1 _ = _
  rw [V_fin]
  congr 1; funext a; apply Fin.ext
  match a with
  | ⟨0, _⟩ => show win0_8.index t 0 * 1 + 1 * 0 = 0; rw [e0]
  | ⟨1, _⟩ => show win0_8.index t 1 * 2048 + 1 * d.val = d.val; rw [e1]; omega

theorem wg_read (k : Fin 2048) (f : Fin 256) : (iblk m c 5 t : FVec Ideal S2048x256 .bf16) (ix2 k f)
    = m ((c : Thread nD τ).loc main_arg3) (ix2 k ⟨256 * (t.val % 22) + f.val, by omega⟩) := by
  obtain ⟨-, -, -, e0, e1, -⟩ := idx_facts' t
  unfold iblk
  rw [View.read_apply]
  show V m c main_arg3 _ = _
  rw [V_main_arg3]
  congr 1; funext a; apply Fin.ext
  match a with
  | ⟨0, _⟩ => show win0_5.index t 0 * 2048 + 1 * k.val = k.val; rw [e0]; omega
  | ⟨1, _⟩ => show win0_5.index t 1 * 256 + 1 * f.val = 256 * (t.val % 22) + f.val; rw [e1]; omega

theorem wu_read (k : Fin 2048) (f : Fin 256) : (iblk m c 6 t : FVec Ideal S2048x256 .bf16) (ix2 k f)
    = m ((c : Thread nD τ).loc main_arg3) (ix2 k ⟨5632 + (256 * (t.val % 22) + f.val), by omega⟩) := by
  obtain ⟨-, -, -, -, -, e0, e1, -⟩ := idx_facts' t
  unfold iblk
  rw [View.read_apply]
  show V m c main_arg3 _ = _
  rw [V_main_arg3]
  congr 1; funext a; apply Fin.ext
  match a with
  | ⟨0, _⟩ => show win0_6.index t 0 * 2048 + 1 * k.val = k.val; rw [e0]; omega
  | ⟨1, _⟩ => show win0_6.index t 1 * 256 + 1 * f.val = 5632 + (256 * (t.val % 22) + f.val); rw [e1]; omega

theorem wd_read (f : Fin 256) (q : Fin 2048) : (iblk m c 7 t : FVec Ideal S256x2048 .bf16) (ix2 f q)
    = m ((c : Thread nD τ).loc main_arg4) (ix2 ⟨256 * (t.val % 22) + f.val, by omega⟩ q) := by
  obtain ⟨-, -, -, -, -, -, -, e0, e1, -⟩ := idx_facts' t
  unfold iblk
  rw [View.read_apply]
  show V m c main_arg4 _ = _
  rw [V_main_arg4]
  congr 1; funext a; apply Fin.ext
  match a with
  | ⟨0, _⟩ => show win0_7.index t 0 * 256 + 1 * f.val = 256 * (t.val % 22) + f.val; rw [e0]; omega
  | ⟨1, _⟩ => show win0_7.index t 1 * 2048 + 1 * q.val = q.val; rw [e1]; omega

/-! ## The sweep over the blocks of hidden units -/

/-- The activations' row `p` of sweep `n`'s tile, -/
abbrev xrow (n : ℕ) (p : Fin 1024) : Row := fun d => m ((c : Thread nD τ).loc main_arg0) (ix3 (bi n) (si n p) d)
/-- a modulation row of its member, -/
abbrev mrow (k : Fin 9) (n : ℕ) : Row := fun d => m ((c : Thread nD τ).loc main_arg1) (ix3 k ((bi n).castLE (by decide)) d)
/-- its modulated norm, -/
abbrev urow (n : ℕ) (p : Fin 1024) : Row :=
  modrow (xrow m c n p) (fun d => m ((c : Thread nD τ).loc main_arg2) (ix1 d)) (mrow m c 6 n) (mrow m c 7 n)
/-- and what the sublayer and the closing norm make of it. -/
abbrev orow (n : ℕ) (p : Fin 1024) : Row :=
  normed (res (xrow m c n p) (mrow m c 8 n) (ffn (urow m c n p) (m ((c : Thread nD τ).loc main_arg3)) (m ((c : Thread nD τ).loc main_arg4))))
    (fun d => m ((c : Thread nD τ).loc main_arg5) (ix1 d))

theorem unorm_apply (hc : cond0_0 (grid0.coords t)) (p : Fin 1024) (d : Fin 2048) :
    unorm (F := Ideal) (grid0.coords t) (iblk m c 0 t) (iblk m c 1 t) (iblk m c 2 t) (iblk m c 4 t) hc (ix2 p d)
      = urow m c (t.val / 22) p d := by
  exact (pay1_apply _ _ _ _ p d).trans (modrow_congr (tile_read m c t p) (gain_read m c t) (shift_read m c t _) (scale_read m c t _) d)

/-- One block of hidden units: the step's payload carries the partial sum on by 256 units. -/
theorem step_sum (u : FVec Ideal S1024x2048 .bf16) (acc : FVec Ideal S1x1024x2048 .f32) (p : Fin 1024)
    (hu : ∀ k, u (ix2 p k) = urow m c (t.val / 22) p k)
    (ha : ∀ q, acc (ix3 0 p q) = ∑ n ∈ Finset.range (256 * (t.val % 22)),
      term (urow m c (t.val / 22) p) (m ((c : Thread nD τ).loc main_arg3)) (m ((c : Thread nD τ).loc main_arg4)) q n) (q : Fin 2048) :
    k0_pay3 (F := Ideal) u (iblk m c 5 t) (iblk m c 6 t) acc (iblk m c 7 t) (ix3 0 p q)
      = ∑ n ∈ Finset.range (256 * (t.val % 22 + 1)),
      term (urow m c (t.val / 22) p) (m ((c : Thread nD τ).loc main_arg3)) (m ((c : Thread nD τ).loc main_arg4)) q n :=
  acc_step _ _ _ (t.val % 22) (by omega) u _ _ acc _ p q hu (fun k f => wg_read m c t k f) (fun k f => wu_read m c t k f)
    (fun f => wd_read m c t f q) (ha q)

/-- What the scratch and the output block hold after point `n`. -/
def Inv (n : ℕ) (o : Vec Ideal S1x1024x2048 .f32 × Vec Ideal S1024x2048 .bf16) : Prop :=
  ∀ p : Fin 1024, (∀ k, o.2 (ix2 p k) = urow m c (n / 22) p k)
    ∧ (n % 22 ≠ 21 → ∀ q, o.1 (ix3 0 p q) = ∑ k ∈ Finset.range (256 * (n % 22 + 1)),
        term (urow m c (n / 22) p) (m ((c : Thread nD τ).loc main_arg3)) (m ((c : Thread nD τ).loc main_arg4)) q k)
    ∧ (n % 22 = 21 → ∀ q, o.1 (ix3 0 p q) = orow m c (n / 22) p q)

theorem inv_first (h0 : t.val % 22 = 0) (acc : Vec Ideal S1x1024x2048 .f32 × Vec Ideal S1024x2048 .bf16) :
    Inv m c t.val (Value.stAt0 m c t.val t.isLt acc) := by
  have h1 : ¬t.val % 22 = 21 := by omega
  rw [Value.stAt0_A m c t acc h0 h1, scratch_A, out_A]
  intro p
  have hu := unorm_apply m c t ((hcond0_0 t).mpr h0) p
  refine ⟨hu, fun _ q => ?_, fun h => absurd h h1⟩
  refine step_sum m c t _ _ p hu (fun q => ?_) q
  rw [pay2_apply, h0, Nat.mul_zero, Finset.sum_range_zero]

theorem inv_next (n : ℕ) (hn : n + 1 < cfg0.N) (h0 : ¬(n + 1) % 22 = 0) (acc : Vec Ideal S1x1024x2048 .f32 × Vec Ideal S1024x2048 .bf16)
    (ih : Inv m c n acc) : Inv m c (n + 1) (Value.stAt0 m c (n + 1) hn acc) := by
  have hd : (n + 1) / 22 = n / 22 := by omega
  have hm : (n + 1) % 22 = n % 22 + 1 := by omega
  have hs : ∀ p k, acc.2 (ix2 p k) = urow m c ((n + 1) / 22) p k := fun p k => by rw [hd]; exact (ih p).1 k
  have ho : ∀ p q, k0_pay3 (F := Ideal) acc.2 (iblk m c 5 ⟨n + 1, hn⟩) (iblk m c 6 ⟨n + 1, hn⟩) acc.1 (iblk m c 7 ⟨n + 1, hn⟩) (ix3 0 p q)
      = ∑ k ∈ Finset.range (256 * ((n + 1) % 22 + 1)),
        term (urow m c ((n + 1) / 22) p) (m ((c : Thread nD τ).loc main_arg3)) (m ((c : Thread nD τ).loc main_arg4)) q k := fun p q =>
    step_sum m c ⟨n + 1, hn⟩ acc.2 acc.1 p (hs p) (fun q => by
      show acc.1 (ix3 0 p q) = ∑ k ∈ Finset.range (256 * ((n + 1) % 22)), term (urow m c ((n + 1) / 22) p) _ _ q k
      rw [hd, hm]; exact (ih p).2.1 (by omega) q) q
  by_cases h1 : (n + 1) % 22 = 21
  · rw [Value.stAt0_C m c ⟨n + 1, hn⟩ acc h0 h1, out_C]
    intro p
    refine ⟨hs p, fun h => absurd h1 h, fun _ q => ?_⟩
    refine (pay4_apply _ _ _ _ p q).trans (normed_congr (res_congr (tile_read m c ⟨n + 1, hn⟩ p) (gate_read m c ⟨n + 1, hn⟩ _)
      (fun d => (ho p d).trans ?_)) (fin_read m c ⟨n + 1, hn⟩) q)
    rw [h1]
    rfl
  · rw [Value.stAt0_B m c ⟨n + 1, hn⟩ acc h0 h1, out_B]
    intro p
    exact ⟨hs p, fun _ q => ho p q, fun h => absurd h h1⟩

theorem inv_all : ∀ (n : ℕ) (hn : n < cfg0.N), Inv m c n (outsAt0 m c n hn)
  | 0, hn => by rw [Value.outsAt0_zero]; exact inv_first m c ⟨0, hn⟩ rfl _
  | n + 1, hn => by
    rw [Value.outsAt0_succ]
    by_cases h0 : (n + 1) % 22 = 0
    · exact inv_first m c ⟨n + 1, hn⟩ h0 _
    · exact inv_next m c n hn h0 _ (inv_all n _)

/-! ## The result array -/

theorem flushed_eq (hf : (cfg0.win 9).flush t = true) :
    (dats m 0 c).flushed 9 t = ((cfg0.win 9).blk t).view.read (Elt Ideal) (G m c) := by
  have h21 : t.val % 22 = 21 := (flush0_9 t).mp hf
  obtain ⟨-, -, -, -, -, -, -, -, -, -, -, e0, e1, e2⟩ := idx_facts' t
  rw [Value.flushed9]
  funext j
  have hj0 : (j 0).val < 1 := (j 0).isLt
  have key := (inv_all m c t.val t.isLt (j 1)).2.2 h21 (j 2)
  rw [View.read_apply]
  have hl : (cfg0.win 9).xinj (grid0.coords t) j = ix3 (n0 := 1) (n1 := 1024) (n2 := 2048) 0 (j 1) (j 2) := by
    funext a; apply Fin.ext
    match a with
    | ⟨0, _⟩ => show (j 0).val = 0; omega
    | ⟨1, _⟩ => rfl
    | ⟨2, _⟩ => rfl
  show (outsAt0 m c t.val t.isLt).1 ((cfg0.win 9).xinj (grid0.coords t) j) = _
  rw [hl]
  refine key.trans ?_
  have hb : ((cfg0.win 9).blk t).view.emb j = ix3 (n0 := 4) (n1 := 2048) (n2 := 2048) (bi (t.val / 22)) (si (t.val / 22) (j 1)) (j 2) := by
    funext a; apply Fin.ext
    match a with
    | ⟨0, _⟩ => show win0_9.index t 0 * 1 + 1 * (j 0).val = t.val / 22 / 2 % 4; rw [e0]; omega
    | ⟨1, _⟩ => show win0_9.index t 1 * 1024 + 1 * (j 1).val = 1024 * (t.val / 22 % 2) + (j 1).val; rw [e1]; omega
    | ⟨2, _⟩ => show win0_9.index t 2 * 2048 + 1 * (j 2).val = (j 2).val; rw [e2]; omega
  rw [hb]
  rfl

theorem final : (dats m 0 c).arrAt 9 cfg0.N = G m c :=
  (dats m 0 c).arrAt_eq_of_cover 9 (G m c) (fun t hf => flushed_eq m c t hf) (fun i => (Value.covered_iff9 i).2 (by
    have h0 : (i 0).val < 4 := (i 0).isLt
    have h1 : (i 1).val < 2048 := (i 1).isLt
    have h2 : (i 2).val < 2048 := (i 2).isLt
    omega))

/-- The run, read: the result at the sublayer's function of the arguments. -/
theorem run : θ_run defs (onTc (τ := τ) (main (F := Ideal))) ⟨m, fun _ => 0, ρ⟩ fun r => ∀ c : Dev nD,
      r.2.mem ((c : Thread nD τ).loc main_v2) = G m c :=
  (θ_run defs _ _).mono (fun _ h c => ((h c).1).trans (final m c)) (Value.run_blocks m ρ)

end Cert.LastIdeal.Sweep
-- ==== Proof.LastRef.lean ====
/-
  The last SwiGLU sublayer: the reference `LastRefIdeal`, read one operation at a time, is the sublayer's function of
  its arguments.
-/
module

public import proofs.«01_k».proof.Proof.LastValue

@[expose] public section

set_option maxRecDepth 16384

noncomputable section

open Idealize.ShloMosaic Idealize.ShloMosaic.TcCoe Idealize.SL.Sem Idealize.ShloMosaic.ValueIdx

namespace Cert.LastRefIdeal.Sub

open Cert.LastRefIdeal Cert.LastRefIdeal.Read Cert.Ffn

variable (x : S4x2048x2048.Idx → EReal) (md : S9x8x2048.Idx → EReal) (gain : S2048.Idx → EReal)
  (wgu : S2048x11264.Idx → EReal) (wdn : S5632x2048.Idx → EReal) (fin : S2048.Idx → EReal)
  (b : Fin 4) (s d : Fin 2048)

/-- The rows of member `b` and position `s`. -/
abbrev xr : Row := fun d => x (ix3 b s d)
abbrev mr (k : Fin 9) : Row := fun d => md (ix3 k (b.castLE (by decide)) d)
abbrev gr (v : S2048.Idx → EReal) : Row := fun d => v (ix1 d)
abbrev ur : Row := modrow (xr x b s) (gr gain) (mr md b 6) (mr md b 7)

theorem shift_eq : val_main_v5 (F := Ideal) md (ix3 b 0 d) = mr md b 6 d := by
  rw [val_main_v5_apply, val_main_v4_apply, val_main_v3_apply, val_main_v0_apply]
  refine at3 md _ 6 (b.castLE (by decide)) d rfl ?_ ?_
  · show (b.val * 2048 + d.val) / 2048 % 4 = b.val; omega
  · show (b.val * 2048 + d.val) % 2048 = d.val; omega

theorem scale_eq : val_main_v8 (F := Ideal) md (ix3 b 0 d) = mr md b 7 d := by
  rw [val_main_v8_apply, val_main_v7_apply, val_main_v6_apply, val_main_v0_apply]
  refine at3 md _ 7 (b.castLE (by decide)) d rfl ?_ ?_
  · show (b.val * 2048 + d.val) / 2048 % 4 = b.val; omega
  · show (b.val * 2048 + d.val) % 2048 = d.val; omega

theorem gate_eq : val_main_v30 (F := Ideal) md (ix3 b 0 d) = mr md b 8 d := by
  rw [val_main_v30_apply, val_main_v29_apply, val_main_v28_apply, val_main_v0_apply]
  refine at3 md _ 8 (b.castLE (by decide)) d rfl ?_ ?_
  · show (b.val * 2048 + d.val) / 2048 % 4 = b.val; omega
  · show (b.val * 2048 + d.val) % 2048 = d.val; omega

/-- The reciprocal root mean square of the activations. -/
theorem rms_eq : val_main_v17 (F := Ideal) x (ix3 b s d) = rms (xr x b s) := by
  rw [val_main_v17_apply, val_main_v16_apply, val_main_v15_apply, val_main_v13_apply, val_main_v11_apply, val_main_v10_apply,
    val_main_v12_apply, val_main_v14_apply, val_main_cst_apply, val_main_cst_0_apply, val_main_cst_1_apply]
  have e : FloatOps.ofBits (F := Ideal) .f32 0x00000000#32 + ∑ k : Fin 2048, val_main_v9 (F := Ideal) x (idx_main_v10 (idx_main_v11 (idx_main_v17 (ix3 b s d))) k)
      = ∑ k : Fin 2048, x (ix3 b s k) * x (ix3 b s k) := by
    rw [show FloatOps.ofBits (F := Ideal) .f32 0x00000000#32 = (0 : EReal) from Ideal.ofBits_zero_f32, zero_add]
    exact Finset.sum_congr rfl fun k _ => at3 (val_main_v9 (F := Ideal) x) _ b s k rfl rfl rfl
  exact congrArg (fun y => Ideal.rsqrt (Ideal.div y (Ideal.ofBits .f32 0x45000000#32) + Ideal.ofBits .f32 0x358637BD#32)) e

/-- The modulated norm. -/
theorem norm_eq : val_main_v27 (F := Ideal) x md gain (ix3 b s d) = ur x md gain b s d := by
  rw [val_main_v27_apply, val_main_v25_apply, val_main_v21_apply, val_main_v18_apply, rms_eq, val_main_v20_apply, val_main_v19_apply,
    val_main_v24_apply, val_main_v23_apply, val_main_v22_apply, val_main_cst_2_apply, val_main_v26_apply]
  have eg : gain (idx_main_v19 (idx_main_v20 (ix3 b s d))) = gr gain d := at1 gain _ d rfl
  have es : val_main_v5 (F := Ideal) md (idx_main_v26 (ix3 b s d)) = mr md b 6 d :=
    (at3 (val_main_v5 (F := Ideal) md) _ b 0 d rfl rfl rfl).trans (shift_eq md b d)
  have ec : val_main_v8 (F := Ideal) md (idx_main_v24 (ix3 b s d)) = mr md b 7 d :=
    (at3 (val_main_v8 (F := Ideal) md) _ b 0 d rfl rfl rfl).trans (scale_eq md b d)
  have eo : FloatOps.ofBits (F := Ideal) .f32 0x3F800000#32 = (1 : EReal) := Ideal.ofBits_one_f32
  rw [eg, es, ec, eo]
  show x (ix3 b s d) * rms (xr x b s) * gr gain d * (1 + mr md b 7 d) + mr md b 6 d = _
  rw [mul_assoc (x (ix3 b s d) * rms (xr x b s))]
  rfl

/-- The gate and the up projection, side by side. -/
theorem proj_eq (f : Fin 11264) : val_main_v33 (F := Ideal) x md gain wgu (ix3 b s f)
    = ∑ k : Fin 2048, ur x md gain b s k * wgu (ix2 k f) := by
  rw [val_main_v33_apply]
  refine Finset.sum_congr rfl fun k _ => congrArg₂ (· * ·) ?_ ?_
  · exact (at3 (val_main_v27 (F := Ideal) x md gain) _ b s k rfl rfl rfl).trans (norm_eq x md gain b s k)
  · exact at2 wgu _ k f rfl rfl

/-- A hidden unit. -/
theorem act_eq (f : Fin 5632) : val_main_v43 (F := Ideal) x md gain wgu (ix3 b s f)
    = act (ur x md gain b s) (fun k => wgu (ix2 k ⟨f.val, by omega⟩)) (fun k => wgu (ix2 k ⟨5632 + f.val, by omega⟩)) := by
  have eg : val_main_v34 (F := Ideal) x md gain wgu (ix3 b s f) = ∑ k : Fin 2048, ur x md gain b s k * wgu (ix2 k ⟨f.val, by omega⟩) := by
    rw [val_main_v34_apply]
    exact (at3 (val_main_v33 (F := Ideal) x md gain wgu) _ b s ⟨f.val, by omega⟩ rfl rfl rfl).trans (proj_eq x md gain wgu b s _)
  have eu : val_main_v35 (F := Ideal) x md gain wgu (ix3 b s f) = ∑ k : Fin 2048, ur x md gain b s k * wgu (ix2 k ⟨5632 + f.val, by omega⟩) := by
    rw [val_main_v35_apply]
    exact (at3 (val_main_v33 (F := Ideal) x md gain wgu) _ b s ⟨5632 + f.val, by omega⟩ rfl rfl rfl).trans (proj_eq x md gain wgu b s _)
  have eo : FloatOps.ofBits (F := Ideal) .f32 0x3F800000#32 = (1 : EReal) := Ideal.ofBits_one_f32
  rw [val_main_v43_apply, val_main_v42_apply, val_main_v41_apply, val_main_v40_apply, val_main_v39_apply, val_main_v38_apply,
    val_main_v37_apply, val_main_v36_apply, val_main_cst_4_apply, val_main_cst_5_apply, eg, eu, eo]
  rfl

/-- The sublayer's result. -/
theorem sub_eq : val_main_v47 (F := Ideal) x md gain wgu wdn (ix3 b s d)
    = sub (xr x b s) (gr gain) (mr md b 6) (mr md b 7) (mr md b 8) wgu wdn d := by
  have ef : val_main_v44 (F := Ideal) x md gain wgu wdn (ix3 b s d) = ffn (ur x md gain b s) wgu wdn d := by
    rw [val_main_v44_apply, ffn_eq]
    refine Finset.sum_congr rfl fun f _ => congrArg₂ (· * ·) ?_ ?_
    · exact (at3 (val_main_v43 (F := Ideal) x md gain wgu) _ b s f rfl rfl rfl).trans (act_eq x md gain wgu b s f)
    · exact at2 wdn _ f d rfl rfl
  rw [val_main_v47_apply, val_main_v46_apply, ef, val_main_v45_apply, val_main_v32_apply, val_main_v31_apply, val_main_cst_3_apply,
    (at3 (val_main_v30 (F := Ideal) md) (idx_main_v45 (ix3 b s d)) b 0 d rfl rfl rfl).trans (gate_eq md b d)]
  rfl

/-- The closing norm of it. -/
theorem last_eq : val_main_v60 (F := Ideal) x md gain wgu wdn fin (ix3 b s d)
    = normed (sub (xr x b s) (gr gain) (mr md b 6) (mr md b 7) (mr md b 8) wgu wdn) (gr fin) d := by
  have e : val_main_v56 (F := Ideal) x md gain wgu wdn (ix3 b s d)
      = rms (sub (xr x b s) (gr gain) (mr md b 6) (mr md b 7) (mr md b 8) wgu wdn) := by
    rw [val_main_v56_apply, val_main_v55_apply, val_main_v54_apply, val_main_v52_apply, val_main_v50_apply, val_main_v49_apply,
      val_main_v51_apply, val_main_v53_apply, val_main_cst_6_apply, val_main_cst_7_apply, val_main_cst_8_apply]
    have e : FloatOps.ofBits (F := Ideal) .f32 0x00000000#32
        + ∑ k : Fin 2048, val_main_v48 (F := Ideal) x md gain wgu wdn (idx_main_v49 (idx_main_v50 (idx_main_v56 (ix3 b s d))) k)
        = ∑ k : Fin 2048, sub (xr x b s) (gr gain) (mr md b 6) (mr md b 7) (mr md b 8) wgu wdn k
          * sub (xr x b s) (gr gain) (mr md b 6) (mr md b 7) (mr md b 8) wgu wdn k := by
      rw [show FloatOps.ofBits (F := Ideal) .f32 0x00000000#32 = (0 : EReal) from Ideal.ofBits_zero_f32, zero_add]
      refine Finset.sum_congr rfl fun k _ => (at3 (val_main_v48 (F := Ideal) x md gain wgu wdn) _ b s k rfl rfl rfl).trans ?_
      rw [val_main_v48_apply, sub_eq]
      rfl
    exact congrArg (fun y => Ideal.rsqrt (Ideal.div y (Ideal.ofBits .f32 0x45000000#32) + Ideal.ofBits .f32 0x358637BD#32)) e
  rw [val_main_v60_apply, val_main_v57_apply, sub_eq, e, val_main_v59_apply, val_main_v58_apply]
  rw [show fin (idx_main_v58 (idx_main_v59 (ix3 b s d))) = gr fin d from at1 fin _ d rfl]
  rfl

/-- The reference's value is the sublayer's function of its arguments. -/
theorem ref_eq : val_main_v60 (F := Ideal) x md gain wgu wdn fin = Cert.LastIdeal.Sweep.last x md gain wgu wdn fin := by
  funext i
  exact (at3 (val_main_v60 (F := Ideal) x md gain wgu wdn fin) i (i 0) (i 1) (i 2) rfl rfl rfl).trans
    (last_eq x md gain wgu wdn fin (i 0) (i 1) (i 2))

end Cert.LastRefIdeal.Sub
-- ==== Proof.Sweep.lean ====
/-
  The sweep of a SwiGLU sublayer over its 22 blocks of hidden units, for the kernels without a closing norm: from what
  one grid point leaves in the output block and in the scratch over what the point before left, what the last point of
  a sweep leaves — the sublayer on every row of the tile.
-/
module

public import proofs.«01_k».proof.Proof.FfnMath
public import proofs.«01_k».proof.Proof.Gen.ContextIdeal.Skeleton
public import proofs.«01_k».proof.Proof.Gen.CloseIdeal.Skeleton

@[expose] public section

set_option maxRecDepth 16384

noncomputable section

open Idealize.ShloMosaic Idealize.ShloMosaic.TcCoe Idealize.SL.Sem Idealize.ShloMosaic.ValueIdx

namespace Cert.Ffn

open Cert.LastIdeal Cert.LastIdeal.Gen

/-- The gated residual of a tile. -/
theorem resid_apply (x : FVec Ideal S1x1024x2048 .f32) (gate : FVec Ideal S1x1x2048 .f32) (acc : FVec Ideal S1x1024x2048 .f32)
    (p : Fin 1024) (q : Fin 2048) :
    Cert.ContextIdeal.Gen.k0_pay4 (F := Ideal) x gate acc (ix3 0 p q)
      = res (fun d => x (ix3 0 p d)) (fun d => gate (ix3 0 0 d)) (fun d => acc (ix3 0 p d)) q := by
  unfold Cert.ContextIdeal.Gen.k0_pay4
  exact (tile_uncast _ p q).trans (congrArg₂ (· + ·) (tile_cast x p q) (congrArg₂ (· * ·)
    ((row_bcast _ p q).trans (congrArg₂ (· * ·) rfl (row_cast gate q))) (tile_cast acc p q)))

/-- The sublayer on every row, with rows `k0`, `k1`, `k2` of the modulation as shift, scale and gate. -/
def layer (k0 k1 k2 : Fin 9) (x : S4x2048x2048.Idx → EReal) (md : S9x8x2048.Idx → EReal) (gain : S2048.Idx → EReal)
    (wgu : S2048x11264.Idx → EReal) (wdn : S5632x2048.Idx → EReal) : S4x2048x2048.Idx → EReal := fun i =>
  sub (fun d => x (ix3 (i 0) (i 1) d)) (fun d => gain (ix1 d)) (fun d => md (ix3 k0 ((i 0).castLE (by decide)) d))
    (fun d => md (ix3 k1 ((i 0).castLE (by decide)) d)) (fun d => md (ix3 k2 ((i 0).castLE (by decide)) d)) wgu wdn (i 2)

/-- One matrix of a stack of two by two. -/
def pick {n0 n1 : ℕ} (l e : Fin 2) (w : (⟨4, ![2, 2, n0, n1]⟩ : Shape).Idx → EReal) : (⟨2, ![n0, n1]⟩ : Shape).Idx → EReal := fun i =>
  w (ix4 l e (i 0) (i 1))

/-- The modulation of the second layer: rows of the projected, gated conditioning vectors. -/
def modulation (v : (⟨2, ![8, 2048]⟩ : Shape).Idx → EReal) (w : (⟨3, ![2, 2048, 18432]⟩ : Shape).Idx → EReal)
    (bias : (⟨3, ![2, 1, 18432]⟩ : Shape).Idx → EReal) : S9x8x2048.Idx → EReal := fun i =>
  have col : Fin 18432 := ⟨2048 * (i 0).val + (i 2).val, by
    have : (i 0).val < 9 := (i 0).isLt; have : (i 2).val < 2048 := (i 2).isLt; omega⟩
  (∑ k : Fin 2048, v (ix2 (i 1) k) * Ideal.logistic (v (ix2 (i 1) k)) * w (ix3 1 k col)) + bias (ix3 1 0 col)

/-- The rounding copies, at an entry. -/
theorem copy_up_apply (w : FVec Ideal Cert.CloseIdeal.S1x1x256x512 .f32) (a : Fin 256) (b : Fin 512) :
    Cert.CloseIdeal.Gen.k0_pay6 (F := Ideal) w (ix2 a b) = w (ix4 0 0 a b) := by
  unfold Cert.CloseIdeal.Gen.k0_pay6
  exact shapeCast_apply w Cert.CloseIdeal.Gen.shapeCasts_S1x1x256x512_S256x512 (ix2 a b) (ix4 0 0 a b) (by
    rw [Shape.rowMajor_val_two, Shape.rowMajor_val_four]
    show ((0 * 1 + 0) * 256 + a.val) * 512 + b.val = a.val * 512 + b.val
    omega)

theorem copy_down_apply (w : FVec Ideal Cert.CloseIdeal.S1x1x32x2048 .f32) (a : Fin 32) (b : Fin 2048) :
    Cert.CloseIdeal.Gen.k0_pay1 (F := Ideal) w (ix2 a b) = w (ix4 0 0 a b) := by
  unfold Cert.CloseIdeal.Gen.k0_pay1
  exact shapeCast_apply w Cert.CloseIdeal.Gen.shapeCasts_S1x1x32x2048_S32x2048 (ix2 a b) (ix4 0 0 a b) (by
    rw [Shape.rowMajor_val_two, Shape.rowMajor_val_four]
    show ((0 * 1 + 0) * 32 + a.val) * 2048 + b.val = a.val * 2048 + b.val
    omega)

theorem sub_congr {x x' gain gain' shift shift' scale scale' gate gate' : Row} {wgu wdn} (hx : ∀ d, x d = x' d)
    (hg : ∀ d, gain d = gain' d) (hs : ∀ d, shift d = shift' d) (hc : ∀ d, scale d = scale' d) (ht : ∀ d, gate d = gate' d) :
    sub x gain shift scale gate wgu wdn = sub x' gain' shift' scale' gate' wgu wdn := by
  obtain rfl := funext hx; obtain rfl := funext hg; obtain rfl := funext hs; obtain rfl := funext hc; obtain rfl := funext ht; rfl

section

variable {N : ℕ} (o : (n : ℕ) → n < N → FVec Ideal S1x1024x2048 .f32) (s : (n : ℕ) → n < N → FVec Ideal S1024x2048 .bf16)
  (wg wu : Fin N → FVec Ideal S2048x256 .bf16) (wd : Fin N → FVec Ideal S256x2048 .bf16)
  (X : ℕ → Fin 1024 → Row) (gain : Row) (sh sc gt : ℕ → Row)
  (wgu : S2048x11264.Idx → EReal) (wdn : S5632x2048.Idx → EReal)

/-- The blocks of the weights that the points read: block `t mod 22`. -/
def ReadsWeights : Prop := ∀ t : Fin N,
  (∀ (k : Fin 2048) (f : Fin 256), wg t (ix2 k f) = wgu (ix2 k ⟨256 * (t.val % 22) + f.val, by omega⟩))
  ∧ (∀ (k : Fin 2048) (f : Fin 256), wu t (ix2 k f) = wgu (ix2 k ⟨5632 + (256 * (t.val % 22) + f.val), by omega⟩))
  ∧ ∀ (f : Fin 256) (q : Fin 2048), wd t (ix2 f q) = wdn (ix2 ⟨256 * (t.val % 22) + f.val, by omega⟩ q)

/-- The first point of a sweep: it stores the modulated norm and the first block's part of the sum. -/
def First : Prop := ∀ t : Fin N, t.val % 22 = 0 →
  (∀ p k, s t.val t.isLt (ix2 p k) = modrow (X (t.val / 22) p) gain (sh (t.val / 22)) (sc (t.val / 22)) k)
  ∧ o t.val t.isLt = k0_pay3 (F := Ideal) (s t.val t.isLt) (wg t) (wu t) (k0_pay2 (F := Ideal)) (wd t)

/-- A point in between: it adds its block's part. -/
def Middle : Prop := ∀ t : Fin N, ¬t.val % 22 = 0 → ¬t.val % 22 = 21 →
  s t.val t.isLt = s (t.val - 1) (Nat.lt_of_le_of_lt (Nat.sub_le _ _) t.isLt)
  ∧ o t.val t.isLt = k0_pay3 (F := Ideal) (s (t.val - 1) (Nat.lt_of_le_of_lt (Nat.sub_le _ _) t.isLt)) (wg t) (wu t)
      (o (t.val - 1) (Nat.lt_of_le_of_lt (Nat.sub_le _ _) t.isLt)) (wd t)

/-- The last point: it adds its block's part and forms the gated residual. -/
def Final : Prop := ∀ t : Fin N, ¬t.val % 22 = 0 → t.val % 22 = 21 → ∀ p q,
  o t.val t.isLt (ix3 0 p q) = res (X (t.val / 22) p) (gt (t.val / 22)) (fun d =>
    k0_pay3 (F := Ideal) (s (t.val - 1) (Nat.lt_of_le_of_lt (Nat.sub_le _ _) t.isLt)) (wg t) (wu t)
      (o (t.val - 1) (Nat.lt_of_le_of_lt (Nat.sub_le _ _) t.isLt)) (wd t) (ix3 0 p d)) q

/-- The modulated norm of row `p` of sweep `n`'s tile. -/
abbrev U (n : ℕ) (p : Fin 1024) : Row := modrow (X n p) gain (sh n) (sc n)

theorem add_block (hw : ReadsWeights wg wu wd wgu wdn) (t : Fin N) (u : FVec Ideal S1024x2048 .bf16) (acc : FVec Ideal S1x1024x2048 .f32)
    (p : Fin 1024) (v : Row) (hu : ∀ k, u (ix2 p k) = v k)
    (ha : ∀ q, acc (ix3 0 p q) = ∑ k ∈ Finset.range (256 * (t.val % 22)), term v wgu wdn q k) (q : Fin 2048) :
    k0_pay3 (F := Ideal) u (wg t) (wu t) acc (wd t) (ix3 0 p q) = ∑ k ∈ Finset.range (256 * (t.val % 22 + 1)), term v wgu wdn q k :=
  acc_step v wgu wdn (t.val % 22) (by omega) u _ _ acc _ p q hu (hw t).1 (hw t).2.1 (fun f => (hw t).2.2 f q) (ha q)

/-- The scratch keeps the norms and the output block the partial sums, up to the last point of each sweep. -/
theorem partial_sums (hw : ReadsWeights wg wu wd wgu wdn) (h1 : First o s wg wu wd X gain sh sc) (h2 : Middle o s wg wu wd) :
    ∀ (n : ℕ) (hn : n < N), n % 22 ≠ 21 → ∀ p, (∀ k, s n hn (ix2 p k) = U X gain sh sc (n / 22) p k)
      ∧ ∀ q, o n hn (ix3 0 p q) = ∑ k ∈ Finset.range (256 * (n % 22 + 1)), term (U X gain sh sc (n / 22) p) wgu wdn q k := by
  have first : ∀ (n : ℕ) (hn : n < N), n % 22 = 0 → ∀ p, (∀ k, s n hn (ix2 p k) = U X gain sh sc (n / 22) p k)
      ∧ ∀ q, o n hn (ix3 0 p q) = ∑ k ∈ Finset.range (256 * (n % 22 + 1)), term (U X gain sh sc (n / 22) p) wgu wdn q k := fun n hn h0 p => by
    obtain ⟨hs, ho⟩ := h1 ⟨n, hn⟩ h0
    refine ⟨hs p, fun q => ?_⟩
    refine (congrFun ho _).trans (add_block wg wu wd wgu wdn hw ⟨n, hn⟩ _ _ p _ (hs p) (fun q => ?_) q)
    show k0_pay2 (F := Ideal) (ix3 0 p q) = ∑ k ∈ Finset.range (256 * (n % 22)), _
    rw [pay2_apply, h0, Nat.mul_zero, Finset.sum_range_zero]
  intro n
  induction n with
  | zero => exact fun hn _ => first 0 hn rfl
  | succ n ih =>
    intro hn h21 p
    by_cases h0 : (n + 1) % 22 = 0
    · exact first (n + 1) hn h0 p
    · obtain ⟨hs, ho⟩ := h2 ⟨n + 1, hn⟩ h0 h21
      have hd : (n + 1) / 22 = n / 22 := by omega
      have hm : (n + 1) % 22 = n % 22 + 1 := by omega
      obtain ⟨is, io⟩ := ih (Nat.lt_of_succ_lt hn) (by omega) p
      rw [hd]
      refine ⟨fun k => (congrFun hs _).trans (is k), fun q => ?_⟩
      refine (congrFun ho _).trans (add_block wg wu wd wgu wdn hw ⟨n + 1, hn⟩ _ _ p _ is (fun q => ?_) q)
      show o n _ (ix3 0 p q) = ∑ k ∈ Finset.range (256 * ((n + 1) % 22)), _
      rw [hm]; exact io q

/-- What the last point of a sweep leaves in the output block. -/
theorem sweep (hw : ReadsWeights wg wu wd wgu wdn) (h1 : First o s wg wu wd X gain sh sc) (h2 : Middle o s wg wu wd)
    (h3 : Final o s wg wu wd X gt) (n : ℕ) (hn : n < N) (h21 : n % 22 = 21) (p : Fin 1024) (q : Fin 2048) :
    o n hn (ix3 0 p q) = sub (X (n / 22) p) gain (sh (n / 22)) (sc (n / 22)) (gt (n / 22)) wgu wdn q := by
  obtain ⟨is, io⟩ := partial_sums o s wg wu wd X gain sh sc wgu wdn hw h1 h2 (n - 1) (by omega) (by omega) p
  have hd : (n - 1) / 22 = n / 22 := by omega
  have hm : n % 22 = (n - 1) % 22 + 1 := by omega
  rw [hd] at is io
  refine (h3 ⟨n, hn⟩ (by show ¬n % 22 = 0; omega) h21 p q).trans ?_
  refine congrFun (res_congr (fun _ => rfl) (fun _ => rfl) fun d => ?_) q
  refine (add_block wg wu wd wgu wdn hw ⟨n, hn⟩ _ _ p _ is (fun q => ?_) d).trans ?_
  · show o (n - 1) _ (ix3 0 p q) = ∑ k ∈ Finset.range (256 * (n % 22)), _
    rw [hm]; exact io q
  · show ∑ k ∈ Finset.range (256 * (n % 22 + 1)), _ = _
    rw [h21]
    rfl

end

end Cert.Ffn
-- ==== Proof.LayerRef.lean ====
/-
  The references of the SwiGLU sublayers that close a layer and that open one: their values as the sublayer on every row
  and as the picked weights. The sublayer's value is the last sublayer's, at a modulation whose rows are moved.
-/
module

public import proofs.«01_k».proof.Proof.LastRef
public import proofs.«01_k».proof.Proof.Sweep
public import proofs.«01_k».proof.Proof.Gen.CloseRefIdeal.Read
public import proofs.«01_k».proof.Proof.Gen.OpenRefIdeal.Read
public import proofs.«01_k».proof.Proof.Gen.EnterRefIdeal.Read

@[expose] public section

set_option maxRecDepth 16384

noncomputable section

open Idealize.ShloMosaic Idealize.ShloMosaic.TcCoe Idealize.SL.Sem Idealize.ShloMosaic.ValueIdx

namespace Cert.LayerRef

open Cert.LastRefIdeal Cert.Ffn Cert.LastRefIdeal.Sub

variable (x : S4x2048x2048.Idx → EReal) (md : S9x8x2048.Idx → EReal) (gain : S2048.Idx → EReal)
  (wgu : S2048x11264.Idx → EReal) (wdn : S5632x2048.Idx → EReal) (up : Cert.CloseRefIdeal.S2x2x2048x11264.Idx → EReal)
  (down : Cert.CloseRefIdeal.S2x2x5632x2048.Idx → EReal) (b : Fin 4) (d : Fin 2048)

/-! ## The sublayer that closes the first layer -/

theorem close_eq : Cert.CloseRefIdeal.Read.val_main_v47 (F := Ideal) x md gain wgu wdn = layer 6 7 8 x md gain wgu wdn := by
  funext i
  exact (at3 (Cert.LastRefIdeal.Read.val_main_v47 (F := Ideal) x md gain wgu wdn) i (i 0) (i 1) (i 2) rfl rfl rfl).trans
    (sub_eq x md gain wgu wdn (i 0) (i 1) (i 2))

theorem close_up : Cert.CloseRefIdeal.Read.val_main_v50 (F := Ideal) up = pick (n0 := 2048) (n1 := 11264) 1 0 up := by
  funext i
  rw [Cert.CloseRefIdeal.Read.val_main_v50_apply, Cert.CloseRefIdeal.Read.val_main_v49_apply, Cert.CloseRefIdeal.Read.val_main_v48_apply]
  have h0 : (i 0).val < 2048 := (i 0).isLt
  have h1 : (i 1).val < 11264 := (i 1).isLt
  refine at4 (n0 := 2) (n1 := 2) (n2 := 2048) (n3 := 11264) up _ 1 0 (i 0) (i 1) rfl rfl ?_ ?_
  · show ((i 0).val * 11264 + (i 1).val) / 11264 % 2048 = (i 0).val; omega
  · show ((i 0).val * 11264 + (i 1).val) % 11264 = (i 1).val; omega

theorem close_down : Cert.CloseRefIdeal.Read.val_main_v53 (F := Ideal) down = pick (n0 := 5632) (n1 := 2048) 1 0 down := by
  funext i
  rw [Cert.CloseRefIdeal.Read.val_main_v53_apply, Cert.CloseRefIdeal.Read.val_main_v52_apply, Cert.CloseRefIdeal.Read.val_main_v51_apply]
  have h0 : (i 0).val < 5632 := (i 0).isLt
  have h1 : (i 1).val < 2048 := (i 1).isLt
  refine at4 (n0 := 2) (n1 := 2) (n2 := 5632) (n3 := 2048) down _ 1 0 (i 0) (i 1) rfl rfl ?_ ?_
  · show ((i 0).val * 2048 + (i 1).val) / 2048 % 5632 = (i 0).val; omega
  · show ((i 0).val * 2048 + (i 1).val) % 2048 = (i 1).val; omega

/-! ## The sublayer that opens a layer -/

section

open Cert.OpenRefIdeal.Read

/-- The modulation with its first three rows where the last sublayer has its own. -/
def moved : S9x8x2048.Idx → EReal := fun i => md (ix3 ⟨(i 0).val - 6, by have : (i 0).val < 9 := (i 0).isLt; omega⟩ (i 1) (i 2))

theorem shift_eq : val_main_v5 (F := Ideal) md (ix3 b 0 d) = md (ix3 0 (b.castLE (by decide)) d) := by
  rw [val_main_v5_apply, val_main_v4_apply, val_main_v3_apply, val_main_v0_apply]
  refine at3 md _ 0 (b.castLE (by decide)) d rfl ?_ ?_
  · show (b.val * 2048 + d.val) / 2048 % 4 = b.val; omega
  · show (b.val * 2048 + d.val) % 2048 = d.val; omega

theorem scale_eq : val_main_v8 (F := Ideal) md (ix3 b 0 d) = md (ix3 1 (b.castLE (by decide)) d) := by
  rw [val_main_v8_apply, val_main_v7_apply, val_main_v6_apply, val_main_v0_apply]
  refine at3 md _ 1 (b.castLE (by decide)) d rfl ?_ ?_
  · show (b.val * 2048 + d.val) / 2048 % 4 = b.val; omega
  · show (b.val * 2048 + d.val) % 2048 = d.val; omega

theorem gate_eq : val_main_v30 (F := Ideal) md (ix3 b 0 d) = md (ix3 2 (b.castLE (by decide)) d) := by
  rw [val_main_v30_apply, val_main_v29_apply, val_main_v28_apply, val_main_v0_apply]
  refine at3 md _ 2 (b.castLE (by decide)) d rfl ?_ ?_
  · show (b.val * 2048 + d.val) / 2048 % 4 = b.val; omega
  · show (b.val * 2048 + d.val) % 2048 = d.val; omega

theorem row_ext {v w : (⟨3, ![4, 1, 2048]⟩ : Shape).Idx → EReal} (h : ∀ (b : Fin 4) (d : Fin 2048), v (ix3 b 0 d) = w (ix3 b 0 d)) : v = w := by
  funext i
  have h1 : (i 1).val < 1 := (i 1).isLt
  have e := fun f : (⟨3, ![4, 1, 2048]⟩ : Shape).Idx → EReal => at3 f i (i 0) 0 (i 2) rfl (by show (i 1).val = 0; omega) rfl
  exact (e v).trans ((h (i 0) (i 2)).trans (e w).symm)

/-- The sublayer's value is the last sublayer's at the moved rows. -/
theorem open_moved : val_main_v47 (F := Ideal) x md gain wgu wdn
    = Cert.LastRefIdeal.Read.val_main_v47 (F := Ideal) x (moved md) gain wgu wdn := by
  have e5 : val_main_v5 (F := Ideal) md = Cert.LastRefIdeal.Read.val_main_v5 (F := Ideal) (moved md) :=
    row_ext fun b d => (shift_eq md b d).trans (Sub.shift_eq (moved md) b d).symm
  have e8 : val_main_v8 (F := Ideal) md = Cert.LastRefIdeal.Read.val_main_v8 (F := Ideal) (moved md) :=
    row_ext fun b d => (scale_eq md b d).trans (Sub.scale_eq (moved md) b d).symm
  have e30 : val_main_v30 (F := Ideal) md = Cert.LastRefIdeal.Read.val_main_v30 (F := Ideal) (moved md) :=
    row_ext fun b d => (gate_eq md b d).trans (Sub.gate_eq (moved md) b d).symm
  have e27 : val_main_v27 (F := Ideal) x md gain = Cert.LastRefIdeal.Read.val_main_v27 (F := Ideal) x (moved md) gain := by
    unfold val_main_v27 val_main_v26 val_main_v25 val_main_v24 val_main_v23
    rw [e5, e8]
    rfl
  have e33 : val_main_v33 (F := Ideal) x md gain wgu = Cert.LastRefIdeal.Read.val_main_v33 (F := Ideal) x (moved md) gain wgu := by
    unfold val_main_v33
    rw [e27]
    rfl
  have e43 : val_main_v43 (F := Ideal) x md gain wgu = Cert.LastRefIdeal.Read.val_main_v43 (F := Ideal) x (moved md) gain wgu := by
    unfold val_main_v43 val_main_v42 val_main_v41 val_main_v39 val_main_v37 val_main_v36 val_main_v35 val_main_v34
    rw [e33]
    rfl
  unfold val_main_v47 val_main_v46 val_main_v45 val_main_v44 val_main_v32
  rw [e43, e30]
  rfl

theorem open_eq : val_main_v47 (F := Ideal) x md gain wgu wdn = layer 0 1 2 x md gain wgu wdn := by
  rw [open_moved]
  funext i
  exact (at3 (Cert.LastRefIdeal.Read.val_main_v47 (F := Ideal) x (moved md) gain wgu wdn) i (i 0) (i 1) (i 2) rfl rfl rfl).trans
    (sub_eq x (moved md) gain wgu wdn (i 0) (i 1) (i 2))

theorem open_up : val_main_v50 (F := Ideal) up = pick (n0 := 2048) (n1 := 11264) 1 1 up := by
  funext i
  rw [val_main_v50_apply, val_main_v49_apply, val_main_v48_apply]
  have h0 : (i 0).val < 2048 := (i 0).isLt
  have h1 : (i 1).val < 11264 := (i 1).isLt
  refine at4 (n0 := 2) (n1 := 2) (n2 := 2048) (n3 := 11264) up _ 1 1 (i 0) (i 1) rfl rfl ?_ ?_
  · show ((i 0).val * 11264 + (i 1).val) / 11264 % 2048 = (i 0).val; omega
  · show ((i 0).val * 11264 + (i 1).val) % 11264 = (i 1).val; omega

theorem open_down : val_main_v53 (F := Ideal) down = pick (n0 := 5632) (n1 := 2048) 1 1 down := by
  funext i
  rw [val_main_v53_apply, val_main_v52_apply, val_main_v51_apply]
  have h0 : (i 0).val < 5632 := (i 0).isLt
  have h1 : (i 1).val < 2048 := (i 1).isLt
  refine at4 (n0 := 2) (n1 := 2) (n2 := 5632) (n3 := 2048) down _ 1 1 (i 0) (i 1) rfl rfl ?_ ?_
  · show ((i 0).val * 2048 + (i 1).val) / 2048 % 5632 = (i 0).val; omega
  · show ((i 0).val * 2048 + (i 1).val) % 2048 = (i 1).val; omega

end

/-! ## The sublayer that enters the model -/

section

open Cert.EnterRefIdeal.Read

theorem enter_eq : val_main_v47 (F := Ideal) x md gain wgu wdn = layer 0 1 2 x md gain wgu wdn :=
  Eq.trans (b := Cert.OpenRefIdeal.Read.val_main_v47 (F := Ideal) x md gain wgu wdn) rfl (open_eq x md gain wgu wdn)

theorem enter_up : val_main_v64 (F := Ideal) up = pick (n0 := 2048) (n1 := 11264) 0 1 up := by
  funext i
  rw [val_main_v64_apply, val_main_v63_apply, val_main_v62_apply]
  have h0 : (i 0).val < 2048 := (i 0).isLt
  have h1 : (i 1).val < 11264 := (i 1).isLt
  refine at4 (n0 := 2) (n1 := 2) (n2 := 2048) (n3 := 11264) up _ 0 1 (i 0) (i 1) rfl rfl ?_ ?_
  · show ((i 0).val * 11264 + (i 1).val) / 11264 % 2048 = (i 0).val; omega
  · show ((i 0).val * 11264 + (i 1).val) % 11264 = (i 1).val; omega

theorem enter_down : val_main_v67 (F := Ideal) down = pick (n0 := 5632) (n1 := 2048) 0 1 down := by
  funext i
  rw [val_main_v67_apply, val_main_v66_apply, val_main_v65_apply]
  have h0 : (i 0).val < 5632 := (i 0).isLt
  have h1 : (i 1).val < 2048 := (i 1).isLt
  refine at4 (n0 := 2) (n1 := 2) (n2 := 5632) (n3 := 2048) down _ 0 1 (i 0) (i 1) rfl rfl ?_ ?_
  · show ((i 0).val * 2048 + (i 1).val) / 2048 % 5632 = (i 0).val; omega
  · show ((i 0).val * 2048 + (i 1).val) % 2048 = (i 1).val; omega

theorem enter_bias (bias : Cert.EnterRefIdeal.S2x1x18432.Idx → EReal) (j : Cert.EnterRefIdeal.S8x18432.Idx) :
    val_main_v60 (F := Ideal) bias j = bias (ix3 1 0 (j 1)) := by
  have h1 : (j 1).val < 18432 := (j 1).isLt
  rw [val_main_v60_apply, val_main_v59_apply, val_main_v58_apply]
  refine at3 (n0 := 2) (n1 := 1) (n2 := 18432) bias _ 1 0 (j 1) rfl rfl ?_
  show ((idx_main_v60 j 0).val * 18432 + (idx_main_v60 j 1).val) % 18432 = (j 1).val
  have e0 : (idx_main_v60 j 0).val = 0 := rfl
  have e1 : (idx_main_v60 j 1).val = (j 1).val := rfl
  omega

/-- The modulation of the second layer. -/
theorem enter_mod (v : Cert.EnterRefIdeal.S8x2048.Idx → EReal) (w : Cert.EnterRefIdeal.S2x2048x18432.Idx → EReal)
    (bias : Cert.EnterRefIdeal.S2x1x18432.Idx → EReal) : val_main_v69 (F := Ideal) v w bias = modulation v w bias := by
  funext i
  have h0 : (i 0).val < 9 := (i 0).isLt
  have h1 : (i 1).val < 8 := (i 1).isLt
  have h2 : (i 2).val < 2048 := (i 2).isLt
  rw [val_main_v69_apply, val_main_v68_apply, val_main_v61_apply, val_main_v57_apply]
  have ea : (((i 1).val * 9 + (i 0).val) * 2048 + (i 2).val) / 18432 = (i 1).val := by omega
  have eb : (((i 1).val * 9 + (i 0).val) * 2048 + (i 2).val) % 18432 = 2048 * (i 0).val + (i 2).val := by omega
  have eo : FloatOps.ofBits (F := Ideal) .f32 0x3F800000#32 = (1 : EReal) := Ideal.ofBits_one_f32
  refine congrArg₂ (· + ·) (Finset.sum_congr rfl fun k _ => congrArg₂ (· * ·) ?_ ?_) ?_
  · refine (at2 (n0 := 8) (n1 := 2048) (val_main_v54 (F := Ideal) v) _ (i 1) k ea rfl).trans ?_
    rw [val_main_v54_apply, val_main_v53_apply, val_main_v52_apply, val_main_v51_apply, val_main_v50_apply, val_main_v49_apply,
      val_main_v48_apply, val_main_cst_6_apply, val_main_cst_7_apply, eo]
    rfl
  · rw [val_main_v56_apply, val_main_v55_apply]
    refine at3 (n0 := 2) (n1 := 2048) (n2 := 18432) w _ 1 k _ rfl ?_ ?_
    · show (k.val * 18432 + (((i 1).val * 9 + (i 0).val) * 2048 + (i 2).val) % 18432) / 18432 % 2048 = k.val
      omega
    · show (k.val * 18432 + (((i 1).val * 9 + (i 0).val) * 2048 + (i 2).val) % 18432) % 18432 = 2048 * (i 0).val + (i 2).val
      omega
  · rw [enter_bias]
    exact at3 (n0 := 2) (n1 := 1) (n2 := 18432) bias _ 1 0 _ rfl rfl eb

end

end Cert.LayerRef
-- ==== Proof.CloseValue.lean ====
/-
  The SwiGLU sublayer that closes the first layer: what the kernel `CloseIdeal` leaves in its three result arrays, as
  functions of its argument arrays — the sublayer on every row, and the rounded copies of the next sublayer's weights.
-/
module

public import proofs.«01_k».proof.Proof.CloseStep
public import proofs.«01_k».proof.Proof.LastValue

@[expose] public section

set_option maxRecDepth 16384

noncomputable section

open Idealize.ShloMosaic Idealize.ShloMosaic.TcCoe Idealize.SL.Sem Idealize.ShloMosaic.ValueIdx
open Idealize.ShloMosaic.Pipeline (Dat)

namespace Cert.CloseIdeal.Sweep

open Cert.CloseIdeal Cert.CloseIdeal.Gen Cert.Ffn
open Cert.LastIdeal.Sweep (bi si vec_read)

variable (m : (ℓ : Loc nD τ sig) → Buf (Elt Ideal) ℓ) (ρ : Dev nD → PrngReg) (c : Dev nD) (t : Fin cfg0.N)

/-- The contents of the result arrays, from device `c`'s argument arrays. -/
abbrev G : Buf (Elt Ideal) ((c : Thread nD τ).loc main_v1_0) :=
  layer 6 7 8 (m ((c : Thread nD τ).loc main_arg0)) (m ((c : Thread nD τ).loc main_arg1)) (m ((c : Thread nD τ).loc main_arg2))
    (m ((c : Thread nD τ).loc main_arg3)) (m ((c : Thread nD τ).loc main_arg4))
abbrev GUp : Buf (Elt Ideal) ((c : Thread nD τ).loc main_v1_1) := pick (n0 := 2048) (n1 := 11264) 1 0 (m ((c : Thread nD τ).loc main_arg5))
abbrev GDown : Buf (Elt Ideal) ((c : Thread nD τ).loc main_v1_2) := pick (n0 := 5632) (n1 := 2048) 1 0 (m ((c : Thread nD τ).loc main_arg6))

/-! ## The blocks the points read -/

theorem idx_tile : ∀ t : Fin cfg0.N, (grid0.coords t 0).val = t.val / 22 / 2 % 4
    ∧ (win0_0.index t 0 = t.val / 22 / 2 % 4 ∧ win0_0.index t 1 = t.val / 22 % 2 ∧ win0_0.index t 2 = 0)
    ∧ win0_10.index t 0 = t.val / 22 / 2 % 4 ∧ win0_10.index t 1 = t.val / 22 % 2 ∧ win0_10.index t 2 = 0 :=
  (by decide +kernel : ∀ t : Fin grid0.N, (grid0.coords t 0).val = t.val / 22 / 2 % 4
    ∧ (win0_0.index t 0 = t.val / 22 / 2 % 4 ∧ win0_0.index t 1 = t.val / 22 % 2 ∧ win0_0.index t 2 = 0)
    ∧ win0_10.index t 0 = t.val / 22 / 2 % 4 ∧ win0_10.index t 1 = t.val / 22 % 2 ∧ win0_10.index t 2 = 0)

theorem idx_mod : ∀ t : Fin cfg0.N, (win0_1.index t 0 = 6 ∧ win0_1.index t 1 = 0 ∧ win0_1.index t 2 = 0)
    ∧ (win0_2.index t 0 = 7 ∧ win0_2.index t 1 = 0 ∧ win0_2.index t 2 = 0)
    ∧ (win0_3.index t 0 = 8 ∧ win0_3.index t 1 = 0 ∧ win0_3.index t 2 = 0)
    ∧ win0_4.index t 0 = 0 ∧ win0_4.index t 1 = 0 :=
  (by decide +kernel : ∀ t : Fin grid0.N, (win0_1.index t 0 = 6 ∧ win0_1.index t 1 = 0 ∧ win0_1.index t 2 = 0)
    ∧ (win0_2.index t 0 = 7 ∧ win0_2.index t 1 = 0 ∧ win0_2.index t 2 = 0)
    ∧ (win0_3.index t 0 = 8 ∧ win0_3.index t 1 = 0 ∧ win0_3.index t 2 = 0)
    ∧ win0_4.index t 0 = 0 ∧ win0_4.index t 1 = 0)

theorem idx_weights : ∀ t : Fin cfg0.N, (win0_5.index t 0 = 0 ∧ win0_5.index t 1 = t.val % 22)
    ∧ (win0_6.index t 0 = 0 ∧ win0_6.index t 1 = t.val % 22 + 22)
    ∧ win0_7.index t 0 = t.val % 22 ∧ win0_7.index t 1 = 0 :=
  (by decide +kernel : ∀ t : Fin grid0.N, (win0_5.index t 0 = 0 ∧ win0_5.index t 1 = t.val % 22)
    ∧ (win0_6.index t 0 = 0 ∧ win0_6.index t 1 = t.val % 22 + 22)
    ∧ win0_7.index t 0 = t.val % 22 ∧ win0_7.index t 1 = 0)

theorem idx_copy : ∀ t : Fin cfg0.N,
    (win0_8.index t 0 = 1 ∧ win0_8.index t 1 = 0 ∧ win0_8.index t 2 = t.val / 22 ∧ win0_8.index t 3 = t.val % 22)
    ∧ (win0_9.index t 0 = 1 ∧ win0_9.index t 1 = 0 ∧ win0_9.index t 2 = t.val ∧ win0_9.index t 3 = 0)
    ∧ (win0_11.index t 0 = t.val / 22 ∧ win0_11.index t 1 = t.val % 22)
    ∧ win0_12.index t 0 = t.val ∧ win0_12.index t 1 = 0 :=
  (by decide +kernel : ∀ t : Fin grid0.N,
    (win0_8.index t 0 = 1 ∧ win0_8.index t 1 = 0 ∧ win0_8.index t 2 = t.val / 22 ∧ win0_8.index t 3 = t.val % 22)
    ∧ (win0_9.index t 0 = 1 ∧ win0_9.index t 1 = 0 ∧ win0_9.index t 2 = t.val ∧ win0_9.index t 3 = 0)
    ∧ (win0_11.index t 0 = t.val / 22 ∧ win0_11.index t 1 = t.val % 22)
    ∧ win0_12.index t 0 = t.val ∧ win0_12.index t 1 = 0)

theorem tile_read (p : Fin 1024) (d : Fin 2048) : (iblk m c 0 t : FVec Ideal S1x1024x2048 .f32) (ix3 0 p d)
    = m ((c : Thread nD τ).loc main_arg0) (ix3 (bi (t.val / 22)) (si (t.val / 22) p) d) := by
  obtain ⟨e0, e1, e2⟩ := (idx_tile t).2.1
  unfold iblk
  rw [View.read_apply]
  show V m c main_arg0 _ = _
  rw [V_main_arg0]
  refine at3 (n0 := 4) (n1 := 2048) (n2 := 2048) _ _ _ _ _ ?_ ?_ ?_
  · show win0_0.index t 0 * 1 + 1 * 0 = t.val / 22 / 2 % 4; rw [e0]; omega
  · show win0_0.index t 1 * 1024 + 1 * p.val = 1024 * (t.val / 22 % 2) + p.val; rw [e1]; omega
  · show win0_0.index t 2 * 2048 + 1 * d.val = d.val; rw [e2]; omega

theorem off1_val (i : grid0.Coords) : k0_off1 i 1 = (i 0).val := by rw [k0_off1_eq]; rfl
theorem off2_val (i : grid0.Coords) : k0_off2 i 1 = (i 0).val := by rw [k0_off2_eq]; rfl

/-- A modulation row of the point's member. -/
abbrev mrow (k : Fin 9) (n : ℕ) : Row := fun d => m ((c : Thread nD τ).loc main_arg1) (ix3 k ((bi n).castLE (by decide)) d)

theorem shift_read (hc : cond0_0 (grid0.coords t)) (d : Fin 2048) : rowA t hc (iblk m c 1 t) (ix3 0 0 d) = mrow m c 6 (t.val / 22) d := by
  obtain ⟨e0, e1, e2⟩ := (idx_mod t).1
  have eg := (idx_tile t).1
  show (iblk m c 1 t : FVec Ideal S1x8x2048 .f32) _ = _
  unfold iblk
  rw [View.read_apply]
  show V m c main_arg1 _ = _
  rw [V_main_arg1]
  refine at3 (n0 := 9) (n1 := 8) (n2 := 2048) _ _ _ _ _ ?_ ?_ ?_
  · show win0_1.index t 0 * 1 + 1 * (0 + 1 * 0) = 6; rw [e0]
  · show win0_1.index t 1 * 8 + 1 * (k0_off1 (grid0.coords t) 1 + 1 * 0) = t.val / 22 / 2 % 4; rw [e1, off1_val, eg]; omega
  · show win0_1.index t 2 * 2048 + 1 * (0 + 1 * d.val) = d.val; rw [e2]; omega

theorem scale_read (hc : cond0_0 (grid0.coords t)) (d : Fin 2048) : rowA t hc (iblk m c 2 t) (ix3 0 0 d) = mrow m c 7 (t.val / 22) d := by
  obtain ⟨e0, e1, e2⟩ := (idx_mod t).2.1
  have eg := (idx_tile t).1
  show (iblk m c 2 t : FVec Ideal S1x8x2048 .f32) _ = _
  unfold iblk
  rw [View.read_apply]
  show V m c main_arg1 _ = _
  rw [V_main_arg1]
  refine at3 (n0 := 9) (n1 := 8) (n2 := 2048) _ _ _ _ _ ?_ ?_ ?_
  · show win0_2.index t 0 * 1 + 1 * (0 + 1 * 0) = 7; rw [e0]
  · show win0_2.index t 1 * 8 + 1 * (k0_off1 (grid0.coords t) 1 + 1 * 0) = t.val / 22 / 2 % 4; rw [e1, off1_val, eg]; omega
  · show win0_2.index t 2 * 2048 + 1 * (0 + 1 * d.val) = d.val; rw [e2]; omega

theorem gate_read (inb) (d : Fin 2048) :
    View.ld (iblk m c 3 t : FVec Ideal S1x8x2048 .f32) (Rect.unit (k0_off2 (grid0.coords t)) S1x1x2048.size inb) (ix3 0 0 d)
      = mrow m c 8 (t.val / 22) d := by
  obtain ⟨e0, e1, e2⟩ := (idx_mod t).2.2.1
  have eg := (idx_tile t).1
  show (iblk m c 3 t : FVec Ideal S1x8x2048 .f32) _ = _
  unfold iblk
  rw [View.read_apply]
  show V m c main_arg1 _ = _
  rw [V_main_arg1]
  refine at3 (n0 := 9) (n1 := 8) (n2 := 2048) _ _ _ _ _ ?_ ?_ ?_
  · show win0_3.index t 0 * 1 + 1 * (0 + 1 * 0) = 8; rw [e0]
  · show win0_3.index t 1 * 8 + 1 * (k0_off2 (grid0.coords t) 1 + 1 * 0) = t.val / 22 / 2 % 4; rw [e1, off2_val, eg]; omega
  · show win0_3.index t 2 * 2048 + 1 * (0 + 1 * d.val) = d.val; rw [e2]; omega

/-- The norm gain reaches the region as a row. -/
theorem V_gain : V m c main_v0 = shapeCast S1x2048 (m ((c : Thread nD τ).loc main_arg2)) shapeCasts_S2048_S1x2048 := by
  simp only [V, StableHlo.after_cons, StableHlo.after_nil]
  rw [StableHlo.reshape_result]
  rfl

theorem gain_read (d : Fin 2048) : (iblk m c 4 t : FVec Ideal S1x2048 .f32) (ix2 0 d) = m ((c : Thread nD τ).loc main_arg2) (ix1 d) := by
  obtain ⟨e0, e1⟩ := (idx_mod t).2.2.2
  refine Eq.trans ?_ (vec_read (m ((c : Thread nD τ).loc main_arg2)) d)
  unfold iblk
  rw [View.read_apply]
  show V m c main_v0 _ = _
  rw [V_gain]
  refine at2 (n0 := 1) (n1 := 2048) _ _ _ _ ?_ ?_
  · show win0_4.index t 0 * 1 + 1 * 0 = 0; rw [e0]
  · show win0_4.index t 1 * 2048 + 1 * d.val = d.val; rw [e1]; omega

theorem reads_weights : ReadsWeights (N := cfg0.N) (fun t => iblk m c 5 t) (fun t => iblk m c 6 t) (fun t => iblk m c 7 t)
    (m ((c : Thread nD τ).loc main_arg3)) (m ((c : Thread nD τ).loc main_arg4)) := fun t => by
  obtain ⟨⟨e0, e1⟩, ⟨f0, f1⟩, g0, g1⟩ := idx_weights t
  refine ⟨fun k f => ?_, fun k f => ?_, fun f q => ?_⟩
  · show (iblk m c 5 t : FVec Ideal S2048x256 .bf16) _ = _
    unfold iblk
    rw [View.read_apply]
    show V m c main_arg3 _ = _
    rw [V_main_arg3]
    refine at2 (n0 := 2048) (n1 := 11264) _ _ _ _ ?_ ?_
    · show win0_5.index t 0 * 2048 + 1 * k.val = k.val; rw [e0]; omega
    · show win0_5.index t 1 * 256 + 1 * f.val = 256 * (t.val % 22) + f.val; rw [e1]; omega
  · show (iblk m c 6 t : FVec Ideal S2048x256 .bf16) _ = _
    unfold iblk
    rw [View.read_apply]
    show V m c main_arg3 _ = _
    rw [V_main_arg3]
    refine at2 (n0 := 2048) (n1 := 11264) _ _ _ _ ?_ ?_
    · show win0_6.index t 0 * 2048 + 1 * k.val = k.val; rw [f0]; omega
    · show win0_6.index t 1 * 256 + 1 * f.val = 5632 + (256 * (t.val % 22) + f.val); rw [f1]; omega
  · show (iblk m c 7 t : FVec Ideal S256x2048 .bf16) _ = _
    unfold iblk
    rw [View.read_apply]
    show V m c main_arg4 _ = _
    rw [V_main_arg4]
    refine at2 (n0 := 5632) (n1 := 2048) _ _ _ _ ?_ ?_
    · show win0_7.index t 0 * 256 + 1 * f.val = 256 * (t.val % 22) + f.val; rw [g0]; omega
    · show win0_7.index t 1 * 2048 + 1 * q.val = q.val; rw [g1]; omega

theorem up_read (a : Fin 256) (b : Fin 512) : (iblk m c 8 t : FVec Ideal S1x1x256x512 .f32) (ix4 0 0 a b)
    = m ((c : Thread nD τ).loc main_arg5) (ix4 1 0 ⟨256 * (t.val / 22) + a.val, by have := t.isLt; have : cfg0.N = 176 := rfl; omega⟩
        ⟨512 * (t.val % 22) + b.val, by omega⟩) := by
  obtain ⟨e0, e1, e2, e3⟩ := (idx_copy t).1
  unfold iblk
  rw [View.read_apply]
  show V m c main_arg5 _ = _
  rw [V_main_arg5]
  refine at4 (n0 := 2) (n1 := 2) (n2 := 2048) (n3 := 11264) _ _ _ _ _ _ ?_ ?_ ?_ ?_
  · show win0_8.index t 0 * 1 + 1 * 0 = 1; rw [e0]
  · show win0_8.index t 1 * 1 + 1 * 0 = 0; rw [e1]
  · show win0_8.index t 2 * 256 + 1 * a.val = 256 * (t.val / 22) + a.val; rw [e2]; omega
  · show win0_8.index t 3 * 512 + 1 * b.val = 512 * (t.val % 22) + b.val; rw [e3]; omega

theorem down_read (a : Fin 32) (b : Fin 2048) : (iblk m c 9 t : FVec Ideal S1x1x32x2048 .f32) (ix4 0 0 a b)
    = m ((c : Thread nD τ).loc main_arg6) (ix4 1 0 ⟨32 * t.val + a.val, by have := t.isLt; have : cfg0.N = 176 := rfl; omega⟩ b) := by
  obtain ⟨e0, e1, e2, e3⟩ := (idx_copy t).2.1
  unfold iblk
  rw [View.read_apply]
  show V m c main_arg6 _ = _
  rw [V_main_arg6]
  refine at4 (n0 := 2) (n1 := 2) (n2 := 5632) (n3 := 2048) _ _ _ _ _ _ ?_ ?_ ?_ ?_
  · show win0_9.index t 0 * 1 + 1 * 0 = 1; rw [e0]
  · show win0_9.index t 1 * 1 + 1 * 0 = 0; rw [e1]
  · show win0_9.index t 2 * 32 + 1 * a.val = 32 * t.val + a.val; rw [e2]; omega
  · show win0_9.index t 3 * 2048 + 1 * b.val = b.val; rw [e3]; omega

/-! ## The sweep over the blocks of hidden units -/

/-- The activations' row `p` of sweep `n`'s tile. -/
abbrev xrow (n : ℕ) (p : Fin 1024) : Row := fun d => m ((c : Thread nD τ).loc main_arg0) (ix3 (bi n) (si n p) d)

theorem swept (h21 : t.val % 22 = 21) (p : Fin 1024) (q : Fin 2048) : (outsAt0 m c t.val t.isLt).1 (ix3 0 p q)
    = sub (xrow m c (t.val / 22) p) (fun d => m ((c : Thread nD τ).loc main_arg2) (ix1 d)) (mrow m c 6 (t.val / 22))
        (mrow m c 7 (t.val / 22)) (mrow m c 8 (t.val / 22)) (m ((c : Thread nD τ).loc main_arg3)) (m ((c : Thread nD τ).loc main_arg4)) q :=
  sweep (N := cfg0.N) (fun n hn => (outsAt0 m c n hn).1) (fun n hn => (outsAt0 m c n hn).2.2.2)
    (fun t => iblk m c 5 t) (fun t => iblk m c 6 t) (fun t => iblk m c 7 t) (xrow m c) (fun d => m ((c : Thread nD τ).loc main_arg2) (ix1 d))
    (mrow m c 6) (mrow m c 7) (mrow m c 8) _ _ (reads_weights m c)
    (fun t h0 => ⟨fun p k => (congrFun (scratch_A m c t h0) _).trans ((pay1_apply _ _ _ _ p k).trans
        (modrow_congr (tile_read m c t p) (gain_read m c t) (shift_read m c t _) (scale_read m c t _) k)),
      (out_A m c t h0).trans (congrArg (fun u => k0_pay5 (F := Ideal) u _ _ _ _) (scratch_A m c t h0).symm)⟩)
    (fun t h0 h1 => ⟨scratch_next m c t h0, out_B m c t h0 h1⟩)
    (fun t h0 h1 p q => (congrFun (out_C m c t h0 h1) _).trans ((resid_apply _ _ _ p q).trans
      (congrFun (res_congr (tile_read m c t p) (gate_read m c t _) fun _ => rfl) q)))
    t.val t.isLt h21 p q

/-! ## The result arrays -/

theorem flushed_eq (hf : (cfg0.win 10).flush t = true) :
    (dats m 0 c).flushed 10 t = ((cfg0.win 10).blk t).view.read (Elt Ideal) (G m c) := by
  have h21 : t.val % 22 = 21 := (flush0_10 t).mp hf
  obtain ⟨e0, e1, e2⟩ := (idx_tile t).2.2
  rw [Value.flushed10]
  funext j
  have hj0 : (j 0).val < 1 := (j 0).isLt
  rw [View.read_apply]
  have hl : (outsAt0 m c t.val t.isLt).1 ((cfg0.win 10).xinj (grid0.coords t) j) = (outsAt0 m c t.val t.isLt).1 (ix3 0 (j 1) (j 2)) :=
    at3 (n0 := 1) (n1 := 1024) (n2 := 2048) _ _ _ _ _ (by show (j 0).val = 0; omega) rfl rfl
  refine hl.trans ((swept m c t h21 (j 1) (j 2)).trans (Eq.symm ?_))
  refine (at3 (n0 := 4) (n1 := 2048) (n2 := 2048) (G m c) _ (bi (t.val / 22)) (si (t.val / 22) (j 1)) (j 2) ?_ ?_ ?_).trans rfl
  · show win0_10.index t 0 * 1 + 1 * (j 0).val = t.val / 22 / 2 % 4; rw [e0]; omega
  · show win0_10.index t 1 * 1024 + 1 * (j 1).val = 1024 * (t.val / 22 % 2) + (j 1).val; rw [e1]; omega
  · show win0_10.index t 2 * 2048 + 1 * (j 2).val = (j 2).val; rw [e2]; omega

theorem final : (dats m 0 c).arrAt 10 cfg0.N = G m c :=
  (dats m 0 c).arrAt_eq_of_cover 10 (G m c) (fun t hf => flushed_eq m c t hf) (fun i => (Value.covered_iff10 i).2 (by
    have h0 : (i 0).val < 4 := (i 0).isLt
    have h1 : (i 1).val < 2048 := (i 1).isLt
    have h2 : (i 2).val < 2048 := (i 2).isLt
    omega))

theorem flushed_up : (dats m 0 c).flushed 11 t = ((cfg0.win 11).blk t).view.read (Elt Ideal) (GUp m c) := by
  obtain ⟨e0, e1⟩ := (idx_copy t).2.2.1
  rw [Value.flushed11, copy_up]
  funext j
  rw [View.read_apply]
  have hl : k0_pay6 (F := Ideal) (iblk m c 8 t) ((cfg0.win 11).xinj (grid0.coords t) j) = k0_pay6 (F := Ideal) (iblk m c 8 t) (ix2 (j 0) (j 1)) :=
    at2 (n0 := 256) (n1 := 512) _ _ _ _ rfl rfl
  refine hl.trans ((copy_up_apply _ _ _).trans ((up_read m c t (j 0) (j 1)).trans (Eq.symm ?_)))
  refine (at2 (n0 := 2048) (n1 := 11264) (GUp m c) _ _ _ ?_ ?_).trans rfl
  · show win0_11.index t 0 * 256 + 1 * (j 0).val = 256 * (t.val / 22) + (j 0).val; rw [e0]; omega
  · show win0_11.index t 1 * 512 + 1 * (j 1).val = 512 * (t.val % 22) + (j 1).val; rw [e1]; omega

theorem final_up : (dats m 0 c).arrAt 11 cfg0.N = GUp m c :=
  (dats m 0 c).arrAt_eq_of_cover 11 (GUp m c) (fun t _ => flushed_up m c t) (fun i => (Value.covered_iff11 i).2 (by
    have h0 : (i 0).val < 2048 := (i 0).isLt
    have h1 : (i 1).val < 11264 := (i 1).isLt
    omega))

theorem flushed_down : (dats m 0 c).flushed 12 t = ((cfg0.win 12).blk t).view.read (Elt Ideal) (GDown m c) := by
  obtain ⟨e0, e1⟩ := (idx_copy t).2.2.2
  rw [Value.flushed12, copy_down]
  funext j
  rw [View.read_apply]
  have hl : k0_pay1 (F := Ideal) (iblk m c 9 t) ((cfg0.win 12).xinj (grid0.coords t) j) = k0_pay1 (F := Ideal) (iblk m c 9 t) (ix2 (j 0) (j 1)) :=
    at2 (n0 := 32) (n1 := 2048) _ _ _ _ rfl rfl
  refine hl.trans ((copy_down_apply _ _ _).trans ((down_read m c t (j 0) (j 1)).trans (Eq.symm ?_)))
  refine (at2 (n0 := 5632) (n1 := 2048) (GDown m c) _ _ _ ?_ ?_).trans rfl
  · show win0_12.index t 0 * 32 + 1 * (j 0).val = 32 * t.val + (j 0).val; rw [e0]; omega
  · show win0_12.index t 1 * 2048 + 1 * (j 1).val = (j 1).val; rw [e1]; omega

theorem final_down : (dats m 0 c).arrAt 12 cfg0.N = GDown m c :=
  (dats m 0 c).arrAt_eq_of_cover 12 (GDown m c) (fun t _ => flushed_down m c t) (fun i => (Value.covered_iff12 i).2 (by
    have h0 : (i 0).val < 5632 := (i 0).isLt
    have h1 : (i 1).val < 2048 := (i 1).isLt
    omega))

end Cert.CloseIdeal.Sweep
-- ==== Proof.OpenStep.lean ====
/-
  The SwiGLU sublayer that opens the second layer: what each grid point leaves in the three output blocks and in the
  scratch, as the payloads over the blocks it reads and over what the point before left.
-/
module

public import proofs.«01_k».proof.Proof.Sweep
public import proofs.«01_k».proof.Proof.CloseStep
public import proofs.«01_k».proof.Proof.Gen.OpenIdeal.Value

@[expose] public section

set_option maxRecDepth 16384

noncomputable section

open Idealize.ShloMosaic Idealize.ShloMosaic.TcCoe Idealize.SL.Sem Idealize.ShloMosaic.ValueIdx
open Idealize.ShloMosaic.Pipeline (Dat)

namespace Cert.OpenIdeal.Sweep

open Cert.OpenIdeal Cert.OpenIdeal.Gen
open Cert.LastIdeal.Sweep (hz2 hz3)
open Cert.CloseIdeal.Sweep (hz4)

variable (m : (ℓ : Loc nD τ sig) → Buf (Elt Ideal) ℓ) (c : Dev nD) (t : Fin cfg0.N)

/-- The row of a modulation block that a point reads. -/
abbrev rowA (hc : cond0_0 (grid0.coords t)) (v : Vec Ideal S1x8x2048 .f32) : Vec Ideal S1x1x2048 .f32 :=
  View.ld v (Rect.unit (k0_off1 (grid0.coords t)) S1x1x2048.size (k0_off1_inb (grid0.coords t) hc))

/-- The modulated norm the first block stores. -/
abbrev unorm (hc : cond0_0 (grid0.coords t)) : Vec Ideal S1024x2048 .bf16 :=
  k0_pay3 (F := Ideal) (iblk m c 0 t) (iblk m c 4 t) (rowA t hc (iblk m c 1 t)) (rowA t hc (iblk m c 2 t))

/-- What the point before left. -/
abbrev prev := outsAt0 m c (t.val - 1) (Nat.lt_of_le_of_lt (Nat.sub_le _ _) t.isLt)

theorem scratch_A (h0 : t.val % 22 = 0) :
    (outsAt0 m c t.val t.isLt).2.2.2 = unorm m c t ((hcond0_0 t).mpr h0) := by
  rw [outsAt0_A m c t h0 (by omega)]
  dsimp only
  unfold sout0_A_0
  refine (View.read_writes_eq_canon _ _ _ (by apply scover0_A_0)).trans ?_
  unfold kernelRun0_A
  dsimp only
  sl_unfold_words
  rw [View.canon_unit_zero hz2]
  simp only [View.readAt_eq_ld, (hs0_0 t).read_unread, (hs0_1 t).read_unread, (hs0_2 t).read_unread, (hs0_4 t).read_unread,
    View.ld_unit_zero (S := S1x1024x2048) hz3, View.ld_unit_zero (S := S1x2048) hz2]
  rfl

theorem out_A (h0 : t.val % 22 = 0) :
    (outsAt0 m c t.val t.isLt).1 = k0_pay5 (F := Ideal) (unorm m c t ((hcond0_0 t).mpr h0)) (iblk m c 5 t) (iblk m c 6 t)
      (k0_pay4 (F := Ideal)) (iblk m c 7 t) := by
  rw [outsAt0_A m c t h0 (by omega)]
  dsimp only
  unfold out0_A_10
  refine (View.read_writes_eq_canon _ _ _ (by apply cover0_A_10)).trans ?_
  unfold kernelRun0_A
  dsimp only
  sl_unfold_words
  rw [View.canon_cons_unit_zero hz3, View.readCov_unit_zero (S := S1x1024x2048) _ hz3, View.readCov_unit_zero (S := S1024x2048) _ hz2]
  simp only [View.readAt_eq_ld, (hs0_0 t).read_unread, (hs0_1 t).read_unread, (hs0_2 t).read_unread, (hs0_4 t).read_unread,
    (hs0_5 t).read_unread, (hs0_6 t).read_unread, (hs0_7 t).read_unread,
    View.ld_unit_zero (S := S1x1024x2048) hz3, View.ld_unit_zero (S := S1x2048) hz2,
    View.ld_unit_zero (S := S2048x256) hz2, View.ld_unit_zero (S := S256x2048) hz2]
  rfl

theorem scratch_next (h0 : ¬t.val % 22 = 0) : (outsAt0 m c t.val t.isLt).2.2.2 = (prev m c t).2.2.2 := by
  by_cases h1 : t.val % 22 = 21
  · rw [outsAt0_C m c t h0 h1]; rfl
  · rw [outsAt0_B m c t h0 h1]; rfl

theorem out_B (h0 : ¬t.val % 22 = 0) (h1 : ¬t.val % 22 = 21) :
    (outsAt0 m c t.val t.isLt).1 = k0_pay5 (F := Ideal) (prev m c t).2.2.2 (iblk m c 5 t) (iblk m c 6 t) (prev m c t).1 (iblk m c 7 t) := by
  rw [outsAt0_B m c t h0 h1]
  dsimp only
  unfold out0_B_10
  refine (View.read_writes_eq_canon _ _ _ (by apply cover0_B_10)).trans ?_
  unfold kernelRun0_B
  dsimp only
  sl_unfold_words
  rw [View.canon_unit_zero hz3]
  simp only [View.readAt_eq_ld, (hs0_5 t).read_unread, (hs0_6 t).read_unread, (hs0_7 t).read_unread, (hs0_10 t).read_unread,
    (Memref.isWhole_whole _).read_unread,
    View.ld_unit_zero (S := S1x1024x2048) hz3, View.ld_unit_zero (S := S1024x2048) hz2,
    View.ld_unit_zero (S := S2048x256) hz2, View.ld_unit_zero (S := S256x2048) hz2]

theorem out_C (h0 : ¬t.val % 22 = 0) (h1 : t.val % 22 = 21) :
    (outsAt0 m c t.val t.isLt).1 = k0_pay2 (F := Ideal) (iblk m c 0 t)
      (View.ld (iblk m c 3 t) (Rect.unit (k0_off2 (grid0.coords t)) S1x1x2048.size (k0_off2_inb (grid0.coords t) ((hcond0_1 t).mpr h1))))
      (k0_pay5 (F := Ideal) (prev m c t).2.2.2 (iblk m c 5 t) (iblk m c 6 t) (prev m c t).1 (iblk m c 7 t)) := by
  rw [outsAt0_C m c t h0 h1]
  dsimp only
  unfold out0_C_10
  refine (View.read_writes_eq_canon _ _ _ (by apply cover0_C_10)).trans ?_
  unfold kernelRun0_C
  dsimp only
  sl_unfold_words
  rw [View.canon_cons_unit_zero hz3, View.readCov_unit_zero (S := S1x1024x2048) _ hz3]
  simp only [View.readAt_eq_ld, (hs0_0 t).read_unread, (hs0_3 t).read_unread, (hs0_5 t).read_unread, (hs0_6 t).read_unread,
    (hs0_7 t).read_unread, (hs0_10 t).read_unread, (Memref.isWhole_whole _).read_unread,
    View.ld_unit_zero (S := S1x1024x2048) hz3, View.ld_unit_zero (S := S1024x2048) hz2,
    View.ld_unit_zero (S := S2048x256) hz2, View.ld_unit_zero (S := S256x2048) hz2]
  rfl

/-- Every point rounds its block of the next up weights, -/
theorem copy_up : (outsAt0 m c t.val t.isLt).2.1 = k0_pay6 (F := Ideal) (iblk m c 8 t) := by
  by_cases h0 : t.val % 22 = 0
  · rw [outsAt0_A m c t h0 (by omega)]
    dsimp only
    unfold out0_A_11
    refine (View.read_writes_eq_canon _ _ _ (by apply cover0_A_11)).trans ?_
    unfold kernelRun0_A
    dsimp only
    sl_unfold_words
    rw [View.canon_unit_zero hz2]
    simp only [View.readAt_eq_ld, (hs0_8 t).read_unread, View.ld_unit_zero (S := S1x1x256x512) hz4]
  · by_cases h1 : t.val % 22 = 21
    · rw [outsAt0_C m c t h0 h1]
      dsimp only
      unfold out0_C_11
      refine (View.read_writes_eq_canon _ _ _ (by apply cover0_C_11)).trans ?_
      unfold kernelRun0_C
      dsimp only
      sl_unfold_words
      rw [View.canon_unit_zero hz2]
      simp only [View.readAt_eq_ld, (hs0_8 t).read_unread, View.ld_unit_zero (S := S1x1x256x512) hz4]
    · rw [outsAt0_B m c t h0 h1]
      dsimp only
      unfold out0_B_11
      refine (View.read_writes_eq_canon _ _ _ (by apply cover0_B_11)).trans ?_
      unfold kernelRun0_B
      dsimp only
      sl_unfold_words
      rw [View.canon_unit_zero hz2]
      simp only [View.readAt_eq_ld, (hs0_8 t).read_unread, View.ld_unit_zero (S := S1x1x256x512) hz4]

/-- and its block of the next down weights. -/
theorem copy_down : (outsAt0 m c t.val t.isLt).2.2.1 = k0_pay1 (F := Ideal) (iblk m c 9 t) := by
  by_cases h0 : t.val % 22 = 0
  · rw [outsAt0_A m c t h0 (by omega)]
    dsimp only
    unfold out0_A_12
    refine (View.read_writes_eq_canon _ _ _ (by apply cover0_A_12)).trans ?_
    unfold kernelRun0_A
    dsimp only
    sl_unfold_words
    rw [View.canon_unit_zero hz2]
    simp only [View.readAt_eq_ld, (hs0_9 t).read_unread, View.ld_unit_zero (S := S1x1x32x2048) hz4]
  · by_cases h1 : t.val % 22 = 21
    · rw [outsAt0_C m c t h0 h1]
      dsimp only
      unfold out0_C_12
      refine (View.read_writes_eq_canon _ _ _ (by apply cover0_C_12)).trans ?_
      unfold kernelRun0_C
      dsimp only
      sl_unfold_words
      rw [View.canon_unit_zero hz2]
      simp only [View.readAt_eq_ld, (hs0_9 t).read_unread, View.ld_unit_zero (S := S1x1x32x2048) hz4]
    · rw [outsAt0_B m c t h0 h1]
      dsimp only
      unfold out0_B_12
      refine (View.read_writes_eq_canon _ _ _ (by apply cover0_B_12)).trans ?_
      unfold kernelRun0_B
      dsimp only
      sl_unfold_words
      rw [View.canon_unit_zero hz2]
      simp only [View.readAt_eq_ld, (hs0_9 t).read_unread, View.ld_unit_zero (S := S1x1x32x2048) hz4]

end Cert.OpenIdeal.Sweep
-- ==== Proof.OpenValue.lean ====
/-
  The SwiGLU sublayer that opens the second layer: what the kernel `OpenIdeal` leaves in its three result arrays, as
  functions of its argument arrays — the sublayer on every row, and the rounded copies of the next sublayer's weights.
-/
module

public import proofs.«01_k».proof.Proof.OpenStep
public import proofs.«01_k».proof.Proof.LastValue

@[expose] public section

set_option maxRecDepth 16384

noncomputable section

open Idealize.ShloMosaic Idealize.ShloMosaic.TcCoe Idealize.SL.Sem Idealize.ShloMosaic.ValueIdx
open Idealize.ShloMosaic.Pipeline (Dat)

namespace Cert.OpenIdeal.Sweep

open Cert.OpenIdeal Cert.OpenIdeal.Gen Cert.Ffn
open Cert.LastIdeal.Sweep (bi si vec_read)

variable (m : (ℓ : Loc nD τ sig) → Buf (Elt Ideal) ℓ) (ρ : Dev nD → PrngReg) (c : Dev nD) (t : Fin cfg0.N)

/-- The contents of the result arrays, from device `c`'s argument arrays. -/
abbrev G : Buf (Elt Ideal) ((c : Thread nD τ).loc main_v1_0) :=
  layer 0 1 2 (m ((c : Thread nD τ).loc main_arg0)) (m ((c : Thread nD τ).loc main_arg1)) (m ((c : Thread nD τ).loc main_arg2))
    (m ((c : Thread nD τ).loc main_arg3)) (m ((c : Thread nD τ).loc main_arg4))
abbrev GUp : Buf (Elt Ideal) ((c : Thread nD τ).loc main_v1_1) := pick (n0 := 2048) (n1 := 11264) 1 1 (m ((c : Thread nD τ).loc main_arg5))
abbrev GDown : Buf (Elt Ideal) ((c : Thread nD τ).loc main_v1_2) := pick (n0 := 5632) (n1 := 2048) 1 1 (m ((c : Thread nD τ).loc main_arg6))

/-! ## The blocks the points read -/

theorem idx_tile : ∀ t : Fin cfg0.N, (grid0.coords t 0).val = t.val / 22 / 2 % 4
    ∧ (win0_0.index t 0 = t.val / 22 / 2 % 4 ∧ win0_0.index t 1 = t.val / 22 % 2 ∧ win0_0.index t 2 = 0)
    ∧ win0_10.index t 0 = t.val / 22 / 2 % 4 ∧ win0_10.index t 1 = t.val / 22 % 2 ∧ win0_10.index t 2 = 0 :=
  (by decide +kernel : ∀ t : Fin grid0.N, (grid0.coords t 0).val = t.val / 22 / 2 % 4
    ∧ (win0_0.index t 0 = t.val / 22 / 2 % 4 ∧ win0_0.index t 1 = t.val / 22 % 2 ∧ win0_0.index t 2 = 0)
    ∧ win0_10.index t 0 = t.val / 22 / 2 % 4 ∧ win0_10.index t 1 = t.val / 22 % 2 ∧ win0_10.index t 2 = 0)

theorem idx_mod : ∀ t : Fin cfg0.N, (win0_1.index t 0 = 0 ∧ win0_1.index t 1 = 0 ∧ win0_1.index t 2 = 0)
    ∧ (win0_2.index t 0 = 1 ∧ win0_2.index t 1 = 0 ∧ win0_2.index t 2 = 0)
    ∧ (win0_3.index t 0 = 2 ∧ win0_3.index t 1 = 0 ∧ win0_3.index t 2 = 0)
    ∧ win0_4.index t 0 = 0 ∧ win0_4.index t 1 = 0 :=
  (by decide +kernel : ∀ t : Fin grid0.N, (win0_1.index t 0 = 0 ∧ win0_1.index t 1 = 0 ∧ win0_1.index t 2 = 0)
    ∧ (win0_2.index t 0 = 1 ∧ win0_2.index t 1 = 0 ∧ win0_2.index t 2 = 0)
    ∧ (win0_3.index t 0 = 2 ∧ win0_3.index t 1 = 0 ∧ win0_3.index t 2 = 0)
    ∧ win0_4.index t 0 = 0 ∧ win0_4.index t 1 = 0)

theorem idx_weights : ∀ t : Fin cfg0.N, (win0_5.index t 0 = 0 ∧ win0_5.index t 1 = t.val % 22)
    ∧ (win0_6.index t 0 = 0 ∧ win0_6.index t 1 = t.val % 22 + 22)
    ∧ win0_7.index t 0 = t.val % 22 ∧ win0_7.index t 1 = 0 :=
  (by decide +kernel : ∀ t : Fin grid0.N, (win0_5.index t 0 = 0 ∧ win0_5.index t 1 = t.val % 22)
    ∧ (win0_6.index t 0 = 0 ∧ win0_6.index t 1 = t.val % 22 + 22)
    ∧ win0_7.index t 0 = t.val % 22 ∧ win0_7.index t 1 = 0)

theorem idx_copy : ∀ t : Fin cfg0.N,
    (win0_8.index t 0 = 1 ∧ win0_8.index t 1 = 1 ∧ win0_8.index t 2 = t.val / 22 ∧ win0_8.index t 3 = t.val % 22)
    ∧ (win0_9.index t 0 = 1 ∧ win0_9.index t 1 = 1 ∧ win0_9.index t 2 = t.val ∧ win0_9.index t 3 = 0)
    ∧ (win0_11.index t 0 = t.val / 22 ∧ win0_11.index t 1 = t.val % 22)
    ∧ win0_12.index t 0 = t.val ∧ win0_12.index t 1 = 0 :=
  (by decide +kernel : ∀ t : Fin grid0.N,
    (win0_8.index t 0 = 1 ∧ win0_8.index t 1 = 1 ∧ win0_8.index t 2 = t.val / 22 ∧ win0_8.index t 3 = t.val % 22)
    ∧ (win0_9.index t 0 = 1 ∧ win0_9.index t 1 = 1 ∧ win0_9.index t 2 = t.val ∧ win0_9.index t 3 = 0)
    ∧ (win0_11.index t 0 = t.val / 22 ∧ win0_11.index t 1 = t.val % 22)
    ∧ win0_12.index t 0 = t.val ∧ win0_12.index t 1 = 0)

theorem tile_read (p : Fin 1024) (d : Fin 2048) : (iblk m c 0 t : FVec Ideal S1x1024x2048 .f32) (ix3 0 p d)
    = m ((c : Thread nD τ).loc main_arg0) (ix3 (bi (t.val / 22)) (si (t.val / 22) p) d) := by
  obtain ⟨e0, e1, e2⟩ := (idx_tile t).2.1
  unfold iblk
  rw [View.read_apply]
  show V m c main_arg0 _ = _
  rw [V_main_arg0]
  refine at3 (n0 := 4) (n1 := 2048) (n2 := 2048) _ _ _ _ _ ?_ ?_ ?_
  · show win0_0.index t 0 * 1 + 1 * 0 = t.val / 22 / 2 % 4; rw [e0]; omega
  · show win0_0.index t 1 * 1024 + 1 * p.val = 1024 * (t.val / 22 % 2) + p.val; rw [e1]; omega
  · show win0_0.index t 2 * 2048 + 1 * d.val = d.val; rw [e2]; omega

theorem off1_val (i : grid0.Coords) : k0_off1 i 1 = (i 0).val := by rw [k0_off1_eq]; rfl
theorem off2_val (i : grid0.Coords) : k0_off2 i 1 = (i 0).val := by rw [k0_off2_eq]; rfl

/-- A modulation row of the point's member. -/
abbrev mrow (k : Fin 9) (n : ℕ) : Row := fun d => m ((c : Thread nD τ).loc main_arg1) (ix3 k ((bi n).castLE (by decide)) d)

theorem shift_read (hc : cond0_0 (grid0.coords t)) (d : Fin 2048) : rowA t hc (iblk m c 1 t) (ix3 0 0 d) = mrow m c 0 (t.val / 22) d := by
  obtain ⟨e0, e1, e2⟩ := (idx_mod t).1
  have eg := (idx_tile t).1
  show (iblk m c 1 t : FVec Ideal S1x8x2048 .f32) _ = _
  unfold iblk
  rw [View.read_apply]
  show V m c main_arg1 _ = _
  rw [V_main_arg1]
  refine at3 (n0 := 9) (n1 := 8) (n2 := 2048) _ _ _ _ _ ?_ ?_ ?_
  · show win0_1.index t 0 * 1 + 1 * (0 + 1 * 0) = 0; rw [e0]
  · show win0_1.index t 1 * 8 + 1 * (k0_off1 (grid0.coords t) 1 + 1 * 0) = t.val / 22 / 2 % 4; rw [e1, off1_val, eg]; omega
  · show win0_1.index t 2 * 2048 + 1 * (0 + 1 * d.val) = d.val; rw [e2]; omega

theorem scale_read (hc : cond0_0 (grid0.coords t)) (d : Fin 2048) : rowA t hc (iblk m c 2 t) (ix3 0 0 d) = mrow m c 1 (t.val / 22) d := by
  obtain ⟨e0, e1, e2⟩ := (idx_mod t).2.1
  have eg := (idx_tile t).1
  show (iblk m c 2 t : FVec Ideal S1x8x2048 .f32) _ = _
  unfold iblk
  rw [View.read_apply]
  show V m c main_arg1 _ = _
  rw [V_main_arg1]
  refine at3 (n0 := 9) (n1 := 8) (n2 := 2048) _ _ _ _ _ ?_ ?_ ?_
  · show win0_2.index t 0 * 1 + 1 * (0 + 1 * 0) = 1; rw [e0]
  · show win0_2.index t 1 * 8 + 1 * (k0_off1 (grid0.coords t) 1 + 1 * 0) = t.val / 22 / 2 % 4; rw [e1, off1_val, eg]; omega
  · show win0_2.index t 2 * 2048 + 1 * (0 + 1 * d.val) = d.val; rw [e2]; omega

theorem gate_read (inb) (d : Fin 2048) :
    View.ld (iblk m c 3 t : FVec Ideal S1x8x2048 .f32) (Rect.unit (k0_off2 (grid0.coords t)) S1x1x2048.size inb) (ix3 0 0 d)
      = mrow m c 2 (t.val / 22) d := by
  obtain ⟨e0, e1, e2⟩ := (idx_mod t).2.2.1
  have eg := (idx_tile t).1
  show (iblk m c 3 t : FVec Ideal S1x8x2048 .f32) _ = _
  unfold iblk
  rw [View.read_apply]
  show V m c main_arg1 _ = _
  rw [V_main_arg1]
  refine at3 (n0 := 9) (n1 := 8) (n2 := 2048) _ _ _ _ _ ?_ ?_ ?_
  · show win0_3.index t 0 * 1 + 1 * (0 + 1 * 0) = 2; rw [e0]
  · show win0_3.index t 1 * 8 + 1 * (k0_off2 (grid0.coords t) 1 + 1 * 0) = t.val / 22 / 2 % 4; rw [e1, off2_val, eg]; omega
  · show win0_3.index t 2 * 2048 + 1 * (0 + 1 * d.val) = d.val; rw [e2]; omega

/-- The norm gain reaches the region as a row. -/
theorem V_gain : V m c main_v0 = shapeCast S1x2048 (m ((c : Thread nD τ).loc main_arg2)) shapeCasts_S2048_S1x2048 := by
  simp only [V, StableHlo.after_cons, StableHlo.after_nil]
  rw [StableHlo.reshape_result]
  rfl

theorem gain_read (d : Fin 2048) : (iblk m c 4 t : FVec Ideal S1x2048 .f32) (ix2 0 d) = m ((c : Thread nD τ).loc main_arg2) (ix1 d) := by
  obtain ⟨e0, e1⟩ := (idx_mod t).2.2.2
  refine Eq.trans ?_ (vec_read (m ((c : Thread nD τ).loc main_arg2)) d)
  unfold iblk
  rw [View.read_apply]
  show V m c main_v0 _ = _
  rw [V_gain]
  refine at2 (n0 := 1) (n1 := 2048) _ _ _ _ ?_ ?_
  · show win0_4.index t 0 * 1 + 1 * 0 = 0; rw [e0]
  · show win0_4.index t 1 * 2048 + 1 * d.val = d.val; rw [e1]; omega

theorem reads_weights : ReadsWeights (N := cfg0.N) (fun t => iblk m c 5 t) (fun t => iblk m c 6 t) (fun t => iblk m c 7 t)
    (m ((c : Thread nD τ).loc main_arg3)) (m ((c : Thread nD τ).loc main_arg4)) := fun t => by
  obtain ⟨⟨e0, e1⟩, ⟨f0, f1⟩, g0, g1⟩ := idx_weights t
  refine ⟨fun k f => ?_, fun k f => ?_, fun f q => ?_⟩
  · show (iblk m c 5 t : FVec Ideal S2048x256 .bf16) _ = _
    unfold iblk
    rw [View.read_apply]
    show V m c main_arg3 _ = _
    rw [V_main_arg3]
    refine at2 (n0 := 2048) (n1 := 11264) _ _ _ _ ?_ ?_
    · show win0_5.index t 0 * 2048 + 1 * k.val = k.val; rw [e0]; omega
    · show win0_5.index t 1 * 256 + 1 * f.val = 256 * (t.val % 22) + f.val; rw [e1]; omega
  · show (iblk m c 6 t : FVec Ideal S2048x256 .bf16) _ = _
    unfold iblk
    rw [View.read_apply]
    show V m c main_arg3 _ = _
    rw [V_main_arg3]
    refine at2 (n0 := 2048) (n1 := 11264) _ _ _ _ ?_ ?_
    · show win0_6.index t 0 * 2048 + 1 * k.val = k.val; rw [f0]; omega
    · show win0_6.index t 1 * 256 + 1 * f.val = 5632 + (256 * (t.val % 22) + f.val); rw [f1]; omega
  · show (iblk m c 7 t : FVec Ideal S256x2048 .bf16) _ = _
    unfold iblk
    rw [View.read_apply]
    show V m c main_arg4 _ = _
    rw [V_main_arg4]
    refine at2 (n0 := 5632) (n1 := 2048) _ _ _ _ ?_ ?_
    · show win0_7.index t 0 * 256 + 1 * f.val = 256 * (t.val % 22) + f.val; rw [g0]; omega
    · show win0_7.index t 1 * 2048 + 1 * q.val = q.val; rw [g1]; omega

theorem up_read (a : Fin 256) (b : Fin 512) : (iblk m c 8 t : FVec Ideal S1x1x256x512 .f32) (ix4 0 0 a b)
    = m ((c : Thread nD τ).loc main_arg5) (ix4 1 1 ⟨256 * (t.val / 22) + a.val, by have := t.isLt; have : cfg0.N = 176 := rfl; omega⟩
        ⟨512 * (t.val % 22) + b.val, by omega⟩) := by
  obtain ⟨e0, e1, e2, e3⟩ := (idx_copy t).1
  unfold iblk
  rw [View.read_apply]
  show V m c main_arg5 _ = _
  rw [V_main_arg5]
  refine at4 (n0 := 2) (n1 := 2) (n2 := 2048) (n3 := 11264) _ _ _ _ _ _ ?_ ?_ ?_ ?_
  · show win0_8.index t 0 * 1 + 1 * 0 = 1; rw [e0]
  · show win0_8.index t 1 * 1 + 1 * 0 = 1; rw [e1]
  · show win0_8.index t 2 * 256 + 1 * a.val = 256 * (t.val / 22) + a.val; rw [e2]; omega
  · show win0_8.index t 3 * 512 + 1 * b.val = 512 * (t.val % 22) + b.val; rw [e3]; omega

theorem down_read (a : Fin 32) (b : Fin 2048) : (iblk m c 9 t : FVec Ideal S1x1x32x2048 .f32) (ix4 0 0 a b)
    = m ((c : Thread nD τ).loc main_arg6) (ix4 1 1 ⟨32 * t.val + a.val, by have := t.isLt; have : cfg0.N = 176 := rfl; omega⟩ b) := by
  obtain ⟨e0, e1, e2, e3⟩ := (idx_copy t).2.1
  unfold iblk
  rw [View.read_apply]
  show V m c main_arg6 _ = _
  rw [V_main_arg6]
  refine at4 (n0 := 2) (n1 := 2) (n2 := 5632) (n3 := 2048) _ _ _ _ _ _ ?_ ?_ ?_ ?_
  · show win0_9.index t 0 * 1 + 1 * 0 = 1; rw [e0]
  · show win0_9.index t 1 * 1 + 1 * 0 = 1; rw [e1]
  · show win0_9.index t 2 * 32 + 1 * a.val = 32 * t.val + a.val; rw [e2]; omega
  · show win0_9.index t 3 * 2048 + 1 * b.val = b.val; rw [e3]; omega

/-! ## The sweep over the blocks of hidden units -/

/-- The activations' row `p` of sweep `n`'s tile. -/
abbrev xrow (n : ℕ) (p : Fin 1024) : Row := fun d => m ((c : Thread nD τ).loc main_arg0) (ix3 (bi n) (si n p) d)

theorem swept (h21 : t.val % 22 = 21) (p : Fin 1024) (q : Fin 2048) : (outsAt0 m c t.val t.isLt).1 (ix3 0 p q)
    = sub (xrow m c (t.val / 22) p) (fun d => m ((c : Thread nD τ).loc main_arg2) (ix1 d)) (mrow m c 0 (t.val / 22))
        (mrow m c 1 (t.val / 22)) (mrow m c 2 (t.val / 22)) (m ((c : Thread nD τ).loc main_arg3)) (m ((c : Thread nD τ).loc main_arg4)) q :=
  sweep (N := cfg0.N) (fun n hn => (outsAt0 m c n hn).1) (fun n hn => (outsAt0 m c n hn).2.2.2)
    (fun t => iblk m c 5 t) (fun t => iblk m c 6 t) (fun t => iblk m c 7 t) (xrow m c) (fun d => m ((c : Thread nD τ).loc main_arg2) (ix1 d))
    (mrow m c 0) (mrow m c 1) (mrow m c 2) _ _ (reads_weights m c)
    (fun t h0 => ⟨fun p k => (congrFun (scratch_A m c t h0) _).trans ((pay1_apply _ _ _ _ p k).trans
        (modrow_congr (tile_read m c t p) (gain_read m c t) (shift_read m c t _) (scale_read m c t _) k)),
      (out_A m c t h0).trans (congrArg (fun u => k0_pay5 (F := Ideal) u _ _ _ _) (scratch_A m c t h0).symm)⟩)
    (fun t h0 h1 => ⟨scratch_next m c t h0, out_B m c t h0 h1⟩)
    (fun t h0 h1 p q => (congrFun (out_C m c t h0 h1) _).trans ((resid_apply _ _ _ p q).trans
      (congrFun (res_congr (tile_read m c t p) (gate_read m c t _) fun _ => rfl) q)))
    t.val t.isLt h21 p q

/-! ## The result arrays -/

theorem flushed_eq (hf : (cfg0.win 10).flush t = true) :
    (dats m 0 c).flushed 10 t = ((cfg0.win 10).blk t).view.read (Elt Ideal) (G m c) := by
  have h21 : t.val % 22 = 21 := (flush0_10 t).mp hf
  obtain ⟨e0, e1, e2⟩ := (idx_tile t).2.2
  rw [Value.flushed10]
  funext j
  have hj0 : (j 0).val < 1 := (j 0).isLt
  rw [View.read_apply]
  have hl : (outsAt0 m c t.val t.isLt).1 ((cfg0.win 10).xinj (grid0.coords t) j) = (outsAt0 m c t.val t.isLt).1 (ix3 0 (j 1) (j 2)) :=
    at3 (n0 := 1) (n1 := 1024) (n2 := 2048) _ _ _ _ _ (by show (j 0).val = 0; omega) rfl rfl
  refine hl.trans ((swept m c t h21 (j 1) (j 2)).trans (Eq.symm ?_))
  refine (at3 (n0 := 4) (n1 := 2048) (n2 := 2048) (G m c) _ (bi (t.val / 22)) (si (t.val / 22) (j 1)) (j 2) ?_ ?_ ?_).trans rfl
  · show win0_10.index t 0 * 1 + 1 * (j 0).val = t.val / 22 / 2 % 4; rw [e0]; omega
  · show win0_10.index t 1 * 1024 + 1 * (j 1).val = 1024 * (t.val / 22 % 2) + (j 1).val; rw [e1]; omega
  · show win0_10.index t 2 * 2048 + 1 * (j 2).val = (j 2).val; rw [e2]; omega

theorem final : (dats m 0 c).arrAt 10 cfg0.N = G m c :=
  (dats m 0 c).arrAt_eq_of_cover 10 (G m c) (fun t hf => flushed_eq m c t hf) (fun i => (Value.covered_iff10 i).2 (by
    have h0 : (i 0).val < 4 := (i 0).isLt
    have h1 : (i 1).val < 2048 := (i 1).isLt
    have h2 : (i 2).val < 2048 := (i 2).isLt
    omega))

theorem flushed_up : (dats m 0 c).flushed 11 t = ((cfg0.win 11).blk t).view.read (Elt Ideal) (GUp m c) := by
  obtain ⟨e0, e1⟩ := (idx_copy t).2.2.1
  rw [Value.flushed11, copy_up]
  funext j
  rw [View.read_apply]
  have hl : k0_pay6 (F := Ideal) (iblk m c 8 t) ((cfg0.win 11).xinj (grid0.coords t) j) = k0_pay6 (F := Ideal) (iblk m c 8 t) (ix2 (j 0) (j 1)) :=
    at2 (n0 := 256) (n1 := 512) _ _ _ _ rfl rfl
  refine hl.trans ((copy_up_apply _ _ _).trans ((up_read m c t (j 0) (j 1)).trans (Eq.symm ?_)))
  refine (at2 (n0 := 2048) (n1 := 11264) (GUp m c) _ _ _ ?_ ?_).trans rfl
  · show win0_11.index t 0 * 256 + 1 * (j 0).val = 256 * (t.val / 22) + (j 0).val; rw [e0]; omega
  · show win0_11.index t 1 * 512 + 1 * (j 1).val = 512 * (t.val % 22) + (j 1).val; rw [e1]; omega

theorem final_up : (dats m 0 c).arrAt 11 cfg0.N = GUp m c :=
  (dats m 0 c).arrAt_eq_of_cover 11 (GUp m c) (fun t _ => flushed_up m c t) (fun i => (Value.covered_iff11 i).2 (by
    have h0 : (i 0).val < 2048 := (i 0).isLt
    have h1 : (i 1).val < 11264 := (i 1).isLt
    omega))

theorem flushed_down : (dats m 0 c).flushed 12 t = ((cfg0.win 12).blk t).view.read (Elt Ideal) (GDown m c) := by
  obtain ⟨e0, e1⟩ := (idx_copy t).2.2.2
  rw [Value.flushed12, copy_down]
  funext j
  rw [View.read_apply]
  have hl : k0_pay1 (F := Ideal) (iblk m c 9 t) ((cfg0.win 12).xinj (grid0.coords t) j) = k0_pay1 (F := Ideal) (iblk m c 9 t) (ix2 (j 0) (j 1)) :=
    at2 (n0 := 32) (n1 := 2048) _ _ _ _ rfl rfl
  refine hl.trans ((copy_down_apply _ _ _).trans ((down_read m c t (j 0) (j 1)).trans (Eq.symm ?_)))
  refine (at2 (n0 := 5632) (n1 := 2048) (GDown m c) _ _ _ ?_ ?_).trans rfl
  · show win0_12.index t 0 * 32 + 1 * (j 0).val = 32 * t.val + (j 0).val; rw [e0]; omega
  · show win0_12.index t 1 * 2048 + 1 * (j 1).val = (j 1).val; rw [e1]; omega

theorem final_down : (dats m 0 c).arrAt 12 cfg0.N = GDown m c :=
  (dats m 0 c).arrAt_eq_of_cover 12 (GDown m c) (fun t _ => flushed_down m c t) (fun i => (Value.covered_iff12 i).2 (by
    have h0 : (i 0).val < 5632 := (i 0).isLt
    have h1 : (i 1).val < 2048 := (i 1).isLt
    omega))

end Cert.OpenIdeal.Sweep
-- ==== Proof.EnterStep.lean ====
/-
  The SwiGLU sublayer that enters the model: what each grid point leaves in the four output blocks and in the
  scratch, as the payloads over the blocks it reads and over what the point before left.
-/
module

public import proofs.«01_k».proof.Proof.Sweep
public import proofs.«01_k».proof.Proof.CloseStep
public import proofs.«01_k».proof.Proof.Gen.EnterIdeal.Value

@[expose] public section

set_option maxRecDepth 16384

noncomputable section

open Idealize.ShloMosaic Idealize.ShloMosaic.TcCoe Idealize.SL.Sem Idealize.ShloMosaic.ValueIdx
open Idealize.ShloMosaic.Pipeline (Dat)

namespace Cert.EnterIdeal.Sweep

open Cert.EnterIdeal Cert.EnterIdeal.Gen
open Cert.LastIdeal.Sweep (hz2 hz3)
open Cert.CloseIdeal.Sweep (hz4)

variable (m : (ℓ : Loc nD τ sig) → Buf (Elt Ideal) ℓ) (c : Dev nD) (t : Fin cfg0.N)

/-- The row of a modulation block that a point reads. -/
abbrev rowA (hc : cond0_0 (grid0.coords t)) (v : Vec Ideal S1x8x2048 .f32) : Vec Ideal S1x1x2048 .f32 :=
  View.ld v (Rect.unit (k0_off1 (grid0.coords t)) S1x1x2048.size (k0_off1_inb (grid0.coords t) hc))

/-- The modulated norm the first block stores. -/
abbrev unorm (hc : cond0_0 (grid0.coords t)) : Vec Ideal S1024x2048 .bf16 :=
  k0_pay4 (F := Ideal) (iblk m c 0 t) (iblk m c 4 t) (rowA t hc (iblk m c 1 t)) (rowA t hc (iblk m c 2 t))

/-- What the point before left. -/
abbrev prev := outsAt0 m c (t.val - 1) (Nat.lt_of_le_of_lt (Nat.sub_le _ _) t.isLt)

theorem scratch_A (h0 : t.val % 22 = 0) :
    (outsAt0 m c t.val t.isLt).2.2.2.2 = unorm m c t ((hcond0_0 t).mpr h0) := by
  rw [outsAt0_A m c t h0 (by omega)]
  dsimp only
  unfold sout0_A_0
  refine (View.read_writes_eq_canon _ _ _ (by apply scover0_A_0)).trans ?_
  unfold kernelRun0_A
  dsimp only
  sl_unfold_words
  rw [View.canon_unit_zero hz2]
  simp only [View.readAt_eq_ld, (hs0_0 t).read_unread, (hs0_1 t).read_unread, (hs0_2 t).read_unread, (hs0_4 t).read_unread,
    View.ld_unit_zero (S := S1x1024x2048) hz3, View.ld_unit_zero (S := S1x2048) hz2]
  rfl

theorem out_A (h0 : t.val % 22 = 0) :
    (outsAt0 m c t.val t.isLt).1 = k0_pay6 (F := Ideal) (unorm m c t ((hcond0_0 t).mpr h0)) (iblk m c 5 t) (iblk m c 6 t)
      (k0_pay5 (F := Ideal)) (iblk m c 7 t) := by
  rw [outsAt0_A m c t h0 (by omega)]
  dsimp only
  unfold out0_A_13
  refine (View.read_writes_eq_canon _ _ _ (by apply cover0_A_13)).trans ?_
  unfold kernelRun0_A
  dsimp only
  sl_unfold_words
  rw [View.canon_cons_unit_zero hz3, View.readCov_unit_zero (S := S1x1024x2048) _ hz3, View.readCov_unit_zero (S := S1024x2048) _ hz2]
  simp only [View.readAt_eq_ld, (hs0_0 t).read_unread, (hs0_1 t).read_unread, (hs0_2 t).read_unread, (hs0_4 t).read_unread,
    (hs0_5 t).read_unread, (hs0_6 t).read_unread, (hs0_7 t).read_unread,
    View.ld_unit_zero (S := S1x1024x2048) hz3, View.ld_unit_zero (S := S1x2048) hz2,
    View.ld_unit_zero (S := S2048x256) hz2, View.ld_unit_zero (S := S256x2048) hz2]
  rfl

theorem scratch_next (h0 : ¬t.val % 22 = 0) : (outsAt0 m c t.val t.isLt).2.2.2.2 = (prev m c t).2.2.2.2 := by
  by_cases h1 : t.val % 22 = 21
  · rw [outsAt0_C m c t h0 h1]; rfl
  · rw [outsAt0_B m c t h0 h1]; rfl

theorem out_B (h0 : ¬t.val % 22 = 0) (h1 : ¬t.val % 22 = 21) :
    (outsAt0 m c t.val t.isLt).1 = k0_pay6 (F := Ideal) (prev m c t).2.2.2.2 (iblk m c 5 t) (iblk m c 6 t) (prev m c t).1 (iblk m c 7 t) := by
  rw [outsAt0_B m c t h0 h1]
  dsimp only
  unfold out0_B_13
  refine (View.read_writes_eq_canon _ _ _ (by apply cover0_B_13)).trans ?_
  unfold kernelRun0_B
  dsimp only
  sl_unfold_words
  rw [View.canon_unit_zero hz3]
  simp only [View.readAt_eq_ld, (hs0_5 t).read_unread, (hs0_6 t).read_unread, (hs0_7 t).read_unread, (hs0_13 t).read_unread,
    (Memref.isWhole_whole _).read_unread,
    View.ld_unit_zero (S := S1x1024x2048) hz3, View.ld_unit_zero (S := S1024x2048) hz2,
    View.ld_unit_zero (S := S2048x256) hz2, View.ld_unit_zero (S := S256x2048) hz2]

theorem out_C (h0 : ¬t.val % 22 = 0) (h1 : t.val % 22 = 21) :
    (outsAt0 m c t.val t.isLt).1 = k0_pay3 (F := Ideal) (iblk m c 0 t)
      (View.ld (iblk m c 3 t) (Rect.unit (k0_off2 (grid0.coords t)) S1x1x2048.size (k0_off2_inb (grid0.coords t) ((hcond0_1 t).mpr h1))))
      (k0_pay6 (F := Ideal) (prev m c t).2.2.2.2 (iblk m c 5 t) (iblk m c 6 t) (prev m c t).1 (iblk m c 7 t)) := by
  rw [outsAt0_C m c t h0 h1]
  dsimp only
  unfold out0_C_13
  refine (View.read_writes_eq_canon _ _ _ (by apply cover0_C_13)).trans ?_
  unfold kernelRun0_C
  dsimp only
  sl_unfold_words
  rw [View.canon_cons_unit_zero hz3, View.readCov_unit_zero (S := S1x1024x2048) _ hz3]
  simp only [View.readAt_eq_ld, (hs0_0 t).read_unread, (hs0_3 t).read_unread, (hs0_5 t).read_unread, (hs0_6 t).read_unread,
    (hs0_7 t).read_unread, (hs0_13 t).read_unread, (Memref.isWhole_whole _).read_unread,
    View.ld_unit_zero (S := S1x1024x2048) hz3, View.ld_unit_zero (S := S1024x2048) hz2,
    View.ld_unit_zero (S := S2048x256) hz2, View.ld_unit_zero (S := S256x2048) hz2]
  rfl

/-- Every point rounds its block of the next up weights, -/
theorem copy_up : (outsAt0 m c t.val t.isLt).2.1 = k0_pay7 (F := Ideal) (iblk m c 8 t) := by
  by_cases h0 : t.val % 22 = 0
  · rw [outsAt0_A m c t h0 (by omega)]
    dsimp only
    unfold out0_A_14
    refine (View.read_writes_eq_canon _ _ _ (by apply cover0_A_14)).trans ?_
    unfold kernelRun0_A
    dsimp only
    sl_unfold_words
    rw [View.canon_unit_zero hz2]
    simp only [View.readAt_eq_ld, (hs0_8 t).read_unread, View.ld_unit_zero (S := S1x1x256x512) hz4]
  · by_cases h1 : t.val % 22 = 21
    · rw [outsAt0_C m c t h0 h1]
      dsimp only
      unfold out0_C_14
      refine (View.read_writes_eq_canon _ _ _ (by apply cover0_C_14)).trans ?_
      unfold kernelRun0_C
      dsimp only
      sl_unfold_words
      rw [View.canon_unit_zero hz2]
      simp only [View.readAt_eq_ld, (hs0_8 t).read_unread, View.ld_unit_zero (S := S1x1x256x512) hz4]
    · rw [outsAt0_B m c t h0 h1]
      dsimp only
      unfold out0_B_14
      refine (View.read_writes_eq_canon _ _ _ (by apply cover0_B_14)).trans ?_
      unfold kernelRun0_B
      dsimp only
      sl_unfold_words
      rw [View.canon_unit_zero hz2]
      simp only [View.readAt_eq_ld, (hs0_8 t).read_unread, View.ld_unit_zero (S := S1x1x256x512) hz4]

/-- and its block of the next down weights. -/
theorem copy_down : (outsAt0 m c t.val t.isLt).2.2.1 = k0_pay1 (F := Ideal) (iblk m c 9 t) := by
  by_cases h0 : t.val % 22 = 0
  · rw [outsAt0_A m c t h0 (by omega)]
    dsimp only
    unfold out0_A_15
    refine (View.read_writes_eq_canon _ _ _ (by apply cover0_A_15)).trans ?_
    unfold kernelRun0_A
    dsimp only
    sl_unfold_words
    rw [View.canon_unit_zero hz2]
    simp only [View.readAt_eq_ld, (hs0_9 t).read_unread, View.ld_unit_zero (S := S1x1x32x2048) hz4]
  · by_cases h1 : t.val % 22 = 21
    · rw [outsAt0_C m c t h0 h1]
      dsimp only
      unfold out0_C_15
      refine (View.read_writes_eq_canon _ _ _ (by apply cover0_C_15)).trans ?_
      unfold kernelRun0_C
      dsimp only
      sl_unfold_words
      rw [View.canon_unit_zero hz2]
      simp only [View.readAt_eq_ld, (hs0_9 t).read_unread, View.ld_unit_zero (S := S1x1x32x2048) hz4]
    · rw [outsAt0_B m c t h0 h1]
      dsimp only
      unfold out0_B_15
      refine (View.read_writes_eq_canon _ _ _ (by apply cover0_B_15)).trans ?_
      unfold kernelRun0_B
      dsimp only
      sl_unfold_words
      rw [View.canon_unit_zero hz2]
      simp only [View.readAt_eq_ld, (hs0_9 t).read_unread, View.ld_unit_zero (S := S1x1x32x2048) hz4]

/-- Every point computes its slab of the next layer's modulation. -/
theorem slab : (outsAt0 m c t.val t.isLt).2.2.2.1 = k0_pay2 (F := Ideal) (iblk m c 10 t) (iblk m c 11 t) (iblk m c 12 t) := by
  by_cases h0 : t.val % 22 = 0
  · rw [outsAt0_A m c t h0 (by omega)]
    dsimp only
    unfold out0_A_16
    refine (View.read_writes_eq_canon _ _ _ (by apply cover0_A_16)).trans ?_
    unfold kernelRun0_A
    dsimp only
    sl_unfold_words
    rw [View.canon_unit_zero hz3]
    simp only [View.readAt_eq_ld, (hs0_10 t).read_unread, (hs0_11 t).read_unread, (hs0_12 t).read_unread,
      View.ld_unit_zero (S := S8x2048) hz2, View.ld_unit_zero (S := S1x2048x128) hz3, View.ld_unit_zero (S := S1x1x128) hz3]
  · by_cases h1 : t.val % 22 = 21
    · rw [outsAt0_C m c t h0 h1]
      dsimp only
      unfold out0_C_16
      refine (View.read_writes_eq_canon _ _ _ (by apply cover0_C_16)).trans ?_
      unfold kernelRun0_C
      dsimp only
      sl_unfold_words
      rw [View.canon_unit_zero hz3]
      simp only [View.readAt_eq_ld, (hs0_10 t).read_unread, (hs0_11 t).read_unread, (hs0_12 t).read_unread,
        View.ld_unit_zero (S := S8x2048) hz2, View.ld_unit_zero (S := S1x2048x128) hz3, View.ld_unit_zero (S := S1x1x128) hz3]
    · rw [outsAt0_B m c t h0 h1]
      dsimp only
      unfold out0_B_16
      refine (View.read_writes_eq_canon _ _ _ (by apply cover0_B_16)).trans ?_
      unfold kernelRun0_B
      dsimp only
      sl_unfold_words
      rw [View.canon_unit_zero hz3]
      simp only [View.readAt_eq_ld, (hs0_10 t).read_unread, (hs0_11 t).read_unread, (hs0_12 t).read_unread,
        View.ld_unit_zero (S := S8x2048) hz2, View.ld_unit_zero (S := S1x2048x128) hz3, View.ld_unit_zero (S := S1x1x128) hz3]

end Cert.EnterIdeal.Sweep
-- ==== Proof.EnterValue.lean ====
/-
  The SwiGLU sublayer that enters the model: what the kernel `EnterIdeal` leaves in its four result arrays, as
  functions of its argument arrays — the sublayer on every row, the rounded copies of the next
  sublayer's weights, and the modulation of the second layer.
-/
module

public import proofs.«01_k».proof.Proof.EnterStep
public import proofs.«01_k».proof.Proof.LastValue

@[expose] public section

set_option maxRecDepth 16384

noncomputable section

open Idealize.ShloMosaic Idealize.ShloMosaic.TcCoe Idealize.SL.Sem Idealize.ShloMosaic.ValueIdx
open Idealize.ShloMosaic.Pipeline (Dat)

namespace Cert.EnterIdeal.Sweep

open Cert.EnterIdeal Cert.EnterIdeal.Gen Cert.Ffn
open Cert.LastIdeal.Sweep (bi si vec_read)

variable (m : (ℓ : Loc nD τ sig) → Buf (Elt Ideal) ℓ) (ρ : Dev nD → PrngReg) (c : Dev nD) (t : Fin cfg0.N)

/-- The contents of the result arrays, from device `c`'s argument arrays. -/
abbrev G : Buf (Elt Ideal) ((c : Thread nD τ).loc main_v1_0) :=
  layer 0 1 2 (m ((c : Thread nD τ).loc main_arg0)) (m ((c : Thread nD τ).loc main_arg1)) (m ((c : Thread nD τ).loc main_arg2))
    (m ((c : Thread nD τ).loc main_arg3)) (m ((c : Thread nD τ).loc main_arg4))
abbrev GUp : Buf (Elt Ideal) ((c : Thread nD τ).loc main_v1_1) := pick (n0 := 2048) (n1 := 11264) 0 1 (m ((c : Thread nD τ).loc main_arg5))
abbrev GDown : Buf (Elt Ideal) ((c : Thread nD τ).loc main_v1_2) := pick (n0 := 5632) (n1 := 2048) 0 1 (m ((c : Thread nD τ).loc main_arg6))

abbrev GMod : Buf (Elt Ideal) ((c : Thread nD τ).loc main_v1_3) :=
  modulation (m ((c : Thread nD τ).loc main_arg7)) (m ((c : Thread nD τ).loc main_arg8)) (m ((c : Thread nD τ).loc main_arg9))

/-! ## The blocks that cover the result arrays -/

theorem mem13 (t : Fin cfg0.N) (i : main_v1_0.ty.Idx) : i ∈ ((cfg0.win 13).blk t).view.set
    ↔ ∀ a, win0_13.index t a * S1x1024x2048.size a ≤ (i a).val ∧ (i a).val < win0_13.index t a * S1x1024x2048.size a + S1x1024x2048.size a := by
  show i ∈ ((View.whole main_v1_0).slice (win0_13.rect t)).set ↔ _
  rw [View.set_slice_whole, Rect.mem_set_unit]

theorem mem14 (t : Fin cfg0.N) (i : main_v1_1.ty.Idx) : i ∈ ((cfg0.win 14).blk t).view.set
    ↔ ∀ a, win0_14.index t a * S256x512.size a ≤ (i a).val ∧ (i a).val < win0_14.index t a * S256x512.size a + S256x512.size a := by
  show i ∈ ((View.whole main_v1_1).slice (win0_14.rect t)).set ↔ _
  rw [View.set_slice_whole, Rect.mem_set_unit]

theorem mem15 (t : Fin cfg0.N) (i : main_v1_2.ty.Idx) : i ∈ ((cfg0.win 15).blk t).view.set
    ↔ ∀ a, win0_15.index t a * S32x2048.size a ≤ (i a).val ∧ (i a).val < win0_15.index t a * S32x2048.size a + S32x2048.size a := by
  show i ∈ ((View.whole main_v1_2).slice (win0_15.rect t)).set ↔ _
  rw [View.set_slice_whole, Rect.mem_set_unit]

theorem mem16 (t : Fin cfg0.N) (i : main_v1_3.ty.Idx) : i ∈ ((cfg0.win 16).blk t).view.set
    ↔ ∀ a, win0_16.index t a * S1x8x128.size a ≤ (i a).val ∧ (i a).val < win0_16.index t a * S1x8x128.size a + S1x8x128.size a := by
  show i ∈ ((View.whole main_v1_3).slice (win0_16.rect t)).set ↔ _
  rw [View.set_slice_whole, Rect.mem_set_unit]

theorem lt_N {n : ℕ} (h : n < 176) : n < cfg0.N := h

/-! ## The blocks the points read -/

theorem idx_tile : ∀ t : Fin cfg0.N, (grid0.coords t 0).val = t.val / 22 / 2 % 4
    ∧ (win0_0.index t 0 = t.val / 22 / 2 % 4 ∧ win0_0.index t 1 = t.val / 22 % 2 ∧ win0_0.index t 2 = 0)
    ∧ win0_13.index t 0 = t.val / 22 / 2 % 4 ∧ win0_13.index t 1 = t.val / 22 % 2 ∧ win0_13.index t 2 = 0 :=
  (by decide +kernel : ∀ t : Fin grid0.N, (grid0.coords t 0).val = t.val / 22 / 2 % 4
    ∧ (win0_0.index t 0 = t.val / 22 / 2 % 4 ∧ win0_0.index t 1 = t.val / 22 % 2 ∧ win0_0.index t 2 = 0)
    ∧ win0_13.index t 0 = t.val / 22 / 2 % 4 ∧ win0_13.index t 1 = t.val / 22 % 2 ∧ win0_13.index t 2 = 0)

theorem idx_mod : ∀ t : Fin cfg0.N, (win0_1.index t 0 = 0 ∧ win0_1.index t 1 = 0 ∧ win0_1.index t 2 = 0)
    ∧ (win0_2.index t 0 = 1 ∧ win0_2.index t 1 = 0 ∧ win0_2.index t 2 = 0)
    ∧ (win0_3.index t 0 = 2 ∧ win0_3.index t 1 = 0 ∧ win0_3.index t 2 = 0)
    ∧ win0_4.index t 0 = 0 ∧ win0_4.index t 1 = 0 :=
  (by decide +kernel : ∀ t : Fin grid0.N, (win0_1.index t 0 = 0 ∧ win0_1.index t 1 = 0 ∧ win0_1.index t 2 = 0)
    ∧ (win0_2.index t 0 = 1 ∧ win0_2.index t 1 = 0 ∧ win0_2.index t 2 = 0)
    ∧ (win0_3.index t 0 = 2 ∧ win0_3.index t 1 = 0 ∧ win0_3.index t 2 = 0)
    ∧ win0_4.index t 0 = 0 ∧ win0_4.index t 1 = 0)

theorem idx_weights : ∀ t : Fin cfg0.N, (win0_5.index t 0 = 0 ∧ win0_5.index t 1 = t.val % 22)
    ∧ (win0_6.index t 0 = 0 ∧ win0_6.index t 1 = t.val % 22 + 22)
    ∧ win0_7.index t 0 = t.val % 22 ∧ win0_7.index t 1 = 0 :=
  (by decide +kernel : ∀ t : Fin grid0.N, (win0_5.index t 0 = 0 ∧ win0_5.index t 1 = t.val % 22)
    ∧ (win0_6.index t 0 = 0 ∧ win0_6.index t 1 = t.val % 22 + 22)
    ∧ win0_7.index t 0 = t.val % 22 ∧ win0_7.index t 1 = 0)

theorem idx_copy : ∀ t : Fin cfg0.N,
    (win0_8.index t 0 = 0 ∧ win0_8.index t 1 = 1 ∧ win0_8.index t 2 = t.val / 22 ∧ win0_8.index t 3 = t.val % 22)
    ∧ (win0_9.index t 0 = 0 ∧ win0_9.index t 1 = 1 ∧ win0_9.index t 2 = t.val ∧ win0_9.index t 3 = 0)
    ∧ (win0_14.index t 0 = t.val / 22 ∧ win0_14.index t 1 = t.val % 22)
    ∧ win0_15.index t 0 = t.val ∧ win0_15.index t 1 = 0 :=
  (by decide +kernel : ∀ t : Fin grid0.N,
    (win0_8.index t 0 = 0 ∧ win0_8.index t 1 = 1 ∧ win0_8.index t 2 = t.val / 22 ∧ win0_8.index t 3 = t.val % 22)
    ∧ (win0_9.index t 0 = 0 ∧ win0_9.index t 1 = 1 ∧ win0_9.index t 2 = t.val ∧ win0_9.index t 3 = 0)
    ∧ (win0_14.index t 0 = t.val / 22 ∧ win0_14.index t 1 = t.val % 22)
    ∧ win0_15.index t 0 = t.val ∧ win0_15.index t 1 = 0)

theorem tile_read (p : Fin 1024) (d : Fin 2048) : (iblk m c 0 t : FVec Ideal S1x1024x2048 .f32) (ix3 0 p d)
    = m ((c : Thread nD τ).loc main_arg0) (ix3 (bi (t.val / 22)) (si (t.val / 22) p) d) := by
  obtain ⟨e0, e1, e2⟩ := (idx_tile t).2.1
  unfold iblk
  rw [View.read_apply]
  show V m c main_arg0 _ = _
  rw [V_main_arg0]
  refine at3 (n0 := 4) (n1 := 2048) (n2 := 2048) _ _ _ _ _ ?_ ?_ ?_
  · show win0_0.index t 0 * 1 + 1 * 0 = t.val / 22 / 2 % 4; rw [e0]; omega
  · show win0_0.index t 1 * 1024 + 1 * p.val = 1024 * (t.val / 22 % 2) + p.val; rw [e1]; omega
  · show win0_0.index t 2 * 2048 + 1 * d.val = d.val; rw [e2]; omega

theorem off1_val (i : grid0.Coords) : k0_off1 i 1 = (i 0).val := by rw [k0_off1_eq]; rfl
theorem off2_val (i : grid0.Coords) : k0_off2 i 1 = (i 0).val := by rw [k0_off2_eq]; rfl

/-- A modulation row of the point's member. -/
abbrev mrow (k : Fin 9) (n : ℕ) : Row := fun d => m ((c : Thread nD τ).loc main_arg1) (ix3 k ((bi n).castLE (by decide)) d)

theorem shift_read (hc : cond0_0 (grid0.coords t)) (d : Fin 2048) : rowA t hc (iblk m c 1 t) (ix3 0 0 d) = mrow m c 0 (t.val / 22) d := by
  obtain ⟨e0, e1, e2⟩ := (idx_mod t).1
  have eg := (idx_tile t).1
  show (iblk m c 1 t : FVec Ideal S1x8x2048 .f32) _ = _
  unfold iblk
  rw [View.read_apply]
  show V m c main_arg1 _ = _
  rw [V_main_arg1]
  refine at3 (n0 := 9) (n1 := 8) (n2 := 2048) _ _ _ _ _ ?_ ?_ ?_
  · show win0_1.index t 0 * 1 + 1 * (0 + 1 * 0) = 0; rw [e0]
  · show win0_1.index t 1 * 8 + 1 * (k0_off1 (grid0.coords t) 1 + 1 * 0) = t.val / 22 / 2 % 4; rw [e1, off1_val, eg]; omega
  · show win0_1.index t 2 * 2048 + 1 * (0 + 1 * d.val) = d.val; rw [e2]; omega

theorem scale_read (hc : cond0_0 (grid0.coords t)) (d : Fin 2048) : rowA t hc (iblk m c 2 t) (ix3 0 0 d) = mrow m c 1 (t.val / 22) d := by
  obtain ⟨e0, e1, e2⟩ := (idx_mod t).2.1
  have eg := (idx_tile t).1
  show (iblk m c 2 t : FVec Ideal S1x8x2048 .f32) _ = _
  unfold iblk
  rw [View.read_apply]
  show V m c main_arg1 _ = _
  rw [V_main_arg1]
  refine at3 (n0 := 9) (n1 := 8) (n2 := 2048) _ _ _ _ _ ?_ ?_ ?_
  · show win0_2.index t 0 * 1 + 1 * (0 + 1 * 0) = 1; rw [e0]
  · show win0_2.index t 1 * 8 + 1 * (k0_off1 (grid0.coords t) 1 + 1 * 0) = t.val / 22 / 2 % 4; rw [e1, off1_val, eg]; omega
  · show win0_2.index t 2 * 2048 + 1 * (0 + 1 * d.val) = d.val; rw [e2]; omega

theorem gate_read (inb) (d : Fin 2048) :
    View.ld (iblk m c 3 t : FVec Ideal S1x8x2048 .f32) (Rect.unit (k0_off2 (grid0.coords t)) S1x1x2048.size inb) (ix3 0 0 d)
      = mrow m c 2 (t.val / 22) d := by
  obtain ⟨e0, e1, e2⟩ := (idx_mod t).2.2.1
  have eg := (idx_tile t).1
  show (iblk m c 3 t : FVec Ideal S1x8x2048 .f32) _ = _
  unfold iblk
  rw [View.read_apply]
  show V m c main_arg1 _ = _
  rw [V_main_arg1]
  refine at3 (n0 := 9) (n1 := 8) (n2 := 2048) _ _ _ _ _ ?_ ?_ ?_
  · show win0_3.index t 0 * 1 + 1 * (0 + 1 * 0) = 2; rw [e0]
  · show win0_3.index t 1 * 8 + 1 * (k0_off2 (grid0.coords t) 1 + 1 * 0) = t.val / 22 / 2 % 4; rw [e1, off2_val, eg]; omega
  · show win0_3.index t 2 * 2048 + 1 * (0 + 1 * d.val) = d.val; rw [e2]; omega

/-- The norm gain reaches the region as a row. -/
theorem V_gain : V m c main_v0 = shapeCast S1x2048 (m ((c : Thread nD τ).loc main_arg2)) shapeCasts_S2048_S1x2048 := by
  simp only [V, StableHlo.after_cons, StableHlo.after_nil]
  rw [StableHlo.reshape_result]
  rfl

theorem gain_read (d : Fin 2048) : (iblk m c 4 t : FVec Ideal S1x2048 .f32) (ix2 0 d) = m ((c : Thread nD τ).loc main_arg2) (ix1 d) := by
  obtain ⟨e0, e1⟩ := (idx_mod t).2.2.2
  refine Eq.trans ?_ (vec_read (m ((c : Thread nD τ).loc main_arg2)) d)
  unfold iblk
  rw [View.read_apply]
  show V m c main_v0 _ = _
  rw [V_gain]
  refine at2 (n0 := 1) (n1 := 2048) _ _ _ _ ?_ ?_
  · show win0_4.index t 0 * 1 + 1 * 0 = 0; rw [e0]
  · show win0_4.index t 1 * 2048 + 1 * d.val = d.val; rw [e1]; omega

theorem reads_weights : ReadsWeights (N := cfg0.N) (fun t => iblk m c 5 t) (fun t => iblk m c 6 t) (fun t => iblk m c 7 t)
    (m ((c : Thread nD τ).loc main_arg3)) (m ((c : Thread nD τ).loc main_arg4)) := fun t => by
  obtain ⟨⟨e0, e1⟩, ⟨f0, f1⟩, g0, g1⟩ := idx_weights t
  refine ⟨fun k f => ?_, fun k f => ?_, fun f q => ?_⟩
  · show (iblk m c 5 t : FVec Ideal S2048x256 .bf16) _ = _
    unfold iblk
    rw [View.read_apply]
    show V m c main_arg3 _ = _
    rw [V_main_arg3]
    refine at2 (n0 := 2048) (n1 := 11264) _ _ _ _ ?_ ?_
    · show win0_5.index t 0 * 2048 + 1 * k.val = k.val; rw [e0]; omega
    · show win0_5.index t 1 * 256 + 1 * f.val = 256 * (t.val % 22) + f.val; rw [e1]; omega
  · show (iblk m c 6 t : FVec Ideal S2048x256 .bf16) _ = _
    unfold iblk
    rw [View.read_apply]
    show V m c main_arg3 _ = _
    rw [V_main_arg3]
    refine at2 (n0 := 2048) (n1 := 11264) _ _ _ _ ?_ ?_
    · show win0_6.index t 0 * 2048 + 1 * k.val = k.val; rw [f0]; omega
    · show win0_6.index t 1 * 256 + 1 * f.val = 5632 + (256 * (t.val % 22) + f.val); rw [f1]; omega
  · show (iblk m c 7 t : FVec Ideal S256x2048 .bf16) _ = _
    unfold iblk
    rw [View.read_apply]
    show V m c main_arg4 _ = _
    rw [V_main_arg4]
    refine at2 (n0 := 5632) (n1 := 2048) _ _ _ _ ?_ ?_
    · show win0_7.index t 0 * 256 + 1 * f.val = 256 * (t.val % 22) + f.val; rw [g0]; omega
    · show win0_7.index t 1 * 2048 + 1 * q.val = q.val; rw [g1]; omega

theorem up_read (a : Fin 256) (b : Fin 512) : (iblk m c 8 t : FVec Ideal S1x1x256x512 .f32) (ix4 0 0 a b)
    = m ((c : Thread nD τ).loc main_arg5) (ix4 0 1 ⟨256 * (t.val / 22) + a.val, by have := t.isLt; have : cfg0.N = 176 := rfl; omega⟩
        ⟨512 * (t.val % 22) + b.val, by omega⟩) := by
  obtain ⟨e0, e1, e2, e3⟩ := (idx_copy t).1
  unfold iblk
  rw [View.read_apply]
  show V m c main_arg5 _ = _
  rw [V_main_arg5]
  refine at4 (n0 := 2) (n1 := 2) (n2 := 2048) (n3 := 11264) _ _ _ _ _ _ ?_ ?_ ?_ ?_
  · show win0_8.index t 0 * 1 + 1 * 0 = 0; rw [e0]
  · show win0_8.index t 1 * 1 + 1 * 0 = 1; rw [e1]
  · show win0_8.index t 2 * 256 + 1 * a.val = 256 * (t.val / 22) + a.val; rw [e2]; omega
  · show win0_8.index t 3 * 512 + 1 * b.val = 512 * (t.val % 22) + b.val; rw [e3]; omega

theorem down_read (a : Fin 32) (b : Fin 2048) : (iblk m c 9 t : FVec Ideal S1x1x32x2048 .f32) (ix4 0 0 a b)
    = m ((c : Thread nD τ).loc main_arg6) (ix4 0 1 ⟨32 * t.val + a.val, by have := t.isLt; have : cfg0.N = 176 := rfl; omega⟩ b) := by
  obtain ⟨e0, e1, e2, e3⟩ := (idx_copy t).2.1
  unfold iblk
  rw [View.read_apply]
  show V m c main_arg6 _ = _
  rw [V_main_arg6]
  refine at4 (n0 := 2) (n1 := 2) (n2 := 5632) (n3 := 2048) _ _ _ _ _ _ ?_ ?_ ?_ ?_
  · show win0_9.index t 0 * 1 + 1 * 0 = 0; rw [e0]
  · show win0_9.index t 1 * 1 + 1 * 0 = 1; rw [e1]
  · show win0_9.index t 2 * 32 + 1 * a.val = 32 * t.val + a.val; rw [e2]; omega
  · show win0_9.index t 3 * 2048 + 1 * b.val = b.val; rw [e3]; omega

/-! ## The sweep over the blocks of hidden units -/

/-- The activations' row `p` of sweep `n`'s tile. -/
abbrev xrow (n : ℕ) (p : Fin 1024) : Row := fun d => m ((c : Thread nD τ).loc main_arg0) (ix3 (bi n) (si n p) d)

theorem swept (h21 : t.val % 22 = 21) (p : Fin 1024) (q : Fin 2048) : (outsAt0 m c t.val t.isLt).1 (ix3 0 p q)
    = sub (xrow m c (t.val / 22) p) (fun d => m ((c : Thread nD τ).loc main_arg2) (ix1 d)) (mrow m c 0 (t.val / 22))
        (mrow m c 1 (t.val / 22)) (mrow m c 2 (t.val / 22)) (m ((c : Thread nD τ).loc main_arg3)) (m ((c : Thread nD τ).loc main_arg4)) q :=
  sweep (N := cfg0.N) (fun n hn => (outsAt0 m c n hn).1) (fun n hn => (outsAt0 m c n hn).2.2.2.2)
    (fun t => iblk m c 5 t) (fun t => iblk m c 6 t) (fun t => iblk m c 7 t) (xrow m c) (fun d => m ((c : Thread nD τ).loc main_arg2) (ix1 d))
    (mrow m c 0) (mrow m c 1) (mrow m c 2) _ _ (reads_weights m c)
    (fun t h0 => ⟨fun p k => (congrFun (scratch_A m c t h0) _).trans ((pay1_apply _ _ _ _ p k).trans
        (modrow_congr (tile_read m c t p) (gain_read m c t) (shift_read m c t _) (scale_read m c t _) k)),
      (out_A m c t h0).trans (congrArg (fun u => k0_pay6 (F := Ideal) u _ _ _ _) (scratch_A m c t h0).symm)⟩)
    (fun t h0 h1 => ⟨scratch_next m c t h0, out_B m c t h0 h1⟩)
    (fun t h0 h1 p q => (congrFun (out_C m c t h0 h1) _).trans ((resid_apply _ _ _ p q).trans
      (congrFun (res_congr (tile_read m c t p) (gate_read m c t _) fun _ => rfl) q)))
    t.val t.isLt h21 p q

/-! ## The result arrays -/

theorem flushed_eq (hf : (cfg0.win 13).flush t = true) :
    (dats m 0 c).flushed 13 t = ((cfg0.win 13).blk t).view.read (Elt Ideal) (G m c) := by
  have h21 : t.val % 22 = 21 := (flush0_13 t).mp hf
  obtain ⟨e0, e1, e2⟩ := (idx_tile t).2.2
  rw [Value.flushed13]
  funext j
  have hj0 : (j 0).val < 1 := (j 0).isLt
  rw [View.read_apply]
  have hl : (outsAt0 m c t.val t.isLt).1 ((cfg0.win 13).xinj (grid0.coords t) j) = (outsAt0 m c t.val t.isLt).1 (ix3 0 (j 1) (j 2)) :=
    at3 (n0 := 1) (n1 := 1024) (n2 := 2048) _ _ _ _ _ (by show (j 0).val = 0; omega) rfl rfl
  refine hl.trans ((swept m c t h21 (j 1) (j 2)).trans (Eq.symm ?_))
  refine (at3 (n0 := 4) (n1 := 2048) (n2 := 2048) (G m c) _ (bi (t.val / 22)) (si (t.val / 22) (j 1)) (j 2) ?_ ?_ ?_).trans rfl
  · show win0_13.index t 0 * 1 + 1 * (j 0).val = t.val / 22 / 2 % 4; rw [e0]; omega
  · show win0_13.index t 1 * 1024 + 1 * (j 1).val = 1024 * (t.val / 22 % 2) + (j 1).val; rw [e1]; omega
  · show win0_13.index t 2 * 2048 + 1 * (j 2).val = (j 2).val; rw [e2]; omega

theorem final : (dats m 0 c).arrAt 13 cfg0.N = G m c :=
  (dats m 0 c).arrAt_eq_of_cover 13 (G m c) (fun t hf => flushed_eq m c t hf) (fun i => by
    have h0 : (i 0).val < 4 := (i 0).isLt
    have h1 : (i 1).val < 2048 := (i 1).isLt
    have h2 : (i 2).val < 2048 := (i 2).isLt
    obtain ⟨e0, e1, e2⟩ := (idx_tile ⟨22 * (2 * (i 0).val + (i 1).val / 1024) + 21, lt_N (by omega)⟩).2.2
    refine ⟨⟨22 * (2 * (i 0).val + (i 1).val / 1024) + 21, lt_N (by omega)⟩, (flush0_13 _).2 (by show (22 * (2 * (i 0).val + (i 1).val / 1024) + 21) % 22 = 21; omega), ?_⟩
    refine (mem13 _ i).2 ?_
    intro a
    match a with
    | ⟨0, _⟩ => show win0_13.index (⟨22 * (2 * (i 0).val + (i 1).val / 1024) + 21, lt_N (by omega)⟩ : Fin cfg0.N) 0 * 1 ≤ (i 0).val ∧ (i 0).val < win0_13.index (⟨22 * (2 * (i 0).val + (i 1).val / 1024) + 21, lt_N (by omega)⟩ : Fin cfg0.N) 0 * 1 + 1; rw [e0]; dsimp only; omega
    | ⟨1, _⟩ => show win0_13.index (⟨22 * (2 * (i 0).val + (i 1).val / 1024) + 21, lt_N (by omega)⟩ : Fin cfg0.N) 1 * 1024 ≤ (i 1).val ∧ (i 1).val < win0_13.index (⟨22 * (2 * (i 0).val + (i 1).val / 1024) + 21, lt_N (by omega)⟩ : Fin cfg0.N) 1 * 1024 + 1024; rw [e1]; dsimp only; omega
    | ⟨2, _⟩ => show win0_13.index (⟨22 * (2 * (i 0).val + (i 1).val / 1024) + 21, lt_N (by omega)⟩ : Fin cfg0.N) 2 * 2048 ≤ (i 2).val ∧ (i 2).val < win0_13.index (⟨22 * (2 * (i 0).val + (i 1).val / 1024) + 21, lt_N (by omega)⟩ : Fin cfg0.N) 2 * 2048 + 2048; rw [e2]; dsimp only; omega)

theorem flushed_up : (dats m 0 c).flushed 14 t = ((cfg0.win 14).blk t).view.read (Elt Ideal) (GUp m c) := by
  obtain ⟨e0, e1⟩ := (idx_copy t).2.2.1
  rw [Value.flushed14, copy_up]
  funext j
  rw [View.read_apply]
  have hl : k0_pay7 (F := Ideal) (iblk m c 8 t) ((cfg0.win 14).xinj (grid0.coords t) j) = k0_pay7 (F := Ideal) (iblk m c 8 t) (ix2 (j 0) (j 1)) :=
    at2 (n0 := 256) (n1 := 512) _ _ _ _ rfl rfl
  refine hl.trans ((copy_up_apply _ _ _).trans ((up_read m c t (j 0) (j 1)).trans (Eq.symm ?_)))
  refine (at2 (n0 := 2048) (n1 := 11264) (GUp m c) _ _ _ ?_ ?_).trans rfl
  · show win0_14.index t 0 * 256 + 1 * (j 0).val = 256 * (t.val / 22) + (j 0).val; rw [e0]; omega
  · show win0_14.index t 1 * 512 + 1 * (j 1).val = 512 * (t.val % 22) + (j 1).val; rw [e1]; omega

theorem final_up : (dats m 0 c).arrAt 14 cfg0.N = GUp m c :=
  (dats m 0 c).arrAt_eq_of_cover 14 (GUp m c) (fun t _ => flushed_up m c t) (fun i => by
    have h0 : (i 0).val < 2048 := (i 0).isLt
    have h1 : (i 1).val < 11264 := (i 1).isLt
    obtain ⟨e0, e1⟩ := (idx_copy ⟨22 * ((i 0).val / 256) + (i 1).val / 512, lt_N (by omega)⟩).2.2.1
    refine ⟨⟨22 * ((i 0).val / 256) + (i 1).val / 512, lt_N (by omega)⟩, flush0_14 _, ?_⟩
    refine (mem14 _ i).2 ?_
    intro a
    match a with
    | ⟨0, _⟩ => show win0_14.index (⟨22 * ((i 0).val / 256) + (i 1).val / 512, lt_N (by omega)⟩ : Fin cfg0.N) 0 * 256 ≤ (i 0).val ∧ (i 0).val < win0_14.index (⟨22 * ((i 0).val / 256) + (i 1).val / 512, lt_N (by omega)⟩ : Fin cfg0.N) 0 * 256 + 256; rw [e0]; dsimp only; omega
    | ⟨1, _⟩ => show win0_14.index (⟨22 * ((i 0).val / 256) + (i 1).val / 512, lt_N (by omega)⟩ : Fin cfg0.N) 1 * 512 ≤ (i 1).val ∧ (i 1).val < win0_14.index (⟨22 * ((i 0).val / 256) + (i 1).val / 512, lt_N (by omega)⟩ : Fin cfg0.N) 1 * 512 + 512; rw [e1]; dsimp only; omega)

theorem flushed_down : (dats m 0 c).flushed 15 t = ((cfg0.win 15).blk t).view.read (Elt Ideal) (GDown m c) := by
  obtain ⟨e0, e1⟩ := (idx_copy t).2.2.2
  rw [Value.flushed15, copy_down]
  funext j
  rw [View.read_apply]
  have hl : k0_pay1 (F := Ideal) (iblk m c 9 t) ((cfg0.win 15).xinj (grid0.coords t) j) = k0_pay1 (F := Ideal) (iblk m c 9 t) (ix2 (j 0) (j 1)) :=
    at2 (n0 := 32) (n1 := 2048) _ _ _ _ rfl rfl
  refine hl.trans ((copy_down_apply _ _ _).trans ((down_read m c t (j 0) (j 1)).trans (Eq.symm ?_)))
  refine (at2 (n0 := 5632) (n1 := 2048) (GDown m c) _ _ _ ?_ ?_).trans rfl
  · show win0_15.index t 0 * 32 + 1 * (j 0).val = 32 * t.val + (j 0).val; rw [e0]; omega
  · show win0_15.index t 1 * 2048 + 1 * (j 1).val = (j 1).val; rw [e1]; omega

theorem final_down : (dats m 0 c).arrAt 15 cfg0.N = GDown m c :=
  (dats m 0 c).arrAt_eq_of_cover 15 (GDown m c) (fun t _ => flushed_down m c t) (fun i => by
    have h0 : (i 0).val < 5632 := (i 0).isLt
    have h1 : (i 1).val < 2048 := (i 1).isLt
    obtain ⟨e0, e1⟩ := (idx_copy ⟨(i 0).val / 32, lt_N (by omega)⟩).2.2.2
    refine ⟨⟨(i 0).val / 32, lt_N (by omega)⟩, flush0_15 _, ?_⟩
    refine (mem15 _ i).2 ?_
    intro a
    match a with
    | ⟨0, _⟩ => show win0_15.index (⟨(i 0).val / 32, lt_N (by omega)⟩ : Fin cfg0.N) 0 * 32 ≤ (i 0).val ∧ (i 0).val < win0_15.index (⟨(i 0).val / 32, lt_N (by omega)⟩ : Fin cfg0.N) 0 * 32 + 32; rw [e0]; dsimp only; omega
    | ⟨1, _⟩ => show win0_15.index (⟨(i 0).val / 32, lt_N (by omega)⟩ : Fin cfg0.N) 1 * 2048 ≤ (i 1).val ∧ (i 1).val < win0_15.index (⟨(i 0).val / 32, lt_N (by omega)⟩ : Fin cfg0.N) 1 * 2048 + 2048; rw [e1]; dsimp only; omega)

/-! ## The modulation of the second layer -/

/-- The slab of 128 columns a point computes: the points past the last slab compute that one again. -/
abbrev sl (n : ℕ) : ℕ := if n < 143 then n else 143

theorem idx_slab : ∀ t : Fin cfg0.N, (win0_10.index t 0 = 0 ∧ win0_10.index t 1 = 0)
    ∧ (win0_11.index t 0 = 1 ∧ win0_11.index t 1 = 0 ∧ win0_11.index t 2 = sl t.val)
    ∧ (win0_12.index t 0 = 1 ∧ win0_12.index t 1 = 0 ∧ win0_12.index t 2 = sl t.val)
    ∧ win0_16.index t 0 = sl t.val / 16 ∧ win0_16.index t 1 = 0 ∧ win0_16.index t 2 = sl t.val % 16 :=
  (by decide +kernel : ∀ t : Fin grid0.N, (win0_10.index t 0 = 0 ∧ win0_10.index t 1 = 0)
    ∧ (win0_11.index t 0 = 1 ∧ win0_11.index t 1 = 0 ∧ win0_11.index t 2 = sl t.val)
    ∧ (win0_12.index t 0 = 1 ∧ win0_12.index t 1 = 0 ∧ win0_12.index t 2 = sl t.val)
    ∧ win0_16.index t 0 = sl t.val / 16 ∧ win0_16.index t 1 = 0 ∧ win0_16.index t 2 = sl t.val % 16)

theorem flush_slab : ∀ t : Fin cfg0.N, (cfg0.win 16).flush t = true ↔ t.val < 143 ∨ t.val = 175 :=
  (by decide +kernel : ∀ t : Fin grid0.N, win0_16.flush t = true ↔ t.val < 143 ∨ t.val = 175)

theorem cond_read (a : Fin 8) (k : Fin 2048) : (iblk m c 10 t : FVec Ideal S8x2048 .f32) (ix2 a k)
    = m ((c : Thread nD τ).loc main_arg7) (ix2 a k) := by
  obtain ⟨e0, e1⟩ := (idx_slab t).1
  unfold iblk
  rw [View.read_apply]
  show V m c main_arg7 _ = _
  rw [V_main_arg7]
  refine at2 (n0 := 8) (n1 := 2048) _ _ _ _ ?_ ?_
  · show win0_10.index t 0 * 8 + 1 * a.val = a.val; rw [e0]; omega
  · show win0_10.index t 1 * 2048 + 1 * k.val = k.val; rw [e1]; omega

/-- A column of the slab. -/
abbrev colOf (n : ℕ) (q : Fin 128) : Fin 18432 := ⟨128 * sl n + q.val, by have : sl n ≤ 143 := by unfold sl; split <;> omega
                                                                          omega⟩

theorem proj_read (k : Fin 2048) (q : Fin 128) : (iblk m c 11 t : FVec Ideal S1x2048x128 .f32) (ix3 0 k q)
    = m ((c : Thread nD τ).loc main_arg8) (ix3 1 k (colOf t.val q)) := by
  obtain ⟨e0, e1, e2⟩ := (idx_slab t).2.1
  unfold iblk
  rw [View.read_apply]
  show V m c main_arg8 _ = _
  rw [V_main_arg8]
  refine at3 (n0 := 2) (n1 := 2048) (n2 := 18432) _ _ _ _ _ ?_ ?_ ?_
  · show win0_11.index t 0 * 1 + 1 * 0 = 1; rw [e0]
  · show win0_11.index t 1 * 2048 + 1 * k.val = k.val; rw [e1]; omega
  · show win0_11.index t 2 * 128 + 1 * q.val = 128 * sl t.val + q.val; rw [e2]; omega

theorem bias_read (q : Fin 128) : (iblk m c 12 t : FVec Ideal S1x1x128 .f32) (ix3 0 0 q)
    = m ((c : Thread nD τ).loc main_arg9) (ix3 1 0 (colOf t.val q)) := by
  obtain ⟨e0, e1, e2⟩ := (idx_slab t).2.2.1
  unfold iblk
  rw [View.read_apply]
  show V m c main_arg9 _ = _
  rw [V_main_arg9]
  refine at3 (n0 := 2) (n1 := 1) (n2 := 18432) _ _ _ _ _ ?_ ?_ ?_
  · show win0_12.index t 0 * 1 + 1 * 0 = 1; rw [e0]
  · show win0_12.index t 1 * 1 + 1 * 0 = 0; rw [e1]
  · show win0_12.index t 2 * 128 + 1 * q.val = 128 * sl t.val + q.val; rw [e2]; omega

/-- The slab's payload at an entry. -/
theorem slab_apply (v : FVec Ideal S8x2048 .f32) (w : FVec Ideal S1x2048x128 .f32) (bias : FVec Ideal S1x1x128 .f32) (a : Fin 8) (q : Fin 128) :
    k0_pay2 (F := Ideal) v w bias (ix3 0 a q)
      = (∑ k : Fin 2048, v (ix2 a k) * Ideal.logistic (v (ix2 a k)) * w (ix3 0 k q)) + bias (ix3 0 0 q) := by
  have hm : ∀ (u : FVec Ideal S8x2048 .bf16) (r : FVec Ideal S2048x128 .bf16),
      matmul dot_S8x2048_S2048x128_S8x128_1_0_0_1_n_n none u r (constant S8x128 .f32 0x00000000#32) (ix2 a q)
        = ∑ k : Fin 2048, u (ix2 a k) * r (ix2 k q) := fun u r => by
    refine (Ideal.matmul_plain_apply none u r (constant S8x128 .f32 0x00000000#32) a q).trans ?_
    rw [constant_apply, Ideal.ofBits_zero_f32, zero_add]
  unfold k0_pay2
  refine (shapeCast_addUnit_apply ![8, 128] _ shapeCasts_S8x128_S1x8x128 (ix3 0 a q)).trans ?_
  refine congrArg₂ (· + ·) ((at2 (n0 := 8) (n1 := 128) _ _ a q rfl rfl).trans ((hm _ _).trans (Finset.sum_congr rfl fun k _ => congrArg₂ (· * ·) rfl ?_))) ?_
  · exact (shapeCast_dropUnit_apply ![2048, 128] w shapeCasts_S1x2048x128_S2048x128 (ix2 k q)).trans
      (at3 (n0 := 1) (n1 := 2048) (n2 := 128) w _ 0 k q rfl rfl rfl)
  · refine (broadcastTo_apply _ broadcasts_S1x128_S8x128 _ (ix2 0 q) (fun b => by
      match b with | ⟨0, _⟩ => rfl | ⟨1, _⟩ => rfl)).trans ?_
    exact (shapeCast_dropUnit_apply ![1, 128] bias shapeCasts_S1x1x128_S1x128 (ix2 0 q)).trans
      (at3 (n0 := 1) (n1 := 1) (n2 := 128) bias _ 0 0 q rfl rfl rfl)

theorem flushed_mod : (dats m 0 c).flushed 16 t = ((cfg0.win 16).blk t).view.read (Elt Ideal) (GMod m c) := by
  obtain ⟨e0, e1, e2⟩ := (idx_slab t).2.2.2
  rw [Value.flushed16, slab]
  funext j
  have hj0 : (j 0).val < 1 := (j 0).isLt
  have hj2 : (j 2).val < 128 := (j 2).isLt
  have hs : sl t.val ≤ 143 := by unfold sl; split <;> omega
  rw [View.read_apply]
  have hl : k0_pay2 (F := Ideal) (iblk m c 10 t) (iblk m c 11 t) (iblk m c 12 t) ((cfg0.win 16).xinj (grid0.coords t) j)
      = k0_pay2 (F := Ideal) (iblk m c 10 t) (iblk m c 11 t) (iblk m c 12 t) (ix3 0 (j 1) (j 2)) :=
    at3 (n0 := 1) (n1 := 8) (n2 := 128) _ _ _ _ _ (by show (j 0).val = 0; omega) rfl rfl
  refine hl.trans ((slab_apply _ _ _ _ _).trans (Eq.symm ?_))
  refine (at3 (n0 := 9) (n1 := 8) (n2 := 2048) (GMod m c) _ ⟨sl t.val / 16, by omega⟩ (j 1) ⟨128 * (sl t.val % 16) + (j 2).val, by omega⟩ ?_ ?_ ?_).trans ?_
  · show win0_16.index t 0 * 1 + 1 * (j 0).val = sl t.val / 16; rw [e0]; omega
  · show win0_16.index t 1 * 8 + 1 * (j 1).val = (j 1).val; rw [e1]; omega
  · show win0_16.index t 2 * 128 + 1 * (j 2).val = 128 * (sl t.val % 16) + (j 2).val; rw [e2]; omega
  have hc : (⟨2048 * (sl t.val / 16) + (128 * (sl t.val % 16) + (j 2).val), by omega⟩ : Fin 18432) = colOf t.val (j 2) := Fin.ext (by
    show 2048 * (sl t.val / 16) + (128 * (sl t.val % 16) + (j 2).val) = 128 * sl t.val + (j 2).val; omega)
  refine congrArg₂ (· + ·) (Finset.sum_congr rfl fun k _ => congrArg₂ (· * ·)
    (congrArg (fun z => z * Ideal.logistic z) (cond_read m c t (j 1) k).symm) ?_) ?_
  · exact (congrArg (fun q => m ((c : Thread nD τ).loc main_arg8) (ix3 1 k q)) hc).trans (proj_read m c t k (j 2)).symm
  · exact (congrArg (fun q => m ((c : Thread nD τ).loc main_arg9) (ix3 1 0 q)) hc).trans (bias_read m c t (j 2)).symm

/-- The point that writes a slab back. -/
abbrev lastOf (n : ℕ) : ℕ := if n < 143 then n else 175

theorem final_mod : (dats m 0 c).arrAt 16 cfg0.N = GMod m c :=
  (dats m 0 c).arrAt_eq_of_cover 16 (GMod m c) (fun t _ => flushed_mod m c t) (fun i => by
    have h0 : (i 0).val < 9 := (i 0).isLt
    have h1 : (i 1).val < 8 := (i 1).isLt
    have h2 : (i 2).val < 2048 := (i 2).isLt
    have hn : lastOf (16 * (i 0).val + (i 2).val / 128) < cfg0.N := lt_N (by unfold lastOf; split <;> omega)
    obtain ⟨e0, e1, e2⟩ := (idx_slab ⟨_, hn⟩).2.2.2
    have es : sl (lastOf (16 * (i 0).val + (i 2).val / 128)) = 16 * (i 0).val + (i 2).val / 128 := by
      simp only [sl, lastOf]; split <;> simp_all <;> omega
    dsimp only at e0 e1 e2
    rw [es] at e0 e2
    refine ⟨⟨_, hn⟩, (flush_slab _).2 (by dsimp only; unfold lastOf; split <;> omega), ?_⟩
    refine (mem16 _ i).2 ?_
    intro a
    match a with
    | ⟨0, _⟩ => show win0_16.index ⟨_, hn⟩ 0 * 1 ≤ (i 0).val ∧ (i 0).val < win0_16.index ⟨_, hn⟩ 0 * 1 + 1; rw [e0]; omega
    | ⟨1, _⟩ => show win0_16.index ⟨_, hn⟩ 1 * 8 ≤ (i 1).val ∧ (i 1).val < win0_16.index ⟨_, hn⟩ 1 * 8 + 8; rw [e1]; omega
    | ⟨2, _⟩ => show win0_16.index ⟨_, hn⟩ 2 * 128 ≤ (i 2).val ∧ (i 2).val < win0_16.index ⟨_, hn⟩ 2 * 128 + 128; rw [e2]; omega)

end Cert.EnterIdeal.Sweep
-- ==== Proof.ContextStep.lean ====
/-
  The SwiGLU sublayer on the shared context: what each grid point leaves in the output block and in the scratch, as the payloads over the blocks it reads and over what the point before left.
-/
module

public import proofs.«01_k».proof.Proof.Sweep
public import proofs.«01_k».proof.Proof.CloseStep
public import proofs.«01_k».proof.Proof.Gen.ContextIdeal.Value

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ContextIdeal.Sweep

open Cert.ContextIdeal Cert.ContextIdeal.Gen
open Cert.LastIdeal.Sweep (hz2 hz3)
open Cert.CloseIdeal.Sweep (hz4)

variable (m : (ℓ : Loc nD τ sig) → Buf (Elt Ideal) ℓ) (c : Dev nD) (t : Fin cfg0.N)

/-- The row of a modulation block that a point reads. -/
abbrev rowA (hc : cond0_0 (grid0.coords t)) (v : Vec Ideal S1x8x2048 .f32) : Vec Ideal S1x1x2048 .f32 :=
  View.ld v (Rect.unit (k0_off1 (grid0.coords t)) S1x1x2048.size (k0_off1_inb (grid0.coords t) hc))

/-- The modulated norm the first block stores. -/
abbrev unorm (hc : cond0_0 (grid0.coords t)) : Vec Ideal S1024x2048 .bf16 :=
  k0_pay1 (F := Ideal) (iblk m c 0 t) (iblk m c 4 t) (rowA t hc (iblk m c 1 t)) (rowA t hc (iblk m c 2 t))

/-- What the point before left. -/
abbrev prev := outsAt0 m c (t.val - 1) (Nat.lt_of_le_of_lt (Nat.sub_le _ _) t.isLt)

theorem scratch_A (h0 : t.val % 22 = 0) :
    (outsAt0 m c t.val t.isLt).2 = unorm m c t ((hcond0_0 t).mpr h0) := by
  rw [outsAt0_A m c t h0 (by omega)]
  dsimp only
  unfold sout0_A_0
  refine (View.read_writes_eq_canon _ _ _ (by apply scover0_A_0)).trans ?_
  unfold kernelRun0_A
  dsimp only
  sl_unfold_words
  rw [View.canon_unit_zero hz2]
  simp only [View.readAt_eq_ld, (hs0_0 t).read_unread, (hs0_1 t).read_unread, (hs0_2 t).read_unread, (hs0_4 t).read_unread,
    View.ld_unit_zero (S := S1x1024x2048) hz3, View.ld_unit_zero (S := S1x2048) hz2]
  rfl

theorem out_A (h0 : t.val % 22 = 0) :
    (outsAt0 m c t.val t.isLt).1 = k0_pay3 (F := Ideal) (unorm m c t ((hcond0_0 t).mpr h0)) (iblk m c 5 t) (iblk m c 6 t)
      (k0_pay2 (F := Ideal)) (iblk m c 7 t) := by
  rw [outsAt0_A m c t h0 (by omega)]
  dsimp only
  unfold out0_A_8
  refine (View.read_writes_eq_canon _ _ _ (by apply cover0_A_8)).trans ?_
  unfold kernelRun0_A
  dsimp only
  sl_unfold_words
  rw [View.canon_cons_unit_zero hz3, View.readCov_unit_zero (S := S1x1024x2048) _ hz3, View.readCov_unit_zero (S := S1024x2048) _ hz2]
  simp only [View.readAt_eq_ld, (hs0_0 t).read_unread, (hs0_1 t).read_unread, (hs0_2 t).read_unread, (hs0_4 t).read_unread,
    (hs0_5 t).read_unread, (hs0_6 t).read_unread, (hs0_7 t).read_unread,
    View.ld_unit_zero (S := S1x1024x2048) hz3, View.ld_unit_zero (S := S1x2048) hz2,
    View.ld_unit_zero (S := S2048x256) hz2, View.ld_unit_zero (S := S256x2048) hz2]
  rfl

theorem scratch_next (h0 : ¬t.val % 22 = 0) : (outsAt0 m c t.val t.isLt).2 = (prev m c t).2 := by
  by_cases h1 : t.val % 22 = 21
  · rw [outsAt0_C m c t h0 h1]; rfl
  · rw [outsAt0_B m c t h0 h1]; rfl

theorem out_B (h0 : ¬t.val % 22 = 0) (h1 : ¬t.val % 22 = 21) :
    (outsAt0 m c t.val t.isLt).1 = k0_pay3 (F := Ideal) (prev m c t).2 (iblk m c 5 t) (iblk m c 6 t) (prev m c t).1 (iblk m c 7 t) := by
  rw [outsAt0_B m c t h0 h1]
  dsimp only
  unfold out0_B_8
  refine (View.read_writes_eq_canon _ _ _ (by apply cover0_B_8)).trans ?_
  unfold kernelRun0_B
  dsimp only
  sl_unfold_words
  rw [View.canon_unit_zero hz3]
  simp only [View.readAt_eq_ld, (hs0_5 t).read_unread, (hs0_6 t).read_unread, (hs0_7 t).read_unread, (hs0_8 t).read_unread,
    (Memref.isWhole_whole _).read_unread,
    View.ld_unit_zero (S := S1x1024x2048) hz3, View.ld_unit_zero (S := S1024x2048) hz2,
    View.ld_unit_zero (S := S2048x256) hz2, View.ld_unit_zero (S := S256x2048) hz2]

theorem out_C (h0 : ¬t.val % 22 = 0) (h1 : t.val % 22 = 21) :
    (outsAt0 m c t.val t.isLt).1 = k0_pay4 (F := Ideal) (iblk m c 0 t)
      (View.ld (iblk m c 3 t) (Rect.unit (k0_off2 (grid0.coords t)) S1x1x2048.size (k0_off2_inb (grid0.coords t) ((hcond0_1 t).mpr h1))))
      (k0_pay3 (F := Ideal) (prev m c t).2 (iblk m c 5 t) (iblk m c 6 t) (prev m c t).1 (iblk m c 7 t)) := by
  rw [outsAt0_C m c t h0 h1]
  dsimp only
  unfold out0_C_8
  refine (View.read_writes_eq_canon _ _ _ (by apply cover0_C_8)).trans ?_
  unfold kernelRun0_C
  dsimp only
  sl_unfold_words
  rw [View.canon_cons_unit_zero hz3, View.readCov_unit_zero (S := S1x1024x2048) _ hz3]
  simp only [View.readAt_eq_ld, (hs0_0 t).read_unread, (hs0_3 t).read_unread, (hs0_5 t).read_unread, (hs0_6 t).read_unread,
    (hs0_7 t).read_unread, (hs0_8 t).read_unread, (Memref.isWhole_whole _).read_unread,
    View.ld_unit_zero (S := S1x1024x2048) hz3, View.ld_unit_zero (S := S1024x2048) hz2,
    View.ld_unit_zero (S := S2048x256) hz2, View.ld_unit_zero (S := S256x2048) hz2]
  rfl

end Cert.ContextIdeal.Sweep
-- ==== Proof.ContextValue.lean ====
/-
  The SwiGLU sublayer on the shared context: what the kernel `ContextIdeal` leaves in its result array, as a function of
  its argument arrays.
-/
module

public import proofs.«01_k».proof.Proof.ContextStep
public import proofs.«01_k».proof.Proof.LastValue

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ContextIdeal.Sweep

open Cert.ContextIdeal Cert.ContextIdeal.Gen Cert.Ffn
open Cert.LastIdeal.Sweep (vec_read)

variable (m : (ℓ : Loc nD τ sig) → Buf (Elt Ideal) ℓ) (ρ : Dev nD → PrngReg) (c : Dev nD) (t : Fin cfg0.N)

/-- The sublayer on every row of the context, whose modulation is row 4 of the first three. -/
def contextLayer (x : S1x1024x2048.Idx → EReal) (md : S9x8x2048.Idx → EReal) (gain : S2048.Idx → EReal)
    (wgu : S2048x11264.Idx → EReal) (wdn : S5632x2048.Idx → EReal) : S1x1024x2048.Idx → EReal := fun i =>
  sub (fun d => x (ix3 0 (i 1) d)) (fun d => gain (ix1 d)) (fun d => md (ix3 0 4 d)) (fun d => md (ix3 1 4 d))
    (fun d => md (ix3 2 4 d)) wgu wdn (i 2)

/-- The contents of the result arrays, from device `c`'s argument arrays. -/
abbrev G : Buf (Elt Ideal) ((c : Thread nD τ).loc main_v1) :=
  contextLayer (m ((c : Thread nD τ).loc main_arg0)) (m ((c : Thread nD τ).loc main_arg1)) (m ((c : Thread nD τ).loc main_arg2))
    (m ((c : Thread nD τ).loc main_arg3)) (m ((c : Thread nD τ).loc main_arg4))

/-! ## The blocks the points read -/

theorem idx_tile : ∀ t : Fin cfg0.N, (grid0.coords t 0).val = 0
    ∧ (win0_0.index t 0 = 0 ∧ win0_0.index t 1 = 0 ∧ win0_0.index t 2 = 0)
    ∧ win0_8.index t 0 = 0 ∧ win0_8.index t 1 = 0 ∧ win0_8.index t 2 = 0 :=
  (by decide +kernel : ∀ t : Fin grid0.N, (grid0.coords t 0).val = 0
    ∧ (win0_0.index t 0 = 0 ∧ win0_0.index t 1 = 0 ∧ win0_0.index t 2 = 0)
    ∧ win0_8.index t 0 = 0 ∧ win0_8.index t 1 = 0 ∧ win0_8.index t 2 = 0)

theorem idx_mod : ∀ t : Fin cfg0.N, (win0_1.index t 0 = 0 ∧ win0_1.index t 1 = 0 ∧ win0_1.index t 2 = 0)
    ∧ (win0_2.index t 0 = 1 ∧ win0_2.index t 1 = 0 ∧ win0_2.index t 2 = 0)
    ∧ (win0_3.index t 0 = 2 ∧ win0_3.index t 1 = 0 ∧ win0_3.index t 2 = 0)
    ∧ win0_4.index t 0 = 0 ∧ win0_4.index t 1 = 0 :=
  (by decide +kernel : ∀ t : Fin grid0.N, (win0_1.index t 0 = 0 ∧ win0_1.index t 1 = 0 ∧ win0_1.index t 2 = 0)
    ∧ (win0_2.index t 0 = 1 ∧ win0_2.index t 1 = 0 ∧ win0_2.index t 2 = 0)
    ∧ (win0_3.index t 0 = 2 ∧ win0_3.index t 1 = 0 ∧ win0_3.index t 2 = 0)
    ∧ win0_4.index t 0 = 0 ∧ win0_4.index t 1 = 0)

theorem idx_weights : ∀ t : Fin cfg0.N, (win0_5.index t 0 = 0 ∧ win0_5.index t 1 = t.val % 22)
    ∧ (win0_6.index t 0 = 0 ∧ win0_6.index t 1 = t.val % 22 + 22)
    ∧ win0_7.index t 0 = t.val % 22 ∧ win0_7.index t 1 = 0 :=
  (by decide +kernel : ∀ t : Fin grid0.N, (win0_5.index t 0 = 0 ∧ win0_5.index t 1 = t.val % 22)
    ∧ (win0_6.index t 0 = 0 ∧ win0_6.index t 1 = t.val % 22 + 22)
    ∧ win0_7.index t 0 = t.val % 22 ∧ win0_7.index t 1 = 0)

theorem tile_read (p : Fin 1024) (d : Fin 2048) : (iblk m c 0 t : FVec Ideal S1x1024x2048 .f32) (ix3 0 p d)
    = m ((c : Thread nD τ).loc main_arg0) (ix3 0 p d) := by
  obtain ⟨e0, e1, e2⟩ := (idx_tile t).2.1
  unfold iblk
  rw [View.read_apply]
  show V m c main_arg0 _ = _
  rw [V_main_arg0]
  refine at3 (n0 := 1) (n1 := 1024) (n2 := 2048) _ _ _ _ _ ?_ ?_ ?_
  · show win0_0.index t 0 * 1 + 1 * 0 = 0; rw [e0]
  · show win0_0.index t 1 * 1024 + 1 * p.val = p.val; rw [e1]; omega
  · show win0_0.index t 2 * 2048 + 1 * d.val = d.val; rw [e2]; omega

theorem off1_val (i : grid0.Coords) : k0_off1 i 1 = (i 0).val + 4 := by rw [k0_off1_eq]; rfl
theorem off2_val (i : grid0.Coords) : k0_off2 i 1 = (i 0).val + 4 := by rw [k0_off2_eq]; rfl

/-- A modulation row of the context's member. -/
abbrev mrow (k : Fin 9) (_n : ℕ) : Row := fun d => m ((c : Thread nD τ).loc main_arg1) (ix3 k 4 d)

theorem shift_read (hc : cond0_0 (grid0.coords t)) (d : Fin 2048) : rowA t hc (iblk m c 1 t) (ix3 0 0 d) = mrow m c 0 (t.val / 22) d := by
  obtain ⟨e0, e1, e2⟩ := (idx_mod t).1
  have eg := (idx_tile t).1
  show (iblk m c 1 t : FVec Ideal S1x8x2048 .f32) _ = _
  unfold iblk
  rw [View.read_apply]
  show V m c main_arg1 _ = _
  rw [V_main_arg1]
  refine at3 (n0 := 9) (n1 := 8) (n2 := 2048) _ _ _ _ _ ?_ ?_ ?_
  · show win0_1.index t 0 * 1 + 1 * (0 + 1 * 0) = 0; rw [e0]
  · show win0_1.index t 1 * 8 + 1 * (k0_off1 (grid0.coords t) 1 + 1 * 0) = 4; rw [e1, off1_val, eg]
  · show win0_1.index t 2 * 2048 + 1 * (0 + 1 * d.val) = d.val; rw [e2]; omega

theorem scale_read (hc : cond0_0 (grid0.coords t)) (d : Fin 2048) : rowA t hc (iblk m c 2 t) (ix3 0 0 d) = mrow m c 1 (t.val / 22) d := by
  obtain ⟨e0, e1, e2⟩ := (idx_mod t).2.1
  have eg := (idx_tile t).1
  show (iblk m c 2 t : FVec Ideal S1x8x2048 .f32) _ = _
  unfold iblk
  rw [View.read_apply]
  show V m c main_arg1 _ = _
  rw [V_main_arg1]
  refine at3 (n0 := 9) (n1 := 8) (n2 := 2048) _ _ _ _ _ ?_ ?_ ?_
  · show win0_2.index t 0 * 1 + 1 * (0 + 1 * 0) = 1; rw [e0]
  · show win0_2.index t 1 * 8 + 1 * (k0_off1 (grid0.coords t) 1 + 1 * 0) = 4; rw [e1, off1_val, eg]
  · show win0_2.index t 2 * 2048 + 1 * (0 + 1 * d.val) = d.val; rw [e2]; omega

theorem gate_read (inb) (d : Fin 2048) :
    View.ld (iblk m c 3 t : FVec Ideal S1x8x2048 .f32) (Rect.unit (k0_off2 (grid0.coords t)) S1x1x2048.size inb) (ix3 0 0 d)
      = mrow m c 2 (t.val / 22) d := by
  obtain ⟨e0, e1, e2⟩ := (idx_mod t).2.2.1
  have eg := (idx_tile t).1
  show (iblk m c 3 t : FVec Ideal S1x8x2048 .f32) _ = _
  unfold iblk
  rw [View.read_apply]
  show V m c main_arg1 _ = _
  rw [V_main_arg1]
  refine at3 (n0 := 9) (n1 := 8) (n2 := 2048) _ _ _ _ _ ?_ ?_ ?_
  · show win0_3.index t 0 * 1 + 1 * (0 + 1 * 0) = 2; rw [e0]
  · show win0_3.index t 1 * 8 + 1 * (k0_off2 (grid0.coords t) 1 + 1 * 0) = 4; rw [e1, off2_val, eg]
  · show win0_3.index t 2 * 2048 + 1 * (0 + 1 * d.val) = d.val; rw [e2]; omega

/-- The norm gain reaches the region as a row. -/
theorem V_gain : V m c main_v0 = shapeCast S1x2048 (m ((c : Thread nD τ).loc main_arg2)) shapeCasts_S2048_S1x2048 := by
  simp only [V, StableHlo.after_cons, StableHlo.after_nil]
  rw [StableHlo.reshape_result]
  rfl

theorem gain_read (d : Fin 2048) : (iblk m c 4 t : FVec Ideal S1x2048 .f32) (ix2 0 d) = m ((c : Thread nD τ).loc main_arg2) (ix1 d) := by
  obtain ⟨e0, e1⟩ := (idx_mod t).2.2.2
  refine Eq.trans ?_ (vec_read (m ((c : Thread nD τ).loc main_arg2)) d)
  unfold iblk
  rw [View.read_apply]
  show V m c main_v0 _ = _
  rw [V_gain]
  refine at2 (n0 := 1) (n1 := 2048) _ _ _ _ ?_ ?_
  · show win0_4.index t 0 * 1 + 1 * 0 = 0; rw [e0]
  · show win0_4.index t 1 * 2048 + 1 * d.val = d.val; rw [e1]; omega

theorem reads_weights : ReadsWeights (N := cfg0.N) (fun t => iblk m c 5 t) (fun t => iblk m c 6 t) (fun t => iblk m c 7 t)
    (m ((c : Thread nD τ).loc main_arg3)) (m ((c : Thread nD τ).loc main_arg4)) := fun t => by
  obtain ⟨⟨e0, e1⟩, ⟨f0, f1⟩, g0, g1⟩ := idx_weights t
  refine ⟨fun k f => ?_, fun k f => ?_, fun f q => ?_⟩
  · show (iblk m c 5 t : FVec Ideal S2048x256 .bf16) _ = _
    unfold iblk
    rw [View.read_apply]
    show V m c main_arg3 _ = _
    rw [V_main_arg3]
    refine at2 (n0 := 2048) (n1 := 11264) _ _ _ _ ?_ ?_
    · show win0_5.index t 0 * 2048 + 1 * k.val = k.val; rw [e0]; omega
    · show win0_5.index t 1 * 256 + 1 * f.val = 256 * (t.val % 22) + f.val; rw [e1]; omega
  · show (iblk m c 6 t : FVec Ideal S2048x256 .bf16) _ = _
    unfold iblk
    rw [View.read_apply]
    show V m c main_arg3 _ = _
    rw [V_main_arg3]
    refine at2 (n0 := 2048) (n1 := 11264) _ _ _ _ ?_ ?_
    · show win0_6.index t 0 * 2048 + 1 * k.val = k.val; rw [f0]; omega
    · show win0_6.index t 1 * 256 + 1 * f.val = 5632 + (256 * (t.val % 22) + f.val); rw [f1]; omega
  · show (iblk m c 7 t : FVec Ideal S256x2048 .bf16) _ = _
    unfold iblk
    rw [View.read_apply]
    show V m c main_arg4 _ = _
    rw [V_main_arg4]
    refine at2 (n0 := 5632) (n1 := 2048) _ _ _ _ ?_ ?_
    · show win0_7.index t 0 * 256 + 1 * f.val = 256 * (t.val % 22) + f.val; rw [g0]; omega
    · show win0_7.index t 1 * 2048 + 1 * q.val = q.val; rw [g1]; omega

/-! ## The sweep over the blocks of hidden units -/

/-- The activations' row `p` of the tile. -/
abbrev xrow (_n : ℕ) (p : Fin 1024) : Row := fun d => m ((c : Thread nD τ).loc main_arg0) (ix3 0 p d)

theorem swept (h21 : t.val % 22 = 21) (p : Fin 1024) (q : Fin 2048) : (outsAt0 m c t.val t.isLt).1 (ix3 0 p q)
    = sub (xrow m c (t.val / 22) p) (fun d => m ((c : Thread nD τ).loc main_arg2) (ix1 d)) (mrow m c 0 (t.val / 22))
        (mrow m c 1 (t.val / 22)) (mrow m c 2 (t.val / 22)) (m ((c : Thread nD τ).loc main_arg3)) (m ((c : Thread nD τ).loc main_arg4)) q :=
  sweep (N := cfg0.N) (fun n hn => (outsAt0 m c n hn).1) (fun n hn => (outsAt0 m c n hn).2)
    (fun t => iblk m c 5 t) (fun t => iblk m c 6 t) (fun t => iblk m c 7 t) (xrow m c) (fun d => m ((c : Thread nD τ).loc main_arg2) (ix1 d))
    (mrow m c 0) (mrow m c 1) (mrow m c 2) _ _ (reads_weights m c)
    (fun t h0 => ⟨fun p k => (congrFun (scratch_A m c t h0) _).trans ((pay1_apply _ _ _ _ p k).trans
        (modrow_congr (tile_read m c t p) (gain_read m c t) (shift_read m c t _) (scale_read m c t _) k)),
      (out_A m c t h0).trans (congrArg (fun u => k0_pay3 (F := Ideal) u _ _ _ _) (scratch_A m c t h0).symm)⟩)
    (fun t h0 h1 => ⟨scratch_next m c t h0, out_B m c t h0 h1⟩)
    (fun t h0 h1 p q => (congrFun (out_C m c t h0 h1) _).trans ((resid_apply _ _ _ p q).trans
      (congrFun (res_congr (tile_read m c t p) (gate_read m c t _) fun _ => rfl) q)))
    t.val t.isLt h21 p q

/-! ## The result arrays -/

theorem flushed_eq (hf : (cfg0.win 8).flush t = true) :
    (dats m 0 c).flushed 8 t = ((cfg0.win 8).blk t).view.read (Elt Ideal) (G m c) := by
  have h21 : t.val % 22 = 21 := (flush0_8 t).mp hf
  obtain ⟨e0, e1, e2⟩ := (idx_tile t).2.2
  rw [Value.flushed8]
  funext j
  have hj0 : (j 0).val < 1 := (j 0).isLt
  rw [View.read_apply]
  have hl : (outsAt0 m c t.val t.isLt).1 ((cfg0.win 8).xinj (grid0.coords t) j) = (outsAt0 m c t.val t.isLt).1 (ix3 0 (j 1) (j 2)) :=
    at3 (n0 := 1) (n1 := 1024) (n2 := 2048) _ _ _ _ _ (by show (j 0).val = 0; omega) rfl rfl
  refine hl.trans ((swept m c t h21 (j 1) (j 2)).trans (Eq.symm ?_))
  refine (at3 (n0 := 1) (n1 := 1024) (n2 := 2048) (G m c) _ 0 (j 1) (j 2) ?_ ?_ ?_).trans rfl
  · show win0_8.index t 0 * 1 + 1 * (j 0).val = 0; rw [e0]; omega
  · show win0_8.index t 1 * 1024 + 1 * (j 1).val = (j 1).val; rw [e1]; omega
  · show win0_8.index t 2 * 2048 + 1 * (j 2).val = (j 2).val; rw [e2]; omega

theorem final : (dats m 0 c).arrAt 8 cfg0.N = G m c :=
  (dats m 0 c).arrAt_eq_of_cover 8 (G m c) (fun t hf => flushed_eq m c t hf) (fun i => (Value.covered_iff8 i).2 (by
    have h0 : (i 0).val < 1 := (i 0).isLt
    have h1 : (i 1).val < 1024 := (i 1).isLt
    have h2 : (i 2).val < 2048 := (i 2).isLt
    omega))

end Cert.ContextIdeal.Sweep
-- ==== Proof.ContextRef.lean ====
/-
  The SwiGLU sublayer on the shared context: the reference `ContextRefIdeal`, read one operation at a time, is the
  sublayer on every row of the context.
-/
module

public import proofs.«01_k».proof.Proof.ContextValue
public import proofs.«01_k».proof.Proof.Gen.ContextRefIdeal.Read

@[expose] public section

set_option maxRecDepth 16384

noncomputable section

open Idealize.ShloMosaic Idealize.ShloMosaic.TcCoe Idealize.SL.Sem Idealize.ShloMosaic.ValueIdx

namespace Cert.ContextRefIdeal.Sub

open Cert.ContextRefIdeal Cert.ContextRefIdeal.Read Cert.Ffn

variable (x : S1x1024x2048.Idx → EReal) (md : S9x8x2048.Idx → EReal) (gain : S2048.Idx → EReal)
  (wgu : S2048x11264.Idx → EReal) (wdn : S5632x2048.Idx → EReal)
  (s : Fin 1024) (d : Fin 2048)

/-- The row at position `s`. -/
abbrev xr : Row := fun d => x (ix3 0 s d)
abbrev mr (k : Fin 9) : Row := fun d => md (ix3 k 4 d)
abbrev gr (v : S2048.Idx → EReal) : Row := fun d => v (ix1 d)
abbrev ur : Row := modrow (xr x s) (gr gain) (mr md 0) (mr md 1)

theorem shift_row (j : S1x2048.Idx) : val_main_v4 (F := Ideal) md j = mr md 0 (j 1) := by
  have h0 : (j 0).val < 1 := (j 0).isLt
  have h1 : (j 1).val < 2048 := (j 1).isLt
  rw [val_main_v4_apply, val_main_v3_apply, val_main_v0_apply]
  refine at3 md _ 0 4 (j 1) rfl rfl ?_
  show ((j 0).val * 2048 + (j 1).val) % 2048 = (j 1).val
  omega

theorem shift_eq : val_main_v5 (F := Ideal) md (ix3 0 0 d) = mr md 0 d := by
  rw [val_main_v5_apply, shift_row]
  rfl

theorem scale_row (j : S1x2048.Idx) : val_main_v7 (F := Ideal) md j = mr md 1 (j 1) := by
  have h0 : (j 0).val < 1 := (j 0).isLt
  have h1 : (j 1).val < 2048 := (j 1).isLt
  rw [val_main_v7_apply, val_main_v6_apply, val_main_v0_apply]
  refine at3 md _ 1 4 (j 1) rfl rfl ?_
  show ((j 0).val * 2048 + (j 1).val) % 2048 = (j 1).val
  omega

theorem scale_eq : val_main_v8 (F := Ideal) md (ix3 0 0 d) = mr md 1 d := by
  rw [val_main_v8_apply, scale_row]
  rfl

theorem gate_row (j : S1x2048.Idx) : val_main_v29 (F := Ideal) md j = mr md 2 (j 1) := by
  have h0 : (j 0).val < 1 := (j 0).isLt
  have h1 : (j 1).val < 2048 := (j 1).isLt
  rw [val_main_v29_apply, val_main_v28_apply, val_main_v0_apply]
  refine at3 md _ 2 4 (j 1) rfl rfl ?_
  show ((j 0).val * 2048 + (j 1).val) % 2048 = (j 1).val
  omega

theorem gate_eq : val_main_v30 (F := Ideal) md (ix3 0 0 d) = mr md 2 d := by
  rw [val_main_v30_apply, gate_row]
  rfl

/-- The reciprocal root mean square of the activations. -/
theorem rms_eq : val_main_v17 (F := Ideal) x (ix3 0 s d) = rms (xr x s) := by
  rw [val_main_v17_apply, val_main_v16_apply, val_main_v15_apply, val_main_v13_apply, val_main_v11_apply, val_main_v10_apply,
    val_main_v12_apply, val_main_v14_apply, val_main_cst_apply, val_main_cst_0_apply, val_main_cst_1_apply]
  have e : FloatOps.ofBits (F := Ideal) .f32 0x00000000#32 + ∑ k : Fin 2048, val_main_v9 (F := Ideal) x (idx_main_v10 (idx_main_v11 (idx_main_v17 (ix3 0 s d))) k)
      = ∑ k : Fin 2048, x (ix3 0 s k) * x (ix3 0 s k) := by
    rw [show FloatOps.ofBits (F := Ideal) .f32 0x00000000#32 = (0 : EReal) from Ideal.ofBits_zero_f32, zero_add]
    exact Finset.sum_congr rfl fun k _ => at3 (val_main_v9 (F := Ideal) x) _ 0 s k rfl rfl rfl
  exact congrArg (fun y => Ideal.rsqrt (Ideal.div y (Ideal.ofBits .f32 0x45000000#32) + Ideal.ofBits .f32 0x358637BD#32)) e

/-- The modulated norm. -/
theorem norm_eq : val_main_v27 (F := Ideal) x md gain (ix3 0 s d) = ur x md gain s d := by
  rw [val_main_v27_apply, val_main_v25_apply, val_main_v21_apply, val_main_v18_apply, rms_eq, val_main_v20_apply, val_main_v19_apply,
    val_main_v24_apply, val_main_v23_apply, val_main_v22_apply, val_main_cst_2_apply, val_main_v26_apply]
  have eg : gain (idx_main_v19 (idx_main_v20 (ix3 0 s d))) = gr gain d := at1 gain _ d rfl
  have es : val_main_v5 (F := Ideal) md (idx_main_v26 (ix3 0 s d)) = mr md 0 d :=
    (at3 (val_main_v5 (F := Ideal) md) _ 0 0 d rfl rfl rfl).trans (shift_eq md d)
  have ec : val_main_v8 (F := Ideal) md (idx_main_v24 (ix3 0 s d)) = mr md 1 d :=
    (at3 (val_main_v8 (F := Ideal) md) _ 0 0 d rfl rfl rfl).trans (scale_eq md d)
  have eo : FloatOps.ofBits (F := Ideal) .f32 0x3F800000#32 = (1 : EReal) := Ideal.ofBits_one_f32
  rw [eg, es, ec, eo]
  show x (ix3 0 s d) * rms (xr x s) * gr gain d * (1 + mr md 1 d) + mr md 0 d = _
  rw [mul_assoc (x (ix3 0 s d) * rms (xr x s))]
  rfl

/-- The gate and the up projection, side by side. -/
theorem proj_eq (f : Fin 11264) : val_main_v33 (F := Ideal) x md gain wgu (ix3 0 s f)
    = ∑ k : Fin 2048, ur x md gain s k * wgu (ix2 k f) := by
  rw [val_main_v33_apply]
  refine Finset.sum_congr rfl fun k _ => congrArg₂ (· * ·) ?_ ?_
  · exact (at3 (val_main_v27 (F := Ideal) x md gain) _ 0 s k rfl rfl rfl).trans (norm_eq x md gain s k)
  · exact at2 wgu _ k f rfl rfl

/-- A hidden unit. -/
theorem act_eq (f : Fin 5632) : val_main_v43 (F := Ideal) x md gain wgu (ix3 0 s f)
    = act (ur x md gain s) (fun k => wgu (ix2 k ⟨f.val, by omega⟩)) (fun k => wgu (ix2 k ⟨5632 + f.val, by omega⟩)) := by
  have eg : val_main_v34 (F := Ideal) x md gain wgu (ix3 0 s f) = ∑ k : Fin 2048, ur x md gain s k * wgu (ix2 k ⟨f.val, by omega⟩) := by
    rw [val_main_v34_apply]
    exact (at3 (val_main_v33 (F := Ideal) x md gain wgu) _ 0 s ⟨f.val, by omega⟩ rfl rfl rfl).trans (proj_eq x md gain wgu s _)
  have eu : val_main_v35 (F := Ideal) x md gain wgu (ix3 0 s f) = ∑ k : Fin 2048, ur x md gain s k * wgu (ix2 k ⟨5632 + f.val, by omega⟩) := by
    rw [val_main_v35_apply]
    exact (at3 (val_main_v33 (F := Ideal) x md gain wgu) _ 0 s ⟨5632 + f.val, by omega⟩ rfl rfl rfl).trans (proj_eq x md gain wgu s _)
  have eo : FloatOps.ofBits (F := Ideal) .f32 0x3F800000#32 = (1 : EReal) := Ideal.ofBits_one_f32
  rw [val_main_v43_apply, val_main_v42_apply, val_main_v41_apply, val_main_v40_apply, val_main_v39_apply, val_main_v38_apply,
    val_main_v37_apply, val_main_v36_apply, val_main_cst_4_apply, val_main_cst_5_apply, eg, eu, eo]
  rfl

/-- The sublayer's result. -/
theorem sub_eq : val_main_v47 (F := Ideal) x md gain wgu wdn (ix3 0 s d)
    = sub (xr x s) (gr gain) (mr md 0) (mr md 1) (mr md 2) wgu wdn d := by
  have ef : val_main_v44 (F := Ideal) x md gain wgu wdn (ix3 0 s d) = ffn (ur x md gain s) wgu wdn d := by
    rw [val_main_v44_apply, ffn_eq]
    refine Finset.sum_congr rfl fun f _ => congrArg₂ (· * ·) ?_ ?_
    · exact (at3 (val_main_v43 (F := Ideal) x md gain wgu) _ 0 s f rfl rfl rfl).trans (act_eq x md gain wgu s f)
    · exact at2 wdn _ f d rfl rfl
  rw [val_main_v47_apply, val_main_v46_apply, ef, val_main_v45_apply, val_main_v32_apply, val_main_v31_apply, val_main_cst_3_apply,
    (at3 (val_main_v30 (F := Ideal) md) (idx_main_v45 (ix3 0 s d)) 0 0 d rfl rfl rfl).trans (gate_eq md d)]
  rfl

/-- The reference's value is the sublayer on every row. -/
theorem ref_eq : val_main_v47 (F := Ideal) x md gain wgu wdn = Cert.ContextIdeal.Sweep.contextLayer x md gain wgu wdn := by
  funext i
  have h0 : (i 0).val < 1 := (i 0).isLt
  exact (at3 (val_main_v47 (F := Ideal) x md gain wgu wdn) i 0 (i 1) (i 2) (by show (i 0).val = 0; omega) rfl rfl).trans
    (sub_eq x md gain wgu wdn (i 1) (i 2))

end Cert.ContextRefIdeal.Sub
-- ==== Proof.InMath.lean ====
/-
  The input projection of the mixer, as plain mathematics over the extended reals: entry (r, col) is the sum over k of the
  normalised token in row r at k times the weight at (k, col), the rows the members' tokens one after another.
-/
module

public import Idealize.ShloMosaic.Lib.Pipeline.Value
public import Idealize.ShloMosaic.Lib.MatmulPlain
public import Idealize.ShloMosaic.Lib.ValueIdx

@[expose] public section

set_option maxRecDepth 16384

noncomputable section

open Idealize.ShloMosaic Idealize.ShloMosaic.ValueIdx

namespace Cert.Proj

abbrev Tokens : Shape := ⟨3, ![4, 2304, 2048]⟩
abbrev Rows : Shape := ⟨2, ![9216, 2048]⟩
abbrev Weights : Shape := ⟨2, ![2048, 5664]⟩

/-- Row `r` of the members' tokens laid one after another. -/
def token (u : Tokens.Idx → EReal) (r : Fin 9216) (k : Fin 2048) : EReal :=
  u (ix3 ⟨r.val / 2304, by omega⟩ ⟨r.val % 2304, Nat.mod_lt _ (by decide)⟩ k)

/-- Column `col` of the projection of row `r`. -/
def proj (u : Tokens.Idx → EReal) (w : Weights.Idx → EReal) (r : Fin 9216) (col : Fin 5664) : EReal :=
  ∑ k : Fin 2048, token u r k * w (ix2 k col)

/-- The reshape that lays the tokens one after another. -/
theorem rows_apply (u : Tokens.Idx → EReal) (h : Tokens.ShapeCasts Rows) (r : Fin 9216) (k : Fin 2048) :
    shapeCast Rows u h (ix2 r k) = token u r k :=
  shapeCast_apply u h (ix2 r k) (ix3 ⟨r.val / 2304, by omega⟩ ⟨r.val % 2304, Nat.mod_lt _ (by decide)⟩ k) (by
    rewrite [Shape.rowMajor_val_three, Shape.rowMajor_val_two]
    show (r.val / 2304 * 2304 + r.val % 2304) * 2048 + k.val = r.val * 2048 + k.val
    omega)

end Cert.Proj
-- ==== Proof.InAValue.lean ====
/-
  The delta rule's columns of the input projection: the kernel `InAIdeal` leaves the first 4096 columns of the projection in
  its result array, and the reference `InARefIdeal` computes the same.
-/
module

public import proofs.«01_k».proof.Defs
public import proofs.«01_k».proof.Proof.FfnMath
public import proofs.«01_k».proof.Proof.InMath
public import proofs.«01_k».proof.Proof.Gen.InAIdeal.Value
public import proofs.«01_k».proof.Proof.Gen.InARefIdeal.Read
public import Idealize.ShloMosaic.Lib.StableHlo.RunRead

@[expose] public section

set_option maxRecDepth 16384

noncomputable section

open Idealize.ShloMosaic Idealize.ShloMosaic.TcCoe Idealize.SL.Sem Idealize.ShloMosaic.ValueIdx
open Idealize.ShloMosaic.Pipeline (Dat)

namespace Cert.InAIdeal.Proj

open Cert.InAIdeal Cert.InAIdeal.Gen
open Cert.Proj
open Cert.Ffn (at2)

/-- The stored payload at (p, q): the product of the tile's row and the weights' column. -/
theorem pay_apply (x : FVec Ideal S1024x2048 .bf16) (w : FVec Ideal S2048x2048 .bf16) (p : Fin 1024) (q : Fin 2048) :
    k0_pay1 (F := Ideal) x w (ix2 p q) = ∑ k : Fin 2048, x (ix2 p k) * w (ix2 k q) := by
  unfold k0_pay1
  rw [shapeCast_self, shapeCast_self]
  refine (Ideal.matmul_plain_apply none x w (constant S1024x2048 .f32 0x00000000#32) p q).trans ?_
  rw [constant_apply, Ideal.ofBits_zero_f32, zero_add]

variable (m : (ℓ : Loc nD τ sig) → Buf (Elt Ideal) ℓ) (c : Dev nD) (t : Fin cfg0.N)

/-- The projection's first 4096 columns: what the result array is shown to hold. -/
def G : Buf (Elt Ideal) ((c : Thread nD τ).loc main_v3) := fun i =>
  proj (m ((c : Thread nD τ).loc main_arg0)) (m ((c : Thread nD τ).loc main_arg1)) (i 0) ⟨(i 1).val, by have : (i 1).val < 4096 := (i 1).isLt; omega⟩

theorem V_u : V m c main_v0 = shapeCast S9216x2048 (m ((c : Thread nD τ).loc main_arg0)) shapeCasts_S4x2304x2048_S9216x2048 := by
  unfold V
  after_reads_simp
  rfl

theorem V_w : V m c main_v2 = extractStridedSlice S2048x4096 ![0, 0] (m ((c : Thread nD τ).loc main_arg1)) slices_S2048x5664_S2048x4096_0_0 := by
  unfold V
  after_reads_simp
  rfl

/-- The first 4096 columns of the weights. -/
theorem columns_apply (w : Weights.Idx → EReal) (k : Fin 2048) (q : Fin 4096) :
    extractStridedSlice S2048x4096 ![0, 0] w slices_S2048x5664_S2048x4096_0_0 (ix2 k q) = w (ix2 k ⟨q.val, by omega⟩) :=
  extractStridedSlice_apply ![0, 0] w slices_S2048x5664_S2048x4096_0_0 (ix2 k q) (ix2 k ⟨q.val, by omega⟩) (fun a => match a with
    | ⟨0, _⟩ => by show k.val = 0 + k.val; omega
    | ⟨1, _⟩ => by show q.val = 0 + q.val; omega)

/-- The row tile is the point halved, the column tile the point mod 2. -/
theorem idx_facts : ∀ t : Fin cfg0.N,
    win0_0.index t 0 = t.val / 2 ∧ win0_0.index t 1 = 0 ∧ win0_1.index t 0 = 0 ∧ win0_1.index t 1 = t.val % 2
    ∧ win0_2.index t 0 = t.val / 2 ∧ win0_2.index t 1 = t.val % 2 :=
  (by decide +kernel : ∀ t : Fin grid0.N,
    win0_0.index t 0 = t.val / 2 ∧ win0_0.index t 1 = 0 ∧ win0_1.index t 0 = 0 ∧ win0_1.index t 1 = t.val % 2
    ∧ win0_2.index t 0 = t.val / 2 ∧ win0_2.index t 1 = t.val % 2)

theorem lt_18 (t : Fin cfg0.N) : t.val < 18 := lt_of_lt_of_eq t.isLt N_0

theorem token_read (p : Fin 1024) (k : Fin 2048) : (iblk m c 0 t : FVec Ideal S1024x2048 .bf16) (ix2 p k)
    = token (m ((c : Thread nD τ).loc main_arg0)) ⟨1024 * (t.val / 2) + p.val, by have := lt_18 t; omega⟩ k := by
  obtain ⟨e0, e1, -⟩ := idx_facts t
  refine Eq.trans ?_ (rows_apply (m ((c : Thread nD τ).loc main_arg0)) shapeCasts_S4x2304x2048_S9216x2048 _ k)
  unfold iblk
  rw [View.read_apply]
  show V m c main_v0 _ = _
  rw [V_u]
  refine at2 (n0 := 9216) (n1 := 2048) _ _ _ _ ?_ ?_
  · show win0_0.index t 0 * 1024 + 1 * p.val = 1024 * (t.val / 2) + p.val; rw [e0]; omega
  · show win0_0.index t 1 * 2048 + 1 * k.val = k.val; rw [e1]; omega

theorem weight_read (k q : Fin 2048) : (iblk m c 1 t : FVec Ideal S2048x2048 .bf16) (ix2 k q)
    = m ((c : Thread nD τ).loc main_arg1) (ix2 k ⟨2048 * (t.val % 2) + q.val, by omega⟩) := by
  obtain ⟨-, -, e0, e1, -⟩ := idx_facts t
  unfold iblk
  rw [View.read_apply]
  show V m c main_v2 _ = _
  rw [V_w]
  refine (at2 (n0 := 2048) (n1 := 4096) _ _ k ⟨2048 * (t.val % 2) + q.val, by omega⟩ ?_ ?_).trans (columns_apply _ k _)
  · show win0_1.index t 0 * 2048 + 1 * k.val = k.val; rw [e0]; omega
  · show win0_1.index t 1 * 2048 + 1 * q.val = 2048 * (t.val % 2) + q.val; rw [e1]; omega

theorem flushed_eq : (dats m 0 c).flushed 2 t = ((cfg0.win 2).blk t).view.read (Elt Ideal) (G m c) := by
  obtain ⟨-, -, -, -, e0, e1⟩ := idx_facts t
  have ht := lt_18 t
  rw [Value.flushed2]
  unfold out0_2
  rw [View.canon_unit_zero (by funext a; fin_cases a <;> rfl)]
  funext j
  rw [View.read_apply]
  refine (at2 (n0 := 1024) (n1 := 2048) (k0_pay1 (F := Ideal) _ _) _ (j 0) (j 1) rfl rfl).trans ((pay_apply _ _ _ _).trans ?_)
  refine (Finset.sum_congr rfl fun k _ => congrArg₂ (· * ·) ?_ ?_ : _ = proj (m ((c : Thread nD τ).loc main_arg0)) (m ((c : Thread nD τ).loc main_arg1))
    ⟨1024 * (t.val / 2) + (j 0).val, by have : (j 0).val < 1024 := (j 0).isLt; omega⟩
    ⟨2048 * (t.val % 2) + (j 1).val, by have : (j 1).val < 2048 := (j 1).isLt; omega⟩).trans ?_
  · rw [View.ld_unit_zero (S := S1024x2048) (by funext a; fin_cases a <;> rfl)]
    exact token_read m c t (j 0) k
  · rw [View.ld_unit_zero (S := S2048x2048) (by funext a; fin_cases a <;> rfl)]
    exact weight_read m c t k (j 1)
  · unfold G
    refine congrArg₂ (proj _ _) (Fin.ext ?_) (Fin.ext ?_)
    · show _ = win0_2.index t 0 * 1024 + 1 * (j 0).val; rw [e0]; dsimp only; omega
    · show _ = win0_2.index t 1 * 2048 + 1 * (j 1).val; rw [e1]; dsimp only; omega

theorem mem2 (t : Fin cfg0.N) (i : main_v3.ty.Idx) : i ∈ ((cfg0.win 2).blk t).view.set
    ↔ ∀ a, win0_2.index t a * S1024x2048.size a ≤ (i a).val ∧ (i a).val < win0_2.index t a * S1024x2048.size a + S1024x2048.size a := by
  show i ∈ ((View.whole main_v3).slice (win0_2.rect t)).set ↔ _
  rw [View.set_slice_whole, Rect.mem_set_unit]

theorem final : (dats m 0 c).arrAt 2 cfg0.N = G m c :=
  (dats m 0 c).arrAt_eq_of_cover 2 (G m c) (fun t _ => flushed_eq m c t) (fun i => by
    have h0 : (i 0).val < 9216 := (i 0).isLt
    have h1 : (i 1).val < 4096 := (i 1).isLt
    have hn : 2 * ((i 0).val / 1024) + (i 1).val / 2048 < cfg0.N := lt_of_lt_of_eq (by omega : _ < 18) N_0.symm
    obtain ⟨-, -, -, -, e0, e1⟩ := idx_facts ⟨_, hn⟩
    refine ⟨⟨_, hn⟩, flush0_2 _, (mem2 _ i).2 ?_⟩
    intro a
    match a with
    | ⟨0, _⟩ => show win0_2.index ⟨_, hn⟩ 0 * 1024 ≤ (i 0).val ∧ (i 0).val < win0_2.index ⟨_, hn⟩ 0 * 1024 + 1024; rw [e0]; dsimp only; omega
    | ⟨1, _⟩ => show win0_2.index ⟨_, hn⟩ 1 * 2048 ≤ (i 1).val ∧ (i 1).val < win0_2.index ⟨_, hn⟩ 1 * 2048 + 2048; rw [e1]; dsimp only; omega)

/-- The reference's product at (r, col). -/
theorem ref_proj (u : Tokens.Idx → EReal) (w : Weights.Idx → EReal) (i : Cert.InARefIdeal.S9216x5664.Idx) :
    Cert.InARefIdeal.Read.val_main_v2 (F := Ideal) u w i = proj u w (i 0) (i 1) := by
  open Cert.InARefIdeal.Read in
  have h0 : (i 0).val < 9216 := (i 0).isLt
  rw [val_main_v2_apply]
  refine Finset.sum_congr rfl fun k _ => congrArg₂ (· * ·) ?_ ?_
  · rw [val_main_v1_apply]
    show Cert.InARefIdeal.Read.val_main_v0 (F := Ideal) u _ = _
    refine (at2 (n0 := 9216) (n1 := 2048) _ _ (i 0) k rfl rfl).trans ?_
    exact rows_apply u _ (i 0) k
  · exact at2 (n0 := 2048) (n1 := 5664) _ _ _ _ rfl rfl

/-- The reference's value is the projection's first 4096 columns. -/
theorem ref_eq (u : Tokens.Idx → EReal) (w : Weights.Idx → EReal) : Cert.InARefIdeal.Read.val_main_v4 (F := Ideal) u w
    = fun i => proj u w (i 0) ⟨(i 1).val, by have : (i 1).val < 4096 := (i 1).isLt; omega⟩ := by
  funext i
  rw [Cert.InARefIdeal.Read.val_main_v4_apply]
  show Cert.InARefIdeal.Read.val_main_v3 (F := Ideal) u w i = _
  rw [Cert.InARefIdeal.Read.val_main_v3_apply, ref_proj]
  rfl

end Cert.InAIdeal.Proj
-- ==== Proof.InBValue.lean ====
/-
  Attention's columns of the input projection and the gates': the kernel `InBIdeal` leaves the last 1536 columns of the
  projection in its first result array and the gates' 32 columns, with 96 columns of zeros after them, in its second; the
  reference `InBRefIdeal` computes the same.
-/
module

public import proofs.«01_k».proof.Defs
public import proofs.«01_k».proof.Proof.FfnMath
public import proofs.«01_k».proof.Proof.InMath
public import proofs.«01_k».proof.Proof.Gen.InBIdeal.Value
public import proofs.«01_k».proof.Proof.Gen.InBRefIdeal.Read
public import Idealize.ShloMosaic.Lib.StableHlo.RunRead
public import Idealize.ShloMosaic.Lib.IdealHost
public import Idealize.ShloMosaic.Lib.KernelVsHost

@[expose] public section

set_option maxRecDepth 16384

noncomputable section

open Idealize.ShloMosaic Idealize.ShloMosaic.TcCoe Idealize.SL.Sem Idealize.ShloMosaic.ValueIdx
open Idealize.ShloMosaic.Pipeline (Dat)

namespace Cert.InBIdeal.Proj

open Cert.InBIdeal Cert.InBIdeal.Gen
open Cert.Proj
open Cert.Ffn (at2)

/-- The product at (p, q): the tile's row times the laid-out weights' column. -/
theorem pay1_apply (x : FVec Ideal S1024x2048 .bf16) (w : FVec Ideal S2048x1664 .bf16) (p : Fin 1024) (q : Fin 1664) :
    k0_pay1 (F := Ideal) x w (ix2 p q) = ∑ k : Fin 2048, x (ix2 p k) * w (ix2 k q) := by
  unfold k0_pay1
  rw [shapeCast_self, shapeCast_self]
  refine (Ideal.matmul_plain_apply none x w (constant S1024x1664 .f32 0x00000000#32) p q).trans ?_
  rw [constant_apply, Ideal.ofBits_zero_f32, zero_add]

theorem pay2_apply (x : FVec Ideal S1024x2048 .bf16) (w : FVec Ideal S2048x1664 .bf16) (p : Fin 1024) (q : Fin 1536) :
    k0_pay2 (F := Ideal) x w (ix2 p q) = ∑ k : Fin 2048, x (ix2 p k) * w (ix2 k ⟨q.val, by omega⟩) := by
  unfold k0_pay2
  show extractStridedSlice S1024x1536 ![0, 0] (k0_pay1 (F := Ideal) x w) slices_S1024x1664_o0_0_S1024x1536 (ix2 p q) = _
  refine (extractStridedSlice_apply ![0, 0] (k0_pay1 (F := Ideal) x w) slices_S1024x1664_o0_0_S1024x1536 (ix2 p q)
    (ix2 p ⟨q.val, by omega⟩) (fun a => match a with
    | ⟨0, _⟩ => by show p.val = 0 + p.val; omega
    | ⟨1, _⟩ => by show q.val = 0 + q.val; omega)).trans ?_
  exact pay1_apply x w p _

theorem pay3_apply (x : FVec Ideal S1024x2048 .bf16) (w : FVec Ideal S2048x1664 .bf16) (p : Fin 1024) (q : Fin 128) :
    k0_pay3 (F := Ideal) x w (ix2 p q) = ∑ k : Fin 2048, x (ix2 p k) * w (ix2 k ⟨1536 + q.val, by omega⟩) := by
  unfold k0_pay3
  refine (extractStridedSlice_apply ![0, 1536] (k0_pay1 (F := Ideal) x w) slices_S1024x1664_o0_1536_S1024x128 (ix2 p q)
    (ix2 p ⟨1536 + q.val, by omega⟩) (fun a => match a with
    | ⟨0, _⟩ => by show p.val = 0 + p.val; omega
    | ⟨1, _⟩ => rfl)).trans ?_
  exact pay1_apply x w p _

/-! ## The weights as laid out before the kernel -/

abbrev tail (w : Weights.Idx → EReal) : FVec Ideal S2048x1536 .bf16 :=
  extractStridedSlice S2048x1536 ![0, 4128] w slices_S2048x5664_S2048x1536_0_4128

abbrev gates (w : Weights.Idx → EReal) : FVec Ideal S2048x32 .bf16 :=
  extractStridedSlice S2048x32 ![0, 4096] w slices_S2048x5664_S2048x32_0_4096

abbrev zeros : FVec Ideal S2048x96 .bf16 :=
  broadcastInDim S2048x96 ![] bcast_S_S2048x96 (constant S_ .bf16 0x0000#16 : FVec Ideal S_ .bf16)

/-- The last 1536 columns, the gates' 32, and 96 of zeros. -/
def laid (w : Weights.Idx → EReal) : S2048x1664.Idx → EReal :=
  concatenate S2048x1664 1 [⟨S2048x1536, tail w⟩, ⟨S2048x32, gates w⟩, ⟨S2048x96, zeros⟩] concatenates_S2048x1536_S2048x32_S2048x96_S2048x1664_d1

theorem laid_tail (w : Weights.Idx → EReal) (k : Fin 2048) (q : Fin 1536) (f : Fin 1664) (hf : f.val = q.val) :
    laid w (ix2 k f) = w (ix2 k ⟨4128 + q.val, by omega⟩) := by
  unfold laid
  refine (concatenate_apply_piece (t := S2048x1664) 1 [⟨S2048x1536, tail w⟩, ⟨S2048x32, gates w⟩, ⟨S2048x96, zeros⟩]
    concatenates_S2048x1536_S2048x32_S2048x96_S2048x1664_d1 (ix2 k f) 0 (by simp) S2048x1536 (tail w) rfl rfl 0 rfl (ix2 k q) (fun b hb => ?_) ?_).trans ?_
  · match b with
    | ⟨0, _⟩ => rfl
    | ⟨1, _⟩ => exact absurd rfl hb
  · show 0 + q.val = f.val; omega
  · exact extractStridedSlice_apply ![0, 4128] w slices_S2048x5664_S2048x1536_0_4128 (ix2 k q) (ix2 k ⟨4128 + q.val, by omega⟩)
      (fun a => match a with
      | ⟨0, _⟩ => by show k.val = 0 + k.val; omega
      | ⟨1, _⟩ => rfl)

theorem laid_gates (w : Weights.Idx → EReal) (k : Fin 2048) (q : Fin 32) (f : Fin 1664) (hf : f.val = 1536 + q.val) :
    laid w (ix2 k f) = w (ix2 k ⟨4096 + q.val, by omega⟩) := by
  unfold laid
  refine (concatenate_apply_piece (t := S2048x1664) 1 [⟨S2048x1536, tail w⟩, ⟨S2048x32, gates w⟩, ⟨S2048x96, zeros⟩]
    concatenates_S2048x1536_S2048x32_S2048x96_S2048x1664_d1 (ix2 k f) 1 (by simp) S2048x32 (gates w) rfl rfl 1536 rfl (ix2 k q) (fun b hb => ?_) ?_).trans ?_
  · match b with
    | ⟨0, _⟩ => rfl
    | ⟨1, _⟩ => exact absurd rfl hb
  · show 1536 + q.val = f.val; omega
  · exact extractStridedSlice_apply ![0, 4096] w slices_S2048x5664_S2048x32_0_4096 (ix2 k q) (ix2 k ⟨4096 + q.val, by omega⟩)
      (fun a => match a with
      | ⟨0, _⟩ => by show k.val = 0 + k.val; omega
      | ⟨1, _⟩ => rfl)

theorem laid_zero (w : Weights.Idx → EReal) (k : Fin 2048) (q : Fin 96) (f : Fin 1664) (hf : f.val = 1568 + q.val) :
    laid w (ix2 k f) = 0 := by
  unfold laid
  refine (concatenate_apply_piece (t := S2048x1664) 1 [⟨S2048x1536, tail w⟩, ⟨S2048x32, gates w⟩, ⟨S2048x96, zeros⟩]
    concatenates_S2048x1536_S2048x32_S2048x96_S2048x1664_d1 (ix2 k f) 2 (by simp) S2048x96 zeros rfl rfl 1568 rfl (ix2 k q) (fun b hb => ?_) ?_).trans ?_
  · match b with
    | ⟨0, _⟩ => rfl
    | ⟨1, _⟩ => exact absurd rfl hb
  · show 1568 + q.val = f.val; omega
  · exact Ideal.ofBits_zero_bf16

/-- The last 1536 columns of the projection. -/
def attn (u : Tokens.Idx → EReal) (w : Weights.Idx → EReal) : S9216x1536.Idx → EReal := fun i =>
  proj u w (i 0) ⟨4128 + (i 1).val, by have : (i 1).val < 1536 := (i 1).isLt; omega⟩

/-- The gates' columns of the projection, then zeros. -/
def gate (u : Tokens.Idx → EReal) (w : Weights.Idx → EReal) : S9216x128.Idx → EReal := fun i =>
  if h : (i 1).val < 32 then proj u w (i 0) ⟨4096 + (i 1).val, by omega⟩ else 0

/-- The gates' columns of the product with the laid-out weights. -/
theorem gate_sum (u : Tokens.Idx → EReal) (w : Weights.Idx → EReal) (r : Fin 9216) (q : Fin 128) :
    (∑ k : Fin 2048, token u r k * laid w (ix2 k ⟨1536 + q.val, by omega⟩)) = gate u w (ix2 r q) := by
  unfold gate
  by_cases h : q.val < 32
  · refine Eq.trans ?_ (dif_pos h).symm
    exact Finset.sum_congr rfl fun k _ => congrArg₂ (· * ·) rfl (laid_gates w k ⟨q.val, h⟩ _ rfl)
  · refine Eq.trans ?_ (dif_neg h).symm
    exact Finset.sum_eq_zero fun k _ => by
      rw [laid_zero w k ⟨q.val - 32, by omega⟩ _ (by show 1536 + q.val = 1568 + (q.val - 32); omega), mul_zero]

variable (m : (ℓ : Loc nD τ sig) → Buf (Elt Ideal) ℓ) (c : Dev nD) (t : Fin cfg0.N)

abbrev G (c : Dev nD) : Buf (Elt Ideal) ((c : Thread nD τ).loc main_v7_0) :=
  attn (m ((c : Thread nD τ).loc main_arg0)) (m ((c : Thread nD τ).loc main_arg1))

abbrev GGate (c : Dev nD) : Buf (Elt Ideal) ((c : Thread nD τ).loc main_v7_1) :=
  gate (m ((c : Thread nD τ).loc main_arg0)) (m ((c : Thread nD τ).loc main_arg1))

theorem V_u : V m c main_v6 = shapeCast S9216x2048 (m ((c : Thread nD τ).loc main_arg0)) shapeCasts_S4x2304x2048_S9216x2048 := by
  unfold V
  after_reads_simp
  rfl

theorem V_w : V m c main_v5 = laid (m ((c : Thread nD τ).loc main_arg1)) := by
  unfold V
  after_reads_simp
  rfl

/-- The row tile is the point. -/
theorem idx_facts : ∀ t : Fin cfg0.N,
    win0_0.index t 0 = t.val ∧ win0_0.index t 1 = 0 ∧ win0_1.index t 0 = 0 ∧ win0_1.index t 1 = 0
    ∧ (win0_2.index t 0 = t.val ∧ win0_2.index t 1 = 0) ∧ win0_3.index t 0 = t.val ∧ win0_3.index t 1 = 0 :=
  (by decide +kernel : ∀ t : Fin grid0.N,
    win0_0.index t 0 = t.val ∧ win0_0.index t 1 = 0 ∧ win0_1.index t 0 = 0 ∧ win0_1.index t 1 = 0
    ∧ (win0_2.index t 0 = t.val ∧ win0_2.index t 1 = 0) ∧ win0_3.index t 0 = t.val ∧ win0_3.index t 1 = 0)

theorem lt_9 (t : Fin cfg0.N) : t.val < 9 := lt_of_lt_of_eq t.isLt N_0

theorem token_read (p : Fin 1024) (k : Fin 2048) : (iblk m c 0 t : FVec Ideal S1024x2048 .bf16) (ix2 p k)
    = token (m ((c : Thread nD τ).loc main_arg0)) ⟨1024 * t.val + p.val, by have := lt_9 t; omega⟩ k := by
  obtain ⟨e0, e1, -⟩ := idx_facts t
  refine Eq.trans ?_ (rows_apply (m ((c : Thread nD τ).loc main_arg0)) shapeCasts_S4x2304x2048_S9216x2048 _ k)
  unfold iblk
  rw [View.read_apply]
  show V m c main_v6 _ = _
  rw [V_u]
  refine at2 (n0 := 9216) (n1 := 2048) _ _ _ _ ?_ ?_
  · show win0_0.index t 0 * 1024 + 1 * p.val = 1024 * t.val + p.val; rw [e0]; omega
  · show win0_0.index t 1 * 2048 + 1 * k.val = k.val; rw [e1]; omega

theorem weight_read (k : Fin 2048) (q : Fin 1664) : (iblk m c 1 t : FVec Ideal S2048x1664 .bf16) (ix2 k q)
    = laid (m ((c : Thread nD τ).loc main_arg1)) (ix2 k q) := by
  obtain ⟨-, -, e0, e1, -⟩ := idx_facts t
  unfold iblk
  rw [View.read_apply]
  show V m c main_v5 _ = _
  rw [V_w]
  refine at2 (n0 := 2048) (n1 := 1664) _ _ _ _ ?_ ?_
  · show win0_1.index t 0 * 2048 + 1 * k.val = k.val; rw [e0]; omega
  · show win0_1.index t 1 * 1664 + 1 * q.val = q.val; rw [e1]; omega

/-- The point's blocks as the kernel reads them. -/
abbrev rows : FVec Ideal S1024x2048 .bf16 := View.ld (iblk m c 0 t) r0_0
abbrev cols : FVec Ideal S2048x1664 .bf16 := View.ld (iblk m c 1 t) r0_1

/-- The tile's product of the blocks: the sum over the laid-out weights. -/
theorem sum_read (p : Fin 1024) (q : Fin 1664) :
    (∑ k : Fin 2048, rows m c t (ix2 p k) * cols m c t (ix2 k q))
      = ∑ k : Fin 2048, token (m ((c : Thread nD τ).loc main_arg0)) ⟨1024 * t.val + p.val, by have := lt_9 t; omega⟩ k
          * laid (m ((c : Thread nD τ).loc main_arg1)) (ix2 k q) := by
  unfold rows cols
  rw [View.ld_unit_zero (S := S1024x2048) (by funext a; fin_cases a <;> rfl), View.ld_unit_zero (S := S2048x1664) (by funext a; fin_cases a <;> rfl)]
  exact Finset.sum_congr rfl fun k _ => congrArg₂ (· * ·) (token_read m c t p k) (weight_read m c t k q)

theorem flushed_eq : (dats m 0 c).flushed 2 t = ((cfg0.win 2).blk t).view.read (Elt Ideal) (G m c) := by
  obtain ⟨e0, e1⟩ := (idx_facts t).2.2.2.2.1
  have ht := lt_9 t
  rw [Value.flushed2]
  unfold out0_2
  rw [View.canon_unit_zero (by funext a; fin_cases a <;> rfl)]
  funext j
  have hj0 : (j 0).val < 1024 := (j 0).isLt
  have hj1 : (j 1).val < 1536 := (j 1).isLt
  rw [View.read_apply]
  refine (at2 (n0 := 1024) (n1 := 1536) (k0_pay2 (F := Ideal) _ _) _ (j 0) (j 1) rfl rfl).trans ((pay2_apply _ _ _ _).trans ?_)
  refine (sum_read m c t (j 0) _).trans ?_
  refine (Finset.sum_congr rfl fun k _ => congrArg₂ (· * ·) rfl (laid_tail _ k (j 1) _ rfl) : _ = proj (m ((c : Thread nD τ).loc main_arg0))
    (m ((c : Thread nD τ).loc main_arg1)) ⟨1024 * t.val + (j 0).val, by omega⟩ ⟨4128 + (j 1).val, by omega⟩).trans ?_
  unfold G attn
  refine congrArg₂ (proj _ _) (Fin.ext ?_) (Fin.ext ?_)
  · show _ = win0_2.index t 0 * 1024 + 1 * (j 0).val; rw [e0]; dsimp only; omega
  · show _ = 4128 + (win0_2.index t 1 * 1536 + 1 * (j 1).val); rw [e1]; dsimp only; omega

theorem flushed_gate : (dats m 0 c).flushed 3 t = ((cfg0.win 3).blk t).view.read (Elt Ideal) (GGate m c) := by
  obtain ⟨e0, e1⟩ := (idx_facts t).2.2.2.2.2
  have ht := lt_9 t
  rw [Value.flushed3]
  unfold out0_3
  rw [View.canon_unit_zero (by funext a; fin_cases a <;> rfl)]
  funext j
  have hj0 : (j 0).val < 1024 := (j 0).isLt
  have hj1 : (j 1).val < 128 := (j 1).isLt
  rw [View.read_apply]
  refine (at2 (n0 := 1024) (n1 := 128) (k0_pay3 (F := Ideal) _ _) _ (j 0) (j 1) rfl rfl).trans ((pay3_apply _ _ _ _).trans ?_)
  refine (sum_read m c t (j 0) _).trans (Eq.symm ?_)
  refine (at2 (n0 := 9216) (n1 := 128) (GGate m c) _ ⟨1024 * t.val + (j 0).val, by omega⟩ (j 1) ?_ ?_).trans ?_
  · show win0_3.index t 0 * 1024 + 1 * (j 0).val = 1024 * t.val + (j 0).val; rw [e0]; omega
  · show win0_3.index t 1 * 128 + 1 * (j 1).val = (j 1).val; rw [e1]; omega
  · exact (gate_sum _ _ _ (j 1)).symm

theorem mem2 (t : Fin cfg0.N) (i : main_v7_0.ty.Idx) : i ∈ ((cfg0.win 2).blk t).view.set
    ↔ ∀ a, win0_2.index t a * S1024x1536.size a ≤ (i a).val ∧ (i a).val < win0_2.index t a * S1024x1536.size a + S1024x1536.size a := by
  show i ∈ ((View.whole main_v7_0).slice (win0_2.rect t)).set ↔ _
  rw [View.set_slice_whole, Rect.mem_set_unit]

theorem mem3 (t : Fin cfg0.N) (i : main_v7_1.ty.Idx) : i ∈ ((cfg0.win 3).blk t).view.set
    ↔ ∀ a, win0_3.index t a * S1024x128.size a ≤ (i a).val ∧ (i a).val < win0_3.index t a * S1024x128.size a + S1024x128.size a := by
  show i ∈ ((View.whole main_v7_1).slice (win0_3.rect t)).set ↔ _
  rw [View.set_slice_whole, Rect.mem_set_unit]

theorem final : (dats m 0 c).arrAt 2 cfg0.N = G m c :=
  (dats m 0 c).arrAt_eq_of_cover 2 (G m c) (fun t _ => flushed_eq m c t) (fun i => by
    have h0 : (i 0).val < 9216 := (i 0).isLt
    have h1 : (i 1).val < 1536 := (i 1).isLt
    have hn : (i 0).val / 1024 < cfg0.N := lt_of_lt_of_eq (by omega : _ < 9) N_0.symm
    obtain ⟨e0, e1⟩ := (idx_facts ⟨_, hn⟩).2.2.2.2.1
    refine ⟨⟨_, hn⟩, flush0_2 _, (mem2 _ i).2 ?_⟩
    intro a
    match a with
    | ⟨0, _⟩ => show win0_2.index ⟨_, hn⟩ 0 * 1024 ≤ (i 0).val ∧ (i 0).val < win0_2.index ⟨_, hn⟩ 0 * 1024 + 1024; rw [e0]; dsimp only; omega
    | ⟨1, _⟩ => show win0_2.index ⟨_, hn⟩ 1 * 1536 ≤ (i 1).val ∧ (i 1).val < win0_2.index ⟨_, hn⟩ 1 * 1536 + 1536; rw [e1]; omega)

theorem final_gate : (dats m 0 c).arrAt 3 cfg0.N = GGate m c :=
  (dats m 0 c).arrAt_eq_of_cover 3 (GGate m c) (fun t _ => flushed_gate m c t) (fun i => by
    have h0 : (i 0).val < 9216 := (i 0).isLt
    have h1 : (i 1).val < 128 := (i 1).isLt
    have hn : (i 0).val / 1024 < cfg0.N := lt_of_lt_of_eq (by omega : _ < 9) N_0.symm
    obtain ⟨e0, e1⟩ := (idx_facts ⟨_, hn⟩).2.2.2.2.2
    refine ⟨⟨_, hn⟩, flush0_3 _, (mem3 _ i).2 ?_⟩
    intro a
    match a with
    | ⟨0, _⟩ => show win0_3.index ⟨_, hn⟩ 0 * 1024 ≤ (i 0).val ∧ (i 0).val < win0_3.index ⟨_, hn⟩ 0 * 1024 + 1024; rw [e0]; dsimp only; omega
    | ⟨1, _⟩ => show win0_3.index ⟨_, hn⟩ 1 * 128 ≤ (i 1).val ∧ (i 1).val < win0_3.index ⟨_, hn⟩ 1 * 128 + 128; rw [e1]; omega)

/-! ## The reference -/

/-- The reference's product at (r, col). -/
theorem ref_proj (u : Tokens.Idx → EReal) (w : Weights.Idx → EReal) (i : Cert.InBRefIdeal.S9216x5664.Idx) :
    Cert.InBRefIdeal.Read.val_main_v2 (F := Ideal) u w i = proj u w (i 0) (i 1) := by
  open Cert.InBRefIdeal.Read in
  have h0 : (i 0).val < 9216 := (i 0).isLt
  rw [val_main_v2_apply]
  refine Finset.sum_congr rfl fun k _ => congrArg₂ (· * ·) ?_ ?_
  · rw [val_main_v1_apply]
    show Cert.InBRefIdeal.Read.val_main_v0 (F := Ideal) u _ = _
    refine (at2 (n0 := 9216) (n1 := 2048) _ _ (i 0) k rfl rfl).trans ?_
    exact rows_apply u _ (i 0) k
  · exact at2 (n0 := 2048) (n1 := 5664) _ _ _ _ rfl rfl

theorem ref_attn (u : Tokens.Idx → EReal) (w : Weights.Idx → EReal) : Cert.InBRefIdeal.Read.val_main_v6 (F := Ideal) u w = attn u w := by
  funext i
  rw [Cert.InBRefIdeal.Read.val_main_v6_apply]
  show Cert.InBRefIdeal.Read.val_main_v5 (F := Ideal) u w i = _
  rw [Cert.InBRefIdeal.Read.val_main_v5_apply, ref_proj]
  rfl

theorem ref_gate (u : Tokens.Idx → EReal) (w : Weights.Idx → EReal) : Cert.InBRefIdeal.Read.val_main_v4 (F := Ideal) u w = gate u w := by
  funext i
  have h1 : (i 1).val < 128 := (i 1).isLt
  unfold Cert.InBRefIdeal.Read.val_main_v4 gate
  by_cases h : (i 1).val < 32
  · rw [dif_pos h]
    refine (pad_apply_of_inside ![0, 0] ![0, 96] ![0, 0] (Cert.InBRefIdeal.Read.val_main_v3 (F := Ideal) u w) _ _ _ i
      (ix2 (n0 := 9216) (n1 := 32) (i 0) ⟨(i 1).val, h⟩) (fun a => ?_)).trans ?_
    · match a with
      | ⟨0, _⟩ => show (i 0).val = 0 + (i 0).val * (0 + 1); omega
      | ⟨1, _⟩ => show (i 1).val = 0 + (i 1).val * (0 + 1); omega
    · rw [Cert.InBRefIdeal.Read.val_main_v3_apply, ref_proj]
      rfl
  · rw [dif_neg h]
    refine (pad_apply_of_not_inside ![0, 0] ![0, 96] ![0, 0] (Cert.InBRefIdeal.Read.val_main_v3 (F := Ideal) u w) _ _ _ i 1 ?_).trans ?_
    · show ¬(0 ≤ (i 1).val ∧ ((i 1).val - 0) % (0 + 1) = 0 ∧ ((i 1).val - 0) / (0 + 1) < 32)
      omega
    · exact sitofp_zero (φ := .f32)

end Cert.InBIdeal.Proj
-- ==== Proof.TileMath.lean ====
/-
  Tiles of any number of rows of 2048: their reshapes, the spreading of rows and columns over them, the root mean square of their rows.
-/
module

public import proofs.«01_k».proof.Proof.FfnMath

@[expose] public section

set_option maxRecDepth 16384

noncomputable section

open Idealize.ShloMosaic Idealize.ShloMosaic.TcCoe Idealize.SL.Sem Idealize.ShloMosaic.ValueIdx

namespace Cert.Tile

open Cert.Ffn (Row rms modrow)

variable {n l : ℕ} {φ : FTy}

abbrev V1 (n : ℕ) : Shape := ⟨1, ![n]⟩
abbrev V2 (n l : ℕ) : Shape := ⟨2, ![n, l]⟩
abbrev V3 (k n l : ℕ) : Shape := ⟨3, ![k, n, l]⟩

/-- A tile without its leading unit axis. -/
theorem drop_apply (v : FVec Ideal (V3 1 n l) φ) (h : (V3 1 n l).ShapeCasts (V2 n l)) (p : Fin n) (q : Fin l) :
    shapeCast (V2 n l) v h (ix2 p q) = v (ix3 0 p q) :=
  (shapeCast_dropUnit_apply ![n, l] v h (ix2 p q)).trans
    (congrArg v (funext fun d => by match d with | ⟨0, _⟩ => rfl | ⟨1, _⟩ => rfl | ⟨2, _⟩ => rfl))

/-- A tile given a leading unit axis. -/
theorem add_apply (v : FVec Ideal (V2 n l) φ) (h : (V2 n l).ShapeCasts (V3 1 n l)) (p : Fin n) (q : Fin l) :
    shapeCast (V3 1 n l) v h (ix3 0 p q) = v (ix2 p q) :=
  (shapeCast_addUnit_apply ![n, l] v h (ix3 0 p q)).trans
    (congrArg v (funext fun d => by match d with | ⟨0, _⟩ => rfl | ⟨1, _⟩ => rfl))

/-- A row spread over a tile. -/
theorem row_apply (v : FVec Ideal (V2 1 l) φ) (h : (V2 1 l).Broadcasts (V2 n l)) (p : Fin n) (q : Fin l) :
    broadcastTo (V2 n l) v h (ix2 p q) = v (ix2 0 q) :=
  broadcastTo_apply v h (ix2 p q) (ix2 0 q) (fun a => by
    match a with
    | ⟨0, _⟩ => rfl
    | ⟨1, _⟩ => show q.val = if l = 1 then 0 else q.val; split <;> omega)

/-- A column spread over a tile. -/
theorem col_apply (v : FVec Ideal (V2 n 1) φ) (h : (V2 n 1).Broadcasts (V2 n l)) (p : Fin n) (q : Fin l) :
    broadcastTo (V2 n l) v h (ix2 p q) = v (ix2 p 0) :=
  broadcastTo_apply v h (ix2 p q) (ix2 p 0) (fun a => by
    match a with
    | ⟨0, _⟩ => show p.val = if n = 1 then 0 else p.val; split <;> omega
    | ⟨1, _⟩ => rfl)

/-- A vector stood up as a column. -/
theorem stand_apply (v : FVec Ideal (V1 n) φ) (h : (V1 n).ShapeCasts (V2 n 1)) (p : Fin n) :
    shapeCast (V2 n 1) v h (ix2 p 0) = v (ix1 p) :=
  shapeCast_apply v h (ix2 p 0) (ix1 p) (by
    rw [Shape.rowMajor_val_one, Shape.rowMajor_val_two]
    show p.val = p.val * 1 + 0
    omega)

/-- The sum of a tile's row. -/
theorem sum_apply (v : FVec Ideal (V2 n l) .f32) (h : (V2 n l).Reduces [1] (V1 n)) (p : Fin n) :
    multiReduction (φ := .f32) .add [1] (V1 n) v 0x00000000#32 h (.inl rfl) rfl (ix1 p) = ∑ d : Fin l, v (ix2 p d) := by
  refine (Ideal.multiReduction_add_single (φ := .f32) v _ h (.inl rfl) rfl (ix1 p)).trans ?_
  exact Finset.sum_congr rfl fun k _ => congrArg v (funext fun a => Fin.ext (by match a with | ⟨0, _⟩ => rfl | ⟨1, _⟩ => rfl))

/-- The reciprocal root mean squares of a tile's rows, spread over it. -/
theorem rms_apply (v : FVec Ideal (V2 n 2048) .f32) (hr : (V2 n 2048).Reduces [1] (V1 n)) (hs : (V1 n).ShapeCasts (V2 n 1))
    (hb : (V2 n 1).Broadcasts (V2 n 2048)) (p : Fin n) (q : Fin 2048) :
    broadcastTo (V2 n 2048) (rsqrt (addf (divf (shapeCast (V2 n 1)
      (multiReduction (φ := .f32) .add [1] (V1 n) (mulf v v) 0x00000000#32 hr (.inl rfl) rfl) hs)
      (broadcast (V2 n 1) (Scalar.ofBits .f32 0x45000000#32))) (broadcast (V2 n 1) (Scalar.ofBits .f32 0x358637BD#32)))) hb (ix2 p q)
      = rms fun d => v (ix2 p d) := by
  refine (col_apply _ hb p q).trans ?_
  have e := (stand_apply _ hs p).trans (sum_apply (mulf v v) hr p)
  exact congrArg (fun s => Ideal.rsqrt (Ideal.div s (Ideal.ofBits .f32 0x45000000#32) + Ideal.ofBits .f32 0x358637BD#32)) e

/-- A vector laid down as a row. -/
theorem lay_apply (v : FVec Ideal (V1 l) φ) (h : (V1 l).ShapeCasts (V2 1 l)) (q : Fin l) :
    shapeCast (V2 1 l) v h (ix2 0 q) = v (ix1 q) :=
  shapeCast_apply v h (ix2 0 q) (ix1 q) (by
    rw [Shape.rowMajor_val_one, Shape.rowMajor_val_two]
    show q.val = 0 * l + q.val
    omega)

/-- The modulated norms of a tile's rows. -/
theorem mod_apply (v : FVec Ideal (V2 n 2048) .f32) (gain shift scale : FVec Ideal (V2 1 2048) .f32) (hr : (V2 n 2048).Reduces [1] (V1 n))
    (hs : (V1 n).ShapeCasts (V2 n 1)) (hb : (V2 n 1).Broadcasts (V2 n 2048)) (hw : (V2 1 2048).Broadcasts (V2 n 2048))
    (p : Fin n) (q : Fin 2048) :
    addf (mulf (mulf v (broadcastTo (V2 n 2048) (rsqrt (addf (divf (shapeCast (V2 n 1)
      (multiReduction (φ := .f32) .add [1] (V1 n) (mulf v v) 0x00000000#32 hr (.inl rfl) rfl) hs)
      (broadcast (V2 n 1) (Scalar.ofBits .f32 0x45000000#32))) (broadcast (V2 n 1) (Scalar.ofBits .f32 0x358637BD#32)))) hb))
      (broadcastTo (V2 n 2048) (mulf gain (addf (broadcast (V2 1 2048) (Scalar.ofBits .f32 0x3F800000#32)) scale)) hw))
      (broadcastTo (V2 n 2048) shift hw) (ix2 p q)
      = modrow (fun d => v (ix2 p d)) (fun d => gain (ix2 0 d)) (fun d => shift (ix2 0 d)) (fun d => scale (ix2 0 d)) q := by
  have ho : (FloatOps.ofBits (F := Ideal) .f32 0x3F800000#32 : EReal) = 1 := Ideal.ofBits_one_f32
  refine congrArg₂ (· + ·) (congrArg₂ (· * ·) (congrArg₂ (· * ·) rfl (rms_apply v hr hs hb p q)) ?_) (row_apply shift hw p q)
  exact (row_apply _ hw p q).trans (congrArg₂ (· * ·) rfl (congrArg₂ (· + ·) ho rfl))

end Cert.Tile
-- ==== Proof.FourierOutValue.lean ====
/-
  The Fourier mixer's output projection: the kernel `FourierOutIdeal` adds the gated projection to the residual tile by tile, and
  the reference `FourierOutRefIdeal` computes the same.
-/
module

public import proofs.«01_k».proof.Defs
public import proofs.«01_k».proof.Proof.TileMath
public import proofs.«01_k».proof.Proof.CloseStep
public import proofs.«01_k».proof.Proof.Gen.FourierOutIdeal.Value
public import proofs.«01_k».proof.Proof.Gen.FourierOutRefIdeal.Read
public import Idealize.ShloMosaic.Lib.StableHlo.RunRead

@[expose] public section

set_option maxRecDepth 16384

noncomputable section

open Idealize.ShloMosaic Idealize.ShloMosaic.TcCoe Idealize.SL.Sem Idealize.ShloMosaic.ValueIdx
open Idealize.ShloMosaic.Pipeline (Dat)

namespace Cert.FourierOutIdeal.Mix

open Cert.FourierOutIdeal Cert.FourierOutIdeal.Gen
open Cert.Tile
open Cert.Ffn (at2 at3)
open Cert.LastIdeal.Sweep (hz2 hz3)

/-- The residual plus the gated projection, at a sequence, a position and a channel. -/
def mixed (y : S4x2048x2048.Idx → EReal) (w : S2048x2048.Idx → EReal) (h : S4x2048x2048.Idx → EReal) (md : S9x8x2048.Idx → EReal)
    (b : Fin 4) (r d : Fin 2048) : EReal :=
  h (ix3 b r d) + md (ix3 5 (b.castLE (by decide)) d) * ∑ k : Fin 2048, y (ix3 b r k) * w (ix2 k d)

/-- The stored payload at (0, p, q). -/
theorem pay_apply (h : FVec Ideal S1x512x2048 .f32) (g : FVec Ideal S1x1x2048 .f32) (y : FVec Ideal S1x512x2048 .bf16)
    (w : FVec Ideal S2048x2048 .bf16) (p : Fin 512) (q : Fin 2048) :
    k0_pay1 (F := Ideal) h g y w (ix3 0 p q)
      = h (ix3 0 p q) + g (ix3 0 0 q) * ∑ k : Fin 2048, y (ix3 0 p k) * w (ix2 k q) := by
  unfold k0_pay1
  rw [shapeCast_self]
  refine (add_apply _ _ p q).trans (congrArg₂ (· + ·) (drop_apply h _ p q) (congrArg₂ (· * ·)
    ((row_apply _ _ p q).trans (drop_apply g _ 0 q)) ?_))
  refine (Ideal.matmul_plain_apply none _ w (constant S512x2048 .f32 0x00000000#32) p q).trans ?_
  rw [constant_apply, Ideal.ofBits_zero_f32, zero_add]
  exact Finset.sum_congr rfl fun k _ => congrArg₂ (· * ·) (drop_apply y _ p k) rfl

variable (m : (ℓ : Loc nD τ sig) → Buf (Elt Ideal) ℓ) (c : Dev nD) (t : Fin cfg0.N)

/-- What the result array is shown to hold. -/
def G : Buf (Elt Ideal) ((c : Thread nD τ).loc main_v1) := fun i =>
  mixed (m ((c : Thread nD τ).loc main_arg0)) (m ((c : Thread nD τ).loc main_arg1)) (m ((c : Thread nD τ).loc main_arg2))
    (m ((c : Thread nD τ).loc main_arg3)) (i 0) (i 1) (i 2)

/-- The row of the gates' block that a point reads. -/
abbrev grow : Vec Ideal S1x1x2048 .f32 :=
  View.ld (iblk m c 3 t) (Rect.unit (k0_off1 (grid0.coords t)) S1x1x2048.size (k0_off1_inb (grid0.coords t)))

theorem out_A : outsAt0 m c t = k0_pay1 (F := Ideal) (iblk m c 2 t) (grow m c t) (iblk m c 0 t) (iblk m c 1 t) := by
  unfold outsAt0 out0_A_4
  refine (View.read_writes_eq_canon _ _ _ (by apply cover0_A_4)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread,
    View.ld_unit_zero (S := S1x512x2048) hz3, View.ld_unit_zero (S := S2048x2048) hz2]
  rfl

/-- The sequence is the point divided by 4, the row tile the point mod 4. -/
theorem idx_facts : ∀ t : Fin cfg0.N,
    ((grid0.coords t) 0).val = t.val / 4
    ∧ (win0_0.index t 0 = t.val / 4 ∧ win0_0.index t 1 = t.val % 4 ∧ win0_0.index t 2 = 0)
    ∧ (win0_1.index t 0 = 0 ∧ win0_1.index t 1 = 0)
    ∧ (win0_2.index t 0 = t.val / 4 ∧ win0_2.index t 1 = t.val % 4 ∧ win0_2.index t 2 = 0)
    ∧ (win0_3.index t 0 = 5 ∧ win0_3.index t 1 = 0 ∧ win0_3.index t 2 = 0)
    ∧ (win0_4.index t 0 = t.val / 4 ∧ win0_4.index t 1 = t.val % 4 ∧ win0_4.index t 2 = 0) :=
  (by decide +kernel : ∀ t : Fin grid0.N,
    ((grid0.coords t) 0).val = t.val / 4
    ∧ (win0_0.index t 0 = t.val / 4 ∧ win0_0.index t 1 = t.val % 4 ∧ win0_0.index t 2 = 0)
    ∧ (win0_1.index t 0 = 0 ∧ win0_1.index t 1 = 0)
    ∧ (win0_2.index t 0 = t.val / 4 ∧ win0_2.index t 1 = t.val % 4 ∧ win0_2.index t 2 = 0)
    ∧ (win0_3.index t 0 = 5 ∧ win0_3.index t 1 = 0 ∧ win0_3.index t 2 = 0)
    ∧ (win0_4.index t 0 = t.val / 4 ∧ win0_4.index t 1 = t.val % 4 ∧ win0_4.index t 2 = 0))

theorem lt_16 (t : Fin cfg0.N) : t.val < 16 := lt_of_lt_of_eq t.isLt N_0

/-- The point's sequence, and a row of its tile. -/
abbrev seqOf : Fin 4 := ⟨t.val / 4, by have := lt_16 t; omega⟩
abbrev rowOf (p : Fin 512) : Fin 2048 := ⟨512 * (t.val % 4) + p.val, by omega⟩

theorem off1_val (i : grid0.Coords) : k0_off1 i 1 = (i 0).val := by rw [k0_off1_eq]; rfl

theorem y_read (p : Fin 512) (k : Fin 2048) : (iblk m c 0 t : FVec Ideal S1x512x2048 .bf16) (ix3 0 p k)
    = m ((c : Thread nD τ).loc main_arg0) (ix3 (seqOf t) (rowOf t p) k) := by
  obtain ⟨-, ⟨e0, e1, e2⟩, -⟩ := idx_facts t
  unfold iblk
  rw [View.read_apply]
  show V m c main_arg0 _ = _
  rw [V_main_arg0]
  refine at3 (n0 := 4) (n1 := 2048) (n2 := 2048) _ _ _ _ _ ?_ ?_ ?_
  · show win0_0.index t 0 * 1 + 1 * 0 = t.val / 4; rw [e0]; omega
  · show win0_0.index t 1 * 512 + 1 * p.val = 512 * (t.val % 4) + p.val; rw [e1]; omega
  · show win0_0.index t 2 * 2048 + 1 * k.val = k.val; rw [e2]; omega

theorem h_read (p : Fin 512) (k : Fin 2048) : (iblk m c 2 t : FVec Ideal S1x512x2048 .f32) (ix3 0 p k)
    = m ((c : Thread nD τ).loc main_arg2) (ix3 (seqOf t) (rowOf t p) k) := by
  obtain ⟨-, -, -, ⟨e0, e1, e2⟩, -⟩ := idx_facts t
  unfold iblk
  rw [View.read_apply]
  show V m c main_arg2 _ = _
  rw [V_main_arg2]
  refine at3 (n0 := 4) (n1 := 2048) (n2 := 2048) _ _ _ _ _ ?_ ?_ ?_
  · show win0_2.index t 0 * 1 + 1 * 0 = t.val / 4; rw [e0]; omega
  · show win0_2.index t 1 * 512 + 1 * p.val = 512 * (t.val % 4) + p.val; rw [e1]; omega
  · show win0_2.index t 2 * 2048 + 1 * k.val = k.val; rw [e2]; omega

theorem V_w : V m c main_v0 = (m ((c : Thread nD τ).loc main_arg1) : S2048x2048.Idx → EReal) := by
  unfold V
  after_reads_simp
  rfl

theorem w_read (k q : Fin 2048) : (iblk m c 1 t : FVec Ideal S2048x2048 .bf16) (ix2 k q)
    = m ((c : Thread nD τ).loc main_arg1) (ix2 k q) := by
  obtain ⟨-, -, ⟨e0, e1⟩, -⟩ := idx_facts t
  unfold iblk
  rw [View.read_apply]
  show V m c main_v0 _ = _
  rw [V_w]
  refine at2 (n0 := 2048) (n1 := 2048) _ _ k q ?_ ?_
  · show win0_1.index t 0 * 2048 + 1 * k.val = k.val; rw [e0]; omega
  · show win0_1.index t 1 * 2048 + 1 * q.val = q.val; rw [e1]; omega

theorem g_read (q : Fin 2048) : grow m c t (ix3 0 0 q)
    = m ((c : Thread nD τ).loc main_arg3) (ix3 5 ((seqOf t).castLE (by decide)) q) := by
  obtain ⟨eg, -, -, -, ⟨e0, e1, e2⟩, -⟩ := idx_facts t
  show (iblk m c 3 t : FVec Ideal S1x8x2048 .f32) _ = _
  unfold iblk
  rw [View.read_apply]
  show V m c main_arg3 _ = _
  rw [V_main_arg3]
  refine at3 (n0 := 9) (n1 := 8) (n2 := 2048) _ _ _ _ _ ?_ ?_ ?_
  · show win0_3.index t 0 * 1 + 1 * (0 + 1 * 0) = 5; rw [e0]
  · show win0_3.index t 1 * 8 + 1 * (k0_off1 (grid0.coords t) 1 + 1 * 0) = t.val / 4; rw [e1, off1_val, eg]; omega
  · show win0_3.index t 2 * 2048 + 1 * (0 + 1 * q.val) = q.val; rw [e2]; omega

theorem out_apply (p : Fin 512) (q : Fin 2048) : (outsAt0 m c t : FVec Ideal S1x512x2048 .f32) (ix3 0 p q)
    = mixed (m ((c : Thread nD τ).loc main_arg0)) (m ((c : Thread nD τ).loc main_arg1)) (m ((c : Thread nD τ).loc main_arg2))
        (m ((c : Thread nD τ).loc main_arg3)) (seqOf t) (rowOf t p) q := by
  rw [out_A]
  refine (pay_apply _ _ _ _ p q).trans (congrArg₂ (· + ·) (h_read m c t p q) (congrArg₂ (· * ·) (g_read m c t q)
    (Finset.sum_congr rfl fun k _ => congrArg₂ (· * ·) (y_read m c t p k) (w_read m c t k q))))

theorem flushed_eq : (dats m 0 c).flushed 4 t = ((cfg0.win 4).blk t).view.read (Elt Ideal) (G m c) := by
  obtain ⟨-, -, -, -, -, e0, e1, e2⟩ := idx_facts t
  rw [Value.flushed4]
  funext j
  have hj0 : (j 0).val < 1 := (j 0).isLt
  rw [View.read_apply]
  have hl : (outsAt0 m c t : FVec Ideal S1x512x2048 .f32) ((cfg0.win 4).xinj (grid0.coords t) j)
      = (outsAt0 m c t : FVec Ideal S1x512x2048 .f32) (ix3 0 (j 1) (j 2)) :=
    at3 (n0 := 1) (n1 := 512) (n2 := 2048) _ _ _ _ _ (by show (j 0).val = 0; omega) rfl rfl
  refine hl.trans ((out_apply m c t (j 1) (j 2)).trans (Eq.symm ?_))
  refine (at3 (n0 := 4) (n1 := 2048) (n2 := 2048) (G m c) _ (seqOf t) (rowOf t (j 1)) (j 2) ?_ ?_ ?_).trans rfl
  · show win0_4.index t 0 * 1 + 1 * (j 0).val = t.val / 4; rw [e0]; omega
  · show win0_4.index t 1 * 512 + 1 * (j 1).val = 512 * (t.val % 4) + (j 1).val; rw [e1]; omega
  · show win0_4.index t 2 * 2048 + 1 * (j 2).val = (j 2).val; rw [e2]; omega

theorem mem4 (t : Fin cfg0.N) (i : main_v1.ty.Idx) : i ∈ ((cfg0.win 4).blk t).view.set
    ↔ ∀ a, win0_4.index t a * S1x512x2048.size a ≤ (i a).val ∧ (i a).val < win0_4.index t a * S1x512x2048.size a + S1x512x2048.size a := by
  show i ∈ ((View.whole main_v1).slice (win0_4.rect t)).set ↔ _
  rw [View.set_slice_whole, Rect.mem_set_unit]

theorem final : (dats m 0 c).arrAt 4 cfg0.N = G m c :=
  (dats m 0 c).arrAt_eq_of_cover 4 (G m c) (fun t _ => flushed_eq m c t) (fun i => by
    have h0 : (i 0).val < 4 := (i 0).isLt
    have h1 : (i 1).val < 2048 := (i 1).isLt
    have h2 : (i 2).val < 2048 := (i 2).isLt
    have hn : 4 * (i 0).val + (i 1).val / 512 < cfg0.N := lt_of_lt_of_eq (by omega : _ < 16) N_0.symm
    obtain ⟨-, -, -, -, -, e0, e1, e2⟩ := idx_facts ⟨_, hn⟩
    refine ⟨⟨_, hn⟩, flush0_4 _, (mem4 _ i).2 ?_⟩
    intro a
    match a with
    | ⟨0, _⟩ => show win0_4.index ⟨_, hn⟩ 0 * 1 ≤ (i 0).val ∧ (i 0).val < win0_4.index ⟨_, hn⟩ 0 * 1 + 1; rw [e0]; dsimp only; omega
    | ⟨1, _⟩ => show win0_4.index ⟨_, hn⟩ 1 * 512 ≤ (i 1).val ∧ (i 1).val < win0_4.index ⟨_, hn⟩ 1 * 512 + 512; rw [e1]; dsimp only; omega
    | ⟨2, _⟩ => show win0_4.index ⟨_, hn⟩ 2 * 2048 ≤ (i 2).val ∧ (i 2).val < win0_4.index ⟨_, hn⟩ 2 * 2048 + 2048; rw [e2]; dsimp only; omega)

section

open Cert.FourierOutRefIdeal.Read

variable (y : S4x2048x2048.Idx → EReal) (w : S2048x2048.Idx → EReal) (h : S4x2048x2048.Idx → EReal) (md : S9x8x2048.Idx → EReal)

theorem ref_gate (b : Fin 4) (r d : Fin 2048) : val_main_v5 (F := Ideal) md (ix3 b r d) = md (ix3 5 (b.castLE (by decide)) d) := by
  rw [val_main_v5_apply, val_main_v2_apply, val_main_v1_apply, val_main_v0_apply]
  refine at3 (n0 := 9) (n1 := 8) (n2 := 2048) md _ 5 (b.castLE (by decide)) d rfl ?_ ?_
  · show (b.val * 2048 + d.val) / 2048 % 4 = b.val; omega
  · show (b.val * 2048 + d.val) % 2048 = d.val; omega

theorem ref_eq : val_main_v7 (F := Ideal) y w h md = fun i => mixed y w h md (i 0) (i 1) (i 2) := by
  funext i
  refine (at3 (n0 := 4) (n1 := 2048) (n2 := 2048) (val_main_v7 (F := Ideal) y w h md) i (i 0) (i 1) (i 2) rfl rfl rfl).trans ?_
  rw [val_main_v7_apply, val_main_v6_apply]
  refine congrArg₂ (· + ·) rfl (congrArg₂ (· * ·) (ref_gate md _ _ _) ((val_main_v4_apply _ _ _).trans ?_))
  refine Finset.sum_congr rfl fun k _ => congrArg₂ (· * ·) ?_ ?_
  · rw [val_main_v3_apply]
    exact at3 (n0 := 4) (n1 := 2048) (n2 := 2048) y _ (i 0) (i 1) k rfl rfl rfl
  · exact at2 (n0 := 2048) (n1 := 2048) w _ k (i 2) rfl rfl

end

end Cert.FourierOutIdeal.Mix
-- ==== Proof.ModulationValue.lean ====
/-
  The first layer's modulation: the kernel `ModulationIdeal` leaves the rows of the projected, gated conditioning vectors in its
  result array, and the reference `ModulationRefIdeal` computes the same.
-/
module

public import proofs.«01_k».proof.Defs
public import proofs.«01_k».proof.Proof.TileMath
public import proofs.«01_k».proof.Proof.Gen.ModulationIdeal.Value
public import proofs.«01_k».proof.Proof.Gen.ModulationRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ModulationIdeal.Rows

open Cert.ModulationIdeal Cert.ModulationIdeal.Gen
open Cert.Tile
open Cert.Ffn (at2 at3)

/-- Row `k` of the modulation of example `b`, at channel `d`. -/
def modulated (v : S8x2048.Idx → EReal) (w : S2x2048x18432.Idx → EReal) (bias : S2x1x18432.Idx → EReal) (k : Fin 9) (b : Fin 8)
    (d : Fin 2048) : EReal :=
  (∑ e : Fin 2048, v (ix2 b e) * Ideal.logistic (v (ix2 b e)) * w (ix3 0 e ⟨2048 * k.val + d.val, by omega⟩))
    + bias (ix3 0 0 ⟨2048 * k.val + d.val, by omega⟩)

/-- The stored payload at (0, p, q). -/
theorem pay_apply (v : FVec Ideal S8x2048 .f32) (w : FVec Ideal S1x2048x1024 .f32) (bias : FVec Ideal S1x1x1024 .f32) (p : Fin 8)
    (q : Fin 1024) : k0_pay1 (F := Ideal) v w bias (ix3 0 p q)
      = (∑ e : Fin 2048, v (ix2 p e) * Ideal.logistic (v (ix2 p e)) * w (ix3 0 e q)) + bias (ix3 0 0 q) := by
  unfold k0_pay1
  refine (add_apply _ _ p q).trans (congrArg₂ (· + ·) ?_ ((row_apply _ _ p q).trans (drop_apply bias _ 0 q)))
  refine (Ideal.matmul_plain_apply none _ _ (constant S8x1024 .f32 0x00000000#32) p q).trans ?_
  rw [constant_apply, Ideal.ofBits_zero_f32, zero_add]
  exact Finset.sum_congr rfl fun e _ => congrArg₂ (· * ·) rfl (drop_apply w _ e q)

variable (m : (ℓ : Loc nD τ sig) → Buf (Elt Ideal) ℓ) (c : Dev nD) (t : Fin cfg0.N)

/-- What the result array is shown to hold. -/
def G : Buf (Elt Ideal) ((c : Thread nD τ).loc main_v0) := fun i =>
  modulated (m ((c : Thread nD τ).loc main_arg0)) (m ((c : Thread nD τ).loc main_arg1)) (m ((c : Thread nD τ).loc main_arg2)) (i 0) (i 1) (i 2)

/-- Point `t` takes columns 1024·t and on: half a row of the modulation. -/
theorem idx_facts : ∀ t : Fin cfg0.N,
    (win0_0.index t 0 = 0 ∧ win0_0.index t 1 = 0)
    ∧ (win0_1.index t 0 = 0 ∧ win0_1.index t 1 = 0 ∧ win0_1.index t 2 = t.val)
    ∧ (win0_2.index t 0 = 0 ∧ win0_2.index t 1 = 0 ∧ win0_2.index t 2 = t.val)
    ∧ (win0_3.index t 0 = t.val / 2 ∧ win0_3.index t 1 = 0 ∧ win0_3.index t 2 = t.val % 2) :=
  (by decide +kernel : ∀ t : Fin grid0.N,
    (win0_0.index t 0 = 0 ∧ win0_0.index t 1 = 0)
    ∧ (win0_1.index t 0 = 0 ∧ win0_1.index t 1 = 0 ∧ win0_1.index t 2 = t.val)
    ∧ (win0_2.index t 0 = 0 ∧ win0_2.index t 1 = 0 ∧ win0_2.index t 2 = t.val)
    ∧ (win0_3.index t 0 = t.val / 2 ∧ win0_3.index t 1 = 0 ∧ win0_3.index t 2 = t.val % 2))

theorem lt_18 (t : Fin cfg0.N) : t.val < 18 := lt_of_lt_of_eq t.isLt N_0

theorem v_read (p : Fin 8) (e : Fin 2048) : (iblk m c 0 t : FVec Ideal S8x2048 .f32) (ix2 p e)
    = m ((c : Thread nD τ).loc main_arg0) (ix2 p e) := by
  obtain ⟨⟨e0, e1⟩, -⟩ := idx_facts t
  unfold iblk
  rw [View.read_apply]
  show V m c main_arg0 _ = _
  rw [V_main_arg0]
  refine at2 (n0 := 8) (n1 := 2048) _ _ _ _ ?_ ?_
  · show win0_0.index t 0 * 8 + 1 * p.val = p.val; rw [e0]; omega
  · show win0_0.index t 1 * 2048 + 1 * e.val = e.val; rw [e1]; omega

theorem w_read (e : Fin 2048) (q : Fin 1024) : (iblk m c 1 t : FVec Ideal S1x2048x1024 .f32) (ix3 0 e q)
    = m ((c : Thread nD τ).loc main_arg1) (ix3 0 e ⟨1024 * t.val + q.val, by have := lt_18 t; omega⟩) := by
  obtain ⟨-, ⟨e0, e1, e2⟩, -⟩ := idx_facts t
  unfold iblk
  rw [View.read_apply]
  show V m c main_arg1 _ = _
  rw [V_main_arg1]
  refine at3 (n0 := 2) (n1 := 2048) (n2 := 18432) _ _ _ _ _ ?_ ?_ ?_
  · show win0_1.index t 0 * 1 + 1 * 0 = 0; rw [e0]
  · show win0_1.index t 1 * 2048 + 1 * e.val = e.val; rw [e1]; omega
  · show win0_1.index t 2 * 1024 + 1 * q.val = 1024 * t.val + q.val; rw [e2]; omega

theorem bias_read (q : Fin 1024) : (iblk m c 2 t : FVec Ideal S1x1x1024 .f32) (ix3 0 0 q)
    = m ((c : Thread nD τ).loc main_arg2) (ix3 0 0 ⟨1024 * t.val + q.val, by have := lt_18 t; omega⟩) := by
  obtain ⟨-, -, ⟨e0, e1, e2⟩, -⟩ := idx_facts t
  unfold iblk
  rw [View.read_apply]
  show V m c main_arg2 _ = _
  rw [V_main_arg2]
  refine at3 (n0 := 2) (n1 := 1) (n2 := 18432) _ _ _ _ _ ?_ ?_ ?_
  · show win0_2.index t 0 * 1 + 1 * 0 = 0; rw [e0]
  · show win0_2.index t 1 * 1 + 1 * 0 = 0; rw [e1]
  · show win0_2.index t 2 * 1024 + 1 * q.val = 1024 * t.val + q.val; rw [e2]; omega

theorem out_apply (p : Fin 8) (q : Fin 1024) :
    (out0_3 (iblk m c 0 t) (iblk m c 1 t) (iblk m c 2 t) : FVec Ideal S1x8x1024 .f32) (ix3 0 p q)
    = modulated (m ((c : Thread nD τ).loc main_arg0)) (m ((c : Thread nD τ).loc main_arg1)) (m ((c : Thread nD τ).loc main_arg2))
        ⟨t.val / 2, by have := lt_18 t; omega⟩ p ⟨1024 * (t.val % 2) + q.val, by omega⟩ := by
  have ht := lt_18 t
  have hcol : (⟨1024 * t.val + q.val, by omega⟩ : Fin 18432) = ⟨2048 * (t.val / 2) + (1024 * (t.val % 2) + q.val), by omega⟩ :=
    Fin.ext (by show 1024 * t.val + q.val = 2048 * (t.val / 2) + (1024 * (t.val % 2) + q.val); omega)
  unfold out0_3
  rw [View.canon_unit_zero (by funext a; fin_cases a <;> rfl)]
  rw [View.ld_unit_zero (S := S8x2048) (by funext a; fin_cases a <;> rfl), View.ld_unit_zero (S := S1x2048x1024) (by funext a; fin_cases a <;> rfl),
    View.ld_unit_zero (S := S1x1x1024) (by funext a; fin_cases a <;> rfl)]
  refine (pay_apply _ _ _ p q).trans ?_
  unfold modulated
  dsimp only
  rw [← hcol]
  refine congrArg₂ (· + ·) (Finset.sum_congr rfl fun e _ => congrArg₂ (· * ·) ?_ (w_read m c t e q)) (bias_read m c t q)
  exact congrArg (fun x : EReal => x * Ideal.logistic x) (v_read m c t p e)

theorem flushed_eq : (dats m 0 c).flushed 3 t = ((cfg0.win 3).blk t).view.read (Elt Ideal) (G m c) := by
  obtain ⟨-, -, -, e0, e1, e2⟩ := idx_facts t
  have ht := lt_18 t
  rw [Value.flushed3]
  funext j
  have hj0 : (j 0).val < 1 := (j 0).isLt
  have hj2 : (j 2).val < 1024 := (j 2).isLt
  rw [View.read_apply]
  have hl : (out0_3 (iblk m c 0 t) (iblk m c 1 t) (iblk m c 2 t) : FVec Ideal S1x8x1024 .f32) ((cfg0.win 3).xinj (grid0.coords t) j)
      = (out0_3 (iblk m c 0 t) (iblk m c 1 t) (iblk m c 2 t) : FVec Ideal S1x8x1024 .f32) (ix3 0 (j 1) (j 2)) :=
    at3 (n0 := 1) (n1 := 8) (n2 := 1024) _ _ _ _ _ (by show (j 0).val = 0; omega) rfl rfl
  refine hl.trans ((out_apply m c t (j 1) (j 2)).trans (Eq.symm ?_))
  refine (at3 (n0 := 9) (n1 := 8) (n2 := 2048) (G m c) _ ⟨t.val / 2, by omega⟩ (j 1) ⟨1024 * (t.val % 2) + (j 2).val, by omega⟩ ?_ ?_ ?_).trans rfl
  · show win0_3.index t 0 * 1 + 1 * (j 0).val = t.val / 2; rw [e0]; omega
  · show win0_3.index t 1 * 8 + 1 * (j 1).val = (j 1).val; rw [e1]; omega
  · show win0_3.index t 2 * 1024 + 1 * (j 2).val = 1024 * (t.val % 2) + (j 2).val; rw [e2]; omega

theorem mem3 (t : Fin cfg0.N) (i : main_v0.ty.Idx) : i ∈ ((cfg0.win 3).blk t).view.set
    ↔ ∀ a, win0_3.index t a * S1x8x1024.size a ≤ (i a).val ∧ (i a).val < win0_3.index t a * S1x8x1024.size a + S1x8x1024.size a := by
  show i ∈ ((View.whole main_v0).slice (win0_3.rect t)).set ↔ _
  rw [View.set_slice_whole, Rect.mem_set_unit]

theorem final : (dats m 0 c).arrAt 3 cfg0.N = G m c :=
  (dats m 0 c).arrAt_eq_of_cover 3 (G m c) (fun t _ => flushed_eq m c t) (fun i => by
    have h0 : (i 0).val < 9 := (i 0).isLt
    have h1 : (i 1).val < 8 := (i 1).isLt
    have h2 : (i 2).val < 2048 := (i 2).isLt
    have hn : 2 * (i 0).val + (i 2).val / 1024 < cfg0.N := lt_of_lt_of_eq (by omega : _ < 18) N_0.symm
    obtain ⟨-, -, -, e0, e1, e2⟩ := idx_facts ⟨_, hn⟩
    refine ⟨⟨_, hn⟩, flush0_3 _, (mem3 _ i).2 ?_⟩
    intro a
    match a with
    | ⟨0, _⟩ => show win0_3.index ⟨_, hn⟩ 0 * 1 ≤ (i 0).val ∧ (i 0).val < win0_3.index ⟨_, hn⟩ 0 * 1 + 1; rw [e0]; dsimp only; omega
    | ⟨1, _⟩ => show win0_3.index ⟨_, hn⟩ 1 * 8 ≤ (i 1).val ∧ (i 1).val < win0_3.index ⟨_, hn⟩ 1 * 8 + 8; rw [e1]; dsimp only; omega
    | ⟨2, _⟩ => show win0_3.index ⟨_, hn⟩ 2 * 1024 ≤ (i 2).val ∧ (i 2).val < win0_3.index ⟨_, hn⟩ 2 * 1024 + 1024; rw [e2]; dsimp only; omega)

section

open Cert.ModulationRefIdeal.Read

variable (v : S8x2048.Idx → EReal) (w : S2x2048x18432.Idx → EReal) (bias : S2x1x18432.Idx → EReal)

theorem ref_bias (j : Cert.ModulationRefIdeal.S8x18432.Idx) : val_main_v12 (F := Ideal) bias j = bias (ix3 0 0 (j 1)) := by
  have h1 : (j 1).val < 18432 := (j 1).isLt
  rw [val_main_v12_apply, val_main_v11_apply, val_main_v10_apply]
  refine at3 (n0 := 2) (n1 := 1) (n2 := 18432) bias _ 0 0 (j 1) rfl rfl ?_
  show ((idx_main_v12 j 0).val * 18432 + (idx_main_v12 j 1).val) % 18432 = (j 1).val
  have e0 : (idx_main_v12 j 0).val = 0 := rfl
  have e1 : (idx_main_v12 j 1).val = (j 1).val := rfl
  omega

theorem ref_eq : val_main_v15 (F := Ideal) v w bias = fun i => modulated v w bias (i 0) (i 1) (i 2) := by
  funext i
  have h0 : (i 0).val < 9 := (i 0).isLt
  have h1 : (i 1).val < 8 := (i 1).isLt
  have h2 : (i 2).val < 2048 := (i 2).isLt
  rw [val_main_v15_apply, val_main_v14_apply, val_main_v13_apply, val_main_v9_apply]
  have ea : (((i 1).val * 9 + (i 0).val) * 2048 + (i 2).val) / 18432 = (i 1).val := by omega
  have eb : (((i 1).val * 9 + (i 0).val) * 2048 + (i 2).val) % 18432 = 2048 * (i 0).val + (i 2).val := by omega
  have eo : FloatOps.ofBits (F := Ideal) .f32 0x3F800000#32 = (1 : EReal) := Ideal.ofBits_one_f32
  refine congrArg₂ (· + ·) (Finset.sum_congr rfl fun k _ => congrArg₂ (· * ·) ?_ ?_) ?_
  · refine (at2 (n0 := 8) (n1 := 2048) (val_main_v6 (F := Ideal) v) _ (i 1) k ea rfl).trans ?_
    rw [val_main_v6_apply, val_main_v5_apply, val_main_v4_apply, val_main_v3_apply, val_main_v2_apply, val_main_v1_apply,
      val_main_v0_apply, val_main_cst_apply, val_main_cst_0_apply, eo]
    rfl
  · rw [val_main_v8_apply, val_main_v7_apply]
    refine at3 (n0 := 2) (n1 := 2048) (n2 := 18432) w _ 0 k _ rfl ?_ ?_
    · show (k.val * 18432 + (((i 1).val * 9 + (i 0).val) * 2048 + (i 2).val) % 18432) / 18432 % 2048 = k.val
      omega
    · show (k.val * 18432 + (((i 1).val * 9 + (i 0).val) * 2048 + (i 2).val) % 18432) % 18432 = 2048 * (i 0).val + (i 2).val
      omega
  · rw [ref_bias]
    exact at3 (n0 := 2) (n1 := 1) (n2 := 18432) bias _ 0 0 _ rfl rfl eb

end

end Cert.ModulationIdeal.Rows
-- ==== Proof.MixOutValue.lean ====
/-
  The mixer's output projection: the kernel `MixOutIdeal` norms and gates the delta rule's output head by head, projects it together
  with the attention's output and adds the gated projection to the residual, and the reference `MixOutRefIdeal` computes the same.
-/
module

public import proofs.«01_k».proof.Defs
public import proofs.«01_k».proof.Proof.TileMath
public import proofs.«01_k».proof.Proof.CloseStep
public import proofs.«01_k».proof.Proof.Gen.MixOutIdeal.Value
public import proofs.«01_k».proof.Proof.Gen.MixOutRefIdeal.Read
public import Idealize.ShloMosaic.Lib.StableHlo.RunRead

@[expose] public section

set_option maxRecDepth 16384

noncomputable section

open Idealize.ShloMosaic Idealize.ShloMosaic.TcCoe Idealize.SL.Sem Idealize.ShloMosaic.ValueIdx
open Idealize.ShloMosaic.Pipeline (Dat)

namespace Cert.MixOutIdeal.Out

open Cert.MixOutIdeal Cert.MixOutIdeal.Gen
open Cert.Tile
open Cert.Ffn (at1 at2 at3 at4)
open Cert.LastIdeal.Sweep (hz2 hz3)

/-- The reciprocal root mean square of a head's row. -/
def hrms (o : Fin 128 → EReal) : EReal :=
  Ideal.rsqrt (Ideal.div (∑ d : Fin 128, o d * o d) (Ideal.ofBits .f32 0x43000000#32) + Ideal.ofBits .f32 0x358637BD#32)

/-- A head's row, normed and gated. -/
def headed (o gain z : Fin 128 → EReal) (d : Fin 128) : EReal :=
  o d * hrms o * gain d * (z d * Ideal.logistic (z d))

theorem plus_congr {x x' y y' : EReal} (h : x = x') (h' : y = y') : x + y = x' + y' := by rw [h, h']

theorem headed_congr {o o' gain gain' z z' : Fin 128 → EReal} (ho : ∀ d, o d = o' d) (hg : ∀ d, gain d = gain' d) (hz : ∀ d, z d = z' d)
    (d : Fin 128) : headed o gain z d = headed o' gain' z' d := by
  rw [funext ho, funext hg, funext hz]

/-- The normed and gated head `n` of a row. -/
def headOf (of ob : S4x2304x1024.Idx → EReal) (pa : S4x2304x4096.Idx → EReal) (gdn : S128.Idx → EReal) (b : Fin 4) (r : Fin 2048)
    (n : Fin 8) : Fin 128 → EReal :=
  headed (fun d => of (ix3 b ⟨r.val, by omega⟩ ⟨128 * n.val + d.val, by omega⟩) + ob (ix3 b ⟨r.val, by omega⟩ ⟨128 * n.val + d.val, by omega⟩))
    (fun d => gdn (ix1 d)) (fun d => pa (ix3 b ⟨r.val, by omega⟩ ⟨3072 + (128 * n.val + d.val), by omega⟩))

/-- The residual plus the gated projection. -/
def mixed (of ob : S4x2304x1024.Idx → EReal) (pa : S4x2304x4096.Idx → EReal) (attn : S4x2048x1024.Idx → EReal) (h : S4x2048x2048.Idx → EReal)
    (md : S9x8x2048.Idx → EReal) (gdn : S128.Idx → EReal) (w : S2048x2048.Idx → EReal) (b : Fin 4) (r d : Fin 2048) : EReal :=
  h (ix3 b r d) + md (ix3 5 (b.castLE (by decide)) d)
    * ((∑ k : Fin 1024, headOf of ob pa gdn b r ⟨k.val / 128, by omega⟩ ⟨k.val % 128, by omega⟩ * w (ix2 ⟨k.val, by omega⟩ d))
      + ∑ k : Fin 1024, attn (ix3 b r k) * w (ix2 ⟨1024 + k.val, by omega⟩ d))

/-- One head of a tile, as the kernel computes it. -/
theorem head_apply (a b : FVec Ideal S1x256x128 .f32) (gain : FVec Ideal S1x128 .f32) (z : FVec Ideal S1x256x128 .bf16) (p : Fin 256)
    (q : Fin 128) : k0_pay1 (F := Ideal) a b gain z (ix2 p q)
      = headed (fun d => a (ix3 0 p d) + b (ix3 0 p d)) (fun d => gain (ix2 0 d)) (fun d => z (ix3 0 p d)) q := by
  unfold k0_pay1
  rw [shapeCast_self]
  have ho (d : Fin 128) : addf (shapeCast S256x128 a shapeCasts_S1x256x128_S256x128) (shapeCast S256x128 b shapeCasts_S1x256x128_S256x128) (ix2 p d)
      = (a (ix3 0 p d) + b (ix3 0 p d) : EReal) := congrArg₂ (· + ·) (drop_apply a _ p d) (drop_apply b _ p d)
  refine congrArg₂ (· * ·) (congrArg₂ (· * ·) (congrArg₂ (· * ·) (ho q) ?_) (row_apply gain _ p q))
    (congrArg (fun x : EReal => x * Ideal.logistic x) (drop_apply z _ p q))
  refine (col_apply _ _ p q).trans ?_
  refine congrArg (fun s => Ideal.rsqrt (Ideal.div s (Ideal.ofBits .f32 0x43000000#32) + Ideal.ofBits .f32 0x358637BD#32))
    ((stand_apply _ _ p).trans ((sum_apply _ _ p).trans (Finset.sum_congr rfl fun d _ => congrArg₂ (· * ·) (ho d) (ho d))))

/-- The eight heads side by side. -/
theorem cat_apply (f : Fin 8 → FVec Ideal S256x128 .bf16) (v : FVec Ideal S256x128 .bf16) (e : v = f 7) (hc) (p : Fin 256) (k : Fin 1024) :
    concatenate S256x1024 1 [⟨S256x128, f 0⟩, ⟨S256x128, f 1⟩, ⟨S256x128, f 2⟩, ⟨S256x128, f 3⟩, ⟨S256x128, f 4⟩, ⟨S256x128, f 5⟩,
      ⟨S256x128, f 6⟩, ⟨S256x128, v⟩] hc (ix2 p k) = f ⟨k.val / 128, by omega⟩ (ix2 p ⟨k.val % 128, by omega⟩) := by
  subst e
  exact concatenate_ofFn_apply (t := S256x1024) 1 f hc rfl 128 rfl (ix2 p k) ⟨k.val / 128, by omega⟩ rfl (ix2 p ⟨k.val % 128, by omega⟩) rfl
    (fun b hb => match b with
    | ⟨0, _⟩ => rfl
    | ⟨1, _⟩ => absurd rfl hb)

/-- The stored payload at (0, p, q), the heads being `f`. -/
theorem pay_apply (f : Fin 8 → FVec Ideal S256x128 .bf16) (a b : FVec Ideal S1x256x128 .f32) (gain : FVec Ideal S1x128 .f32)
    (z : FVec Ideal S1x256x128 .bf16) (e : k0_pay1 (F := Ideal) a b gain z = f 7) (w0 : FVec Ideal S1024x2048 .bf16)
    (y : FVec Ideal S1x256x1024 .bf16) (w1 : FVec Ideal S1024x2048 .bf16) (h : FVec Ideal S1x256x2048 .f32) (g : FVec Ideal S1x1x2048 .f32)
    (p : Fin 256) (q : Fin 2048) :
    k0_pay18 (F := Ideal) (f 0) (f 1) (f 2) (f 3) (f 4) (f 5) (f 6) (k0_pay16 a b) (k0_pay17 a b) gain z w0 y w1 h g (ix3 0 p q)
      = h (ix3 0 p q) + g (ix3 0 0 q) * ((∑ k : Fin 1024, f ⟨k.val / 128, by omega⟩ (ix2 p ⟨k.val % 128, by omega⟩) * w0 (ix2 k q))
        + ∑ k : Fin 1024, y (ix3 0 p k) * w1 (ix2 k q)) := by
  unfold k0_pay18
  refine (add_apply _ _ p q).trans (congrArg₂ (· + ·) (drop_apply h _ p q) (congrArg₂ (· * ·)
    ((row_apply _ _ p q).trans (drop_apply g _ 0 q)) (congrArg₂ (· + ·) ?_ ?_)))
  · refine (Ideal.matmul_plain_apply none _ _ (constant S256x2048 .f32 0x00000000#32) p q).trans ?_
    rw [constant_apply, Ideal.ofBits_zero_f32, zero_add]
    exact Finset.sum_congr rfl fun k _ => congrArg₂ (· * ·) (cat_apply f _ e _ p k) (congrFun (shapeCast_self w0 _) _)
  · refine (Ideal.matmul_plain_apply none _ _ (constant S256x2048 .f32 0x00000000#32) p q).trans ?_
    rw [constant_apply, Ideal.ofBits_zero_f32, zero_add]
    exact Finset.sum_congr rfl fun k _ => congrArg₂ (· * ·) (drop_apply y _ p k) (congrFun (shapeCast_self w1 _) _)

variable (m : (ℓ : Loc nD τ sig) → Buf (Elt Ideal) ℓ) (c : Dev nD) (t : Fin cfg0.N)

/-- What the result array is shown to hold. -/
def G : Buf (Elt Ideal) ((c : Thread nD τ).loc main_v2) := fun i =>
  mixed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1) (i 2)

theorem head_inb (n : Fin 8) : ∀ a, (![0, 0, 128 * n.val] : Fin 3 → Nat) a + S1x256x128.size a ≤ S1x256x1024.size a :=
  (by decide : ∀ n : Fin 8, ∀ a, (![0, 0, 128 * n.val] : Fin 3 → Nat) a + S1x256x128.size a ≤ S1x256x1024.size a) n

/-- Head `n` of a block of rows. -/
abbrev headCols {e : EltTy} (x : Vec Ideal S1x256x1024 e) (n : Fin 8) : Vec Ideal S1x256x128 e :=
  View.ld x (Rect.unit ![0, 0, 128 * n.val] S1x256x128.size (head_inb n))

/-- The point's normed and gated head `n`. -/
abbrev part (n : Fin 8) : FVec Ideal S256x128 .bf16 :=
  k0_pay1 (F := Ideal) (headCols (iblk m c 0 t) n) (headCols (iblk m c 1 t) n) (iblk m c 6 t) (headCols (iblk m c 2 t) n)

/-- The row of the gates' block that a point reads, and the two halves of the weights. -/
abbrev grow : Vec Ideal S1x1x2048 .f32 :=
  View.ld (iblk m c 5 t) (Rect.unit (k0_off1 (grid0.coords t)) S1x1x2048.size (k0_off1_inb (grid0.coords t)))
abbrev upper : Vec Ideal S1024x2048 .bf16 := View.ld (iblk m c 7 t) (Rect.unit ![0, 0] S1024x2048.size inb_S2048x2048_S1024x2048_0_0)
abbrev lower : Vec Ideal S1024x2048 .bf16 := View.ld (iblk m c 7 t) (Rect.unit ![1024, 0] S1024x2048.size inb_S2048x2048_S1024x2048_1024_0)

theorem out_A : outsAt0 m c t = k0_pay18 (F := Ideal) (part m c t 0) (part m c t 1) (part m c t 2) (part m c t 3) (part m c t 4)
    (part m c t 5) (part m c t 6) (k0_pay16 (headCols (iblk m c 0 t) 7) (headCols (iblk m c 1 t) 7))
    (k0_pay17 (headCols (iblk m c 0 t) 7) (headCols (iblk m c 1 t) 7)) (iblk m c 6 t) (headCols (iblk m c 2 t) 7) (upper m c t)
    (iblk m c 3 t) (lower m c t) (iblk m c 4 t) (grow m c t) := by
  unfold outsAt0 out0_A_8
  refine (View.read_writes_eq_canon _ _ _ (by apply cover0_A_8)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    View.ld_unit_zero (S := S1x256x1024) hz3, View.ld_unit_zero (S := S1x256x2048) hz3, View.ld_unit_zero (S := S1x128) hz2]
  rfl

/-- The sequence is the point divided by 8, the row tile the point mod 8. -/
theorem idx_facts : ∀ t : Fin cfg0.N,
    (((grid0.coords t) 0).val = t.val / 8 ∧ win0_5.index t 0 = 5 ∧ win0_5.index t 1 = 0 ∧ win0_5.index t 2 = 0
      ∧ win0_6.index t 0 = 0 ∧ win0_6.index t 1 = 0 ∧ win0_7.index t 0 = 0 ∧ win0_7.index t 1 = 0)
    ∧ (win0_0.index t 0 = t.val / 8 ∧ win0_0.index t 1 = t.val % 8 ∧ win0_0.index t 2 = 0)
    ∧ (win0_1.index t 0 = t.val / 8 ∧ win0_1.index t 1 = t.val % 8 ∧ win0_1.index t 2 = 0)
    ∧ (win0_2.index t 0 = t.val / 8 ∧ win0_2.index t 1 = t.val % 8 ∧ win0_2.index t 2 = 3)
    ∧ (win0_3.index t 0 = t.val / 8 ∧ win0_3.index t 1 = t.val % 8 ∧ win0_3.index t 2 = 0)
    ∧ (win0_4.index t 0 = t.val / 8 ∧ win0_4.index t 1 = t.val % 8 ∧ win0_4.index t 2 = 0)
    ∧ (win0_8.index t 0 = t.val / 8 ∧ win0_8.index t 1 = t.val % 8 ∧ win0_8.index t 2 = 0) :=
  (by decide +kernel : ∀ t : Fin grid0.N,
    (((grid0.coords t) 0).val = t.val / 8 ∧ win0_5.index t 0 = 5 ∧ win0_5.index t 1 = 0 ∧ win0_5.index t 2 = 0
      ∧ win0_6.index t 0 = 0 ∧ win0_6.index t 1 = 0 ∧ win0_7.index t 0 = 0 ∧ win0_7.index t 1 = 0)
    ∧ (win0_0.index t 0 = t.val / 8 ∧ win0_0.index t 1 = t.val % 8 ∧ win0_0.index t 2 = 0)
    ∧ (win0_1.index t 0 = t.val / 8 ∧ win0_1.index t 1 = t.val % 8 ∧ win0_1.index t 2 = 0)
    ∧ (win0_2.index t 0 = t.val / 8 ∧ win0_2.index t 1 = t.val % 8 ∧ win0_2.index t 2 = 3)
    ∧ (win0_3.index t 0 = t.val / 8 ∧ win0_3.index t 1 = t.val % 8 ∧ win0_3.index t 2 = 0)
    ∧ (win0_4.index t 0 = t.val / 8 ∧ win0_4.index t 1 = t.val % 8 ∧ win0_4.index t 2 = 0)
    ∧ (win0_8.index t 0 = t.val / 8 ∧ win0_8.index t 1 = t.val % 8 ∧ win0_8.index t 2 = 0))

theorem lt_32 (t : Fin cfg0.N) : t.val < 32 := lt_of_lt_of_eq t.isLt N_0

/-- The point's sequence, and a row of its tile. -/
abbrev seqOf : Fin 4 := ⟨t.val / 8, by have := lt_32 t; omega⟩
abbrev rowOf (p : Fin 256) : Fin 2048 := ⟨256 * (t.val % 8) + p.val, by omega⟩

theorem off1_val (i : grid0.Coords) : k0_off1 i 1 = (i 0).val := by rw [k0_off1_eq]; rfl

theorem of_read (n : Fin 8) (p : Fin 256) (d : Fin 128) : headCols (iblk m c 0 t : FVec Ideal S1x256x1024 .f32) n (ix3 0 p d)
    = m ((c : Thread nD τ).loc main_arg0) (ix3 (seqOf t) ⟨(rowOf t p).val, by omega⟩ ⟨128 * n.val + d.val, by omega⟩) := by
  obtain ⟨-, ⟨e0, e1, e2⟩, -⟩ := idx_facts t
  show (iblk m c 0 t : FVec Ideal S1x256x1024 .f32) _ = _
  unfold iblk
  rw [View.read_apply]
  show V m c main_arg0 _ = _
  rw [V_main_arg0]
  refine at3 (n0 := 4) (n1 := 2304) (n2 := 1024) _ _ _ _ _ ?_ ?_ ?_
  · show win0_0.index t 0 * 1 + 1 * (0 + 1 * 0) = t.val / 8; rw [e0]; omega
  · show win0_0.index t 1 * 256 + 1 * (0 + 1 * p.val) = 256 * (t.val % 8) + p.val; rw [e1]; omega
  · show win0_0.index t 2 * 1024 + 1 * (128 * n.val + 1 * d.val) = 128 * n.val + d.val; rw [e2]; omega

theorem ob_read (n : Fin 8) (p : Fin 256) (d : Fin 128) : headCols (iblk m c 1 t : FVec Ideal S1x256x1024 .f32) n (ix3 0 p d)
    = m ((c : Thread nD τ).loc main_arg1) (ix3 (seqOf t) ⟨(rowOf t p).val, by omega⟩ ⟨128 * n.val + d.val, by omega⟩) := by
  obtain ⟨-, -, ⟨e0, e1, e2⟩, -⟩ := idx_facts t
  show (iblk m c 1 t : FVec Ideal S1x256x1024 .f32) _ = _
  unfold iblk
  rw [View.read_apply]
  show V m c main_arg1 _ = _
  rw [V_main_arg1]
  refine at3 (n0 := 4) (n1 := 2304) (n2 := 1024) _ _ _ _ _ ?_ ?_ ?_
  · show win0_1.index t 0 * 1 + 1 * (0 + 1 * 0) = t.val / 8; rw [e0]; omega
  · show win0_1.index t 1 * 256 + 1 * (0 + 1 * p.val) = 256 * (t.val % 8) + p.val; rw [e1]; omega
  · show win0_1.index t 2 * 1024 + 1 * (128 * n.val + 1 * d.val) = 128 * n.val + d.val; rw [e2]; omega

theorem z_read (n : Fin 8) (p : Fin 256) (d : Fin 128) : headCols (iblk m c 2 t : FVec Ideal S1x256x1024 .bf16) n (ix3 0 p d)
    = m ((c : Thread nD τ).loc main_arg2) (ix3 (seqOf t) ⟨(rowOf t p).val, by omega⟩ ⟨3072 + (128 * n.val + d.val), by omega⟩) := by
  obtain ⟨-, -, -, ⟨e0, e1, e2⟩, -⟩ := idx_facts t
  show (iblk m c 2 t : FVec Ideal S1x256x1024 .bf16) _ = _
  unfold iblk
  rw [View.read_apply]
  show V m c main_arg2 _ = _
  rw [V_main_arg2]
  refine at3 (n0 := 4) (n1 := 2304) (n2 := 4096) _ _ _ _ _ ?_ ?_ ?_
  · show win0_2.index t 0 * 1 + 1 * (0 + 1 * 0) = t.val / 8; rw [e0]; omega
  · show win0_2.index t 1 * 256 + 1 * (0 + 1 * p.val) = 256 * (t.val % 8) + p.val; rw [e1]; omega
  · show win0_2.index t 2 * 1024 + 1 * (128 * n.val + 1 * d.val) = 3072 + (128 * n.val + d.val); rw [e2]; omega

theorem y_read (p : Fin 256) (k : Fin 1024) : (iblk m c 3 t : FVec Ideal S1x256x1024 .bf16) (ix3 0 p k)
    = m ((c : Thread nD τ).loc main_arg3) (ix3 (seqOf t) (rowOf t p) k) := by
  obtain ⟨-, -, -, -, ⟨e0, e1, e2⟩, -⟩ := idx_facts t
  unfold iblk
  rw [View.read_apply]
  show V m c main_arg3 _ = _
  rw [V_main_arg3]
  refine at3 (n0 := 4) (n1 := 2048) (n2 := 1024) _ _ _ _ _ ?_ ?_ ?_
  · show win0_3.index t 0 * 1 + 1 * 0 = t.val / 8; rw [e0]; omega
  · show win0_3.index t 1 * 256 + 1 * p.val = 256 * (t.val % 8) + p.val; rw [e1]; omega
  · show win0_3.index t 2 * 1024 + 1 * k.val = k.val; rw [e2]; omega

theorem h_read (p : Fin 256) (k : Fin 2048) : (iblk m c 4 t : FVec Ideal S1x256x2048 .f32) (ix3 0 p k)
    = m ((c : Thread nD τ).loc main_arg4) (ix3 (seqOf t) (rowOf t p) k) := by
  obtain ⟨-, -, -, -, -, ⟨e0, e1, e2⟩, -⟩ := idx_facts t
  unfold iblk
  rw [View.read_apply]
  show V m c main_arg4 _ = _
  rw [V_main_arg4]
  refine at3 (n0 := 4) (n1 := 2048) (n2 := 2048) _ _ _ _ _ ?_ ?_ ?_
  · show win0_4.index t 0 * 1 + 1 * 0 = t.val / 8; rw [e0]; omega
  · show win0_4.index t 1 * 256 + 1 * p.val = 256 * (t.val % 8) + p.val; rw [e1]; omega
  · show win0_4.index t 2 * 2048 + 1 * k.val = k.val; rw [e2]; omega

theorem g_read (q : Fin 2048) : grow m c t (ix3 0 0 q)
    = m ((c : Thread nD τ).loc main_arg5) (ix3 5 ((seqOf t).castLE (by decide)) q) := by
  obtain ⟨⟨eg, e0, e1, e2, -⟩, -⟩ := idx_facts t
  show (iblk m c 5 t : FVec Ideal S1x8x2048 .f32) _ = _
  unfold iblk
  rw [View.read_apply]
  show V m c main_arg5 _ = _
  rw [V_main_arg5]
  refine at3 (n0 := 9) (n1 := 8) (n2 := 2048) _ _ _ _ _ ?_ ?_ ?_
  · show win0_5.index t 0 * 1 + 1 * (0 + 1 * 0) = 5; rw [e0]
  · show win0_5.index t 1 * 8 + 1 * (k0_off1 (grid0.coords t) 1 + 1 * 0) = t.val / 8; rw [e1, off1_val, eg]; omega
  · show win0_5.index t 2 * 2048 + 1 * (0 + 1 * q.val) = q.val; rw [e2]; omega

theorem V_gain : V m c main_v1 = shapeCast S1x128 (m ((c : Thread nD τ).loc main_arg6) : S128.Idx → EReal) shapeCasts_S128_S1x128 := by
  unfold V
  after_reads_simp
  rfl

theorem gain_read (d : Fin 128) : (iblk m c 6 t : FVec Ideal S1x128 .f32) (ix2 0 d) = m ((c : Thread nD τ).loc main_arg6) (ix1 d) := by
  obtain ⟨⟨-, -, -, -, e0, e1, -⟩, -⟩ := idx_facts t
  refine Eq.trans ?_ (lay_apply (φ := .f32) (m ((c : Thread nD τ).loc main_arg6)) shapeCasts_S128_S1x128 d)
  unfold iblk
  rw [View.read_apply]
  show V m c main_v1 _ = _
  rw [V_gain]
  refine at2 (n0 := 1) (n1 := 128) _ _ _ _ ?_ ?_
  · show win0_6.index t 0 * 1 + 1 * 0 = 0; rw [e0]
  · show win0_6.index t 1 * 128 + 1 * d.val = d.val; rw [e1]; omega

theorem V_w : V m c main_v0 = (m ((c : Thread nD τ).loc main_arg7) : S2048x2048.Idx → EReal) := by
  unfold V
  after_reads_simp
  rfl

theorem upper_read (k : Fin 1024) (q : Fin 2048) : upper m c t (ix2 k q)
    = m ((c : Thread nD τ).loc main_arg7) (ix2 ⟨k.val, by omega⟩ q) := by
  obtain ⟨⟨-, -, -, -, -, -, e0, e1⟩, -⟩ := idx_facts t
  show (iblk m c 7 t : FVec Ideal S2048x2048 .bf16) _ = _
  unfold iblk
  rw [View.read_apply]
  show V m c main_v0 _ = _
  rw [V_w]
  refine at2 (n0 := 2048) (n1 := 2048) _ _ _ q ?_ ?_
  · show win0_7.index t 0 * 2048 + 1 * (0 + 1 * k.val) = k.val; rw [e0]; omega
  · show win0_7.index t 1 * 2048 + 1 * (0 + 1 * q.val) = q.val; rw [e1]; omega

theorem lower_read (k : Fin 1024) (q : Fin 2048) : lower m c t (ix2 k q)
    = m ((c : Thread nD τ).loc main_arg7) (ix2 ⟨1024 + k.val, by omega⟩ q) := by
  obtain ⟨⟨-, -, -, -, -, -, e0, e1⟩, -⟩ := idx_facts t
  show (iblk m c 7 t : FVec Ideal S2048x2048 .bf16) _ = _
  unfold iblk
  rw [View.read_apply]
  show V m c main_v0 _ = _
  rw [V_w]
  refine at2 (n0 := 2048) (n1 := 2048) _ _ _ q ?_ ?_
  · show win0_7.index t 0 * 2048 + 1 * (1024 + 1 * k.val) = 1024 + k.val; rw [e0]; omega
  · show win0_7.index t 1 * 2048 + 1 * (0 + 1 * q.val) = q.val; rw [e1]; omega

theorem part_apply (n : Fin 8) (p : Fin 256) (q : Fin 128) : part m c t n (ix2 p q)
    = headOf (m ((c : Thread nD τ).loc main_arg0)) (m ((c : Thread nD τ).loc main_arg1)) (m ((c : Thread nD τ).loc main_arg2))
        (m ((c : Thread nD τ).loc main_arg6)) (seqOf t) (rowOf t p) n q := by
  refine (head_apply _ _ _ _ p q).trans ?_
  exact headed_congr (fun d => plus_congr (of_read m c t n p d) (ob_read m c t n p d)) (gain_read m c t) (z_read m c t n p) q

theorem out_apply (p : Fin 256) (q : Fin 2048) : (outsAt0 m c t : FVec Ideal S1x256x2048 .f32) (ix3 0 p q)
    = mixed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (seqOf t) (rowOf t p) q := by
  rw [out_A]
  refine (pay_apply (part m c t) _ _ _ _ rfl _ _ _ _ _ p q).trans (congrArg₂ (· + ·) (h_read m c t p q) (congrArg₂ (· * ·) (g_read m c t q)
    (congrArg₂ (· + ·) (Finset.sum_congr rfl fun k _ => congrArg₂ (· * ·) (part_apply m c t _ p _) (upper_read m c t k q))
      (Finset.sum_congr rfl fun k _ => congrArg₂ (· * ·) (y_read m c t p k) (lower_read m c t k q)))))

theorem flushed_eq : (dats m 0 c).flushed 8 t = ((cfg0.win 8).blk t).view.read (Elt Ideal) (G m c) := by
  obtain ⟨-, -, -, -, -, -, e0, e1, e2⟩ := idx_facts t
  rw [Value.flushed8]
  funext j
  have hj0 : (j 0).val < 1 := (j 0).isLt
  rw [View.read_apply]
  have hl : (outsAt0 m c t : FVec Ideal S1x256x2048 .f32) ((cfg0.win 8).xinj (grid0.coords t) j)
      = (outsAt0 m c t : FVec Ideal S1x256x2048 .f32) (ix3 0 (j 1) (j 2)) :=
    at3 (n0 := 1) (n1 := 256) (n2 := 2048) _ _ _ _ _ (by show (j 0).val = 0; omega) rfl rfl
  refine hl.trans ((out_apply m c t (j 1) (j 2)).trans (Eq.symm ?_))
  refine (at3 (n0 := 4) (n1 := 2048) (n2 := 2048) (G m c) _ (seqOf t) (rowOf t (j 1)) (j 2) ?_ ?_ ?_).trans rfl
  · show win0_8.index t 0 * 1 + 1 * (j 0).val = t.val / 8; rw [e0]; omega
  · show win0_8.index t 1 * 256 + 1 * (j 1).val = 256 * (t.val % 8) + (j 1).val; rw [e1]; omega
  · show win0_8.index t 2 * 2048 + 1 * (j 2).val = (j 2).val; rw [e2]; omega

theorem mem8 (t : Fin cfg0.N) (i : main_v2.ty.Idx) : i ∈ ((cfg0.win 8).blk t).view.set
    ↔ ∀ a, win0_8.index t a * S1x256x2048.size a ≤ (i a).val ∧ (i a).val < win0_8.index t a * S1x256x2048.size a + S1x256x2048.size a := by
  show i ∈ ((View.whole main_v2).slice (win0_8.rect t)).set ↔ _
  rw [View.set_slice_whole, Rect.mem_set_unit]

theorem final : (dats m 0 c).arrAt 8 cfg0.N = G m c :=
  (dats m 0 c).arrAt_eq_of_cover 8 (G m c) (fun t _ => flushed_eq m c t) (fun i => by
    have h0 : (i 0).val < 4 := (i 0).isLt
    have h1 : (i 1).val < 2048 := (i 1).isLt
    have h2 : (i 2).val < 2048 := (i 2).isLt
    have hn : 8 * (i 0).val + (i 1).val / 256 < cfg0.N := lt_of_lt_of_eq (by omega : _ < 32) N_0.symm
    obtain ⟨-, -, -, -, -, -, e0, e1, e2⟩ := idx_facts ⟨_, hn⟩
    refine ⟨⟨_, hn⟩, flush0_8 _, (mem8 _ i).2 ?_⟩
    intro a
    match a with
    | ⟨0, _⟩ => show win0_8.index ⟨_, hn⟩ 0 * 1 ≤ (i 0).val ∧ (i 0).val < win0_8.index ⟨_, hn⟩ 0 * 1 + 1; rw [e0]; dsimp only; omega
    | ⟨1, _⟩ => show win0_8.index ⟨_, hn⟩ 1 * 256 ≤ (i 1).val ∧ (i 1).val < win0_8.index ⟨_, hn⟩ 1 * 256 + 256; rw [e1]; dsimp only; omega
    | ⟨2, _⟩ => show win0_8.index ⟨_, hn⟩ 2 * 2048 ≤ (i 2).val ∧ (i 2).val < win0_8.index ⟨_, hn⟩ 2 * 2048 + 2048; rw [e2]; dsimp only; omega)

section

open Cert.MixOutRefIdeal.Read

variable (of ob : S4x2304x1024.Idx → EReal) (pa : S4x2304x4096.Idx → EReal) (attn : S4x2048x1024.Idx → EReal) (h : S4x2048x2048.Idx → EReal)
    (md : S9x8x2048.Idx → EReal) (gdn : S128.Idx → EReal) (w : S2048x2048.Idx → EReal)

theorem ref_gate (b : Fin 4) (r d : Fin 2048) : val_main_v34 (F := Ideal) md (ix3 b r d) = md (ix3 5 (b.castLE (by decide)) d) := by
  rw [val_main_v34_apply, val_main_v33_apply, val_main_v32_apply, val_main_v31_apply]
  refine at3 (n0 := 9) (n1 := 8) (n2 := 2048) md _ 5 (b.castLE (by decide)) d rfl ?_ ?_
  · show (b.val * 2048 + d.val) / 2048 % 4 = b.val; omega
  · show (b.val * 2048 + d.val) % 2048 = d.val; omega

/-- The delta rule's output, its heads apart. -/
theorem ref_o (b : Fin 4) (r : Fin 2048) (n : Fin 8) (d : Fin 128) : val_main_v2 (F := Ideal) of ob (ix4 b r n d)
    = of (ix3 b ⟨r.val, by omega⟩ ⟨128 * n.val + d.val, by omega⟩) + ob (ix3 b ⟨r.val, by omega⟩ ⟨128 * n.val + d.val, by omega⟩) := by
  rw [val_main_v2_apply, val_main_v1_apply]
  refine (at3 (n0 := 4) (n1 := 2304) (n2 := 1024) (val_main_v0 (F := Ideal) of ob) _ b ⟨r.val, by omega⟩ ⟨128 * n.val + d.val, by omega⟩ ?_ ?_ ?_).trans rfl
  · show (((b.val * 2048 + r.val) * 8 + n.val) * 128 + d.val) / 2097152 = b.val; omega
  · show (((b.val * 2048 + r.val) * 8 + n.val) * 128 + d.val) / 1024 % 2048 = r.val; omega
  · show (((b.val * 2048 + r.val) * 8 + n.val) * 128 + d.val) % 1024 = 128 * n.val + d.val; omega

/-- The gate's projection, its heads apart. -/
theorem ref_z (b : Fin 4) (r : Fin 2048) (n : Fin 8) (d : Fin 128) : val_main_v5 (F := Ideal) pa (ix4 b r n d)
    = pa (ix3 b ⟨r.val, by omega⟩ ⟨3072 + (128 * n.val + d.val), by omega⟩) := by
  rw [val_main_v5_apply, val_main_v4_apply, val_main_v3_apply]
  refine at3 (n0 := 4) (n1 := 2304) (n2 := 4096) pa _ b ⟨r.val, by omega⟩ ⟨3072 + (128 * n.val + d.val), by omega⟩ ?_ ?_ ?_
  · show (((b.val * 2048 + r.val) * 8 + n.val) * 128 + d.val) / 2097152 = b.val; omega
  · show (((b.val * 2048 + r.val) * 8 + n.val) * 128 + d.val) / 1024 % 2048 = r.val; omega
  · show 3072 + (((b.val * 2048 + r.val) * 8 + n.val) * 128 + d.val) % 1024 = 3072 + (128 * n.val + d.val); omega

theorem ref_rms (b : Fin 4) (r : Fin 2048) (n : Fin 8) (d : Fin 128) : val_main_v14 (F := Ideal) of ob (ix4 b r n d)
    = hrms fun e => of (ix3 b ⟨r.val, by omega⟩ ⟨128 * n.val + e.val, by omega⟩) + ob (ix3 b ⟨r.val, by omega⟩ ⟨128 * n.val + e.val, by omega⟩) := by
  rw [val_main_v14_apply, val_main_v13_apply, val_main_v12_apply, val_main_v10_apply, val_main_v11_apply, val_main_v9_apply, val_main_v8_apply,
    val_main_v7_apply, val_main_cst_apply, val_main_cst_0_apply, val_main_cst_1_apply]
  refine congrArg (fun s : EReal => Ideal.rsqrt (Ideal.div s (Ideal.ofBits .f32 0x43000000#32) + Ideal.ofBits .f32 0x358637BD#32)) ?_
  have ez : FloatOps.ofBits (F := Ideal) .f32 0x00000000#32 = (0 : EReal) := Ideal.ofBits_zero_f32
  rw [ez, zero_add]
  refine Finset.sum_congr rfl fun e _ => ?_
  have eo := (at4 (n0 := 4) (n1 := 2048) (n2 := 8) (n3 := 128) (val_main_v2 (F := Ideal) of ob)
    (idx_main_v7 (idx_main_v8 (idx_main_v14 (ix4 b r n d))) e) b r n e rfl rfl rfl rfl).trans (ref_o of ob b r n e)
  exact congrArg₂ (· * ·) eo eo

theorem ref_head (b : Fin 4) (r : Fin 2048) (n : Fin 8) (d : Fin 128) : val_main_v26 (F := Ideal) of ob pa gdn (ix4 b r n d)
    = headOf of ob pa gdn b r n d := by
  have eo : FloatOps.ofBits (F := Ideal) .f32 0x3F800000#32 = (1 : EReal) := Ideal.ofBits_one_f32
  rw [val_main_v26_apply, val_main_v18_apply, val_main_v15_apply, val_main_v17_apply, val_main_v16_apply, val_main_v25_apply, val_main_v24_apply,
    val_main_v23_apply, val_main_v22_apply, val_main_v21_apply, val_main_v20_apply, val_main_v19_apply, val_main_cst_2_apply, val_main_cst_3_apply,
    eo, ref_z, ref_o, ref_rms]
  refine congrArg₂ (· * ·) (congrArg₂ (· * ·) rfl (at1 (n0 := 128) gdn _ d rfl)) rfl

/-- The upper rows of the joined operand are the heads, -/
theorem ref_joined_heads (b : Fin 4) (r : Fin 2048) (k : Fin 1024) : val_main_v29 (F := Ideal) of ob pa attn gdn (ix3 b r ⟨k.val, by omega⟩)
    = headOf of ob pa gdn b r ⟨k.val / 128, by omega⟩ ⟨k.val % 128, by omega⟩ := by
  unfold val_main_v29
  refine (concatenate_apply_piece (t := Cert.MixOutRefIdeal.S4x2048x2048) 2
    [⟨Cert.MixOutRefIdeal.S4x2048x1024, val_main_v27 (F := Ideal) of ob pa gdn⟩, ⟨Cert.MixOutRefIdeal.S4x2048x1024, val_main_v28 (F := Ideal) attn⟩]
    Cert.MixOutRefIdeal.Gen.concatenates_S4x2048x1024_S4x2048x1024_S4x2048x2048_d2 (ix3 b r ⟨k.val, by omega⟩) 0 (by simp)
    Cert.MixOutRefIdeal.S4x2048x1024 (val_main_v27 (F := Ideal) of ob pa gdn) rfl rfl 0 rfl (ix3 b r k) (fun a ha => ?_) ?_).trans ?_
  · match a with
    | ⟨0, _⟩ => rfl
    | ⟨1, _⟩ => rfl
    | ⟨2, _⟩ => exact absurd rfl ha
  · show 0 + k.val = k.val; omega
  · rw [val_main_v27_apply]
    refine (at4 (n0 := 4) (n1 := 2048) (n2 := 8) (n3 := 128) (val_main_v26 (F := Ideal) of ob pa gdn) _ b r ⟨k.val / 128, by omega⟩
      ⟨k.val % 128, by omega⟩ ?_ ?_ ?_ ?_).trans (ref_head of ob pa gdn b r _ _)
    · show ((b.val * 2048 + r.val) * 1024 + k.val) / 2097152 = b.val; omega
    · show ((b.val * 2048 + r.val) * 1024 + k.val) / 1024 % 2048 = r.val; omega
    · show ((b.val * 2048 + r.val) * 1024 + k.val) / 128 % 8 = k.val / 128; omega
    · show ((b.val * 2048 + r.val) * 1024 + k.val) % 128 = k.val % 128; omega

/-- the lower ones the attention's output. -/
theorem ref_joined_attn (b : Fin 4) (r : Fin 2048) (k : Fin 1024) :
    val_main_v29 (F := Ideal) of ob pa attn gdn (ix3 b r ⟨1024 + k.val, by omega⟩) = attn (ix3 b r k) := by
  unfold val_main_v29
  refine (concatenate_apply_piece (t := Cert.MixOutRefIdeal.S4x2048x2048) 2
    [⟨Cert.MixOutRefIdeal.S4x2048x1024, val_main_v27 (F := Ideal) of ob pa gdn⟩, ⟨Cert.MixOutRefIdeal.S4x2048x1024, val_main_v28 (F := Ideal) attn⟩]
    Cert.MixOutRefIdeal.Gen.concatenates_S4x2048x1024_S4x2048x1024_S4x2048x2048_d2 (ix3 b r ⟨1024 + k.val, by omega⟩) 1 (by simp)
    Cert.MixOutRefIdeal.S4x2048x1024 (val_main_v28 (F := Ideal) attn) rfl rfl 1024 rfl (ix3 b r k) (fun a ha => ?_) rfl).trans rfl
  match a with
  | ⟨0, _⟩ => rfl
  | ⟨1, _⟩ => rfl
  | ⟨2, _⟩ => exact absurd rfl ha

theorem split_sum (f : Fin 2048 → EReal) :
    ∑ k : Fin 2048, f k = (∑ k : Fin 1024, f ⟨k.val, by omega⟩) + ∑ k : Fin 1024, f ⟨1024 + k.val, by omega⟩ :=
  Fin.sum_univ_add (a := 1024) (b := 1024) f

theorem ref_eq : val_main_v36 (F := Ideal) of ob pa attn h md gdn w = fun i => mixed of ob pa attn h md gdn w (i 0) (i 1) (i 2) := by
  funext i
  refine (at3 (n0 := 4) (n1 := 2048) (n2 := 2048) (val_main_v36 (F := Ideal) of ob pa attn h md gdn w) i (i 0) (i 1) (i 2) rfl rfl rfl).trans ?_
  rw [val_main_v36_apply, val_main_v35_apply]
  refine congrArg₂ (· + ·) rfl (congrArg₂ (· * ·) (ref_gate md _ _ _) ((val_main_v30_apply _ _ _ _ _ _ _).trans ((split_sum _).trans ?_)))
  refine congrArg₂ (· + ·) (Finset.sum_congr rfl fun k _ => congrArg₂ (· * ·) ?_ ?_) (Finset.sum_congr rfl fun k _ => congrArg₂ (· * ·) ?_ ?_)
  · exact (at3 (n0 := 4) (n1 := 2048) (n2 := 2048) (val_main_v29 (F := Ideal) of ob pa attn gdn) (lidx_main_v30 i ⟨k.val, by omega⟩) (i 0) (i 1) ⟨k.val, by omega⟩ rfl rfl rfl).trans (ref_joined_heads of ob pa attn gdn _ _ k)
  · exact at2 (n0 := 2048) (n1 := 2048) w _ ⟨k.val, by omega⟩ (i 2) rfl rfl
  · exact (at3 (n0 := 4) (n1 := 2048) (n2 := 2048) (val_main_v29 (F := Ideal) of ob pa attn gdn) (lidx_main_v30 i ⟨1024 + k.val, by omega⟩) (i 0) (i 1) ⟨1024 + k.val, by omega⟩ rfl rfl rfl).trans (ref_joined_attn of ob pa attn gdn _ _ k)
  · exact at2 (n0 := 2048) (n1 := 2048) w _ ⟨1024 + k.val, by omega⟩ (i 2) rfl rfl

end

end Cert.MixOutIdeal.Out
-- ==== Proof.ChannelsValue.lean ====
/-
  The DFT over the channels of each group: the kernel `ChannelsIdeal` leaves the products of the modulated norm with the cosines and
  with the sines in its two result arrays, and the reference `ChannelsRefIdeal` computes the same.
-/
module

public import proofs.«01_k».proof.Defs
public import proofs.«01_k».proof.Proof.TileMath
public import proofs.«01_k».proof.Proof.CloseStep
public import proofs.«01_k».proof.Proof.Gen.ChannelsIdeal.Value
public import proofs.«01_k».proof.Proof.Gen.ChannelsRefIdeal.Read
public import Idealize.ShloMosaic.Lib.StableHlo.RunRead
public import Idealize.ShloMosaic.Lib.Pipeline.ValueKit.Tiles

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ChannelsIdeal.Dft

open Cert.ChannelsIdeal Cert.ChannelsIdeal.Gen
open Cert.Tile
open Cert.Ffn (Row modrow rms modrow_congr at1 at2 at3 at4)
open Cert.LastIdeal.Sweep (hz2 hz3)

/-- The modulated norm of a row, by its sequence's own rows of the modulation. -/
def normed (h : S4x2048x2048.Idx → EReal) (md : S9x8x2048.Idx → EReal) (gain : S2048.Idx → EReal) (b : Fin 4) (r : Fin 2048) : Row :=
  modrow (fun d => h (ix3 b r d)) (fun d => gain (ix1 d)) (fun d => md (ix3 3 (b.castLE (by decide)) d)) (fun d => md (ix3 4 (b.castLE (by decide)) d))

/-- The product of a row's group of 512 channels that holds `d` with a column of the table's half that starts at `o`. -/
def along (o : Fin 513) (u : Row) (tab : S512x1024.Idx → EReal) (d : Fin 2048) : EReal :=
  ∑ k : Fin 512, u ⟨512 * (d.val / 512) + k.val, by omega⟩ * tab (ix2 k ⟨o.val + d.val % 512, by omega⟩)

/-- The kernel's modulated norm of a tile. -/
theorem norm_apply (x : FVec Ideal S1x512x2048 .f32) (gain : FVec Ideal S1x2048 .f32) (shift scale : FVec Ideal S1x1x2048 .f32)
    (p : Fin 512) (q : Fin 2048) : k0_pay2 (F := Ideal) x gain shift scale (ix2 p q)
      = modrow (fun d => x (ix3 0 p d)) (fun d => gain (ix2 0 d)) (fun d => shift (ix3 0 0 d)) (fun d => scale (ix3 0 0 d)) q := by
  unfold k0_pay2
  rw [shapeCast_self]
  refine (mod_apply _ _ _ _ _ _ _ _ p q).trans ?_
  exact modrow_congr (fun d => drop_apply x _ p d) (fun _ => rfl) (fun d => drop_apply shift _ 0 d) (fun d => drop_apply scale _ 0 d) q

/-- A group's product with the table. -/
theorem group_apply (u : FVec Ideal S512x2048 .bf16) (tab : FVec Ideal S512x1024 .bf16) (g : Nat) (hg : S512x2048.Slices ![0, g] S512x512)
    (h : g + 512 ≤ 2048) (p : Fin 512) (q : Fin 1024) :
    matmul (φ₁ := .bf16) (φ₂ := .bf16) dot_S512x512_S512x1024_S512x1024_1_0_0_1_n_n none (extractStridedSlice S512x512 ![0, g] u hg) tab (constant S512x1024 .f32 0x00000000#32) (ix2 p q)
      = ∑ k : Fin 512, u (ix2 p ⟨g + k.val, by omega⟩) * tab (ix2 k q) := by
  refine (Ideal.matmul_plain_apply none _ tab (constant S512x1024 .f32 0x00000000#32) p q).trans ?_
  rw [constant_apply, Ideal.ofBits_zero_f32, zero_add]
  exact Finset.sum_congr rfl fun k _ => congrArg₂ (· * ·) (extractStridedSlice_apply ![0, g] u hg (ix2 p k) (ix2 p ⟨g + k.val, by omega⟩) (fun a => match a with
    | ⟨0, _⟩ => by show p.val = 0 + p.val; omega
    | ⟨1, _⟩ => rfl)) rfl

/-- One of the eight stored pieces, at an index of its own, is `along` at the column where it is stored. -/
theorem piece_apply (o : Fin 513) (u : FVec Ideal S512x2048 .bf16) (tab : FVec Ideal S512x1024 .bf16) (g : Nat) (hg : S512x2048.Slices ![0, g] S512x512)
    (ho : S512x1024.Slices ![0, o.val] S512x512) (hc : S512x512.ShapeCasts S1x512x512) (h : g + 512 ≤ 2048) (h5 : g % 512 = 0)
    (x : S1x512x512.Idx) (p : Fin 512) (d : Fin 2048) (hp : p.val = (x 1).val) (hd : d.val = g + (x 2).val) :
    shapeCast S1x512x512 (truncf .bf16 (extractStridedSlice S512x512 ![0, o.val] (matmul (φ₁ := .bf16) (φ₂ := .bf16) dot_S512x512_S512x1024_S512x1024_1_0_0_1_n_n none
      (extractStridedSlice S512x512 ![0, g] u hg) tab (constant S512x1024 .f32 0x00000000#32)) ho) bitsLt_bf16_f32) hc x
      = along o (fun d => u (ix2 p d)) tab d := by
  have h2 : (x 2).val < 512 := (x 2).isLt
  obtain rfl : p = x 1 := Fin.ext hp
  refine (at3 (n0 := 1) (n1 := 512) (n2 := 512) _ x 0 (x 1) (x 2) (by have := (x 0).isLt; show (x 0).val = 0; have h0 : (x 0).val < 1 := (x 0).isLt; omega) rfl rfl).trans ?_
  refine (add_apply (φ := .bf16) _ hc (x 1) (x 2)).trans ?_
  refine (extractStridedSlice_apply ![0, o.val] (matmul (φ₁ := .bf16) (φ₂ := .bf16) dot_S512x512_S512x1024_S512x1024_1_0_0_1_n_n none
      (extractStridedSlice S512x512 ![0, g] u hg) tab (constant S512x1024 .f32 0x00000000#32)) ho (ix2 (x 1) (x 2)) (ix2 (x 1) ⟨o.val + (x 2).val, by omega⟩) (fun a => match a with
    | ⟨0, _⟩ => by show (x 1).val = 0 + (x 1).val; omega
    | ⟨1, _⟩ => rfl)).trans ?_
  refine (group_apply u tab g hg h (x 1) _).trans ?_
  exact Finset.sum_congr rfl fun k _ => congrArg₂ (· * ·)
    (at2 (n0 := 512) (n1 := 2048) u _ _ _ rfl (by show g + k.val = 512 * (d.val / 512) + k.val; omega))
    (at2 (n0 := 512) (n1 := 1024) tab _ _ _ rfl (by show o.val + (x 2).val = o.val + d.val % 512; omega))

variable (m : (ℓ : Loc nD τ sig) → Buf (Elt Ideal) ℓ) (c : Dev nD) (t : Fin cfg0.N)

/-- What the result arrays are shown to hold: the products with the cosines, -/
def GCos : Buf (Elt Ideal) ((c : Thread nD τ).loc main_v1_0) := fun i =>
  along 0 (normed (m ((c : Thread nD τ).loc main_arg0)) (m ((c : Thread nD τ).loc main_arg1)) (m ((c : Thread nD τ).loc main_arg2)) (i 0) (i 1))
    (m ((c : Thread nD τ).loc main_arg3)) (i 2)

/-- and with the sines. -/
def GSin : Buf (Elt Ideal) ((c : Thread nD τ).loc main_v1_1) := fun i =>
  along 512 (normed (m ((c : Thread nD τ).loc main_arg0)) (m ((c : Thread nD τ).loc main_arg1)) (m ((c : Thread nD τ).loc main_arg2)) (i 0) (i 1))
    (m ((c : Thread nD τ).loc main_arg3)) (i 2)

/-- The row of a modulation block that a point reads. -/
abbrev mrow (v : Vec Ideal S1x8x2048 .f32) : Vec Ideal S1x1x2048 .f32 :=
  View.ld v (Rect.unit (k0_off1 (grid0.coords t)) S1x1x2048.size (k0_off1_inb (grid0.coords t)))

/-- The point's modulated norm. -/
abbrev tile : FVec Ideal S512x2048 .bf16 :=
  k0_pay2 (F := Ideal) (iblk m c 0 t) (iblk m c 3 t) (mrow t (iblk m c 1 t)) (mrow t (iblk m c 2 t))

theorem out_cos (y : S1x512x2048.Idx) : (outsAt0 m c t).1 y = along 0 (fun d => tile m c t (ix2 (y 1) d)) (iblk m c 4 t) (y 2) := by
  unfold outsAt0
  dsimp only
  unfold out0_A_5
  rw [View.read_writes_eq_canon _ _ _ (by apply cover0_A_5)]
  unfold kernelRun0_A
  dsimp only
  sl_unfold_words
  simp only [View.readAt_eq_ld, (hs0_0 t).read_unread, (hs0_1 t).read_unread, (hs0_2 t).read_unread, (hs0_3 t).read_unread, (hs0_4 t).read_unread,
    View.ld_unit_zero (S := S1x512x2048) hz3, View.ld_unit_zero (S := S1x2048) hz2, View.ld_unit_zero (S := S512x1024) hz2]
  canon_tiles x h
  · exact piece_apply 0 (tile m c t) (iblk m c 4 t) 1536 _ _ _ (by omega) (by omega) x _ _ (by omega) (by omega)
  · exact piece_apply 0 (tile m c t) (iblk m c 4 t) 1024 _ _ _ (by omega) (by omega) x _ _ (by omega) (by omega)
  · exact piece_apply 0 (tile m c t) (iblk m c 4 t) 512 _ _ _ (by omega) (by omega) x _ _ (by omega) (by omega)
  · exact piece_apply 0 (tile m c t) (iblk m c 4 t) 0 _ _ _ (by omega) (by omega) x _ _ (by omega) (by omega)

theorem out_sin (y : S1x512x2048.Idx) : (outsAt0 m c t).2 y = along 512 (fun d => tile m c t (ix2 (y 1) d)) (iblk m c 4 t) (y 2) := by
  unfold outsAt0
  dsimp only
  unfold out0_A_6
  rw [View.read_writes_eq_canon _ _ _ (by apply cover0_A_6)]
  unfold kernelRun0_A
  dsimp only
  sl_unfold_words
  simp only [View.readAt_eq_ld, (hs0_0 t).read_unread, (hs0_1 t).read_unread, (hs0_2 t).read_unread, (hs0_3 t).read_unread, (hs0_4 t).read_unread,
    View.ld_unit_zero (S := S1x512x2048) hz3, View.ld_unit_zero (S := S1x2048) hz2, View.ld_unit_zero (S := S512x1024) hz2]
  canon_tiles x h
  · exact piece_apply 512 (tile m c t) (iblk m c 4 t) 1536 _ _ _ (by omega) (by omega) x _ _ (by omega) (by omega)
  · exact piece_apply 512 (tile m c t) (iblk m c 4 t) 1024 _ _ _ (by omega) (by omega) x _ _ (by omega) (by omega)
  · exact piece_apply 512 (tile m c t) (iblk m c 4 t) 512 _ _ _ (by omega) (by omega) x _ _ (by omega) (by omega)
  · exact piece_apply 512 (tile m c t) (iblk m c 4 t) 0 _ _ _ (by omega) (by omega) x _ _ (by omega) (by omega)

/-- The sequence is the point divided by 4, the row tile the point mod 4. -/
theorem idx_facts : ∀ t : Fin cfg0.N,
    ((grid0.coords t) 0).val = t.val / 4
    ∧ (win0_0.index t 0 = t.val / 4 ∧ win0_0.index t 1 = t.val % 4 ∧ win0_0.index t 2 = 0)
    ∧ (win0_5.index t 0 = t.val / 4 ∧ win0_5.index t 1 = t.val % 4 ∧ win0_5.index t 2 = 0)
    ∧ (win0_6.index t 0 = t.val / 4 ∧ win0_6.index t 1 = t.val % 4 ∧ win0_6.index t 2 = 0) :=
  (by decide +kernel : ∀ t : Fin grid0.N,
    ((grid0.coords t) 0).val = t.val / 4
    ∧ (win0_0.index t 0 = t.val / 4 ∧ win0_0.index t 1 = t.val % 4 ∧ win0_0.index t 2 = 0)
    ∧ (win0_5.index t 0 = t.val / 4 ∧ win0_5.index t 1 = t.val % 4 ∧ win0_5.index t 2 = 0)
    ∧ (win0_6.index t 0 = t.val / 4 ∧ win0_6.index t 1 = t.val % 4 ∧ win0_6.index t 2 = 0))

theorem idx_rows : ∀ t : Fin cfg0.N,
    (win0_1.index t 0 = 3 ∧ win0_1.index t 1 = 0 ∧ win0_1.index t 2 = 0)
    ∧ (win0_2.index t 0 = 4 ∧ win0_2.index t 1 = 0 ∧ win0_2.index t 2 = 0)
    ∧ (win0_3.index t 0 = 0 ∧ win0_3.index t 1 = 0)
    ∧ (win0_4.index t 0 = 0 ∧ win0_4.index t 1 = 0) :=
  (by decide +kernel : ∀ t : Fin grid0.N,
    (win0_1.index t 0 = 3 ∧ win0_1.index t 1 = 0 ∧ win0_1.index t 2 = 0)
    ∧ (win0_2.index t 0 = 4 ∧ win0_2.index t 1 = 0 ∧ win0_2.index t 2 = 0)
    ∧ (win0_3.index t 0 = 0 ∧ win0_3.index t 1 = 0)
    ∧ (win0_4.index t 0 = 0 ∧ win0_4.index t 1 = 0))

theorem lt_16 (t : Fin cfg0.N) : t.val < 16 := lt_of_lt_of_eq t.isLt N_0

/-- The point's sequence, and a row of its tile. -/
abbrev seqOf : Fin 4 := ⟨t.val / 4, by have := lt_16 t; omega⟩
abbrev rowOf (p : Fin 512) : Fin 2048 := ⟨512 * (t.val % 4) + p.val, by omega⟩

theorem off1_val (i : grid0.Coords) : k0_off1 i 1 = (i 0).val := by rw [k0_off1_eq]; rfl

theorem h_read (p : Fin 512) (k : Fin 2048) : (iblk m c 0 t : FVec Ideal S1x512x2048 .f32) (ix3 0 p k)
    = m ((c : Thread nD τ).loc main_arg0) (ix3 (seqOf t) (rowOf t p) k) := by
  obtain ⟨-, ⟨e0, e1, e2⟩, -⟩ := idx_facts t
  unfold iblk
  rw [View.read_apply]
  show V m c main_arg0 _ = _
  rw [V_main_arg0]
  refine at3 (n0 := 4) (n1 := 2048) (n2 := 2048) _ _ _ _ _ ?_ ?_ ?_
  · show win0_0.index t 0 * 1 + 1 * 0 = t.val / 4; rw [e0]; omega
  · show win0_0.index t 1 * 512 + 1 * p.val = 512 * (t.val % 4) + p.val; rw [e1]; omega
  · show win0_0.index t 2 * 2048 + 1 * k.val = k.val; rw [e2]; omega

theorem shift_block (p : Fin 8) (d : Fin 2048) : (iblk m c 1 t : FVec Ideal S1x8x2048 .f32) (ix3 0 p d)
    = m ((c : Thread nD τ).loc main_arg1) (ix3 3 p d) := by
  obtain ⟨⟨e0, e1, e2⟩, -⟩ := idx_rows t
  unfold iblk
  rw [View.read_apply]
  show V m c main_arg1 _ = _
  rw [V_main_arg1]
  refine at3 (n0 := 9) (n1 := 8) (n2 := 2048) _ _ _ _ _ ?_ ?_ ?_
  · show win0_1.index t 0 * 1 + 1 * 0 = 3; rw [e0]
  · show win0_1.index t 1 * 8 + 1 * p.val = p.val; rw [e1]; omega
  · show win0_1.index t 2 * 2048 + 1 * d.val = d.val; rw [e2]; omega

theorem scale_block (p : Fin 8) (d : Fin 2048) : (iblk m c 2 t : FVec Ideal S1x8x2048 .f32) (ix3 0 p d)
    = m ((c : Thread nD τ).loc main_arg1) (ix3 4 p d) := by
  obtain ⟨-, ⟨e0, e1, e2⟩, -⟩ := idx_rows t
  unfold iblk
  rw [View.read_apply]
  show V m c main_arg1 _ = _
  rw [V_main_arg1]
  refine at3 (n0 := 9) (n1 := 8) (n2 := 2048) _ _ _ _ _ ?_ ?_ ?_
  · show win0_2.index t 0 * 1 + 1 * 0 = 4; rw [e0]
  · show win0_2.index t 1 * 8 + 1 * p.val = p.val; rw [e1]; omega
  · show win0_2.index t 2 * 2048 + 1 * d.val = d.val; rw [e2]; omega

/-- A point's row of a modulation block is its sequence's. -/
theorem mrow_apply (v : FVec Ideal S1x8x2048 .f32) (d : Fin 2048) : mrow t v (ix3 0 0 d) = v (ix3 0 ((seqOf t).castLE (by decide)) d) := by
  have eg := (idx_facts t).1
  refine at3 (n0 := 1) (n1 := 8) (n2 := 2048) v _ _ _ _ ?_ ?_ ?_
  · rfl
  · show k0_off1 (grid0.coords t) 1 + 1 * 0 = t.val / 4; rw [off1_val, eg]; omega
  · show 0 + 1 * d.val = d.val; omega

theorem V_gain : V m c main_v0 = shapeCast S1x2048 (m ((c : Thread nD τ).loc main_arg2)) shapeCasts_S2048_S1x2048 := by
  unfold V
  after_reads_simp
  rfl

theorem gain_read (d : Fin 2048) : (iblk m c 3 t : FVec Ideal S1x2048 .f32) (ix2 0 d) = m ((c : Thread nD τ).loc main_arg2) (ix1 d) := by
  obtain ⟨-, -, ⟨e0, e1⟩, -⟩ := idx_rows t
  refine Eq.trans ?_ (lay_apply (φ := .f32) (m ((c : Thread nD τ).loc main_arg2)) shapeCasts_S2048_S1x2048 d)
  unfold iblk
  rw [View.read_apply]
  show V m c main_v0 _ = _
  rw [V_gain]
  refine at2 (n0 := 1) (n1 := 2048) _ _ _ _ ?_ ?_
  · show win0_3.index t 0 * 1 + 1 * 0 = 0; rw [e0]
  · show win0_3.index t 1 * 2048 + 1 * d.val = d.val; rw [e1]; omega

theorem tab_read (k : Fin 512) (q : Fin 1024) : (iblk m c 4 t : FVec Ideal S512x1024 .bf16) (ix2 k q) = m ((c : Thread nD τ).loc main_arg3) (ix2 k q) := by
  obtain ⟨-, -, -, e0, e1⟩ := idx_rows t
  unfold iblk
  rw [View.read_apply]
  show V m c main_arg3 _ = _
  rw [V_main_arg3]
  refine at2 (n0 := 512) (n1 := 1024) _ _ _ _ ?_ ?_
  · show win0_4.index t 0 * 512 + 1 * k.val = k.val; rw [e0]; omega
  · show win0_4.index t 1 * 1024 + 1 * q.val = q.val; rw [e1]; omega

/-- What a point's tile multiplies. -/
theorem along_tile (o : Fin 513) (p : Fin 512) (d : Fin 2048) : along o (fun d => tile m c t (ix2 p d)) (iblk m c 4 t) d
    = along o (normed (m ((c : Thread nD τ).loc main_arg0)) (m ((c : Thread nD τ).loc main_arg1)) (m ((c : Thread nD τ).loc main_arg2)) (seqOf t) (rowOf t p))
        (m ((c : Thread nD τ).loc main_arg3)) d := by
  refine Finset.sum_congr rfl fun k _ => congrArg₂ (· * ·) ?_ (tab_read m c t _ _)
  exact (norm_apply _ _ _ _ p _).trans (modrow_congr (h_read m c t p) (gain_read m c t)
    (fun d => (mrow_apply t _ d).trans (shift_block m c t _ d)) (fun d => (mrow_apply t _ d).trans (scale_block m c t _ d)) _)

theorem flushed_cos : (dats m 0 c).flushed 5 t = ((cfg0.win 5).blk t).view.read (Elt Ideal) (GCos m c) := by
  obtain ⟨-, -, ⟨e0, e1, e2⟩, -⟩ := idx_facts t
  rw [Value.flushed5]
  funext j
  have hj0 : (j 0).val < 1 := (j 0).isLt
  have hj1 : (j 1).val < 512 := (j 1).isLt
  rw [View.read_apply]
  have hl : ((outsAt0 m c t).1 : FVec Ideal S1x512x2048 .bf16) ((cfg0.win 5).xinj (grid0.coords t) j)
      = ((outsAt0 m c t).1 : FVec Ideal S1x512x2048 .bf16) (ix3 0 (j 1) (j 2)) :=
    at3 (n0 := 1) (n1 := 512) (n2 := 2048) _ _ _ _ _ (by show (j 0).val = 0; omega) rfl rfl
  refine hl.trans ((out_cos m c t (ix3 0 (j 1) (j 2))).trans ((along_tile m c t 0 (j 1) (j 2)).trans (Eq.symm ?_)))
  refine (at3 (n0 := 4) (n1 := 2048) (n2 := 2048) (GCos m c) _ (seqOf t) (rowOf t (j 1)) (j 2) ?_ ?_ ?_).trans rfl
  · show win0_5.index t 0 * 1 + 1 * (j 0).val = t.val / 4; rw [e0]; omega
  · show win0_5.index t 1 * 512 + 1 * (j 1).val = 512 * (t.val % 4) + (j 1).val; rw [e1]; omega
  · show win0_5.index t 2 * 2048 + 1 * (j 2).val = (j 2).val; rw [e2]; omega

theorem mem5 (t : Fin cfg0.N) (i : main_v1_0.ty.Idx) : i ∈ ((cfg0.win 5).blk t).view.set
    ↔ ∀ a, win0_5.index t a * S1x512x2048.size a ≤ (i a).val ∧ (i a).val < win0_5.index t a * S1x512x2048.size a + S1x512x2048.size a := by
  show i ∈ ((View.whole main_v1_0).slice (win0_5.rect t)).set ↔ _
  rw [View.set_slice_whole, Rect.mem_set_unit]

theorem final_cos : (dats m 0 c).arrAt 5 cfg0.N = GCos m c :=
  (dats m 0 c).arrAt_eq_of_cover 5 (GCos m c) (fun t _ => flushed_cos m c t) (fun i => by
    have h0 : (i 0).val < 4 := (i 0).isLt
    have h1 : (i 1).val < 2048 := (i 1).isLt
    have h2 : (i 2).val < 2048 := (i 2).isLt
    have hn : 4 * (i 0).val + (i 1).val / 512 < cfg0.N := lt_of_lt_of_eq (by omega : _ < 16) N_0.symm
    obtain ⟨-, -, ⟨e0, e1, e2⟩, -⟩ := idx_facts ⟨_, hn⟩
    refine ⟨⟨_, hn⟩, flush0_5 _, (mem5 _ i).2 ?_⟩
    intro a
    match a with
    | ⟨0, _⟩ => show win0_5.index ⟨_, hn⟩ 0 * 1 ≤ (i 0).val ∧ (i 0).val < win0_5.index ⟨_, hn⟩ 0 * 1 + 1; rw [e0]; dsimp only; omega
    | ⟨1, _⟩ => show win0_5.index ⟨_, hn⟩ 1 * 512 ≤ (i 1).val ∧ (i 1).val < win0_5.index ⟨_, hn⟩ 1 * 512 + 512; rw [e1]; dsimp only; omega
    | ⟨2, _⟩ => show win0_5.index ⟨_, hn⟩ 2 * 2048 ≤ (i 2).val ∧ (i 2).val < win0_5.index ⟨_, hn⟩ 2 * 2048 + 2048; rw [e2]; dsimp only; omega)

theorem flushed_sin : (dats m 0 c).flushed 6 t = ((cfg0.win 6).blk t).view.read (Elt Ideal) (GSin m c) := by
  obtain ⟨-, -, -, e0, e1, e2⟩ := idx_facts t
  rw [Value.flushed6]
  funext j
  have hj0 : (j 0).val < 1 := (j 0).isLt
  have hj1 : (j 1).val < 512 := (j 1).isLt
  rw [View.read_apply]
  have hl : ((outsAt0 m c t).2 : FVec Ideal S1x512x2048 .bf16) ((cfg0.win 6).xinj (grid0.coords t) j)
      = ((outsAt0 m c t).2 : FVec Ideal S1x512x2048 .bf16) (ix3 0 (j 1) (j 2)) :=
    at3 (n0 := 1) (n1 := 512) (n2 := 2048) _ _ _ _ _ (by show (j 0).val = 0; omega) rfl rfl
  refine hl.trans ((out_sin m c t (ix3 0 (j 1) (j 2))).trans ((along_tile m c t 512 (j 1) (j 2)).trans (Eq.symm ?_)))
  refine (at3 (n0 := 4) (n1 := 2048) (n2 := 2048) (GSin m c) _ (seqOf t) (rowOf t (j 1)) (j 2) ?_ ?_ ?_).trans rfl
  · show win0_6.index t 0 * 1 + 1 * (j 0).val = t.val / 4; rw [e0]; omega
  · show win0_6.index t 1 * 512 + 1 * (j 1).val = 512 * (t.val % 4) + (j 1).val; rw [e1]; omega
  · show win0_6.index t 2 * 2048 + 1 * (j 2).val = (j 2).val; rw [e2]; omega

theorem mem6 (t : Fin cfg0.N) (i : main_v1_1.ty.Idx) : i ∈ ((cfg0.win 6).blk t).view.set
    ↔ ∀ a, win0_6.index t a * S1x512x2048.size a ≤ (i a).val ∧ (i a).val < win0_6.index t a * S1x512x2048.size a + S1x512x2048.size a := by
  show i ∈ ((View.whole main_v1_1).slice (win0_6.rect t)).set ↔ _
  rw [View.set_slice_whole, Rect.mem_set_unit]

theorem final_sin : (dats m 0 c).arrAt 6 cfg0.N = GSin m c :=
  (dats m 0 c).arrAt_eq_of_cover 6 (GSin m c) (fun t _ => flushed_sin m c t) (fun i => by
    have h0 : (i 0).val < 4 := (i 0).isLt
    have h1 : (i 1).val < 2048 := (i 1).isLt
    have h2 : (i 2).val < 2048 := (i 2).isLt
    have hn : 4 * (i 0).val + (i 1).val / 512 < cfg0.N := lt_of_lt_of_eq (by omega : _ < 16) N_0.symm
    obtain ⟨-, -, -, e0, e1, e2⟩ := idx_facts ⟨_, hn⟩
    refine ⟨⟨_, hn⟩, flush0_6 _, (mem6 _ i).2 ?_⟩
    intro a
    match a with
    | ⟨0, _⟩ => show win0_6.index ⟨_, hn⟩ 0 * 1 ≤ (i 0).val ∧ (i 0).val < win0_6.index ⟨_, hn⟩ 0 * 1 + 1; rw [e0]; dsimp only; omega
    | ⟨1, _⟩ => show win0_6.index ⟨_, hn⟩ 1 * 512 ≤ (i 1).val ∧ (i 1).val < win0_6.index ⟨_, hn⟩ 1 * 512 + 512; rw [e1]; dsimp only; omega
    | ⟨2, _⟩ => show win0_6.index ⟨_, hn⟩ 2 * 2048 ≤ (i 2).val ∧ (i 2).val < win0_6.index ⟨_, hn⟩ 2 * 2048 + 2048; rw [e2]; dsimp only; omega)

/-! ## The reference -/

section

open Cert.ChannelsRefIdeal.Read

variable (h : S4x2048x2048.Idx → EReal) (md : S9x8x2048.Idx → EReal) (gain : S2048.Idx → EReal) (tab : S512x1024.Idx → EReal)
  (b : Fin 4) (d : Fin 2048)

theorem ref_shift : val_main_v2 (F := Ideal) md (ix3 b 0 d) = md (ix3 3 (b.castLE (by decide)) d) := by
  rw [val_main_v2_apply, val_main_v1_apply, val_main_v0_apply]
  refine at3 (n0 := 9) (n1 := 8) (n2 := 2048) md _ 3 (b.castLE (by decide)) d rfl ?_ ?_
  · show (b.val * 2048 + d.val) / 2048 % 4 = b.val; omega
  · show (b.val * 2048 + d.val) % 2048 = d.val; omega

theorem ref_scale : val_main_v5 (F := Ideal) md (ix3 b 0 d) = md (ix3 4 (b.castLE (by decide)) d) := by
  rw [val_main_v5_apply, val_main_v4_apply, val_main_v3_apply]
  refine at3 (n0 := 9) (n1 := 8) (n2 := 2048) md _ 4 (b.castLE (by decide)) d rfl ?_ ?_
  · show (b.val * 2048 + d.val) / 2048 % 4 = b.val; omega
  · show (b.val * 2048 + d.val) % 2048 = d.val; omega

/-! The reference's norm is the prenorm's, over its own arrays. -/

theorem ref_rms (r : Fin 2048) : val_main_v14 (F := Ideal) h (ix3 b r d) = rms fun e => h (ix3 b r e) := by
  rw [val_main_v14_apply, val_main_v13_apply, val_main_v12_apply, val_main_v10_apply, val_main_v8_apply, val_main_v7_apply,
    val_main_v9_apply, val_main_v11_apply, val_main_cst_apply, val_main_cst_0_apply, val_main_cst_1_apply]
  have e : FloatOps.ofBits (F := Ideal) .f32 0x00000000#32 + ∑ k : Fin 2048, val_main_v6 (F := Ideal) h (idx_main_v7 (idx_main_v8 (idx_main_v14 (ix3 b r d))) k)
      = ∑ k : Fin 2048, h (ix3 b r k) * h (ix3 b r k) := by
    rw [show FloatOps.ofBits (F := Ideal) .f32 0x00000000#32 = (0 : EReal) from Ideal.ofBits_zero_f32, zero_add]
    exact Finset.sum_congr rfl fun k _ => at3 (n0 := 4) (n1 := 2048) (n2 := 2048) (val_main_v6 (F := Ideal) h) _ b r k rfl rfl rfl
  exact congrArg (fun y => Ideal.rsqrt (Ideal.div y (Ideal.ofBits .f32 0x45000000#32) + Ideal.ofBits .f32 0x358637BD#32)) e

theorem ref_norm (r : Fin 2048) : val_main_v24 (F := Ideal) h md gain (ix3 b r d) = normed h md gain b r d := by
  rw [val_main_v24_apply, val_main_v22_apply, val_main_v18_apply, val_main_v15_apply, ref_rms, val_main_v17_apply, val_main_v16_apply,
    val_main_v21_apply, val_main_v20_apply, val_main_v19_apply, val_main_cst_2_apply, val_main_v23_apply]
  have eg : gain (idx_main_v16 (idx_main_v17 (ix3 b r d))) = gain (ix1 d) := at1 (n0 := 2048) gain _ d rfl
  have es : val_main_v2 (F := Ideal) md (idx_main_v23 (ix3 b r d)) = _ :=
    (at3 (n0 := 4) (n1 := 1) (n2 := 2048) (val_main_v2 (F := Ideal) md) _ b 0 d rfl rfl rfl).trans (ref_shift md b d)
  have ec : val_main_v5 (F := Ideal) md (idx_main_v21 (ix3 b r d)) = _ :=
    (at3 (n0 := 4) (n1 := 1) (n2 := 2048) (val_main_v5 (F := Ideal) md) _ b 0 d rfl rfl rfl).trans (ref_scale md b d)
  have eo : FloatOps.ofBits (F := Ideal) .f32 0x3F800000#32 = (1 : EReal) := Ideal.ofBits_one_f32
  rw [eg, es, ec, eo]
  show h (ix3 b r d) * (rms fun e => h (ix3 b r e)) * gain (ix1 d) * (1 + md (ix3 4 (b.castLE (by decide)) d)) + md (ix3 3 (b.castLE (by decide)) d) = _
  rw [mul_assoc (h (ix3 b r d) * rms fun e => h (ix3 b r e))]
  rfl

theorem ref_group (r : Fin 2048) (g : Fin 4) (k : Fin 512) : val_main_v25 (F := Ideal) h md gain (ix4 b r g k)
    = normed h md gain b r ⟨512 * g.val + k.val, by omega⟩ := by
  rw [val_main_v25_apply]
  refine (at3 (n0 := 4) (n1 := 2048) (n2 := 2048) (val_main_v24 (F := Ideal) h md gain) _ b r ⟨512 * g.val + k.val, by omega⟩ ?_ ?_ ?_).trans (ref_norm h md gain b _ r)
  · show (((b.val * 2048 + r.val) * 4 + g.val) * 512 + k.val) / 4194304 = b.val; omega
  · show (((b.val * 2048 + r.val) * 4 + g.val) * 512 + k.val) / 2048 % 2048 = r.val; omega
  · show (((b.val * 2048 + r.val) * 4 + g.val) * 512 + k.val) % 2048 = 512 * g.val + k.val; omega

theorem ref_cos_at (r : Fin 2048) : val_main_v33 (F := Ideal) h md gain tab (ix3 b r d) = along 0 (normed h md gain b r) tab d := by
  rw [val_main_v33_apply]
  show val_main_v29 (F := Ideal) h md gain tab (ix3 b r d) = _
  rw [val_main_v29_apply, val_main_v28_apply]
  refine Finset.sum_congr rfl fun k _ => congrArg₂ (· * ·) ?_ ?_
  · refine (at4 (n0 := 4) (n1 := 2048) (n2 := 4) (n3 := 512) (val_main_v25 (F := Ideal) h md gain) _ b r ⟨d.val / 512, by omega⟩ k ?_ ?_ ?_ rfl).trans (ref_group h md gain b r _ k)
    · show ((b.val * 2048 + r.val) * 2048 + d.val) / 4194304 = b.val; omega
    · show ((b.val * 2048 + r.val) * 2048 + d.val) / 2048 % 2048 = r.val; omega
    · show ((b.val * 2048 + r.val) * 2048 + d.val) / 512 % 4 = d.val / 512; omega
  · rw [val_main_v27_apply, val_main_v26_apply]
    refine at2 (n0 := 512) (n1 := 1024) tab _ k ⟨(0 : Fin 513).val + d.val % 512, by omega⟩ rfl ?_
    show ((b.val * 2048 + r.val) * 2048 + d.val) % 512 = 0 + d.val % 512
    omega

theorem ref_cos : val_main_v33 (F := Ideal) h md gain tab = fun i => along 0 (normed h md gain (i 0) (i 1)) tab (i 2) := by
  funext i
  exact (at3 (n0 := 4) (n1 := 2048) (n2 := 2048) (val_main_v33 (F := Ideal) h md gain tab) i (i 0) (i 1) (i 2) rfl rfl rfl).trans
    (ref_cos_at h md gain tab (i 0) (i 2) (i 1))

theorem ref_sin_at (r : Fin 2048) : val_main_v34 (F := Ideal) h md gain tab (ix3 b r d) = along 512 (normed h md gain b r) tab d := by
  rw [val_main_v34_apply]
  show val_main_v32 (F := Ideal) h md gain tab (ix3 b r d) = _
  rw [val_main_v32_apply, val_main_v31_apply]
  refine Finset.sum_congr rfl fun k _ => congrArg₂ (· * ·) ?_ ?_
  · refine (at4 (n0 := 4) (n1 := 2048) (n2 := 4) (n3 := 512) (val_main_v25 (F := Ideal) h md gain) _ b r ⟨d.val / 512, by omega⟩ k ?_ ?_ ?_ rfl).trans (ref_group h md gain b r _ k)
    · show ((b.val * 2048 + r.val) * 2048 + d.val) / 4194304 = b.val; omega
    · show ((b.val * 2048 + r.val) * 2048 + d.val) / 2048 % 2048 = r.val; omega
    · show ((b.val * 2048 + r.val) * 2048 + d.val) / 512 % 4 = d.val / 512; omega
  · rw [val_main_v30_apply, val_main_v26_apply]
    refine at2 (n0 := 512) (n1 := 1024) tab _ k ⟨(512 : Fin 513).val + d.val % 512, by omega⟩ rfl ?_
    show 512 + ((b.val * 2048 + r.val) * 2048 + d.val) % 512 = 512 + d.val % 512
    omega

theorem ref_sin : val_main_v34 (F := Ideal) h md gain tab = fun i => along 512 (normed h md gain (i 0) (i 1)) tab (i 2) := by
  funext i
  exact (at3 (n0 := 4) (n1 := 2048) (n2 := 2048) (val_main_v34 (F := Ideal) h md gain tab) i (i 0) (i 1) (i 2) rfl rfl rfl).trans
    (ref_sin_at h md gain tab (i 0) (i 2) (i 1))

end

end Cert.ChannelsIdeal.Dft
-- ==== Proof.PrenormValue.lean ====
/-
  The delta rule's prenorm: the kernel `PrenormIdeal` leaves the modulated norms of the latent rows, and below them of the context
  rows, in its result array, and the reference `PrenormRefIdeal` computes the same.
-/
module

public import proofs.«01_k».proof.Defs
public import proofs.«01_k».proof.Proof.TileMath
public import proofs.«01_k».proof.Proof.CloseStep
public import proofs.«01_k».proof.Proof.Gen.PrenormIdeal.Value
public import proofs.«01_k».proof.Proof.Gen.PrenormRefIdeal.Read
public import Idealize.ShloMosaic.Lib.StableHlo.RunRead

@[expose] public section

set_option maxRecDepth 16384

noncomputable section

open Idealize.ShloMosaic Idealize.ShloMosaic.TcCoe Idealize.SL.Sem Idealize.ShloMosaic.ValueIdx
open Idealize.ShloMosaic.Pipeline (Dat)

namespace Cert.PrenormIdeal.Norm

open Cert.PrenormIdeal Cert.PrenormIdeal.Gen
open Cert.Tile
open Cert.Ffn (Row modrow rms modrow_congr at1 at2 at3)
open Cert.LastIdeal.Sweep (hz2 hz3)

/-- The modulated norm of a latent row, by its sequence's own rows of the modulation. -/
def latent (h : S4x2048x2048.Idx → EReal) (md : S9x8x2048.Idx → EReal) (gain : S2048.Idx → EReal) (b : Fin 4) (r : Fin 2048) : Row :=
  modrow (fun d => h (ix3 b r d)) (fun d => gain (ix1 d)) (fun d => md (ix3 3 (b.castLE (by decide)) d)) (fun d => md (ix3 4 (b.castLE (by decide)) d))

/-- The modulated norm of a context row, by the context's rows of the modulation. -/
def context (hc : S4x256x2048.Idx → EReal) (md : S9x8x2048.Idx → EReal) (gain : S2048.Idx → EReal) (b : Fin 4) (r : Fin 256) : Row :=
  modrow (fun d => hc (ix3 b r d)) (fun d => gain (ix1 d)) (fun d => md (ix3 3 4 d)) (fun d => md (ix3 4 4 d))

/-- The latent rows, then the context rows. -/
def normed (h : S4x2048x2048.Idx → EReal) (hc : S4x256x2048.Idx → EReal) (md : S9x8x2048.Idx → EReal) (gain : S2048.Idx → EReal)
    (b : Fin 4) (r : Fin 2304) : Row :=
  if hr : r.val < 2048 then latent h md gain b ⟨r.val, hr⟩ else context hc md gain b ⟨r.val - 2048, by omega⟩

/-- The stored payload of a latent tile, at (0, p, q); -/
theorem pay1_apply (x : FVec Ideal S1x256x2048 .f32) (gain : FVec Ideal S1x2048 .f32) (shift scale : FVec Ideal S1x1x2048 .f32)
    (p : Fin 256) (q : Fin 2048) : k0_pay1 (F := Ideal) x gain shift scale (ix3 0 p q)
      = modrow (fun d => x (ix3 0 p d)) (fun d => gain (ix2 0 d)) (fun d => shift (ix3 0 0 d)) (fun d => scale (ix3 0 0 d)) q := by
  unfold k0_pay1
  rw [shapeCast_self]
  refine (add_apply _ _ p q).trans ((mod_apply _ _ _ _ _ _ _ _ p q).trans ?_)
  exact modrow_congr (fun d => drop_apply x _ p d) (fun _ => rfl) (fun d => drop_apply shift _ 0 d) (fun d => drop_apply scale _ 0 d) q

/-- and of a context tile. -/
theorem pay2_apply (x : FVec Ideal S1x256x2048 .f32) (gain : FVec Ideal S1x2048 .f32) (shift scale : FVec Ideal S1x1x2048 .f32)
    (p : Fin 256) (q : Fin 2048) : k0_pay2 (F := Ideal) x gain shift scale (ix3 0 p q)
      = modrow (fun d => x (ix3 0 p d)) (fun d => gain (ix2 0 d)) (fun d => shift (ix3 0 0 d)) (fun d => scale (ix3 0 0 d)) q := by
  unfold k0_pay2
  rw [shapeCast_self]
  refine (add_apply _ _ p q).trans ((mod_apply _ _ _ _ _ _ _ _ p q).trans ?_)
  exact modrow_congr (fun d => drop_apply x _ p d) (fun _ => rfl) (fun d => drop_apply shift _ 0 d) (fun d => drop_apply scale _ 0 d) q

variable (m : (ℓ : Loc nD τ sig) → Buf (Elt Ideal) ℓ) (c : Dev nD) (t : Fin cfg0.N)

/-- What the result array is shown to hold. -/
def G : Buf (Elt Ideal) ((c : Thread nD τ).loc main_v1) := fun i =>
  normed (m ((c : Thread nD τ).loc main_arg0)) (m ((c : Thread nD τ).loc main_arg1)) (m ((c : Thread nD τ).loc main_arg2))
    (m ((c : Thread nD τ).loc main_arg3)) (i 0) (i 1) (i 2)

/-- The row of a modulation block that a latent point reads, -/
abbrev rowA (hc : cond0_0 (grid0.coords t)) (v : Vec Ideal S1x8x2048 .f32) : Vec Ideal S1x1x2048 .f32 :=
  View.ld v (Rect.unit (k0_off1 (grid0.coords t)) S1x1x2048.size (k0_off1_inb (grid0.coords t) hc))

/-- and that a context point reads. -/
abbrev rowB (v : Vec Ideal S1x8x2048 .f32) : Vec Ideal S1x1x2048 .f32 :=
  View.ld v (Rect.unit ![0, 4, 0] S1x1x2048.size inb_S1x8x2048_S1x1x2048_0_4_0)

theorem out_A (h0 : t.val % 9 ≤ 7) : outsAt0 m c t.val t.isLt = k0_pay1 (F := Ideal) (iblk m c 0 t) (iblk m c 4 t)
    (rowA t ((hcond0_0 t).mpr h0) (iblk m c 2 t)) (rowA t ((hcond0_0 t).mpr h0) (iblk m c 3 t)) := by
  rw [outsAt0_A m c t h0 (by omega)]
  unfold out0_A_5
  refine (View.read_writes_eq_canon _ _ _ (by apply cover0_A_5)).trans ?_
  unfold kernelRun0_A
  dsimp only
  sl_unfold_words
  rw [View.canon_unit_zero hz3]
  simp only [View.readAt_eq_ld, (hs0_0 t).read_unread, (hs0_2 t).read_unread, (hs0_3 t).read_unread, (hs0_4 t).read_unread,
    View.ld_unit_zero (S := S1x256x2048) hz3, View.ld_unit_zero (S := S1x2048) hz2]
  rfl

theorem out_B (h1 : t.val % 9 = 8) : outsAt0 m c t.val t.isLt = k0_pay2 (F := Ideal) (iblk m c 1 t) (iblk m c 4 t)
    (rowB (iblk m c 2 t)) (rowB (iblk m c 3 t)) := by
  rw [outsAt0_B m c t (by omega) h1]
  unfold out0_B_5
  refine (View.read_writes_eq_canon _ _ _ (by apply cover0_B_5)).trans ?_
  unfold kernelRun0_B
  dsimp only
  sl_unfold_words
  rw [View.canon_unit_zero hz3]
  simp only [View.readAt_eq_ld, (hs0_1 t).read_unread, (hs0_2 t).read_unread, (hs0_3 t).read_unread, (hs0_4 t).read_unread,
    View.ld_unit_zero (S := S1x256x2048) hz3, View.ld_unit_zero (S := S1x2048) hz2]

/-- The sequence is the point divided by 9, the row tile the point mod 9. -/
theorem idx_facts : ∀ t : Fin cfg0.N,
    ((grid0.coords t) 0).val = t.val / 9
    ∧ (win0_0.index t 0 = t.val / 9 ∧ win0_0.index t 1 = min (t.val % 9) 7 ∧ win0_0.index t 2 = 0)
    ∧ (win0_1.index t 0 = t.val / 9 ∧ win0_1.index t 1 = 0 ∧ win0_1.index t 2 = 0)
    ∧ (win0_5.index t 0 = t.val / 9 ∧ win0_5.index t 1 = t.val % 9 ∧ win0_5.index t 2 = 0) :=
  (by decide +kernel : ∀ t : Fin grid0.N,
    ((grid0.coords t) 0).val = t.val / 9
    ∧ (win0_0.index t 0 = t.val / 9 ∧ win0_0.index t 1 = min (t.val % 9) 7 ∧ win0_0.index t 2 = 0)
    ∧ (win0_1.index t 0 = t.val / 9 ∧ win0_1.index t 1 = 0 ∧ win0_1.index t 2 = 0)
    ∧ (win0_5.index t 0 = t.val / 9 ∧ win0_5.index t 1 = t.val % 9 ∧ win0_5.index t 2 = 0))

theorem idx_rows : ∀ t : Fin cfg0.N,
    (win0_2.index t 0 = 3 ∧ win0_2.index t 1 = 0 ∧ win0_2.index t 2 = 0)
    ∧ (win0_3.index t 0 = 4 ∧ win0_3.index t 1 = 0 ∧ win0_3.index t 2 = 0)
    ∧ (win0_4.index t 0 = 0 ∧ win0_4.index t 1 = 0) :=
  (by decide +kernel : ∀ t : Fin grid0.N,
    (win0_2.index t 0 = 3 ∧ win0_2.index t 1 = 0 ∧ win0_2.index t 2 = 0)
    ∧ (win0_3.index t 0 = 4 ∧ win0_3.index t 1 = 0 ∧ win0_3.index t 2 = 0)
    ∧ (win0_4.index t 0 = 0 ∧ win0_4.index t 1 = 0))

theorem lt_36 (t : Fin cfg0.N) : t.val < 36 := lt_of_lt_of_eq t.isLt N_0

abbrev seqOf : Fin 4 := ⟨t.val / 9, by have := lt_36 t; omega⟩

theorem off1_val (i : grid0.Coords) : k0_off1 i 1 = (i 0).val := by rw [k0_off1_eq]; rfl

theorem h_read (h0 : t.val % 9 ≤ 7) (p : Fin 256) (k : Fin 2048) : (iblk m c 0 t : FVec Ideal S1x256x2048 .f32) (ix3 0 p k)
    = m ((c : Thread nD τ).loc main_arg0) (ix3 (seqOf t) ⟨256 * (t.val % 9) + p.val, by omega⟩ k) := by
  obtain ⟨-, ⟨e0, e1, e2⟩, -⟩ := idx_facts t
  unfold iblk
  rw [View.read_apply]
  show V m c main_arg0 _ = _
  rw [V_main_arg0]
  refine at3 (n0 := 4) (n1 := 2048) (n2 := 2048) _ _ _ _ _ ?_ ?_ ?_
  · show win0_0.index t 0 * 1 + 1 * 0 = t.val / 9; rw [e0]; omega
  · show win0_0.index t 1 * 256 + 1 * p.val = 256 * (t.val % 9) + p.val; rw [e1]; omega
  · show win0_0.index t 2 * 2048 + 1 * k.val = k.val; rw [e2]; omega

theorem c_read (p : Fin 256) (k : Fin 2048) : (iblk m c 1 t : FVec Ideal S1x256x2048 .f32) (ix3 0 p k)
    = m ((c : Thread nD τ).loc main_arg1) (ix3 (seqOf t) p k) := by
  obtain ⟨-, -, ⟨e0, e1, e2⟩, -⟩ := idx_facts t
  unfold iblk
  rw [View.read_apply]
  show V m c main_arg1 _ = _
  rw [V_main_arg1]
  refine at3 (n0 := 4) (n1 := 256) (n2 := 2048) _ _ _ _ _ ?_ ?_ ?_
  · show win0_1.index t 0 * 1 + 1 * 0 = t.val / 9; rw [e0]; omega
  · show win0_1.index t 1 * 256 + 1 * p.val = p.val; rw [e1]; omega
  · show win0_1.index t 2 * 2048 + 1 * k.val = k.val; rw [e2]; omega

theorem shift_block (p : Fin 8) (d : Fin 2048) : (iblk m c 2 t : FVec Ideal S1x8x2048 .f32) (ix3 0 p d)
    = m ((c : Thread nD τ).loc main_arg2) (ix3 3 p d) := by
  obtain ⟨⟨e0, e1, e2⟩, -⟩ := idx_rows t
  unfold iblk
  rw [View.read_apply]
  show V m c main_arg2 _ = _
  rw [V_main_arg2]
  refine at3 (n0 := 9) (n1 := 8) (n2 := 2048) _ _ _ _ _ ?_ ?_ ?_
  · show win0_2.index t 0 * 1 + 1 * 0 = 3; rw [e0]
  · show win0_2.index t 1 * 8 + 1 * p.val = p.val; rw [e1]; omega
  · show win0_2.index t 2 * 2048 + 1 * d.val = d.val; rw [e2]; omega

theorem scale_block (p : Fin 8) (d : Fin 2048) : (iblk m c 3 t : FVec Ideal S1x8x2048 .f32) (ix3 0 p d)
    = m ((c : Thread nD τ).loc main_arg2) (ix3 4 p d) := by
  obtain ⟨-, ⟨e0, e1, e2⟩, -⟩ := idx_rows t
  unfold iblk
  rw [View.read_apply]
  show V m c main_arg2 _ = _
  rw [V_main_arg2]
  refine at3 (n0 := 9) (n1 := 8) (n2 := 2048) _ _ _ _ _ ?_ ?_ ?_
  · show win0_3.index t 0 * 1 + 1 * 0 = 4; rw [e0]
  · show win0_3.index t 1 * 8 + 1 * p.val = p.val; rw [e1]; omega
  · show win0_3.index t 2 * 2048 + 1 * d.val = d.val; rw [e2]; omega

/-- A latent point's row of a modulation block is its sequence's, -/
theorem rowA_apply (hc : cond0_0 (grid0.coords t)) (v : FVec Ideal S1x8x2048 .f32) (d : Fin 2048) :
    rowA t hc v (ix3 0 0 d) = v (ix3 0 ((seqOf t).castLE (by decide)) d) := by
  have eg := (idx_facts t).1
  refine at3 (n0 := 1) (n1 := 8) (n2 := 2048) v _ _ _ _ ?_ ?_ ?_
  · rfl
  · show k0_off1 (grid0.coords t) 1 + 1 * 0 = t.val / 9; rw [off1_val, eg]; omega
  · show 0 + 1 * d.val = d.val; omega

/-- a context point's the context's. -/
theorem rowB_apply (v : FVec Ideal S1x8x2048 .f32) (d : Fin 2048) : rowB v (ix3 0 0 d) = v (ix3 0 4 d) := by
  refine at3 (n0 := 1) (n1 := 8) (n2 := 2048) v _ _ _ _ ?_ ?_ ?_
  · rfl
  · rfl
  · show 0 + 1 * d.val = d.val; omega

theorem V_gain : V m c main_v0 = shapeCast S1x2048 (m ((c : Thread nD τ).loc main_arg3)) shapeCasts_S2048_S1x2048 := by
  unfold V
  after_reads_simp
  rfl

theorem gain_read (d : Fin 2048) : (iblk m c 4 t : FVec Ideal S1x2048 .f32) (ix2 0 d) = m ((c : Thread nD τ).loc main_arg3) (ix1 d) := by
  obtain ⟨-, -, e0, e1⟩ := idx_rows t
  refine Eq.trans ?_ (lay_apply (φ := .f32) (m ((c : Thread nD τ).loc main_arg3)) shapeCasts_S2048_S1x2048 d)
  unfold iblk
  rw [View.read_apply]
  show V m c main_v0 _ = _
  rw [V_gain]
  refine at2 (n0 := 1) (n1 := 2048) _ _ _ _ ?_ ?_
  · show win0_4.index t 0 * 1 + 1 * 0 = 0; rw [e0]
  · show win0_4.index t 1 * 2048 + 1 * d.val = d.val; rw [e1]; omega

theorem out_apply (p : Fin 256) (q : Fin 2048) : (outsAt0 m c t.val t.isLt : FVec Ideal S1x256x2048 .bf16) (ix3 0 p q)
    = normed (m ((c : Thread nD τ).loc main_arg0)) (m ((c : Thread nD τ).loc main_arg1)) (m ((c : Thread nD τ).loc main_arg2))
        (m ((c : Thread nD τ).loc main_arg3)) (seqOf t) ⟨256 * (t.val % 9) + p.val, by omega⟩ q := by
  by_cases h0 : t.val % 9 ≤ 7
  · have e : normed (m ((c : Thread nD τ).loc main_arg0)) (m ((c : Thread nD τ).loc main_arg1)) (m ((c : Thread nD τ).loc main_arg2))
        (m ((c : Thread nD τ).loc main_arg3)) (seqOf t) ⟨256 * (t.val % 9) + p.val, by omega⟩
        = latent (m ((c : Thread nD τ).loc main_arg0)) (m ((c : Thread nD τ).loc main_arg2)) (m ((c : Thread nD τ).loc main_arg3))
          (seqOf t) ⟨256 * (t.val % 9) + p.val, by omega⟩ := dif_pos (by dsimp only; omega)
    rw [out_A m c t h0, e]
    refine (pay1_apply _ _ _ _ p q).trans (modrow_congr (h_read m c t h0 p) (gain_read m c t) (fun d => ?_) (fun d => ?_) q)
    · exact (rowA_apply t _ _ d).trans (shift_block m c t _ d)
    · exact (rowA_apply t _ _ d).trans (scale_block m c t _ d)
  · have h1 : t.val % 9 = 8 := by omega
    have e : normed (m ((c : Thread nD τ).loc main_arg0)) (m ((c : Thread nD τ).loc main_arg1)) (m ((c : Thread nD τ).loc main_arg2))
        (m ((c : Thread nD τ).loc main_arg3)) (seqOf t) ⟨256 * (t.val % 9) + p.val, by omega⟩
        = context (m ((c : Thread nD τ).loc main_arg1)) (m ((c : Thread nD τ).loc main_arg2)) (m ((c : Thread nD τ).loc main_arg3))
          (seqOf t) p := (dif_neg (by dsimp only; omega)).trans (congrArg (context _ _ _ _) (Fin.ext (by dsimp only; omega)))
    rw [out_B m c t h1, e]
    refine (pay2_apply _ _ _ _ p q).trans (modrow_congr (c_read m c t p) (gain_read m c t) (fun d => ?_) (fun d => ?_) q)
    · exact (rowB_apply _ d).trans (shift_block m c t _ d)
    · exact (rowB_apply _ d).trans (scale_block m c t _ d)

theorem flushed_eq : (dats m 0 c).flushed 5 t = ((cfg0.win 5).blk t).view.read (Elt Ideal) (G m c) := by
  obtain ⟨-, -, -, e0, e1, e2⟩ := idx_facts t
  rw [Value.flushed5]
  funext j
  have hj0 : (j 0).val < 1 := (j 0).isLt
  have hj1 : (j 1).val < 256 := (j 1).isLt
  rw [View.read_apply]
  have hl : (outsAt0 m c t.val t.isLt : FVec Ideal S1x256x2048 .bf16) ((cfg0.win 5).xinj (grid0.coords t) j)
      = (outsAt0 m c t.val t.isLt : FVec Ideal S1x256x2048 .bf16) (ix3 0 (j 1) (j 2)) :=
    at3 (n0 := 1) (n1 := 256) (n2 := 2048) _ _ _ _ _ (by show (j 0).val = 0; omega) rfl rfl
  refine hl.trans ((out_apply m c t (j 1) (j 2)).trans (Eq.symm ?_))
  refine (at3 (n0 := 4) (n1 := 2304) (n2 := 2048) (G m c) _ (seqOf t) ⟨256 * (t.val % 9) + (j 1).val, by omega⟩ (j 2) ?_ ?_ ?_).trans rfl
  · show win0_5.index t 0 * 1 + 1 * (j 0).val = t.val / 9; rw [e0]; omega
  · show win0_5.index t 1 * 256 + 1 * (j 1).val = 256 * (t.val % 9) + (j 1).val; rw [e1]; omega
  · show win0_5.index t 2 * 2048 + 1 * (j 2).val = (j 2).val; rw [e2]; omega

theorem mem5 (t : Fin cfg0.N) (i : main_v1.ty.Idx) : i ∈ ((cfg0.win 5).blk t).view.set
    ↔ ∀ a, win0_5.index t a * S1x256x2048.size a ≤ (i a).val ∧ (i a).val < win0_5.index t a * S1x256x2048.size a + S1x256x2048.size a := by
  show i ∈ ((View.whole main_v1).slice (win0_5.rect t)).set ↔ _
  rw [View.set_slice_whole, Rect.mem_set_unit]

theorem final : (dats m 0 c).arrAt 5 cfg0.N = G m c :=
  (dats m 0 c).arrAt_eq_of_cover 5 (G m c) (fun t _ => flushed_eq m c t) (fun i => by
    have h0 : (i 0).val < 4 := (i 0).isLt
    have h1 : (i 1).val < 2304 := (i 1).isLt
    have h2 : (i 2).val < 2048 := (i 2).isLt
    have hn : 9 * (i 0).val + (i 1).val / 256 < cfg0.N := lt_of_lt_of_eq (by omega : _ < 36) N_0.symm
    obtain ⟨-, -, -, e0, e1, e2⟩ := idx_facts ⟨_, hn⟩
    refine ⟨⟨_, hn⟩, flush0_5 _, (mem5 _ i).2 ?_⟩
    intro a
    match a with
    | ⟨0, _⟩ => show win0_5.index ⟨_, hn⟩ 0 * 1 ≤ (i 0).val ∧ (i 0).val < win0_5.index ⟨_, hn⟩ 0 * 1 + 1; rw [e0]; dsimp only; omega
    | ⟨1, _⟩ => show win0_5.index ⟨_, hn⟩ 1 * 256 ≤ (i 1).val ∧ (i 1).val < win0_5.index ⟨_, hn⟩ 1 * 256 + 256; rw [e1]; dsimp only; omega
    | ⟨2, _⟩ => show win0_5.index ⟨_, hn⟩ 2 * 2048 ≤ (i 2).val ∧ (i 2).val < win0_5.index ⟨_, hn⟩ 2 * 2048 + 2048; rw [e2]; dsimp only; omega)

/-! ## The reference -/

section

open Cert.PrenormRefIdeal.Read

variable (h : S4x2048x2048.Idx → EReal) (hc : S4x256x2048.Idx → EReal) (md : S9x8x2048.Idx → EReal) (gain : S2048.Idx → EReal)
  (b : Fin 4) (d : Fin 2048)

theorem ref_shift : val_main_v2 (F := Ideal) md (ix3 b 0 d) = md (ix3 3 (b.castLE (by decide)) d) := by
  rw [val_main_v2_apply, val_main_v1_apply, val_main_v0_apply]
  refine at3 (n0 := 9) (n1 := 8) (n2 := 2048) md _ 3 (b.castLE (by decide)) d rfl ?_ ?_
  · show (b.val * 2048 + d.val) / 2048 % 4 = b.val; omega
  · show (b.val * 2048 + d.val) % 2048 = d.val; omega

theorem ref_scale : val_main_v5 (F := Ideal) md (ix3 b 0 d) = md (ix3 4 (b.castLE (by decide)) d) := by
  rw [val_main_v5_apply, val_main_v4_apply, val_main_v3_apply]
  refine at3 (n0 := 9) (n1 := 8) (n2 := 2048) md _ 4 (b.castLE (by decide)) d rfl ?_ ?_
  · show (b.val * 2048 + d.val) / 2048 % 4 = b.val; omega
  · show (b.val * 2048 + d.val) % 2048 = d.val; omega

theorem ref_shift_row (j : Cert.PrenormRefIdeal.S1x2048.Idx) : val_main_v26 (F := Ideal) md j = md (ix3 3 4 (j 1)) := by
  have h0 : (j 0).val < 1 := (j 0).isLt
  have h1 : (j 1).val < 2048 := (j 1).isLt
  rw [val_main_v26_apply, val_main_v25_apply]
  refine at3 (n0 := 9) (n1 := 8) (n2 := 2048) md _ 3 4 (j 1) rfl rfl ?_
  show ((j 0).val * 2048 + (j 1).val) % 2048 = (j 1).val
  omega

theorem ref_scale_row (j : Cert.PrenormRefIdeal.S1x2048.Idx) : val_main_v29 (F := Ideal) md j = md (ix3 4 4 (j 1)) := by
  have h0 : (j 0).val < 1 := (j 0).isLt
  have h1 : (j 1).val < 2048 := (j 1).isLt
  rw [val_main_v29_apply, val_main_v28_apply]
  refine at3 (n0 := 9) (n1 := 8) (n2 := 2048) md _ 4 4 (j 1) rfl rfl ?_
  show ((j 0).val * 2048 + (j 1).val) % 2048 = (j 1).val
  omega

theorem ref_rms (r : Fin 2048) : val_main_v14 (F := Ideal) h (ix3 b r d) = rms fun e => h (ix3 b r e) := by
  rw [val_main_v14_apply, val_main_v13_apply, val_main_v12_apply, val_main_v10_apply, val_main_v8_apply, val_main_v7_apply,
    val_main_v9_apply, val_main_v11_apply, val_main_cst_apply, val_main_cst_0_apply, val_main_cst_1_apply]
  have e : FloatOps.ofBits (F := Ideal) .f32 0x00000000#32 + ∑ k : Fin 2048, val_main_v6 (F := Ideal) h (idx_main_v7 (idx_main_v8 (idx_main_v14 (ix3 b r d))) k)
      = ∑ k : Fin 2048, h (ix3 b r k) * h (ix3 b r k) := by
    rw [show FloatOps.ofBits (F := Ideal) .f32 0x00000000#32 = (0 : EReal) from Ideal.ofBits_zero_f32, zero_add]
    exact Finset.sum_congr rfl fun k _ => at3 (n0 := 4) (n1 := 2048) (n2 := 2048) (val_main_v6 (F := Ideal) h) _ b r k rfl rfl rfl
  exact congrArg (fun y => Ideal.rsqrt (Ideal.div y (Ideal.ofBits .f32 0x45000000#32) + Ideal.ofBits .f32 0x358637BD#32)) e

theorem ref_rms_context (r : Fin 256) : val_main_v39 (F := Ideal) hc (ix3 b r d) = rms fun e => hc (ix3 b r e) := by
  rw [val_main_v39_apply, val_main_v38_apply, val_main_v37_apply, val_main_v35_apply, val_main_v33_apply, val_main_v32_apply,
    val_main_v34_apply, val_main_v36_apply, val_main_cst_3_apply, val_main_cst_4_apply, val_main_cst_5_apply]
  have e : FloatOps.ofBits (F := Ideal) .f32 0x00000000#32 + ∑ k : Fin 2048, val_main_v31 (F := Ideal) hc (idx_main_v32 (idx_main_v33 (idx_main_v39 (ix3 b r d))) k)
      = ∑ k : Fin 2048, hc (ix3 b r k) * hc (ix3 b r k) := by
    rw [show FloatOps.ofBits (F := Ideal) .f32 0x00000000#32 = (0 : EReal) from Ideal.ofBits_zero_f32, zero_add]
    exact Finset.sum_congr rfl fun k _ => at3 (n0 := 4) (n1 := 256) (n2 := 2048) (val_main_v31 (F := Ideal) hc) _ b r k rfl rfl rfl
  exact congrArg (fun y => Ideal.rsqrt (Ideal.div y (Ideal.ofBits .f32 0x45000000#32) + Ideal.ofBits .f32 0x358637BD#32)) e

theorem ref_latent (r : Fin 2048) : val_main_v24 (F := Ideal) h md gain (ix3 b r d) = latent h md gain b r d := by
  rw [val_main_v24_apply, val_main_v22_apply, val_main_v18_apply, val_main_v15_apply, ref_rms, val_main_v17_apply, val_main_v16_apply,
    val_main_v21_apply, val_main_v20_apply, val_main_v19_apply, val_main_cst_2_apply, val_main_v23_apply]
  have eg : gain (idx_main_v16 (idx_main_v17 (ix3 b r d))) = gain (ix1 d) := at1 (n0 := 2048) gain _ d rfl
  have es : val_main_v2 (F := Ideal) md (idx_main_v23 (ix3 b r d)) = _ :=
    (at3 (n0 := 4) (n1 := 1) (n2 := 2048) (val_main_v2 (F := Ideal) md) _ b 0 d rfl rfl rfl).trans (ref_shift md b d)
  have ec : val_main_v5 (F := Ideal) md (idx_main_v21 (ix3 b r d)) = _ :=
    (at3 (n0 := 4) (n1 := 1) (n2 := 2048) (val_main_v5 (F := Ideal) md) _ b 0 d rfl rfl rfl).trans (ref_scale md b d)
  have eo : FloatOps.ofBits (F := Ideal) .f32 0x3F800000#32 = (1 : EReal) := Ideal.ofBits_one_f32
  rw [eg, es, ec, eo]
  show h (ix3 b r d) * (rms fun e => h (ix3 b r e)) * gain (ix1 d) * (1 + md (ix3 4 (b.castLE (by decide)) d)) + md (ix3 3 (b.castLE (by decide)) d) = _
  rw [mul_assoc (h (ix3 b r d) * rms fun e => h (ix3 b r e))]
  rfl

theorem ref_context (r : Fin 256) : val_main_v49 (F := Ideal) hc md gain (ix3 b r d) = context hc md gain b r d := by
  rw [val_main_v49_apply, val_main_v47_apply, val_main_v43_apply, val_main_v40_apply, ref_rms_context, val_main_v42_apply, val_main_v41_apply,
    val_main_v46_apply, val_main_v45_apply, val_main_v44_apply, val_main_cst_6_apply, val_main_v48_apply, val_main_v27_apply,
    val_main_v30_apply, ref_shift_row, ref_scale_row]
  have eg : gain (idx_main_v41 (idx_main_v42 (ix3 b r d))) = gain (ix1 d) := at1 (n0 := 2048) gain _ d rfl
  have eo : FloatOps.ofBits (F := Ideal) .f32 0x3F800000#32 = (1 : EReal) := Ideal.ofBits_one_f32
  rw [eg, eo]
  show hc (ix3 b r d) * (rms fun e => hc (ix3 b r e)) * gain (ix1 d) * (1 + md (ix3 4 4 d)) + md (ix3 3 4 d) = _
  rw [mul_assoc (hc (ix3 b r d) * rms fun e => hc (ix3 b r e))]
  rfl

theorem ref_at (r : Fin 2304) : val_main_v51 (F := Ideal) h hc md gain (ix3 b r d) = normed h hc md gain b r d := by
  rw [val_main_v51_apply]
  show val_main_v50 (F := Ideal) h hc md gain (ix3 b r d) = _
  unfold val_main_v50 normed
  by_cases hr : r.val < 2048
  · rw [dif_pos hr]
    refine (concatenate_apply_piece (t := Cert.PrenormRefIdeal.S4x2304x2048) 1
      [⟨Cert.PrenormRefIdeal.S4x2048x2048, val_main_v24 (F := Ideal) h md gain⟩, ⟨Cert.PrenormRefIdeal.S4x256x2048, val_main_v49 (F := Ideal) hc md gain⟩]
      Cert.PrenormRefIdeal.Gen.concatenates_S4x2048x2048_S4x256x2048_S4x2304x2048_d1 (ix3 b r d) 0 (by simp) Cert.PrenormRefIdeal.S4x2048x2048
      (val_main_v24 (F := Ideal) h md gain) rfl rfl 0 rfl (ix3 b ⟨r.val, hr⟩ d) (fun a ha => ?_) ?_).trans (ref_latent h md gain b d _)
    · match a with
      | ⟨0, _⟩ => rfl
      | ⟨1, _⟩ => exact absurd rfl ha
      | ⟨2, _⟩ => rfl
    · show 0 + r.val = r.val; omega
  · rw [dif_neg hr]
    refine (concatenate_apply_piece (t := Cert.PrenormRefIdeal.S4x2304x2048) 1
      [⟨Cert.PrenormRefIdeal.S4x2048x2048, val_main_v24 (F := Ideal) h md gain⟩, ⟨Cert.PrenormRefIdeal.S4x256x2048, val_main_v49 (F := Ideal) hc md gain⟩]
      Cert.PrenormRefIdeal.Gen.concatenates_S4x2048x2048_S4x256x2048_S4x2304x2048_d1 (ix3 b r d) 1 (by simp) Cert.PrenormRefIdeal.S4x256x2048
      (val_main_v49 (F := Ideal) hc md gain) rfl rfl 2048 rfl (ix3 b ⟨r.val - 2048, by omega⟩ d) (fun a ha => ?_) ?_).trans (ref_context hc md gain b d _)
    · match a with
      | ⟨0, _⟩ => rfl
      | ⟨1, _⟩ => exact absurd rfl ha
      | ⟨2, _⟩ => rfl
    · show 2048 + (r.val - 2048) = r.val; omega

theorem ref_eq : val_main_v51 (F := Ideal) h hc md gain = fun i => normed h hc md gain (i 0) (i 1) (i 2) := by
  funext i
  exact (at3 (n0 := 4) (n1 := 2304) (n2 := 2048) (val_main_v51 (F := Ideal) h hc md gain) i (i 0) (i 1) (i 2) rfl rfl rfl).trans
    (ref_at h hc md gain (i 0) (i 2) (i 1))

end

end Cert.PrenormIdeal.Norm
-- ==== Proof.RopeMath.lean ====
/-
  The norm and rotation of a head's row: its reciprocal root mean square, its gain, and the turning of its quarters by the
  angles of its row and of its column.
-/
module

public import proofs.«01_k».proof.Proof.TileMath

@[expose] public section

set_option maxRecDepth 16384

noncomputable section

open Idealize.ShloMosaic Idealize.ShloMosaic.ValueIdx

namespace Cert.RopeMath

open Cert.Tile

/-- The reciprocal root mean square of a head's row. -/
def hrms (x : Fin 128 → EReal) : EReal :=
  Ideal.rsqrt (Ideal.div (∑ d : Fin 128, x d * x d) (Ideal.ofBits .f32 0x43000000#32) + Ideal.ofBits .f32 0x358637BD#32)

/-- A head's row, normed. -/
def normed (x g : Fin 128 → EReal) (d : Fin 128) : EReal := x d * hrms x * g d

/-- The column that turns with `d`: 32 further in the first half of a half, 32 back in the second. -/
def partner (d : Fin 128) : Fin 128 := ⟨if d.val % 64 < 32 then d.val + 32 else d.val - 32, by split <;> omega⟩

/-- A row turned by the cosines and the signed sines. -/
def turned (y cs sn : Fin 128 → EReal) (d : Fin 128) : EReal := y d * cs d + y (partner d) * sn d

/-- The gain of head `n`: the queries' eight with their scale, the keys' two. -/
def gainOf (qn kn : (V1 128).Idx → EReal) (n : Fin 10) (d : Fin 128) : EReal :=
  if n.val < 8 then qn (ix1 d) * Ideal.ofBits .f32 0x3DB504F3#32 else kn (ix1 d)

/-- The angles' values of a latent row: the first half of the columns by the row's, the second by the column's. -/
def angle (tr tc : (V2 2048 32).Idx → EReal) (r : Fin 2048) (d : Fin 128) : EReal :=
  if d.val < 64 then tr (ix2 r ⟨d.val % 32, by omega⟩) else tc (ix2 r ⟨d.val % 32, by omega⟩)

/-- The cosines, one in the context's rows, -/
def cosAt (cr cc : (V2 2048 32).Idx → EReal) (r : Fin 2304) (d : Fin 128) : EReal :=
  if h : r.val < 2048 then angle cr cc ⟨r.val, h⟩ d else 1

/-- and the sines, negative in the first half of a half, zero in the context's rows. -/
def sinAt (sr sc : (V2 2048 32).Idx → EReal) (r : Fin 2304) (d : Fin 128) : EReal :=
  if h : r.val < 2048 then (if d.val % 64 < 32 then - angle sr sc ⟨r.val, h⟩ d else angle sr sc ⟨r.val, h⟩ d) else 0

/-- Head `n` of a row of the projection. -/
def head (pb : (V3 4 2304 1536).Idx → EReal) (b : Fin 4) (r : Fin 2304) (n : Fin 10) (d : Fin 128) : EReal :=
  pb (ix3 b r ⟨128 * n.val + d.val, by omega⟩)

/-- Head `n` of a row, normed and turned. -/
def rotated (pb : (V3 4 2304 1536).Idx → EReal) (qn kn : (V1 128).Idx → EReal) (cr sr cc sc : (V2 2048 32).Idx → EReal)
    (b : Fin 4) (r : Fin 2304) (n : Fin 10) : Fin 128 → EReal :=
  turned (normed (head pb b r n) (gainOf qn kn n)) (cosAt cr cc r) (sinAt sr sc r)

theorem normed_congr {x x' g g' : Fin 128 → EReal} (hx : ∀ d, x d = x' d) (hg : ∀ d, g d = g' d) (d : Fin 128) :
    normed x g d = normed x' g' d := by
  rw [funext hx, funext hg]

theorem turned_congr {y y' cs cs' sn sn' : Fin 128 → EReal} (hy : ∀ d, y d = y' d) (hc : ∀ d, cs d = cs' d) (hs : ∀ d, sn d = sn' d)
    (d : Fin 128) : turned y cs sn d = turned y' cs' sn' d := by
  rw [funext hy, funext hc, funext hs]

/-- A latent row, in the first half of a half, -/
theorem turned_first (y : Fin 128 → EReal) (cr sr cc sc : (V2 2048 32).Idx → EReal) (r : Fin 2304) (h : r.val < 2048) (d e : Fin 128)
    (hd : d.val % 64 < 32) (he : e.val = d.val + 32) : turned y (cosAt cr cc r) (sinAt sr sc r) d
      = y d * angle cr cc ⟨r.val, h⟩ d - y e * angle sr sc ⟨r.val, h⟩ d := by
  have ep : partner d = e := Fin.ext (by unfold partner; dsimp only; rw [if_pos hd, he])
  unfold turned cosAt sinAt
  rw [dif_pos h, dif_pos h, if_pos hd, ep, mul_neg, sub_eq_add_neg]

/-- in the second, -/
theorem turned_second (y : Fin 128 → EReal) (cr sr cc sc : (V2 2048 32).Idx → EReal) (r : Fin 2304) (h : r.val < 2048) (d e : Fin 128)
    (hd : ¬ d.val % 64 < 32) (he : d.val = e.val + 32) : turned y (cosAt cr cc r) (sinAt sr sc r) d
      = y e * angle sr sc ⟨r.val, h⟩ d + y d * angle cr cc ⟨r.val, h⟩ d := by
  have ep : partner d = e := Fin.ext (by unfold partner; dsimp only; rw [if_neg hd, he]; omega)
  unfold turned cosAt sinAt
  rw [dif_pos h, dif_pos h, if_neg hd, ep, add_comm]

/-- and a context row, which is not turned. -/
theorem turned_context (y : Fin 128 → EReal) (cr sr cc sc : (V2 2048 32).Idx → EReal) (r : Fin 2304) (h : ¬ r.val < 2048) (d : Fin 128) :
    turned y (cosAt cr cc r) (sinAt sr sc r) d = y d := by
  unfold turned cosAt sinAt
  rw [dif_neg h, dif_neg h, mul_one, mul_zero, add_zero]

end Cert.RopeMath
-- ==== Proof.RopeValue.lean ====
/-
  The norm and rotation of attention's queries and keys: the kernel `RopeIdeal` leaves each head normed and turned by the
  tables of cosines and signed sines, one pair for all the columns of a head.
-/
module

public import proofs.«01_k».proof.Defs
public import proofs.«01_k».proof.Proof.RopeMath
public import proofs.«01_k».proof.Proof.CloseStep
public import proofs.«01_k».proof.Proof.Gen.RopeIdeal.Value
public import Idealize.ShloMosaic.Lib.StableHlo.RunRead
public import Idealize.ShloMosaic.Lib.Pipeline.ValueKit.Tiles
public import Idealize.ShloMosaic.Lib.KernelVsHost

@[expose] public section

set_option maxRecDepth 16384

noncomputable section

open Idealize.ShloMosaic Idealize.ShloMosaic.TcCoe Idealize.SL.Sem Idealize.ShloMosaic.ValueIdx
open Idealize.ShloMosaic.Pipeline (Dat)

namespace Cert.RopeIdeal.Out

open Cert.RopeIdeal Cert.RopeIdeal.Gen
open Cert.Tile Cert.RopeMath
open Cert.Ffn (at1 at2 at3 at4)
open Cert.LastIdeal.Sweep (hz2 hz3)

/-- A head normed by the kernel. -/
theorem norm_apply (x : FVec Ideal S1x2304x128 .bf16) (g : FVec Ideal S1x1x128 .f32) (p : Fin 2304) (q : Fin 128) :
    k0_pay3 (F := Ideal) x g (ix2 p q) = normed (fun d => x (ix3 0 p d)) (fun d => g (ix3 0 0 d)) q := by
  unfold k0_pay3
  refine congrArg₂ (· * ·) (congrArg₂ (· * ·) (drop_apply (φ := .bf16) x _ p q) ?_) ((row_apply _ _ p q).trans (drop_apply g _ 0 q))
  refine (col_apply _ _ p q).trans ?_
  refine congrArg (fun s => Ideal.rsqrt (Ideal.div s (Ideal.ofBits .f32 0x43000000#32) + Ideal.ofBits .f32 0x358637BD#32))
    ((stand_apply _ _ p).trans ((sum_apply _ _ p).trans (Finset.sum_congr rfl fun d _ => ?_)))
  exact congrArg₂ (· * ·) (drop_apply (φ := .bf16) x _ p d) (drop_apply (φ := .bf16) x _ p d)

/-- The kernel's choice of the columns in the first half of a half. -/
theorem mask_apply (p : Fin 2304) (q : Fin 128) : k0_pay2 (ix2 p q) = if q.val % 64 < 32 then 1#1 else 0#1 := by
  have e : k0_pay2 (ix2 p q) = k0_pay2 (ix2 (0 : Fin 2304) q) := rfl
  exact e.trans ((by decide +kernel : ∀ q : Fin 128, k0_pay2 (ix2 (0 : Fin 2304) q) = if q.val % 64 < 32 then 1#1 else 0#1) q)

theorem select_one (x y : EReal) : Scalar.select 1#1 x y = x := if_pos rfl

theorem select_zero (x y : EReal) : Scalar.select 0#1 x y = y := if_neg (by decide)

/-- The stored payload of a head. -/
theorem pay_apply (x : FVec Ideal S1x2304x128 .bf16) (g : FVec Ideal S1x1x128 .f32) (cs sn : FVec Ideal S2304x128 .f32) (p : Fin 2304)
    (q : Fin 128) : k0_pay1 (F := Ideal) k0_pay2 x g cs sn (ix3 0 p q)
      = turned (normed (fun d => x (ix3 0 p d)) (fun d => g (ix3 0 0 d))) (fun d => cs (ix2 p d)) (fun d => sn (ix2 p d)) q := by
  unfold k0_pay1
  rw [shapeCast_self, shapeCast_self]
  refine (add_apply (φ := .bf16) _ _ p q).trans ?_
  refine congrArg₂ (· + ·) (congrArg₂ (· * ·) (norm_apply x g p q) rfl) (congrArg₂ (· * ·) ?_ rfl)
  show Scalar.select (k0_pay2 (ix2 p q)) (dynamicRotate (1 : Fin 2) 96#32 none (k0_pay3 (F := Ideal) x g) rotates_S2304x128_d1 (ix2 p q))
    (dynamicRotate (1 : Fin 2) 32#32 none (k0_pay3 (F := Ideal) x g) rotates_S2304x128_d1 (ix2 p q)) = _
  rw [mask_apply]
  by_cases h : q.val % 64 < 32
  · rw [if_pos h]
    refine (select_one _ _).trans ((dynamicRotate_apply (s := S2304x128) 1 96#32 (k0_pay3 (F := Ideal) x g) _ (ix2 p q) (ix2 p (partner q)) (fun b => ?_)).trans
      (norm_apply x g p _))
    match b with
    | ⟨0, _⟩ => rfl
    | ⟨1, _⟩ => show (partner q).val = (q.val + 128 - 96) % 128; unfold partner; dsimp only; rw [if_pos h]; omega
  · rw [if_neg h]
    refine (select_zero _ _).trans ((dynamicRotate_apply (s := S2304x128) 1 32#32 (k0_pay3 (F := Ideal) x g) _ (ix2 p q) (ix2 p (partner q)) (fun b => ?_)).trans
      (norm_apply x g p _))
    match b with
    | ⟨0, _⟩ => rfl
    | ⟨1, _⟩ => show (partner q).val = (q.val + 128 - 32) % 128; unfold partner; dsimp only; rw [if_neg h]; omega

theorem head_inb (n : Fin 10) : ∀ a, (![0, 0, 128 * n.val] : Fin 3 → Nat) a + S1x2304x128.size a ≤ S1x2304x1280.size a :=
  (by decide : ∀ n : Fin 10, ∀ a, (![0, 0, 128 * n.val] : Fin 3 → Nat) a + S1x2304x128.size a ≤ S1x2304x1280.size a) n

theorem gain_inb (n : Fin 10) : ∀ a, (![n.val, 0, 0] : Fin 3 → Nat) a + S1x1x128.size a ≤ S10x1x128.size a :=
  (by decide : ∀ n : Fin 10, ∀ a, (![n.val, 0, 0] : Fin 3 → Nat) a + S1x1x128.size a ≤ S10x1x128.size a) n

/-- What a point leaves at row `p` and column `j` of its block, by the blocks it reads. -/
def tileAt (x : FVec Ideal S1x2304x1280 .bf16) (g : FVec Ideal S10x1x128 .f32) (cs sn : FVec Ideal S2304x128 .f32) (p : Fin 2304)
    (j : Fin 1280) : EReal :=
  turned (normed (fun d => x (ix3 0 p ⟨128 * (j.val / 128) + d.val, by omega⟩)) (fun d => g (ix3 ⟨j.val / 128, by omega⟩ 0 d)))
    (fun d => cs (ix2 p d)) (fun d => sn (ix2 p d)) ⟨j.val % 128, by omega⟩

/-- The store of head `n`, at an index of its own. -/
theorem piece_apply (n : Fin 10) (x : FVec Ideal S1x2304x1280 .bf16) (g : FVec Ideal S10x1x128 .f32) (cs sn : FVec Ideal S2304x128 .f32)
    (i : S1x2304x128.Idx) (p : Fin 2304) (j : Fin 1280) (hp : p.val = (i 1).val) (hj : j.val = 128 * n.val + (i 2).val) :
    k0_pay1 (F := Ideal) k0_pay2 (View.ld (Val := Elt Ideal) (e' := .bf16) x (Rect.unit (s := S1x2304x1280) ![0, 0, 128 * n.val] S1x2304x128.size (head_inb n)))
      (View.ld (Val := Elt Ideal) (e' := .f32) g (Rect.unit (s := S10x1x128) ![n.val, 0, 0] S1x1x128.size (gain_inb n))) cs sn i = tileAt x g cs sn p j := by
  have h0 : (i 0).val < 1 := (i 0).isLt
  have h2 : (i 2).val < 128 := (i 2).isLt
  obtain rfl : p = i 1 := Fin.ext hp
  refine (at3 (n0 := 1) (n1 := 2304) (n2 := 128) _ i 0 (i 1) (i 2) (by show (i 0).val = 0; omega) rfl rfl).trans ?_
  refine (pay_apply _ _ cs sn (i 1) (i 2)).trans ?_
  unfold tileAt
  have ej : (⟨j.val % 128, by omega⟩ : Fin 128) = i 2 := Fin.ext (by show j.val % 128 = (i 2).val; omega)
  rw [ej]
  refine turned_congr (fun d => normed_congr (fun d => ?_) (fun d => ?_) d) (fun _ => rfl) (fun _ => rfl) _
  · refine at3 (n0 := 1) (n1 := 2304) (n2 := 1280) x _ _ _ _ rfl ?_ ?_
    · show 0 + 1 * (i 1).val = (i 1).val; omega
    · show 128 * n.val + 1 * d.val = 128 * (j.val / 128) + d.val; omega
  · refine at3 (n0 := 10) (n1 := 1) (n2 := 128) g _ _ _ _ ?_ rfl ?_
    · show n.val + 1 * 0 = j.val / 128; omega
    · show 0 + 1 * d.val = d.val; omega

variable (m : (ℓ : Loc nD τ sig) → Buf (Elt Ideal) ℓ) (c : Dev nD) (t : Fin cfg0.N)

/-- What the result array is shown to hold. -/
def G : Buf (Elt Ideal) ((c : Thread nD τ).loc main_v14) := fun i =>
  rotated (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1) ⟨(i 2).val / 128, by have : (i 2).val < 1280 := (i 2).isLt; omega⟩
    ⟨(i 2).val % 128, by omega⟩

theorem out_A (y : S1x2304x1280.Idx) :
    outsAt0 m c t y = tileAt (X0_0 m c t) (iblk m c 1 t) (iblk m c 2 t) (iblk m c 3 t) (y 1) (y 2) := by
  unfold outsAt0 out0_A_4
  rw [View.read_writes_eq_canon _ _ _ (by apply cover0_A_4)]
  unfold kernelRun0_A
  dsimp only
  sl_unfold_words
  simp only [View.readAt_eq_ld, (hs0_0 t).read_unread, (hs0_1 t).read_unread, (hs0_2 t).read_unread, (hs0_3 t).read_unread,
    View.ld_unit_zero (S := S2304x128) hz2]
  canon_tiles x h
  · exact piece_apply 9 (X0_0 m c t) (iblk m c 1 t) (iblk m c 2 t) (iblk m c 3 t) x _ _ (by omega) (by omega)
  · exact piece_apply 8 (X0_0 m c t) (iblk m c 1 t) (iblk m c 2 t) (iblk m c 3 t) x _ _ (by omega) (by omega)
  · exact piece_apply 7 (X0_0 m c t) (iblk m c 1 t) (iblk m c 2 t) (iblk m c 3 t) x _ _ (by omega) (by omega)
  · exact piece_apply 6 (X0_0 m c t) (iblk m c 1 t) (iblk m c 2 t) (iblk m c 3 t) x _ _ (by omega) (by omega)
  · exact piece_apply 5 (X0_0 m c t) (iblk m c 1 t) (iblk m c 2 t) (iblk m c 3 t) x _ _ (by omega) (by omega)
  · exact piece_apply 4 (X0_0 m c t) (iblk m c 1 t) (iblk m c 2 t) (iblk m c 3 t) x _ _ (by omega) (by omega)
  · exact piece_apply 3 (X0_0 m c t) (iblk m c 1 t) (iblk m c 2 t) (iblk m c 3 t) x _ _ (by omega) (by omega)
  · exact piece_apply 2 (X0_0 m c t) (iblk m c 1 t) (iblk m c 2 t) (iblk m c 3 t) x _ _ (by omega) (by omega)
  · exact piece_apply 1 (X0_0 m c t) (iblk m c 1 t) (iblk m c 2 t) (iblk m c 3 t) x _ _ (by omega) (by omega)
  · exact piece_apply 0 (X0_0 m c t) (iblk m c 1 t) (iblk m c 2 t) (iblk m c 3 t) x _ _ (by omega) (by omega)

/-! ## The gains and the tables as laid out before the kernel -/

section

variable (qn kn : S128.Idx → EReal) (a b d e cr sr cc sc : S2048x32.Idx → EReal)

abbrev queryGains : FVec Ideal S8x128 .f32 :=
  broadcastInDim S8x128 ![1] bcast_S128_S8x128_1
    (mulf (φ := .f32) qn (broadcastInDim S128 ![] bcast_S_S128 (constant S_ .f32 0x3DB504F3#32 : FVec Ideal S_ .f32)))

abbrev keyGains : FVec Ideal S2x128 .f32 := broadcastInDim S2x128 ![1] bcast_S128_S2x128_1 (kn : FVec Ideal S128 .f32)

/-- The heads' gains. -/
def gains : FVec Ideal S10x128 .f32 :=
  concatenate S10x128 0 [⟨S8x128, queryGains qn⟩, ⟨S2x128, keyGains kn⟩] concatenates_S8x128_S2x128_S10x128_d0

/-- Four tables side by side, above the same value in the context's rows. -/
def four : FVec Ideal S2048x128 .f32 :=
  concatenate S2048x128 1 [⟨S2048x32, (a : FVec Ideal S2048x32 .f32)⟩, ⟨S2048x32, (b : FVec Ideal S2048x32 .f32)⟩,
    ⟨S2048x32, (d : FVec Ideal S2048x32 .f32)⟩, ⟨S2048x32, (e : FVec Ideal S2048x32 .f32)⟩]
    concatenates_S2048x32_S2048x32_S2048x32_S2048x32_S2048x128_d1

abbrev spread (v : BitVec 32) : FVec Ideal S256x128 .f32 :=
  broadcastInDim S256x128 ![] bcast_S_S256x128 (constant S_ .f32 v : FVec Ideal S_ .f32)

def tall (u : FVec Ideal S2048x128 .f32) (v : BitVec 32) : FVec Ideal S2304x128 .f32 :=
  concatenate S2304x128 0 [⟨S2048x128, u⟩, ⟨S256x128, spread v⟩] concatenates_S2048x128_S256x128_S2304x128_d0

theorem gains_apply (n : Fin 10) (q : Fin 128) : gains qn kn (ix2 n q) = gainOf qn kn n q := by
  unfold gains gainOf
  by_cases h : n.val < 8
  · rw [if_pos h]
    refine (concatenate_apply_piece (t := S10x128) 0 [⟨S8x128, queryGains qn⟩, ⟨S2x128, keyGains kn⟩] concatenates_S8x128_S2x128_S10x128_d0
      (ix2 n q) 0 (by simp) S8x128 (queryGains qn) rfl rfl 0 rfl (ix2 ⟨n.val, h⟩ q) (fun b hb => ?_) ?_).trans ?_
    · match b with
      | ⟨0, _⟩ => exact absurd rfl hb
      | ⟨1, _⟩ => rfl
    · show 0 + n.val = n.val; omega
    · exact broadcastInDim_apply _ bcast_S128_S8x128_1 _ (ix2 ⟨n.val, h⟩ q) (ix1 q) (fun a => match a with | ⟨0, _⟩ => rfl)
  · rw [if_neg h]
    refine (concatenate_apply_piece (t := S10x128) 0 [⟨S8x128, queryGains qn⟩, ⟨S2x128, keyGains kn⟩] concatenates_S8x128_S2x128_S10x128_d0
      (ix2 n q) 1 (by simp) S2x128 (keyGains kn) rfl rfl 8 rfl (ix2 ⟨n.val - 8, by omega⟩ q) (fun b hb => ?_) ?_).trans ?_
    · match b with
      | ⟨0, _⟩ => exact absurd rfl hb
      | ⟨1, _⟩ => rfl
    · show 8 + (n.val - 8) = n.val; omega
    · exact broadcastInDim_apply _ bcast_S128_S2x128_1 (kn : FVec Ideal S128 .f32) (ix2 ⟨n.val - 8, by omega⟩ q) (ix1 q) (fun a => match a with | ⟨0, _⟩ => rfl)

theorem four_apply (r : Fin 2048) (j : Fin 128) (k : Fin 4) (hk : j.val / 32 = k.val) :
    four a b d e (ix2 r j) = (![a, b, d, e] k) (ix2 r ⟨j.val % 32, by omega⟩) :=
  concatenate_ofFn_apply (t := S2048x128) 1 (![a, b, d, e] : Fin 4 → S2048x32.Idx → EReal)
    concatenates_S2048x32_S2048x32_S2048x32_S2048x32_S2048x128_d1 rfl 32 rfl (ix2 r j) k hk (ix2 r ⟨j.val % 32, by omega⟩) rfl
    (fun b hb => match b with
    | ⟨0, _⟩ => rfl
    | ⟨1, _⟩ => absurd rfl hb)

theorem cos_latent (r : Fin 2048) (j : Fin 128) : four cr cr cc cc (ix2 r j) = angle cr cc r j := by
  unfold angle
  rcases (by omega : j.val / 32 = 0 ∨ j.val / 32 = 1 ∨ j.val / 32 = 2 ∨ j.val / 32 = 3) with h | h | h | h
  · exact (four_apply cr cr cc cc r j 0 h).trans (if_pos (by omega)).symm
  · exact (four_apply cr cr cc cc r j 1 h).trans (if_pos (by omega)).symm
  · exact (four_apply cr cr cc cc r j 2 h).trans (if_neg (by omega)).symm
  · exact (four_apply cr cr cc cc r j 3 h).trans (if_neg (by omega)).symm

theorem sin_latent (r : Fin 2048) (j : Fin 128) : four (fun i => - sr i) sr (fun i => - sc i) sc (ix2 r j)
    = if j.val % 64 < 32 then - angle sr sc r j else angle sr sc r j := by
  unfold angle
  rcases (by omega : j.val / 32 = 0 ∨ j.val / 32 = 1 ∨ j.val / 32 = 2 ∨ j.val / 32 = 3) with h | h | h | h
  · rw [if_pos (by omega), if_pos (by omega)]; exact four_apply (fun i => - sr i) sr (fun i => - sc i) sc r j 0 h
  · rw [if_neg (by omega), if_pos (by omega)]; exact four_apply (fun i => - sr i) sr (fun i => - sc i) sc r j 1 h
  · rw [if_pos (by omega), if_neg (by omega)]; exact four_apply (fun i => - sr i) sr (fun i => - sc i) sc r j 2 h
  · rw [if_neg (by omega), if_neg (by omega)]; exact four_apply (fun i => - sr i) sr (fun i => - sc i) sc r j 3 h

theorem tall_apply (u : FVec Ideal S2048x128 .f32) (v : BitVec 32) (r : Fin 2304) (j : Fin 128) :
    tall u v (ix2 r j) = if h : r.val < 2048 then u (ix2 ⟨r.val, h⟩ j) else Ideal.ofBits .f32 v := by
  unfold tall
  by_cases h : r.val < 2048
  · rw [dif_pos h]
    refine concatenate_apply_piece (t := S2304x128) 0 [⟨S2048x128, u⟩, ⟨S256x128, spread v⟩] concatenates_S2048x128_S256x128_S2304x128_d0
      (ix2 r j) 0 (by simp) S2048x128 u rfl rfl 0 rfl (ix2 ⟨r.val, h⟩ j) (fun b hb => ?_) ?_
    · match b with
      | ⟨0, _⟩ => exact absurd rfl hb
      | ⟨1, _⟩ => rfl
    · show 0 + r.val = r.val; omega
  · rw [dif_neg h]
    refine (concatenate_apply_piece (t := S2304x128) 0 [⟨S2048x128, u⟩, ⟨S256x128, spread v⟩] concatenates_S2048x128_S256x128_S2304x128_d0
      (ix2 r j) 1 (by simp) S256x128 (spread v) rfl rfl 2048 rfl (ix2 ⟨r.val - 2048, by omega⟩ j) (fun b hb => ?_) ?_).trans rfl
    · match b with
      | ⟨0, _⟩ => exact absurd rfl hb
      | ⟨1, _⟩ => rfl
    · show 2048 + (r.val - 2048) = r.val; omega

theorem cos_apply (r : Fin 2304) (j : Fin 128) : tall (four cr cr cc cc) 0x3F800000#32 (ix2 r j) = cosAt cr cc r j := by
  have eo : Ideal.ofBits .f32 0x3F800000#32 = (1 : EReal) := Ideal.ofBits_one_f32
  unfold cosAt
  rw [tall_apply, eo]
  split
  · exact cos_latent cr cc _ j
  · rfl

theorem sin_apply (r : Fin 2304) (j : Fin 128) :
    tall (four (fun i => - sr i) sr (fun i => - sc i) sc) 0x00000000#32 (ix2 r j) = sinAt sr sc r j := by
  unfold sinAt
  rw [tall_apply, Ideal.ofBits_zero_f32]
  split
  · exact sin_latent sr sc _ j
  · rfl

end

theorem V_gain : V m c main_v5 = shapeCast S10x1x128
    (gains (m ((c : Thread nD τ).loc main_arg1)) (m ((c : Thread nD τ).loc main_arg2))) shapeCasts_S10x128_S10x1x128 := by
  unfold V
  after_reads_simp
  rfl

theorem V_cos : V m c main_v11 = tall (four (m ((c : Thread nD τ).loc main_arg3)) (m ((c : Thread nD τ).loc main_arg3))
    (m ((c : Thread nD τ).loc main_arg5)) (m ((c : Thread nD τ).loc main_arg5))) 0x3F800000#32 := by
  unfold V
  after_reads_simp
  rfl

theorem V_sin : V m c main_v13 = tall (four (fun i => - (show EReal from m ((c : Thread nD τ).loc main_arg4) i)) (m ((c : Thread nD τ).loc main_arg4))
    (fun i => - (show EReal from m ((c : Thread nD τ).loc main_arg6) i)) (m ((c : Thread nD τ).loc main_arg6))) 0x00000000#32 := by
  unfold V
  after_reads_simp
  rfl

/-- The sequence is the point. -/
theorem idx_facts : ∀ t : Fin cfg0.N,
    (win0_0.index t 0 = t.val ∧ win0_0.index t 1 = 0 ∧ win0_0.index t 2 = 0)
    ∧ (win0_1.index t 0 = 0 ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = t.val ∧ win0_4.index t 1 = 0 ∧ win0_4.index t 2 = 0) :=
  (by decide +kernel : ∀ t : Fin grid0.N,
    (win0_0.index t 0 = t.val ∧ win0_0.index t 1 = 0 ∧ win0_0.index t 2 = 0)
    ∧ (win0_1.index t 0 = 0 ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = t.val ∧ win0_4.index t 1 = 0 ∧ win0_4.index t 2 = 0))

theorem lt_4 (t : Fin cfg0.N) : t.val < 4 := lt_of_lt_of_eq t.isLt N_0

abbrev seqOf : Fin 4 := ⟨t.val, lt_4 t⟩

theorem x_read (p : Fin 2304) (j : Fin 1280) : (X0_0 m c t : FVec Ideal S1x2304x1280 .bf16) (ix3 0 p j)
    = m ((c : Thread nD τ).loc main_arg0) (ix3 (seqOf t) p ⟨j.val, by omega⟩) := by
  obtain ⟨⟨e0, e1, e2⟩, -⟩ := idx_facts t
  unfold X0_0 Pipeline.Window.fill
  rw [dif_pos (moved0_0 t _)]
  unfold iblk
  rw [View.read_apply]
  show V m c main_arg0 _ = _
  rw [V_main_arg0]
  refine at3 (n0 := 4) (n1 := 2304) (n2 := 1536) _ _ _ _ _ ?_ ?_ ?_
  · show win0_0.index t 0 * 1 + 1 * 0 = t.val; rw [e0]; omega
  · show win0_0.index t 1 * 2304 + 1 * p.val = p.val; rw [e1]; omega
  · show win0_0.index t 2 * 1280 + 1 * j.val = j.val; rw [e2]; omega

theorem gain_read (n : Fin 10) (d : Fin 128) : (iblk m c 1 t : FVec Ideal S10x1x128 .f32) (ix3 n 0 d)
    = gainOf (m ((c : Thread nD τ).loc main_arg1)) (m ((c : Thread nD τ).loc main_arg2)) n d := by
  obtain ⟨-, ⟨e0, e1, e2⟩, -⟩ := idx_facts t
  refine Eq.trans ?_ ((shapeCast_apply (gains (m ((c : Thread nD τ).loc main_arg1)) (m ((c : Thread nD τ).loc main_arg2)))
    shapeCasts_S10x128_S10x1x128 (ix3 n 0 d) (ix2 n d) ?_).trans (gains_apply _ _ n d))
  · unfold iblk
    rw [View.read_apply]
    show V m c main_v5 _ = _
    rw [V_gain]
    refine at3 (n0 := 10) (n1 := 1) (n2 := 128) _ _ _ _ _ ?_ ?_ ?_
    · show win0_1.index t 0 * 10 + 1 * n.val = n.val; rw [e0]; omega
    · show win0_1.index t 1 * 1 + 1 * 0 = 0; rw [e1]
    · show win0_1.index t 2 * 128 + 1 * d.val = d.val; rw [e2]; omega
  · rw [Shape.rowMajor_val_two, Shape.rowMajor_val_three]
    show n.val * 128 + d.val = (n.val * 1 + 0) * 128 + d.val
    omega

theorem cos_read (p : Fin 2304) (d : Fin 128) : (iblk m c 2 t : FVec Ideal S2304x128 .f32) (ix2 p d)
    = cosAt (m ((c : Thread nD τ).loc main_arg3)) (m ((c : Thread nD τ).loc main_arg5)) p d := by
  obtain ⟨-, -, ⟨e0, e1⟩, -⟩ := idx_facts t
  refine Eq.trans ?_ (cos_apply _ _ p d)
  unfold iblk
  rw [View.read_apply]
  show V m c main_v11 _ = _
  rw [V_cos]
  refine at2 (n0 := 2304) (n1 := 128) _ _ _ _ ?_ ?_
  · show win0_2.index t 0 * 2304 + 1 * p.val = p.val; rw [e0]; omega
  · show win0_2.index t 1 * 128 + 1 * d.val = d.val; rw [e1]; omega

theorem sin_read (p : Fin 2304) (d : Fin 128) : (iblk m c 3 t : FVec Ideal S2304x128 .f32) (ix2 p d)
    = sinAt (m ((c : Thread nD τ).loc main_arg4)) (m ((c : Thread nD τ).loc main_arg6)) p d := by
  obtain ⟨-, -, -, ⟨e0, e1⟩, -⟩ := idx_facts t
  refine Eq.trans ?_ (sin_apply _ _ p d)
  unfold iblk
  rw [View.read_apply]
  show V m c main_v13 _ = _
  rw [V_sin]
  refine at2 (n0 := 2304) (n1 := 128) _ _ _ _ ?_ ?_
  · show win0_3.index t 0 * 2304 + 1 * p.val = p.val; rw [e0]; omega
  · show win0_3.index t 1 * 128 + 1 * d.val = d.val; rw [e1]; omega

theorem tile_apply (p : Fin 2304) (j : Fin 1280) : tileAt (X0_0 m c t) (iblk m c 1 t) (iblk m c 2 t) (iblk m c 3 t) p j
    = rotated (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (seqOf t) p ⟨j.val / 128, by omega⟩ ⟨j.val % 128, by omega⟩ :=
  turned_congr (fun d => normed_congr (fun d => x_read m c t p _) (gain_read m c t _) d) (cos_read m c t p) (sin_read m c t p) _

theorem flushed_eq : (dats m 0 c).flushed 4 t = ((cfg0.win 4).blk t).view.read (Elt Ideal) (G m c) := by
  obtain ⟨-, -, -, -, e0, e1, e2⟩ := idx_facts t
  rw [Value.flushed4]
  funext j
  have hj0 : (j 0).val < 1 := (j 0).isLt
  rw [View.read_apply]
  have hl : (outsAt0 m c t : FVec Ideal S1x2304x1280 .bf16) ((cfg0.win 4).xinj (grid0.coords t) j)
      = (outsAt0 m c t : FVec Ideal S1x2304x1280 .bf16) (ix3 0 (j 1) (j 2)) :=
    at3 (n0 := 1) (n1 := 2304) (n2 := 1280) _ _ _ _ _ (by show (j 0).val = 0; omega) rfl rfl
  refine hl.trans ((out_A m c t (ix3 0 (j 1) (j 2))).trans ((tile_apply m c t (j 1) (j 2)).trans (Eq.symm ?_)))
  refine (at3 (n0 := 4) (n1 := 2304) (n2 := 1280) (G m c) _ (seqOf t) (j 1) (j 2) ?_ ?_ ?_).trans rfl
  · show win0_4.index t 0 * 1 + 1 * (j 0).val = t.val; rw [e0]; omega
  · show win0_4.index t 1 * 2304 + 1 * (j 1).val = (j 1).val; rw [e1]; omega
  · show win0_4.index t 2 * 1280 + 1 * (j 2).val = (j 2).val; rw [e2]; omega

theorem mem4 (t : Fin cfg0.N) (i : main_v14.ty.Idx) : i ∈ ((cfg0.win 4).blk t).view.set
    ↔ ∀ a, win0_4.index t a * S1x2304x1280.size a ≤ (i a).val ∧ (i a).val < win0_4.index t a * S1x2304x1280.size a + S1x2304x1280.size a := by
  show i ∈ ((View.whole main_v14).slice (win0_4.rect t)).set ↔ _
  rw [View.set_slice_whole, Rect.mem_set_unit]

theorem final : (dats m 0 c).arrAt 4 cfg0.N = G m c :=
  (dats m 0 c).arrAt_eq_of_cover 4 (G m c) (fun t _ => flushed_eq m c t) (fun i => by
    have h0 : (i 0).val < 4 := (i 0).isLt
    have h1 : (i 1).val < 2304 := (i 1).isLt
    have h2 : (i 2).val < 1280 := (i 2).isLt
    have hn : (i 0).val < cfg0.N := lt_of_lt_of_eq h0 N_0.symm
    obtain ⟨-, -, -, -, e0, e1, e2⟩ := idx_facts ⟨_, hn⟩
    refine ⟨⟨_, hn⟩, flush0_4 _, (mem4 _ i).2 ?_⟩
    intro a
    match a with
    | ⟨0, _⟩ => show win0_4.index ⟨_, hn⟩ 0 * 1 ≤ (i 0).val ∧ (i 0).val < win0_4.index ⟨_, hn⟩ 0 * 1 + 1; rw [e0]; dsimp only; omega
    | ⟨1, _⟩ => show win0_4.index ⟨_, hn⟩ 1 * 2304 ≤ (i 1).val ∧ (i 1).val < win0_4.index ⟨_, hn⟩ 1 * 2304 + 2304; rw [e1]; dsimp only; omega
    | ⟨2, _⟩ => show win0_4.index ⟨_, hn⟩ 2 * 1280 ≤ (i 2).val ∧ (i 2).val < win0_4.index ⟨_, hn⟩ 2 * 1280 + 1280; rw [e2]; dsimp only; omega)

end Cert.RopeIdeal.Out
-- ==== Proof.RopeRef.lean ====
/-
  The norm and rotation of attention's queries and keys: what the reference `RopeRefIdeal` leaves, which rotates the halves of
  each head's latent rows, is the normed head turned by the cosines and signed sines.
-/
module

public import proofs.«01_k».proof.Defs
public import proofs.«01_k».proof.Proof.RopeMath
public import proofs.«01_k».proof.Proof.Gen.RopeRefIdeal.Read

@[expose] public section

set_option maxRecDepth 16384

noncomputable section

open Idealize.ShloMosaic Idealize.ShloMosaic.TcCoe Idealize.SL.Sem Idealize.ShloMosaic.ValueIdx

namespace Cert.RopeRefIdeal.Out

open Cert.RopeRefIdeal Cert.RopeRefIdeal.Gen Cert.RopeRefIdeal.Read
open Cert.Tile Cert.RopeMath
open Cert.Ffn (at1 at2 at3 at4)

abbrev V4 (a b c d : ℕ) : Shape := ⟨4, ![a, b, c, d]⟩

/-- Two arrays joined along their last axis: the first's columns, -/
theorem join_left {a b c l k n : ℕ} (u : (V4 a b c l).Idx → EReal) (v : (V4 a b c k).Idx → EReal)
    (h : Shape.Concatenates [V4 a b c l, V4 a b c k] (V4 a b c n) 3) (p : Fin a) (q : Fin b) (r : Fin c) (j : Fin l) (i : Fin n)
    (hi : i.val = j.val) : concatenate (V4 a b c n) 3 [⟨V4 a b c l, u⟩, ⟨V4 a b c k, v⟩] h (ix4 p q r i) = u (ix4 p q r j) := by
  refine concatenate_apply_piece (t := V4 a b c n) 3 [⟨V4 a b c l, u⟩, ⟨V4 a b c k, v⟩] h (ix4 p q r i) 0 (by simp) (V4 a b c l) u rfl rfl 0 rfl
    (ix4 p q r j) (fun b hb => ?_) ?_
  · match b with
    | ⟨0, _⟩ => rfl
    | ⟨1, _⟩ => rfl
    | ⟨2, _⟩ => rfl
    | ⟨3, _⟩ => exact absurd rfl hb
  · show 0 + j.val = i.val; omega

/-- then the second's. -/
theorem join_right {a b c l k n : ℕ} (u : (V4 a b c l).Idx → EReal) (v : (V4 a b c k).Idx → EReal)
    (h : Shape.Concatenates [V4 a b c l, V4 a b c k] (V4 a b c n) 3) (p : Fin a) (q : Fin b) (r : Fin c) (j : Fin k) (i : Fin n)
    (hi : i.val = l + j.val) : concatenate (V4 a b c n) 3 [⟨V4 a b c l, u⟩, ⟨V4 a b c k, v⟩] h (ix4 p q r i) = v (ix4 p q r j) := by
  refine concatenate_apply_piece (t := V4 a b c n) 3 [⟨V4 a b c l, u⟩, ⟨V4 a b c k, v⟩] h (ix4 p q r i) 1 (by simp) (V4 a b c k) v rfl rfl l rfl
    (ix4 p q r j) (fun b hb => ?_) ?_
  · match b with
    | ⟨0, _⟩ => rfl
    | ⟨1, _⟩ => rfl
    | ⟨2, _⟩ => rfl
    | ⟨3, _⟩ => exact absurd rfl hb
  · show l + j.val = i.val; omega

variable (pb : S4x2304x1536.Idx → EReal) (qn kn : S128.Idx → EReal) (cr sr cc sc : S2048x32.Idx → EReal)

/-! ## The normed heads -/

theorem ref_q (b : Fin 4) (r : Fin 2304) (n : Fin 8) (d : Fin 128) : val_main_v2 (F := Ideal) pb (ix4 b r n d)
    = head pb b r ⟨n.val, by omega⟩ d := by
  rw [val_main_v2_apply, val_main_v1_apply, val_main_v0_apply]
  refine at3 (n0 := 4) (n1 := 2304) (n2 := 1536) pb _ b r ⟨128 * n.val + d.val, by omega⟩ ?_ ?_ ?_
  · show (((b.val * 2304 + r.val) * 8 + n.val) * 128 + d.val) / 2359296 = b.val; omega
  · show (((b.val * 2304 + r.val) * 8 + n.val) * 128 + d.val) / 1024 % 2304 = r.val; omega
  · show (((b.val * 2304 + r.val) * 8 + n.val) * 128 + d.val) % 1024 = 128 * n.val + d.val; omega

theorem ref_k (b : Fin 4) (r : Fin 2304) (n : Fin 2) (d : Fin 128) : val_main_v20 (F := Ideal) pb (ix4 b r n d)
    = head pb b r ⟨8 + n.val, by omega⟩ d := by
  rw [val_main_v20_apply, val_main_v19_apply, val_main_v18_apply]
  refine at3 (n0 := 4) (n1 := 2304) (n2 := 1536) pb _ b r ⟨128 * (8 + n.val) + d.val, by omega⟩ ?_ ?_ ?_
  · show (((b.val * 2304 + r.val) * 2 + n.val) * 128 + d.val) / 589824 = b.val; omega
  · show (((b.val * 2304 + r.val) * 2 + n.val) * 128 + d.val) / 256 % 2304 = r.val; omega
  · show 1024 + (((b.val * 2304 + r.val) * 2 + n.val) * 128 + d.val) % 256 = 128 * (8 + n.val) + d.val; omega

theorem ref_q_rms (b : Fin 4) (r : Fin 2304) (n : Fin 8) (d : Fin 128) : val_main_v11 (F := Ideal) pb (ix4 b r n d)
    = hrms (head pb b r ⟨n.val, by omega⟩) := by
  rw [val_main_v11_apply, val_main_v10_apply, val_main_v9_apply, val_main_v7_apply, val_main_v8_apply, val_main_v6_apply, val_main_v5_apply,
    val_main_v4_apply, val_main_cst_apply, val_main_cst_0_apply, val_main_cst_1_apply]
  refine congrArg (fun s : EReal => Ideal.rsqrt (Ideal.div s (Ideal.ofBits .f32 0x43000000#32) + Ideal.ofBits .f32 0x358637BD#32)) ?_
  have ez : FloatOps.ofBits (F := Ideal) .f32 0x00000000#32 = (0 : EReal) := Ideal.ofBits_zero_f32
  rw [ez, zero_add]
  refine Finset.sum_congr rfl fun e _ => ?_
  have eo := (at4 (n0 := 4) (n1 := 2304) (n2 := 8) (n3 := 128) (val_main_v2 (F := Ideal) pb)
    (idx_main_v4 (idx_main_v5 (idx_main_v11 (ix4 b r n d))) e) b r n e rfl rfl rfl rfl).trans (ref_q pb b r n e)
  exact congrArg₂ (· * ·) eo eo

theorem ref_k_rms (b : Fin 4) (r : Fin 2304) (n : Fin 2) (d : Fin 128) : val_main_v29 (F := Ideal) pb (ix4 b r n d)
    = hrms (head pb b r ⟨8 + n.val, by omega⟩) := by
  rw [val_main_v29_apply, val_main_v28_apply, val_main_v27_apply, val_main_v25_apply, val_main_v26_apply, val_main_v24_apply, val_main_v23_apply,
    val_main_v22_apply, val_main_cst_3_apply, val_main_cst_4_apply, val_main_cst_5_apply]
  refine congrArg (fun s : EReal => Ideal.rsqrt (Ideal.div s (Ideal.ofBits .f32 0x43000000#32) + Ideal.ofBits .f32 0x358637BD#32)) ?_
  have ez : FloatOps.ofBits (F := Ideal) .f32 0x00000000#32 = (0 : EReal) := Ideal.ofBits_zero_f32
  rw [ez, zero_add]
  refine Finset.sum_congr rfl fun e _ => ?_
  have eo := (at4 (n0 := 4) (n1 := 2304) (n2 := 2) (n3 := 128) (val_main_v20 (F := Ideal) pb)
    (idx_main_v22 (idx_main_v23 (idx_main_v29 (ix4 b r n d))) e) b r n e rfl rfl rfl rfl).trans (ref_k pb b r n e)
  exact congrArg₂ (· * ·) eo eo

/-- The reference's normed head. -/
abbrev row (b : Fin 4) (r : Fin 2304) (n : Fin 10) : Fin 128 → EReal := normed (head pb b r n) (gainOf qn kn n)

theorem ref_q_row (b : Fin 4) (r : Fin 2304) (n : Fin 8) (d : Fin 128) : val_main_v17 (F := Ideal) pb qn (ix4 b r n d)
    = row pb qn kn b r ⟨n.val, by omega⟩ d := by
  rw [val_main_v17_apply, val_main_v15_apply, val_main_v12_apply, val_main_v14_apply, val_main_v13_apply, val_main_v16_apply,
    val_main_cst_2_apply, ref_q, ref_q_rms]
  unfold row normed gainOf
  rw [if_pos n.isLt]
  exact (congrArg₂ (· * ·) (congrArg₂ (· * ·) rfl (at1 (n0 := 128) qn _ d rfl)) rfl).trans (mul_assoc (G := EReal) _ _ _)

theorem ref_k_row (b : Fin 4) (r : Fin 2304) (n : Fin 2) (d : Fin 128) : val_main_v33 (F := Ideal) pb kn (ix4 b r n d)
    = row pb qn kn b r ⟨8 + n.val, by omega⟩ d := by
  rw [val_main_v33_apply, val_main_v30_apply, val_main_v32_apply, val_main_v31_apply, ref_k, ref_k_rms]
  unfold row normed gainOf
  rw [if_neg (by show ¬ 8 + n.val < 8; omega)]
  exact congrArg₂ (· * ·) rfl (at1 (n0 := 128) kn _ d rfl)

theorem ref_row (b : Fin 4) (r : Fin 2304) (n : Fin 10) (d : Fin 128) : val_main_v34 (F := Ideal) pb qn kn (ix4 b r n d)
    = row pb qn kn b r n d := by
  unfold val_main_v34
  by_cases h : n.val < 8
  · refine (concatenate_apply_piece (t := S4x2304x10x128) 2
      [⟨S4x2304x8x128, val_main_v17 (F := Ideal) pb qn⟩, ⟨S4x2304x2x128, val_main_v33 (F := Ideal) pb kn⟩]
      concatenates_S4x2304x8x128_S4x2304x2x128_S4x2304x10x128_d2 (ix4 b r n d) 0 (by simp) S4x2304x8x128 (val_main_v17 (F := Ideal) pb qn)
      rfl rfl 0 rfl (ix4 b r ⟨n.val, h⟩ d) (fun b hb => ?_) ?_).trans (ref_q_row pb qn kn b r ⟨n.val, h⟩ d)
    · match b with
      | ⟨0, _⟩ => rfl
      | ⟨1, _⟩ => rfl
      | ⟨2, _⟩ => exact absurd rfl hb
      | ⟨3, _⟩ => rfl
    · show 0 + n.val = n.val; omega
  · refine (concatenate_apply_piece (t := S4x2304x10x128) 2
      [⟨S4x2304x8x128, val_main_v17 (F := Ideal) pb qn⟩, ⟨S4x2304x2x128, val_main_v33 (F := Ideal) pb kn⟩]
      concatenates_S4x2304x8x128_S4x2304x2x128_S4x2304x10x128_d2 (ix4 b r n d) 1 (by simp) S4x2304x2x128 (val_main_v33 (F := Ideal) pb kn)
      rfl rfl 8 rfl (ix4 b r ⟨n.val - 8, by omega⟩ d) (fun b hb => ?_) ?_).trans
      ((ref_k_row pb qn kn b r ⟨n.val - 8, by omega⟩ d).trans ?_)
    · match b with
      | ⟨0, _⟩ => rfl
      | ⟨1, _⟩ => rfl
      | ⟨2, _⟩ => exact absurd rfl hb
      | ⟨3, _⟩ => rfl
    · show 8 + (n.val - 8) = n.val; omega
    · have e : (⟨8 + (n.val - 8), by omega⟩ : Fin 10) = n := Fin.ext (by show 8 + (n.val - 8) = n.val; omega)
      exact congrArg (fun n => row pb qn kn b r n d) e

/-! ## The quarters of a latent row -/

variable (b : Fin 4) (r : Fin 2048) (n : Fin 10) (q : Fin 32)

theorem ref_quarter38 : val_main_v38 (F := Ideal) pb qn kn (ix4 b r n q)
    = row pb qn kn b ⟨r.val, by omega⟩ n ⟨q.val, by omega⟩ := by
  rw [val_main_v38_apply, val_main_v35_apply]
  refine (at4 (n0 := 4) (n1 := 2304) (n2 := 10) (n3 := 128) (val_main_v34 (F := Ideal) pb qn kn) _ b ⟨r.val, by omega⟩ n ⟨q.val, by omega⟩
    rfl rfl rfl ?_).trans (ref_row pb qn kn b _ n _)
  show q.val = q.val; omega

theorem ref_quarter39 : val_main_v39 (F := Ideal) pb qn kn (ix4 b r n q)
    = row pb qn kn b ⟨r.val, by omega⟩ n ⟨32 + q.val, by omega⟩ := by
  rw [val_main_v39_apply, val_main_v35_apply]
  refine (at4 (n0 := 4) (n1 := 2304) (n2 := 10) (n3 := 128) (val_main_v34 (F := Ideal) pb qn kn) _ b ⟨r.val, by omega⟩ n ⟨32 + q.val, by omega⟩
    rfl rfl rfl ?_).trans (ref_row pb qn kn b _ n _)
  show 32 + q.val = 32 + q.val; omega

theorem ref_quarter58 : val_main_v58 (F := Ideal) pb qn kn (ix4 b r n q)
    = row pb qn kn b ⟨r.val, by omega⟩ n ⟨64 + q.val, by omega⟩ := by
  rw [val_main_v58_apply, val_main_v55_apply]
  refine (at4 (n0 := 4) (n1 := 2304) (n2 := 10) (n3 := 128) (val_main_v34 (F := Ideal) pb qn kn) _ b ⟨r.val, by omega⟩ n ⟨64 + q.val, by omega⟩
    rfl rfl rfl ?_).trans (ref_row pb qn kn b _ n _)
  show 64 + q.val = 64 + q.val; omega

theorem ref_quarter59 : val_main_v59 (F := Ideal) pb qn kn (ix4 b r n q)
    = row pb qn kn b ⟨r.val, by omega⟩ n ⟨96 + q.val, by omega⟩ := by
  rw [val_main_v59_apply, val_main_v55_apply]
  refine (at4 (n0 := 4) (n1 := 2304) (n2 := 10) (n3 := 128) (val_main_v34 (F := Ideal) pb qn kn) _ b ⟨r.val, by omega⟩ n ⟨96 + q.val, by omega⟩
    rfl rfl rfl ?_).trans (ref_row pb qn kn b _ n _)
  show 64 + (32 + q.val) = 96 + q.val; omega

theorem ref_table41 : val_main_v41 (F := Ideal) cr (ix4 b r n q) = cr (ix2 r q) := by
  rw [val_main_v41_apply, val_main_v40_apply, val_main_v36_apply]
  exact at2 (n0 := 2048) (n1 := 32) cr _ r q rfl rfl

theorem ref_table44 : val_main_v44 (F := Ideal) sr (ix4 b r n q) = sr (ix2 r q) := by
  rw [val_main_v44_apply, val_main_v43_apply, val_main_v37_apply]
  exact at2 (n0 := 2048) (n1 := 32) sr _ r q rfl rfl

theorem ref_table48 : val_main_v48 (F := Ideal) sr (ix4 b r n q) = sr (ix2 r q) := by
  rw [val_main_v48_apply, val_main_v47_apply, val_main_v37_apply]
  exact at2 (n0 := 2048) (n1 := 32) sr _ r q rfl rfl

theorem ref_table51 : val_main_v51 (F := Ideal) cr (ix4 b r n q) = cr (ix2 r q) := by
  rw [val_main_v51_apply, val_main_v50_apply, val_main_v36_apply]
  exact at2 (n0 := 2048) (n1 := 32) cr _ r q rfl rfl

theorem ref_table61 : val_main_v61 (F := Ideal) cc (ix4 b r n q) = cc (ix2 r q) := by
  rw [val_main_v61_apply, val_main_v60_apply, val_main_v56_apply]
  exact at2 (n0 := 2048) (n1 := 32) cc _ r q rfl rfl

theorem ref_table64 : val_main_v64 (F := Ideal) sc (ix4 b r n q) = sc (ix2 r q) := by
  rw [val_main_v64_apply, val_main_v63_apply, val_main_v57_apply]
  exact at2 (n0 := 2048) (n1 := 32) sc _ r q rfl rfl

theorem ref_table68 : val_main_v68 (F := Ideal) sc (ix4 b r n q) = sc (ix2 r q) := by
  rw [val_main_v68_apply, val_main_v67_apply, val_main_v57_apply]
  exact at2 (n0 := 2048) (n1 := 32) sc _ r q rfl rfl

theorem ref_table71 : val_main_v71 (F := Ideal) cc (ix4 b r n q) = cc (ix2 r q) := by
  rw [val_main_v71_apply, val_main_v70_apply, val_main_v56_apply]
  exact at2 (n0 := 2048) (n1 := 32) cc _ r q rfl rfl

/-- The turned row. -/
abbrev latent (d : Fin 128) : EReal :=
  turned (row pb qn kn b ⟨r.val, by omega⟩ n) (cosAt cr cc ⟨r.val, by omega⟩) (sinAt sr sc ⟨r.val, by omega⟩) d

theorem angle_row (tr tc : S2048x32.Idx → EReal) (d : Fin 128) (h : d.val < 64) (hq : d.val % 32 = q.val) : angle tr tc r d = tr (ix2 r q) := by
  unfold angle
  rw [if_pos h]
  exact at2 (n0 := 2048) (n1 := 32) tr _ r q rfl hq

theorem angle_col (tr tc : S2048x32.Idx → EReal) (d : Fin 128) (h : ¬ d.val < 64) (hq : d.val % 32 = q.val) : angle tr tc r d = tc (ix2 r q) := by
  unfold angle
  rw [if_neg h]
  exact at2 (n0 := 2048) (n1 := 32) tc _ r q rfl hq

theorem ref_turned46 : val_main_v46 (F := Ideal) pb qn kn cr sr (ix4 b r n q) = latent pb qn kn cr sr cc sc b r n ⟨q.val, by omega⟩ := by
  rw [val_main_v46_apply, val_main_v42_apply, val_main_v45_apply, ref_quarter38, ref_quarter39, ref_table41, ref_table44]
  unfold latent
  rw [turned_first _ cr sr cc sc ⟨r.val, by omega⟩ r.isLt ⟨q.val, by omega⟩ ⟨32 + q.val, by omega⟩ (by show (q.val) % 64 < 32; omega) (by show 32 + q.val = q.val + 32; omega),
    angle_row r q cr cc ⟨q.val, by omega⟩ (by show q.val < 64; omega) (by show (q.val) % 32 = q.val; omega),
    angle_row r q sr sc ⟨q.val, by omega⟩ (by show q.val < 64; omega) (by show (q.val) % 32 = q.val; omega)]
  rfl

theorem ref_turned53 : val_main_v53 (F := Ideal) pb qn kn cr sr (ix4 b r n q) = latent pb qn kn cr sr cc sc b r n ⟨32 + q.val, by omega⟩ := by
  rw [val_main_v53_apply, val_main_v49_apply, val_main_v52_apply, ref_quarter38, ref_quarter39, ref_table48, ref_table51]
  unfold latent
  rw [turned_second _ cr sr cc sc ⟨r.val, by omega⟩ r.isLt ⟨32 + q.val, by omega⟩ ⟨q.val, by omega⟩ (by show ¬ (32 + q.val) % 64 < 32; omega) (by show 32 + q.val = q.val + 32; omega),
    angle_row r q cr cc ⟨32 + q.val, by omega⟩ (by show 32 + q.val < 64; omega) (by show (32 + q.val) % 32 = q.val; omega),
    angle_row r q sr sc ⟨32 + q.val, by omega⟩ (by show 32 + q.val < 64; omega) (by show (32 + q.val) % 32 = q.val; omega)]
  rfl

theorem ref_turned66 : val_main_v66 (F := Ideal) pb qn kn cc sc (ix4 b r n q) = latent pb qn kn cr sr cc sc b r n ⟨64 + q.val, by omega⟩ := by
  rw [val_main_v66_apply, val_main_v62_apply, val_main_v65_apply, ref_quarter58, ref_quarter59, ref_table61, ref_table64]
  unfold latent
  rw [turned_first _ cr sr cc sc ⟨r.val, by omega⟩ r.isLt ⟨64 + q.val, by omega⟩ ⟨96 + q.val, by omega⟩ (by show (64 + q.val) % 64 < 32; omega) (by show 96 + q.val = 64 + q.val + 32; omega),
    angle_col r q cr cc ⟨64 + q.val, by omega⟩ (by show ¬ 64 + q.val < 64; omega) (by show (64 + q.val) % 32 = q.val; omega),
    angle_col r q sr sc ⟨64 + q.val, by omega⟩ (by show ¬ 64 + q.val < 64; omega) (by show (64 + q.val) % 32 = q.val; omega)]
  rfl

theorem ref_turned73 : val_main_v73 (F := Ideal) pb qn kn cc sc (ix4 b r n q) = latent pb qn kn cr sr cc sc b r n ⟨96 + q.val, by omega⟩ := by
  rw [val_main_v73_apply, val_main_v69_apply, val_main_v72_apply, ref_quarter58, ref_quarter59, ref_table68, ref_table71]
  unfold latent
  rw [turned_second _ cr sr cc sc ⟨r.val, by omega⟩ r.isLt ⟨96 + q.val, by omega⟩ ⟨64 + q.val, by omega⟩ (by show ¬ (96 + q.val) % 64 < 32; omega) (by show 96 + q.val = 64 + q.val + 32; omega),
    angle_col r q cr cc ⟨96 + q.val, by omega⟩ (by show ¬ 96 + q.val < 64; omega) (by show (96 + q.val) % 32 = q.val; omega),
    angle_col r q sr sc ⟨96 + q.val, by omega⟩ (by show ¬ 96 + q.val < 64; omega) (by show (96 + q.val) % 32 = q.val; omega)]
  rfl

theorem ref_half54 (j : Fin 64) : val_main_v54 (F := Ideal) pb qn kn cr sr (ix4 b r n j) = latent pb qn kn cr sr cc sc b r n ⟨j.val, by omega⟩ := by
  unfold val_main_v54
  by_cases h : j.val < 32
  · exact (join_left (val_main_v46 (F := Ideal) pb qn kn cr sr) (val_main_v53 (F := Ideal) pb qn kn cr sr) _ b r n ⟨j.val, h⟩ j rfl).trans
      (ref_turned46 pb qn kn cr sr cc sc b r n ⟨j.val, h⟩)
  · refine (join_right (val_main_v46 (F := Ideal) pb qn kn cr sr) (val_main_v53 (F := Ideal) pb qn kn cr sr) _ b r n ⟨j.val - 32, by omega⟩ j
      (by show j.val = 32 + (j.val - 32); omega)).trans ((ref_turned53 pb qn kn cr sr cc sc b r n ⟨j.val - 32, by omega⟩).trans ?_)
    exact congrArg (latent pb qn kn cr sr cc sc b r n) (Fin.ext (by show 32 + (j.val - 32) = j.val; omega))

theorem ref_half74 (j : Fin 64) : val_main_v74 (F := Ideal) pb qn kn cc sc (ix4 b r n j) = latent pb qn kn cr sr cc sc b r n ⟨64 + j.val, by omega⟩ := by
  unfold val_main_v74
  by_cases h : j.val < 32
  · exact (join_left (val_main_v66 (F := Ideal) pb qn kn cc sc) (val_main_v73 (F := Ideal) pb qn kn cc sc) _ b r n ⟨j.val, h⟩ j rfl).trans
      (ref_turned66 pb qn kn cr sr cc sc b r n ⟨j.val, h⟩)
  · refine (join_right (val_main_v66 (F := Ideal) pb qn kn cc sc) (val_main_v73 (F := Ideal) pb qn kn cc sc) _ b r n ⟨j.val - 32, by omega⟩ j
      (by show j.val = 32 + (j.val - 32); omega)).trans ((ref_turned73 pb qn kn cr sr cc sc b r n ⟨j.val - 32, by omega⟩).trans ?_)
    exact congrArg (latent pb qn kn cr sr cc sc b r n) (Fin.ext (by show 96 + (j.val - 32) = 64 + j.val; omega))

theorem ref_latent (d : Fin 128) : val_main_v75 (F := Ideal) pb qn kn cr sr cc sc (ix4 b r n d) = latent pb qn kn cr sr cc sc b r n d := by
  unfold val_main_v75
  by_cases h : d.val < 64
  · exact (join_left (val_main_v54 (F := Ideal) pb qn kn cr sr) (val_main_v74 (F := Ideal) pb qn kn cc sc) _ b r n ⟨d.val, h⟩ d rfl).trans
      (ref_half54 pb qn kn cr sr cc sc b r n ⟨d.val, h⟩)
  · refine (join_right (val_main_v54 (F := Ideal) pb qn kn cr sr) (val_main_v74 (F := Ideal) pb qn kn cc sc) _ b r n ⟨d.val - 64, by omega⟩ d
      (by show d.val = 64 + (d.val - 64); omega)).trans ((ref_half74 pb qn kn cr sr cc sc b r n ⟨d.val - 64, by omega⟩).trans ?_)
    exact congrArg (latent pb qn kn cr sr cc sc b r n) (Fin.ext (by show 64 + (d.val - 64) = d.val; omega))

theorem ref_rotated (b : Fin 4) (r : Fin 2304) (n : Fin 10) (d : Fin 128) : val_main_v77 (F := Ideal) pb qn kn cr sr cc sc (ix4 b r n d)
    = rotated pb qn kn cr sr cc sc b r n d := by
  unfold val_main_v77
  by_cases h : r.val < 2048
  · refine (concatenate_apply_piece (t := S4x2304x10x128) 1
      [⟨S4x2048x10x128, val_main_v75 (F := Ideal) pb qn kn cr sr cc sc⟩, ⟨S4x256x10x128, val_main_v76 (F := Ideal) pb qn kn⟩]
      concatenates_S4x2048x10x128_S4x256x10x128_S4x2304x10x128_d1 (ix4 b r n d) 0 (by simp) S4x2048x10x128
      (val_main_v75 (F := Ideal) pb qn kn cr sr cc sc) rfl rfl 0 rfl (ix4 b ⟨r.val, h⟩ n d) (fun b hb => ?_) ?_).trans
      (ref_latent pb qn kn cr sr cc sc b ⟨r.val, h⟩ n d)
    · match b with
      | ⟨0, _⟩ => rfl
      | ⟨1, _⟩ => exact absurd rfl hb
      | ⟨2, _⟩ => rfl
      | ⟨3, _⟩ => rfl
    · show 0 + r.val = r.val; omega
  · refine (concatenate_apply_piece (t := S4x2304x10x128) 1
      [⟨S4x2048x10x128, val_main_v75 (F := Ideal) pb qn kn cr sr cc sc⟩, ⟨S4x256x10x128, val_main_v76 (F := Ideal) pb qn kn⟩]
      concatenates_S4x2048x10x128_S4x256x10x128_S4x2304x10x128_d1 (ix4 b r n d) 1 (by simp) S4x256x10x128
      (val_main_v76 (F := Ideal) pb qn kn) rfl rfl 2048 rfl (ix4 b ⟨r.val - 2048, by omega⟩ n d) (fun b hb => ?_) ?_).trans ?_
    · match b with
      | ⟨0, _⟩ => rfl
      | ⟨1, _⟩ => exact absurd rfl hb
      | ⟨2, _⟩ => rfl
      | ⟨3, _⟩ => rfl
    · show 2048 + (r.val - 2048) = r.val; omega
    · rw [val_main_v76_apply]
      refine (at4 (n0 := 4) (n1 := 2304) (n2 := 10) (n3 := 128) (val_main_v34 (F := Ideal) pb qn kn) _ b r n d rfl ?_ rfl rfl).trans
        ((ref_row pb qn kn b r n d).trans (turned_context _ cr sr cc sc r h d).symm)
      show 2048 + (r.val - 2048) = r.val; omega

theorem ref_eq : val_main_v79 (F := Ideal) pb qn kn cr sr cc sc = fun i => rotated pb qn kn cr sr cc sc (i 0) (i 1)
    ⟨(i 2).val / 128, by have : (i 2).val < 1280 := (i 2).isLt; omega⟩ ⟨(i 2).val % 128, by omega⟩ := by
  funext i
  have h0 : (i 0).val < 4 := (i 0).isLt
  have h1 : (i 1).val < 2304 := (i 1).isLt
  have h2 : (i 2).val < 1280 := (i 2).isLt
  rw [val_main_v79_apply, val_main_v78_apply]
  refine (at4 (n0 := 4) (n1 := 2304) (n2 := 10) (n3 := 128) (val_main_v77 (F := Ideal) pb qn kn cr sr cc sc) _ (i 0) (i 1)
    ⟨(i 2).val / 128, by omega⟩ ⟨(i 2).val % 128, by omega⟩ ?_ ?_ ?_ ?_).trans (ref_rotated pb qn kn cr sr cc sc _ _ _ _)
  · show (((i 0).val * 2304 + (i 1).val) * 1280 + (i 2).val) / 2949120 = (i 0).val; omega
  · show (((i 0).val * 2304 + (i 1).val) * 1280 + (i 2).val) / 1280 % 2304 = (i 1).val; omega
  · show (((i 0).val * 2304 + (i 1).val) * 1280 + (i 2).val) / 128 % 10 = (i 2).val / 128; omega
  · show (((i 0).val * 2304 + (i 1).val) * 1280 + (i 2).val) % 128 = (i 2).val % 128; omega

end Cert.RopeRefIdeal.Out
-- ==== Proof.ConvMath.lean ====
/-
  The short convolution of the delta rule's queries, keys and values, over the extended reals: five taps over a sequence
  padded with two zeros on either side, its SiLU, and the norm of a query's or key's head.
-/
module

public import proofs.«01_k».proof.Proof.TileMath
public import Idealize.ShloMosaic.Lib.Pipeline.ValueKit.Tiles

@[expose] public section

set_option maxRecDepth 16384

noncomputable section

open Idealize.ShloMosaic Idealize.ShloMosaic.TcCoe Idealize.SL.Sem Idealize.ShloMosaic.ValueIdx

namespace Cert.ConvMath

open Cert.Tile

variable {n : ℕ}

/-- A sequence with two zeros on either side, read at position `k`. -/
def padded (x : Fin n → Fin 128 → EReal) (k : ℕ) (d : Fin 128) : EReal := if h : 2 ≤ k ∧ k < n + 2 then x ⟨k - 2, by omega⟩ d else 0

/-- The five taps. -/
def taps (w v : Fin 5 → EReal) : EReal := w 0 * v 0 + w 1 * v 1 + w 2 * v 2 + w 3 * v 3 + w 4 * v 4

def silu (y : EReal) : EReal := y * Ideal.logistic y

/-- The convolution at row `p` of a sequence. -/
def convRow (x : Fin n → Fin 128 → EReal) (w : Fin 5 → Fin 128 → EReal) (p : Fin n) (d : Fin 128) : EReal :=
  silu (taps (fun k => w k d) (fun k => padded x (k.val + p.val) d))

/-- A query's or key's row is normed, a value's is not. -/
def keyed (key : Prop) [Decidable key] (y : Fin 128 → EReal) (d : Fin 128) : EReal :=
  if key then y d * Ideal.rsqrt ((∑ e : Fin 128, y e * y e) + Ideal.ofBits .f32 0x358637BD#32) else y d

/-- A head's columns: the latent positions and the context's by themselves. -/
def headConv (key : Prop) [Decidable key] (x : Fin 2304 → Fin 128 → EReal) (w : Fin 5 → Fin 128 → EReal) (p : Fin 2304) (d : Fin 128) : EReal :=
  if h : p.val < 2048 then keyed key (convRow (n := 2048) (fun t => x ⟨t.val, by omega⟩) w ⟨p.val, h⟩) d
  else keyed key (convRow (n := 256) (fun t => x ⟨2048 + t.val, by omega⟩) w ⟨p.val - 2048, by omega⟩) d

theorem taps_congr {w w' v v' : Fin 5 → EReal} (hw : ∀ k, w k = w' k) (hv : ∀ k, v k = v' k) : taps w v = taps w' v' := by
  obtain rfl : w = w' := funext hw
  obtain rfl : v = v' := funext hv
  rfl

theorem convRow_congr {x x' : Fin n → Fin 128 → EReal} {w w' : Fin 5 → Fin 128 → EReal} (hx : ∀ t d, x t d = x' t d) (hw : ∀ k d, w k d = w' k d)
    (p : Fin n) (d : Fin 128) : convRow x w p d = convRow x' w' p d := by
  obtain rfl : x = x' := funext fun t => funext (hx t)
  obtain rfl : w = w' := funext fun k => funext (hw k)
  rfl

theorem keyed_congr {key key' : Prop} [Decidable key] [Decidable key'] (h : key ↔ key') {y y' : Fin 128 → EReal} (hy : ∀ d, y d = y' d)
    (d : Fin 128) : keyed key y d = keyed key' y' d := by
  obtain rfl : y = y' := funext hy
  unfold keyed
  by_cases hk : key
  · rw [if_pos hk, if_pos (h.mp hk)]
  · rw [if_neg hk, if_neg (fun hk' => hk (h.mpr hk'))]

theorem headConv_congr {key key' : Prop} [Decidable key] [Decidable key'] (h : key ↔ key') {x x' : Fin 2304 → Fin 128 → EReal}
    {w w' : Fin 5 → Fin 128 → EReal} (hx : ∀ t d, x t d = x' t d) (hw : ∀ k d, w k d = w' k d) (p : Fin 2304) (d : Fin 128) :
    headConv key x w p d = headConv key' x' w' p d := by
  obtain rfl : x = x' := funext fun t => funext (hx t)
  obtain rfl : w = w' := funext fun k => funext (hw k)
  unfold headConv
  split
  · exact keyed_congr h (fun _ => rfl) d
  · exact keyed_congr h (fun _ => rfl) d

/-- The result at a sequence, a position, a head and a column of it. -/
def conv (pb : (V3 4 2304 4096).Idx → EReal) (cw : (V2 5 3072).Idx → EReal) (b : Fin 4) (r : Fin 2304) (h : Fin 24) (d : Fin 128) : EReal :=
  headConv (h.val < 16) (fun t d => pb (ix3 b t ⟨128 * h.val + d.val, by omega⟩)) (fun k d => cw (ix2 k ⟨128 * h.val + d.val, by omega⟩)) r d

/-! ## A tile of the kernel -/

section

variable (hb : (V2 1 128).Broadcasts (V2 n 128)) (hr : (V2 n 128).Reduces [1] (V1 n)) (hs : (V1 n).ShapeCasts (V2 n 1))
  (hc : (V2 n 1).Broadcasts (V2 n 128)) (ha : (V2 n 128).ShapeCasts (V3 1 n 128)) (hd : (V3 1 n 128).ShapeCasts (V2 n 128))
  (hi : (V2 n 128).ShapeCasts (V2 n 128))

/-- The sum of the taps, begun at zero. -/
def sumTile (w : Fin 5 → FVec Ideal (V2 1 128) .f32) (v : Fin 5 → FVec Ideal (V2 n 128) .f32) : FVec Ideal (V2 n 128) .f32 :=
  addf (addf (addf (addf (addf (broadcast (V2 n 128) (Scalar.ofBits (F := Ideal) .f32 0x00000000#32)) (mulf (broadcastTo (V2 n 128) (w 0) hb) (v 0)))
    (mulf (broadcastTo (V2 n 128) (w 1) hb) (v 1))) (mulf (broadcastTo (V2 n 128) (w 2) hb) (v 2)))
    (mulf (broadcastTo (V2 n 128) (w 3) hb) (v 3))) (mulf (broadcastTo (V2 n 128) (w 4) hb) (v 4))

def siluTile (y : FVec Ideal (V2 n 128) .f32) : FVec Ideal (V2 n 128) .f32 := mulf y (logistic y)

def normTile (y : FVec Ideal (V2 n 128) .f32) : FVec Ideal (V2 n 128) .f32 :=
  mulf y (broadcastTo (V2 n 128) (rsqrt (addf (shapeCast (V2 n 1)
    (multiReduction (φ := .f32) .add [1] (V1 n) (mulf y y) 0x00000000#32 hr (.inl rfl) rfl) hs)
    (broadcast (V2 n 1) (Scalar.ofBits (F := Ideal) .f32 0x358637BD#32)))) hc)

/-- What is stored. -/
def tile (flag : BitVec 1) (w : Fin 5 → FVec Ideal (V2 1 128) .f32) (v : Fin 5 → FVec Ideal (V2 n 128) .f32) : FVec Ideal (V3 1 n 128) .bf16 :=
  shapeCast (V3 1 n 128) (truncf (φ := .f32) .bf16 (Scalar.select flag (normTile hr hs hc (siluTile (sumTile hb w v))) (siluTile (sumTile hb w v))) (by decide)) ha

theorem sum_row (w : Fin 5 → FVec Ideal (V2 1 128) .f32) (v : Fin 5 → FVec Ideal (V2 n 128) .f32) (p : Fin n) (d : Fin 128) :
    siluTile (sumTile hb w v) (ix2 p d) = silu (taps (fun k => w k (ix2 0 d)) (fun k => v k (ix2 p d))) := by
  refine congrArg silu ?_
  have ez : Ideal.ofBits .f32 0x00000000#32 = (0 : EReal) := Ideal.ofBits_zero_f32
  have e : ∀ k, mulf (broadcastTo (V2 n 128) (w k) hb) (v k) (ix2 p d) = w k (ix2 0 d) * v k (ix2 p d) :=
    fun k => congrArg₂ (· * ·) (row_apply (w k) hb p d) rfl
  refine congrArg₂ (· + ·) (congrArg₂ (· + ·) (congrArg₂ (· + ·) (congrArg₂ (· + ·) ?_ (e 1)) (e 2)) (e 3)) (e 4)
  refine (congrArg₂ (· + ·) ez (e 0)).trans (zero_add _)

theorem norm_row (y : FVec Ideal (V2 n 128) .f32) (p : Fin n) (d : Fin 128) :
    normTile hr hs hc y (ix2 p d)
      = (y (ix2 p d) : EReal) * Ideal.rsqrt ((∑ e : Fin 128, (y (ix2 p e) : EReal) * y (ix2 p e)) + Ideal.ofBits .f32 0x358637BD#32) := by
  refine congrArg₂ (· * ·) rfl ((col_apply _ _ p d).trans ?_)
  exact congrArg (fun s : EReal => Ideal.rsqrt (s + Ideal.ofBits .f32 0x358637BD#32)) ((stand_apply _ _ p).trans (sum_apply _ _ p))

theorem tile_apply (key : Prop) [Decidable key] (flag : BitVec 1) (hf : flag = if key then 1#1 else 0#1)
    (w : Fin 5 → FVec Ideal (V2 1 128) .f32) (v : Fin 5 → FVec Ideal (V2 n 128) .f32) (x : Fin n → Fin 128 → EReal)
    (p : Fin n) (hv : ∀ k d, v k (ix2 p d) = padded x (k.val + p.val) d) (d : Fin 128) :
    tile hb hr hs hc ha flag w v (ix3 0 p d) = keyed key (convRow x (fun k d => w k (ix2 0 d)) p) d := by
  have er : ∀ d, siluTile (sumTile hb w v) (ix2 p d) = convRow x (fun k d => w k (ix2 0 d)) p d := fun d =>
    (sum_row hb w v p d).trans (congrArg silu (taps_congr (fun _ => rfl) (fun k => hv k d)))
  unfold tile keyed
  refine (add_apply (φ := .bf16) _ ha p d).trans ?_
  show (Scalar.select flag (normTile hr hs hc (siluTile (sumTile hb w v))) (siluTile (sumTile hb w v)) : FVec Ideal (V2 n 128) .f32) (ix2 p d) = _
  rw [hf]
  by_cases hk : key
  · rw [if_pos hk, if_pos hk]
    refine (congrFun (if_pos rfl : Scalar.select 1#1 _ _ = _) (ix2 p d)).trans ((norm_row hr hs hc _ p d).trans ?_)
    rw [er d]
    exact congrArg (fun s : EReal => convRow x (fun k d => w k (ix2 0 d)) p d * Ideal.rsqrt (s + Ideal.ofBits .f32 0x358637BD#32))
      (Finset.sum_congr rfl fun e _ => congrArg₂ (· * ·) (er e) (er e))
  · rw [if_neg hk, if_neg hk]
    exact (congrFun (if_neg (by decide) : Scalar.select 0#1 _ _ = _) (ix2 p d)).trans (er d)

/-- The columns of a block, widened. -/
def widen (x : FVec Ideal (V3 1 n 128) .bf16) : FVec Ideal (V2 n 128) .f32 :=
  shapeCast (V2 n 128) (extf (φ := .bf16) .f32 (shapeCast (V2 n 128) x hd) (by decide)) hi

theorem widen_apply (x : FVec Ideal (V3 1 n 128) .bf16) (p : Fin n) (d : Fin 128) : widen hd hi x (ix2 p d) = x (ix3 0 p d) := by
  unfold widen
  rw [shapeCast_self]
  exact drop_apply (φ := .bf16) x hd p d

end

/-! ## The padded buffer -/

/-- Eight zeros, the sequence and eight more zeros, written last: a row from 6 to `n + 9` reads the padded sequence. -/
theorem buffer_read (o : ℕ) (ho : o = 8 + n) (z z' : (V2 8 128).Idx → EReal) (x : (V2 n 128).Idx → EReal)
    (i0 : ∀ a, (![0, 0] : Fin 2 → Nat) a + (V2 8 128).size a ≤ (V2 2064 128).size a)
    (i1 : ∀ a, (![8, 0] : Fin 2 → Nat) a + (V2 n 128).size a ≤ (V2 2064 128).size a)
    (i2 : ∀ a, (![o, 0] : Fin 2 → Nat) a + (V2 8 128).size a ≤ (V2 2064 128).size a)
    (L : List (View.Piece (Elt Ideal) (V2 2064 128) .f32)) (hz : ∀ i, z i = 0) (hz' : ∀ i, z' i = 0)
    (y : (V2 2064 128).Idx) (k : ℕ) (d : Fin 128) (h0 : (y 0).val = 6 + k) (h1 : (y 1).val = d.val) (hk : k < n + 4) :
    View.canon (Val := Elt Ideal) ((⟨Rect.unit (s := V2 2064 128) ![o, 0] (V2 8 128).size i2, z'⟩ : View.Piece (Elt Ideal) (V2 2064 128) .f32)
      :: ⟨Rect.unit (s := V2 2064 128) ![8, 0] (V2 n 128).size i1, x⟩ :: ⟨Rect.unit (s := V2 2064 128) ![0, 0] (V2 8 128).size i0, z⟩ :: L) y
      = padded (fun t d => x (ix2 t d)) k d := by
  have hd := d.isLt
  subst ho
  by_cases h3 : 8 + n ≤ (y 0).val
  · have e : y = (Rect.unit (s := V2 2064 128) ![8 + n, 0] (V2 8 128).size i2).emb (ix2 ⟨(y 0).val - (8 + n), by omega⟩ d) := by
      funext a; apply Fin.ext
      match a with
      | ⟨0, _⟩ => show (y 0).val = 8 + n + 1 * ((y 0).val - (8 + n)); omega
      | ⟨1, _⟩ => show (y 1).val = 0 + 1 * d.val; omega
    refine (congrArg (View.canon (Val := Elt Ideal) _) e).trans ((View.canon_cons_emb _ _ _ _).trans ((hz' _).trans ?_))
    unfold padded
    rw [dif_neg (by omega)]
  · have hm : y ∉ (Rect.unit (s := V2 2064 128) ![8 + n, 0] (V2 8 128).size i2).set := fun h => h3 (Rect.mem_set_unit.mp h (0 : Fin 2)).1
    refine (View.canon_cons_of_not_mem (Val := Elt Ideal)
      (⟨Rect.unit (s := V2 2064 128) ![8 + n, 0] (V2 8 128).size i2, z'⟩ : View.Piece (Elt Ideal) (V2 2064 128) .f32) _ hm).trans ?_
    by_cases h2 : 8 ≤ (y 0).val
    · have e : y = (Rect.unit (s := V2 2064 128) ![8, 0] (V2 n 128).size i1).emb (ix2 ⟨(y 0).val - 8, by omega⟩ d) := by
        funext a; apply Fin.ext
        match a with
        | ⟨0, _⟩ => show (y 0).val = 8 + 1 * ((y 0).val - 8); omega
        | ⟨1, _⟩ => show (y 1).val = 0 + 1 * d.val; omega
      refine (congrArg (View.canon (Val := Elt Ideal) _) e).trans ((View.canon_cons_emb _ _ _ _).trans ?_)
      unfold padded
      rw [dif_pos (by omega)]
      exact congrArg x (congrArg (fun t => ix2 t d) (Fin.ext (by show (y 0).val - 8 = k - 2; omega)))
    · have hm' : y ∉ (Rect.unit (s := V2 2064 128) ![8, 0] (V2 n 128).size i1).set := fun h => h2 (Rect.mem_set_unit.mp h (0 : Fin 2)).1
      refine (View.canon_cons_of_not_mem (Val := Elt Ideal)
        (⟨Rect.unit (s := V2 2064 128) ![8, 0] (V2 n 128).size i1, x⟩ : View.Piece (Elt Ideal) (V2 2064 128) .f32) _ hm').trans ?_
      have e : y = (Rect.unit (s := V2 2064 128) ![0, 0] (V2 8 128).size i0).emb (ix2 ⟨(y 0).val, by omega⟩ d) := by
        funext a; apply Fin.ext
        match a with
        | ⟨0, _⟩ => show (y 0).val = 0 + 1 * (y 0).val; omega
        | ⟨1, _⟩ => show (y 1).val = 0 + 1 * d.val; omega
      refine (congrArg (View.canon (Val := Elt Ideal) _) e).trans ((View.canon_cons_emb _ _ _ _).trans ((hz _).trans ?_))
      unfold padded
      rw [dif_neg (by omega)]

end Cert.ConvMath
-- ==== Proof.ConvStore.lean ====
/-
  The short convolution of the delta rule's queries, keys and values: what the kernel `ConvIdeal` stores for a head,
  convolved by way of a padded buffer, the latent positions and the context's by themselves.
-/
module

public import proofs.«01_k».proof.Defs
public import proofs.«01_k».proof.Proof.ConvMath
public import proofs.«01_k».proof.Proof.CloseStep
public import proofs.«01_k».proof.Proof.Gen.ConvIdeal.Value
public import Idealize.ShloMosaic.Lib.StableHlo.RunRead
public import Idealize.ShloMosaic.Lib.Pipeline.ValueKit.Tiles
public import Idealize.ShloMosaic.Lib.KernelVsHost

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ConvIdeal.Out

open Cert.ConvIdeal Cert.ConvIdeal.Gen
open Cert.Tile Cert.ConvMath
open Cert.Ffn (at1 at2 at3 at4)

/-- What a point of the grid's column `s` leaves at row `p` and column `j` of its block, by the blocks it reads. -/
def tileAt (s : Fin 8) (x : FVec Ideal S1x2304x384 .bf16) (w : FVec Ideal S5x384 .f32) (p : Fin 2304) (j : Fin 384) : EReal :=
  headConv (3 * s.val + j.val / 128 < 16) (fun r d => x (ix3 0 r ⟨128 * (j.val / 128) + d.val, by omega⟩))
    (fun k d => w (ix2 k ⟨128 * (j.val / 128) + d.val, by omega⟩)) p ⟨j.val % 128, by omega⟩

theorem flag_eq (s : Fin 8) (c : Fin 3) : Scalar.cmpi .slt (Scalar.addi (Scalar.muli (BitVec.ofNat 32 s.val) 3#32) (BitVec.ofNat 32 c.val)) 16#32
    = if 3 * s.val + c.val < 16 then 1#1 else 0#1 :=
  (by decide +kernel : ∀ s : Fin 8, ∀ c : Fin 3, Scalar.cmpi .slt (Scalar.addi (Scalar.muli (BitVec.ofNat 32 s.val) 3#32) (BitVec.ofNat 32 c.val)) 16#32
    = if 3 * s.val + c.val < 16 then 1#1 else 0#1) s c

/-! ## The stores -/

theorem weight_inb (k : Fin 5) (c : Fin 3) : ∀ a, (![k.val, 128 * c.val] : Fin 2 → Nat) a + S1x128.size a ≤ S5x384.size a :=
  (by decide : ∀ k : Fin 5, ∀ c : Fin 3, ∀ a, (![k.val, 128 * c.val] : Fin 2 → Nat) a + S1x128.size a ≤ S5x384.size a) k c

/-- A tap's weights for the columns of head `c` of the block. -/
abbrev weightRow (w : FVec Ideal S5x384 .f32) (c : Fin 3) (k : Fin 5) : FVec Ideal S1x128 .f32 :=
  View.ld (Val := Elt Ideal) (e' := .f32) w (Rect.unit (s := S5x384) ![k.val, 128 * c.val] S1x128.size (weight_inb k c))

abbrev flagOf (a b : BitVec 32) : BitVec 1 := Scalar.cmpi .slt (Scalar.addi (Scalar.muli a 3#32) b) 16#32

abbrev longTile (f : BitVec 1) (w : Fin 5 → FVec Ideal S1x128 .f32) (v : Fin 5 → FVec Ideal S2048x128 .f32) : FVec Ideal S1x2048x128 .bf16 :=
  tile (n := 2048) broadcasts_S1x128_S2048x128 reduces_S2048x128_S2048 shapeCasts_S2048_S2048x1 broadcasts_S2048x1_S2048x128
    shapeCasts_S2048x128_S1x2048x128 f w v

abbrev shortTile (f : BitVec 1) (w : Fin 5 → FVec Ideal S1x128 .f32) (v : Fin 5 → FVec Ideal S256x128 .f32) : FVec Ideal S1x256x128 .bf16 :=
  tile (n := 256) broadcasts_S1x128_S256x128 reduces_S256x128_S256 shapeCasts_S256_S256x1 broadcasts_S256x1_S256x128
    shapeCasts_S256x128_S1x256x128 f w v

section

variable (a : BitVec 32) (w : Fin 5 → FVec Ideal S1x128 .f32) (v : Fin 5 → FVec Ideal S2048x128 .f32) (u : Fin 5 → FVec Ideal S256x128 .f32)

theorem long0 : k0_pay6 (F := Ideal) a (k0_pay5 (w 0) (v 0) (w 1) (v 1) (w 2) (v 2)) (w 3) (v 3) (w 4) (v 4) = longTile (flagOf a 0#32) w v := rfl

theorem short0 : k0_pay13 (F := Ideal) a (k0_pay11 (w 0) (u 0) (w 1) (u 1) (w 2) (u 2) (w 3) (u 3) (w 4) (u 4))
    (k0_pay12 (w 0) (u 0) (w 1) (u 1) (w 2) (u 2) (w 3) (u 3) (w 4) (u 4)) = shortTile (flagOf a 0#32) w u := rfl

theorem long1 : k0_pay19 (F := Ideal) (k0_pay18 a k0_pay17 (w 0) (v 0) (w 1) (v 1) (w 2) (v 2) (w 3) (v 3) (w 4) (v 4))
    = longTile (flagOf a 1#32) w v := rfl

theorem short1 : k0_pay24 (F := Ideal) a (k0_pay23 (w 0) (u 0) (w 1) (u 1)) (w 2) (u 2) (w 3) (u 3) (w 4) (u 4) = shortTile (flagOf a 1#32) w u := rfl

theorem long2 : k0_pay29 (F := Ideal) a (k0_pay28 (w 0) (v 0) (w 1) (v 1) (w 2) (v 2) (w 3) (v 3)) (w 4) (v 4) = longTile (flagOf a 2#32) w v := rfl

theorem short2 : k0_pay1 (F := Ideal) a (k0_pay33 (w 0) (u 0) (w 1) (u 1) (w 2) (u 2) (w 3) (u 3) (w 4) (u 4))
    (k0_pay34 (w 0) (u 0) (w 1) (u 1) (w 2) (u 2) (w 3) (u 3) (w 4) (u 4)) 3#32 = shortTile (flagOf a 2#32) w u := rfl

end

theorem zero_rows (i : S8x128.Idx) : k0_pay2 (F := Ideal) i = (0 : EReal) := Ideal.ofBits_zero_f32

/-- Five loads of the padded buffer, after the eight rows of zeros, the sequence and the eight further rows were written. -/
theorem loads_apply {n : ℕ} (o : ℕ) (ho : o = 8 + n) (z z' : S8x128.Idx → EReal) (x : (V2 n 128).Idx → EReal)
    (i0 : ∀ a, (![0, 0] : Fin 2 → Nat) a + S8x128.size a ≤ S2064x128.size a)
    (i1 : ∀ a, (![8, 0] : Fin 2 → Nat) a + (V2 n 128).size a ≤ S2064x128.size a)
    (i2 : ∀ a, (![o, 0] : Fin 2 → Nat) a + S8x128.size a ≤ S2064x128.size a)
    (L : List (View.Piece (Elt Ideal) S2064x128 .f32)) (hz : ∀ i, z i = 0) (hz' : ∀ i, z' i = 0) (k : Fin 5)
    (ik : ∀ a, (![6 + k.val, 0] : Fin 2 → Nat) a + (V2 n 128).size a ≤ S2064x128.size a) (p : Fin n) (d : Fin 128) :
    (View.whole cc0_scratch0).readCov (Val := Elt Ideal) ((⟨Rect.unit (s := S2064x128) ![o, 0] S8x128.size i2, z'⟩ : View.Piece (Elt Ideal) S2064x128 .f32)
      :: ⟨Rect.unit (s := S2064x128) ![8, 0] (V2 n 128).size i1, x⟩ :: ⟨Rect.unit (s := S2064x128) ![0, 0] S8x128.size i0, z⟩ :: L)
      (Rect.unit (s := S2064x128) ![6 + k.val, 0] (V2 n 128).size ik).toLoadRect (ix2 p d) = padded (fun t d => x (ix2 t d)) (k.val + p.val) d := by
  rw [View.readCov_eq_canon']
  refine buffer_read o ho z z' x i0 i1 i2 L hz hz' _ _ d ?_ ?_ (by omega)
  · show 6 + k.val + 1 * p.val = 6 + (k.val + p.val); omega
  · show 0 + 1 * d.val = d.val; omega

theorem long_inb (c : Fin 3) : ∀ a, (![0, 0, 128 * c.val] : Fin 3 → Nat) a + S1x2048x128.size a ≤ S1x2304x384.size a :=
  (by decide : ∀ c : Fin 3, ∀ a, (![0, 0, 128 * c.val] : Fin 3 → Nat) a + S1x2048x128.size a ≤ S1x2304x384.size a) c

theorem short_inb (c : Fin 3) : ∀ a, (![0, 2048, 128 * c.val] : Fin 3 → Nat) a + S1x256x128.size a ≤ S1x2304x384.size a :=
  (by decide : ∀ c : Fin 3, ∀ a, (![0, 2048, 128 * c.val] : Fin 3 → Nat) a + S1x256x128.size a ≤ S1x2304x384.size a) c

theorem long_row (k : Fin 5) : ∀ a, (![6 + k.val, 0] : Fin 2 → Nat) a + S2048x128.size a ≤ S2064x128.size a :=
  (by decide : ∀ k : Fin 5, ∀ a, (![6 + k.val, 0] : Fin 2 → Nat) a + S2048x128.size a ≤ S2064x128.size a) k

theorem short_row (k : Fin 5) : ∀ a, (![6 + k.val, 0] : Fin 2 → Nat) a + S256x128.size a ≤ S2064x128.size a :=
  (by decide : ∀ k : Fin 5, ∀ a, (![6 + k.val, 0] : Fin 2 → Nat) a + S256x128.size a ≤ S2064x128.size a) k

abbrev longCols (x : FVec Ideal S1x2304x384 .bf16) (c : Fin 3) : FVec Ideal S2048x128 .f32 :=
  widen (n := 2048) shapeCasts_S1x2048x128_S2048x128 shapeCasts_S2048x128_S2048x128
    (View.ld (Val := Elt Ideal) (e' := .bf16) x (Rect.unit (s := S1x2304x384) ![0, 0, 128 * c.val] S1x2048x128.size (long_inb c)))

abbrev shortCols (x : FVec Ideal S1x2304x384 .bf16) (c : Fin 3) : FVec Ideal S256x128 .f32 :=
  widen (n := 256) shapeCasts_S1x256x128_S256x128 shapeCasts_S256x128_S256x128
    (View.ld (Val := Elt Ideal) (e' := .bf16) x (Rect.unit (s := S1x2304x384) ![0, 2048, 128 * c.val] S1x256x128.size (short_inb c)))

abbrev longLoad (x : FVec Ideal S1x2304x384 .bf16) (c : Fin 3) (z z' : FVec Ideal S8x128 .f32)
    (L : List (View.Piece (Elt Ideal) S2064x128 .f32)) (k : Fin 5) : FVec Ideal S2048x128 .f32 :=
  (View.whole cc0_scratch0).readCov (Val := Elt Ideal) ((⟨Rect.unit (s := S2064x128) ![2056, 0] S8x128.size inb_S2064x128_S8x128_2056_0, z'⟩ : View.Piece (Elt Ideal) S2064x128 .f32)
    :: ⟨Rect.unit (s := S2064x128) ![8, 0] S2048x128.size inb_S2064x128_S2048x128_8_0, longCols x c⟩
    :: ⟨Rect.unit (s := S2064x128) ![0, 0] S8x128.size inb_S2064x128_S8x128_0_0, z⟩ :: L)
    (Rect.unit (s := S2064x128) ![6 + k.val, 0] S2048x128.size (long_row k)).toLoadRect

abbrev shortLoad (x : FVec Ideal S1x2304x384 .bf16) (c : Fin 3) (z z' : FVec Ideal S8x128 .f32)
    (L : List (View.Piece (Elt Ideal) S2064x128 .f32)) (k : Fin 5) : FVec Ideal S256x128 .f32 :=
  (View.whole cc0_scratch0).readCov (Val := Elt Ideal) ((⟨Rect.unit (s := S2064x128) ![264, 0] S8x128.size inb_S2064x128_S8x128_264_0, z'⟩ : View.Piece (Elt Ideal) S2064x128 .f32)
    :: ⟨Rect.unit (s := S2064x128) ![8, 0] S256x128.size inb_S2064x128_S256x128_8_0, shortCols x c⟩
    :: ⟨Rect.unit (s := S2064x128) ![0, 0] S8x128.size inb_S2064x128_S8x128_0_0, z⟩ :: L)
    (Rect.unit (s := S2064x128) ![6 + k.val, 0] S256x128.size (short_row k)).toLoadRect

variable (x : FVec Ideal S1x2304x384 .bf16) (w : FVec Ideal S5x384 .f32) (s : Fin 8) (c : Fin 3) (z z' : FVec Ideal S8x128 .f32)
  (L : List (View.Piece (Elt Ideal) S2064x128 .f32))

theorem weight_apply (j : Fin 384) (hc : j.val / 128 = c.val) (k : Fin 5) (d : Fin 128) :
    weightRow w c k (ix2 0 d) = w (ix2 k ⟨128 * (j.val / 128) + d.val, by omega⟩) := by
  refine at2 (n0 := 5) (n1 := 384) w _ _ _ ?_ ?_
  · show k.val + 1 * 0 = k.val; omega
  · show 128 * c.val + 1 * d.val = 128 * (j.val / 128) + d.val; omega

/-- The store of a head's latent positions, at an index of its own. -/
theorem long_piece (hz : ∀ i, z i = (0 : EReal)) (hz' : ∀ i, z' i = (0 : EReal)) (i : S1x2048x128.Idx) (p : Fin 2304) (j : Fin 384) (hp : p.val = (i 1).val)
    (hj : j.val = 128 * c.val + (i 2).val) :
    longTile (flagOf (BitVec.ofNat 32 s.val) (BitVec.ofNat 32 c.val)) (weightRow w c) (longLoad x c z z' L) i = tileAt s x w p j := by
  have h0 : (i 0).val < 1 := (i 0).isLt
  have h1 : (i 1).val < 2048 := (i 1).isLt
  have h2 : (i 2).val < 128 := (i 2).isLt
  have hc : j.val / 128 = c.val := by omega
  refine (at3 (n0 := 1) (n1 := 2048) (n2 := 128) _ i 0 (i 1) (i 2) (by show (i 0).val = 0; omega) rfl rfl).trans ?_
  refine (tile_apply (n := 2048) _ _ _ _ _ _ _ (flag_eq s c) _ _ (fun t d => longCols x c (ix2 t d)) (i 1)
    (fun k d => loads_apply (n := 2048) 2056 rfl z z' (longCols x c) _ _ _ L hz hz' k _ (i 1) d) (i 2)).trans ?_
  unfold tileAt headConv
  rw [dif_pos (by omega)]
  have ej : (⟨j.val % 128, by omega⟩ : Fin 128) = i 2 := Fin.ext (by show j.val % 128 = (i 2).val; omega)
  have ep : (⟨p.val, by omega⟩ : Fin 2048) = i 1 := Fin.ext hp
  rw [ej, ep]
  refine keyed_congr (by rw [hc]) (fun d => convRow_congr (fun t d => ?_) (weight_apply w c j hc) _ d) _
  refine (widen_apply (n := 2048) _ _ _ t d).trans ?_
  refine at3 (n0 := 1) (n1 := 2304) (n2 := 384) x _ _ _ _ rfl ?_ ?_
  · show 0 + 1 * t.val = t.val; omega
  · show 128 * c.val + 1 * d.val = 128 * (j.val / 128) + d.val; omega

/-- The store of a head's context positions, at an index of its own. -/
theorem short_piece (hz : ∀ i, z i = (0 : EReal)) (hz' : ∀ i, z' i = (0 : EReal)) (i : S1x256x128.Idx) (p : Fin 2304) (j : Fin 384) (hp : p.val = 2048 + (i 1).val)
    (hj : j.val = 128 * c.val + (i 2).val) :
    shortTile (flagOf (BitVec.ofNat 32 s.val) (BitVec.ofNat 32 c.val)) (weightRow w c) (shortLoad x c z z' L) i = tileAt s x w p j := by
  have h0 : (i 0).val < 1 := (i 0).isLt
  have h1 : (i 1).val < 256 := (i 1).isLt
  have h2 : (i 2).val < 128 := (i 2).isLt
  have hc : j.val / 128 = c.val := by omega
  refine (at3 (n0 := 1) (n1 := 256) (n2 := 128) _ i 0 (i 1) (i 2) (by show (i 0).val = 0; omega) rfl rfl).trans ?_
  refine (tile_apply (n := 256) _ _ _ _ _ _ _ (flag_eq s c) _ _ (fun t d => shortCols x c (ix2 t d)) (i 1)
    (fun k d => loads_apply (n := 256) 264 rfl z z' (shortCols x c) _ _ _ L hz hz' k _ (i 1) d) (i 2)).trans ?_
  unfold tileAt headConv
  rw [dif_neg (by omega)]
  have ej : (⟨j.val % 128, by omega⟩ : Fin 128) = i 2 := Fin.ext (by show j.val % 128 = (i 2).val; omega)
  have ep : (⟨p.val - 2048, by omega⟩ : Fin 256) = i 1 := Fin.ext (by show p.val - 2048 = (i 1).val; omega)
  rw [ej, ep]
  refine keyed_congr (by rw [hc]) (fun d => convRow_congr (fun t d => ?_) (weight_apply w c j hc) _ d) _
  refine (widen_apply (n := 256) _ _ _ t d).trans ?_
  refine at3 (n0 := 1) (n1 := 2304) (n2 := 384) x _ _ _ _ rfl ?_ ?_
  · show 2048 + 1 * t.val = 2048 + t.val; omega
  · show 128 * c.val + 1 * d.val = 128 * (j.val / 128) + d.val; omega

end Cert.ConvIdeal.Out
-- ==== Proof.ConvValue.lean ====
/-
  The short convolution of the delta rule's queries, keys and values: what the kernel `ConvIdeal` leaves in a tile of
  columns, three heads convolved by way of a padded buffer, the latent positions and the context's by themselves.
-/
module

public import proofs.«01_k».proof.Defs
public import proofs.«01_k».proof.Proof.ConvStore
public import proofs.«01_k».proof.Proof.CloseStep
public import proofs.«01_k».proof.Proof.Gen.ConvIdeal.Value
public import Idealize.ShloMosaic.Lib.StableHlo.RunRead
public import Idealize.ShloMosaic.Lib.Pipeline.ValueKit.Tiles
public import Idealize.ShloMosaic.Lib.KernelVsHost

@[expose] public section

set_option maxRecDepth 16384

noncomputable section

open Idealize.ShloMosaic Idealize.ShloMosaic.TcCoe Idealize.SL.Sem Idealize.ShloMosaic.ValueIdx
open Idealize.ShloMosaic.Pipeline (Dat)

namespace Cert.ConvIdeal.Out

open Cert.ConvIdeal Cert.ConvIdeal.Gen
open Cert.Tile Cert.ConvMath
open Cert.Ffn (at1 at2 at3 at4)

variable (m : (ℓ : Loc nD τ sig) → Buf (Elt Ideal) ℓ) (c : Dev nD) (t : Fin cfg0.N)

set_option maxHeartbeats 400000 in
theorem out_A (y : S1x2304x384.Idx) (s : Fin 8) (hs : (grid0.coords t 1).val = s.val) :
    outsAt0 m c t y = tileAt s (X0_0 m c t) (iblk m c 1 t) (y 1) (y 2) := by
  unfold outsAt0 out0_A_2
  have hcov := cover0_A_2 c (grid0.coords t) (ms0_0 t) (hs0_0 t) (ms0_1 t) (hs0_1 t) (ms0_2 t) (hs0_2 t) scM0_0 (Memref.isWhole_whole _)
    (X0_0 m c t) (iblk m c 1 t) y
  rw [View.read_writes_eq_canon _ _ _ (by apply cover0_A_2)]
  revert hcov
  unfold kernelRun0_A
  dsimp only
  sl_unfold_words
  simp only [View.readAt_eq_ld, (hs0_0 t).read_unread, (hs0_1 t).read_unread, hs]
  intro hcov
  canon_tiles x h using hcov
  · refine Eq.trans (congrFun (short2 (BitVec.ofNat 32 s.val) (weightRow (iblk m c 1 t) 2)
      (shortLoad (X0_0 m c t) 2 (k0_pay30 (F := Ideal)) (k0_pay32 (F := Ideal)) _)) x) ?_
    exact short_piece (X0_0 m c t) (iblk m c 1 t) s 2 _ _ _ zero_rows zero_rows x _ _ (by omega) (by omega)
  · refine Eq.trans (congrFun (long2 (BitVec.ofNat 32 s.val) (weightRow (iblk m c 1 t) 2)
      (longLoad (X0_0 m c t) 2 (k0_pay25 (F := Ideal)) (k0_pay27 (F := Ideal)) _)) x) ?_
    exact long_piece (X0_0 m c t) (iblk m c 1 t) s 2 _ _ _ zero_rows zero_rows x _ _ (by omega) (by omega)
  · refine Eq.trans (congrFun (short1 (BitVec.ofNat 32 s.val) (weightRow (iblk m c 1 t) 1)
      (shortLoad (X0_0 m c t) 1 (k0_pay20 (F := Ideal)) (k0_pay22 (F := Ideal)) _)) x) ?_
    exact short_piece (X0_0 m c t) (iblk m c 1 t) s 1 _ _ _ zero_rows zero_rows x _ _ (by omega) (by omega)
  · refine Eq.trans (congrFun (long1 (BitVec.ofNat 32 s.val) (weightRow (iblk m c 1 t) 1)
      (longLoad (X0_0 m c t) 1 (k0_pay14 (F := Ideal)) (k0_pay16 (F := Ideal)) _)) x) ?_
    exact long_piece (X0_0 m c t) (iblk m c 1 t) s 1 _ _ _ zero_rows zero_rows x _ _ (by omega) (by omega)
  · refine Eq.trans (congrFun (short0 (BitVec.ofNat 32 s.val) (weightRow (iblk m c 1 t) 0)
      (shortLoad (X0_0 m c t) 0 (k0_pay7 (F := Ideal)) (k0_pay10 (F := Ideal)) _)) x) ?_
    exact short_piece (X0_0 m c t) (iblk m c 1 t) s 0 _ _ _ zero_rows zero_rows x _ _ (by omega) (by omega)
  · refine Eq.trans (congrFun (long0 (BitVec.ofNat 32 s.val) (weightRow (iblk m c 1 t) 0)
      (longLoad (X0_0 m c t) 0 (k0_pay2 (F := Ideal)) (k0_pay4 (F := Ideal)) _)) x) ?_
    exact long_piece (X0_0 m c t) (iblk m c 1 t) s 0 _ _ _ zero_rows zero_rows x _ _ (by omega) (by omega)

/-- What the result array is shown to hold. -/
def G : Buf (Elt Ideal) ((c : Thread nD τ).loc main_v0) := fun i =>
  conv (m ((c : Thread nD τ).loc main_arg0)) (m ((c : Thread nD τ).loc main_arg1)) (i 0) (i 1)
    ⟨(i 2).val / 128, by have : (i 2).val < 3072 := (i 2).isLt; omega⟩ ⟨(i 2).val % 128, by omega⟩

/-- A point is a sequence and a column of the grid. -/
theorem idx_facts : ∀ t : Fin cfg0.N,
    (win0_0.index t 0 = t.val / 8 ∧ win0_0.index t 1 = 0 ∧ win0_0.index t 2 = t.val % 8)
    ∧ (win0_1.index t 0 = 0 ∧ win0_1.index t 1 = t.val % 8)
    ∧ (win0_2.index t 0 = t.val / 8 ∧ win0_2.index t 1 = 0 ∧ win0_2.index t 2 = t.val % 8) ∧ (grid0.coords t 1).val = t.val % 8 :=
  (by decide +kernel : ∀ t : Fin grid0.N,
    (win0_0.index t 0 = t.val / 8 ∧ win0_0.index t 1 = 0 ∧ win0_0.index t 2 = t.val % 8)
    ∧ (win0_1.index t 0 = 0 ∧ win0_1.index t 1 = t.val % 8)
    ∧ (win0_2.index t 0 = t.val / 8 ∧ win0_2.index t 1 = 0 ∧ win0_2.index t 2 = t.val % 8) ∧ (grid0.coords t 1).val = t.val % 8)

theorem lt_32 (t : Fin cfg0.N) : t.val < 32 := lt_of_lt_of_eq t.isLt N_0

abbrev seqOf : Fin 4 := ⟨t.val / 8, by have := lt_32 t; omega⟩

abbrev colOf : Fin 8 := ⟨t.val % 8, by omega⟩

theorem x_read (p : Fin 2304) (j : Fin 384) (q : Fin 4096) (hq : q.val = 384 * (t.val % 8) + j.val) :
    (X0_0 m c t : FVec Ideal S1x2304x384 .bf16) (ix3 0 p j) = m ((c : Thread nD τ).loc main_arg0) (ix3 (seqOf t) p q) := by
  obtain ⟨⟨e0, e1, e2⟩, -⟩ := idx_facts t
  unfold X0_0 Pipeline.Window.fill
  rw [dif_pos (moved0_0 t _)]
  unfold iblk
  rw [View.read_apply]
  show V m c main_arg0 _ = _
  rw [V_main_arg0]
  refine at3 (n0 := 4) (n1 := 2304) (n2 := 4096) _ _ _ _ _ ?_ ?_ ?_
  · show win0_0.index t 0 * 1 + 1 * 0 = t.val / 8; rw [e0]; omega
  · show win0_0.index t 1 * 2304 + 1 * p.val = p.val; rw [e1]; omega
  · show win0_0.index t 2 * 384 + 1 * j.val = q.val; rw [e2]; omega

theorem w_read (k : Fin 5) (j : Fin 384) (q : Fin 3072) (hq : q.val = 384 * (t.val % 8) + j.val) :
    (iblk m c 1 t : FVec Ideal S5x384 .f32) (ix2 k j) = m ((c : Thread nD τ).loc main_arg1) (ix2 k q) := by
  obtain ⟨-, ⟨e0, e1⟩, -⟩ := idx_facts t
  unfold iblk
  rw [View.read_apply]
  show V m c main_arg1 _ = _
  rw [V_main_arg1]
  refine at2 (n0 := 5) (n1 := 3072) _ _ _ _ ?_ ?_
  · show win0_1.index t 0 * 5 + 1 * k.val = k.val; rw [e0]; omega
  · show win0_1.index t 1 * 384 + 1 * j.val = q.val; rw [e1]; omega

theorem tile_eq (p : Fin 2304) (j : Fin 384) (h : Fin 24) (d : Fin 128) (hh : h.val = 3 * (t.val % 8) + j.val / 128) (hd : d.val = j.val % 128) :
    tileAt (colOf t) (X0_0 m c t) (iblk m c 1 t) p j
      = conv (m ((c : Thread nD τ).loc main_arg0)) (m ((c : Thread nD τ).loc main_arg1)) (seqOf t) p h d := by
  have ed : (⟨j.val % 128, by omega⟩ : Fin 128) = d := Fin.ext hd.symm
  unfold tileAt conv
  rw [ed]
  refine headConv_congr (by rw [hh]) (fun r e => ?_) (fun k e => ?_) p _
  · exact x_read m c t r _ _ (by show 128 * h.val + e.val = 384 * (t.val % 8) + (128 * (j.val / 128) + e.val); omega)
  · exact w_read m c t k _ _ (by show 128 * h.val + e.val = 384 * (t.val % 8) + (128 * (j.val / 128) + e.val); omega)

theorem flushed_eq : (dats m 0 c).flushed 2 t = ((cfg0.win 2).blk t).view.read (Elt Ideal) (G m c) := by
  obtain ⟨-, -, ⟨e0, e1, e2⟩, es⟩ := idx_facts t
  rw [Value.flushed2]
  funext j
  have hj0 : (j 0).val < 1 := (j 0).isLt
  have hj2 : (j 2).val < 384 := (j 2).isLt
  have ht := lt_32 t
  rw [View.read_apply]
  have hl : (outsAt0 m c t : FVec Ideal S1x2304x384 .bf16) ((cfg0.win 2).xinj (grid0.coords t) j)
      = (outsAt0 m c t : FVec Ideal S1x2304x384 .bf16) (ix3 0 (j 1) (j 2)) :=
    at3 (n0 := 1) (n1 := 2304) (n2 := 384) _ _ _ _ _ (by show (j 0).val = 0; omega) rfl rfl
  refine hl.trans ((out_A m c t (ix3 0 (j 1) (j 2)) (colOf t) es).trans
    ((tile_eq m c t (j 1) (j 2) ⟨3 * (t.val % 8) + (j 2).val / 128, by omega⟩ ⟨(j 2).val % 128, by omega⟩ rfl rfl).trans (Eq.symm ?_)))
  refine (at3 (n0 := 4) (n1 := 2304) (n2 := 3072) (G m c) _ (seqOf t) (j 1) ⟨384 * (t.val % 8) + (j 2).val, by omega⟩ ?_ ?_ ?_).trans ?_
  · show win0_2.index t 0 * 1 + 1 * (j 0).val = t.val / 8; rw [e0]; omega
  · show win0_2.index t 1 * 2304 + 1 * (j 1).val = (j 1).val; rw [e1]; omega
  · show win0_2.index t 2 * 384 + 1 * (j 2).val = 384 * (t.val % 8) + (j 2).val; rw [e2]; omega
  · exact congrArg₂ (conv (m ((c : Thread nD τ).loc main_arg0)) (m ((c : Thread nD τ).loc main_arg1)) (seqOf t) (j 1))
      (Fin.ext (by show (384 * (t.val % 8) + (j 2).val) / 128 = 3 * (t.val % 8) + (j 2).val / 128; omega))
      (Fin.ext (by show (384 * (t.val % 8) + (j 2).val) % 128 = (j 2).val % 128; omega))

theorem mem2 (t : Fin cfg0.N) (i : main_v0.ty.Idx) : i ∈ ((cfg0.win 2).blk t).view.set
    ↔ ∀ a, win0_2.index t a * S1x2304x384.size a ≤ (i a).val ∧ (i a).val < win0_2.index t a * S1x2304x384.size a + S1x2304x384.size a := by
  show i ∈ ((View.whole main_v0).slice (win0_2.rect t)).set ↔ _
  rw [View.set_slice_whole, Rect.mem_set_unit]

theorem final : (dats m 0 c).arrAt 2 cfg0.N = G m c :=
  (dats m 0 c).arrAt_eq_of_cover 2 (G m c) (fun t _ => flushed_eq m c t) (fun i => by
    have h0 : (i 0).val < 4 := (i 0).isLt
    have h1 : (i 1).val < 2304 := (i 1).isLt
    have h2 : (i 2).val < 3072 := (i 2).isLt
    have hn : 8 * (i 0).val + (i 2).val / 384 < cfg0.N := lt_of_lt_of_eq (by omega) N_0.symm
    obtain ⟨-, -, ⟨e0, e1, e2⟩, -⟩ := idx_facts ⟨_, hn⟩
    refine ⟨⟨_, hn⟩, flush0_2 _, (mem2 _ i).2 ?_⟩
    intro a
    match a with
    | ⟨0, _⟩ => show win0_2.index ⟨_, hn⟩ 0 * 1 ≤ (i 0).val ∧ (i 0).val < win0_2.index ⟨_, hn⟩ 0 * 1 + 1; rw [e0]; dsimp only; omega
    | ⟨1, _⟩ => show win0_2.index ⟨_, hn⟩ 1 * 2304 ≤ (i 1).val ∧ (i 1).val < win0_2.index ⟨_, hn⟩ 1 * 2304 + 2304; rw [e1]; dsimp only; omega
    | ⟨2, _⟩ => show win0_2.index ⟨_, hn⟩ 2 * 384 ≤ (i 2).val ∧ (i 2).val < win0_2.index ⟨_, hn⟩ 2 * 384 + 384; rw [e2]; dsimp only; omega)

end Cert.ConvIdeal.Out
-- ==== Proof.ConvRef.lean ====
/-
  The short convolution of the delta rule's queries, keys and values: what the reference `ConvRefIdeal` leaves, the five
  taps as shifted slices of the sequence between zeros.
-/
module

public import proofs.«01_k».proof.Defs
public import proofs.«01_k».proof.Proof.ConvMath
public import proofs.«01_k».proof.Proof.CloseStep
public import proofs.«01_k».proof.Proof.Gen.ConvRefIdeal.Read
public import Idealize.ShloMosaic.Lib.StableHlo.RunRead
public import Idealize.ShloMosaic.Lib.Pipeline.ValueKit.Tiles
public import Idealize.ShloMosaic.Lib.KernelVsHost

@[expose] public section

set_option maxRecDepth 16384

noncomputable section

open Idealize.ShloMosaic Idealize.ShloMosaic.TcCoe Idealize.SL.Sem Idealize.ShloMosaic.ValueIdx

namespace Cert.ConvRefIdeal.Out

open Cert.ConvRefIdeal Cert.ConvRefIdeal.Gen Cert.ConvRefIdeal.Read
open Cert.Tile Cert.ConvMath
open Cert.Ffn (at1 at2 at3 at4)

/-- A sequence between two rows of zeros on either side. -/
theorem between_apply {n N : ℕ} (hN : N = n + 4) (z : (V3 4 2 3072).Idx → EReal) (x : (V3 4 n 3072).Idx → EReal)
    (h : Shape.Concatenates [V3 4 2 3072, V3 4 n 3072, V3 4 2 3072] (V3 4 N 3072) 1) (hz : ∀ i, z i = 0) (b : Fin 4) (k : Fin N) (j : Fin 3072) :
    concatenate (V3 4 N 3072) 1 [⟨V3 4 2 3072, z⟩, ⟨V3 4 n 3072, x⟩, ⟨V3 4 2 3072, z⟩] h (ix3 b k j)
      = if hk : 2 ≤ k.val ∧ k.val < n + 2 then x (ix3 b ⟨k.val - 2, by omega⟩ j) else 0 := by
  by_cases h1 : k.val < 2
  · rw [dif_neg (by omega)]
    refine (concatenate_apply_piece (t := V3 4 N 3072) 1 [⟨V3 4 2 3072, z⟩, ⟨V3 4 n 3072, x⟩, ⟨V3 4 2 3072, z⟩] h (ix3 b k j) 0 (by simp)
      (V3 4 2 3072) z rfl rfl 0 rfl (ix3 b ⟨k.val, h1⟩ j) (fun b hb => ?_) ?_).trans (hz _)
    · match b with
      | ⟨0, _⟩ => rfl
      | ⟨1, _⟩ => exact absurd rfl hb
      | ⟨2, _⟩ => rfl
    · show 0 + k.val = k.val; omega
  · by_cases h2 : k.val < n + 2
    · rw [dif_pos ⟨by omega, h2⟩]
      refine concatenate_apply_piece (t := V3 4 N 3072) 1 [⟨V3 4 2 3072, z⟩, ⟨V3 4 n 3072, x⟩, ⟨V3 4 2 3072, z⟩] h (ix3 b k j) 1 (by simp)
        (V3 4 n 3072) x rfl rfl 2 rfl (ix3 b ⟨k.val - 2, by omega⟩ j) (fun b hb => ?_) ?_
      · match b with
        | ⟨0, _⟩ => rfl
        | ⟨1, _⟩ => exact absurd rfl hb
        | ⟨2, _⟩ => rfl
      · show 2 + (k.val - 2) = k.val; omega
    · rw [dif_neg (by omega)]
      refine (concatenate_apply_piece (t := V3 4 N 3072) 1 [⟨V3 4 2 3072, z⟩, ⟨V3 4 n 3072, x⟩, ⟨V3 4 2 3072, z⟩] h (ix3 b k j) 2 (by simp)
        (V3 4 2 3072) z rfl rfl (2 + n) (by simp) (ix3 b ⟨k.val - (2 + n), by omega⟩ j) (fun b hb => ?_) ?_).trans (hz _)
      · match b with
        | ⟨0, _⟩ => rfl
        | ⟨1, _⟩ => exact absurd rfl hb
        | ⟨2, _⟩ => rfl
      · show 2 + n + (k.val - (2 + n)) = k.val; omega

variable (pb : S4x2304x4096.Idx → EReal) (cw : S5x3072.Idx → EReal) (b : Fin 4) (h : Fin 24) (d : Fin 128)

/-- The column of a head's column. -/
abbrev col : Fin 3072 := ⟨128 * h.val + d.val, by omega⟩

abbrev latents (t : Fin 2048) (d : Fin 128) : EReal := pb (ix3 b ⟨t.val, by omega⟩ ⟨128 * h.val + d.val, by omega⟩)

abbrev contexts (t : Fin 256) (d : Fin 128) : EReal := pb (ix3 b ⟨2048 + t.val, by omega⟩ ⟨128 * h.val + d.val, by omega⟩)

abbrev weights (k : Fin 5) (d : Fin 128) : EReal := cw (ix2 k ⟨128 * h.val + d.val, by omega⟩)

theorem latent_padded (k : Fin 2052) : val_main_v4 (F := Ideal) pb (ix3 b k (col h d)) = padded (latents pb b h) k.val d := by
  unfold val_main_v4
  refine (between_apply (n := 2048) (N := 2052) rfl (val_main_v3 (F := Ideal)) (val_main_v2 (F := Ideal) pb) _
    (fun i => by rw [val_main_v3_apply, val_main_cst_apply]; exact Ideal.ofBits_zero_f32) b k (col h d)).trans ?_
  unfold padded
  split
  · rw [val_main_v2_apply, val_main_v1_apply, val_main_v0_apply]
    exact at3 (n0 := 4) (n1 := 2304) (n2 := 4096) pb _ _ _ _ rfl rfl rfl
  · rfl

theorem latent_taps (r : Fin 2048) : val_main_v38 (F := Ideal) pb cw (ix3 b r (col h d))
    = taps (fun k => weights cw h k d) (fun k => padded (latents pb b h) (k.val + r.val) d) := by
  have hj : (128 * h.val + d.val) % 3072 = 128 * h.val + d.val := by omega
  have w0 : val_main_v9 (F := Ideal) cw (ix3 b r (col h d)) = weights cw h 0 d := by
    rw [val_main_v9_apply, val_main_v8_apply, val_main_v6_apply, val_main_v5_apply]
    exact at2 (n0 := 5) (n1 := 3072) cw _ _ _ rfl hj
  have v0 : val_main_v7 (F := Ideal) pb (ix3 b r (col h d)) = padded (latents pb b h) (0 + r.val) d := by
    rw [val_main_v7_apply]
    exact (at3 (n0 := 4) (n1 := 2052) (n2 := 3072) (val_main_v4 (F := Ideal) pb) _ b ⟨0 + r.val, by omega⟩ (col h d) rfl
      (by show r.val = 0 + r.val; omega) rfl).trans (latent_padded pb b h d _)
  have w1 : val_main_v15 (F := Ideal) cw (ix3 b r (col h d)) = weights cw h 1 d := by
    rw [val_main_v15_apply, val_main_v14_apply, val_main_v12_apply, val_main_v11_apply]
    exact at2 (n0 := 5) (n1 := 3072) cw _ _ _ rfl hj
  have v1 : val_main_v13 (F := Ideal) pb (ix3 b r (col h d)) = padded (latents pb b h) (1 + r.val) d := by
    rw [val_main_v13_apply]
    exact (at3 (n0 := 4) (n1 := 2052) (n2 := 3072) (val_main_v4 (F := Ideal) pb) _ b ⟨1 + r.val, by omega⟩ (col h d) rfl
      rfl rfl).trans (latent_padded pb b h d _)
  have w2 : val_main_v22 (F := Ideal) cw (ix3 b r (col h d)) = weights cw h 2 d := by
    rw [val_main_v22_apply, val_main_v21_apply, val_main_v19_apply, val_main_v18_apply]
    exact at2 (n0 := 5) (n1 := 3072) cw _ _ _ rfl hj
  have v2 : val_main_v20 (F := Ideal) pb (ix3 b r (col h d)) = padded (latents pb b h) (2 + r.val) d := by
    rw [val_main_v20_apply]
    exact (at3 (n0 := 4) (n1 := 2052) (n2 := 3072) (val_main_v4 (F := Ideal) pb) _ b ⟨2 + r.val, by omega⟩ (col h d) rfl
      rfl rfl).trans (latent_padded pb b h d _)
  have w3 : val_main_v29 (F := Ideal) cw (ix3 b r (col h d)) = weights cw h 3 d := by
    rw [val_main_v29_apply, val_main_v28_apply, val_main_v26_apply, val_main_v25_apply]
    exact at2 (n0 := 5) (n1 := 3072) cw _ _ _ rfl hj
  have v3 : val_main_v27 (F := Ideal) pb (ix3 b r (col h d)) = padded (latents pb b h) (3 + r.val) d := by
    rw [val_main_v27_apply]
    exact (at3 (n0 := 4) (n1 := 2052) (n2 := 3072) (val_main_v4 (F := Ideal) pb) _ b ⟨3 + r.val, by omega⟩ (col h d) rfl
      rfl rfl).trans (latent_padded pb b h d _)
  have w4 : val_main_v36 (F := Ideal) cw (ix3 b r (col h d)) = weights cw h 4 d := by
    rw [val_main_v36_apply, val_main_v35_apply, val_main_v33_apply, val_main_v32_apply]
    exact at2 (n0 := 5) (n1 := 3072) cw _ _ _ rfl hj
  have v4 : val_main_v34 (F := Ideal) pb (ix3 b r (col h d)) = padded (latents pb b h) (4 + r.val) d := by
    rw [val_main_v34_apply]
    exact (at3 (n0 := 4) (n1 := 2052) (n2 := 3072) (val_main_v4 (F := Ideal) pb) _ b ⟨4 + r.val, by omega⟩ (col h d) rfl
      rfl rfl).trans (latent_padded pb b h d _)
  rw [val_main_v38_apply, val_main_v31_apply, val_main_v24_apply, val_main_v17_apply, val_main_v10_apply, val_main_v16_apply, val_main_v23_apply, val_main_v30_apply, val_main_v37_apply, w0, v0, w1, v1, w2, v2, w3, v3, w4, v4]
  rfl

theorem latent_silu (r : Fin 2048) : val_main_v45 (F := Ideal) pb cw (ix3 b r (col h d)) = convRow (latents pb b h) (weights cw h) r d := by
  rw [val_main_v45_apply, val_main_v44_apply, val_main_v42_apply, val_main_v40_apply, val_main_v39_apply, val_main_v43_apply,
    val_main_v41_apply, val_main_cst_0_apply, val_main_cst_1_apply, latent_taps]
  have eo : FloatOps.ofBits (F := Ideal) .f32 0x3F800000#32 = (1 : EReal) := Ideal.ofBits_one_f32
  rw [eo]
  rfl

theorem context_padded (k : Fin 260) : val_main_v48 (F := Ideal) pb (ix3 b k (col h d)) = padded (contexts pb b h) k.val d := by
  unfold val_main_v48
  refine (between_apply (n := 256) (N := 260) rfl (val_main_v47 (F := Ideal)) (val_main_v46 (F := Ideal) pb) _
    (fun i => by rw [val_main_v47_apply, val_main_cst_2_apply]; exact Ideal.ofBits_zero_f32) b k (col h d)).trans ?_
  unfold padded
  split
  · rw [val_main_v46_apply, val_main_v1_apply, val_main_v0_apply]
    exact at3 (n0 := 4) (n1 := 2304) (n2 := 4096) pb _ _ _ _ rfl rfl rfl
  · rfl

theorem context_taps (r : Fin 256) : val_main_v82 (F := Ideal) pb cw (ix3 b r (col h d))
    = taps (fun k => weights cw h k d) (fun k => padded (contexts pb b h) (k.val + r.val) d) := by
  have hj : (128 * h.val + d.val) % 3072 = 128 * h.val + d.val := by omega
  have w0 : val_main_v53 (F := Ideal) cw (ix3 b r (col h d)) = weights cw h 0 d := by
    rw [val_main_v53_apply, val_main_v52_apply, val_main_v50_apply, val_main_v49_apply]
    exact at2 (n0 := 5) (n1 := 3072) cw _ _ _ rfl hj
  have v0 : val_main_v51 (F := Ideal) pb (ix3 b r (col h d)) = padded (contexts pb b h) (0 + r.val) d := by
    rw [val_main_v51_apply]
    exact (at3 (n0 := 4) (n1 := 260) (n2 := 3072) (val_main_v48 (F := Ideal) pb) _ b ⟨0 + r.val, by omega⟩ (col h d) rfl
      (by show r.val = 0 + r.val; omega) rfl).trans (context_padded pb b h d _)
  have w1 : val_main_v59 (F := Ideal) cw (ix3 b r (col h d)) = weights cw h 1 d := by
    rw [val_main_v59_apply, val_main_v58_apply, val_main_v56_apply, val_main_v55_apply]
    exact at2 (n0 := 5) (n1 := 3072) cw _ _ _ rfl hj
  have v1 : val_main_v57 (F := Ideal) pb (ix3 b r (col h d)) = padded (contexts pb b h) (1 + r.val) d := by
    rw [val_main_v57_apply]
    exact (at3 (n0 := 4) (n1 := 260) (n2 := 3072) (val_main_v48 (F := Ideal) pb) _ b ⟨1 + r.val, by omega⟩ (col h d) rfl
      rfl rfl).trans (context_padded pb b h d _)
  have w2 : val_main_v66 (F := Ideal) cw (ix3 b r (col h d)) = weights cw h 2 d := by
    rw [val_main_v66_apply, val_main_v65_apply, val_main_v63_apply, val_main_v62_apply]
    exact at2 (n0 := 5) (n1 := 3072) cw _ _ _ rfl hj
  have v2 : val_main_v64 (F := Ideal) pb (ix3 b r (col h d)) = padded (contexts pb b h) (2 + r.val) d := by
    rw [val_main_v64_apply]
    exact (at3 (n0 := 4) (n1 := 260) (n2 := 3072) (val_main_v48 (F := Ideal) pb) _ b ⟨2 + r.val, by omega⟩ (col h d) rfl
      rfl rfl).trans (context_padded pb b h d _)
  have w3 : val_main_v73 (F := Ideal) cw (ix3 b r (col h d)) = weights cw h 3 d := by
    rw [val_main_v73_apply, val_main_v72_apply, val_main_v70_apply, val_main_v69_apply]
    exact at2 (n0 := 5) (n1 := 3072) cw _ _ _ rfl hj
  have v3 : val_main_v71 (F := Ideal) pb (ix3 b r (col h d)) = padded (contexts pb b h) (3 + r.val) d := by
    rw [val_main_v71_apply]
    exact (at3 (n0 := 4) (n1 := 260) (n2 := 3072) (val_main_v48 (F := Ideal) pb) _ b ⟨3 + r.val, by omega⟩ (col h d) rfl
      rfl rfl).trans (context_padded pb b h d _)
  have w4 : val_main_v80 (F := Ideal) cw (ix3 b r (col h d)) = weights cw h 4 d := by
    rw [val_main_v80_apply, val_main_v79_apply, val_main_v77_apply, val_main_v76_apply]
    exact at2 (n0 := 5) (n1 := 3072) cw _ _ _ rfl hj
  have v4 : val_main_v78 (F := Ideal) pb (ix3 b r (col h d)) = padded (contexts pb b h) (4 + r.val) d := by
    rw [val_main_v78_apply]
    exact (at3 (n0 := 4) (n1 := 260) (n2 := 3072) (val_main_v48 (F := Ideal) pb) _ b ⟨4 + r.val, by omega⟩ (col h d) rfl
      rfl rfl).trans (context_padded pb b h d _)
  rw [val_main_v82_apply, val_main_v75_apply, val_main_v68_apply, val_main_v61_apply, val_main_v54_apply, val_main_v60_apply, val_main_v67_apply, val_main_v74_apply, val_main_v81_apply, w0, v0, w1, v1, w2, v2, w3, v3, w4, v4]
  rfl

theorem context_silu (r : Fin 256) : val_main_v89 (F := Ideal) pb cw (ix3 b r (col h d)) = convRow (contexts pb b h) (weights cw h) r d := by
  rw [val_main_v89_apply, val_main_v88_apply, val_main_v86_apply, val_main_v84_apply, val_main_v83_apply, val_main_v87_apply,
    val_main_v85_apply, val_main_cst_3_apply, val_main_cst_4_apply, context_taps]
  have eo : FloatOps.ofBits (F := Ideal) .f32 0x3F800000#32 = (1 : EReal) := Ideal.ofBits_one_f32
  rw [eo]
  rfl

/-- The convolved columns of a head at a position. -/
abbrev row (r : Fin 2304) (d : Fin 128) : EReal :=
  if hr : r.val < 2048 then convRow (latents pb b h) (weights cw h) ⟨r.val, hr⟩ d else convRow (contexts pb b h) (weights cw h) ⟨r.val - 2048, by omega⟩ d

theorem ref_joined (r : Fin 2304) : val_main_v90 (F := Ideal) pb cw (ix3 b r (col h d)) = row pb cw b h r d := by
  unfold val_main_v90 row
  by_cases hr : r.val < 2048
  · rw [dif_pos hr]
    refine (concatenate_apply_piece (t := S4x2304x3072) 1 [⟨S4x2048x3072, val_main_v45 (F := Ideal) pb cw⟩, ⟨S4x256x3072, val_main_v89 (F := Ideal) pb cw⟩]
      concatenates_S4x2048x3072_S4x256x3072_S4x2304x3072_d1 (ix3 b r (col h d)) 0 (by simp) S4x2048x3072 (val_main_v45 (F := Ideal) pb cw)
      rfl rfl 0 rfl (ix3 b ⟨r.val, hr⟩ (col h d)) (fun b hb => ?_) ?_).trans (latent_silu pb cw b h d ⟨r.val, hr⟩)
    · match b with
      | ⟨0, _⟩ => rfl
      | ⟨1, _⟩ => exact absurd rfl hb
      | ⟨2, _⟩ => rfl
    · show 0 + r.val = r.val; omega
  · rw [dif_neg hr]
    refine (concatenate_apply_piece (t := S4x2304x3072) 1 [⟨S4x2048x3072, val_main_v45 (F := Ideal) pb cw⟩, ⟨S4x256x3072, val_main_v89 (F := Ideal) pb cw⟩]
      concatenates_S4x2048x3072_S4x256x3072_S4x2304x3072_d1 (ix3 b r (col h d)) 1 (by simp) S4x256x3072 (val_main_v89 (F := Ideal) pb cw)
      rfl rfl 2048 rfl (ix3 b ⟨r.val - 2048, by omega⟩ (col h d)) (fun b hb => ?_) ?_).trans (context_silu pb cw b h d ⟨r.val - 2048, by omega⟩)
    · match b with
      | ⟨0, _⟩ => rfl
      | ⟨1, _⟩ => exact absurd rfl hb
      | ⟨2, _⟩ => rfl
    · show 2048 + (r.val - 2048) = r.val; omega

theorem ref_heads (r : Fin 2304) : val_main_v91 (F := Ideal) pb cw (ix4 b r h d) = row pb cw b h r d := by
  rw [val_main_v91_apply]
  refine (at3 (n0 := 4) (n1 := 2304) (n2 := 3072) (val_main_v90 (F := Ideal) pb cw) _ b r (col h d) ?_ ?_ ?_).trans (ref_joined pb cw b h d r)
  · show (((b.val * 2304 + r.val) * 24 + h.val) * 128 + d.val) / 7077888 = b.val; omega
  · show (((b.val * 2304 + r.val) * 24 + h.val) * 128 + d.val) / 3072 % 2304 = r.val; omega
  · show (((b.val * 2304 + r.val) * 24 + h.val) * 128 + d.val) % 3072 = 128 * h.val + d.val; omega

theorem ref_keys (r : Fin 2304) (k : Fin 16) : val_main_v92 (F := Ideal) pb cw (ix4 b r k d) = row pb cw b ⟨k.val, by omega⟩ r d := by
  rw [val_main_v92_apply]
  exact (at4 (n0 := 4) (n1 := 2304) (n2 := 24) (n3 := 128) (val_main_v91 (F := Ideal) pb cw) _ b r ⟨k.val, by omega⟩ d rfl rfl rfl rfl).trans
    (ref_heads pb cw b _ d r)

/-- The reciprocal norm of a head's keys at a position. -/
theorem ref_norm (r : Fin 2304) (k : Fin 16) (y : Fin 128 → EReal) (hy : ∀ e, val_main_v92 (F := Ideal) pb cw (ix4 b r k e) = y e) :
    val_main_v99 (F := Ideal) pb cw (ix4 b r k d) = Ideal.rsqrt ((∑ e, y e * y e) + Ideal.ofBits .f32 0x358637BD#32) := by
  rw [val_main_v99_apply, val_main_v98_apply, val_main_v97_apply, val_main_v95_apply, val_main_v96_apply, val_main_v94_apply,
    val_main_cst_5_apply, val_main_cst_6_apply]
  have e : FloatOps.ofBits (F := Ideal) .f32 0x00000000#32
      + ∑ e : Fin 128, val_main_v93 (F := Ideal) pb cw (idx_main_v94 (idx_main_v95 (idx_main_v99 (ix4 b r k d))) e) = ∑ e, y e * y e := by
    rw [show FloatOps.ofBits (F := Ideal) .f32 0x00000000#32 = (0 : EReal) from Ideal.ofBits_zero_f32, zero_add]
    refine Finset.sum_congr rfl fun e _ => ?_
    rw [val_main_v93_apply]
    have eo := (at4 (n0 := 4) (n1 := 2304) (n2 := 16) (n3 := 128) (val_main_v92 (F := Ideal) pb cw)
      (idx_main_v94 (idx_main_v95 (idx_main_v99 (ix4 b r k d))) e) b r k e rfl rfl rfl rfl).trans (hy e)
    rw [eo]
    rfl
  exact congrArg (fun s => Ideal.rsqrt (s + Ideal.ofBits .f32 0x358637BD#32)) e

theorem ref_normed (r : Fin 2304) (k : Fin 16) (y : Fin 128 → EReal) (hy : ∀ e, val_main_v92 (F := Ideal) pb cw (ix4 b r k e) = y e) :
    val_main_v100 (F := Ideal) pb cw (ix4 b r k d) = keyed True y d := by
  rw [val_main_v100_apply, ref_norm pb cw b d r k y hy, hy]
  unfold keyed
  rw [if_pos trivial]
  rfl

theorem ref_conv (r : Fin 2304) : val_main_v102 (F := Ideal) pb cw (ix4 b r h d) = conv pb cw b r h d := by
  have e : conv pb cw b r h d = keyed (h.val < 16) (row pb cw b h r) d := by
    unfold conv headConv
    split
    · refine keyed_congr Iff.rfl (fun d => ?_) d
      unfold row
      rw [dif_pos ‹_›]
    · refine keyed_congr Iff.rfl (fun d => ?_) d
      unfold row
      rw [dif_neg ‹_›]
  rw [e]
  unfold val_main_v102
  by_cases hk : h.val < 16
  · refine (concatenate_apply_piece (t := S4x2304x24x128) 2
      [⟨S4x2304x16x128, val_main_v100 (F := Ideal) pb cw⟩, ⟨S4x2304x8x128, val_main_v101 (F := Ideal) pb cw⟩]
      concatenates_S4x2304x16x128_S4x2304x8x128_S4x2304x24x128_d2 (ix4 b r h d) 0 (by simp) S4x2304x16x128 (val_main_v100 (F := Ideal) pb cw)
      rfl rfl 0 rfl (ix4 b r ⟨h.val, hk⟩ d) (fun b hb => ?_) ?_).trans ((ref_normed pb cw b d r ⟨h.val, hk⟩ _ (fun e => ref_keys pb cw b e r ⟨h.val, hk⟩)).trans
        (keyed_congr (iff_of_true trivial hk) (fun _ => rfl) d))
    · match b with
      | ⟨0, _⟩ => rfl
      | ⟨1, _⟩ => rfl
      | ⟨2, _⟩ => exact absurd rfl hb
      | ⟨3, _⟩ => rfl
    · show 0 + h.val = h.val; omega
  · refine (concatenate_apply_piece (t := S4x2304x24x128) 2
      [⟨S4x2304x16x128, val_main_v100 (F := Ideal) pb cw⟩, ⟨S4x2304x8x128, val_main_v101 (F := Ideal) pb cw⟩]
      concatenates_S4x2304x16x128_S4x2304x8x128_S4x2304x24x128_d2 (ix4 b r h d) 1 (by simp) S4x2304x8x128 (val_main_v101 (F := Ideal) pb cw)
      rfl rfl 16 rfl (ix4 b r ⟨h.val - 16, by omega⟩ d) (fun b hb => ?_) ?_).trans ?_
    · match b with
      | ⟨0, _⟩ => rfl
      | ⟨1, _⟩ => rfl
      | ⟨2, _⟩ => exact absurd rfl hb
      | ⟨3, _⟩ => rfl
    · show 16 + (h.val - 16) = h.val; omega
    · rw [val_main_v101_apply]
      unfold keyed
      rw [if_neg hk]
      refine (at4 (n0 := 4) (n1 := 2304) (n2 := 24) (n3 := 128) (val_main_v91 (F := Ideal) pb cw) _ b r h d rfl rfl ?_ rfl).trans
        (ref_heads pb cw b h d r)
      show 16 + (h.val - 16) = h.val; omega

theorem ref_eq : val_main_v104 (F := Ideal) pb cw = fun i => conv pb cw (i 0) (i 1)
    ⟨(i 2).val / 128, by have : (i 2).val < 3072 := (i 2).isLt; omega⟩ ⟨(i 2).val % 128, by omega⟩ := by
  funext i
  have h0 : (i 0).val < 4 := (i 0).isLt
  have h1 : (i 1).val < 2304 := (i 1).isLt
  have h2 : (i 2).val < 3072 := (i 2).isLt
  rw [val_main_v104_apply, val_main_v103_apply]
  refine (at4 (n0 := 4) (n1 := 2304) (n2 := 24) (n3 := 128) (val_main_v102 (F := Ideal) pb cw) _ (i 0) (i 1)
    ⟨(i 2).val / 128, by omega⟩ ⟨(i 2).val % 128, by omega⟩ ?_ ?_ ?_ ?_).trans (ref_conv pb cw _ _ _ _)
  · show (((i 0).val * 2304 + (i 1).val) * 3072 + (i 2).val) / 7077888 = (i 0).val; omega
  · show (((i 0).val * 2304 + (i 1).val) * 3072 + (i 2).val) / 3072 % 2304 = (i 1).val; omega
  · show (((i 0).val * 2304 + (i 1).val) * 3072 + (i 2).val) / 128 % 24 = (i 2).val / 128; omega
  · show (((i 0).val * 2304 + (i 1).val) * 3072 + (i 2).val) % 128 = (i 2).val % 128; omega

end Cert.ConvRefIdeal.Out
-- ==== Proof.lean ====
module

public import proofs.«01_k».proof.Defs
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.Time
public import proofs.«01_k».proof.Proof.Gen.Time.Skeleton
public import proofs.«01_k».proof.Proof.Gen.Time.Launch
public import proofs.«01_k».proof.Proof.Gen.Time.Points
public import proofs.«01_k».proof.Proof.Gen.Time.Frame
public import proofs.«01_k».proof.Proof.Gen.TimeIdeal
public import proofs.«01_k».proof.Proof.Gen.TimeIdeal.Skeleton
public import proofs.«01_k».proof.Proof.Gen.TimeIdeal.Launch
public import proofs.«01_k».proof.Proof.Gen.TimeIdeal.Points
public import proofs.«01_k».proof.Proof.Gen.TimeIdeal.Frame
public import proofs.«01_k».proof.Proof.Gen.TimeRefIdeal
public import proofs.«01_k».proof.Proof.Gen.LastIdeal.Value
public import proofs.«01_k».proof.Proof.Gen.TimeIdeal.Value
public import proofs.«01_k».proof.Proof.Gen.LastRefIdeal.Run
public import proofs.«01_k».proof.Proof.Gen.LastRefIdeal.Read
public import proofs.«01_k».proof.Proof.Gen.TimeRefIdeal.Run
public import proofs.«01_k».proof.Proof.Gen.TimeRefIdeal.Read
public import proofs.«01_k».proof.Proof.Gen.Close
public import proofs.«01_k».proof.Proof.Gen.Close.Skeleton
public import proofs.«01_k».proof.Proof.Gen.Close.Launch
public import proofs.«01_k».proof.Proof.Gen.Close.Points
public import proofs.«01_k».proof.Proof.Gen.Close.Frame
public import proofs.«01_k».proof.Proof.Gen.CloseIdeal
public import proofs.«01_k».proof.Proof.Gen.CloseIdeal.Skeleton
public import proofs.«01_k».proof.Proof.Gen.CloseIdeal.Launch
public import proofs.«01_k».proof.Proof.Gen.CloseIdeal.Points
public import proofs.«01_k».proof.Proof.Gen.CloseIdeal.Frame
public import proofs.«01_k».proof.Proof.Gen.CloseRefIdeal
public import proofs.«01_k».proof.Proof.Gen.CloseIdeal.Value
public import proofs.«01_k».proof.Proof.Gen.CloseRefIdeal.Run
public import proofs.«01_k».proof.Proof.Gen.CloseRefIdeal.Read
public import proofs.«01_k».proof.Proof.Gen.Open
public import proofs.«01_k».proof.Proof.Gen.Open.Skeleton
public import proofs.«01_k».proof.Proof.Gen.Open.Launch
public import proofs.«01_k».proof.Proof.Gen.Open.Points
public import proofs.«01_k».proof.Proof.Gen.Open.Frame
public import proofs.«01_k».proof.Proof.Gen.OpenIdeal
public import proofs.«01_k».proof.Proof.Gen.OpenIdeal.Skeleton
public import proofs.«01_k».proof.Proof.Gen.OpenIdeal.Launch
public import proofs.«01_k».proof.Proof.Gen.OpenIdeal.Points
public import proofs.«01_k».proof.Proof.Gen.OpenIdeal.Frame
public import proofs.«01_k».proof.Proof.Gen.OpenRefIdeal
public import proofs.«01_k».proof.Proof.Gen.OpenIdeal.Value
public import proofs.«01_k».proof.Proof.Gen.OpenRefIdeal.Run
public import proofs.«01_k».proof.Proof.Gen.OpenRefIdeal.Read
public import proofs.«01_k».proof.Proof.Gen.Enter
public import proofs.«01_k».proof.Proof.Gen.Enter.Skeleton
public import proofs.«01_k».proof.Proof.Gen.Enter.Launch
public import proofs.«01_k».proof.Proof.Gen.Enter.Points
public import proofs.«01_k».proof.Proof.Gen.Enter.Frame
public import proofs.«01_k».proof.Proof.Gen.EnterIdeal
public import proofs.«01_k».proof.Proof.Gen.EnterIdeal.Skeleton
public import proofs.«01_k».proof.Proof.Gen.EnterIdeal.Launch
public import proofs.«01_k».proof.Proof.Gen.EnterIdeal.Points
public import proofs.«01_k».proof.Proof.Gen.EnterIdeal.Frame
public import proofs.«01_k».proof.Proof.Gen.EnterRefIdeal
public import proofs.«01_k».proof.Proof.Gen.EnterIdeal.Value
public import proofs.«01_k».proof.Proof.Gen.EnterRefIdeal.Run
public import proofs.«01_k».proof.Proof.Gen.EnterRefIdeal.Read
public import proofs.«01_k».proof.Proof.Gen.Context
public import proofs.«01_k».proof.Proof.Gen.Context.Skeleton
public import proofs.«01_k».proof.Proof.Gen.Context.Launch
public import proofs.«01_k».proof.Proof.Gen.Context.Points
public import proofs.«01_k».proof.Proof.Gen.Context.Frame
public import proofs.«01_k».proof.Proof.Gen.ContextIdeal
public import proofs.«01_k».proof.Proof.Gen.ContextIdeal.Skeleton
public import proofs.«01_k».proof.Proof.Gen.ContextIdeal.Launch
public import proofs.«01_k».proof.Proof.Gen.ContextIdeal.Points
public import proofs.«01_k».proof.Proof.Gen.ContextIdeal.Frame
public import proofs.«01_k».proof.Proof.Gen.ContextRefIdeal
public import proofs.«01_k».proof.Proof.Gen.ContextIdeal.Value
public import proofs.«01_k».proof.Proof.Gen.ContextRefIdeal.Run
public import proofs.«01_k».proof.Proof.Gen.ContextRefIdeal.Read
public import proofs.«01_k».proof.Proof.Gen.InA
public import proofs.«01_k».proof.Proof.Gen.InA.Skeleton
public import proofs.«01_k».proof.Proof.Gen.InA.Launch
public import proofs.«01_k».proof.Proof.Gen.InA.Points
public import proofs.«01_k».proof.Proof.Gen.InA.Frame
public import proofs.«01_k».proof.Proof.Gen.InAIdeal
public import proofs.«01_k».proof.Proof.Gen.InAIdeal.Skeleton
public import proofs.«01_k».proof.Proof.Gen.InAIdeal.Launch
public import proofs.«01_k».proof.Proof.Gen.InAIdeal.Points
public import proofs.«01_k».proof.Proof.Gen.InAIdeal.Frame
public import proofs.«01_k».proof.Proof.Gen.InARefIdeal
public import proofs.«01_k».proof.Proof.Gen.InAIdeal.Value
public import proofs.«01_k».proof.Proof.Gen.InARefIdeal.Run
public import proofs.«01_k».proof.Proof.Gen.InARefIdeal.Read
public import proofs.«01_k».proof.Proof.Gen.InB
public import proofs.«01_k».proof.Proof.Gen.InB.Skeleton
public import proofs.«01_k».proof.Proof.Gen.InB.Launch
public import proofs.«01_k».proof.Proof.Gen.InB.Points
public import proofs.«01_k».proof.Proof.Gen.InB.Frame
public import proofs.«01_k».proof.Proof.Gen.InBIdeal
public import proofs.«01_k».proof.Proof.Gen.InBIdeal.Skeleton
public import proofs.«01_k».proof.Proof.Gen.InBIdeal.Launch
public import proofs.«01_k».proof.Proof.Gen.InBIdeal.Points
public import proofs.«01_k».proof.Proof.Gen.InBIdeal.Frame
public import proofs.«01_k».proof.Proof.Gen.InBRefIdeal
public import proofs.«01_k».proof.Proof.Gen.InBIdeal.Value
public import proofs.«01_k».proof.Proof.Gen.InBRefIdeal.Run
public import proofs.«01_k».proof.Proof.Gen.InBRefIdeal.Read
public import proofs.«01_k».proof.Proof.Gen.FourierOut
public import proofs.«01_k».proof.Proof.Gen.FourierOut.Skeleton
public import proofs.«01_k».proof.Proof.Gen.FourierOut.Launch
public import proofs.«01_k».proof.Proof.Gen.FourierOut.Points
public import proofs.«01_k».proof.Proof.Gen.FourierOut.Frame
public import proofs.«01_k».proof.Proof.Gen.FourierOutIdeal
public import proofs.«01_k».proof.Proof.Gen.FourierOutIdeal.Skeleton
public import proofs.«01_k».proof.Proof.Gen.FourierOutIdeal.Launch
public import proofs.«01_k».proof.Proof.Gen.FourierOutIdeal.Points
public import proofs.«01_k».proof.Proof.Gen.FourierOutIdeal.Frame
public import proofs.«01_k».proof.Proof.Gen.FourierOutRefIdeal
public import proofs.«01_k».proof.Proof.Gen.FourierOutIdeal.Value
public import proofs.«01_k».proof.Proof.Gen.FourierOutRefIdeal.Run
public import proofs.«01_k».proof.Proof.Gen.FourierOutRefIdeal.Read
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationRefIdeal
public import proofs.«01_k».proof.Proof.Gen.ModulationIdeal.Value
public import proofs.«01_k».proof.Proof.Gen.ModulationRefIdeal.Run
public import proofs.«01_k».proof.Proof.Gen.ModulationRefIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutRefIdeal
public import proofs.«01_k».proof.Proof.Gen.MixOutIdeal.Value
public import proofs.«01_k».proof.Proof.Gen.MixOutRefIdeal.Run
public import proofs.«01_k».proof.Proof.Gen.MixOutRefIdeal.Read
public import proofs.«01_k».proof.Proof.Gen.Channels
public import proofs.«01_k».proof.Proof.Gen.Channels.Skeleton
public import proofs.«01_k».proof.Proof.Gen.Channels.Launch
public import proofs.«01_k».proof.Proof.Gen.Channels.Points
public import proofs.«01_k».proof.Proof.Gen.Channels.Frame
public import proofs.«01_k».proof.Proof.Gen.ChannelsIdeal
public import proofs.«01_k».proof.Proof.Gen.ChannelsIdeal.Skeleton
public import proofs.«01_k».proof.Proof.Gen.ChannelsIdeal.Launch
public import proofs.«01_k».proof.Proof.Gen.ChannelsIdeal.Points
public import proofs.«01_k».proof.Proof.Gen.ChannelsIdeal.Frame
public import proofs.«01_k».proof.Proof.Gen.ChannelsRefIdeal
public import proofs.«01_k».proof.Proof.Gen.ChannelsIdeal.Value
public import proofs.«01_k».proof.Proof.Gen.ChannelsRefIdeal.Run
public import proofs.«01_k».proof.Proof.Gen.ChannelsRefIdeal.Read
public import proofs.«01_k».proof.Proof.Gen.Prenorm
public import proofs.«01_k».proof.Proof.Gen.Prenorm.Skeleton
public import proofs.«01_k».proof.Proof.Gen.Prenorm.Launch
public import proofs.«01_k».proof.Proof.Gen.Prenorm.Points
public import proofs.«01_k».proof.Proof.Gen.Prenorm.Frame
public import proofs.«01_k».proof.Proof.Gen.PrenormIdeal
public import proofs.«01_k».proof.Proof.Gen.PrenormIdeal.Skeleton
public import proofs.«01_k».proof.Proof.Gen.PrenormIdeal.Launch
public import proofs.«01_k».proof.Proof.Gen.PrenormIdeal.Points
public import proofs.«01_k».proof.Proof.Gen.PrenormIdeal.Frame
public import proofs.«01_k».proof.Proof.Gen.PrenormRefIdeal
public import proofs.«01_k».proof.Proof.Gen.PrenormIdeal.Value
public import proofs.«01_k».proof.Proof.Gen.PrenormRefIdeal.Run
public import proofs.«01_k».proof.Proof.Gen.PrenormRefIdeal.Read
public import proofs.«01_k».proof.Proof.TimeValue
public import proofs.«01_k».proof.Proof.LastRef
public import proofs.«01_k».proof.Proof.LayerRef
public import proofs.«01_k».proof.Proof.CloseValue
public import proofs.«01_k».proof.Proof.OpenValue
public import proofs.«01_k».proof.Proof.EnterValue
public import proofs.«01_k».proof.Proof.ContextRef
public import proofs.«01_k».proof.Proof.InAValue
public import proofs.«01_k».proof.Proof.InBValue
public import proofs.«01_k».proof.Proof.FourierOutValue
public import proofs.«01_k».proof.Proof.ModulationValue
public import proofs.«01_k».proof.Proof.MixOutValue
public import proofs.«01_k».proof.Proof.ChannelsValue
public import proofs.«01_k».proof.Proof.PrenormValue
public import Idealize.ShloMosaic.Lib.Quiescent
public import Idealize.ShloMosaic.Adequacy
public import Idealize.ShloMosaic.Init
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.RopeIdeal.Value
public import proofs.«01_k».proof.Proof.Gen.RopeRefIdeal.Run
public import proofs.«01_k».proof.Proof.Gen.RopeRefIdeal.Read
public import proofs.«01_k».proof.Proof.RopeValue
public import proofs.«01_k».proof.Proof.RopeRef
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvIdeal.Value
public import proofs.«01_k».proof.Proof.Gen.ConvRefIdeal.Run
public import proofs.«01_k».proof.Proof.Gen.ConvRefIdeal.Read
public import proofs.«01_k».proof.Proof.ConvValue
public import proofs.«01_k».proof.Proof.ConvRef

@[expose] public section

noncomputable section

namespace Cert.Proof

open Idealize.ShloMosaic Idealize.SL.Sem

/-- The reference of the last sublayer writes no argument and declares no semaphore. -/
theorem frame_LastRef : Cert.quiescent_LastRefIdeal := fun m ρ _ =>
  (θ_run Cert.LastRefIdeal.defs _ _).mono (fun r h => ⟨fun c => (h c).2, sem_eq_zero_of_no_sems (by decide) r.2⟩)
    (Cert.LastRefIdeal.Value.run (F := Ideal) m ρ)

/-- The reference of the mixing over positions writes no argument and declares no semaphore. -/
theorem frame_TimeRef : Cert.quiescent_TimeRefIdeal := fun m ρ _ =>
  (θ_run Cert.TimeRefIdeal.defs _ _).mono (fun r h => ⟨fun c => (h c).2, sem_eq_zero_of_no_sems (by decide) r.2⟩)
    (Cert.TimeRefIdeal.Value.run (F := Ideal) m ρ)

/-- The last sublayer: kernel and reference both end at `Cert.LastIdeal.Sweep.last` of their arguments. -/
theorem algebraic_Last : Cert.algebraic_LastIdeal_LastRefIdeal := by
  intro m ρ m' ρ' _ hagree
  refine ⟨fun c => Cert.LastIdeal.Sweep.G m c, ?_, ?_⟩
  · exact (θ_run Cert.LastIdeal.defs _ _).mono (fun _ h c => ⟨((h c).1).trans (Cert.LastIdeal.Sweep.final m c), (h c).2⟩)
      (Cert.LastIdeal.Value.run_blocks m ρ)
  · refine (θ_run Cert.LastRefIdeal.defs _ _).mono (fun _ h c => ⟨(h c).1.trans ?_, (h c).2⟩)
      (Cert.LastRefIdeal.Value.run (F := Ideal) m' ρ')
    obtain ⟨h0, h1, h2, h3, h4, h5⟩ := hagree c
    rw [Cert.LastRefIdeal.Read.val_main_v60_eq, Cert.LastRefIdeal.Sub.ref_eq, h0, h1, h2, h3, h4, h5]

/-- The mixing over positions: kernel and reference both end at `Cert.TimeIdeal.Mix.mix` of their arguments. -/
theorem algebraic_Time : Cert.algebraic_TimeIdeal_TimeRefIdeal := by
  intro m ρ m' ρ' _ hagree
  refine ⟨fun c => Cert.TimeIdeal.Mix.G m c, ?_, ?_⟩
  · exact (θ_run Cert.TimeIdeal.defs _ _).mono (fun _ h c => ⟨((h c).1).trans (Cert.TimeIdeal.Mix.final m c), (h c).2⟩)
      (Cert.TimeIdeal.Value.run_blocks m ρ)
  · refine (θ_run Cert.TimeRefIdeal.defs _ _).mono (fun _ h c => ⟨(h c).1.trans ?_, (h c).2⟩)
      (Cert.TimeRefIdeal.Value.run (F := Ideal) m' ρ')
    obtain ⟨h0, h1, h2⟩ := hagree c
    refine (Cert.TimeRefIdeal.Read.val_main_v10_eq _ _ _).trans ?_
    rw [Cert.TimeIdeal.Mix.ref_eq, h0, h1, h2]

/-- The reference of the sublayer that closes the first layer writes no argument and declares no semaphore. -/
theorem frame_CloseRef : Cert.quiescent_CloseRefIdeal := fun m ρ _ =>
  (θ_run Cert.CloseRefIdeal.defs _ _).mono (fun r h => ⟨fun c => (h c).2.2.2, sem_eq_zero_of_no_sems (by decide) r.2⟩)
    (Cert.CloseRefIdeal.Value.run (F := Ideal) m ρ)

/-- The reference of the sublayer that opens the second layer writes no argument and declares no semaphore. -/
theorem frame_OpenRef : Cert.quiescent_OpenRefIdeal := fun m ρ _ =>
  (θ_run Cert.OpenRefIdeal.defs _ _).mono (fun r h => ⟨fun c => (h c).2.2.2, sem_eq_zero_of_no_sems (by decide) r.2⟩)
    (Cert.OpenRefIdeal.Value.run (F := Ideal) m ρ)

/-- The reference of the sublayer that enters the model writes no argument and declares no semaphore. -/
theorem frame_EnterRef : Cert.quiescent_EnterRefIdeal := fun m ρ _ =>
  (θ_run Cert.EnterRefIdeal.defs _ _).mono (fun r h => ⟨fun c => (h c).2.2.2.2, sem_eq_zero_of_no_sems (by decide) r.2⟩)
    (Cert.EnterRefIdeal.Value.run (F := Ideal) m ρ)

/-- The reference of the sublayer on the context writes no argument and declares no semaphore. -/
theorem frame_ContextRef : Cert.quiescent_ContextRefIdeal := fun m ρ _ =>
  (θ_run Cert.ContextRefIdeal.defs _ _).mono (fun r h => ⟨fun c => (h c).2, sem_eq_zero_of_no_sems (by decide) r.2⟩)
    (Cert.ContextRefIdeal.Value.run (F := Ideal) m ρ)

/-- The sublayer that closes the first layer: kernel and reference end at the sublayer on every row and at the next sublayer's weights. -/
theorem algebraic_Close : Cert.algebraic_CloseIdeal_CloseRefIdeal := by
  intro m ρ m' ρ' _ hagree
  refine ⟨fun c => Cert.CloseIdeal.Sweep.G m c, fun c => Cert.CloseIdeal.Sweep.GUp m c, fun c => Cert.CloseIdeal.Sweep.GDown m c, ?_, ?_⟩
  · exact (θ_run Cert.CloseIdeal.defs _ _).mono (fun _ h c => ⟨(h c).1.trans (Cert.CloseIdeal.Sweep.final m c), (h c).2.1.trans (Cert.CloseIdeal.Sweep.final_up m c), (h c).2.2.1.trans (Cert.CloseIdeal.Sweep.final_down m c), (h c).2.2.2⟩)
      (Cert.CloseIdeal.Value.run_blocks m ρ)
  · refine (θ_run Cert.CloseRefIdeal.defs _ _).mono (fun _ h c => ⟨(h c).1.trans ?_, (h c).2.1.trans ?_, (h c).2.2.1.trans ?_, (h c).2.2.2⟩)
      (Cert.CloseRefIdeal.Value.run (F := Ideal) m' ρ')
    all_goals obtain ⟨h0, h1, h2, h3, h4, h5, h6⟩ := hagree c
    · rw [Cert.CloseRefIdeal.Read.val_main_v47_eq, Cert.LayerRef.close_eq, h0, h1, h2, h3, h4]
    · exact (Cert.LayerRef.close_up _).trans (by rw [h5])
    · exact (Cert.LayerRef.close_down _).trans (by rw [h6])

/-- The sublayer that opens the second layer: kernel and reference end at the sublayer on every row and at the next sublayer's weights. -/
theorem algebraic_Open : Cert.algebraic_OpenIdeal_OpenRefIdeal := by
  intro m ρ m' ρ' _ hagree
  refine ⟨fun c => Cert.OpenIdeal.Sweep.G m c, fun c => Cert.OpenIdeal.Sweep.GUp m c, fun c => Cert.OpenIdeal.Sweep.GDown m c, ?_, ?_⟩
  · exact (θ_run Cert.OpenIdeal.defs _ _).mono (fun _ h c => ⟨(h c).1.trans (Cert.OpenIdeal.Sweep.final m c), (h c).2.1.trans (Cert.OpenIdeal.Sweep.final_up m c), (h c).2.2.1.trans (Cert.OpenIdeal.Sweep.final_down m c), (h c).2.2.2⟩)
      (Cert.OpenIdeal.Value.run_blocks m ρ)
  · refine (θ_run Cert.OpenRefIdeal.defs _ _).mono (fun _ h c => ⟨(h c).1.trans ?_, (h c).2.1.trans ?_, (h c).2.2.1.trans ?_, (h c).2.2.2⟩)
      (Cert.OpenRefIdeal.Value.run (F := Ideal) m' ρ')
    all_goals obtain ⟨h0, h1, h2, h3, h4, h5, h6⟩ := hagree c
    · rw [Cert.OpenRefIdeal.Read.val_main_v47_eq, Cert.LayerRef.open_eq, h0, h1, h2, h3, h4]
    · exact (Cert.LayerRef.open_up _).trans (by rw [h5])
    · exact (Cert.LayerRef.open_down _).trans (by rw [h6])

/-- The sublayer that enters the model: the same, and the modulation of the second layer. -/
theorem algebraic_Enter : Cert.algebraic_EnterIdeal_EnterRefIdeal := by
  intro m ρ m' ρ' _ hagree
  refine ⟨fun c => Cert.EnterIdeal.Sweep.G m c, fun c => Cert.EnterIdeal.Sweep.GUp m c, fun c => Cert.EnterIdeal.Sweep.GDown m c, fun c => Cert.EnterIdeal.Sweep.GMod m c, ?_, ?_⟩
  · exact (θ_run Cert.EnterIdeal.defs _ _).mono (fun _ h c => ⟨(h c).1.trans (Cert.EnterIdeal.Sweep.final m c), (h c).2.1.trans (Cert.EnterIdeal.Sweep.final_up m c), (h c).2.2.1.trans (Cert.EnterIdeal.Sweep.final_down m c), (h c).2.2.2.1.trans (Cert.EnterIdeal.Sweep.final_mod m c), (h c).2.2.2.2⟩)
      (Cert.EnterIdeal.Value.run_blocks m ρ)
  · refine (θ_run Cert.EnterRefIdeal.defs _ _).mono (fun _ h c => ⟨(h c).1.trans ?_, (h c).2.1.trans ?_, (h c).2.2.1.trans ?_, (h c).2.2.2.1.trans ?_, (h c).2.2.2.2⟩)
      (Cert.EnterRefIdeal.Value.run (F := Ideal) m' ρ')
    all_goals obtain ⟨h0, h1, h2, h3, h4, h5, h6, h7, h8, h9⟩ := hagree c
    · rw [Cert.EnterRefIdeal.Read.val_main_v47_eq, Cert.LayerRef.enter_eq, h0, h1, h2, h3, h4]
    · exact (Cert.LayerRef.enter_up _).trans (by rw [h5])
    · exact (Cert.LayerRef.enter_down _).trans (by rw [h6])
    · exact (Cert.LayerRef.enter_mod _ _ _).trans (by rw [h7, h8, h9])

/-- The sublayer on the context: kernel and reference end at the sublayer on every row. -/
theorem algebraic_Context : Cert.algebraic_ContextIdeal_ContextRefIdeal := by
  intro m ρ m' ρ' _ hagree
  refine ⟨fun c => Cert.ContextIdeal.Sweep.G m c, ?_, ?_⟩
  · exact (θ_run Cert.ContextIdeal.defs _ _).mono (fun _ h c => ⟨(h c).1.trans (Cert.ContextIdeal.Sweep.final m c), (h c).2⟩)
      (Cert.ContextIdeal.Value.run_blocks m ρ)
  · refine (θ_run Cert.ContextRefIdeal.defs _ _).mono (fun _ h c => ⟨(h c).1.trans ?_, (h c).2⟩)
      (Cert.ContextRefIdeal.Value.run (F := Ideal) m' ρ')
    all_goals obtain ⟨h0, h1, h2, h3, h4⟩ := hagree c
    · rw [Cert.ContextRefIdeal.Read.val_main_v47_eq, Cert.ContextRefIdeal.Sub.ref_eq, h0, h1, h2, h3, h4]

/-- The reference of the first part of the input projection writes no argument and declares no semaphore. -/
theorem frame_InARef : Cert.quiescent_InARefIdeal := fun m ρ _ =>
  (θ_run Cert.InARefIdeal.defs _ _).mono (fun r h => ⟨fun c => (h c).2, sem_eq_zero_of_no_sems (by decide) r.2⟩)
    (Cert.InARefIdeal.Value.run (F := Ideal) m ρ)

/-- The first part of the input projection: kernel and reference end at the projection of every token. -/
theorem algebraic_InA : Cert.algebraic_InAIdeal_InARefIdeal := by
  intro m ρ m' ρ' _ hagree
  refine ⟨fun c => Cert.InAIdeal.Proj.G m c, ?_, ?_⟩
  · exact (θ_run Cert.InAIdeal.defs _ _).mono (fun _ h c => ⟨(h c).1.trans (Cert.InAIdeal.Proj.final m c), (h c).2⟩)
      (Cert.InAIdeal.Value.run_blocks m ρ)
  · refine (θ_run Cert.InARefIdeal.defs _ _).mono (fun _ h c => ⟨(h c).1.trans ?_, (h c).2⟩)
      (Cert.InARefIdeal.Value.run (F := Ideal) m' ρ')
    all_goals obtain ⟨h0, h1⟩ := hagree c
    exact (Cert.InARefIdeal.Read.val_main_v4_eq _ _).trans (by rw [Cert.InAIdeal.Proj.ref_eq, h0, h1]; rfl)

/-- The reference of the second part of the input projection writes no argument and declares no semaphore. -/
theorem frame_InBRef : Cert.quiescent_InBRefIdeal := fun m ρ _ =>
  (θ_run Cert.InBRefIdeal.defs _ _).mono (fun r h => ⟨fun c => (h c).2.2, sem_eq_zero_of_no_sems (by decide) r.2⟩)
    (Cert.InBRefIdeal.Value.run (F := Ideal) m ρ)

/-- The second part of the input projection: kernel and reference end at the attention's columns and the padded gates. -/
theorem algebraic_InB : Cert.algebraic_InBIdeal_InBRefIdeal := by
  intro m ρ m' ρ' _ hagree
  refine ⟨fun c => Cert.InBIdeal.Proj.G m c, fun c => Cert.InBIdeal.Proj.GGate m c, ?_, ?_⟩
  · exact (θ_run Cert.InBIdeal.defs _ _).mono (fun _ h c => ⟨(h c).1.trans (Cert.InBIdeal.Proj.final m c), (h c).2.1.trans (Cert.InBIdeal.Proj.final_gate m c), (h c).2.2⟩)
      (Cert.InBIdeal.Value.run_blocks m ρ)
  · refine (θ_run Cert.InBRefIdeal.defs _ _).mono (fun _ h c => ⟨(h c).1.trans ?_, (h c).2.1.trans ?_, (h c).2.2⟩)
      (Cert.InBRefIdeal.Value.run (F := Ideal) m' ρ')
    all_goals obtain ⟨h0, h1⟩ := hagree c
    · exact (Cert.InBRefIdeal.Read.val_main_v6_eq _ _).trans (by rw [Cert.InBIdeal.Proj.ref_attn, h0, h1])
    · exact (Cert.InBRefIdeal.Read.val_main_v4_eq _ _).trans (by rw [Cert.InBIdeal.Proj.ref_gate, h0, h1])

/-- The reference of the Fourier mixer's output projection writes no argument and declares no semaphore. -/
theorem frame_FourierOutRef : Cert.quiescent_FourierOutRefIdeal := fun m ρ _ =>
  (θ_run Cert.FourierOutRefIdeal.defs _ _).mono (fun r h => ⟨fun c => (h c).2, sem_eq_zero_of_no_sems (by decide) r.2⟩)
    (Cert.FourierOutRefIdeal.Value.run (F := Ideal) m ρ)

/-- The Fourier mixer's output projection: kernel and reference end at the residual plus the gated projection. -/
theorem algebraic_FourierOut : Cert.algebraic_FourierOutIdeal_FourierOutRefIdeal := by
  intro m ρ m' ρ' _ hagree
  refine ⟨fun c => Cert.FourierOutIdeal.Mix.G m c, ?_, ?_⟩
  · exact (θ_run Cert.FourierOutIdeal.defs _ _).mono (fun _ h c => ⟨(h c).1.trans (Cert.FourierOutIdeal.Mix.final m c), (h c).2⟩)
      (Cert.FourierOutIdeal.Value.run_blocks m ρ)
  · refine (θ_run Cert.FourierOutRefIdeal.defs _ _).mono (fun _ h c => ⟨(h c).1.trans ?_, (h c).2⟩)
      (Cert.FourierOutRefIdeal.Value.run (F := Ideal) m' ρ')
    all_goals obtain ⟨h0, h1, h2, h3⟩ := hagree c
    exact (Cert.FourierOutRefIdeal.Read.val_main_v7_eq _ _ _ _).trans (by rw [Cert.FourierOutIdeal.Mix.ref_eq, h0, h1, h2, h3]; rfl)

/-- The reference of the first layer's modulation writes no argument and declares no semaphore. -/
theorem frame_ModulationRef : Cert.quiescent_ModulationRefIdeal := fun m ρ _ =>
  (θ_run Cert.ModulationRefIdeal.defs _ _).mono (fun r h => ⟨fun c => (h c).2, sem_eq_zero_of_no_sems (by decide) r.2⟩)
    (Cert.ModulationRefIdeal.Value.run (F := Ideal) m ρ)

/-- The first layer's modulation: kernel and reference end at the nine rows of the modulation. -/
theorem algebraic_Modulation : Cert.algebraic_ModulationIdeal_ModulationRefIdeal := by
  intro m ρ m' ρ' _ hagree
  refine ⟨fun c => Cert.ModulationIdeal.Rows.G m c, ?_, ?_⟩
  · exact (θ_run Cert.ModulationIdeal.defs _ _).mono (fun _ h c => ⟨(h c).1.trans (Cert.ModulationIdeal.Rows.final m c), (h c).2⟩)
      (Cert.ModulationIdeal.Value.run_blocks m ρ)
  · refine (θ_run Cert.ModulationRefIdeal.defs _ _).mono (fun _ h c => ⟨(h c).1.trans ?_, (h c).2⟩)
      (Cert.ModulationRefIdeal.Value.run (F := Ideal) m' ρ')
    all_goals obtain ⟨h0, h1, h2⟩ := hagree c
    exact (Cert.ModulationRefIdeal.Read.val_main_v15_eq _ _ _).trans (by rw [Cert.ModulationIdeal.Rows.ref_eq, h0, h1, h2]; rfl)

/-- The reference of the mixer's output projection writes no argument and declares no semaphore. -/
theorem frame_MixOutRef : Cert.quiescent_MixOutRefIdeal := fun m ρ _ =>
  (θ_run Cert.MixOutRefIdeal.defs _ _).mono (fun r h => ⟨fun c => (h c).2, sem_eq_zero_of_no_sems (by decide) r.2⟩)
    (Cert.MixOutRefIdeal.Value.run (F := Ideal) m ρ)

/-- The mixer's output projection: kernel and reference end at the residual plus the gated projection. -/
theorem algebraic_MixOut : Cert.algebraic_MixOutIdeal_MixOutRefIdeal := by
  intro m ρ m' ρ' _ hagree
  refine ⟨fun c => Cert.MixOutIdeal.Out.G m c, ?_, ?_⟩
  · exact (θ_run Cert.MixOutIdeal.defs _ _).mono (fun _ h c => ⟨(h c).1.trans (Cert.MixOutIdeal.Out.final m c), (h c).2⟩)
      (Cert.MixOutIdeal.Value.run_blocks m ρ)
  · refine (θ_run Cert.MixOutRefIdeal.defs _ _).mono (fun _ h c => ⟨(h c).1.trans ?_, (h c).2⟩)
      (Cert.MixOutRefIdeal.Value.run (F := Ideal) m' ρ')
    all_goals obtain ⟨h0, h1, h2, h3, h4, h5, h6, h7⟩ := hagree c
    exact (Cert.MixOutRefIdeal.Read.val_main_v36_eq _ _ _ _ _ _ _ _).trans (by rw [Cert.MixOutIdeal.Out.ref_eq, h0, h1, h2, h3, h4, h5, h6, h7]; rfl)

/-- The reference of the Fourier mixing over channels writes no argument and declares no semaphore. -/
theorem frame_ChannelsRef : Cert.quiescent_ChannelsRefIdeal := fun m ρ _ =>
  (θ_run Cert.ChannelsRefIdeal.defs _ _).mono (fun r h => ⟨fun c => (h c).2.2, sem_eq_zero_of_no_sems (by decide) r.2⟩)
    (Cert.ChannelsRefIdeal.Value.run (F := Ideal) m ρ)

/-- The Fourier mixing over channels: kernel and reference end at the two products with the table. -/
theorem algebraic_Channels : Cert.algebraic_ChannelsIdeal_ChannelsRefIdeal := by
  intro m ρ m' ρ' _ hagree
  refine ⟨fun c => Cert.ChannelsIdeal.Dft.GCos m c, fun c => Cert.ChannelsIdeal.Dft.GSin m c, ?_, ?_⟩
  · exact (θ_run Cert.ChannelsIdeal.defs _ _).mono (fun _ h c => ⟨(h c).1.trans (Cert.ChannelsIdeal.Dft.final_cos m c), (h c).2.1.trans (Cert.ChannelsIdeal.Dft.final_sin m c), (h c).2.2⟩)
      (Cert.ChannelsIdeal.Value.run_blocks m ρ)
  · refine (θ_run Cert.ChannelsRefIdeal.defs _ _).mono (fun _ h c => ⟨(h c).1.trans ?_, (h c).2.1.trans ?_, (h c).2.2⟩)
      (Cert.ChannelsRefIdeal.Value.run (F := Ideal) m' ρ')
    all_goals obtain ⟨h0, h1, h2, h3⟩ := hagree c
    · exact (Cert.ChannelsRefIdeal.Read.val_main_v33_eq _ _ _ _).trans (by rw [Cert.ChannelsIdeal.Dft.ref_cos, h0, h1, h2, h3]; rfl)
    · exact (Cert.ChannelsRefIdeal.Read.val_main_v34_eq _ _ _ _).trans (by rw [Cert.ChannelsIdeal.Dft.ref_sin, h0, h1, h2, h3]; rfl)

/-- The reference of the delta rule's prenorm writes no argument and declares no semaphore. -/
theorem frame_PrenormRef : Cert.quiescent_PrenormRefIdeal := fun m ρ _ =>
  (θ_run Cert.PrenormRefIdeal.defs _ _).mono (fun r h => ⟨fun c => (h c).2, sem_eq_zero_of_no_sems (by decide) r.2⟩)
    (Cert.PrenormRefIdeal.Value.run (F := Ideal) m ρ)

/-- The delta rule's prenorm: kernel and reference end at the modulated norms of the latent and context rows. -/
theorem algebraic_Prenorm : Cert.algebraic_PrenormIdeal_PrenormRefIdeal := by
  intro m ρ m' ρ' _ hagree
  refine ⟨fun c => Cert.PrenormIdeal.Norm.G m c, ?_, ?_⟩
  · exact (θ_run Cert.PrenormIdeal.defs _ _).mono (fun _ h c => ⟨(h c).1.trans (Cert.PrenormIdeal.Norm.final m c), (h c).2⟩)
      (Cert.PrenormIdeal.Value.run_blocks m ρ)
  · refine (θ_run Cert.PrenormRefIdeal.defs _ _).mono (fun _ h c => ⟨(h c).1.trans ?_, (h c).2⟩)
      (Cert.PrenormRefIdeal.Value.run (F := Ideal) m' ρ')
    all_goals obtain ⟨h0, h1, h2, h3⟩ := hagree c
    exact (Cert.PrenormRefIdeal.Read.val_main_v51_eq _ _ _ _).trans (by rw [Cert.PrenormIdeal.Norm.ref_eq, h0, h1, h2, h3]; rfl)

/-- The reference of the rotary norm writes no argument and declares no semaphore. -/
theorem frame_RopeRef : Cert.quiescent_RopeRefIdeal := fun m ρ _ =>
  (θ_run Cert.RopeRefIdeal.defs _ _).mono (fun r h => ⟨fun c => (h c).2, sem_eq_zero_of_no_sems (by decide) r.2⟩)
    (Cert.RopeRefIdeal.Value.run (F := Ideal) m ρ)

/-- The rotary norm: kernel and reference end at the normed heads, those of the latent rows turned by their positions' angles. -/
theorem algebraic_Rope : Cert.algebraic_RopeIdeal_RopeRefIdeal := by
  intro m ρ m' ρ' _ hagree
  refine ⟨fun c => Cert.RopeIdeal.Out.G m c, ?_, ?_⟩
  · exact (θ_run Cert.RopeIdeal.defs _ _).mono (fun _ h c => ⟨(h c).1.trans (Cert.RopeIdeal.Out.final m c), (h c).2⟩)
      (Cert.RopeIdeal.Value.run_blocks m ρ)
  · refine (θ_run Cert.RopeRefIdeal.defs _ _).mono (fun _ h c => ⟨(h c).1.trans ?_, (h c).2⟩)
      (Cert.RopeRefIdeal.Value.run (F := Ideal) m' ρ')
    all_goals obtain ⟨h0, h1, h2, h3, h4, h5, h6⟩ := hagree c
    exact (Cert.RopeRefIdeal.Read.val_main_v79_eq _ _).trans (by rw [Cert.RopeRefIdeal.Out.ref_eq, h0, h1, h2, h3, h4, h5, h6]; rfl)

/-- The reference of the short convolution writes no argument and declares no semaphore. -/
theorem frame_ConvRef : Cert.quiescent_ConvRefIdeal := fun m ρ _ =>
  (θ_run Cert.ConvRefIdeal.defs _ _).mono (fun r h => ⟨fun c => (h c).2, sem_eq_zero_of_no_sems (by decide) r.2⟩)
    (Cert.ConvRefIdeal.Value.run (F := Ideal) m ρ)

/-- The short convolution: kernel and reference end at the five taps' activation, the queries' and the keys' heads normed. -/
theorem algebraic_Conv : Cert.algebraic_ConvIdeal_ConvRefIdeal := by
  intro m ρ m' ρ' _ hagree
  refine ⟨fun c => Cert.ConvIdeal.Out.G m c, ?_, ?_⟩
  · exact (θ_run Cert.ConvIdeal.defs _ _).mono (fun _ h c => ⟨(h c).1.trans (Cert.ConvIdeal.Out.final m c), (h c).2⟩)
      (Cert.ConvIdeal.Value.run_blocks m ρ)
  · refine (θ_run Cert.ConvRefIdeal.defs _ _).mono (fun _ h c => ⟨(h c).1.trans ?_, (h c).2⟩)
      (Cert.ConvRefIdeal.Value.run (F := Ideal) m' ρ')
    all_goals obtain ⟨h0, h1⟩ := hagree c
    exact (Cert.ConvRefIdeal.Read.val_main_v104_eq _ _).trans (by rw [Cert.ConvRefIdeal.Out.ref_eq, h0, h1]; rfl)

theorem claim : Cert.Claim :=
  ⟨Cert.Last.Gen.facts, Cert.LastIdeal.Gen.facts, Cert.LastRefIdeal.Gen.facts,
    Cert.Time.Gen.facts, Cert.TimeIdeal.Gen.facts, Cert.TimeRefIdeal.Gen.facts,
    Cert.Close.Gen.facts, Cert.CloseIdeal.Gen.facts, Cert.CloseRefIdeal.Gen.facts,
    Cert.Open.Gen.facts, Cert.OpenIdeal.Gen.facts, Cert.OpenRefIdeal.Gen.facts,
    Cert.Enter.Gen.facts, Cert.EnterIdeal.Gen.facts, Cert.EnterRefIdeal.Gen.facts,
    Cert.Context.Gen.facts, Cert.ContextIdeal.Gen.facts, Cert.ContextRefIdeal.Gen.facts,
    Cert.InA.Gen.facts, Cert.InAIdeal.Gen.facts, Cert.InARefIdeal.Gen.facts,
    Cert.InB.Gen.facts, Cert.InBIdeal.Gen.facts, Cert.InBRefIdeal.Gen.facts,
    Cert.FourierOut.Gen.facts, Cert.FourierOutIdeal.Gen.facts, Cert.FourierOutRefIdeal.Gen.facts,
    Cert.Modulation.Gen.facts, Cert.ModulationIdeal.Gen.facts, Cert.ModulationRefIdeal.Gen.facts,
    Cert.MixOut.Gen.facts, Cert.MixOutIdeal.Gen.facts, Cert.MixOutRefIdeal.Gen.facts,
    Cert.Channels.Gen.facts, Cert.ChannelsIdeal.Gen.facts, Cert.ChannelsRefIdeal.Gen.facts,
    Cert.Prenorm.Gen.facts, Cert.PrenormIdeal.Gen.facts, Cert.PrenormRefIdeal.Gen.facts,
    Cert.Rope.Gen.facts, Cert.RopeIdeal.Gen.facts, Cert.RopeRefIdeal.Gen.facts,
    Cert.Conv.Gen.facts, Cert.ConvIdeal.Gen.facts, Cert.ConvRefIdeal.Gen.facts,
    fun m ρ _ => Cert.Last.Gen.frame m ρ, fun m ρ _ => Cert.LastIdeal.Gen.frame m ρ, frame_LastRef,
    fun m ρ _ => Cert.Time.Gen.frame m ρ, fun m ρ _ => Cert.TimeIdeal.Gen.frame m ρ, frame_TimeRef,
    fun m ρ _ => Cert.Close.Gen.frame m ρ, fun m ρ _ => Cert.CloseIdeal.Gen.frame m ρ, frame_CloseRef,
    fun m ρ _ => Cert.Open.Gen.frame m ρ, fun m ρ _ => Cert.OpenIdeal.Gen.frame m ρ, frame_OpenRef,
    fun m ρ _ => Cert.Enter.Gen.frame m ρ, fun m ρ _ => Cert.EnterIdeal.Gen.frame m ρ, frame_EnterRef,
    fun m ρ _ => Cert.Context.Gen.frame m ρ, fun m ρ _ => Cert.ContextIdeal.Gen.frame m ρ, frame_ContextRef,
    fun m ρ _ => Cert.InA.Gen.frame m ρ, fun m ρ _ => Cert.InAIdeal.Gen.frame m ρ, frame_InARef,
    fun m ρ _ => Cert.InB.Gen.frame m ρ, fun m ρ _ => Cert.InBIdeal.Gen.frame m ρ, frame_InBRef,
    fun m ρ _ => Cert.FourierOut.Gen.frame m ρ, fun m ρ _ => Cert.FourierOutIdeal.Gen.frame m ρ, frame_FourierOutRef,
    fun m ρ _ => Cert.Modulation.Gen.frame m ρ, fun m ρ _ => Cert.ModulationIdeal.Gen.frame m ρ, frame_ModulationRef,
    fun m ρ _ => Cert.MixOut.Gen.frame m ρ, fun m ρ _ => Cert.MixOutIdeal.Gen.frame m ρ, frame_MixOutRef,
    fun m ρ _ => Cert.Channels.Gen.frame m ρ, fun m ρ _ => Cert.ChannelsIdeal.Gen.frame m ρ, frame_ChannelsRef,
    fun m ρ _ => Cert.Prenorm.Gen.frame m ρ, fun m ρ _ => Cert.PrenormIdeal.Gen.frame m ρ, frame_PrenormRef,
    fun m ρ _ => Cert.Rope.Gen.frame m ρ, fun m ρ _ => Cert.RopeIdeal.Gen.frame m ρ, frame_RopeRef,
    fun m ρ _ => Cert.Conv.Gen.frame m ρ, fun m ρ _ => Cert.ConvIdeal.Gen.frame m ρ, frame_ConvRef,
    trivial, algebraic_Last, trivial, algebraic_Time, trivial, algebraic_Close, trivial, algebraic_Open, trivial, algebraic_Enter, trivial, algebraic_Context,
    trivial, algebraic_InA, trivial, algebraic_InB, trivial, algebraic_FourierOut, trivial, algebraic_Modulation, trivial, algebraic_MixOut, trivial, algebraic_Channels, trivial, algebraic_Prenorm, trivial, algebraic_Rope,
    trivial, algebraic_Conv⟩

end Cert.Proof

end
